-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp2Dx (m : (ℓ : Loc Cert.Mlp2Dx.nD Cert.Mlp2Dx.τ Cert.Mlp2Dx.sig) → Buf (Elt Bits) ℓ) : Prop :=
  True

def Pre_Mlp2DxIdeal (m : (ℓ : Loc Cert.Mlp2DxIdeal.nD Cert.Mlp2DxIdeal.τ Cert.Mlp2DxIdeal.sig) → Buf (Elt Ideal) ℓ) : Prop :=
  True

def Pre_Mlp2DxRefIdeal (m : (ℓ : Loc Cert.Mlp2DxRefIdeal.nD Cert.Mlp2DxRefIdeal.τ Cert.Mlp2DxRefIdeal.sig) → Buf (Elt Ideal) ℓ) : Prop :=
  True

def Pre_Mlp2Dw (m : (ℓ : Loc Cert.Mlp2Dw.nD Cert.Mlp2Dw.τ Cert.Mlp2Dw.sig) → Buf (Elt Bits) ℓ) : Prop :=
  True

def Pre_Mlp2DwIdeal (m : (ℓ : Loc Cert.Mlp2DwIdeal.nD Cert.Mlp2DwIdeal.τ Cert.Mlp2DwIdeal.sig) → Buf (Elt Ideal) ℓ) : Prop :=
  True

def Pre_Mlp2DwRefIdeal (m : (ℓ : Loc Cert.Mlp2DwRefIdeal.nD Cert.Mlp2DwRefIdeal.τ Cert.Mlp2DwRefIdeal.sig) → Buf (Elt Ideal) ℓ) : Prop :=
  True

def Pre_Mlp1Dw (m : (ℓ : Loc Cert.Mlp1Dw.nD Cert.Mlp1Dw.τ Cert.Mlp1Dw.sig) → Buf (Elt Bits) ℓ) : Prop :=
  True

def Pre_Mlp1DwIdeal (m : (ℓ : Loc Cert.Mlp1DwIdeal.nD Cert.Mlp1DwIdeal.τ Cert.Mlp1DwIdeal.sig) → Buf (Elt Ideal) ℓ) : Prop :=
  True

def Pre_Mlp1DwRefIdeal (m : (ℓ : Loc Cert.Mlp1DwRefIdeal.nD Cert.Mlp1DwRefIdeal.τ Cert.Mlp1DwRefIdeal.sig) → Buf (Elt Ideal) ℓ) : Prop :=
  True

def Pre_Mlp1Dx (m : (ℓ : Loc Cert.Mlp1Dx.nD Cert.Mlp1Dx.τ Cert.Mlp1Dx.sig) → Buf (Elt Bits) ℓ) : Prop :=
  True

def Pre_Mlp1DxIdeal (m : (ℓ : Loc Cert.Mlp1DxIdeal.nD Cert.Mlp1DxIdeal.τ Cert.Mlp1DxIdeal.sig) → Buf (Elt Ideal) ℓ) : Prop :=
  True

def Pre_Mlp1DxRefIdeal (m : (ℓ : Loc Cert.Mlp1DxRefIdeal.nD Cert.Mlp1DxRefIdeal.τ Cert.Mlp1DxRefIdeal.sig) → Buf (Elt Ideal) ℓ) : Prop :=
  True

def Pre_ProjOutDx (m : (ℓ : Loc Cert.ProjOutDx.nD Cert.ProjOutDx.τ Cert.ProjOutDx.sig) → Buf (Elt Bits) ℓ) : Prop :=
  True

def Pre_ProjOutDxIdeal (m : (ℓ : Loc Cert.ProjOutDxIdeal.nD Cert.ProjOutDxIdeal.τ Cert.ProjOutDxIdeal.sig) → Buf (Elt Ideal) ℓ) : Prop :=
  True

def Pre_ProjOutDxRefIdeal (m : (ℓ : Loc Cert.ProjOutDxRefIdeal.nD Cert.ProjOutDxRefIdeal.τ Cert.ProjOutDxRefIdeal.sig) → Buf (Elt Ideal) ℓ) : Prop :=
  True

def Pre_ProjOutDw (m : (ℓ : Loc Cert.ProjOutDw.nD Cert.ProjOutDw.τ Cert.ProjOutDw.sig) → Buf (Elt Bits) ℓ) : Prop :=
  True

def Pre_ProjOutDwIdeal (m : (ℓ : Loc Cert.ProjOutDwIdeal.nD Cert.ProjOutDwIdeal.τ Cert.ProjOutDwIdeal.sig) → Buf (Elt Ideal) ℓ) : Prop :=
  True

def Pre_ProjOutDwRefIdeal (m : (ℓ : Loc Cert.ProjOutDwRefIdeal.nD Cert.ProjOutDwRefIdeal.τ Cert.ProjOutDwRefIdeal.sig) → Buf (Elt Ideal) ℓ) : Prop :=
  True

def Pre_ProjInDw (m : (ℓ : Loc Cert.ProjInDw.nD Cert.ProjInDw.τ Cert.ProjInDw.sig) → Buf (Elt Bits) ℓ) : Prop :=
  True

def Pre_ProjInDwIdeal (m : (ℓ : Loc Cert.ProjInDwIdeal.nD Cert.ProjInDwIdeal.τ Cert.ProjInDwIdeal.sig) → Buf (Elt Ideal) ℓ) : Prop :=
  True

def Pre_ProjInDwRefIdeal (m : (ℓ : Loc Cert.ProjInDwRefIdeal.nD Cert.ProjInDwRefIdeal.τ Cert.ProjInDwRefIdeal.sig) → Buf (Elt Ideal) ℓ) : Prop :=
  True

def Pre_ProjInDx (m : (ℓ : Loc Cert.ProjInDx.nD Cert.ProjInDx.τ Cert.ProjInDx.sig) → Buf (Elt Bits) ℓ) : Prop :=
  True

def Pre_ProjInDxIdeal (m : (ℓ : Loc Cert.ProjInDxIdeal.nD Cert.ProjInDxIdeal.τ Cert.ProjInDxIdeal.sig) → Buf (Elt Ideal) ℓ) : Prop :=
  True

def Pre_ProjInDxRefIdeal (m : (ℓ : Loc Cert.ProjInDxRefIdeal.nD Cert.ProjInDxRefIdeal.τ Cert.ProjInDxRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2RefIdeal (m : (ℓ : Loc Cert.Mlp2RefIdeal.nD Cert.Mlp2RefIdeal.τ Cert.Mlp2RefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdRefIdeal (m : (ℓ : Loc Cert.LnBwdRefIdeal.nD Cert.LnBwdRefIdeal.τ Cert.LnBwdRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_conv [hPre_finite_conv : Cert.Pre_finite_conv.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))) = (fun _ => 1#1)

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_AdaDb (m : (ℓ : Loc Cert.AdaDb.nD Cert.AdaDb.τ Cert.AdaDb.sig) → Buf (Elt Bits) ℓ) : Prop :=
  True

def Pre_AdaDbIdeal (m : (ℓ : Loc Cert.AdaDbIdeal.nD Cert.AdaDbIdeal.τ Cert.AdaDbIdeal.sig) → Buf (Elt Ideal) ℓ) : Prop :=
  True

def Pre_AdaDbRefIdeal (m : (ℓ : Loc Cert.AdaDbRefIdeal.nD Cert.AdaDbRefIdeal.τ Cert.AdaDbRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamMlp (m : (ℓ : Loc Cert.AdamMlp.nD Cert.AdamMlp.τ Cert.AdamMlp.sig) → Buf (Elt Bits) ℓ) : Prop :=
  True

def Pre_AdamMlpIdeal (m : (ℓ : Loc Cert.AdamMlpIdeal.nD Cert.AdamMlpIdeal.τ Cert.AdamMlpIdeal.sig) → Buf (Elt Ideal) ℓ) : Prop :=
  True

def Pre_AdamMlpRefIdeal (m : (ℓ : Loc Cert.AdamMlpRefIdeal.nD Cert.AdamMlpRefIdeal.τ Cert.AdamMlpRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamMlpTop (m : (ℓ : Loc Cert.AdamMlpTop.nD Cert.AdamMlpTop.τ Cert.AdamMlpTop.sig) → Buf (Elt Bits) ℓ) : Prop :=
  True

def Pre_AdamMlpTopIdeal (m : (ℓ : Loc Cert.AdamMlpTopIdeal.nD Cert.AdamMlpTopIdeal.τ Cert.AdamMlpTopIdeal.sig) → Buf (Elt Ideal) ℓ) : Prop :=
  True

def Pre_AdamMlpTopRefIdeal (m : (ℓ : Loc Cert.AdamMlpTopRefIdeal.nD Cert.AdamMlpTopRefIdeal.τ Cert.AdamMlpTopRefIdeal.sig) → Buf (Elt Ideal) ℓ) : Prop :=
  True

def Pre_AdamOutTop (m : (ℓ : Loc Cert.AdamOutTop.nD Cert.AdamOutTop.τ Cert.AdamOutTop.sig) → Buf (Elt Bits) ℓ) : Prop :=
  True

def Pre_AdamOutTopIdeal (m : (ℓ : Loc Cert.AdamOutTopIdeal.nD Cert.AdamOutTopIdeal.τ Cert.AdamOutTopIdeal.sig) → Buf (Elt Ideal) ℓ) : Prop :=
  True

def Pre_AdamOutTopRefIdeal (m : (ℓ : Loc Cert.AdamOutTopRefIdeal.nD Cert.AdamOutTopRefIdeal.τ Cert.AdamOutTopRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mlp2Dx [hMlp2Dx : Cert.Mlp2Dx.Facts] : Prop :=
  ∀ (m : (ℓ : Loc Cert.Mlp2Dx.nD Cert.Mlp2Dx.τ Cert.Mlp2Dx.sig) → Buf (Elt Bits) ℓ) (g : Dev Cert.Mlp2Dx.nD → PrngReg), Pre_Mlp2Dx m →
    θ_run (Cert.Mlp2Dx.defs (F := Bits)) (onTc (τ := Cert.Mlp2Dx.τ) (Cert.Mlp2Dx.main (F := Bits))) ⟨m, fun _ => 0, g⟩ (fun r => (∀ c : Dev Cert.Mlp2Dx.nD,
      r.2.mem ((c.tc : Thread Cert.Mlp2Dx.nD Cert.Mlp2Dx.τ).loc Cert.Mlp2Dx.main_arg0) = m ((c.tc : Thread Cert.Mlp2Dx.nD Cert.Mlp2Dx.τ).loc Cert.Mlp2Dx.main_arg0)
      ∧ r.2.mem ((c.tc : Thread Cert.Mlp2Dx.nD Cert.Mlp2Dx.τ).loc Cert.Mlp2Dx.main_arg1) = m ((c.tc : Thread Cert.Mlp2Dx.nD Cert.Mlp2Dx.τ).loc Cert.Mlp2Dx.main_arg1)
      ∧ r.2.mem ((c.tc : Thread Cert.Mlp2Dx.nD Cert.Mlp2Dx.τ).loc Cert.Mlp2Dx.main_arg2) = m ((c.tc : Thread Cert.Mlp2Dx.nD Cert.Mlp2Dx.τ).loc Cert.Mlp2Dx.main_arg2)
      ∧ r.2.mem ((c.tc : Thread Cert.Mlp2Dx.nD Cert.Mlp2Dx.τ).loc Cert.Mlp2Dx.main_arg3) = m ((c.tc : Thread Cert.Mlp2Dx.nD Cert.Mlp2Dx.τ).loc Cert.Mlp2Dx.main_arg3))
      ∧ r.2.sem = fun _ => 0)

def quiescent_Mlp2DxIdeal [hMlp2DxIdeal : Cert.Mlp2DxIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg), Pre_Mlp2DxIdeal m →
    θ_run (Cert.Mlp2DxIdeal.defs (F := Ideal)) (onTc (τ := Cert.Mlp2DxIdeal.τ) (Cert.Mlp2DxIdeal.main (F := Ideal))) ⟨m, fun _ => 0, g⟩ (fun r => (∀ c : Dev Cert.Mlp2DxIdeal.nD,
      r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
      ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
      ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2)
      ∧ r.2.mem ((c.tc : Thread Cert.Mlp2DxIdeal.nD Cert.Mlp2DxIdeal.τ).loc Cert.Mlp2DxIdeal.main_arg3) = m ((c.tc : Thread Cert.Mlp2DxIdeal.nD Cert.Mlp2DxIdeal.τ).loc Cert.Mlp2DxIdeal.main_arg3))
      ∧ r.2.sem = fun _ => 0)

def quiescent_Mlp2DxRefIdeal [hMlp2DxRefIdeal : Cert.Mlp2DxRefIdeal.Facts] : Prop :=
  ∀ (m : (ℓ : Loc Cert.Mlp2DxRefIdeal.nD Cert.Mlp2DxRefIdeal.τ Cert.Mlp2DxRefIdeal.sig) → Buf (Elt Ideal) ℓ) (g : Dev Cert.Mlp2DxRefIdeal.nD → PrngReg), Pre_Mlp2DxRefIdeal m →
    θ_run (Cert.Mlp2DxRefIdeal.defs (F := Ideal)) (onTc (τ := Cert.Mlp2DxRefIdeal.τ) (Cert.Mlp2DxRefIdeal.main (F := Ideal))) ⟨m, fun _ => 0, g⟩ (fun r => (∀ c : Dev Cert.Mlp2DxRefIdeal.nD,
      r.2.mem ((c.tc : Thread Cert.Mlp2DxRefIdeal.nD Cert.Mlp2DxRefIdeal.τ).loc Cert.Mlp2DxRefIdeal.main_arg0) = m ((c.tc : Thread Cert.Mlp2DxRefIdeal.nD Cert.Mlp2DxRefIdeal.τ).loc Cert.Mlp2DxRefIdeal.main_arg0)
      ∧ r.2.mem ((c.tc : Thread Cert.Mlp2DxRefIdeal.nD Cert.Mlp2DxRefIdeal.τ).loc Cert.Mlp2DxRefIdeal.main_arg1) = m ((c.tc : Thread Cert.Mlp2DxRefIdeal.nD Cert.Mlp2DxRefIdeal.τ).loc Cert.Mlp2DxRefIdeal.main_arg1)
      ∧ r.2.mem ((c.tc : Thread Cert.Mlp2DxRefIdeal.nD Cert.Mlp2DxRefIdeal.τ).loc Cert.Mlp2DxRefIdeal.main_arg2) = m ((c.tc : Thread Cert.Mlp2DxRefIdeal.nD Cert.Mlp2DxRefIdeal.τ).loc Cert.Mlp2DxRefIdeal.main_arg2)
      ∧ r.2.mem ((c.tc : Thread Cert.Mlp2DxRefIdeal.nD Cert.Mlp2DxRefIdeal.τ).loc Cert.Mlp2DxRefIdeal.main_arg3) = m ((c.tc : Thread Cert.Mlp2DxRefIdeal.nD Cert.Mlp2DxRefIdeal.τ).loc Cert.Mlp2DxRefIdeal.main_arg3))
      ∧ r.2.sem = fun _ => 0)

def quiescent_Mlp2Dw [hMlp2Dw : Cert.Mlp2Dw.Facts] : Prop :=
  ∀ (m : (ℓ : Loc Cert.Mlp2Dw.nD Cert.Mlp2Dw.τ Cert.Mlp2Dw.sig) → Buf (Elt Bits) ℓ) (g : Dev Cert.Mlp2Dw.nD → PrngReg), Pre_Mlp2Dw m →
    θ_run (Cert.Mlp2Dw.defs (F := Bits)) (onTc (τ := Cert.Mlp2Dw.τ) (Cert.Mlp2Dw.main (F := Bits))) ⟨m, fun _ => 0, g⟩ (fun r => (∀ c : Dev Cert.Mlp2Dw.nD,
      r.2.mem ((c.tc : Thread Cert.Mlp2Dw.nD Cert.Mlp2Dw.τ).loc Cert.Mlp2Dw.main_arg0) = m ((c.tc : Thread Cert.Mlp2Dw.nD Cert.Mlp2Dw.τ).loc Cert.Mlp2Dw.main_arg0)
      ∧ r.2.mem ((c.tc : Thread Cert.Mlp2Dw.nD Cert.Mlp2Dw.τ).loc Cert.Mlp2Dw.main_arg1) = m ((c.tc : Thread Cert.Mlp2Dw.nD Cert.Mlp2Dw.τ).loc Cert.Mlp2Dw.main_arg1)
      ∧ r.2.mem ((c.tc : Thread Cert.Mlp2Dw.nD Cert.Mlp2Dw.τ).loc Cert.Mlp2Dw.main_arg2) = m ((c.tc : Thread Cert.Mlp2Dw.nD Cert.Mlp2Dw.τ).loc Cert.Mlp2Dw.main_arg2)
      ∧ r.2.mem ((c.tc : Thread Cert.Mlp2Dw.nD Cert.Mlp2Dw.τ).loc Cert.Mlp2Dw.main_arg3) = m ((c.tc : Thread Cert.Mlp2Dw.nD Cert.Mlp2Dw.τ).loc Cert.Mlp2Dw.main_arg3))
      ∧ r.2.sem = fun _ => 0)

def quiescent_Mlp2DwIdeal [hMlp2DwIdeal : Cert.Mlp2DwIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg), Pre_Mlp2DwIdeal m →
    θ_run (Cert.Mlp2DwIdeal.defs (F := Ideal)) (onTc (τ := Cert.Mlp2DwIdeal.τ) (Cert.Mlp2DwIdeal.main (F := Ideal))) ⟨m, fun _ => 0, g⟩ (fun r => (∀ c : Dev Cert.Mlp2DwIdeal.nD,
      r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
      ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1)
      ∧ r.2.mem ((c.tc : Thread Cert.Mlp2DwIdeal.nD Cert.Mlp2DwIdeal.τ).loc Cert.Mlp2DwIdeal.main_arg2) = m ((c.tc : Thread Cert.Mlp2DwIdeal.nD Cert.Mlp2DwIdeal.τ).loc Cert.Mlp2DwIdeal.main_arg2)
      ∧ r.2.mem ((c.tc : Thread Cert.Mlp2DwIdeal.nD Cert.Mlp2DwIdeal.τ).loc Cert.Mlp2DwIdeal.main_arg3) = m ((c.tc : Thread Cert.Mlp2DwIdeal.nD Cert.Mlp2DwIdeal.τ).loc Cert.Mlp2DwIdeal.main_arg3))
      ∧ r.2.sem = fun _ => 0)

def quiescent_Mlp2DwRefIdeal [hMlp2DwRefIdeal : Cert.Mlp2DwRefIdeal.Facts] : Prop :=
  ∀ (m : (ℓ : Loc Cert.Mlp2DwRefIdeal.nD Cert.Mlp2DwRefIdeal.τ Cert.Mlp2DwRefIdeal.sig) → Buf (Elt Ideal) ℓ) (g : Dev Cert.Mlp2DwRefIdeal.nD → PrngReg), Pre_Mlp2DwRefIdeal m →
    θ_run (Cert.Mlp2DwRefIdeal.defs (F := Ideal)) (onTc (τ := Cert.Mlp2DwRefIdeal.τ) (Cert.Mlp2DwRefIdeal.main (F := Ideal))) ⟨m, fun _ => 0, g⟩ (fun r => (∀ c : Dev Cert.Mlp2DwRefIdeal.nD,
      r.2.mem ((c.tc : Thread Cert.Mlp2DwRefIdeal.nD Cert.Mlp2DwRefIdeal.τ).loc Cert.Mlp2DwRefIdeal.main_arg0) = m ((c.tc : Thread Cert.Mlp2DwRefIdeal.nD Cert.Mlp2DwRefIdeal.τ).loc Cert.Mlp2DwRefIdeal.main_arg0)
      ∧ r.2.mem ((c.tc : Thread Cert.Mlp2DwRefIdeal.nD Cert.Mlp2DwRefIdeal.τ).loc Cert.Mlp2DwRefIdeal.main_arg1) = m ((c.tc : Thread Cert.Mlp2DwRefIdeal.nD Cert.Mlp2DwRefIdeal.τ).loc Cert.Mlp2DwRefIdeal.main_arg1)
      ∧ r.2.mem ((c.tc : Thread Cert.Mlp2DwRefIdeal.nD Cert.Mlp2DwRefIdeal.τ).loc Cert.Mlp2DwRefIdeal.main_arg2) = m ((c.tc : Thread Cert.Mlp2DwRefIdeal.nD Cert.Mlp2DwRefIdeal.τ).loc Cert.Mlp2DwRefIdeal.main_arg2)
      ∧ r.2.mem ((c.tc : Thread Cert.Mlp2DwRefIdeal.nD Cert.Mlp2DwRefIdeal.τ).loc Cert.Mlp2DwRefIdeal.main_arg3) = m ((c.tc : Thread Cert.Mlp2DwRefIdeal.nD Cert.Mlp2DwRefIdeal.τ).loc Cert.Mlp2DwRefIdeal.main_arg3))
      ∧ r.2.sem = fun _ => 0)

def quiescent_Mlp1Dw [hMlp1Dw : Cert.Mlp1Dw.Facts] : Prop :=
  ∀ (m : (ℓ : Loc Cert.Mlp1Dw.nD Cert.Mlp1Dw.τ Cert.Mlp1Dw.sig) → Buf (Elt Bits) ℓ) (g : Dev Cert.Mlp1Dw.nD → PrngReg), Pre_Mlp1Dw m →
    θ_run (Cert.Mlp1Dw.defs (F := Bits)) (onTc (τ := Cert.Mlp1Dw.τ) (Cert.Mlp1Dw.main (F := Bits))) ⟨m, fun _ => 0, g⟩ (fun r => (∀ c : Dev Cert.Mlp1Dw.nD,
      r.2.mem ((c.tc : Thread Cert.Mlp1Dw.nD Cert.Mlp1Dw.τ).loc Cert.Mlp1Dw.main_arg0) = m ((c.tc : Thread Cert.Mlp1Dw.nD Cert.Mlp1Dw.τ).loc Cert.Mlp1Dw.main_arg0)
      ∧ r.2.mem ((c.tc : Thread Cert.Mlp1Dw.nD Cert.Mlp1Dw.τ).loc Cert.Mlp1Dw.main_arg1) = m ((c.tc : Thread Cert.Mlp1Dw.nD Cert.Mlp1Dw.τ).loc Cert.Mlp1Dw.main_arg1)
      ∧ r.2.mem ((c.tc : Thread Cert.Mlp1Dw.nD Cert.Mlp1Dw.τ).loc Cert.Mlp1Dw.main_arg2) = m ((c.tc : Thread Cert.Mlp1Dw.nD Cert.Mlp1Dw.τ).loc Cert.Mlp1Dw.main_arg2))
      ∧ r.2.sem = fun _ => 0)

def quiescent_Mlp1DwIdeal [hMlp1DwIdeal : Cert.Mlp1DwIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg), Pre_Mlp1DwIdeal m →
    θ_run (Cert.Mlp1DwIdeal.defs (F := Ideal)) (onTc (τ := Cert.Mlp1DwIdeal.τ) (Cert.Mlp1DwIdeal.main (F := Ideal))) ⟨m, fun _ => 0, g⟩ (fun r => (∀ c : Dev Cert.Mlp1DwIdeal.nD,
      r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
      ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1)
      ∧ r.2.mem ((c.tc : Thread Cert.Mlp1DwIdeal.nD Cert.Mlp1DwIdeal.τ).loc Cert.Mlp1DwIdeal.main_arg2) = m ((c.tc : Thread Cert.Mlp1DwIdeal.nD Cert.Mlp1DwIdeal.τ).loc Cert.Mlp1DwIdeal.main_arg2))
      ∧ r.2.sem = fun _ => 0)

def quiescent_Mlp1DwRefIdeal [hMlp1DwRefIdeal : Cert.Mlp1DwRefIdeal.Facts] : Prop :=
  ∀ (m : (ℓ : Loc Cert.Mlp1DwRefIdeal.nD Cert.Mlp1DwRefIdeal.τ Cert.Mlp1DwRefIdeal.sig) → Buf (Elt Ideal) ℓ) (g : Dev Cert.Mlp1DwRefIdeal.nD → PrngReg), Pre_Mlp1DwRefIdeal m →
    θ_run (Cert.Mlp1DwRefIdeal.defs (F := Ideal)) (onTc (τ := Cert.Mlp1DwRefIdeal.τ) (Cert.Mlp1DwRefIdeal.main (F := Ideal))) ⟨m, fun _ => 0, g⟩ (fun r => (∀ c : Dev Cert.Mlp1DwRefIdeal.nD,
      r.2.mem ((c.tc : Thread Cert.Mlp1DwRefIdeal.nD Cert.Mlp1DwRefIdeal.τ).loc Cert.Mlp1DwRefIdeal.main_arg0) = m ((c.tc : Thread Cert.Mlp1DwRefIdeal.nD Cert.Mlp1DwRefIdeal.τ).loc Cert.Mlp1DwRefIdeal.main_arg0)
      ∧ r.2.mem ((c.tc : Thread Cert.Mlp1DwRefIdeal.nD Cert.Mlp1DwRefIdeal.τ).loc Cert.Mlp1DwRefIdeal.main_arg1) = m ((c.tc : Thread Cert.Mlp1DwRefIdeal.nD Cert.Mlp1DwRefIdeal.τ).loc Cert.Mlp1DwRefIdeal.main_arg1)
      ∧ r.2.mem ((c.tc : Thread Cert.Mlp1DwRefIdeal.nD Cert.Mlp1DwRefIdeal.τ).loc Cert.Mlp1DwRefIdeal.main_arg2) = m ((c.tc : Thread Cert.Mlp1DwRefIdeal.nD Cert.Mlp1DwRefIdeal.τ).loc Cert.Mlp1DwRefIdeal.main_arg2))
      ∧ r.2.sem = fun _ => 0)

def quiescent_Mlp1Dx [hMlp1Dx : Cert.Mlp1Dx.Facts] : Prop :=
  ∀ (m : (ℓ : Loc Cert.Mlp1Dx.nD Cert.Mlp1Dx.τ Cert.Mlp1Dx.sig) → Buf (Elt Bits) ℓ) (g : Dev Cert.Mlp1Dx.nD → PrngReg), Pre_Mlp1Dx m →
    θ_run (Cert.Mlp1Dx.defs (F := Bits)) (onTc (τ := Cert.Mlp1Dx.τ) (Cert.Mlp1Dx.main (F := Bits))) ⟨m, fun _ => 0, g⟩ (fun r => (∀ c : Dev Cert.Mlp1Dx.nD,
      r.2.mem ((c.tc : Thread Cert.Mlp1Dx.nD Cert.Mlp1Dx.τ).loc Cert.Mlp1Dx.main_arg0) = m ((c.tc : Thread Cert.Mlp1Dx.nD Cert.Mlp1Dx.τ).loc Cert.Mlp1Dx.main_arg0)
      ∧ r.2.mem ((c.tc : Thread Cert.Mlp1Dx.nD Cert.Mlp1Dx.τ).loc Cert.Mlp1Dx.main_arg1) = m ((c.tc : Thread Cert.Mlp1Dx.nD Cert.Mlp1Dx.τ).loc Cert.Mlp1Dx.main_arg1)
      ∧ r.2.mem ((c.tc : Thread Cert.Mlp1Dx.nD Cert.Mlp1Dx.τ).loc Cert.Mlp1Dx.main_arg2) = m ((c.tc : Thread Cert.Mlp1Dx.nD Cert.Mlp1Dx.τ).loc Cert.Mlp1Dx.main_arg2))
      ∧ r.2.sem = fun _ => 0)

def quiescent_Mlp1DxIdeal [hMlp1DxIdeal : Cert.Mlp1DxIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg), Pre_Mlp1DxIdeal m →
    θ_run (Cert.Mlp1DxIdeal.defs (F := Ideal)) (onTc (τ := Cert.Mlp1DxIdeal.τ) (Cert.Mlp1DxIdeal.main (F := Ideal))) ⟨m, fun _ => 0, g⟩ (fun r => (∀ c : Dev Cert.Mlp1DxIdeal.nD,
      r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
      ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1)
      ∧ r.2.mem ((c.tc : Thread Cert.Mlp1DxIdeal.nD Cert.Mlp1DxIdeal.τ).loc Cert.Mlp1DxIdeal.main_arg2) = m ((c.tc : Thread Cert.Mlp1DxIdeal.nD Cert.Mlp1DxIdeal.τ).loc Cert.Mlp1DxIdeal.main_arg2))
      ∧ r.2.sem = fun _ => 0)

def quiescent_Mlp1DxRefIdeal [hMlp1DxRefIdeal : Cert.Mlp1DxRefIdeal.Facts] : Prop :=
  ∀ (m : (ℓ : Loc Cert.Mlp1DxRefIdeal.nD Cert.Mlp1DxRefIdeal.τ Cert.Mlp1DxRefIdeal.sig) → Buf (Elt Ideal) ℓ) (g : Dev Cert.Mlp1DxRefIdeal.nD → PrngReg), Pre_Mlp1DxRefIdeal m →
    θ_run (Cert.Mlp1DxRefIdeal.defs (F := Ideal)) (onTc (τ := Cert.Mlp1DxRefIdeal.τ) (Cert.Mlp1DxRefIdeal.main (F := Ideal))) ⟨m, fun _ => 0, g⟩ (fun r => (∀ c : Dev Cert.Mlp1DxRefIdeal.nD,
      r.2.mem ((c.tc : Thread Cert.Mlp1DxRefIdeal.nD Cert.Mlp1DxRefIdeal.τ).loc Cert.Mlp1DxRefIdeal.main_arg0) = m ((c.tc : Thread Cert.Mlp1DxRefIdeal.nD Cert.Mlp1DxRefIdeal.τ).loc Cert.Mlp1DxRefIdeal.main_arg0)
      ∧ r.2.mem ((c.tc : Thread Cert.Mlp1DxRefIdeal.nD Cert.Mlp1DxRefIdeal.τ).loc Cert.Mlp1DxRefIdeal.main_arg1) = m ((c.tc : Thread Cert.Mlp1DxRefIdeal.nD Cert.Mlp1DxRefIdeal.τ).loc Cert.Mlp1DxRefIdeal.main_arg1)
      ∧ r.2.mem ((c.tc : Thread Cert.Mlp1DxRefIdeal.nD Cert.Mlp1DxRefIdeal.τ).loc Cert.Mlp1DxRefIdeal.main_arg2) = m ((c.tc : Thread Cert.Mlp1DxRefIdeal.nD Cert.Mlp1DxRefIdeal.τ).loc Cert.Mlp1DxRefIdeal.main_arg2))
      ∧ r.2.sem = fun _ => 0)

def quiescent_ProjOutDx [hProjOutDx : Cert.ProjOutDx.Facts] : Prop :=
  ∀ (m : (ℓ : Loc Cert.ProjOutDx.nD Cert.ProjOutDx.τ Cert.ProjOutDx.sig) → Buf (Elt Bits) ℓ) (g : Dev Cert.ProjOutDx.nD → PrngReg), Pre_ProjOutDx m →
    θ_run (Cert.ProjOutDx.defs (F := Bits)) (onTc (τ := Cert.ProjOutDx.τ) (Cert.ProjOutDx.main (F := Bits))) ⟨m, fun _ => 0, g⟩ (fun r => (∀ c : Dev Cert.ProjOutDx.nD,
      r.2.mem ((c.tc : Thread Cert.ProjOutDx.nD Cert.ProjOutDx.τ).loc Cert.ProjOutDx.main_arg0) = m ((c.tc : Thread Cert.ProjOutDx.nD Cert.ProjOutDx.τ).loc Cert.ProjOutDx.main_arg0)
      ∧ r.2.mem ((c.tc : Thread Cert.ProjOutDx.nD Cert.ProjOutDx.τ).loc Cert.ProjOutDx.main_arg1) = m ((c.tc : Thread Cert.ProjOutDx.nD Cert.ProjOutDx.τ).loc Cert.ProjOutDx.main_arg1)
      ∧ r.2.mem ((c.tc : Thread Cert.ProjOutDx.nD Cert.ProjOutDx.τ).loc Cert.ProjOutDx.main_arg2) = m ((c.tc : Thread Cert.ProjOutDx.nD Cert.ProjOutDx.τ).loc Cert.ProjOutDx.main_arg2))
      ∧ r.2.sem = fun _ => 0)

def quiescent_ProjOutDxIdeal [hProjOutDxIdeal : Cert.ProjOutDxIdeal.Facts] : Prop :=
  ∀ (m : (ℓ : Loc Cert.ProjOutDxIdeal.nD Cert.ProjOutDxIdeal.τ Cert.ProjOutDxIdeal.sig) → Buf (Elt Ideal) ℓ) (g : Dev Cert.ProjOutDxIdeal.nD → PrngReg), Pre_ProjOutDxIdeal m →
    θ_run (Cert.ProjOutDxIdeal.defs (F := Ideal)) (onTc (τ := Cert.ProjOutDxIdeal.τ) (Cert.ProjOutDxIdeal.main (F := Ideal))) ⟨m, fun _ => 0, g⟩ (fun r => (∀ c : Dev Cert.ProjOutDxIdeal.nD,
      r.2.mem ((c.tc : Thread Cert.ProjOutDxIdeal.nD Cert.ProjOutDxIdeal.τ).loc Cert.ProjOutDxIdeal.main_arg0) = m ((c.tc : Thread Cert.ProjOutDxIdeal.nD Cert.ProjOutDxIdeal.τ).loc Cert.ProjOutDxIdeal.main_arg0)
      ∧ r.2.mem ((c.tc : Thread Cert.ProjOutDxIdeal.nD Cert.ProjOutDxIdeal.τ).loc Cert.ProjOutDxIdeal.main_arg1) = m ((c.tc : Thread Cert.ProjOutDxIdeal.nD Cert.ProjOutDxIdeal.τ).loc Cert.ProjOutDxIdeal.main_arg1)
      ∧ r.2.mem ((c.tc : Thread Cert.ProjOutDxIdeal.nD Cert.ProjOutDxIdeal.τ).loc Cert.ProjOutDxIdeal.main_arg2) = m ((c.tc : Thread Cert.ProjOutDxIdeal.nD Cert.ProjOutDxIdeal.τ).loc Cert.ProjOutDxIdeal.main_arg2))
      ∧ r.2.sem = fun _ => 0)

def quiescent_ProjOutDxRefIdeal [hProjOutDxRefIdeal : Cert.ProjOutDxRefIdeal.Facts] : Prop :=
  ∀ (m : (ℓ : Loc Cert.ProjOutDxRefIdeal.nD Cert.ProjOutDxRefIdeal.τ Cert.ProjOutDxRefIdeal.sig) → Buf (Elt Ideal) ℓ) (g : Dev Cert.ProjOutDxRefIdeal.nD → PrngReg), Pre_ProjOutDxRefIdeal m →
    θ_run (Cert.ProjOutDxRefIdeal.defs (F := Ideal)) (onTc (τ := Cert.ProjOutDxRefIdeal.τ) (Cert.ProjOutDxRefIdeal.main (F := Ideal))) ⟨m, fun _ => 0, g⟩ (fun r => (∀ c : Dev Cert.ProjOutDxRefIdeal.nD,
      r.2.mem ((c.tc : Thread Cert.ProjOutDxRefIdeal.nD Cert.ProjOutDxRefIdeal.τ).loc Cert.ProjOutDxRefIdeal.main_arg0) = m ((c.tc : Thread Cert.ProjOutDxRefIdeal.nD Cert.ProjOutDxRefIdeal.τ).loc Cert.ProjOutDxRefIdeal.main_arg0)
      ∧ r.2.mem ((c.tc : Thread Cert.ProjOutDxRefIdeal.nD Cert.ProjOutDxRefIdeal.τ).loc Cert.ProjOutDxRefIdeal.main_arg1) = m ((c.tc : Thread Cert.ProjOutDxRefIdeal.nD Cert.ProjOutDxRefIdeal.τ).loc Cert.ProjOutDxRefIdeal.main_arg1)
      ∧ r.2.mem ((c.tc : Thread Cert.ProjOutDxRefIdeal.nD Cert.ProjOutDxRefIdeal.τ).loc Cert.ProjOutDxRefIdeal.main_arg2) = m ((c.tc : Thread Cert.ProjOutDxRefIdeal.nD Cert.ProjOutDxRefIdeal.τ).loc Cert.ProjOutDxRefIdeal.main_arg2))
      ∧ r.2.sem = fun _ => 0)

def quiescent_ProjOutDw [hProjOutDw : Cert.ProjOutDw.Facts] : Prop :=
  ∀ (m : (ℓ : Loc Cert.ProjOutDw.nD Cert.ProjOutDw.τ Cert.ProjOutDw.sig) → Buf (Elt Bits) ℓ) (g : Dev Cert.ProjOutDw.nD → PrngReg), Pre_ProjOutDw m →
    θ_run (Cert.ProjOutDw.defs (F := Bits)) (onTc (τ := Cert.ProjOutDw.τ) (Cert.ProjOutDw.main (F := Bits))) ⟨m, fun _ => 0, g⟩ (fun r => (∀ c : Dev Cert.ProjOutDw.nD,
      r.2.mem ((c.tc : Thread Cert.ProjOutDw.nD Cert.ProjOutDw.τ).loc Cert.ProjOutDw.main_arg0) = m ((c.tc : Thread Cert.ProjOutDw.nD Cert.ProjOutDw.τ).loc Cert.ProjOutDw.main_arg0)
      ∧ r.2.mem ((c.tc : Thread Cert.ProjOutDw.nD Cert.ProjOutDw.τ).loc Cert.ProjOutDw.main_arg1) = m ((c.tc : Thread Cert.ProjOutDw.nD Cert.ProjOutDw.τ).loc Cert.ProjOutDw.main_arg1)
      ∧ r.2.mem ((c.tc : Thread Cert.ProjOutDw.nD Cert.ProjOutDw.τ).loc Cert.ProjOutDw.main_arg2) = m ((c.tc : Thread Cert.ProjOutDw.nD Cert.ProjOutDw.τ).loc Cert.ProjOutDw.main_arg2))
      ∧ r.2.sem = fun _ => 0)

def quiescent_ProjOutDwIdeal [hProjOutDwIdeal : Cert.ProjOutDwIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg), Pre_ProjOutDwIdeal m →
    θ_run (Cert.ProjOutDwIdeal.defs (F := Ideal)) (onTc (τ := Cert.ProjOutDwIdeal.τ) (Cert.ProjOutDwIdeal.main (F := Ideal))) ⟨m, fun _ => 0, g⟩ (fun r => (∀ c : Dev Cert.ProjOutDwIdeal.nD,
      r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
      ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1)
      ∧ r.2.mem ((c.tc : Thread Cert.ProjOutDwIdeal.nD Cert.ProjOutDwIdeal.τ).loc Cert.ProjOutDwIdeal.main_arg2) = m ((c.tc : Thread Cert.ProjOutDwIdeal.nD Cert.ProjOutDwIdeal.τ).loc Cert.ProjOutDwIdeal.main_arg2))
      ∧ r.2.sem = fun _ => 0)

def quiescent_ProjOutDwRefIdeal [hProjOutDwRefIdeal : Cert.ProjOutDwRefIdeal.Facts] : Prop :=
  ∀ (m : (ℓ : Loc Cert.ProjOutDwRefIdeal.nD Cert.ProjOutDwRefIdeal.τ Cert.ProjOutDwRefIdeal.sig) → Buf (Elt Ideal) ℓ) (g : Dev Cert.ProjOutDwRefIdeal.nD → PrngReg), Pre_ProjOutDwRefIdeal m →
    θ_run (Cert.ProjOutDwRefIdeal.defs (F := Ideal)) (onTc (τ := Cert.ProjOutDwRefIdeal.τ) (Cert.ProjOutDwRefIdeal.main (F := Ideal))) ⟨m, fun _ => 0, g⟩ (fun r => (∀ c : Dev Cert.ProjOutDwRefIdeal.nD,
      r.2.mem ((c.tc : Thread Cert.ProjOutDwRefIdeal.nD Cert.ProjOutDwRefIdeal.τ).loc Cert.ProjOutDwRefIdeal.main_arg0) = m ((c.tc : Thread Cert.ProjOutDwRefIdeal.nD Cert.ProjOutDwRefIdeal.τ).loc Cert.ProjOutDwRefIdeal.main_arg0)
      ∧ r.2.mem ((c.tc : Thread Cert.ProjOutDwRefIdeal.nD Cert.ProjOutDwRefIdeal.τ).loc Cert.ProjOutDwRefIdeal.main_arg1) = m ((c.tc : Thread Cert.ProjOutDwRefIdeal.nD Cert.ProjOutDwRefIdeal.τ).loc Cert.ProjOutDwRefIdeal.main_arg1)
      ∧ r.2.mem ((c.tc : Thread Cert.ProjOutDwRefIdeal.nD Cert.ProjOutDwRefIdeal.τ).loc Cert.ProjOutDwRefIdeal.main_arg2) = m ((c.tc : Thread Cert.ProjOutDwRefIdeal.nD Cert.ProjOutDwRefIdeal.τ).loc Cert.ProjOutDwRefIdeal.main_arg2))
      ∧ r.2.sem = fun _ => 0)

def quiescent_ProjInDw [hProjInDw : Cert.ProjInDw.Facts] : Prop :=
  ∀ (m : (ℓ : Loc Cert.ProjInDw.nD Cert.ProjInDw.τ Cert.ProjInDw.sig) → Buf (Elt Bits) ℓ) (g : Dev Cert.ProjInDw.nD → PrngReg), Pre_ProjInDw m →
    θ_run (Cert.ProjInDw.defs (F := Bits)) (onTc (τ := Cert.ProjInDw.τ) (Cert.ProjInDw.main (F := Bits))) ⟨m, fun _ => 0, g⟩ (fun r => (∀ c : Dev Cert.ProjInDw.nD,
      r.2.mem ((c.tc : Thread Cert.ProjInDw.nD Cert.ProjInDw.τ).loc Cert.ProjInDw.main_arg0) = m ((c.tc : Thread Cert.ProjInDw.nD Cert.ProjInDw.τ).loc Cert.ProjInDw.main_arg0)
      ∧ r.2.mem ((c.tc : Thread Cert.ProjInDw.nD Cert.ProjInDw.τ).loc Cert.ProjInDw.main_arg1) = m ((c.tc : Thread Cert.ProjInDw.nD Cert.ProjInDw.τ).loc Cert.ProjInDw.main_arg1)
      ∧ r.2.mem ((c.tc : Thread Cert.ProjInDw.nD Cert.ProjInDw.τ).loc Cert.ProjInDw.main_arg2) = m ((c.tc : Thread Cert.ProjInDw.nD Cert.ProjInDw.τ).loc Cert.ProjInDw.main_arg2))
      ∧ r.2.sem = fun _ => 0)

def quiescent_ProjInDwIdeal [hProjInDwIdeal : Cert.ProjInDwIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg), Pre_ProjInDwIdeal m →
    θ_run (Cert.ProjInDwIdeal.defs (F := Ideal)) (onTc (τ := Cert.ProjInDwIdeal.τ) (Cert.ProjInDwIdeal.main (F := Ideal))) ⟨m, fun _ => 0, g⟩ (fun r => (∀ c : Dev Cert.ProjInDwIdeal.nD,
      r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
      ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1)
      ∧ r.2.mem ((c.tc : Thread Cert.ProjInDwIdeal.nD Cert.ProjInDwIdeal.τ).loc Cert.ProjInDwIdeal.main_arg2) = m ((c.tc : Thread Cert.ProjInDwIdeal.nD Cert.ProjInDwIdeal.τ).loc Cert.ProjInDwIdeal.main_arg2))
      ∧ r.2.sem = fun _ => 0)

def quiescent_ProjInDwRefIdeal [hProjInDwRefIdeal : Cert.ProjInDwRefIdeal.Facts] : Prop :=
  ∀ (m : (ℓ : Loc Cert.ProjInDwRefIdeal.nD Cert.ProjInDwRefIdeal.τ Cert.ProjInDwRefIdeal.sig) → Buf (Elt Ideal) ℓ) (g : Dev Cert.ProjInDwRefIdeal.nD → PrngReg), Pre_ProjInDwRefIdeal m →
    θ_run (Cert.ProjInDwRefIdeal.defs (F := Ideal)) (onTc (τ := Cert.ProjInDwRefIdeal.τ) (Cert.ProjInDwRefIdeal.main (F := Ideal))) ⟨m, fun _ => 0, g⟩ (fun r => (∀ c : Dev Cert.ProjInDwRefIdeal.nD,
      r.2.mem ((c.tc : Thread Cert.ProjInDwRefIdeal.nD Cert.ProjInDwRefIdeal.τ).loc Cert.ProjInDwRefIdeal.main_arg0) = m ((c.tc : Thread Cert.ProjInDwRefIdeal.nD Cert.ProjInDwRefIdeal.τ).loc Cert.ProjInDwRefIdeal.main_arg0)
      ∧ r.2.mem ((c.tc : Thread Cert.ProjInDwRefIdeal.nD Cert.ProjInDwRefIdeal.τ).loc Cert.ProjInDwRefIdeal.main_arg1) = m ((c.tc : Thread Cert.ProjInDwRefIdeal.nD Cert.ProjInDwRefIdeal.τ).loc Cert.ProjInDwRefIdeal.main_arg1)
      ∧ r.2.mem ((c.tc : Thread Cert.ProjInDwRefIdeal.nD Cert.ProjInDwRefIdeal.τ).loc Cert.ProjInDwRefIdeal.main_arg2) = m ((c.tc : Thread Cert.ProjInDwRefIdeal.nD Cert.ProjInDwRefIdeal.τ).loc Cert.ProjInDwRefIdeal.main_arg2))
      ∧ r.2.sem = fun _ => 0)

def quiescent_ProjInDx [hProjInDx : Cert.ProjInDx.Facts] : Prop :=
  ∀ (m : (ℓ : Loc Cert.ProjInDx.nD Cert.ProjInDx.τ Cert.ProjInDx.sig) → Buf (Elt Bits) ℓ) (g : Dev Cert.ProjInDx.nD → PrngReg), Pre_ProjInDx m →
    θ_run (Cert.ProjInDx.defs (F := Bits)) (onTc (τ := Cert.ProjInDx.τ) (Cert.ProjInDx.main (F := Bits))) ⟨m, fun _ => 0, g⟩ (fun r => (∀ c : Dev Cert.ProjInDx.nD,
      r.2.mem ((c.tc : Thread Cert.ProjInDx.nD Cert.ProjInDx.τ).loc Cert.ProjInDx.main_arg0) = m ((c.tc : Thread Cert.ProjInDx.nD Cert.ProjInDx.τ).loc Cert.ProjInDx.main_arg0)
      ∧ r.2.mem ((c.tc : Thread Cert.ProjInDx.nD Cert.ProjInDx.τ).loc Cert.ProjInDx.main_arg1) = m ((c.tc : Thread Cert.ProjInDx.nD Cert.ProjInDx.τ).loc Cert.ProjInDx.main_arg1)
      ∧ r.2.mem ((c.tc : Thread Cert.ProjInDx.nD Cert.ProjInDx.τ).loc Cert.ProjInDx.main_arg2) = m ((c.tc : Thread Cert.ProjInDx.nD Cert.ProjInDx.τ).loc Cert.ProjInDx.main_arg2))
      ∧ r.2.sem = fun _ => 0)

def quiescent_ProjInDxIdeal [hProjInDxIdeal : Cert.ProjInDxIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
      ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2))
      ∧ r.2.sem = fun _ => 0)

def quiescent_ProjInDxRefIdeal [hProjInDxRefIdeal : Cert.ProjInDxRefIdeal.Facts] : Prop :=
  ∀ (m : (ℓ : Loc Cert.ProjInDxRefIdeal.nD Cert.ProjInDxRefIdeal.τ Cert.ProjInDxRefIdeal.sig) → Buf (Elt Ideal) ℓ) (g : Dev Cert.ProjInDxRefIdeal.nD → PrngReg), Pre_ProjInDxRefIdeal m →
    θ_run (Cert.ProjInDxRefIdeal.defs (F := Ideal)) (onTc (τ := Cert.ProjInDxRefIdeal.τ) (Cert.ProjInDxRefIdeal.main (F := Ideal))) ⟨m, fun _ => 0, g⟩ (fun r => (∀ c : Dev Cert.ProjInDxRefIdeal.nD,
      r.2.mem ((c.tc : Thread Cert.ProjInDxRefIdeal.nD Cert.ProjInDxRefIdeal.τ).loc Cert.ProjInDxRefIdeal.main_arg0) = m ((c.tc : Thread Cert.ProjInDxRefIdeal.nD Cert.ProjInDxRefIdeal.τ).loc Cert.ProjInDxRefIdeal.main_arg0)
      ∧ r.2.mem ((c.tc : Thread Cert.ProjInDxRefIdeal.nD Cert.ProjInDxRefIdeal.τ).loc Cert.ProjInDxRefIdeal.main_arg1) = m ((c.tc : Thread Cert.ProjInDxRefIdeal.nD Cert.ProjInDxRefIdeal.τ).loc Cert.ProjInDxRefIdeal.main_arg1)
      ∧ r.2.mem ((c.tc : Thread Cert.ProjInDxRefIdeal.nD Cert.ProjInDxRefIdeal.τ).loc Cert.ProjInDxRefIdeal.main_arg2) = m ((c.tc : Thread Cert.ProjInDxRefIdeal.nD Cert.ProjInDxRefIdeal.τ).loc Cert.ProjInDxRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1)
      ∧ r.2.mem ((c.tc : Thread Cert.Mlp2.nD Cert.Mlp2.τ).loc Cert.Mlp2.main_arg2) = m ((c.tc : Thread Cert.Mlp2.nD Cert.Mlp2.τ).loc Cert.Mlp2.main_arg2)
      ∧ r.2.mem ((c.tc : Thread Cert.Mlp2.nD Cert.Mlp2.τ).loc Cert.Mlp2.main_arg3) = m ((c.tc : Thread Cert.Mlp2.nD Cert.Mlp2.τ).loc Cert.Mlp2.main_arg3))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
      ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
      ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3))
      ∧ r.2.sem = fun _ => 0)

def quiescent_Mlp2RefIdeal [hMlp2RefIdeal : Cert.Mlp2RefIdeal.Facts] : Prop :=
  ∀ (m : (ℓ : Loc Cert.Mlp2RefIdeal.nD Cert.Mlp2RefIdeal.τ Cert.Mlp2RefIdeal.sig) → Buf (Elt Ideal) ℓ) (g : Dev Cert.Mlp2RefIdeal.nD → PrngReg), Pre_Mlp2RefIdeal m →
    θ_run (Cert.Mlp2RefIdeal.defs (F := Ideal)) (onTc (τ := Cert.Mlp2RefIdeal.τ) (Cert.Mlp2RefIdeal.main (F := Ideal))) ⟨m, fun _ => 0, g⟩ (fun r => (∀ c : Dev Cert.Mlp2RefIdeal.nD,
      r.2.mem ((c.tc : Thread Cert.Mlp2RefIdeal.nD Cert.Mlp2RefIdeal.τ).loc Cert.Mlp2RefIdeal.main_arg0) = m ((c.tc : Thread Cert.Mlp2RefIdeal.nD Cert.Mlp2RefIdeal.τ).loc Cert.Mlp2RefIdeal.main_arg0)
      ∧ r.2.mem ((c.tc : Thread Cert.Mlp2RefIdeal.nD Cert.Mlp2RefIdeal.τ).loc Cert.Mlp2RefIdeal.main_arg1) = m ((c.tc : Thread Cert.Mlp2RefIdeal.nD Cert.Mlp2RefIdeal.τ).loc Cert.Mlp2RefIdeal.main_arg1)
      ∧ r.2.mem ((c.tc : Thread Cert.Mlp2RefIdeal.nD Cert.Mlp2RefIdeal.τ).loc Cert.Mlp2RefIdeal.main_arg2) = m ((c.tc : Thread Cert.Mlp2RefIdeal.nD Cert.Mlp2RefIdeal.τ).loc Cert.Mlp2RefIdeal.main_arg2)
      ∧ r.2.mem ((c.tc : Thread Cert.Mlp2RefIdeal.nD Cert.Mlp2RefIdeal.τ).loc Cert.Mlp2RefIdeal.main_arg3) = m ((c.tc : Thread Cert.Mlp2RefIdeal.nD Cert.Mlp2RefIdeal.τ).loc Cert.Mlp2RefIdeal.main_arg3))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ r.2.sem = fun _ => 0)

def quiescent_LnBwdRefIdeal [hLnBwdRefIdeal : Cert.LnBwdRefIdeal.Facts] : Prop :=
  ∀ (m : (ℓ : Loc Cert.LnBwdRefIdeal.nD Cert.LnBwdRefIdeal.τ Cert.LnBwdRefIdeal.sig) → Buf (Elt Ideal) ℓ) (g : Dev Cert.LnBwdRefIdeal.nD → PrngReg), Pre_LnBwdRefIdeal m →
    θ_run (Cert.LnBwdRefIdeal.defs (F := Ideal)) (onTc (τ := Cert.LnBwdRefIdeal.τ) (Cert.LnBwdRefIdeal.main (F := Ideal))) ⟨m, fun _ => 0, g⟩ (fun r => (∀ c : Dev Cert.LnBwdRefIdeal.nD,
      r.2.mem ((c.tc : Thread Cert.LnBwdRefIdeal.nD Cert.LnBwdRefIdeal.τ).loc Cert.LnBwdRefIdeal.main_arg0) = m ((c.tc : Thread Cert.LnBwdRefIdeal.nD Cert.LnBwdRefIdeal.τ).loc Cert.LnBwdRefIdeal.main_arg0)
      ∧ r.2.mem ((c.tc : Thread Cert.LnBwdRefIdeal.nD Cert.LnBwdRefIdeal.τ).loc Cert.LnBwdRefIdeal.main_arg1) = m ((c.tc : Thread Cert.LnBwdRefIdeal.nD Cert.LnBwdRefIdeal.τ).loc Cert.LnBwdRefIdeal.main_arg1)
      ∧ r.2.mem ((c.tc : Thread Cert.LnBwdRefIdeal.nD Cert.LnBwdRefIdeal.τ).loc Cert.LnBwdRefIdeal.main_arg2) = m ((c.tc : Thread Cert.LnBwdRefIdeal.nD Cert.LnBwdRefIdeal.τ).loc Cert.LnBwdRefIdeal.main_arg2)
      ∧ r.2.mem ((c.tc : Thread Cert.LnBwdRefIdeal.nD Cert.LnBwdRefIdeal.τ).loc Cert.LnBwdRefIdeal.main_arg3) = m ((c.tc : Thread Cert.LnBwdRefIdeal.nD Cert.LnBwdRefIdeal.τ).loc Cert.LnBwdRefIdeal.main_arg3)
      ∧ r.2.mem ((c.tc : Thread Cert.LnBwdRefIdeal.nD Cert.LnBwdRefIdeal.τ).loc Cert.LnBwdRefIdeal.main_arg4) = m ((c.tc : Thread Cert.LnBwdRefIdeal.nD Cert.LnBwdRefIdeal.τ).loc Cert.LnBwdRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_finite_conv [hConvBwdRefIdeal : Cert.ConvBwdRefIdeal.Facts] [hPre_finite_conv : Cert.Pre_finite_conv.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_conv m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4)
      ∧ r.2.mem ((c.tc : Thread Cert.GmlpFwd.nD Cert.GmlpFwd.τ).loc Cert.GmlpFwd.main_arg5) = m ((c.tc : Thread Cert.GmlpFwd.nD Cert.GmlpFwd.τ).loc Cert.GmlpFwd.main_arg5))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
      ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4)
      ∧ r.2.mem ((c.tc : Thread Cert.GmlpFwdRefIdeal.nD Cert.GmlpFwdRefIdeal.τ).loc Cert.GmlpFwdRefIdeal.main_arg5) = m ((c.tc : Thread Cert.GmlpFwdRefIdeal.nD Cert.GmlpFwdRefIdeal.τ).loc Cert.GmlpFwdRefIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1)
      ∧ r.2.mem ((c.tc : Thread Cert.AdaDw.nD Cert.AdaDw.τ).loc Cert.AdaDw.main_arg2) = m ((c.tc : Thread Cert.AdaDw.nD Cert.AdaDw.τ).loc Cert.AdaDw.main_arg2))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1)
      ∧ r.2.mem ((c.tc : Thread Cert.AdaDwIdeal.nD Cert.AdaDwIdeal.τ).loc Cert.AdaDwIdeal.main_arg2) = m ((c.tc : Thread Cert.AdaDwIdeal.nD Cert.AdaDwIdeal.τ).loc Cert.AdaDwIdeal.main_arg2))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1)
      ∧ r.2.mem ((c.tc : Thread Cert.AdaDwRefIdeal.nD Cert.AdaDwRefIdeal.τ).loc Cert.AdaDwRefIdeal.main_arg2) = m ((c.tc : Thread Cert.AdaDwRefIdeal.nD Cert.AdaDwRefIdeal.τ).loc Cert.AdaDwRefIdeal.main_arg2))
      ∧ r.2.sem = fun _ => 0)

def quiescent_AdaDb [hAdaDb : Cert.AdaDb.Facts] : Prop :=
  ∀ (m : (ℓ : Loc Cert.AdaDb.nD Cert.AdaDb.τ Cert.AdaDb.sig) → Buf (Elt Bits) ℓ) (g : Dev Cert.AdaDb.nD → PrngReg), Pre_AdaDb m →
    θ_run (Cert.AdaDb.defs (F := Bits)) (onTc (τ := Cert.AdaDb.τ) (Cert.AdaDb.main (F := Bits))) ⟨m, fun _ => 0, g⟩ (fun r => (∀ c : Dev Cert.AdaDb.nD,
      r.2.mem ((c.tc : Thread Cert.AdaDb.nD Cert.AdaDb.τ).loc Cert.AdaDb.main_arg0) = m ((c.tc : Thread Cert.AdaDb.nD Cert.AdaDb.τ).loc Cert.AdaDb.main_arg0))
      ∧ r.2.sem = fun _ => 0)

def quiescent_AdaDbIdeal [hAdaDbIdeal : Cert.AdaDbIdeal.Facts] : Prop :=
  ∀ (m : (ℓ : Loc Cert.AdaDbIdeal.nD Cert.AdaDbIdeal.τ Cert.AdaDbIdeal.sig) → Buf (Elt Ideal) ℓ) (g : Dev Cert.AdaDbIdeal.nD → PrngReg), Pre_AdaDbIdeal m →
    θ_run (Cert.AdaDbIdeal.defs (F := Ideal)) (onTc (τ := Cert.AdaDbIdeal.τ) (Cert.AdaDbIdeal.main (F := Ideal))) ⟨m, fun _ => 0, g⟩ (fun r => (∀ c : Dev Cert.AdaDbIdeal.nD,
      r.2.mem ((c.tc : Thread Cert.AdaDbIdeal.nD Cert.AdaDbIdeal.τ).loc Cert.AdaDbIdeal.main_arg0) = m ((c.tc : Thread Cert.AdaDbIdeal.nD Cert.AdaDbIdeal.τ).loc Cert.AdaDbIdeal.main_arg0))
      ∧ r.2.sem = fun _ => 0)

def quiescent_AdaDbRefIdeal [hAdaDbRefIdeal : Cert.AdaDbRefIdeal.Facts] : Prop :=
  ∀ (m : (ℓ : Loc Cert.AdaDbRefIdeal.nD Cert.AdaDbRefIdeal.τ Cert.AdaDbRefIdeal.sig) → Buf (Elt Ideal) ℓ) (g : Dev Cert.AdaDbRefIdeal.nD → PrngReg), Pre_AdaDbRefIdeal m →
    θ_run (Cert.AdaDbRefIdeal.defs (F := Ideal)) (onTc (τ := Cert.AdaDbRefIdeal.τ) (Cert.AdaDbRefIdeal.main (F := Ideal))) ⟨m, fun _ => 0, g⟩ (fun r => (∀ c : Dev Cert.AdaDbRefIdeal.nD,
      r.2.mem ((c.tc : Thread Cert.AdaDbRefIdeal.nD Cert.AdaDbRefIdeal.τ).loc Cert.AdaDbRefIdeal.main_arg0) = m ((c.tc : Thread Cert.AdaDbRefIdeal.nD Cert.AdaDbRefIdeal.τ).loc Cert.AdaDbRefIdeal.main_arg0))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamMlp [hAdamMlp : Cert.AdamMlp.Facts] : Prop :=
  ∀ (m : (ℓ : Loc Cert.AdamMlp.nD Cert.AdamMlp.τ Cert.AdamMlp.sig) → Buf (Elt Bits) ℓ) (g : Dev Cert.AdamMlp.nD → PrngReg), Pre_AdamMlp m →
    θ_run (Cert.AdamMlp.defs (F := Bits)) (onTc (τ := Cert.AdamMlp.τ) (Cert.AdamMlp.main (F := Bits))) ⟨m, fun _ => 0, g⟩ (fun r => (∀ c : Dev Cert.AdamMlp.nD,
      r.2.mem ((c.tc : Thread Cert.AdamMlp.nD Cert.AdamMlp.τ).loc Cert.AdamMlp.main_arg0) = m ((c.tc : Thread Cert.AdamMlp.nD Cert.AdamMlp.τ).loc Cert.AdamMlp.main_arg0)
      ∧ r.2.mem ((c.tc : Thread Cert.AdamMlp.nD Cert.AdamMlp.τ).loc Cert.AdamMlp.main_arg1) = m ((c.tc : Thread Cert.AdamMlp.nD Cert.AdamMlp.τ).loc Cert.AdamMlp.main_arg1)
      ∧ r.2.mem ((c.tc : Thread Cert.AdamMlp.nD Cert.AdamMlp.τ).loc Cert.AdamMlp.main_arg2) = m ((c.tc : Thread Cert.AdamMlp.nD Cert.AdamMlp.τ).loc Cert.AdamMlp.main_arg2)
      ∧ r.2.mem ((c.tc : Thread Cert.AdamMlp.nD Cert.AdamMlp.τ).loc Cert.AdamMlp.main_arg3) = m ((c.tc : Thread Cert.AdamMlp.nD Cert.AdamMlp.τ).loc Cert.AdamMlp.main_arg3)
      ∧ r.2.mem ((c.tc : Thread Cert.AdamMlp.nD Cert.AdamMlp.τ).loc Cert.AdamMlp.main_arg4) = m ((c.tc : Thread Cert.AdamMlp.nD Cert.AdamMlp.τ).loc Cert.AdamMlp.main_arg4)
      ∧ r.2.mem ((c.tc : Thread Cert.AdamMlp.nD Cert.AdamMlp.τ).loc Cert.AdamMlp.main_arg5) = m ((c.tc : Thread Cert.AdamMlp.nD Cert.AdamMlp.τ).loc Cert.AdamMlp.main_arg5)
      ∧ r.2.mem ((c.tc : Thread Cert.AdamMlp.nD Cert.AdamMlp.τ).loc Cert.AdamMlp.main_arg6) = m ((c.tc : Thread Cert.AdamMlp.nD Cert.AdamMlp.τ).loc Cert.AdamMlp.main_arg6)
      ∧ r.2.mem ((c.tc : Thread Cert.AdamMlp.nD Cert.AdamMlp.τ).loc Cert.AdamMlp.main_arg7) = m ((c.tc : Thread Cert.AdamMlp.nD Cert.AdamMlp.τ).loc Cert.AdamMlp.main_arg7))
      ∧ r.2.sem = fun _ => 0)

def quiescent_AdamMlpIdeal [hAdamMlpIdeal : Cert.AdamMlpIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg), Pre_AdamMlpIdeal m →
    θ_run (Cert.AdamMlpIdeal.defs (F := Ideal)) (onTc (τ := Cert.AdamMlpIdeal.τ) (Cert.AdamMlpIdeal.main (F := Ideal))) ⟨m, fun _ => 0, g⟩ (fun r => (∀ c : Dev Cert.AdamMlpIdeal.nD,
      r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
      ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
      ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
      ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
      ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4)
      ∧ r.2.mem ((c.tc : Thread Cert.AdamMlpIdeal.nD Cert.AdamMlpIdeal.τ).loc Cert.AdamMlpIdeal.main_arg5) = m ((c.tc : Thread Cert.AdamMlpIdeal.nD Cert.AdamMlpIdeal.τ).loc Cert.AdamMlpIdeal.main_arg5)
      ∧ r.2.mem ((c.tc : Thread Cert.AdamMlpIdeal.nD Cert.AdamMlpIdeal.τ).loc Cert.AdamMlpIdeal.main_arg6) = m ((c.tc : Thread Cert.AdamMlpIdeal.nD Cert.AdamMlpIdeal.τ).loc Cert.AdamMlpIdeal.main_arg6)
      ∧ r.2.mem ((c.tc : Thread Cert.AdamMlpIdeal.nD Cert.AdamMlpIdeal.τ).loc Cert.AdamMlpIdeal.main_arg7) = m ((c.tc : Thread Cert.AdamMlpIdeal.nD Cert.AdamMlpIdeal.τ).loc Cert.AdamMlpIdeal.main_arg7))
      ∧ r.2.sem = fun _ => 0)

def quiescent_AdamMlpRefIdeal [hAdamMlpRefIdeal : Cert.AdamMlpRefIdeal.Facts] : Prop :=
  ∀ (m : (ℓ : Loc Cert.AdamMlpRefIdeal.nD Cert.AdamMlpRefIdeal.τ Cert.AdamMlpRefIdeal.sig) → Buf (Elt Ideal) ℓ) (g : Dev Cert.AdamMlpRefIdeal.nD → PrngReg), Pre_AdamMlpRefIdeal m →
    θ_run (Cert.AdamMlpRefIdeal.defs (F := Ideal)) (onTc (τ := Cert.AdamMlpRefIdeal.τ) (Cert.AdamMlpRefIdeal.main (F := Ideal))) ⟨m, fun _ => 0, g⟩ (fun r => (∀ c : Dev Cert.AdamMlpRefIdeal.nD,
      r.2.mem ((c.tc : Thread Cert.AdamMlpRefIdeal.nD Cert.AdamMlpRefIdeal.τ).loc Cert.AdamMlpRefIdeal.main_arg0) = m ((c.tc : Thread Cert.AdamMlpRefIdeal.nD Cert.AdamMlpRefIdeal.τ).loc Cert.AdamMlpRefIdeal.main_arg0)
      ∧ r.2.mem ((c.tc : Thread Cert.AdamMlpRefIdeal.nD Cert.AdamMlpRefIdeal.τ).loc Cert.AdamMlpRefIdeal.main_arg1) = m ((c.tc : Thread Cert.AdamMlpRefIdeal.nD Cert.AdamMlpRefIdeal.τ).loc Cert.AdamMlpRefIdeal.main_arg1)
      ∧ r.2.mem ((c.tc : Thread Cert.AdamMlpRefIdeal.nD Cert.AdamMlpRefIdeal.τ).loc Cert.AdamMlpRefIdeal.main_arg2) = m ((c.tc : Thread Cert.AdamMlpRefIdeal.nD Cert.AdamMlpRefIdeal.τ).loc Cert.AdamMlpRefIdeal.main_arg2)
      ∧ r.2.mem ((c.tc : Thread Cert.AdamMlpRefIdeal.nD Cert.AdamMlpRefIdeal.τ).loc Cert.AdamMlpRefIdeal.main_arg3) = m ((c.tc : Thread Cert.AdamMlpRefIdeal.nD Cert.AdamMlpRefIdeal.τ).loc Cert.AdamMlpRefIdeal.main_arg3)
      ∧ r.2.mem ((c.tc : Thread Cert.AdamMlpRefIdeal.nD Cert.AdamMlpRefIdeal.τ).loc Cert.AdamMlpRefIdeal.main_arg4) = m ((c.tc : Thread Cert.AdamMlpRefIdeal.nD Cert.AdamMlpRefIdeal.τ).loc Cert.AdamMlpRefIdeal.main_arg4)
      ∧ r.2.mem ((c.tc : Thread Cert.AdamMlpRefIdeal.nD Cert.AdamMlpRefIdeal.τ).loc Cert.AdamMlpRefIdeal.main_arg5) = m ((c.tc : Thread Cert.AdamMlpRefIdeal.nD Cert.AdamMlpRefIdeal.τ).loc Cert.AdamMlpRefIdeal.main_arg5)
      ∧ r.2.mem ((c.tc : Thread Cert.AdamMlpRefIdeal.nD Cert.AdamMlpRefIdeal.τ).loc Cert.AdamMlpRefIdeal.main_arg6) = m ((c.tc : Thread Cert.AdamMlpRefIdeal.nD Cert.AdamMlpRefIdeal.τ).loc Cert.AdamMlpRefIdeal.main_arg6)
      ∧ r.2.mem ((c.tc : Thread Cert.AdamMlpRefIdeal.nD Cert.AdamMlpRefIdeal.τ).loc Cert.AdamMlpRefIdeal.main_arg7) = m ((c.tc : Thread Cert.AdamMlpRefIdeal.nD Cert.AdamMlpRefIdeal.τ).loc Cert.AdamMlpRefIdeal.main_arg7))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6)
      ∧ r.2.mem ((c.tc : Thread Cert.AdamOut.nD Cert.AdamOut.τ).loc Cert.AdamOut.main_arg7) = m ((c.tc : Thread Cert.AdamOut.nD Cert.AdamOut.τ).loc Cert.AdamOut.main_arg7))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
      ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6)
      ∧ r.2.mem ((c.tc : Thread Cert.AdamOutRefIdeal.nD Cert.AdamOutRefIdeal.τ).loc Cert.AdamOutRefIdeal.main_arg7) = m ((c.tc : Thread Cert.AdamOutRefIdeal.nD Cert.AdamOutRefIdeal.τ).loc Cert.AdamOutRefIdeal.main_arg7))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamMlpTop [hAdamMlpTop : Cert.AdamMlpTop.Facts] : Prop :=
  ∀ (m : (ℓ : Loc Cert.AdamMlpTop.nD Cert.AdamMlpTop.τ Cert.AdamMlpTop.sig) → Buf (Elt Bits) ℓ) (g : Dev Cert.AdamMlpTop.nD → PrngReg), Pre_AdamMlpTop m →
    θ_run (Cert.AdamMlpTop.defs (F := Bits)) (onTc (τ := Cert.AdamMlpTop.τ) (Cert.AdamMlpTop.main (F := Bits))) ⟨m, fun _ => 0, g⟩ (fun r => (∀ c : Dev Cert.AdamMlpTop.nD,
      r.2.mem ((c.tc : Thread Cert.AdamMlpTop.nD Cert.AdamMlpTop.τ).loc Cert.AdamMlpTop.main_arg0) = m ((c.tc : Thread Cert.AdamMlpTop.nD Cert.AdamMlpTop.τ).loc Cert.AdamMlpTop.main_arg0)
      ∧ r.2.mem ((c.tc : Thread Cert.AdamMlpTop.nD Cert.AdamMlpTop.τ).loc Cert.AdamMlpTop.main_arg1) = m ((c.tc : Thread Cert.AdamMlpTop.nD Cert.AdamMlpTop.τ).loc Cert.AdamMlpTop.main_arg1)
      ∧ r.2.mem ((c.tc : Thread Cert.AdamMlpTop.nD Cert.AdamMlpTop.τ).loc Cert.AdamMlpTop.main_arg2) = m ((c.tc : Thread Cert.AdamMlpTop.nD Cert.AdamMlpTop.τ).loc Cert.AdamMlpTop.main_arg2)
      ∧ r.2.mem ((c.tc : Thread Cert.AdamMlpTop.nD Cert.AdamMlpTop.τ).loc Cert.AdamMlpTop.main_arg3) = m ((c.tc : Thread Cert.AdamMlpTop.nD Cert.AdamMlpTop.τ).loc Cert.AdamMlpTop.main_arg3))
      ∧ r.2.sem = fun _ => 0)

def quiescent_AdamMlpTopIdeal [hAdamMlpTopIdeal : Cert.AdamMlpTopIdeal.Facts] : Prop :=
  ∀ (m : (ℓ : Loc Cert.AdamMlpTopIdeal.nD Cert.AdamMlpTopIdeal.τ Cert.AdamMlpTopIdeal.sig) → Buf (Elt Ideal) ℓ) (g : Dev Cert.AdamMlpTopIdeal.nD → PrngReg), Pre_AdamMlpTopIdeal m →
    θ_run (Cert.AdamMlpTopIdeal.defs (F := Ideal)) (onTc (τ := Cert.AdamMlpTopIdeal.τ) (Cert.AdamMlpTopIdeal.main (F := Ideal))) ⟨m, fun _ => 0, g⟩ (fun r => (∀ c : Dev Cert.AdamMlpTopIdeal.nD,
      r.2.mem ((c.tc : Thread Cert.AdamMlpTopIdeal.nD Cert.AdamMlpTopIdeal.τ).loc Cert.AdamMlpTopIdeal.main_arg0) = m ((c.tc : Thread Cert.AdamMlpTopIdeal.nD Cert.AdamMlpTopIdeal.τ).loc Cert.AdamMlpTopIdeal.main_arg0)
      ∧ r.2.mem ((c.tc : Thread Cert.AdamMlpTopIdeal.nD Cert.AdamMlpTopIdeal.τ).loc Cert.AdamMlpTopIdeal.main_arg1) = m ((c.tc : Thread Cert.AdamMlpTopIdeal.nD Cert.AdamMlpTopIdeal.τ).loc Cert.AdamMlpTopIdeal.main_arg1)
      ∧ r.2.mem ((c.tc : Thread Cert.AdamMlpTopIdeal.nD Cert.AdamMlpTopIdeal.τ).loc Cert.AdamMlpTopIdeal.main_arg2) = m ((c.tc : Thread Cert.AdamMlpTopIdeal.nD Cert.AdamMlpTopIdeal.τ).loc Cert.AdamMlpTopIdeal.main_arg2)
      ∧ r.2.mem ((c.tc : Thread Cert.AdamMlpTopIdeal.nD Cert.AdamMlpTopIdeal.τ).loc Cert.AdamMlpTopIdeal.main_arg3) = m ((c.tc : Thread Cert.AdamMlpTopIdeal.nD Cert.AdamMlpTopIdeal.τ).loc Cert.AdamMlpTopIdeal.main_arg3))
      ∧ r.2.sem = fun _ => 0)

def quiescent_AdamMlpTopRefIdeal [hAdamMlpTopRefIdeal : Cert.AdamMlpTopRefIdeal.Facts] : Prop :=
  ∀ (m : (ℓ : Loc Cert.AdamMlpTopRefIdeal.nD Cert.AdamMlpTopRefIdeal.τ Cert.AdamMlpTopRefIdeal.sig) → Buf (Elt Ideal) ℓ) (g : Dev Cert.AdamMlpTopRefIdeal.nD → PrngReg), Pre_AdamMlpTopRefIdeal m →
    θ_run (Cert.AdamMlpTopRefIdeal.defs (F := Ideal)) (onTc (τ := Cert.AdamMlpTopRefIdeal.τ) (Cert.AdamMlpTopRefIdeal.main (F := Ideal))) ⟨m, fun _ => 0, g⟩ (fun r => (∀ c : Dev Cert.AdamMlpTopRefIdeal.nD,
      r.2.mem ((c.tc : Thread Cert.AdamMlpTopRefIdeal.nD Cert.AdamMlpTopRefIdeal.τ).loc Cert.AdamMlpTopRefIdeal.main_arg0) = m ((c.tc : Thread Cert.AdamMlpTopRefIdeal.nD Cert.AdamMlpTopRefIdeal.τ).loc Cert.AdamMlpTopRefIdeal.main_arg0)
      ∧ r.2.mem ((c.tc : Thread Cert.AdamMlpTopRefIdeal.nD Cert.AdamMlpTopRefIdeal.τ).loc Cert.AdamMlpTopRefIdeal.main_arg1) = m ((c.tc : Thread Cert.AdamMlpTopRefIdeal.nD Cert.AdamMlpTopRefIdeal.τ).loc Cert.AdamMlpTopRefIdeal.main_arg1)
      ∧ r.2.mem ((c.tc : Thread Cert.AdamMlpTopRefIdeal.nD Cert.AdamMlpTopRefIdeal.τ).loc Cert.AdamMlpTopRefIdeal.main_arg2) = m ((c.tc : Thread Cert.AdamMlpTopRefIdeal.nD Cert.AdamMlpTopRefIdeal.τ).loc Cert.AdamMlpTopRefIdeal.main_arg2)
      ∧ r.2.mem ((c.tc : Thread Cert.AdamMlpTopRefIdeal.nD Cert.AdamMlpTopRefIdeal.τ).loc Cert.AdamMlpTopRefIdeal.main_arg3) = m ((c.tc : Thread Cert.AdamMlpTopRefIdeal.nD Cert.AdamMlpTopRefIdeal.τ).loc Cert.AdamMlpTopRefIdeal.main_arg3))
      ∧ r.2.sem = fun _ => 0)

def quiescent_AdamOutTop [hAdamOutTop : Cert.AdamOutTop.Facts] : Prop :=
  ∀ (m : (ℓ : Loc Cert.AdamOutTop.nD Cert.AdamOutTop.τ Cert.AdamOutTop.sig) → Buf (Elt Bits) ℓ) (g : Dev Cert.AdamOutTop.nD → PrngReg), Pre_AdamOutTop m →
    θ_run (Cert.AdamOutTop.defs (F := Bits)) (onTc (τ := Cert.AdamOutTop.τ) (Cert.AdamOutTop.main (F := Bits))) ⟨m, fun _ => 0, g⟩ (fun r => (∀ c : Dev Cert.AdamOutTop.nD,
      r.2.mem ((c.tc : Thread Cert.AdamOutTop.nD Cert.AdamOutTop.τ).loc Cert.AdamOutTop.main_arg0) = m ((c.tc : Thread Cert.AdamOutTop.nD Cert.AdamOutTop.τ).loc Cert.AdamOutTop.main_arg0)
      ∧ r.2.mem ((c.tc : Thread Cert.AdamOutTop.nD Cert.AdamOutTop.τ).loc Cert.AdamOutTop.main_arg1) = m ((c.tc : Thread Cert.AdamOutTop.nD Cert.AdamOutTop.τ).loc Cert.AdamOutTop.main_arg1)
      ∧ r.2.mem ((c.tc : Thread Cert.AdamOutTop.nD Cert.AdamOutTop.τ).loc Cert.AdamOutTop.main_arg2) = m ((c.tc : Thread Cert.AdamOutTop.nD Cert.AdamOutTop.τ).loc Cert.AdamOutTop.main_arg2)
      ∧ r.2.mem ((c.tc : Thread Cert.AdamOutTop.nD Cert.AdamOutTop.τ).loc Cert.AdamOutTop.main_arg3) = m ((c.tc : Thread Cert.AdamOutTop.nD Cert.AdamOutTop.τ).loc Cert.AdamOutTop.main_arg3))
      ∧ r.2.sem = fun _ => 0)

def quiescent_AdamOutTopIdeal [hAdamOutTopIdeal : Cert.AdamOutTopIdeal.Facts] : Prop :=
  ∀ (m : (ℓ : Loc Cert.AdamOutTopIdeal.nD Cert.AdamOutTopIdeal.τ Cert.AdamOutTopIdeal.sig) → Buf (Elt Ideal) ℓ) (g : Dev Cert.AdamOutTopIdeal.nD → PrngReg), Pre_AdamOutTopIdeal m →
    θ_run (Cert.AdamOutTopIdeal.defs (F := Ideal)) (onTc (τ := Cert.AdamOutTopIdeal.τ) (Cert.AdamOutTopIdeal.main (F := Ideal))) ⟨m, fun _ => 0, g⟩ (fun r => (∀ c : Dev Cert.AdamOutTopIdeal.nD,
      r.2.mem ((c.tc : Thread Cert.AdamOutTopIdeal.nD Cert.AdamOutTopIdeal.τ).loc Cert.AdamOutTopIdeal.main_arg0) = m ((c.tc : Thread Cert.AdamOutTopIdeal.nD Cert.AdamOutTopIdeal.τ).loc Cert.AdamOutTopIdeal.main_arg0)
      ∧ r.2.mem ((c.tc : Thread Cert.AdamOutTopIdeal.nD Cert.AdamOutTopIdeal.τ).loc Cert.AdamOutTopIdeal.main_arg1) = m ((c.tc : Thread Cert.AdamOutTopIdeal.nD Cert.AdamOutTopIdeal.τ).loc Cert.AdamOutTopIdeal.main_arg1)
      ∧ r.2.mem ((c.tc : Thread Cert.AdamOutTopIdeal.nD Cert.AdamOutTopIdeal.τ).loc Cert.AdamOutTopIdeal.main_arg2) = m ((c.tc : Thread Cert.AdamOutTopIdeal.nD Cert.AdamOutTopIdeal.τ).loc Cert.AdamOutTopIdeal.main_arg2)
      ∧ r.2.mem ((c.tc : Thread Cert.AdamOutTopIdeal.nD Cert.AdamOutTopIdeal.τ).loc Cert.AdamOutTopIdeal.main_arg3) = m ((c.tc : Thread Cert.AdamOutTopIdeal.nD Cert.AdamOutTopIdeal.τ).loc Cert.AdamOutTopIdeal.main_arg3))
      ∧ r.2.sem = fun _ => 0)

def quiescent_AdamOutTopRefIdeal [hAdamOutTopRefIdeal : Cert.AdamOutTopRefIdeal.Facts] : Prop :=
  ∀ (m : (ℓ : Loc Cert.AdamOutTopRefIdeal.nD Cert.AdamOutTopRefIdeal.τ Cert.AdamOutTopRefIdeal.sig) → Buf (Elt Ideal) ℓ) (g : Dev Cert.AdamOutTopRefIdeal.nD → PrngReg), Pre_AdamOutTopRefIdeal m →
    θ_run (Cert.AdamOutTopRefIdeal.defs (F := Ideal)) (onTc (τ := Cert.AdamOutTopRefIdeal.τ) (Cert.AdamOutTopRefIdeal.main (F := Ideal))) ⟨m, fun _ => 0, g⟩ (fun r => (∀ c : Dev Cert.AdamOutTopRefIdeal.nD,
      r.2.mem ((c.tc : Thread Cert.AdamOutTopRefIdeal.nD Cert.AdamOutTopRefIdeal.τ).loc Cert.AdamOutTopRefIdeal.main_arg0) = m ((c.tc : Thread Cert.AdamOutTopRefIdeal.nD Cert.AdamOutTopRefIdeal.τ).loc Cert.AdamOutTopRefIdeal.main_arg0)
      ∧ r.2.mem ((c.tc : Thread Cert.AdamOutTopRefIdeal.nD Cert.AdamOutTopRefIdeal.τ).loc Cert.AdamOutTopRefIdeal.main_arg1) = m ((c.tc : Thread Cert.AdamOutTopRefIdeal.nD Cert.AdamOutTopRefIdeal.τ).loc Cert.AdamOutTopRefIdeal.main_arg1)
      ∧ r.2.mem ((c.tc : Thread Cert.AdamOutTopRefIdeal.nD Cert.AdamOutTopRefIdeal.τ).loc Cert.AdamOutTopRefIdeal.main_arg2) = m ((c.tc : Thread Cert.AdamOutTopRefIdeal.nD Cert.AdamOutTopRefIdeal.τ).loc Cert.AdamOutTopRefIdeal.main_arg2)
      ∧ r.2.mem ((c.tc : Thread Cert.AdamOutTopRefIdeal.nD Cert.AdamOutTopRefIdeal.τ).loc Cert.AdamOutTopRefIdeal.main_arg3) = m ((c.tc : Thread Cert.AdamOutTopRefIdeal.nD Cert.AdamOutTopRefIdeal.τ).loc Cert.AdamOutTopRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_v190) = v2 c
          ∧ r.2.mem ((c.tc : Thread Cert.ReferenceIdeal.nD Cert.ReferenceIdeal.τ).loc Cert.ReferenceIdeal.main_v191) = v3 c
          ∧ r.2.mem ((c.tc : Thread Cert.ReferenceIdeal.nD Cert.ReferenceIdeal.τ).loc Cert.ReferenceIdeal.main_v129) = v4 c
          ∧ r.2.mem ((c.tc : Thread Cert.ReferenceIdeal.nD Cert.ReferenceIdeal.τ).loc Cert.ReferenceIdeal.main_v192) = v5 c
          ∧ r.2.mem ((c.tc : Thread Cert.ReferenceIdeal.nD Cert.ReferenceIdeal.τ).loc Cert.ReferenceIdeal.main_v193) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mlp2Dx_Mlp2DxIdeal : Prop :=
  True

def algebraic_Mlp2DxIdeal_Mlp2DxRefIdeal [hMlp2DxIdeal : Cert.Mlp2DxIdeal.Facts] [hMlp2DxRefIdeal : Cert.Mlp2DxRefIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg)
    (m' : (ℓ : Loc Cert.Mlp2DxRefIdeal.nD Cert.Mlp2DxRefIdeal.τ Cert.Mlp2DxRefIdeal.sig) → Buf (Elt Ideal) ℓ) (g' : Dev Cert.Mlp2DxRefIdeal.nD → PrngReg), Pre_Mlp2DxIdeal m →
    (∀ c : Dev Cert.Mlp2DxIdeal.nD,
      m' ((c.tc : Thread Cert.Mlp2DxRefIdeal.nD Cert.Mlp2DxRefIdeal.τ).loc Cert.Mlp2DxRefIdeal.main_arg0) = m ((c.tc : Thread Cert.Mlp2DxIdeal.nD Cert.Mlp2DxIdeal.τ).loc Cert.Mlp2DxIdeal.main_arg0)
      ∧ m' ((c.tc : Thread Cert.Mlp2DxRefIdeal.nD Cert.Mlp2DxRefIdeal.τ).loc Cert.Mlp2DxRefIdeal.main_arg1) = m ((c.tc : Thread Cert.Mlp2DxIdeal.nD Cert.Mlp2DxIdeal.τ).loc Cert.Mlp2DxIdeal.main_arg1)
      ∧ m' ((c.tc : Thread Cert.Mlp2DxRefIdeal.nD Cert.Mlp2DxRefIdeal.τ).loc Cert.Mlp2DxRefIdeal.main_arg2) = m ((c.tc : Thread Cert.Mlp2DxIdeal.nD Cert.Mlp2DxIdeal.τ).loc Cert.Mlp2DxIdeal.main_arg2)
      ∧ m' ((c.tc : Thread Cert.Mlp2DxRefIdeal.nD Cert.Mlp2DxRefIdeal.τ).loc Cert.Mlp2DxRefIdeal.main_arg3) = m ((c.tc : Thread Cert.Mlp2DxIdeal.nD Cert.Mlp2DxIdeal.τ).loc Cert.Mlp2DxIdeal.main_arg3)) →
    ∃ (v0 : (c : Dev Cert.Mlp2DxIdeal.nD) → Buf (Elt Ideal) ((c.tc : Thread Cert.Mlp2DxIdeal.nD Cert.Mlp2DxIdeal.τ).loc Cert.Mlp2DxIdeal.main_v13)),
      θ_run (Cert.Mlp2DxIdeal.defs (F := Ideal)) (onTc (τ := Cert.Mlp2DxIdeal.τ) (Cert.Mlp2DxIdeal.main (F := Ideal))) ⟨m, fun _ => 0, g⟩ (fun r => ∀ c : Dev Cert.Mlp2DxIdeal.nD,
          r.2.mem ((c.tc : Thread Cert.Mlp2DxIdeal.nD Cert.Mlp2DxIdeal.τ).loc Cert.Mlp2DxIdeal.main_v13) = v0 c
          ∧ r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
          ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
          ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2)
          ∧ r.2.mem ((c.tc : Thread Cert.Mlp2DxIdeal.nD Cert.Mlp2DxIdeal.τ).loc Cert.Mlp2DxIdeal.main_arg3) = m ((c.tc : Thread Cert.Mlp2DxIdeal.nD Cert.Mlp2DxIdeal.τ).loc Cert.Mlp2DxIdeal.main_arg3))
      ∧ θ_run (Cert.Mlp2DxRefIdeal.defs (F := Ideal)) (onTc (τ := Cert.Mlp2DxRefIdeal.τ) (Cert.Mlp2DxRefIdeal.main (F := Ideal))) ⟨m', fun _ => 0, g'⟩ (fun r => ∀ c : Dev Cert.Mlp2DxRefIdeal.nD,
          r.2.mem ((c.tc : Thread Cert.Mlp2DxRefIdeal.nD Cert.Mlp2DxRefIdeal.τ).loc Cert.Mlp2DxRefIdeal.main_v24) = v0 c
          ∧ r.2.mem ((c.tc : Thread Cert.Mlp2DxRefIdeal.nD Cert.Mlp2DxRefIdeal.τ).loc Cert.Mlp2DxRefIdeal.main_arg0) = m' ((c.tc : Thread Cert.Mlp2DxRefIdeal.nD Cert.Mlp2DxRefIdeal.τ).loc Cert.Mlp2DxRefIdeal.main_arg0)
          ∧ r.2.mem ((c.tc : Thread Cert.Mlp2DxRefIdeal.nD Cert.Mlp2DxRefIdeal.τ).loc Cert.Mlp2DxRefIdeal.main_arg1) = m' ((c.tc : Thread Cert.Mlp2DxRefIdeal.nD Cert.Mlp2DxRefIdeal.τ).loc Cert.Mlp2DxRefIdeal.main_arg1)
          ∧ r.2.mem ((c.tc : Thread Cert.Mlp2DxRefIdeal.nD Cert.Mlp2DxRefIdeal.τ).loc Cert.Mlp2DxRefIdeal.main_arg2) = m' ((c.tc : Thread Cert.Mlp2DxRefIdeal.nD Cert.Mlp2DxRefIdeal.τ).loc Cert.Mlp2DxRefIdeal.main_arg2)
          ∧ r.2.mem ((c.tc : Thread Cert.Mlp2DxRefIdeal.nD Cert.Mlp2DxRefIdeal.τ).loc Cert.Mlp2DxRefIdeal.main_arg3) = m' ((c.tc : Thread Cert.Mlp2DxRefIdeal.nD Cert.Mlp2DxRefIdeal.τ).loc Cert.Mlp2DxRefIdeal.main_arg3))

def preserves_Mlp2Dw_Mlp2DwIdeal : Prop :=
  True

def algebraic_Mlp2DwIdeal_Mlp2DwRefIdeal [hMlp2DwIdeal : Cert.Mlp2DwIdeal.Facts] [hMlp2DwRefIdeal : Cert.Mlp2DwRefIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg)
    (m' : (ℓ : Loc Cert.Mlp2DwRefIdeal.nD Cert.Mlp2DwRefIdeal.τ Cert.Mlp2DwRefIdeal.sig) → Buf (Elt Ideal) ℓ) (g' : Dev Cert.Mlp2DwRefIdeal.nD → PrngReg), Pre_Mlp2DwIdeal m →
    (∀ c : Dev Cert.Mlp2DwIdeal.nD,
      m' ((c.tc : Thread Cert.Mlp2DwRefIdeal.nD Cert.Mlp2DwRefIdeal.τ).loc Cert.Mlp2DwRefIdeal.main_arg0) = m ((c.tc : Thread Cert.Mlp2DwIdeal.nD Cert.Mlp2DwIdeal.τ).loc Cert.Mlp2DwIdeal.main_arg0)
      ∧ m' ((c.tc : Thread Cert.Mlp2DwRefIdeal.nD Cert.Mlp2DwRefIdeal.τ).loc Cert.Mlp2DwRefIdeal.main_arg1) = m ((c.tc : Thread Cert.Mlp2DwIdeal.nD Cert.Mlp2DwIdeal.τ).loc Cert.Mlp2DwIdeal.main_arg1)
      ∧ m' ((c.tc : Thread Cert.Mlp2DwRefIdeal.nD Cert.Mlp2DwRefIdeal.τ).loc Cert.Mlp2DwRefIdeal.main_arg2) = m ((c.tc : Thread Cert.Mlp2DwIdeal.nD Cert.Mlp2DwIdeal.τ).loc Cert.Mlp2DwIdeal.main_arg2)
      ∧ m' ((c.tc : Thread Cert.Mlp2DwRefIdeal.nD Cert.Mlp2DwRefIdeal.τ).loc Cert.Mlp2DwRefIdeal.main_arg3) = m ((c.tc : Thread Cert.Mlp2DwIdeal.nD Cert.Mlp2DwIdeal.τ).loc Cert.Mlp2DwIdeal.main_arg3)) →
    ∃ (v0 : (c : Dev Cert.Mlp2DwIdeal.nD) → Buf (Elt Ideal) ((c.tc : Thread Cert.Mlp2DwIdeal.nD Cert.Mlp2DwIdeal.τ).loc Cert.Mlp2DwIdeal.main_v12)),
      θ_run (Cert.Mlp2DwIdeal.defs (F := Ideal)) (onTc (τ := Cert.Mlp2DwIdeal.τ) (Cert.Mlp2DwIdeal.main (F := Ideal))) ⟨m, fun _ => 0, g⟩ (fun r => ∀ c : Dev Cert.Mlp2DwIdeal.nD,
          r.2.mem ((c.tc : Thread Cert.Mlp2DwIdeal.nD Cert.Mlp2DwIdeal.τ).loc Cert.Mlp2DwIdeal.main_v12) = v0 c
          ∧ r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
          ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1)
          ∧ r.2.mem ((c.tc : Thread Cert.Mlp2DwIdeal.nD Cert.Mlp2DwIdeal.τ).loc Cert.Mlp2DwIdeal.main_arg2) = m ((c.tc : Thread Cert.Mlp2DwIdeal.nD Cert.Mlp2DwIdeal.τ).loc Cert.Mlp2DwIdeal.main_arg2)
          ∧ r.2.mem ((c.tc : Thread Cert.Mlp2DwIdeal.nD Cert.Mlp2DwIdeal.τ).loc Cert.Mlp2DwIdeal.main_arg3) = m ((c.tc : Thread Cert.Mlp2DwIdeal.nD Cert.Mlp2DwIdeal.τ).loc Cert.Mlp2DwIdeal.main_arg3))
      ∧ θ_run (Cert.Mlp2DwRefIdeal.defs (F := Ideal)) (onTc (τ := Cert.Mlp2DwRefIdeal.τ) (Cert.Mlp2DwRefIdeal.main (F := Ideal))) ⟨m', fun _ => 0, g'⟩ (fun r => ∀ c : Dev Cert.Mlp2DwRefIdeal.nD,
          r.2.mem ((c.tc : Thread Cert.Mlp2DwRefIdeal.nD Cert.Mlp2DwRefIdeal.τ).loc Cert.Mlp2DwRefIdeal.main_v24) = v0 c
          ∧ r.2.mem ((c.tc : Thread Cert.Mlp2DwRefIdeal.nD Cert.Mlp2DwRefIdeal.τ).loc Cert.Mlp2DwRefIdeal.main_arg0) = m' ((c.tc : Thread Cert.Mlp2DwRefIdeal.nD Cert.Mlp2DwRefIdeal.τ).loc Cert.Mlp2DwRefIdeal.main_arg0)
          ∧ r.2.mem ((c.tc : Thread Cert.Mlp2DwRefIdeal.nD Cert.Mlp2DwRefIdeal.τ).loc Cert.Mlp2DwRefIdeal.main_arg1) = m' ((c.tc : Thread Cert.Mlp2DwRefIdeal.nD Cert.Mlp2DwRefIdeal.τ).loc Cert.Mlp2DwRefIdeal.main_arg1)
          ∧ r.2.mem ((c.tc : Thread Cert.Mlp2DwRefIdeal.nD Cert.Mlp2DwRefIdeal.τ).loc Cert.Mlp2DwRefIdeal.main_arg2) = m' ((c.tc : Thread Cert.Mlp2DwRefIdeal.nD Cert.Mlp2DwRefIdeal.τ).loc Cert.Mlp2DwRefIdeal.main_arg2)
          ∧ r.2.mem ((c.tc : Thread Cert.Mlp2DwRefIdeal.nD Cert.Mlp2DwRefIdeal.τ).loc Cert.Mlp2DwRefIdeal.main_arg3) = m' ((c.tc : Thread Cert.Mlp2DwRefIdeal.nD Cert.Mlp2DwRefIdeal.τ).loc Cert.Mlp2DwRefIdeal.main_arg3))

def preserves_Mlp1Dw_Mlp1DwIdeal : Prop :=
  True

def algebraic_Mlp1DwIdeal_Mlp1DwRefIdeal [hMlp1DwIdeal : Cert.Mlp1DwIdeal.Facts] [hMlp1DwRefIdeal : Cert.Mlp1DwRefIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg)
    (m' : (ℓ : Loc Cert.Mlp1DwRefIdeal.nD Cert.Mlp1DwRefIdeal.τ Cert.Mlp1DwRefIdeal.sig) → Buf (Elt Ideal) ℓ) (g' : Dev Cert.Mlp1DwRefIdeal.nD → PrngReg), Pre_Mlp1DwIdeal m →
    (∀ c : Dev Cert.Mlp1DwIdeal.nD,
      m' ((c.tc : Thread Cert.Mlp1DwRefIdeal.nD Cert.Mlp1DwRefIdeal.τ).loc Cert.Mlp1DwRefIdeal.main_arg0) = m ((c.tc : Thread Cert.Mlp1DwIdeal.nD Cert.Mlp1DwIdeal.τ).loc Cert.Mlp1DwIdeal.main_arg0)
      ∧ m' ((c.tc : Thread Cert.Mlp1DwRefIdeal.nD Cert.Mlp1DwRefIdeal.τ).loc Cert.Mlp1DwRefIdeal.main_arg1) = m ((c.tc : Thread Cert.Mlp1DwIdeal.nD Cert.Mlp1DwIdeal.τ).loc Cert.Mlp1DwIdeal.main_arg1)
      ∧ m' ((c.tc : Thread Cert.Mlp1DwRefIdeal.nD Cert.Mlp1DwRefIdeal.τ).loc Cert.Mlp1DwRefIdeal.main_arg2) = m ((c.tc : Thread Cert.Mlp1DwIdeal.nD Cert.Mlp1DwIdeal.τ).loc Cert.Mlp1DwIdeal.main_arg2)) →
    ∃ (v0 : (c : Dev Cert.Mlp1DwIdeal.nD) → Buf (Elt Ideal) ((c.tc : Thread Cert.Mlp1DwIdeal.nD Cert.Mlp1DwIdeal.τ).loc Cert.Mlp1DwIdeal.main_v2)),
      θ_run (Cert.Mlp1DwIdeal.defs (F := Ideal)) (onTc (τ := Cert.Mlp1DwIdeal.τ) (Cert.Mlp1DwIdeal.main (F := Ideal))) ⟨m, fun _ => 0, g⟩ (fun r => ∀ c : Dev Cert.Mlp1DwIdeal.nD,
          r.2.mem ((c.tc : Thread Cert.Mlp1DwIdeal.nD Cert.Mlp1DwIdeal.τ).loc Cert.Mlp1DwIdeal.main_v2) = v0 c
          ∧ r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
          ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1)
          ∧ r.2.mem ((c.tc : Thread Cert.Mlp1DwIdeal.nD Cert.Mlp1DwIdeal.τ).loc Cert.Mlp1DwIdeal.main_arg2) = m ((c.tc : Thread Cert.Mlp1DwIdeal.nD Cert.Mlp1DwIdeal.τ).loc Cert.Mlp1DwIdeal.main_arg2))
      ∧ θ_run (Cert.Mlp1DwRefIdeal.defs (F := Ideal)) (onTc (τ := Cert.Mlp1DwRefIdeal.τ) (Cert.Mlp1DwRefIdeal.main (F := Ideal))) ⟨m', fun _ => 0, g'⟩ (fun r => ∀ c : Dev Cert.Mlp1DwRefIdeal.nD,
          r.2.mem ((c.tc : Thread Cert.Mlp1DwRefIdeal.nD Cert.Mlp1DwRefIdeal.τ).loc Cert.Mlp1DwRefIdeal.main_v27) = v0 c
          ∧ r.2.mem ((c.tc : Thread Cert.Mlp1DwRefIdeal.nD Cert.Mlp1DwRefIdeal.τ).loc Cert.Mlp1DwRefIdeal.main_arg0) = m' ((c.tc : Thread Cert.Mlp1DwRefIdeal.nD Cert.Mlp1DwRefIdeal.τ).loc Cert.Mlp1DwRefIdeal.main_arg0)
          ∧ r.2.mem ((c.tc : Thread Cert.Mlp1DwRefIdeal.nD Cert.Mlp1DwRefIdeal.τ).loc Cert.Mlp1DwRefIdeal.main_arg1) = m' ((c.tc : Thread Cert.Mlp1DwRefIdeal.nD Cert.Mlp1DwRefIdeal.τ).loc Cert.Mlp1DwRefIdeal.main_arg1)
          ∧ r.2.mem ((c.tc : Thread Cert.Mlp1DwRefIdeal.nD Cert.Mlp1DwRefIdeal.τ).loc Cert.Mlp1DwRefIdeal.main_arg2) = m' ((c.tc : Thread Cert.Mlp1DwRefIdeal.nD Cert.Mlp1DwRefIdeal.τ).loc Cert.Mlp1DwRefIdeal.main_arg2))

def preserves_Mlp1Dx_Mlp1DxIdeal : Prop :=
  True

def algebraic_Mlp1DxIdeal_Mlp1DxRefIdeal [hMlp1DxIdeal : Cert.Mlp1DxIdeal.Facts] [hMlp1DxRefIdeal : Cert.Mlp1DxRefIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg)
    (m' : (ℓ : Loc Cert.Mlp1DxRefIdeal.nD Cert.Mlp1DxRefIdeal.τ Cert.Mlp1DxRefIdeal.sig) → Buf (Elt Ideal) ℓ) (g' : Dev Cert.Mlp1DxRefIdeal.nD → PrngReg), Pre_Mlp1DxIdeal m →
    (∀ c : Dev Cert.Mlp1DxIdeal.nD,
      m' ((c.tc : Thread Cert.Mlp1DxRefIdeal.nD Cert.Mlp1DxRefIdeal.τ).loc Cert.Mlp1DxRefIdeal.main_arg0) = m ((c.tc : Thread Cert.Mlp1DxIdeal.nD Cert.Mlp1DxIdeal.τ).loc Cert.Mlp1DxIdeal.main_arg0)
      ∧ m' ((c.tc : Thread Cert.Mlp1DxRefIdeal.nD Cert.Mlp1DxRefIdeal.τ).loc Cert.Mlp1DxRefIdeal.main_arg1) = m ((c.tc : Thread Cert.Mlp1DxIdeal.nD Cert.Mlp1DxIdeal.τ).loc Cert.Mlp1DxIdeal.main_arg1)
      ∧ m' ((c.tc : Thread Cert.Mlp1DxRefIdeal.nD Cert.Mlp1DxRefIdeal.τ).loc Cert.Mlp1DxRefIdeal.main_arg2) = m ((c.tc : Thread Cert.Mlp1DxIdeal.nD Cert.Mlp1DxIdeal.τ).loc Cert.Mlp1DxIdeal.main_arg2)) →
    ∃ (v0 : (c : Dev Cert.Mlp1DxIdeal.nD) → Buf (Elt Ideal) ((c.tc : Thread Cert.Mlp1DxIdeal.nD Cert.Mlp1DxIdeal.τ).loc Cert.Mlp1DxIdeal.main_v2)),
      θ_run (Cert.Mlp1DxIdeal.defs (F := Ideal)) (onTc (τ := Cert.Mlp1DxIdeal.τ) (Cert.Mlp1DxIdeal.main (F := Ideal))) ⟨m, fun _ => 0, g⟩ (fun r => ∀ c : Dev Cert.Mlp1DxIdeal.nD,
          r.2.mem ((c.tc : Thread Cert.Mlp1DxIdeal.nD Cert.Mlp1DxIdeal.τ).loc Cert.Mlp1DxIdeal.main_v2) = v0 c
          ∧ r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
          ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1)
          ∧ r.2.mem ((c.tc : Thread Cert.Mlp1DxIdeal.nD Cert.Mlp1DxIdeal.τ).loc Cert.Mlp1DxIdeal.main_arg2) = m ((c.tc : Thread Cert.Mlp1DxIdeal.nD Cert.Mlp1DxIdeal.τ).loc Cert.Mlp1DxIdeal.main_arg2))
      ∧ θ_run (Cert.Mlp1DxRefIdeal.defs (F := Ideal)) (onTc (τ := Cert.Mlp1DxRefIdeal.τ) (Cert.Mlp1DxRefIdeal.main (F := Ideal))) ⟨m', fun _ => 0, g'⟩ (fun r => ∀ c : Dev Cert.Mlp1DxRefIdeal.nD,
          r.2.mem ((c.tc : Thread Cert.Mlp1DxRefIdeal.nD Cert.Mlp1DxRefIdeal.τ).loc Cert.Mlp1DxRefIdeal.main_v12) = v0 c
          ∧ r.2.mem ((c.tc : Thread Cert.Mlp1DxRefIdeal.nD Cert.Mlp1DxRefIdeal.τ).loc Cert.Mlp1DxRefIdeal.main_arg0) = m' ((c.tc : Thread Cert.Mlp1DxRefIdeal.nD Cert.Mlp1DxRefIdeal.τ).loc Cert.Mlp1DxRefIdeal.main_arg0)
          ∧ r.2.mem ((c.tc : Thread Cert.Mlp1DxRefIdeal.nD Cert.Mlp1DxRefIdeal.τ).loc Cert.Mlp1DxRefIdeal.main_arg1) = m' ((c.tc : Thread Cert.Mlp1DxRefIdeal.nD Cert.Mlp1DxRefIdeal.τ).loc Cert.Mlp1DxRefIdeal.main_arg1)
          ∧ r.2.mem ((c.tc : Thread Cert.Mlp1DxRefIdeal.nD Cert.Mlp1DxRefIdeal.τ).loc Cert.Mlp1DxRefIdeal.main_arg2) = m' ((c.tc : Thread Cert.Mlp1DxRefIdeal.nD Cert.Mlp1DxRefIdeal.τ).loc Cert.Mlp1DxRefIdeal.main_arg2))

def preserves_ProjOutDx_ProjOutDxIdeal : Prop :=
  True

def algebraic_ProjOutDxIdeal_ProjOutDxRefIdeal [hProjOutDxIdeal : Cert.ProjOutDxIdeal.Facts] [hProjOutDxRefIdeal : Cert.ProjOutDxRefIdeal.Facts] : Prop :=
  ∀ (m : (ℓ : Loc Cert.ProjOutDxIdeal.nD Cert.ProjOutDxIdeal.τ Cert.ProjOutDxIdeal.sig) → Buf (Elt Ideal) ℓ) (g : Dev Cert.ProjOutDxIdeal.nD → PrngReg)
    (m' : (ℓ : Loc Cert.ProjOutDxRefIdeal.nD Cert.ProjOutDxRefIdeal.τ Cert.ProjOutDxRefIdeal.sig) → Buf (Elt Ideal) ℓ) (g' : Dev Cert.ProjOutDxRefIdeal.nD → PrngReg), Pre_ProjOutDxIdeal m →
    (∀ c : Dev Cert.ProjOutDxIdeal.nD,
      m' ((c.tc : Thread Cert.ProjOutDxRefIdeal.nD Cert.ProjOutDxRefIdeal.τ).loc Cert.ProjOutDxRefIdeal.main_arg0) = m ((c.tc : Thread Cert.ProjOutDxIdeal.nD Cert.ProjOutDxIdeal.τ).loc Cert.ProjOutDxIdeal.main_arg0)
      ∧ m' ((c.tc : Thread Cert.ProjOutDxRefIdeal.nD Cert.ProjOutDxRefIdeal.τ).loc Cert.ProjOutDxRefIdeal.main_arg1) = m ((c.tc : Thread Cert.ProjOutDxIdeal.nD Cert.ProjOutDxIdeal.τ).loc Cert.ProjOutDxIdeal.main_arg1)
      ∧ m' ((c.tc : Thread Cert.ProjOutDxRefIdeal.nD Cert.ProjOutDxRefIdeal.τ).loc Cert.ProjOutDxRefIdeal.main_arg2) = m ((c.tc : Thread Cert.ProjOutDxIdeal.nD Cert.ProjOutDxIdeal.τ).loc Cert.ProjOutDxIdeal.main_arg2)) →
    ∃ (v0 : (c : Dev Cert.ProjOutDxIdeal.nD) → Buf (Elt Ideal) ((c.tc : Thread Cert.ProjOutDxIdeal.nD Cert.ProjOutDxIdeal.τ).loc Cert.ProjOutDxIdeal.main_v2)),
      θ_run (Cert.ProjOutDxIdeal.defs (F := Ideal)) (onTc (τ := Cert.ProjOutDxIdeal.τ) (Cert.ProjOutDxIdeal.main (F := Ideal))) ⟨m, fun _ => 0, g⟩ (fun r => ∀ c : Dev Cert.ProjOutDxIdeal.nD,
          r.2.mem ((c.tc : Thread Cert.ProjOutDxIdeal.nD Cert.ProjOutDxIdeal.τ).loc Cert.ProjOutDxIdeal.main_v2) = v0 c
          ∧ r.2.mem ((c.tc : Thread Cert.ProjOutDxIdeal.nD Cert.ProjOutDxIdeal.τ).loc Cert.ProjOutDxIdeal.main_arg0) = m ((c.tc : Thread Cert.ProjOutDxIdeal.nD Cert.ProjOutDxIdeal.τ).loc Cert.ProjOutDxIdeal.main_arg0)
          ∧ r.2.mem ((c.tc : Thread Cert.ProjOutDxIdeal.nD Cert.ProjOutDxIdeal.τ).loc Cert.ProjOutDxIdeal.main_arg1) = m ((c.tc : Thread Cert.ProjOutDxIdeal.nD Cert.ProjOutDxIdeal.τ).loc Cert.ProjOutDxIdeal.main_arg1)
          ∧ r.2.mem ((c.tc : Thread Cert.ProjOutDxIdeal.nD Cert.ProjOutDxIdeal.τ).loc Cert.ProjOutDxIdeal.main_arg2) = m ((c.tc : Thread Cert.ProjOutDxIdeal.nD Cert.ProjOutDxIdeal.τ).loc Cert.ProjOutDxIdeal.main_arg2))
      ∧ θ_run (Cert.ProjOutDxRefIdeal.defs (F := Ideal)) (onTc (τ := Cert.ProjOutDxRefIdeal.τ) (Cert.ProjOutDxRefIdeal.main (F := Ideal))) ⟨m', fun _ => 0, g'⟩ (fun r => ∀ c : Dev Cert.ProjOutDxRefIdeal.nD,
          r.2.mem ((c.tc : Thread Cert.ProjOutDxRefIdeal.nD Cert.ProjOutDxRefIdeal.τ).loc Cert.ProjOutDxRefIdeal.main_v3) = v0 c
          ∧ r.2.mem ((c.tc : Thread Cert.ProjOutDxRefIdeal.nD Cert.ProjOutDxRefIdeal.τ).loc Cert.ProjOutDxRefIdeal.main_arg0) = m' ((c.tc : Thread Cert.ProjOutDxRefIdeal.nD Cert.ProjOutDxRefIdeal.τ).loc Cert.ProjOutDxRefIdeal.main_arg0)
          ∧ r.2.mem ((c.tc : Thread Cert.ProjOutDxRefIdeal.nD Cert.ProjOutDxRefIdeal.τ).loc Cert.ProjOutDxRefIdeal.main_arg1) = m' ((c.tc : Thread Cert.ProjOutDxRefIdeal.nD Cert.ProjOutDxRefIdeal.τ).loc Cert.ProjOutDxRefIdeal.main_arg1)
          ∧ r.2.mem ((c.tc : Thread Cert.ProjOutDxRefIdeal.nD Cert.ProjOutDxRefIdeal.τ).loc Cert.ProjOutDxRefIdeal.main_arg2) = m' ((c.tc : Thread Cert.ProjOutDxRefIdeal.nD Cert.ProjOutDxRefIdeal.τ).loc Cert.ProjOutDxRefIdeal.main_arg2))

def preserves_ProjOutDw_ProjOutDwIdeal : Prop :=
  True

def algebraic_ProjOutDwIdeal_ProjOutDwRefIdeal [hProjOutDwIdeal : Cert.ProjOutDwIdeal.Facts] [hProjOutDwRefIdeal : Cert.ProjOutDwRefIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg)
    (m' : (ℓ : Loc Cert.ProjOutDwRefIdeal.nD Cert.ProjOutDwRefIdeal.τ Cert.ProjOutDwRefIdeal.sig) → Buf (Elt Ideal) ℓ) (g' : Dev Cert.ProjOutDwRefIdeal.nD → PrngReg), Pre_ProjOutDwIdeal m →
    (∀ c : Dev Cert.ProjOutDwIdeal.nD,
      m' ((c.tc : Thread Cert.ProjOutDwRefIdeal.nD Cert.ProjOutDwRefIdeal.τ).loc Cert.ProjOutDwRefIdeal.main_arg0) = m ((c.tc : Thread Cert.ProjOutDwIdeal.nD Cert.ProjOutDwIdeal.τ).loc Cert.ProjOutDwIdeal.main_arg0)
      ∧ m' ((c.tc : Thread Cert.ProjOutDwRefIdeal.nD Cert.ProjOutDwRefIdeal.τ).loc Cert.ProjOutDwRefIdeal.main_arg1) = m ((c.tc : Thread Cert.ProjOutDwIdeal.nD Cert.ProjOutDwIdeal.τ).loc Cert.ProjOutDwIdeal.main_arg1)
      ∧ m' ((c.tc : Thread Cert.ProjOutDwRefIdeal.nD Cert.ProjOutDwRefIdeal.τ).loc Cert.ProjOutDwRefIdeal.main_arg2) = m ((c.tc : Thread Cert.ProjOutDwIdeal.nD Cert.ProjOutDwIdeal.τ).loc Cert.ProjOutDwIdeal.main_arg2)) →
    ∃ (v0 : (c : Dev Cert.ProjOutDwIdeal.nD) → Buf (Elt Ideal) ((c.tc : Thread Cert.ProjOutDwIdeal.nD Cert.ProjOutDwIdeal.τ).loc Cert.ProjOutDwIdeal.main_v2)),
      θ_run (Cert.ProjOutDwIdeal.defs (F := Ideal)) (onTc (τ := Cert.ProjOutDwIdeal.τ) (Cert.ProjOutDwIdeal.main (F := Ideal))) ⟨m, fun _ => 0, g⟩ (fun r => ∀ c : Dev Cert.ProjOutDwIdeal.nD,
          r.2.mem ((c.tc : Thread Cert.ProjOutDwIdeal.nD Cert.ProjOutDwIdeal.τ).loc Cert.ProjOutDwIdeal.main_v2) = v0 c
          ∧ r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
          ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1)
          ∧ r.2.mem ((c.tc : Thread Cert.ProjOutDwIdeal.nD Cert.ProjOutDwIdeal.τ).loc Cert.ProjOutDwIdeal.main_arg2) = m ((c.tc : Thread Cert.ProjOutDwIdeal.nD Cert.ProjOutDwIdeal.τ).loc Cert.ProjOutDwIdeal.main_arg2))
      ∧ θ_run (Cert.ProjOutDwRefIdeal.defs (F := Ideal)) (onTc (τ := Cert.ProjOutDwRefIdeal.τ) (Cert.ProjOutDwRefIdeal.main (F := Ideal))) ⟨m', fun _ => 0, g'⟩ (fun r => ∀ c : Dev Cert.ProjOutDwRefIdeal.nD,
          r.2.mem ((c.tc : Thread Cert.ProjOutDwRefIdeal.nD Cert.ProjOutDwRefIdeal.τ).loc Cert.ProjOutDwRefIdeal.main_v4) = v0 c
          ∧ r.2.mem ((c.tc : Thread Cert.ProjOutDwRefIdeal.nD Cert.ProjOutDwRefIdeal.τ).loc Cert.ProjOutDwRefIdeal.main_arg0) = m' ((c.tc : Thread Cert.ProjOutDwRefIdeal.nD Cert.ProjOutDwRefIdeal.τ).loc Cert.ProjOutDwRefIdeal.main_arg0)
          ∧ r.2.mem ((c.tc : Thread Cert.ProjOutDwRefIdeal.nD Cert.ProjOutDwRefIdeal.τ).loc Cert.ProjOutDwRefIdeal.main_arg1) = m' ((c.tc : Thread Cert.ProjOutDwRefIdeal.nD Cert.ProjOutDwRefIdeal.τ).loc Cert.ProjOutDwRefIdeal.main_arg1)
          ∧ r.2.mem ((c.tc : Thread Cert.ProjOutDwRefIdeal.nD Cert.ProjOutDwRefIdeal.τ).loc Cert.ProjOutDwRefIdeal.main_arg2) = m' ((c.tc : Thread Cert.ProjOutDwRefIdeal.nD Cert.ProjOutDwRefIdeal.τ).loc Cert.ProjOutDwRefIdeal.main_arg2))

def preserves_ProjInDw_ProjInDwIdeal : Prop :=
  True

def algebraic_ProjInDwIdeal_ProjInDwRefIdeal [hProjInDwIdeal : Cert.ProjInDwIdeal.Facts] [hProjInDwRefIdeal : Cert.ProjInDwRefIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg)
    (m' : (ℓ : Loc Cert.ProjInDwRefIdeal.nD Cert.ProjInDwRefIdeal.τ Cert.ProjInDwRefIdeal.sig) → Buf (Elt Ideal) ℓ) (g' : Dev Cert.ProjInDwRefIdeal.nD → PrngReg), Pre_ProjInDwIdeal m →
    (∀ c : Dev Cert.ProjInDwIdeal.nD,
      m' ((c.tc : Thread Cert.ProjInDwRefIdeal.nD Cert.ProjInDwRefIdeal.τ).loc Cert.ProjInDwRefIdeal.main_arg0) = m ((c.tc : Thread Cert.ProjInDwIdeal.nD Cert.ProjInDwIdeal.τ).loc Cert.ProjInDwIdeal.main_arg0)
      ∧ m' ((c.tc : Thread Cert.ProjInDwRefIdeal.nD Cert.ProjInDwRefIdeal.τ).loc Cert.ProjInDwRefIdeal.main_arg1) = m ((c.tc : Thread Cert.ProjInDwIdeal.nD Cert.ProjInDwIdeal.τ).loc Cert.ProjInDwIdeal.main_arg1)
      ∧ m' ((c.tc : Thread Cert.ProjInDwRefIdeal.nD Cert.ProjInDwRefIdeal.τ).loc Cert.ProjInDwRefIdeal.main_arg2) = m ((c.tc : Thread Cert.ProjInDwIdeal.nD Cert.ProjInDwIdeal.τ).loc Cert.ProjInDwIdeal.main_arg2)) →
    ∃ (v0 : (c : Dev Cert.ProjInDwIdeal.nD) → Buf (Elt Ideal) ((c.tc : Thread Cert.ProjInDwIdeal.nD Cert.ProjInDwIdeal.τ).loc Cert.ProjInDwIdeal.main_v3)),
      θ_run (Cert.ProjInDwIdeal.defs (F := Ideal)) (onTc (τ := Cert.ProjInDwIdeal.τ) (Cert.ProjInDwIdeal.main (F := Ideal))) ⟨m, fun _ => 0, g⟩ (fun r => ∀ c : Dev Cert.ProjInDwIdeal.nD,
          r.2.mem ((c.tc : Thread Cert.ProjInDwIdeal.nD Cert.ProjInDwIdeal.τ).loc Cert.ProjInDwIdeal.main_v3) = v0 c
          ∧ r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
          ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1)
          ∧ r.2.mem ((c.tc : Thread Cert.ProjInDwIdeal.nD Cert.ProjInDwIdeal.τ).loc Cert.ProjInDwIdeal.main_arg2) = m ((c.tc : Thread Cert.ProjInDwIdeal.nD Cert.ProjInDwIdeal.τ).loc Cert.ProjInDwIdeal.main_arg2))
      ∧ θ_run (Cert.ProjInDwRefIdeal.defs (F := Ideal)) (onTc (τ := Cert.ProjInDwRefIdeal.τ) (Cert.ProjInDwRefIdeal.main (F := Ideal))) ⟨m', fun _ => 0, g'⟩ (fun r => ∀ c : Dev Cert.ProjInDwRefIdeal.nD,
          r.2.mem ((c.tc : Thread Cert.ProjInDwRefIdeal.nD Cert.ProjInDwRefIdeal.τ).loc Cert.ProjInDwRefIdeal.main_v13) = v0 c
          ∧ r.2.mem ((c.tc : Thread Cert.ProjInDwRefIdeal.nD Cert.ProjInDwRefIdeal.τ).loc Cert.ProjInDwRefIdeal.main_arg0) = m' ((c.tc : Thread Cert.ProjInDwRefIdeal.nD Cert.ProjInDwRefIdeal.τ).loc Cert.ProjInDwRefIdeal.main_arg0)
          ∧ r.2.mem ((c.tc : Thread Cert.ProjInDwRefIdeal.nD Cert.ProjInDwRefIdeal.τ).loc Cert.ProjInDwRefIdeal.main_arg1) = m' ((c.tc : Thread Cert.ProjInDwRefIdeal.nD Cert.ProjInDwRefIdeal.τ).loc Cert.ProjInDwRefIdeal.main_arg1)
          ∧ r.2.mem ((c.tc : Thread Cert.ProjInDwRefIdeal.nD Cert.ProjInDwRefIdeal.τ).loc Cert.ProjInDwRefIdeal.main_arg2) = m' ((c.tc : Thread Cert.ProjInDwRefIdeal.nD Cert.ProjInDwRefIdeal.τ).loc Cert.ProjInDwRefIdeal.main_arg2))

def preserves_ProjInDx_ProjInDxIdeal : Prop :=
  True

def algebraic_ProjInDxIdeal_ProjInDxRefIdeal [hProjInDxIdeal : Cert.ProjInDxIdeal.Facts] [hProjInDxRefIdeal : Cert.ProjInDxRefIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg)
    (m' : (ℓ : Loc Cert.ProjInDxRefIdeal.nD Cert.ProjInDxRefIdeal.τ Cert.ProjInDxRefIdeal.sig) → Buf (Elt Ideal) ℓ) (g' : Dev Cert.ProjInDxRefIdeal.nD → PrngReg), Pre_ProjInDxIdeal m →
    (∀ c : Dev Cert.ProjInDxIdeal.nD,
      m' ((c.tc : Thread Cert.ProjInDxRefIdeal.nD Cert.ProjInDxRefIdeal.τ).loc Cert.ProjInDxRefIdeal.main_arg0) = m ((c.tc : Thread Cert.ProjInDxIdeal.nD Cert.ProjInDxIdeal.τ).loc Cert.ProjInDxIdeal.main_arg0)
      ∧ m' ((c.tc : Thread Cert.ProjInDxRefIdeal.nD Cert.ProjInDxRefIdeal.τ).loc Cert.ProjInDxRefIdeal.main_arg1) = m ((c.tc : Thread Cert.ProjInDxIdeal.nD Cert.ProjInDxIdeal.τ).loc Cert.ProjInDxIdeal.main_arg1)
      ∧ m' ((c.tc : Thread Cert.ProjInDxRefIdeal.nD Cert.ProjInDxRefIdeal.τ).loc Cert.ProjInDxRefIdeal.main_arg2) = m ((c.tc : Thread Cert.ProjInDxIdeal.nD Cert.ProjInDxIdeal.τ).loc Cert.ProjInDxIdeal.main_arg2)) →
    ∃ (v0 : (c : Dev Cert.ProjInDxIdeal.nD) → Buf (Elt Ideal) ((c.tc : Thread Cert.ProjInDxIdeal.nD Cert.ProjInDxIdeal.τ).loc Cert.ProjInDxIdeal.main_v6)),
      θ_run (Cert.ProjInDxIdeal.defs (F := Ideal)) (onTc (τ := Cert.ProjInDxIdeal.τ) (Cert.ProjInDxIdeal.main (F := Ideal))) ⟨m, fun _ => 0, g⟩ (fun r => ∀ c : Dev Cert.ProjInDxIdeal.nD,
          r.2.mem ((c.tc : Thread Cert.ProjInDxIdeal.nD Cert.ProjInDxIdeal.τ).loc Cert.ProjInDxIdeal.main_v6) = v0 c
          ∧ r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
          ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
          ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2))
      ∧ θ_run (Cert.ProjInDxRefIdeal.defs (F := Ideal)) (onTc (τ := Cert.ProjInDxRefIdeal.τ) (Cert.ProjInDxRefIdeal.main (F := Ideal))) ⟨m', fun _ => 0, g'⟩ (fun r => ∀ c : Dev Cert.ProjInDxRefIdeal.nD,
          r.2.mem ((c.tc : Thread Cert.ProjInDxRefIdeal.nD Cert.ProjInDxRefIdeal.τ).loc Cert.ProjInDxRefIdeal.main_v12) = v0 c
          ∧ r.2.mem ((c.tc : Thread Cert.ProjInDxRefIdeal.nD Cert.ProjInDxRefIdeal.τ).loc Cert.ProjInDxRefIdeal.main_arg0) = m' ((c.tc : Thread Cert.ProjInDxRefIdeal.nD Cert.ProjInDxRefIdeal.τ).loc Cert.ProjInDxRefIdeal.main_arg0)
          ∧ r.2.mem ((c.tc : Thread Cert.ProjInDxRefIdeal.nD Cert.ProjInDxRefIdeal.τ).loc Cert.ProjInDxRefIdeal.main_arg1) = m' ((c.tc : Thread Cert.ProjInDxRefIdeal.nD Cert.ProjInDxRefIdeal.τ).loc Cert.ProjInDxRefIdeal.main_arg1)
          ∧ r.2.mem ((c.tc : Thread Cert.ProjInDxRefIdeal.nD Cert.ProjInDxRefIdeal.τ).loc Cert.ProjInDxRefIdeal.main_arg2) = m' ((c.tc : Thread Cert.ProjInDxRefIdeal.nD Cert.ProjInDxRefIdeal.τ).loc Cert.ProjInDxRefIdeal.main_arg2))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)) →
    ∃ (v0 : (c : Dev Cert.GateBwdIdeal.nD) → Buf (Elt Ideal) ((c.tc : Thread Cert.GateBwdIdeal.nD Cert.GateBwdIdeal.τ).loc Cert.GateBwdIdeal.main_v1_0)) (v1 : (c : Dev Cert.GateBwdIdeal.nD) → Buf (Elt Ideal) ((c.tc : Thread Cert.GateBwdIdeal.nD Cert.GateBwdIdeal.τ).loc Cert.GateBwdIdeal.main_v1_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v1_0) = v0 c
          ∧ r.2.mem ((c.tc : Thread Cert.GateBwdIdeal.nD Cert.GateBwdIdeal.τ).loc Cert.GateBwdIdeal.main_v1_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v9) = v0 c
          ∧ r.2.mem ((c.tc : Thread Cert.GateBwdRefIdeal.nD Cert.GateBwdRefIdeal.τ).loc Cert.GateBwdRefIdeal.main_v10) = v1 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v5)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v5) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v10) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)) →
    ∃ (v0 : (c : Dev Cert.ProjOutIdeal.nD) → Buf (Elt Ideal) ((c.tc : Thread Cert.ProjOutIdeal.nD Cert.ProjOutIdeal.τ).loc Cert.ProjOutIdeal.main_v4_0)) (v1 : (c : Dev Cert.ProjOutIdeal.nD) → Buf (Elt Ideal) ((c.tc : Thread Cert.ProjOutIdeal.nD Cert.ProjOutIdeal.τ).loc Cert.ProjOutIdeal.main_v4_1)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v4_0) = v0 c
          ∧ r.2.mem ((c.tc : Thread Cert.ProjOutIdeal.nD Cert.ProjOutIdeal.τ).loc Cert.ProjOutIdeal.main_v4_1) = v1 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v0) = v0 c
          ∧ r.2.mem ((c.tc : Thread Cert.ProjOutRefIdeal.nD Cert.ProjOutRefIdeal.τ).loc Cert.ProjOutRefIdeal.main_v6) = v1 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3))

def preserves_Mlp1_Mlp1Ideal : Prop :=
  True

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)) →
    ∃ (v0 : (c : Dev Cert.Mlp1Ideal.nD) → Buf (Elt Ideal) ((c.tc : Thread Cert.Mlp1Ideal.nD Cert.Mlp1Ideal.τ).loc Cert.Mlp1Ideal.main_v2)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v2) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v10) = v0 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1))

def preserves_Mlp2_Mlp2Ideal : Prop :=
  True

def algebraic_Mlp2Ideal_Mlp2RefIdeal [hMlp2Ideal : Cert.Mlp2Ideal.Facts] [hMlp2RefIdeal : Cert.Mlp2RefIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2RefIdeal.nD Cert.Mlp2RefIdeal.τ Cert.Mlp2RefIdeal.sig) → Buf (Elt Ideal) ℓ) (g' : Dev Cert.Mlp2RefIdeal.nD → PrngReg), Pre_Mlp2Ideal m →
    (∀ c : Dev Cert.Mlp2Ideal.nD,
      m' ((c.tc : Thread Cert.Mlp2RefIdeal.nD Cert.Mlp2RefIdeal.τ).loc Cert.Mlp2RefIdeal.main_arg0) = m ((c.tc : Thread Cert.Mlp2Ideal.nD Cert.Mlp2Ideal.τ).loc Cert.Mlp2Ideal.main_arg0)
      ∧ m' ((c.tc : Thread Cert.Mlp2RefIdeal.nD Cert.Mlp2RefIdeal.τ).loc Cert.Mlp2RefIdeal.main_arg1) = m ((c.tc : Thread Cert.Mlp2Ideal.nD Cert.Mlp2Ideal.τ).loc Cert.Mlp2Ideal.main_arg1)
      ∧ m' ((c.tc : Thread Cert.Mlp2RefIdeal.nD Cert.Mlp2RefIdeal.τ).loc Cert.Mlp2RefIdeal.main_arg2) = m ((c.tc : Thread Cert.Mlp2Ideal.nD Cert.Mlp2Ideal.τ).loc Cert.Mlp2Ideal.main_arg2)
      ∧ m' ((c.tc : Thread Cert.Mlp2RefIdeal.nD Cert.Mlp2RefIdeal.τ).loc Cert.Mlp2RefIdeal.main_arg3) = m ((c.tc : Thread Cert.Mlp2Ideal.nD Cert.Mlp2Ideal.τ).loc Cert.Mlp2Ideal.main_arg3)) →
    ∃ (v0 : (c : Dev Cert.Mlp2Ideal.nD) → Buf (Elt Ideal) ((c.tc : Thread Cert.Mlp2Ideal.nD Cert.Mlp2Ideal.τ).loc Cert.Mlp2Ideal.main_v4_0)) (v1 : (c : Dev Cert.Mlp2Ideal.nD) → Buf (Elt Ideal) ((c.tc : Thread Cert.Mlp2Ideal.nD Cert.Mlp2Ideal.τ).loc Cert.Mlp2Ideal.main_v4_1)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v4_0) = v0 c
          ∧ r.2.mem ((c.tc : Thread Cert.Mlp2Ideal.nD Cert.Mlp2Ideal.τ).loc Cert.Mlp2Ideal.main_v4_1) = v1 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1)
          ∧ r.2.mem ((c.tc : Thread Cert.Mlp2Ideal.nD Cert.Mlp2Ideal.τ).loc Cert.Mlp2Ideal.main_arg2) = m ((c.tc : Thread Cert.Mlp2Ideal.nD Cert.Mlp2Ideal.τ).loc Cert.Mlp2Ideal.main_arg2)
          ∧ r.2.mem ((c.tc : Thread Cert.Mlp2Ideal.nD Cert.Mlp2Ideal.τ).loc Cert.Mlp2Ideal.main_arg3) = m ((c.tc : Thread Cert.Mlp2Ideal.nD Cert.Mlp2Ideal.τ).loc Cert.Mlp2Ideal.main_arg3))
      ∧ θ_run (Cert.Mlp2RefIdeal.defs (F := Ideal)) (onTc (τ := Cert.Mlp2RefIdeal.τ) (Cert.Mlp2RefIdeal.main (F := Ideal))) ⟨m', fun _ => 0, g'⟩ (fun r => ∀ c : Dev Cert.Mlp2RefIdeal.nD,
          r.2.mem ((c.tc : Thread Cert.Mlp2RefIdeal.nD Cert.Mlp2RefIdeal.τ).loc Cert.Mlp2RefIdeal.main_v2) = v0 c
          ∧ r.2.mem ((c.tc : Thread Cert.Mlp2RefIdeal.nD Cert.Mlp2RefIdeal.τ).loc Cert.Mlp2RefIdeal.main_v8) = v1 c
          ∧ r.2.mem ((c.tc : Thread Cert.Mlp2RefIdeal.nD Cert.Mlp2RefIdeal.τ).loc Cert.Mlp2RefIdeal.main_arg0) = m' ((c.tc : Thread Cert.Mlp2RefIdeal.nD Cert.Mlp2RefIdeal.τ).loc Cert.Mlp2RefIdeal.main_arg0)
          ∧ r.2.mem ((c.tc : Thread Cert.Mlp2RefIdeal.nD Cert.Mlp2RefIdeal.τ).loc Cert.Mlp2RefIdeal.main_arg1) = m' ((c.tc : Thread Cert.Mlp2RefIdeal.nD Cert.Mlp2RefIdeal.τ).loc Cert.Mlp2RefIdeal.main_arg1)
          ∧ r.2.mem ((c.tc : Thread Cert.Mlp2RefIdeal.nD Cert.Mlp2RefIdeal.τ).loc Cert.Mlp2RefIdeal.main_arg2) = m' ((c.tc : Thread Cert.Mlp2RefIdeal.nD Cert.Mlp2RefIdeal.τ).loc Cert.Mlp2RefIdeal.main_arg2)
          ∧ r.2.mem ((c.tc : Thread Cert.Mlp2RefIdeal.nD Cert.Mlp2RefIdeal.τ).loc Cert.Mlp2RefIdeal.main_arg3) = m' ((c.tc : Thread Cert.Mlp2RefIdeal.nD Cert.Mlp2RefIdeal.τ).loc Cert.Mlp2RefIdeal.main_arg3))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)) →
    ∃ (v0 : (c : Dev Cert.LnFwdIdeal.nD) → Buf (Elt Ideal) ((c.tc : Thread Cert.LnFwdIdeal.nD Cert.LnFwdIdeal.τ).loc Cert.LnFwdIdeal.main_v3)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v3) = v0 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v21) = v0 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3))

def preserves_LnBwd_LnBwdIdeal : Prop :=
  True

def algebraic_LnBwdIdeal_LnBwdRefIdeal [hLnBwdIdeal : Cert.LnBwdIdeal.Facts] [hLnBwdRefIdeal : Cert.LnBwdRefIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdRefIdeal.nD Cert.LnBwdRefIdeal.τ Cert.LnBwdRefIdeal.sig) → Buf (Elt Ideal) ℓ) (g' : Dev Cert.LnBwdRefIdeal.nD → PrngReg), Pre_LnBwdIdeal m →
    (∀ c : Dev Cert.LnBwdIdeal.nD,
      m' ((c.tc : Thread Cert.LnBwdRefIdeal.nD Cert.LnBwdRefIdeal.τ).loc Cert.LnBwdRefIdeal.main_arg0) = m ((c.tc : Thread Cert.LnBwdIdeal.nD Cert.LnBwdIdeal.τ).loc Cert.LnBwdIdeal.main_arg0)
      ∧ m' ((c.tc : Thread Cert.LnBwdRefIdeal.nD Cert.LnBwdRefIdeal.τ).loc Cert.LnBwdRefIdeal.main_arg1) = m ((c.tc : Thread Cert.LnBwdIdeal.nD Cert.LnBwdIdeal.τ).loc Cert.LnBwdIdeal.main_arg1)
      ∧ m' ((c.tc : Thread Cert.LnBwdRefIdeal.nD Cert.LnBwdRefIdeal.τ).loc Cert.LnBwdRefIdeal.main_arg2) = m ((c.tc : Thread Cert.LnBwdIdeal.nD Cert.LnBwdIdeal.τ).loc Cert.LnBwdIdeal.main_arg2)
      ∧ m' ((c.tc : Thread Cert.LnBwdRefIdeal.nD Cert.LnBwdRefIdeal.τ).loc Cert.LnBwdRefIdeal.main_arg3) = m ((c.tc : Thread Cert.LnBwdIdeal.nD Cert.LnBwdIdeal.τ).loc Cert.LnBwdIdeal.main_arg3)
      ∧ m' ((c.tc : Thread Cert.LnBwdRefIdeal.nD Cert.LnBwdRefIdeal.τ).loc Cert.LnBwdRefIdeal.main_arg4) = m ((c.tc : Thread Cert.LnBwdIdeal.nD Cert.LnBwdIdeal.τ).loc Cert.LnBwdIdeal.main_arg4)) →
    ∃ (v0 : (c : Dev Cert.LnBwdIdeal.nD) → Buf (Elt Ideal) ((c.tc : Thread Cert.LnBwdIdeal.nD Cert.LnBwdIdeal.τ).loc Cert.LnBwdIdeal.main_v2_0)) (v1 : (c : Dev Cert.LnBwdIdeal.nD) → Buf (Elt Ideal) ((c.tc : Thread Cert.LnBwdIdeal.nD Cert.LnBwdIdeal.τ).loc Cert.LnBwdIdeal.main_v2_1)) (v2 : (c : Dev Cert.LnBwdIdeal.nD) → Buf (Elt Ideal) ((c.tc : Thread Cert.LnBwdIdeal.nD Cert.LnBwdIdeal.τ).loc Cert.LnBwdIdeal.main_v2_2)) (v3 : (c : Dev Cert.LnBwdIdeal.nD) → Buf (Elt Ideal) ((c.tc : Thread Cert.LnBwdIdeal.nD Cert.LnBwdIdeal.τ).loc Cert.LnBwdIdeal.main_v2_3)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v2_0) = v0 c
          ∧ r.2.mem ((c.tc : Thread Cert.LnBwdIdeal.nD Cert.LnBwdIdeal.τ).loc Cert.LnBwdIdeal.main_v2_1) = v1 c
          ∧ r.2.mem ((c.tc : Thread Cert.LnBwdIdeal.nD Cert.LnBwdIdeal.τ).loc Cert.LnBwdIdeal.main_v2_2) = v2 c
          ∧ r.2.mem ((c.tc : Thread Cert.LnBwdIdeal.nD Cert.LnBwdIdeal.τ).loc Cert.LnBwdIdeal.main_v2_3) = v3 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4))
      ∧ θ_run (Cert.LnBwdRefIdeal.defs (F := Ideal)) (onTc (τ := Cert.LnBwdRefIdeal.τ) (Cert.LnBwdRefIdeal.main (F := Ideal))) ⟨m', fun _ => 0, g'⟩ (fun r => ∀ c : Dev Cert.LnBwdRefIdeal.nD,
          r.2.mem ((c.tc : Thread Cert.LnBwdRefIdeal.nD Cert.LnBwdRefIdeal.τ).loc Cert.LnBwdRefIdeal.main_v55) = v0 c
          ∧ r.2.mem ((c.tc : Thread Cert.LnBwdRefIdeal.nD Cert.LnBwdRefIdeal.τ).loc Cert.LnBwdRefIdeal.main_v56) = v1 c
          ∧ r.2.mem ((c.tc : Thread Cert.LnBwdRefIdeal.nD Cert.LnBwdRefIdeal.τ).loc Cert.LnBwdRefIdeal.main_v57) = v2 c
          ∧ r.2.mem ((c.tc : Thread Cert.LnBwdRefIdeal.nD Cert.LnBwdRefIdeal.τ).loc Cert.LnBwdRefIdeal.main_v58) = v3 c
          ∧ r.2.mem ((c.tc : Thread Cert.LnBwdRefIdeal.nD Cert.LnBwdRefIdeal.τ).loc Cert.LnBwdRefIdeal.main_arg0) = m' ((c.tc : Thread Cert.LnBwdRefIdeal.nD Cert.LnBwdRefIdeal.τ).loc Cert.LnBwdRefIdeal.main_arg0)
          ∧ r.2.mem ((c.tc : Thread Cert.LnBwdRefIdeal.nD Cert.LnBwdRefIdeal.τ).loc Cert.LnBwdRefIdeal.main_arg1) = m' ((c.tc : Thread Cert.LnBwdRefIdeal.nD Cert.LnBwdRefIdeal.τ).loc Cert.LnBwdRefIdeal.main_arg1)
          ∧ r.2.mem ((c.tc : Thread Cert.LnBwdRefIdeal.nD Cert.LnBwdRefIdeal.τ).loc Cert.LnBwdRefIdeal.main_arg2) = m' ((c.tc : Thread Cert.LnBwdRefIdeal.nD Cert.LnBwdRefIdeal.τ).loc Cert.LnBwdRefIdeal.main_arg2)
          ∧ r.2.mem ((c.tc : Thread Cert.LnBwdRefIdeal.nD Cert.LnBwdRefIdeal.τ).loc Cert.LnBwdRefIdeal.main_arg3) = m' ((c.tc : Thread Cert.LnBwdRefIdeal.nD Cert.LnBwdRefIdeal.τ).loc Cert.LnBwdRefIdeal.main_arg3)
          ∧ r.2.mem ((c.tc : Thread Cert.LnBwdRefIdeal.nD Cert.LnBwdRefIdeal.τ).loc Cert.LnBwdRefIdeal.main_arg4) = m' ((c.tc : Thread Cert.LnBwdRefIdeal.nD Cert.LnBwdRefIdeal.τ).loc Cert.LnBwdRefIdeal.main_arg4))

def preserves_ConvBwd_ConvBwdIdeal : Prop :=
  True

def algebraic_ConvBwdIdeal_ConvBwdRefIdeal_pre_finite_conv [hConvBwdIdeal : Cert.ConvBwdIdeal.Facts] [hConvBwdRefIdeal : Cert.ConvBwdRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_conv m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v1_0)) (v1 : (c : Dev Cert.ConvBwdIdeal.nD) → Buf (Elt Ideal) ((c.tc : Thread Cert.ConvBwdIdeal.nD Cert.ConvBwdIdeal.τ).loc Cert.ConvBwdIdeal.main_v1_1)) (v2 : (c : Dev Cert.ConvBwdIdeal.nD) → Buf (Elt Ideal) ((c.tc : Thread Cert.ConvBwdIdeal.nD Cert.ConvBwdIdeal.τ).loc Cert.ConvBwdIdeal.main_v1_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v1_0) = v0 c
          ∧ r.2.mem ((c.tc : Thread Cert.ConvBwdIdeal.nD Cert.ConvBwdIdeal.τ).loc Cert.ConvBwdIdeal.main_v1_1) = v1 c
          ∧ r.2.mem ((c.tc : Thread Cert.ConvBwdIdeal.nD Cert.ConvBwdIdeal.τ).loc Cert.ConvBwdIdeal.main_v1_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v49) = v0 c
          ∧ r.2.mem ((c.tc : Thread Cert.ConvBwdRefIdeal.nD Cert.ConvBwdRefIdeal.τ).loc Cert.ConvBwdRefIdeal.main_v31) = v1 c
          ∧ r.2.mem ((c.tc : Thread Cert.ConvBwdRefIdeal.nD Cert.ConvBwdRefIdeal.τ).loc Cert.ConvBwdRefIdeal.main_v50) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_GmlpFwd_GmlpFwdIdeal : Prop :=
  True

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)
      ∧ m' ((c.tc : Thread Cert.GmlpFwdRefIdeal.nD Cert.GmlpFwdRefIdeal.τ).loc Cert.GmlpFwdRefIdeal.main_arg5) = m ((c.tc : Thread Cert.GmlpFwdIdeal.nD Cert.GmlpFwdIdeal.τ).loc Cert.GmlpFwdIdeal.main_arg5)) →
    ∃ (v0 : (c : Dev Cert.GmlpFwdIdeal.nD) → Buf (Elt Ideal) ((c.tc : Thread Cert.GmlpFwdIdeal.nD Cert.GmlpFwdIdeal.τ).loc Cert.GmlpFwdIdeal.main_v4)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v4) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4)
          ∧ r.2.mem ((c.tc : Thread Cert.GmlpFwdIdeal.nD Cert.GmlpFwdIdeal.τ).loc Cert.GmlpFwdIdeal.main_arg5) = m ((c.tc : Thread Cert.GmlpFwdIdeal.nD Cert.GmlpFwdIdeal.τ).loc Cert.GmlpFwdIdeal.main_arg5))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v75) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4)
          ∧ r.2.mem ((c.tc : Thread Cert.GmlpFwdRefIdeal.nD Cert.GmlpFwdRefIdeal.τ).loc Cert.GmlpFwdRefIdeal.main_arg5) = m' ((c.tc : Thread Cert.GmlpFwdRefIdeal.nD Cert.GmlpFwdRefIdeal.τ).loc Cert.GmlpFwdRefIdeal.main_arg5))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v1) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v19) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_AttnFwd_AttnFwdIdeal : Prop :=
  IdealRules.named_const.Statement Cert.AttnFwdIdeal.κ "mask" .f32 0xF149F2CA#32 ⊥

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v2) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v84) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v1)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v1) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v6) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)
      ∧ m' ((c.tc : Thread Cert.AdaDwRefIdeal.nD Cert.AdaDwRefIdeal.τ).loc Cert.AdaDwRefIdeal.main_arg2) = m ((c.tc : Thread Cert.AdaDwIdeal.nD Cert.AdaDwIdeal.τ).loc Cert.AdaDwIdeal.main_arg2)) →
    ∃ (v0 : (c : Dev Cert.AdaDwIdeal.nD) → Buf (Elt Ideal) ((c.tc : Thread Cert.AdaDwIdeal.nD Cert.AdaDwIdeal.τ).loc Cert.AdaDwIdeal.main_v1)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v1) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1)
          ∧ r.2.mem ((c.tc : Thread Cert.AdaDwIdeal.nD Cert.AdaDwIdeal.τ).loc Cert.AdaDwIdeal.main_arg2) = m ((c.tc : Thread Cert.AdaDwIdeal.nD Cert.AdaDwIdeal.τ).loc Cert.AdaDwIdeal.main_arg2))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v25) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1)
          ∧ r.2.mem ((c.tc : Thread Cert.AdaDwRefIdeal.nD Cert.AdaDwRefIdeal.τ).loc Cert.AdaDwRefIdeal.main_arg2) = m' ((c.tc : Thread Cert.AdaDwRefIdeal.nD Cert.AdaDwRefIdeal.τ).loc Cert.AdaDwRefIdeal.main_arg2))

def preserves_AdaDb_AdaDbIdeal : Prop :=
  True

def algebraic_AdaDbIdeal_AdaDbRefIdeal [hAdaDbIdeal : Cert.AdaDbIdeal.Facts] [hAdaDbRefIdeal : Cert.AdaDbRefIdeal.Facts] : Prop :=
  ∀ (m : (ℓ : Loc Cert.AdaDbIdeal.nD Cert.AdaDbIdeal.τ Cert.AdaDbIdeal.sig) → Buf (Elt Ideal) ℓ) (g : Dev Cert.AdaDbIdeal.nD → PrngReg)
    (m' : (ℓ : Loc Cert.AdaDbRefIdeal.nD Cert.AdaDbRefIdeal.τ Cert.AdaDbRefIdeal.sig) → Buf (Elt Ideal) ℓ) (g' : Dev Cert.AdaDbRefIdeal.nD → PrngReg), Pre_AdaDbIdeal m →
    (∀ c : Dev Cert.AdaDbIdeal.nD,
      m' ((c.tc : Thread Cert.AdaDbRefIdeal.nD Cert.AdaDbRefIdeal.τ).loc Cert.AdaDbRefIdeal.main_arg0) = m ((c.tc : Thread Cert.AdaDbIdeal.nD Cert.AdaDbIdeal.τ).loc Cert.AdaDbIdeal.main_arg0)) →
    ∃ (v0 : (c : Dev Cert.AdaDbIdeal.nD) → Buf (Elt Ideal) ((c.tc : Thread Cert.AdaDbIdeal.nD Cert.AdaDbIdeal.τ).loc Cert.AdaDbIdeal.main_v1)),
      θ_run (Cert.AdaDbIdeal.defs (F := Ideal)) (onTc (τ := Cert.AdaDbIdeal.τ) (Cert.AdaDbIdeal.main (F := Ideal))) ⟨m, fun _ => 0, g⟩ (fun r => ∀ c : Dev Cert.AdaDbIdeal.nD,
          r.2.mem ((c.tc : Thread Cert.AdaDbIdeal.nD Cert.AdaDbIdeal.τ).loc Cert.AdaDbIdeal.main_v1) = v0 c
          ∧ r.2.mem ((c.tc : Thread Cert.AdaDbIdeal.nD Cert.AdaDbIdeal.τ).loc Cert.AdaDbIdeal.main_arg0) = m ((c.tc : Thread Cert.AdaDbIdeal.nD Cert.AdaDbIdeal.τ).loc Cert.AdaDbIdeal.main_arg0))
      ∧ θ_run (Cert.AdaDbRefIdeal.defs (F := Ideal)) (onTc (τ := Cert.AdaDbRefIdeal.τ) (Cert.AdaDbRefIdeal.main (F := Ideal))) ⟨m', fun _ => 0, g'⟩ (fun r => ∀ c : Dev Cert.AdaDbRefIdeal.nD,
          r.2.mem ((c.tc : Thread Cert.AdaDbRefIdeal.nD Cert.AdaDbRefIdeal.τ).loc Cert.AdaDbRefIdeal.main_v1) = v0 c
          ∧ r.2.mem ((c.tc : Thread Cert.AdaDbRefIdeal.nD Cert.AdaDbRefIdeal.τ).loc Cert.AdaDbRefIdeal.main_arg0) = m' ((c.tc : Thread Cert.AdaDbRefIdeal.nD Cert.AdaDbRefIdeal.τ).loc Cert.AdaDbRefIdeal.main_arg0))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v24) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v26) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v12_0)) (v1 : (c : Dev Cert.AdamInIdeal.nD) → Buf (Elt Ideal) ((c.tc : Thread Cert.AdamInIdeal.nD Cert.AdamInIdeal.τ).loc Cert.AdamInIdeal.main_v12_1)) (v2 : (c : Dev Cert.AdamInIdeal.nD) → Buf (Elt Ideal) ((c.tc : Thread Cert.AdamInIdeal.nD Cert.AdamInIdeal.τ).loc Cert.AdamInIdeal.main_v12_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v12_0) = v0 c
          ∧ r.2.mem ((c.tc : Thread Cert.AdamInIdeal.nD Cert.AdamInIdeal.τ).loc Cert.AdamInIdeal.main_v12_1) = v1 c
          ∧ r.2.mem ((c.tc : Thread Cert.AdamInIdeal.nD Cert.AdamInIdeal.τ).loc Cert.AdamInIdeal.main_v12_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamMlp_AdamMlpIdeal : Prop :=
  True

def algebraic_AdamMlpIdeal_AdamMlpRefIdeal [hAdamMlpIdeal : Cert.AdamMlpIdeal.Facts] [hAdamMlpRefIdeal : Cert.AdamMlpRefIdeal.Facts] : Prop :=
  ∀ (m : (ℓ : Loc Cert.AdamMlpIdeal.nD Cert.AdamMlpIdeal.τ Cert.AdamMlpIdeal.sig) → Buf (Elt Ideal) ℓ) (g : Dev Cert.AdamMlpIdeal.nD → PrngReg)
    (m' : (ℓ : Loc Cert.AdamMlpRefIdeal.nD Cert.AdamMlpRefIdeal.τ Cert.AdamMlpRefIdeal.sig) → Buf (Elt Ideal) ℓ) (g' : Dev Cert.AdamMlpRefIdeal.nD → PrngReg), Pre_AdamMlpIdeal m →
    (∀ c : Dev Cert.AdamMlpIdeal.nD,
      m' ((c.tc : Thread Cert.AdamMlpRefIdeal.nD Cert.AdamMlpRefIdeal.τ).loc Cert.AdamMlpRefIdeal.main_arg0) = m ((c.tc : Thread Cert.AdamMlpIdeal.nD Cert.AdamMlpIdeal.τ).loc Cert.AdamMlpIdeal.main_arg0)
      ∧ m' ((c.tc : Thread Cert.AdamMlpRefIdeal.nD Cert.AdamMlpRefIdeal.τ).loc Cert.AdamMlpRefIdeal.main_arg1) = m ((c.tc : Thread Cert.AdamMlpIdeal.nD Cert.AdamMlpIdeal.τ).loc Cert.AdamMlpIdeal.main_arg1)
      ∧ m' ((c.tc : Thread Cert.AdamMlpRefIdeal.nD Cert.AdamMlpRefIdeal.τ).loc Cert.AdamMlpRefIdeal.main_arg2) = m ((c.tc : Thread Cert.AdamMlpIdeal.nD Cert.AdamMlpIdeal.τ).loc Cert.AdamMlpIdeal.main_arg2)
      ∧ m' ((c.tc : Thread Cert.AdamMlpRefIdeal.nD Cert.AdamMlpRefIdeal.τ).loc Cert.AdamMlpRefIdeal.main_arg3) = m ((c.tc : Thread Cert.AdamMlpIdeal.nD Cert.AdamMlpIdeal.τ).loc Cert.AdamMlpIdeal.main_arg3)
      ∧ m' ((c.tc : Thread Cert.AdamMlpRefIdeal.nD Cert.AdamMlpRefIdeal.τ).loc Cert.AdamMlpRefIdeal.main_arg4) = m ((c.tc : Thread Cert.AdamMlpIdeal.nD Cert.AdamMlpIdeal.τ).loc Cert.AdamMlpIdeal.main_arg4)
      ∧ m' ((c.tc : Thread Cert.AdamMlpRefIdeal.nD Cert.AdamMlpRefIdeal.τ).loc Cert.AdamMlpRefIdeal.main_arg5) = m ((c.tc : Thread Cert.AdamMlpIdeal.nD Cert.AdamMlpIdeal.τ).loc Cert.AdamMlpIdeal.main_arg5)
      ∧ m' ((c.tc : Thread Cert.AdamMlpRefIdeal.nD Cert.AdamMlpRefIdeal.τ).loc Cert.AdamMlpRefIdeal.main_arg6) = m ((c.tc : Thread Cert.AdamMlpIdeal.nD Cert.AdamMlpIdeal.τ).loc Cert.AdamMlpIdeal.main_arg6)
      ∧ m' ((c.tc : Thread Cert.AdamMlpRefIdeal.nD Cert.AdamMlpRefIdeal.τ).loc Cert.AdamMlpRefIdeal.main_arg7) = m ((c.tc : Thread Cert.AdamMlpIdeal.nD Cert.AdamMlpIdeal.τ).loc Cert.AdamMlpIdeal.main_arg7)) →
    ∃ (v0 : (c : Dev Cert.AdamMlpIdeal.nD) → Buf (Elt Ideal) ((c.tc : Thread Cert.AdamMlpIdeal.nD Cert.AdamMlpIdeal.τ).loc Cert.AdamMlpIdeal.main_v0_0)) (v1 : (c : Dev Cert.AdamMlpIdeal.nD) → Buf (Elt Ideal) ((c.tc : Thread Cert.AdamMlpIdeal.nD Cert.AdamMlpIdeal.τ).loc Cert.AdamMlpIdeal.main_v0_1)) (v2 : (c : Dev Cert.AdamMlpIdeal.nD) → Buf (Elt Ideal) ((c.tc : Thread Cert.AdamMlpIdeal.nD Cert.AdamMlpIdeal.τ).loc Cert.AdamMlpIdeal.main_v0_2)) (v3 : (c : Dev Cert.AdamMlpIdeal.nD) → Buf (Elt Ideal) ((c.tc : Thread Cert.AdamMlpIdeal.nD Cert.AdamMlpIdeal.τ).loc Cert.AdamMlpIdeal.main_v0_3)),
      θ_run (Cert.AdamMlpIdeal.defs (F := Ideal)) (onTc (τ := Cert.AdamMlpIdeal.τ) (Cert.AdamMlpIdeal.main (F := Ideal))) ⟨m, fun _ => 0, g⟩ (fun r => ∀ c : Dev Cert.AdamMlpIdeal.nD,
          r.2.mem ((c.tc : Thread Cert.AdamMlpIdeal.nD Cert.AdamMlpIdeal.τ).loc Cert.AdamMlpIdeal.main_v0_0) = v0 c
          ∧ r.2.mem ((c.tc : Thread Cert.AdamMlpIdeal.nD Cert.AdamMlpIdeal.τ).loc Cert.AdamMlpIdeal.main_v0_1) = v1 c
          ∧ r.2.mem ((c.tc : Thread Cert.AdamMlpIdeal.nD Cert.AdamMlpIdeal.τ).loc Cert.AdamMlpIdeal.main_v0_2) = v2 c
          ∧ r.2.mem ((c.tc : Thread Cert.AdamMlpIdeal.nD Cert.AdamMlpIdeal.τ).loc Cert.AdamMlpIdeal.main_v0_3) = v3 c
          ∧ r.2.mem ((c.tc : Thread Cert.AdamMlpIdeal.nD Cert.AdamMlpIdeal.τ).loc Cert.AdamMlpIdeal.main_arg0) = m ((c.tc : Thread Cert.AdamMlpIdeal.nD Cert.AdamMlpIdeal.τ).loc Cert.AdamMlpIdeal.main_arg0)
          ∧ r.2.mem ((c.tc : Thread Cert.AdamMlpIdeal.nD Cert.AdamMlpIdeal.τ).loc Cert.AdamMlpIdeal.main_arg1) = m ((c.tc : Thread Cert.AdamMlpIdeal.nD Cert.AdamMlpIdeal.τ).loc Cert.AdamMlpIdeal.main_arg1)
          ∧ r.2.mem ((c.tc : Thread Cert.AdamMlpIdeal.nD Cert.AdamMlpIdeal.τ).loc Cert.AdamMlpIdeal.main_arg2) = m ((c.tc : Thread Cert.AdamMlpIdeal.nD Cert.AdamMlpIdeal.τ).loc Cert.AdamMlpIdeal.main_arg2)
          ∧ r.2.mem ((c.tc : Thread Cert.AdamMlpIdeal.nD Cert.AdamMlpIdeal.τ).loc Cert.AdamMlpIdeal.main_arg3) = m ((c.tc : Thread Cert.AdamMlpIdeal.nD Cert.AdamMlpIdeal.τ).loc Cert.AdamMlpIdeal.main_arg3)
          ∧ r.2.mem ((c.tc : Thread Cert.AdamMlpIdeal.nD Cert.AdamMlpIdeal.τ).loc Cert.AdamMlpIdeal.main_arg4) = m ((c.tc : Thread Cert.AdamMlpIdeal.nD Cert.AdamMlpIdeal.τ).loc Cert.AdamMlpIdeal.main_arg4)
          ∧ r.2.mem ((c.tc : Thread Cert.AdamMlpIdeal.nD Cert.AdamMlpIdeal.τ).loc Cert.AdamMlpIdeal.main_arg5) = m ((c.tc : Thread Cert.AdamMlpIdeal.nD Cert.AdamMlpIdeal.τ).loc Cert.AdamMlpIdeal.main_arg5)
          ∧ r.2.mem ((c.tc : Thread Cert.AdamMlpIdeal.nD Cert.AdamMlpIdeal.τ).loc Cert.AdamMlpIdeal.main_arg6) = m ((c.tc : Thread Cert.AdamMlpIdeal.nD Cert.AdamMlpIdeal.τ).loc Cert.AdamMlpIdeal.main_arg6)
          ∧ r.2.mem ((c.tc : Thread Cert.AdamMlpIdeal.nD Cert.AdamMlpIdeal.τ).loc Cert.AdamMlpIdeal.main_arg7) = m ((c.tc : Thread Cert.AdamMlpIdeal.nD Cert.AdamMlpIdeal.τ).loc Cert.AdamMlpIdeal.main_arg7))
      ∧ θ_run (Cert.AdamMlpRefIdeal.defs (F := Ideal)) (onTc (τ := Cert.AdamMlpRefIdeal.τ) (Cert.AdamMlpRefIdeal.main (F := Ideal))) ⟨m', fun _ => 0, g'⟩ (fun r => ∀ c : Dev Cert.AdamMlpRefIdeal.nD,
          r.2.mem ((c.tc : Thread Cert.AdamMlpRefIdeal.nD Cert.AdamMlpRefIdeal.τ).loc Cert.AdamMlpRefIdeal.main_v34) = v0 c
          ∧ r.2.mem ((c.tc : Thread Cert.AdamMlpRefIdeal.nD Cert.AdamMlpRefIdeal.τ).loc Cert.AdamMlpRefIdeal.main_v39) = v1 c
          ∧ r.2.mem ((c.tc : Thread Cert.AdamMlpRefIdeal.nD Cert.AdamMlpRefIdeal.τ).loc Cert.AdamMlpRefIdeal.main_v44) = v2 c
          ∧ r.2.mem ((c.tc : Thread Cert.AdamMlpRefIdeal.nD Cert.AdamMlpRefIdeal.τ).loc Cert.AdamMlpRefIdeal.main_v49) = v3 c
          ∧ r.2.mem ((c.tc : Thread Cert.AdamMlpRefIdeal.nD Cert.AdamMlpRefIdeal.τ).loc Cert.AdamMlpRefIdeal.main_arg0) = m' ((c.tc : Thread Cert.AdamMlpRefIdeal.nD Cert.AdamMlpRefIdeal.τ).loc Cert.AdamMlpRefIdeal.main_arg0)
          ∧ r.2.mem ((c.tc : Thread Cert.AdamMlpRefIdeal.nD Cert.AdamMlpRefIdeal.τ).loc Cert.AdamMlpRefIdeal.main_arg1) = m' ((c.tc : Thread Cert.AdamMlpRefIdeal.nD Cert.AdamMlpRefIdeal.τ).loc Cert.AdamMlpRefIdeal.main_arg1)
          ∧ r.2.mem ((c.tc : Thread Cert.AdamMlpRefIdeal.nD Cert.AdamMlpRefIdeal.τ).loc Cert.AdamMlpRefIdeal.main_arg2) = m' ((c.tc : Thread Cert.AdamMlpRefIdeal.nD Cert.AdamMlpRefIdeal.τ).loc Cert.AdamMlpRefIdeal.main_arg2)
          ∧ r.2.mem ((c.tc : Thread Cert.AdamMlpRefIdeal.nD Cert.AdamMlpRefIdeal.τ).loc Cert.AdamMlpRefIdeal.main_arg3) = m' ((c.tc : Thread Cert.AdamMlpRefIdeal.nD Cert.AdamMlpRefIdeal.τ).loc Cert.AdamMlpRefIdeal.main_arg3)
          ∧ r.2.mem ((c.tc : Thread Cert.AdamMlpRefIdeal.nD Cert.AdamMlpRefIdeal.τ).loc Cert.AdamMlpRefIdeal.main_arg4) = m' ((c.tc : Thread Cert.AdamMlpRefIdeal.nD Cert.AdamMlpRefIdeal.τ).loc Cert.AdamMlpRefIdeal.main_arg4)
          ∧ r.2.mem ((c.tc : Thread Cert.AdamMlpRefIdeal.nD Cert.AdamMlpRefIdeal.τ).loc Cert.AdamMlpRefIdeal.main_arg5) = m' ((c.tc : Thread Cert.AdamMlpRefIdeal.nD Cert.AdamMlpRefIdeal.τ).loc Cert.AdamMlpRefIdeal.main_arg5)
          ∧ r.2.mem ((c.tc : Thread Cert.AdamMlpRefIdeal.nD Cert.AdamMlpRefIdeal.τ).loc Cert.AdamMlpRefIdeal.main_arg6) = m' ((c.tc : Thread Cert.AdamMlpRefIdeal.nD Cert.AdamMlpRefIdeal.τ).loc Cert.AdamMlpRefIdeal.main_arg6)
          ∧ r.2.mem ((c.tc : Thread Cert.AdamMlpRefIdeal.nD Cert.AdamMlpRefIdeal.τ).loc Cert.AdamMlpRefIdeal.main_arg7) = m' ((c.tc : Thread Cert.AdamMlpRefIdeal.nD Cert.AdamMlpRefIdeal.τ).loc Cert.AdamMlpRefIdeal.main_arg7))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)
      ∧ m' ((c.tc : Thread Cert.AdamOutRefIdeal.nD Cert.AdamOutRefIdeal.τ).loc Cert.AdamOutRefIdeal.main_arg7) = m ((c.tc : Thread Cert.AdamOutIdeal.nD Cert.AdamOutIdeal.τ).loc Cert.AdamOutIdeal.main_arg7)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6)
          ∧ r.2.mem ((c.tc : Thread Cert.AdamOutIdeal.nD Cert.AdamOutIdeal.τ).loc Cert.AdamOutIdeal.main_arg7) = m ((c.tc : Thread Cert.AdamOutIdeal.nD Cert.AdamOutIdeal.τ).loc Cert.AdamOutIdeal.main_arg7))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v34) = v0 c
          ∧ r.2.mem ((c.tc : Thread Cert.AdamOutRefIdeal.nD Cert.AdamOutRefIdeal.τ).loc Cert.AdamOutRefIdeal.main_v39) = v1 c
          ∧ r.2.mem ((c.tc : Thread Cert.AdamOutRefIdeal.nD Cert.AdamOutRefIdeal.τ).loc Cert.AdamOutRefIdeal.main_v44) = v2 c
          ∧ r.2.mem ((c.tc : Thread Cert.AdamOutRefIdeal.nD Cert.AdamOutRefIdeal.τ).loc Cert.AdamOutRefIdeal.main_v49) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6)
          ∧ r.2.mem ((c.tc : Thread Cert.AdamOutRefIdeal.nD Cert.AdamOutRefIdeal.τ).loc Cert.AdamOutRefIdeal.main_arg7) = m' ((c.tc : Thread Cert.AdamOutRefIdeal.nD Cert.AdamOutRefIdeal.τ).loc Cert.AdamOutRefIdeal.main_arg7))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamMlpTop_AdamMlpTopIdeal : Prop :=
  True

def algebraic_AdamMlpTopIdeal_AdamMlpTopRefIdeal [hAdamMlpTopIdeal : Cert.AdamMlpTopIdeal.Facts] [hAdamMlpTopRefIdeal : Cert.AdamMlpTopRefIdeal.Facts] : Prop :=
  ∀ (m : (ℓ : Loc Cert.AdamMlpTopIdeal.nD Cert.AdamMlpTopIdeal.τ Cert.AdamMlpTopIdeal.sig) → Buf (Elt Ideal) ℓ) (g : Dev Cert.AdamMlpTopIdeal.nD → PrngReg)
    (m' : (ℓ : Loc Cert.AdamMlpTopRefIdeal.nD Cert.AdamMlpTopRefIdeal.τ Cert.AdamMlpTopRefIdeal.sig) → Buf (Elt Ideal) ℓ) (g' : Dev Cert.AdamMlpTopRefIdeal.nD → PrngReg), Pre_AdamMlpTopIdeal m →
    (∀ c : Dev Cert.AdamMlpTopIdeal.nD,
      m' ((c.tc : Thread Cert.AdamMlpTopRefIdeal.nD Cert.AdamMlpTopRefIdeal.τ).loc Cert.AdamMlpTopRefIdeal.main_arg0) = m ((c.tc : Thread Cert.AdamMlpTopIdeal.nD Cert.AdamMlpTopIdeal.τ).loc Cert.AdamMlpTopIdeal.main_arg0)
      ∧ m' ((c.tc : Thread Cert.AdamMlpTopRefIdeal.nD Cert.AdamMlpTopRefIdeal.τ).loc Cert.AdamMlpTopRefIdeal.main_arg1) = m ((c.tc : Thread Cert.AdamMlpTopIdeal.nD Cert.AdamMlpTopIdeal.τ).loc Cert.AdamMlpTopIdeal.main_arg1)
      ∧ m' ((c.tc : Thread Cert.AdamMlpTopRefIdeal.nD Cert.AdamMlpTopRefIdeal.τ).loc Cert.AdamMlpTopRefIdeal.main_arg2) = m ((c.tc : Thread Cert.AdamMlpTopIdeal.nD Cert.AdamMlpTopIdeal.τ).loc Cert.AdamMlpTopIdeal.main_arg2)
      ∧ m' ((c.tc : Thread Cert.AdamMlpTopRefIdeal.nD Cert.AdamMlpTopRefIdeal.τ).loc Cert.AdamMlpTopRefIdeal.main_arg3) = m ((c.tc : Thread Cert.AdamMlpTopIdeal.nD Cert.AdamMlpTopIdeal.τ).loc Cert.AdamMlpTopIdeal.main_arg3)) →
    ∃ (v0 : (c : Dev Cert.AdamMlpTopIdeal.nD) → Buf (Elt Ideal) ((c.tc : Thread Cert.AdamMlpTopIdeal.nD Cert.AdamMlpTopIdeal.τ).loc Cert.AdamMlpTopIdeal.main_v2)) (v1 : (c : Dev Cert.AdamMlpTopIdeal.nD) → Buf (Elt Ideal) ((c.tc : Thread Cert.AdamMlpTopIdeal.nD Cert.AdamMlpTopIdeal.τ).loc Cert.AdamMlpTopIdeal.main_v4)) (v2 : (c : Dev Cert.AdamMlpTopIdeal.nD) → Buf (Elt Ideal) ((c.tc : Thread Cert.AdamMlpTopIdeal.nD Cert.AdamMlpTopIdeal.τ).loc Cert.AdamMlpTopIdeal.main_v6)) (v3 : (c : Dev Cert.AdamMlpTopIdeal.nD) → Buf (Elt Ideal) ((c.tc : Thread Cert.AdamMlpTopIdeal.nD Cert.AdamMlpTopIdeal.τ).loc Cert.AdamMlpTopIdeal.main_v8)),
      θ_run (Cert.AdamMlpTopIdeal.defs (F := Ideal)) (onTc (τ := Cert.AdamMlpTopIdeal.τ) (Cert.AdamMlpTopIdeal.main (F := Ideal))) ⟨m, fun _ => 0, g⟩ (fun r => ∀ c : Dev Cert.AdamMlpTopIdeal.nD,
          r.2.mem ((c.tc : Thread Cert.AdamMlpTopIdeal.nD Cert.AdamMlpTopIdeal.τ).loc Cert.AdamMlpTopIdeal.main_v2) = v0 c
          ∧ r.2.mem ((c.tc : Thread Cert.AdamMlpTopIdeal.nD Cert.AdamMlpTopIdeal.τ).loc Cert.AdamMlpTopIdeal.main_v4) = v1 c
          ∧ r.2.mem ((c.tc : Thread Cert.AdamMlpTopIdeal.nD Cert.AdamMlpTopIdeal.τ).loc Cert.AdamMlpTopIdeal.main_v6) = v2 c
          ∧ r.2.mem ((c.tc : Thread Cert.AdamMlpTopIdeal.nD Cert.AdamMlpTopIdeal.τ).loc Cert.AdamMlpTopIdeal.main_v8) = v3 c
          ∧ r.2.mem ((c.tc : Thread Cert.AdamMlpTopIdeal.nD Cert.AdamMlpTopIdeal.τ).loc Cert.AdamMlpTopIdeal.main_arg0) = m ((c.tc : Thread Cert.AdamMlpTopIdeal.nD Cert.AdamMlpTopIdeal.τ).loc Cert.AdamMlpTopIdeal.main_arg0)
          ∧ r.2.mem ((c.tc : Thread Cert.AdamMlpTopIdeal.nD Cert.AdamMlpTopIdeal.τ).loc Cert.AdamMlpTopIdeal.main_arg1) = m ((c.tc : Thread Cert.AdamMlpTopIdeal.nD Cert.AdamMlpTopIdeal.τ).loc Cert.AdamMlpTopIdeal.main_arg1)
          ∧ r.2.mem ((c.tc : Thread Cert.AdamMlpTopIdeal.nD Cert.AdamMlpTopIdeal.τ).loc Cert.AdamMlpTopIdeal.main_arg2) = m ((c.tc : Thread Cert.AdamMlpTopIdeal.nD Cert.AdamMlpTopIdeal.τ).loc Cert.AdamMlpTopIdeal.main_arg2)
          ∧ r.2.mem ((c.tc : Thread Cert.AdamMlpTopIdeal.nD Cert.AdamMlpTopIdeal.τ).loc Cert.AdamMlpTopIdeal.main_arg3) = m ((c.tc : Thread Cert.AdamMlpTopIdeal.nD Cert.AdamMlpTopIdeal.τ).loc Cert.AdamMlpTopIdeal.main_arg3))
      ∧ θ_run (Cert.AdamMlpTopRefIdeal.defs (F := Ideal)) (onTc (τ := Cert.AdamMlpTopRefIdeal.τ) (Cert.AdamMlpTopRefIdeal.main (F := Ideal))) ⟨m', fun _ => 0, g'⟩ (fun r => ∀ c : Dev Cert.AdamMlpTopRefIdeal.nD,
          r.2.mem ((c.tc : Thread Cert.AdamMlpTopRefIdeal.nD Cert.AdamMlpTopRefIdeal.τ).loc Cert.AdamMlpTopRefIdeal.main_arg3) = v0 c
          ∧ r.2.mem ((c.tc : Thread Cert.AdamMlpTopRefIdeal.nD Cert.AdamMlpTopRefIdeal.τ).loc Cert.AdamMlpTopRefIdeal.main_v29) = v1 c
          ∧ r.2.mem ((c.tc : Thread Cert.AdamMlpTopRefIdeal.nD Cert.AdamMlpTopRefIdeal.τ).loc Cert.AdamMlpTopRefIdeal.main_v10) = v2 c
          ∧ r.2.mem ((c.tc : Thread Cert.AdamMlpTopRefIdeal.nD Cert.AdamMlpTopRefIdeal.τ).loc Cert.AdamMlpTopRefIdeal.main_v16) = v3 c
          ∧ r.2.mem ((c.tc : Thread Cert.AdamMlpTopRefIdeal.nD Cert.AdamMlpTopRefIdeal.τ).loc Cert.AdamMlpTopRefIdeal.main_arg0) = m' ((c.tc : Thread Cert.AdamMlpTopRefIdeal.nD Cert.AdamMlpTopRefIdeal.τ).loc Cert.AdamMlpTopRefIdeal.main_arg0)
          ∧ r.2.mem ((c.tc : Thread Cert.AdamMlpTopRefIdeal.nD Cert.AdamMlpTopRefIdeal.τ).loc Cert.AdamMlpTopRefIdeal.main_arg1) = m' ((c.tc : Thread Cert.AdamMlpTopRefIdeal.nD Cert.AdamMlpTopRefIdeal.τ).loc Cert.AdamMlpTopRefIdeal.main_arg1)
          ∧ r.2.mem ((c.tc : Thread Cert.AdamMlpTopRefIdeal.nD Cert.AdamMlpTopRefIdeal.τ).loc Cert.AdamMlpTopRefIdeal.main_arg2) = m' ((c.tc : Thread Cert.AdamMlpTopRefIdeal.nD Cert.AdamMlpTopRefIdeal.τ).loc Cert.AdamMlpTopRefIdeal.main_arg2)
          ∧ r.2.mem ((c.tc : Thread Cert.AdamMlpTopRefIdeal.nD Cert.AdamMlpTopRefIdeal.τ).loc Cert.AdamMlpTopRefIdeal.main_arg3) = m' ((c.tc : Thread Cert.AdamMlpTopRefIdeal.nD Cert.AdamMlpTopRefIdeal.τ).loc Cert.AdamMlpTopRefIdeal.main_arg3))

def preserves_AdamOutTop_AdamOutTopIdeal : Prop :=
  True

def algebraic_AdamOutTopIdeal_AdamOutTopRefIdeal [hAdamOutTopIdeal : Cert.AdamOutTopIdeal.Facts] [hAdamOutTopRefIdeal : Cert.AdamOutTopRefIdeal.Facts] : Prop :=
  ∀ (m : (ℓ : Loc Cert.AdamOutTopIdeal.nD Cert.AdamOutTopIdeal.τ Cert.AdamOutTopIdeal.sig) → Buf (Elt Ideal) ℓ) (g : Dev Cert.AdamOutTopIdeal.nD → PrngReg)
    (m' : (ℓ : Loc Cert.AdamOutTopRefIdeal.nD Cert.AdamOutTopRefIdeal.τ Cert.AdamOutTopRefIdeal.sig) → Buf (Elt Ideal) ℓ) (g' : Dev Cert.AdamOutTopRefIdeal.nD → PrngReg), Pre_AdamOutTopIdeal m →
    (∀ c : Dev Cert.AdamOutTopIdeal.nD,
      m' ((c.tc : Thread Cert.AdamOutTopRefIdeal.nD Cert.AdamOutTopRefIdeal.τ).loc Cert.AdamOutTopRefIdeal.main_arg0) = m ((c.tc : Thread Cert.AdamOutTopIdeal.nD Cert.AdamOutTopIdeal.τ).loc Cert.AdamOutTopIdeal.main_arg0)
      ∧ m' ((c.tc : Thread Cert.AdamOutTopRefIdeal.nD Cert.AdamOutTopRefIdeal.τ).loc Cert.AdamOutTopRefIdeal.main_arg1) = m ((c.tc : Thread Cert.AdamOutTopIdeal.nD Cert.AdamOutTopIdeal.τ).loc Cert.AdamOutTopIdeal.main_arg1)
      ∧ m' ((c.tc : Thread Cert.AdamOutTopRefIdeal.nD Cert.AdamOutTopRefIdeal.τ).loc Cert.AdamOutTopRefIdeal.main_arg2) = m ((c.tc : Thread Cert.AdamOutTopIdeal.nD Cert.AdamOutTopIdeal.τ).loc Cert.AdamOutTopIdeal.main_arg2)
      ∧ m' ((c.tc : Thread Cert.AdamOutTopRefIdeal.nD Cert.AdamOutTopRefIdeal.τ).loc Cert.AdamOutTopRefIdeal.main_arg3) = m ((c.tc : Thread Cert.AdamOutTopIdeal.nD Cert.AdamOutTopIdeal.τ).loc Cert.AdamOutTopIdeal.main_arg3)) →
    ∃ (v0 : (c : Dev Cert.AdamOutTopIdeal.nD) → Buf (Elt Ideal) ((c.tc : Thread Cert.AdamOutTopIdeal.nD Cert.AdamOutTopIdeal.τ).loc Cert.AdamOutTopIdeal.main_v2)) (v1 : (c : Dev Cert.AdamOutTopIdeal.nD) → Buf (Elt Ideal) ((c.tc : Thread Cert.AdamOutTopIdeal.nD Cert.AdamOutTopIdeal.τ).loc Cert.AdamOutTopIdeal.main_v4)) (v2 : (c : Dev Cert.AdamOutTopIdeal.nD) → Buf (Elt Ideal) ((c.tc : Thread Cert.AdamOutTopIdeal.nD Cert.AdamOutTopIdeal.τ).loc Cert.AdamOutTopIdeal.main_v6)) (v3 : (c : Dev Cert.AdamOutTopIdeal.nD) → Buf (Elt Ideal) ((c.tc : Thread Cert.AdamOutTopIdeal.nD Cert.AdamOutTopIdeal.τ).loc Cert.AdamOutTopIdeal.main_v8)),
      θ_run (Cert.AdamOutTopIdeal.defs (F := Ideal)) (onTc (τ := Cert.AdamOutTopIdeal.τ) (Cert.AdamOutTopIdeal.main (F := Ideal))) ⟨m, fun _ => 0, g⟩ (fun r => ∀ c : Dev Cert.AdamOutTopIdeal.nD,
          r.2.mem ((c.tc : Thread Cert.AdamOutTopIdeal.nD Cert.AdamOutTopIdeal.τ).loc Cert.AdamOutTopIdeal.main_v2) = v0 c
          ∧ r.2.mem ((c.tc : Thread Cert.AdamOutTopIdeal.nD Cert.AdamOutTopIdeal.τ).loc Cert.AdamOutTopIdeal.main_v4) = v1 c
          ∧ r.2.mem ((c.tc : Thread Cert.AdamOutTopIdeal.nD Cert.AdamOutTopIdeal.τ).loc Cert.AdamOutTopIdeal.main_v6) = v2 c
          ∧ r.2.mem ((c.tc : Thread Cert.AdamOutTopIdeal.nD Cert.AdamOutTopIdeal.τ).loc Cert.AdamOutTopIdeal.main_v8) = v3 c
          ∧ r.2.mem ((c.tc : Thread Cert.AdamOutTopIdeal.nD Cert.AdamOutTopIdeal.τ).loc Cert.AdamOutTopIdeal.main_arg0) = m ((c.tc : Thread Cert.AdamOutTopIdeal.nD Cert.AdamOutTopIdeal.τ).loc Cert.AdamOutTopIdeal.main_arg0)
          ∧ r.2.mem ((c.tc : Thread Cert.AdamOutTopIdeal.nD Cert.AdamOutTopIdeal.τ).loc Cert.AdamOutTopIdeal.main_arg1) = m ((c.tc : Thread Cert.AdamOutTopIdeal.nD Cert.AdamOutTopIdeal.τ).loc Cert.AdamOutTopIdeal.main_arg1)
          ∧ r.2.mem ((c.tc : Thread Cert.AdamOutTopIdeal.nD Cert.AdamOutTopIdeal.τ).loc Cert.AdamOutTopIdeal.main_arg2) = m ((c.tc : Thread Cert.AdamOutTopIdeal.nD Cert.AdamOutTopIdeal.τ).loc Cert.AdamOutTopIdeal.main_arg2)
          ∧ r.2.mem ((c.tc : Thread Cert.AdamOutTopIdeal.nD Cert.AdamOutTopIdeal.τ).loc Cert.AdamOutTopIdeal.main_arg3) = m ((c.tc : Thread Cert.AdamOutTopIdeal.nD Cert.AdamOutTopIdeal.τ).loc Cert.AdamOutTopIdeal.main_arg3))
      ∧ θ_run (Cert.AdamOutTopRefIdeal.defs (F := Ideal)) (onTc (τ := Cert.AdamOutTopRefIdeal.τ) (Cert.AdamOutTopRefIdeal.main (F := Ideal))) ⟨m', fun _ => 0, g'⟩ (fun r => ∀ c : Dev Cert.AdamOutTopRefIdeal.nD,
          r.2.mem ((c.tc : Thread Cert.AdamOutTopRefIdeal.nD Cert.AdamOutTopRefIdeal.τ).loc Cert.AdamOutTopRefIdeal.main_arg3) = v0 c
          ∧ r.2.mem ((c.tc : Thread Cert.AdamOutTopRefIdeal.nD Cert.AdamOutTopRefIdeal.τ).loc Cert.AdamOutTopRefIdeal.main_v29) = v1 c
          ∧ r.2.mem ((c.tc : Thread Cert.AdamOutTopRefIdeal.nD Cert.AdamOutTopRefIdeal.τ).loc Cert.AdamOutTopRefIdeal.main_v10) = v2 c
          ∧ r.2.mem ((c.tc : Thread Cert.AdamOutTopRefIdeal.nD Cert.AdamOutTopRefIdeal.τ).loc Cert.AdamOutTopRefIdeal.main_v16) = v3 c
          ∧ r.2.mem ((c.tc : Thread Cert.AdamOutTopRefIdeal.nD Cert.AdamOutTopRefIdeal.τ).loc Cert.AdamOutTopRefIdeal.main_arg0) = m' ((c.tc : Thread Cert.AdamOutTopRefIdeal.nD Cert.AdamOutTopRefIdeal.τ).loc Cert.AdamOutTopRefIdeal.main_arg0)
          ∧ r.2.mem ((c.tc : Thread Cert.AdamOutTopRefIdeal.nD Cert.AdamOutTopRefIdeal.τ).loc Cert.AdamOutTopRefIdeal.main_arg1) = m' ((c.tc : Thread Cert.AdamOutTopRefIdeal.nD Cert.AdamOutTopRefIdeal.τ).loc Cert.AdamOutTopRefIdeal.main_arg1)
          ∧ r.2.mem ((c.tc : Thread Cert.AdamOutTopRefIdeal.nD Cert.AdamOutTopRefIdeal.τ).loc Cert.AdamOutTopRefIdeal.main_arg2) = m' ((c.tc : Thread Cert.AdamOutTopRefIdeal.nD Cert.AdamOutTopRefIdeal.τ).loc Cert.AdamOutTopRefIdeal.main_arg2)
          ∧ r.2.mem ((c.tc : Thread Cert.AdamOutTopRefIdeal.nD Cert.AdamOutTopRefIdeal.τ).loc Cert.AdamOutTopRefIdeal.main_arg3) = m' ((c.tc : Thread Cert.AdamOutTopRefIdeal.nD Cert.AdamOutTopRefIdeal.τ).loc Cert.AdamOutTopRefIdeal.main_arg3))

def Claim : Prop :=
  ∃ (hKernel : Cert.Kernel.Facts) (hKernelIdeal : Cert.KernelIdeal.Facts) (hReferenceIdeal : Cert.ReferenceIdeal.Facts) (hMlp2Dx : Cert.Mlp2Dx.Facts) (hMlp2DxIdeal : Cert.Mlp2DxIdeal.Facts) (hMlp2DxRefIdeal : Cert.Mlp2DxRefIdeal.Facts) (hMlp2Dw : Cert.Mlp2Dw.Facts) (hMlp2DwIdeal : Cert.Mlp2DwIdeal.Facts) (hMlp2DwRefIdeal : Cert.Mlp2DwRefIdeal.Facts) (hMlp1Dw : Cert.Mlp1Dw.Facts) (hMlp1DwIdeal : Cert.Mlp1DwIdeal.Facts) (hMlp1DwRefIdeal : Cert.Mlp1DwRefIdeal.Facts) (hMlp1Dx : Cert.Mlp1Dx.Facts) (hMlp1DxIdeal : Cert.Mlp1DxIdeal.Facts) (hMlp1DxRefIdeal : Cert.Mlp1DxRefIdeal.Facts) (hProjOutDx : Cert.ProjOutDx.Facts) (hProjOutDxIdeal : Cert.ProjOutDxIdeal.Facts) (hProjOutDxRefIdeal : Cert.ProjOutDxRefIdeal.Facts) (hProjOutDw : Cert.ProjOutDw.Facts) (hProjOutDwIdeal : Cert.ProjOutDwIdeal.Facts) (hProjOutDwRefIdeal : Cert.ProjOutDwRefIdeal.Facts) (hProjInDw : Cert.ProjInDw.Facts) (hProjInDwIdeal : Cert.ProjInDwIdeal.Facts) (hProjInDwRefIdeal : Cert.ProjInDwRefIdeal.Facts) (hProjInDx : Cert.ProjInDx.Facts) (hProjInDxIdeal : Cert.ProjInDxIdeal.Facts) (hProjInDxRefIdeal : Cert.ProjInDxRefIdeal.Facts) (hGateBwd : Cert.GateBwd.Facts) (hGateBwdIdeal : Cert.GateBwdIdeal.Facts) (hGateBwdRefIdeal : Cert.GateBwdRefIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hMlp1 : Cert.Mlp1.Facts) (hMlp1Ideal : Cert.Mlp1Ideal.Facts) (hMlp1RefIdeal : Cert.Mlp1RefIdeal.Facts) (hMlp2 : Cert.Mlp2.Facts) (hMlp2Ideal : Cert.Mlp2Ideal.Facts) (hMlp2RefIdeal : Cert.Mlp2RefIdeal.Facts) (hLnFwd : Cert.LnFwd.Facts) (hLnFwdIdeal : Cert.LnFwdIdeal.Facts) (hLnFwdRefIdeal : Cert.LnFwdRefIdeal.Facts) (hLnBwd : Cert.LnBwd.Facts) (hLnBwdIdeal : Cert.LnBwdIdeal.Facts) (hLnBwdRefIdeal : Cert.LnBwdRefIdeal.Facts) (hConvBwd : Cert.ConvBwd.Facts) (hConvBwdIdeal : Cert.ConvBwdIdeal.Facts) (hConvBwdRefIdeal : Cert.ConvBwdRefIdeal.Facts) (hGmlpFwd : Cert.GmlpFwd.Facts) (hGmlpFwdIdeal : Cert.GmlpFwdIdeal.Facts) (hGmlpFwdRefIdeal : Cert.GmlpFwdRefIdeal.Facts) (hConvFwd : Cert.ConvFwd.Facts) (hConvFwdIdeal : Cert.ConvFwdIdeal.Facts) (hConvFwdRefIdeal : Cert.ConvFwdRefIdeal.Facts) (hAttnFwd : Cert.AttnFwd.Facts) (hAttnFwdIdeal : Cert.AttnFwdIdeal.Facts) (hAttnFwdRefIdeal : Cert.AttnFwdRefIdeal.Facts) (hAdaMod : Cert.AdaMod.Facts) (hAdaModIdeal : Cert.AdaModIdeal.Facts) (hAdaModRefIdeal : Cert.AdaModRefIdeal.Facts) (hAdaDw : Cert.AdaDw.Facts) (hAdaDwIdeal : Cert.AdaDwIdeal.Facts) (hAdaDwRefIdeal : Cert.AdaDwRefIdeal.Facts) (hAdaDb : Cert.AdaDb.Facts) (hAdaDbIdeal : Cert.AdaDbIdeal.Facts) (hAdaDbRefIdeal : Cert.AdaDbRefIdeal.Facts) (hAdamAda : Cert.AdamAda.Facts) (hAdamAdaIdeal : Cert.AdamAdaIdeal.Facts) (hAdamAdaRefIdeal : Cert.AdamAdaRefIdeal.Facts) (hAdamIn : Cert.AdamIn.Facts) (hAdamInIdeal : Cert.AdamInIdeal.Facts) (hAdamInRefIdeal : Cert.AdamInRefIdeal.Facts) (hLossHead : Cert.LossHead.Facts) (hLossHeadIdeal : Cert.LossHeadIdeal.Facts) (hLossHeadRefIdeal : Cert.LossHeadRefIdeal.Facts) (hAdamMlp : Cert.AdamMlp.Facts) (hAdamMlpIdeal : Cert.AdamMlpIdeal.Facts) (hAdamMlpRefIdeal : Cert.AdamMlpRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hSumSmall : Cert.SumSmall.Facts) (hSumSmallIdeal : Cert.SumSmallIdeal.Facts) (hSumSmallRefIdeal : Cert.SumSmallRefIdeal.Facts) (hAdamMlpTop : Cert.AdamMlpTop.Facts) (hAdamMlpTopIdeal : Cert.AdamMlpTopIdeal.Facts) (hAdamMlpTopRefIdeal : Cert.AdamMlpTopRefIdeal.Facts) (hAdamOutTop : Cert.AdamOutTop.Facts) (hAdamOutTopIdeal : Cert.AdamOutTopIdeal.Facts) (hAdamOutTopRefIdeal : Cert.AdamOutTopRefIdeal.Facts) (hPre_finite_conv : Cert.Pre_finite_conv.Facts),
    quiescent_Kernel (hKernel := hKernel)
    ∧ quiescent_KernelIdeal (hKernelIdeal := hKernelIdeal)
    ∧ quiescent_ReferenceIdeal (hReferenceIdeal := hReferenceIdeal)
    ∧ quiescent_Mlp2Dx (hMlp2Dx := hMlp2Dx)
    ∧ quiescent_Mlp2DxIdeal (hMlp2DxIdeal := hMlp2DxIdeal)
    ∧ quiescent_Mlp2DxRefIdeal (hMlp2DxRefIdeal := hMlp2DxRefIdeal)
    ∧ quiescent_Mlp2Dw (hMlp2Dw := hMlp2Dw)
    ∧ quiescent_Mlp2DwIdeal (hMlp2DwIdeal := hMlp2DwIdeal)
    ∧ quiescent_Mlp2DwRefIdeal (hMlp2DwRefIdeal := hMlp2DwRefIdeal)
    ∧ quiescent_Mlp1Dw (hMlp1Dw := hMlp1Dw)
    ∧ quiescent_Mlp1DwIdeal (hMlp1DwIdeal := hMlp1DwIdeal)
    ∧ quiescent_Mlp1DwRefIdeal (hMlp1DwRefIdeal := hMlp1DwRefIdeal)
    ∧ quiescent_Mlp1Dx (hMlp1Dx := hMlp1Dx)
    ∧ quiescent_Mlp1DxIdeal (hMlp1DxIdeal := hMlp1DxIdeal)
    ∧ quiescent_Mlp1DxRefIdeal (hMlp1DxRefIdeal := hMlp1DxRefIdeal)
    ∧ quiescent_ProjOutDx (hProjOutDx := hProjOutDx)
    ∧ quiescent_ProjOutDxIdeal (hProjOutDxIdeal := hProjOutDxIdeal)
    ∧ quiescent_ProjOutDxRefIdeal (hProjOutDxRefIdeal := hProjOutDxRefIdeal)
    ∧ quiescent_ProjOutDw (hProjOutDw := hProjOutDw)
    ∧ quiescent_ProjOutDwIdeal (hProjOutDwIdeal := hProjOutDwIdeal)
    ∧ quiescent_ProjOutDwRefIdeal (hProjOutDwRefIdeal := hProjOutDwRefIdeal)
    ∧ quiescent_ProjInDw (hProjInDw := hProjInDw)
    ∧ quiescent_ProjInDwIdeal (hProjInDwIdeal := hProjInDwIdeal)
    ∧ quiescent_ProjInDwRefIdeal (hProjInDwRefIdeal := hProjInDwRefIdeal)
    ∧ quiescent_ProjInDx (hProjInDx := hProjInDx)
    ∧ quiescent_ProjInDxIdeal (hProjInDxIdeal := hProjInDxIdeal)
    ∧ quiescent_ProjInDxRefIdeal (hProjInDxRefIdeal := hProjInDxRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_Mlp1 (hMlp1 := hMlp1)
    ∧ quiescent_Mlp1Ideal (hMlp1Ideal := hMlp1Ideal)
    ∧ quiescent_Mlp1RefIdeal (hMlp1RefIdeal := hMlp1RefIdeal)
    ∧ quiescent_Mlp2 (hMlp2 := hMlp2)
    ∧ quiescent_Mlp2Ideal (hMlp2Ideal := hMlp2Ideal)
    ∧ quiescent_Mlp2RefIdeal (hMlp2RefIdeal := hMlp2RefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_LnBwd (hLnBwd := hLnBwd)
    ∧ quiescent_LnBwdIdeal (hLnBwdIdeal := hLnBwdIdeal)
    ∧ quiescent_LnBwdRefIdeal (hLnBwdRefIdeal := hLnBwdRefIdeal)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdRefIdeal (hConvBwdRefIdeal := hConvBwdRefIdeal)
    ∧ quiescent_ConvBwdRefIdeal_pre_finite_conv (hConvBwdRefIdeal := hConvBwdRefIdeal) (hPre_finite_conv := hPre_finite_conv)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_AdaDb (hAdaDb := hAdaDb)
    ∧ quiescent_AdaDbIdeal (hAdaDbIdeal := hAdaDbIdeal)
    ∧ quiescent_AdaDbRefIdeal (hAdaDbRefIdeal := hAdaDbRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamMlp (hAdamMlp := hAdamMlp)
    ∧ quiescent_AdamMlpIdeal (hAdamMlpIdeal := hAdamMlpIdeal)
    ∧ quiescent_AdamMlpRefIdeal (hAdamMlpRefIdeal := hAdamMlpRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamMlpTop (hAdamMlpTop := hAdamMlpTop)
    ∧ quiescent_AdamMlpTopIdeal (hAdamMlpTopIdeal := hAdamMlpTopIdeal)
    ∧ quiescent_AdamMlpTopRefIdeal (hAdamMlpTopRefIdeal := hAdamMlpTopRefIdeal)
    ∧ quiescent_AdamOutTop (hAdamOutTop := hAdamOutTop)
    ∧ quiescent_AdamOutTopIdeal (hAdamOutTopIdeal := hAdamOutTopIdeal)
    ∧ quiescent_AdamOutTopRefIdeal (hAdamOutTopRefIdeal := hAdamOutTopRefIdeal)
    ∧ preserves_Kernel_KernelIdeal
    ∧ algebraic_KernelIdeal_ReferenceIdeal (hKernelIdeal := hKernelIdeal) (hReferenceIdeal := hReferenceIdeal)
    ∧ preserves_Mlp2Dx_Mlp2DxIdeal
    ∧ algebraic_Mlp2DxIdeal_Mlp2DxRefIdeal (hMlp2DxIdeal := hMlp2DxIdeal) (hMlp2DxRefIdeal := hMlp2DxRefIdeal)
    ∧ preserves_Mlp2Dw_Mlp2DwIdeal
    ∧ algebraic_Mlp2DwIdeal_Mlp2DwRefIdeal (hMlp2DwIdeal := hMlp2DwIdeal) (hMlp2DwRefIdeal := hMlp2DwRefIdeal)
    ∧ preserves_Mlp1Dw_Mlp1DwIdeal
    ∧ algebraic_Mlp1DwIdeal_Mlp1DwRefIdeal (hMlp1DwIdeal := hMlp1DwIdeal) (hMlp1DwRefIdeal := hMlp1DwRefIdeal)
    ∧ preserves_Mlp1Dx_Mlp1DxIdeal
    ∧ algebraic_Mlp1DxIdeal_Mlp1DxRefIdeal (hMlp1DxIdeal := hMlp1DxIdeal) (hMlp1DxRefIdeal := hMlp1DxRefIdeal)
    ∧ preserves_ProjOutDx_ProjOutDxIdeal
    ∧ algebraic_ProjOutDxIdeal_ProjOutDxRefIdeal (hProjOutDxIdeal := hProjOutDxIdeal) (hProjOutDxRefIdeal := hProjOutDxRefIdeal)
    ∧ preserves_ProjOutDw_ProjOutDwIdeal
    ∧ algebraic_ProjOutDwIdeal_ProjOutDwRefIdeal (hProjOutDwIdeal := hProjOutDwIdeal) (hProjOutDwRefIdeal := hProjOutDwRefIdeal)
    ∧ preserves_ProjInDw_ProjInDwIdeal
    ∧ algebraic_ProjInDwIdeal_ProjInDwRefIdeal (hProjInDwIdeal := hProjInDwIdeal) (hProjInDwRefIdeal := hProjInDwRefIdeal)
    ∧ preserves_ProjInDx_ProjInDxIdeal
    ∧ algebraic_ProjInDxIdeal_ProjInDxRefIdeal (hProjInDxIdeal := hProjInDxIdeal) (hProjInDxRefIdeal := hProjInDxRefIdeal)
    ∧ preserves_GateBwd_GateBwdIdeal
    ∧ algebraic_GateBwdIdeal_GateBwdRefIdeal (hGateBwdIdeal := hGateBwdIdeal) (hGateBwdRefIdeal := hGateBwdRefIdeal)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_Mlp1_Mlp1Ideal
    ∧ algebraic_Mlp1Ideal_Mlp1RefIdeal (hMlp1Ideal := hMlp1Ideal) (hMlp1RefIdeal := hMlp1RefIdeal)
    ∧ preserves_Mlp2_Mlp2Ideal
    ∧ algebraic_Mlp2Ideal_Mlp2RefIdeal (hMlp2Ideal := hMlp2Ideal) (hMlp2RefIdeal := hMlp2RefIdeal)
    ∧ preserves_LnFwd_LnFwdIdeal
    ∧ algebraic_LnFwdIdeal_LnFwdRefIdeal (hLnFwdIdeal := hLnFwdIdeal) (hLnFwdRefIdeal := hLnFwdRefIdeal)
    ∧ preserves_LnBwd_LnBwdIdeal
    ∧ algebraic_LnBwdIdeal_LnBwdRefIdeal (hLnBwdIdeal := hLnBwdIdeal) (hLnBwdRefIdeal := hLnBwdRefIdeal)
    ∧ preserves_ConvBwd_ConvBwdIdeal
    ∧ algebraic_ConvBwdIdeal_ConvBwdRefIdeal_pre_finite_conv (hConvBwdIdeal := hConvBwdIdeal) (hConvBwdRefIdeal := hConvBwdRefIdeal) (hPre_finite_conv := hPre_finite_conv)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_ConvFwd_ConvFwdIdeal
    ∧ algebraic_ConvFwdIdeal_ConvFwdRefIdeal (hConvFwdIdeal := hConvFwdIdeal) (hConvFwdRefIdeal := hConvFwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_AdaMod_AdaModIdeal
    ∧ algebraic_AdaModIdeal_AdaModRefIdeal (hAdaModIdeal := hAdaModIdeal) (hAdaModRefIdeal := hAdaModRefIdeal)
    ∧ preserves_AdaDw_AdaDwIdeal
    ∧ algebraic_AdaDwIdeal_AdaDwRefIdeal (hAdaDwIdeal := hAdaDwIdeal) (hAdaDwRefIdeal := hAdaDwRefIdeal)
    ∧ preserves_AdaDb_AdaDbIdeal
    ∧ algebraic_AdaDbIdeal_AdaDbRefIdeal (hAdaDbIdeal := hAdaDbIdeal) (hAdaDbRefIdeal := hAdaDbRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamIn_AdamInIdeal
    ∧ algebraic_AdamInIdeal_AdamInRefIdeal (hAdamInIdeal := hAdamInIdeal) (hAdamInRefIdeal := hAdamInRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamMlp_AdamMlpIdeal
    ∧ algebraic_AdamMlpIdeal_AdamMlpRefIdeal (hAdamMlpIdeal := hAdamMlpIdeal) (hAdamMlpRefIdeal := hAdamMlpRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamMlpTop_AdamMlpTopIdeal
    ∧ algebraic_AdamMlpTopIdeal_AdamMlpTopRefIdeal (hAdamMlpTopIdeal := hAdamMlpTopIdeal) (hAdamMlpTopRefIdeal := hAdamMlpTopRefIdeal)
    ∧ preserves_AdamOutTop_AdamOutTopIdeal
    ∧ algebraic_AdamOutTopIdeal_AdamOutTopRefIdeal (hAdamOutTopIdeal := hAdamOutTopIdeal) (hAdamOutTopRefIdeal := hAdamOutTopRefIdeal)
-- ==== Pre_finite_conv.lean ====
abbrev S2x2048x4608 : Shape := ⟨3, ![2, 2048, 4608]⟩
abbrev S2x2048x1536 : Shape := ⟨3, ![2, 2048, 1536]⟩
abbrev S4x1536 : Shape := ⟨2, ![4, 1536]⟩
abbrev S1536 : Shape := ⟨1, ![1536]⟩
abbrev S_ : Shape := ⟨0, ![]⟩

class Facts : Prop where
  bcast_S_S2x2048x1536 : S_.BroadcastsInDim S2x2048x1536 (![] : Fin 0 → Fin S2x2048x1536.rank)

variable [Facts]

def fn {F : FTy → Type} [FloatOps F] (main_arg0 : FVec F S2x2048x4608 .f32) (main_arg1 : FVec F S2x2048x1536 .f32) (main_arg2 : FVec F S4x1536 .f32) (main_arg3 : FVec F S1536 .f32) : IVec S2x2048x1536 1 :=
  let main_v0 : FVec F S2x2048x1536 .f32 := Host.absf main_arg1
  let main_cst : FVec F S_ .f32 := constant S_ .f32 0x7F800000#32
  let main_v1 : FVec F S2x2048x1536 .f32 := broadcastInDim S2x2048x1536 ![] bcast_S_S2x2048x1536 main_cst
  let main_v2 : IVec S2x2048x1536 1 := cmpf .olt main_v0 main_v1
  main_v2
-- ==== Kernel.lean ====
abbrev S2x2048x4608 : Shape := ⟨3, ![2, 2048, 4608]⟩
abbrev S2x2048x2048 : Shape := ⟨3, ![2, 2048, 2048]⟩
abbrev S4x128 : Shape := ⟨2, ![4, 128]⟩
abbrev S4x128x128 : Shape := ⟨3, ![4, 128, 128]⟩
abbrev S512 : Shape := ⟨1, ![512]⟩
abbrev S1x512 : Shape := ⟨2, ![1, 512]⟩
abbrev S128x4 : Shape := ⟨2, ![128, 4]⟩
abbrev S2x2048x512 : Shape := ⟨3, ![2, 2048, 512]⟩
abbrev S1x128x512 : Shape := ⟨3, ![1, 128, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S128x384 : Shape := ⟨2, ![128, 384]⟩
abbrev S128x3 : Shape := ⟨2, ![128, 3]⟩
abbrev S3x128x128 : Shape := ⟨3, ![3, 128, 128]⟩
abbrev S1x384 : Shape := ⟨2, ![1, 384]⟩
abbrev S128x256 : Shape := ⟨2, ![128, 256]⟩
abbrev S128x2 : Shape := ⟨2, ![128, 2]⟩
abbrev S2x128x128 : Shape := ⟨3, ![2, 128, 128]⟩
abbrev S1x256 : Shape := ⟨2, ![1, 256]⟩

abbrev nBuf : Space → Nat
  | .hbm => 18
  | .vmem => 20
  | .smem => 0
  | _ => 0

abbrev bufTy : (tb : Table) → Fin (tcTables nBuf tb) → BufTy
  | .hbm, ⟨0, _⟩ => ⟨S2x2048x4608, .f32⟩
  | .hbm, ⟨1, _⟩ => ⟨S2x2048x2048, .f32⟩
  | .hbm, ⟨2, _⟩ => ⟨S4x128, .f32⟩
  | .hbm, ⟨3, _⟩ => ⟨S4x128, .f32⟩
  | .hbm, ⟨4, _⟩ => ⟨S4x128x128, .f32⟩
  | .hbm, ⟨5, _⟩ => ⟨S4x128, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S128x4, .f32⟩
  | .hbm, ⟨10, _⟩ => ⟨S1x512, .f32⟩
  | .hbm, ⟨11, _⟩ => ⟨S2x2048x512, .bf16⟩
  | .hbm, ⟨12, _⟩ => ⟨S2x2048x512, .bf16⟩
  | .hbm, ⟨13, _⟩ => ⟨S1x512, .f32⟩
  | .hbm, ⟨14, _⟩ => ⟨S1x512, .f32⟩
  | .hbm, ⟨15, _⟩ => ⟨S4x128x128, .f32⟩
  | .hbm, ⟨16, _⟩ => ⟨S128x4, .f32⟩
  | .hbm, ⟨17, _⟩ => ⟨S1x512, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S1x512, .f32⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x512, .f32⟩
  | .local _ .vmem, ⟨16, _⟩ => ⟨S1x512, .f32⟩
  | .local _ .vmem, ⟨17, _⟩ => ⟨S4x128x128, .f32⟩
  | .local _ .vmem, ⟨18, _⟩ => ⟨S128x4, .f32⟩
  | .local _ .vmem, ⟨19, _⟩ => ⟨S1x512, .f32⟩
  | _, _ => ⟨S2x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v559 : BitVec 32 := Scalar.extui v2
  let c0_i32_159 : BitVec 32 := 0#32
  let v560 : BitVec 1 := Scalar.cmpi .ne v559 c0_i32_159
  v560

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v561 : BitVec 1 := Scalar.xori v2 v_true
  let v562 : BitVec 32 := Scalar.extui v561
  let c0_i32_160 : BitVec 32 := 0#32
  let v563 : BitVec 1 := Scalar.cmpi .ne v562 c0_i32_160
  v563

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S2x2048x4608 : Shape := ⟨3, ![2, 2048, 4608]⟩
abbrev S2x2048x2048 : Shape := ⟨3, ![2, 2048, 2048]⟩
abbrev S4x128 : Shape := ⟨2, ![4, 128]⟩
abbrev S4x128x128 : Shape := ⟨3, ![4, 128, 128]⟩
abbrev S512 : Shape := ⟨1, ![512]⟩
abbrev S2x2048x512 : Shape := ⟨3, ![2, 2048, 512]⟩
abbrev S_ : Shape := ⟨0, ![]⟩
abbrev S2x16x128x4x128 : Shape := ⟨5, ![2, 16, 128, 4, 128]⟩
abbrev S2x2048x4x128 : Shape := ⟨4, ![2, 2048, 4, 128]⟩
abbrev S2x2048x4 : Shape := ⟨3, ![2, 2048, 4]⟩
abbrev S2x2048x4x1 : Shape := ⟨4, ![2, 2048, 4, 1]⟩
abbrev S1x1x4x128 : Shape := ⟨4, ![1, 1, 4, 128]⟩
abbrev S128x128 : Shape := ⟨2, ![128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S2x2048 : Shape := ⟨2, ![2, 2048]⟩
abbrev S2x2048x1 : Shape := ⟨3, ![2, 2048, 1]⟩
abbrev S1x1x512 : Shape := ⟨3, ![1, 1, 512]⟩
abbrev S1x512 : Shape := ⟨2, ![1, 512]⟩

abbrev nBuf : Space → Nat
  | .hbm => 261
  | .vmem => 0
  | .smem => 0
  | _ => 0

abbrev hbmTy0_0 (i : Nat) : BufTy := match i % 128 with
  | 0 => ⟨S2x2048x4608, .f32⟩
  | 1 => ⟨S2x2048x2048, .f32⟩
  | 2 => ⟨S4x128, .f32⟩
  | 3 => ⟨S4x128, .f32⟩
  | 4 => ⟨S4x128x128, .f32⟩
  | 5 => ⟨S4x128, .f32⟩
  | 6 => ⟨S512, .f32⟩
  | 7 => ⟨S2x2048x512, .f32⟩
  | 8 => ⟨S2x2048x512, .f32⟩
  | 9 => ⟨S2x2048x512, .f32⟩
  | 10 => ⟨S2x2048x512, .f32⟩
  | 11 => ⟨S2x2048x512, .f32⟩
  | 12 => ⟨S_, .f32⟩
  | 13 => ⟨S2x2048x512, .f32⟩
  | 14 => ⟨S2x2048x512, .f32⟩
  | 15 => ⟨S_, .f32⟩
  | 16 => ⟨S2x2048x512, .f32⟩
  | 17 => ⟨S2x2048x512, .f32⟩
  | 18 => ⟨S2x2048x512, .f32⟩
  | 19 => ⟨S_, .f32⟩
  | 20 => ⟨S2x2048x512, .f32⟩
  | 21 => ⟨S2x2048x512, .f32⟩
  | 22 => ⟨S2x2048x512, .f32⟩
  | 23 => ⟨S_, .f32⟩
  | 24 => ⟨S2x2048x512, .f32⟩
  | 25 => ⟨S2x2048x512, .f32⟩
  | 26 => ⟨S_, .f32⟩
  | 27 => ⟨S2x2048x512, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S_, .f32⟩
  | 34 => ⟨S2x2048x512, .f32⟩
  | 35 => ⟨S2x2048x512, .f32⟩
  | 36 => ⟨S2x2048x512, .f32⟩
  | 37 => ⟨S2x16x128x4x128, .f32⟩
  | 38 => ⟨S2x2048x512, .f32⟩
  | 39 => ⟨S2x2048x512, .f32⟩
  | 40 => ⟨S2x2048x512, .f32⟩
  | 41 => ⟨S_, .f32⟩
  | 42 => ⟨S2x2048x512, .f32⟩
  | 43 => ⟨S2x2048x512, .f32⟩
  | 44 => ⟨S_, .f32⟩
  | 45 => ⟨S2x2048x512, .f32⟩
  | 46 => ⟨S2x2048x512, .f32⟩
  | 47 => ⟨S2x2048x512, .f32⟩
  | 48 => ⟨S_, .f32⟩
  | 49 => ⟨S2x2048x512, .f32⟩
  | 50 => ⟨S2x2048x512, .f32⟩
  | 51 => ⟨S2x2048x512, .f32⟩
  | 52 => ⟨S_, .f32⟩
  | 53 => ⟨S2x2048x512, .f32⟩
  | 54 => ⟨S2x2048x512, .f32⟩
  | 55 => ⟨S_, .f32⟩
  | 56 => ⟨S2x2048x512, .f32⟩
  | 57 => ⟨S2x2048x512, .f32⟩
  | 58 => ⟨S2x2048x512, .f32⟩
  | 59 => ⟨S_, .f32⟩
  | 60 => ⟨S2x2048x512, .f32⟩
  | 61 => ⟨S2x2048x512, .f32⟩
  | 62 => ⟨S_, .f32⟩
  | 63 => ⟨S2x2048x512, .f32⟩
  | 64 => ⟨S2x2048x512, .f32⟩
  | 65 => ⟨S2x2048x512, .f32⟩
  | 66 => ⟨S2x2048x4x128, .f32⟩
  | 67 => ⟨S_, .f32⟩
  | 68 => ⟨S2x2048x4, .f32⟩
  | 69 => ⟨S2x2048x4x1, .f32⟩
  | 70 => ⟨S_, .f32⟩
  | 71 => ⟨S2x2048x4x1, .f32⟩
  | 72 => ⟨S2x2048x4x1, .f32⟩
  | 73 => ⟨S2x2048x4x128, .f32⟩
  | 74 => ⟨S2x2048x4x128, .f32⟩
  | 75 => ⟨S2x2048x4x128, .f32⟩
  | 76 => ⟨S_, .f32⟩
  | 77 => ⟨S2x2048x4, .f32⟩
  | 78 => ⟨S2x2048x4x1, .f32⟩
  | 79 => ⟨S_, .f32⟩
  | 80 => ⟨S2x2048x4x1, .f32⟩
  | 81 => ⟨S2x2048x4x1, .f32⟩
  | 82 => ⟨S_, .f32⟩
  | 83 => ⟨S2x2048x4x1, .f32⟩
  | 84 => ⟨S2x2048x4x1, .f32⟩
  | 85 => ⟨S2x2048x4x1, .f32⟩
  | 86 => ⟨S2x2048x4x1, .f32⟩
  | 87 => ⟨S_, .f32⟩
  | 88 => ⟨S2x2048x4x1, .f32⟩
  | 89 => ⟨S2x2048x4x1, .f32⟩
  | 90 => ⟨S2x2048x4x128, .f32⟩
  | 91 => ⟨S2x2048x4x128, .f32⟩
  | 92 => ⟨S1x1x4x128, .f32⟩
  | 93 => ⟨S2x2048x4x128, .f32⟩
  | 94 => ⟨S2x2048x4x128, .f32⟩
  | 95 => ⟨S1x1x4x128, .f32⟩
  | 96 => ⟨S2x2048x4x128, .f32⟩
  | 97 => ⟨S2x2048x4x128, .f32⟩
  | 98 => ⟨S2x16x128x4x128, .f32⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S4x128x128, .i1⟩
  | 106 => ⟨S_, .f32⟩
  | 107 => ⟨S4x128x128, .f32⟩
  | 108 => ⟨S4x128x128, .f32⟩
  | 109 => ⟨S_, .f32⟩
  | 110 => ⟨S4x128x128, .f32⟩
  | 111 => ⟨S4x2x16x128x128, .f32⟩
  | 112 => ⟨S2x16x128x4x128, .f32⟩
  | 113 => ⟨S128x4, .f32⟩
  | 114 => ⟨S1x1x128x4x1, .f32⟩
  | 115 => ⟨S2x16x128x4x128, .f32⟩
  | 116 => ⟨S2x16x128x4x128, .f32⟩
  | 117 => ⟨S2x16x128x4x128, .f32⟩
  | 118 => ⟨S2x2048x512, .f32⟩
  | 119 => ⟨S2x2048x512, .f32⟩
  | 120 => ⟨S_, .f32⟩
  | 121 => ⟨S2x2048, .f32⟩
  | 122 => ⟨S2x2048x1, .f32⟩
  | 123 => ⟨S_, .f32⟩
  | 124 => ⟨S2x2048x1, .f32⟩
  | 125 => ⟨S2x2048x1, .f32⟩
  | 126 => ⟨S_, .f32⟩
  | 127 => ⟨S2x2048x1, .f32⟩
  | _ => ⟨S2x2048x4608, .f32⟩

abbrev hbmTy0_1 (i : Nat) : BufTy := match i % 128 with
  | 0 => ⟨S2x2048x1, .f32⟩
  | 1 => ⟨S2x2048x1, .f32⟩
  | 2 => ⟨S2x2048x1, .f32⟩
  | 3 => ⟨S_, .f32⟩
  | 4 => ⟨S2x2048x1, .f32⟩
  | 5 => ⟨S2x2048x1, .f32⟩
  | 6 => ⟨S2x2048x512, .f32⟩
  | 7 => ⟨S2x2048x512, .f32⟩
  | 8 => ⟨S1x1x512, .f32⟩
  | 9 => ⟨S2x2048x512, .f32⟩
  | 10 => ⟨S2x2048x512, .f32⟩
  | 11 => ⟨S2x2048x512, .f32⟩
  | 12 => ⟨S2x2048x512, .f32⟩
  | 13 => ⟨S_, .f32⟩
  | 14 => ⟨S512, .f32⟩
  | 15 => ⟨S1x1x512, .f32⟩
  | 16 => ⟨S2x2048x512, .f32⟩
  | 17 => ⟨S2x2048x512, .f32⟩
  | 18 => ⟨S_, .f32⟩
  | 19 => ⟨S512, .f32⟩
  | 20 => ⟨S2x2048x512, .f32⟩
  | 21 => ⟨S_, .f32⟩
  | 22 => ⟨S2x2048, .f32⟩
  | 23 => ⟨S2x2048x1, .f32⟩
  | 24 => ⟨S2x2048x512, .f32⟩
  | 25 => ⟨S2x2048x512, .f32⟩
  | 26 => ⟨S2x2048x1, .f32⟩
  | 27 => ⟨S_, .f32⟩
  | 28 => ⟨S2x2048x1, .f32⟩
  | 29 => ⟨S2x2048x1, .f32⟩
  | 30 => ⟨S_, .f32⟩
  | 31 => ⟨S2x2048, .f32⟩
  | 32 => ⟨S2x2048x512, .f32⟩
  | 33 => ⟨S2x2048x512, .f32⟩
  | 34 => ⟨S2x2048x512, .f32⟩
  | 35 => ⟨S2x2048x512, .f32⟩
  | 36 => ⟨S2x2048x512, .f32⟩
  | 37 => ⟨S2x16x128x4x128, .f32⟩
  | 38 => ⟨S2x16x128x4x128, .f32⟩
  | 39 => ⟨S2x16x128x4x128, .f32⟩
  | 40 => ⟨S_, .f32⟩
  | 41 => ⟨S128x4, .f32⟩
  | 42 => ⟨S1x1x128x4x1, .f32⟩
  | 43 => ⟨S_, .f32⟩
  | 44 => ⟨S128x4, .f32⟩
  | 45 => ⟨S4x128, .f32⟩
  | 46 => ⟨S4x2x16x128x128, .f32⟩
  | 47 => ⟨S4x128x128, .f32⟩
  | 48 => ⟨S4x2x16x128x128, .f32⟩
  | 49 => ⟨S2x16x128x4x128, .f32⟩
  | 50 => ⟨S_, .f32⟩
  | 51 => ⟨S4x128x128, .f32⟩
  | 52 => ⟨S4x128x128, .f32⟩
  | 53 => ⟨S2x2048x4x128, .f32⟩
  | 54 => ⟨S_, .f32⟩
  | 55 => ⟨S4x128, .f32⟩
  | 56 => ⟨S1x1x4x128, .f32⟩
  | 57 => ⟨S_, .f32⟩
  | 58 => ⟨S4x128, .f32⟩
  | 59 => ⟨S2x2048x4x128, .f32⟩
  | 60 => ⟨S_, .f32⟩
  | 61 => ⟨S4x128, .f32⟩
  | 62 => ⟨S1x1x4x128, .f32⟩
  | 63 => ⟨S2x2048x4x128, .f32⟩
  | 64 => ⟨S2x2048x4x128, .f32⟩
  | 65 => ⟨S_, .f32⟩
  | 66 => ⟨S4x128, .f32⟩
  | 67 => ⟨S2x2048x4x128, .f32⟩
  | 68 => ⟨S_, .f32⟩
  | 69 => ⟨S2x2048x4, .f32⟩
  | 70 => ⟨S2x2048x4x1, .f32⟩
  | 71 => ⟨S2x2048x4x128, .f32⟩
  | 72 => ⟨S2x2048x4x128, .f32⟩
  | 73 => ⟨S2x2048x4x1, .f32⟩
  | 74 => ⟨S_, .f32⟩
  | 75 => ⟨S2x2048x4x1, .f32⟩
  | 76 => ⟨S2x2048x4x1, .f32⟩
  | 77 => ⟨S_, .f32⟩
  | 78 => ⟨S2x2048x4, .f32⟩
  | 79 => ⟨S2x2048x4x128, .f32⟩
  | 80 => ⟨S2x2048x4x128, .f32⟩
  | 81 => ⟨S2x2048x4x128, .f32⟩
  | 82 => ⟨S2x2048x4x128, .f32⟩
  | 83 => ⟨S2x2048x4x128, .f32⟩
  | 84 => ⟨S2x2048x4x128, .f32⟩
  | 85 => ⟨S_, .f32⟩
  | 86 => ⟨S2x2048x4, .f32⟩
  | 87 => ⟨S2x2048x4x1, .f32⟩
  | 88 => ⟨S_, .f32⟩
  | 89 => ⟨S2x2048x4x1, .f32⟩
  | 90 => ⟨S2x2048x4x1, .f32⟩
  | 91 => ⟨S_, .f32⟩
  | 92 => ⟨S2x2048x4, .f32⟩
  | 93 => ⟨S2x2048x4x128, .f32⟩
  | 94 => ⟨S2x2048x4x128, .f32⟩
  | 95 => ⟨S2x2048x512, .f32⟩
  | 96 => ⟨S2x2048x512, .f32⟩
  | 97 => ⟨S2x2048x512, .f32⟩
  | 98 => ⟨S_, .f32⟩
  | 99 => ⟨S2x2048x512, .f32⟩
  | 100 => ⟨S2x2048x512, .f32⟩
  | 101 => ⟨S2x2048x512, .f32⟩
  | 102 => ⟨S_, .f32⟩
  | 103 => ⟨S2x2048x512, .f32⟩
  | 104 => ⟨S2x2048x512, .f32⟩
  | 105 => ⟨S2x2048x512, .f32⟩
  | 106 => ⟨S_, .f32⟩
  | 107 => ⟨S2x2048x512, .f32⟩
  | 108 => ⟨S2x2048x512, .f32⟩
  | 109 => ⟨S2x2048x512, .f32⟩
  | 110 => ⟨S2x2048x512, .f32⟩
  | 111 => ⟨S2x2048x512, .f32⟩
  | 112 => ⟨S2x2048x512, .f32⟩
  | 113 => ⟨S2x2048x512, .f32⟩
  | 114 => ⟨S_, .f32⟩
  | 115 => ⟨S2x2048x512, .f32⟩
  | 116 => ⟨S2x2048x512, .f32⟩
  | 117 => ⟨S2x2048x512, .f32⟩
  | 118 => ⟨S_, .f32⟩
  | 119 => ⟨S2x2048x512, .f32⟩
  | 120 => ⟨S2x2048x512, .f32⟩
  | 121 => ⟨S2x2048x512, .f32⟩
  | 122 => ⟨S_, .f32⟩
  | 123 => ⟨S2x2048x512, .f32⟩
  | 124 => ⟨S2x2048x512, .f32⟩
  | 125 => ⟨S2x2048x512, .f32⟩
  | 126 => ⟨S2x2048x512, .f32⟩
  | 127 => ⟨S2x2048x512, .bf16⟩
  | _ => ⟨S2x2048x4608, .f32⟩

abbrev hbmTy0_2 (i : Nat) : BufTy := match i % 128 with
  | 0 => ⟨S2x2048x512, .bf16⟩
  | 1 => ⟨S1x512, .f32⟩
  | 2 => ⟨S1x512, .f32⟩
  | 3 => ⟨S128x4, .f32⟩
  | 4 => ⟨S1x512, .f32⟩
  | _ => ⟨S2x2048x4608, .f32⟩

abbrev hbmTy (i : Nat) : BufTy := match i / 128 with
  | 0 => hbmTy0_0 i
  | 1 => hbmTy0_1 i
  | 2 => hbmTy0_2 i
  | _ => ⟨S2x2048x4608, .f32⟩

abbrev bufTy : (tb : Table) → Fin (tcTables nBuf tb) → BufTy
  | .hbm, ⟨i, _⟩ => hbmTy i
  | _, _ => ⟨S2x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_cst_16 : Ref sig .tc := ⟨.hbm, 79, rfl⟩
abbrev main_v55 : Ref sig .tc := ⟨.hbm, 80, rfl⟩
abbrev main_v56 : Ref sig .tc := ⟨.hbm, 81, rfl⟩
abbrev main_cst_17 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_v72_1 : Ref sig .tc := ⟨.hbm, 105, rfl⟩
abbrev main_call0_cst : Ref sig .tc := ⟨.hbm, 106, rfl⟩
abbrev main_call0_v6 : Ref sig .tc := ⟨.hbm, 107, rfl⟩
abbrev main_v72_0 : Ref sig .tc := ⟨.hbm, 108, rfl⟩
abbrev main_call0_cst_0 : Ref sig .tc := ⟨.hbm, 109, rfl⟩
abbrev main_v72_2 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_cst_20 : Ref sig .tc := ⟨.hbm, 123, rfl⟩
abbrev main_v84 : Ref sig .tc := ⟨.hbm, 124, rfl⟩
abbrev main_v85 : Ref sig .tc := ⟨.hbm, 125, rfl⟩
abbrev main_cst_21 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_22 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_23 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_24 : Ref sig .tc := ⟨.hbm, 146, rfl⟩
abbrev main_v103 : Ref sig .tc := ⟨.hbm, 147, rfl⟩
abbrev main_v104 : Ref sig .tc := ⟨.hbm, 148, rfl⟩
abbrev main_cst_25 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_26 : Ref sig .tc := ⟨.hbm, 155, rfl⟩
abbrev main_v110 : Ref sig .tc := ⟨.hbm, 156, rfl⟩
abbrev main_v111 : Ref sig .tc := ⟨.hbm, 157, rfl⟩
abbrev main_cst_27 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_28 : Ref sig .tc := ⟨.hbm, 168, rfl⟩
abbrev main_v121 : Ref sig .tc := ⟨.hbm, 169, rfl⟩
abbrev main_v122 : Ref sig .tc := ⟨.hbm, 170, rfl⟩
abbrev main_cst_29 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_call1_cst : Ref sig .tc := ⟨.hbm, 178, rfl⟩
abbrev main_call1_v0 : Ref sig .tc := ⟨.hbm, 179, rfl⟩
abbrev main_v129 : Ref sig .tc := ⟨.hbm, 180, rfl⟩
abbrev main_v130 : Ref sig .tc := ⟨.hbm, 181, rfl⟩
abbrev main_cst_30 : Ref sig .tc := ⟨.hbm, 182, rfl⟩
abbrev main_v131 : Ref sig .tc := ⟨.hbm, 183, rfl⟩
abbrev main_v132 : Ref sig .tc := ⟨.hbm, 184, rfl⟩
abbrev main_cst_31 : Ref sig .tc := ⟨.hbm, 185, rfl⟩
abbrev main_v133 : Ref sig .tc := ⟨.hbm, 186, rfl⟩
abbrev main_v134 : Ref sig .tc := ⟨.hbm, 187, rfl⟩
abbrev main_cst_32 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_33 : Ref sig .tc := ⟨.hbm, 193, rfl⟩
abbrev main_v139 : Ref sig .tc := ⟨.hbm, 194, rfl⟩
abbrev main_v140 : Ref sig .tc := ⟨.hbm, 195, rfl⟩
abbrev main_cst_34 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_35 : Ref sig .tc := ⟨.hbm, 202, rfl⟩
abbrev main_v146 : Ref sig .tc := ⟨.hbm, 203, rfl⟩
abbrev main_v147 : Ref sig .tc := ⟨.hbm, 204, rfl⟩
abbrev main_cst_36 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_cst_37 : Ref sig .tc := ⟨.hbm, 213, rfl⟩
abbrev main_v155 : Ref sig .tc := ⟨.hbm, 214, rfl⟩
abbrev main_v156 : Ref sig .tc := ⟨.hbm, 215, rfl⟩
abbrev main_cst_38 : Ref sig .tc := ⟨.hbm, 216, rfl⟩
abbrev main_v157 : Ref sig .tc := ⟨.hbm, 217, rfl⟩
abbrev main_v158 : Ref sig .tc := ⟨.hbm, 218, rfl⟩
abbrev main_cst_39 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_40 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_cst_41 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_cst_42 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_cst_43 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_cst_44 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_cst_45 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩

abbrev nD : Nat := 1
abbrev τ : Topo := Topo.v7x

variable {F : FTy → Type} [FloatOps F]
-- ==== Mlp2Dx.lean ====
abbrev S4096x2048 : Shape := ⟨2, ![4096, 2048]⟩
abbrev S4x2048x2048 : Shape := ⟨3, ![4, 2048, 2048]⟩
abbrev S8192x2048 : Shape := ⟨2, ![8192, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8192 : Shape := ⟨2, ![4096, 8192]⟩
abbrev S1024x2048 : Shape := ⟨2, ![1024, 2048]⟩

abbrev nBuf : Space → Nat
  | .hbm => 18
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S8192x2048, .f32⟩
  | .hbm, ⟨3, _⟩ => ⟨S4096x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x8192, .f32⟩
  | .hbm, ⟨13, _⟩ => ⟨S4096x8192, .f32⟩
  | .hbm, ⟨14, _⟩ => ⟨S4096x8192, .bf16⟩
  | .hbm, ⟨15, _⟩ => ⟨S4096x2048, .bf16⟩
  | .hbm, ⟨16, _⟩ => ⟨S8192x2048, .bf16⟩
  | .hbm, ⟨17, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Mlp2DxRefIdeal.lean ====
abbrev S4096x2048 : Shape := ⟨2, ![4096, 2048]⟩
abbrev S4x2048x2048 : Shape := ⟨3, ![4, 2048, 2048]⟩
abbrev S8192x2048 : Shape := ⟨2, ![8192, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S8192x2048, .f32⟩
  | .hbm, ⟨3, _⟩ => ⟨S4096x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .i1⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x2048, .f32⟩
  | .hbm, ⟨27, _⟩ => ⟨S2048x8192, .f32⟩
  | .hbm, ⟨28, _⟩ => ⟨S8192x2048, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096x8192, .f32⟩
  | .hbm, ⟨33, _⟩ => ⟨S4096x8192, .f32⟩
  | .hbm, ⟨34, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Mlp2Dw.lean ====
abbrev S4096x2048 : Shape := ⟨2, ![4096, 2048]⟩
abbrev S4x2048x2048 : Shape := ⟨3, ![4, 2048, 2048]⟩
abbrev S8192x2048 : Shape := ⟨2, ![8192, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8192 : Shape := ⟨2, ![4096, 8192]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 17
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S8192x2048, .f32⟩
  | .hbm, ⟨3, _⟩ => ⟨S4096x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x8192, .f32⟩
  | .hbm, ⟨13, _⟩ => ⟨S4096x8192, .f32⟩
  | .hbm, ⟨14, _⟩ => ⟨S4096x8192, .bf16⟩
  | .hbm, ⟨15, _⟩ => ⟨S4096x2048, .bf16⟩
  | .hbm, ⟨16, _⟩ => ⟨S4x2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .f32⟩
  | .local _ .vmem, ⟨5, _⟩ => ⟨S1x512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Mlp2DwRefIdeal.lean ====
abbrev S4096x2048 : Shape := ⟨2, ![4096, 2048]⟩
abbrev S4x2048x2048 : Shape := ⟨3, ![4, 2048, 2048]⟩
abbrev S8192x2048 : Shape := ⟨2, ![8192, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S8192x2048, .f32⟩
  | .hbm, ⟨3, _⟩ => ⟨S4096x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .i1⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x2048, .f32⟩
  | .hbm, ⟨27, _⟩ => ⟨S2048x8192, .f32⟩
  | .hbm, ⟨28, _⟩ => ⟨S8192x2048, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096x8192, .f32⟩
  | .hbm, ⟨33, _⟩ => ⟨S4096x8192, .f32⟩
  | .hbm, ⟨34, _⟩ => ⟨S4x2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Mlp1Dw.lean ====
abbrev S4096x2048 : Shape := ⟨2, ![4096, 2048]⟩
abbrev S4x2048x2048 : Shape := ⟨3, ![4, 2048, 2048]⟩
abbrev S4096x8192 : Shape := ⟨2, ![4096, 8192]⟩
abbrev S2048x512 : Shape := ⟨2, ![2048, 512]⟩
abbrev S2048x2048 : Shape := ⟨2, ![2048, 2048]⟩
abbrev S1x512x2048 : Shape := ⟨3, ![1, 512, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S4096x8192, .f32⟩
  | .hbm, ⟨3, _⟩ => ⟨S4096x2048, .bf16⟩
  | .hbm, ⟨4, _⟩ => ⟨S4096x8192, .bf16⟩
  | .hbm, ⟨5, _⟩ => ⟨S4x2048x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .f32⟩
  | .local _ .vmem, ⟨5, _⟩ => ⟨S1x512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DwRefIdeal.lean ====
abbrev S4096x2048 : Shape := ⟨2, ![4096, 2048]⟩
abbrev S4x2048x2048 : Shape := ⟨3, ![4, 2048, 2048]⟩
abbrev S4096x8192 : Shape := ⟨2, ![4096, 8192]⟩
abbrev S1x2048x2048 : Shape := ⟨3, ![1, 2048, 2048]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S4096x8192, .f32⟩
  | .hbm, ⟨3, _⟩ => ⟨S1x2048x2048, .f32⟩
  | .hbm, ⟨4, _⟩ => ⟨S2048x2048, .f32⟩
  | .hbm, ⟨5, _⟩ => ⟨S1x2048x2048, .f32⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S1x2048x2048, .f32⟩
  | .hbm, ⟨10, _⟩ => ⟨S2048x2048, .f32⟩
  | .hbm, ⟨11, _⟩ => ⟨S2048x8192, .f32⟩
  | .hbm, ⟨12, _⟩ => ⟨S4096x8192, .f32⟩
  | .hbm, ⟨13, _⟩ => ⟨S8192x2048, .f32⟩
  | .hbm, ⟨14, _⟩ => ⟨S2048x8192, .f32⟩
  | .hbm, ⟨15, _⟩ => ⟨S4096x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048x2048, .f32⟩
  | .hbm, ⟨21, _⟩ => ⟨S_, .f32⟩
  | .hbm, ⟨22, _⟩ => ⟨S4x2048x2048, .f32⟩
  | .hbm, ⟨23, _⟩ => ⟨S1x2048x2048, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S1x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S1x2048x2048, .f32⟩
  | .hbm, ⟨32, _⟩ => ⟨S_, .f32⟩
  | .hbm, ⟨33, _⟩ => ⟨S4x2048x2048, .f32⟩
  | .hbm, ⟨34, _⟩ => ⟨S4x2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Mlp1Dx.lean ====
abbrev S4096x2048 : Shape := ⟨2, ![4096, 2048]⟩
abbrev S4x2048x2048 : Shape := ⟨3, ![4, 2048, 2048]⟩
abbrev S4096x8192 : Shape := ⟨2, ![4096, 8192]⟩
abbrev S512x8192 : Shape := ⟨2, ![512, 8192]⟩
abbrev S1x512x2048 : Shape := ⟨3, ![1, 512, 2048]⟩
abbrev S512x512 : Shape := ⟨2, ![512, 512]⟩
abbrev S512x2048 : Shape := ⟨2, ![512, 2048]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S4096x8192, .f32⟩
  | .hbm, ⟨3, _⟩ => ⟨S4096x8192, .bf16⟩
  | .hbm, ⟨4, _⟩ => ⟨S4x2048x2048, .bf16⟩
  | .hbm, ⟨5, _⟩ => ⟨S4096x2048, .f32⟩
  | .local _ .vmem, ⟨0, _⟩ => ⟨S512x8192, .bf16⟩
  | .local _ .vmem, ⟨1, _⟩ => ⟨S512x8192, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x512, .f32⟩
  | .local _ .vmem, ⟨11, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Mlp1DxRefIdeal.lean ====
abbrev S4096x2048 : Shape := ⟨2, ![4096, 2048]⟩
abbrev S4x2048x2048 : Shape := ⟨3, ![4, 2048, 2048]⟩
abbrev S4096x8192 : Shape := ⟨2, ![4096, 8192]⟩
abbrev S1x2048x2048 : Shape := ⟨3, ![1, 2048, 2048]⟩
abbrev S2048x2048 : Shape := ⟨2, ![2048, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S4096x8192, .f32⟩
  | .hbm, ⟨3, _⟩ => ⟨S1x2048x2048, .f32⟩
  | .hbm, ⟨4, _⟩ => ⟨S2048x2048, .f32⟩
  | .hbm, ⟨5, _⟩ => ⟨S1x2048x2048, .f32⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S1x2048x2048, .f32⟩
  | .hbm, ⟨10, _⟩ => ⟨S2048x2048, .f32⟩
  | .hbm, ⟨11, _⟩ => ⟨S2048x8192, .f32⟩
  | .hbm, ⟨12, _⟩ => ⟨S4096x8192, .f32⟩
  | .hbm, ⟨13, _⟩ => ⟨S8192x2048, .f32⟩
  | .hbm, ⟨14, _⟩ => ⟨S2048x8192, .f32⟩
  | .hbm, ⟨15, _⟩ => ⟨S4096x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048x2048, .f32⟩
  | .hbm, ⟨21, _⟩ => ⟨S_, .f32⟩
  | .hbm, ⟨22, _⟩ => ⟨S4x2048x2048, .f32⟩
  | .hbm, ⟨23, _⟩ => ⟨S1x2048x2048, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S1x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S1x2048x2048, .f32⟩
  | .hbm, ⟨32, _⟩ => ⟨S_, .f32⟩
  | .hbm, ⟨33, _⟩ => ⟨S4x2048x2048, .f32⟩
  | .hbm, ⟨34, _⟩ => ⟨S4x2048x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== ProjOutDx.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S2048x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutDxRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjOutDw.lean ====
abbrev S4096x2048 : Shape := ⟨2, ![4096, 2048]⟩
abbrev S2048x2048 : Shape := ⟨2, ![2048, 2048]⟩
abbrev S4x512x2048 : Shape := ⟨3, ![4, 512, 2048]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S4x512x2048, .f32⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .f32⟩
  | .local _ .vmem, ⟨5, _⟩ => ⟨S1x512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ProjOutDwRefIdeal.lean ====
abbrev S4096x2048 : Shape := ⟨2, ![4096, 2048]⟩
abbrev S2048x2048 : Shape := ⟨2, ![2048, 2048]⟩
abbrev S4x512x2048 : Shape := ⟨3, ![4, 512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S4x512x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjInDw.lean ====
abbrev S4096x2048 : Shape := ⟨2, ![4096, 2048]⟩
abbrev S4x2048x1092 : Shape := ⟨3, ![4, 2048, 1092]⟩
abbrev S4096x4368 : Shape := ⟨2, ![4096, 4368]⟩
abbrev S_ : Shape := ⟨0, ![]⟩
abbrev S4096x4608 : Shape := ⟨2, ![4096, 4608]⟩
abbrev S2048x4608 : Shape := ⟨2, ![2048, 4608]⟩
abbrev S2048x512 : Shape := ⟨2, ![2048, 512]⟩
abbrev S2048x2304 : Shape := ⟨2, ![2048, 2304]⟩
abbrev S512x2304 : Shape := ⟨2, ![512, 2304]⟩

abbrev nBuf : Space → Nat
  | .hbm => 9
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4x2048x1092, .f32⟩
  | .hbm, ⟨2, _⟩ => ⟨S4096x4368, .f32⟩
  | .hbm, ⟨3, _⟩ => ⟨S4096x2048, .bf16⟩
  | .hbm, ⟨4, _⟩ => ⟨S_, .i32⟩
  | .hbm, ⟨5, _⟩ => ⟨S_, .f32⟩
  | .hbm, ⟨6, _⟩ => ⟨S4096x4608, .f32⟩
  | .hbm, ⟨7, _⟩ => ⟨S4096x4608, .bf16⟩
  | .hbm, ⟨8, _⟩ => ⟨S2048x4608, .f32⟩
  | .local _ .vmem, ⟨0, _⟩ => ⟨S2048x512, .bf16⟩
  | .local _ .vmem, ⟨1, _⟩ => ⟨S2048x512, .bf16⟩
  | .local _ .vmem, ⟨2, _⟩ => ⟨S2048x2304, .bf16⟩
  | .local _ .vmem, ⟨3, _⟩ => ⟨S2048x2304, .bf16⟩
  | .local _ .vmem, ⟨4, _⟩ => ⟨S512x2304, .f32⟩
  | .local _ .vmem, ⟨5, _⟩ => ⟨S512x2304, .f32⟩
  | .local _ .vmem, ⟨6, _⟩ => ⟨S512x2304, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDwRefIdeal.lean ====
abbrev S4096x2048 : Shape := ⟨2, ![4096, 2048]⟩
abbrev S4x2048x1092 : Shape := ⟨3, ![4, 2048, 1092]⟩
abbrev S4096x4368 : Shape := ⟨2, ![4096, 4368]⟩
abbrev S1x2048x1092 : Shape := ⟨3, ![1, 2048, 1092]⟩
abbrev S2048x1092 : Shape := ⟨2, ![2048, 1092]⟩
abbrev S2048x4368 : Shape := ⟨2, ![2048, 4368]⟩
abbrev S4368x2048 : Shape := ⟨2, ![4368, 2048]⟩
abbrev S_ : Shape := ⟨0, ![]⟩
abbrev S2048x4608 : Shape := ⟨2, ![2048, 4608]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x1092, .f32⟩
  | .hbm, ⟨2, _⟩ => ⟨S4096x4368, .f32⟩
  | .hbm, ⟨3, _⟩ => ⟨S1x2048x1092, .f32⟩
  | .hbm, ⟨4, _⟩ => ⟨S2048x1092, .f32⟩
  | .hbm, ⟨5, _⟩ => ⟨S1x2048x1092, .f32⟩
  | .hbm, ⟨6, _⟩ => ⟨S2048x1092, .f32⟩
  | .hbm, ⟨7, _⟩ => ⟨S1x2048x1092, .f32⟩
  | .hbm, ⟨8, _⟩ => ⟨S2048x1092, .f32⟩
  | .hbm, ⟨9, _⟩ => ⟨S1x2048x1092, .f32⟩
  | .hbm, ⟨10, _⟩ => ⟨S2048x1092, .f32⟩
  | .hbm, ⟨11, _⟩ => ⟨S2048x4368, .f32⟩
  | .hbm, ⟨12, _⟩ => ⟨S4096x4368, .f32⟩
  | .hbm, ⟨13, _⟩ => ⟨S4368x2048, .f32⟩
  | .hbm, ⟨14, _⟩ => ⟨S2048x4368, .f32⟩
  | .hbm, ⟨15, _⟩ => ⟨S4096x2048, .f32⟩
  | .hbm, ⟨16, _⟩ => ⟨S_, .i32⟩
  | .hbm, ⟨17, _⟩ => ⟨S_, .f32⟩
  | .hbm, ⟨18, _⟩ => ⟨S2048x4608, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== ProjInDx.lean ====
abbrev S4096x2048 : Shape := ⟨2, ![4096, 2048]⟩
abbrev S4x2048x1092 : Shape := ⟨3, ![4, 2048, 1092]⟩
abbrev S4096x4368 : Shape := ⟨2, ![4096, 4368]⟩
abbrev S_ : Shape := ⟨0, ![]⟩
abbrev S4096x4608 : Shape := ⟨2, ![4096, 4608]⟩
abbrev S2048x4x1092 : Shape := ⟨3, ![2048, 4, 1092]⟩
abbrev S2048x4368 : Shape := ⟨2, ![2048, 4368]⟩
abbrev S2048x4608 : Shape := ⟨2, ![2048, 4608]⟩
abbrev S1024x4608 : Shape := ⟨2, ![1024, 4608]⟩
abbrev S512x4608 : Shape := ⟨2, ![512, 4608]⟩
abbrev S1024x512 : Shape := ⟨2, ![1024, 512]⟩

abbrev nBuf : Space → Nat
  | .hbm => 14
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4x2048x1092, .f32⟩
  | .hbm, ⟨2, _⟩ => ⟨S4096x4368, .f32⟩
  | .hbm, ⟨3, _⟩ => ⟨S_, .i32⟩
  | .hbm, ⟨4, _⟩ => ⟨S_, .f32⟩
  | .hbm, ⟨5, _⟩ => ⟨S4096x4608, .f32⟩
  | .hbm, ⟨6, _⟩ => ⟨S4096x4608, .bf16⟩
  | .hbm, ⟨7, _⟩ => ⟨S4x2048x1092, .bf16⟩
  | .hbm, ⟨8, _⟩ => ⟨S2048x4x1092, .bf16⟩
  | .hbm, ⟨9, _⟩ => ⟨S2048x4368, .bf16⟩
  | .hbm, ⟨10, _⟩ => ⟨S_, .i32⟩
  | .hbm, ⟨11, _⟩ => ⟨S_, .bf16⟩
  | .hbm, ⟨12, _⟩ => ⟨S2048x4608, .bf16⟩
  | .hbm, ⟨13, _⟩ => ⟨S4096x2048, .f32⟩
  | .local _ .vmem, ⟨0, _⟩ => ⟨S1024x4608, .bf16⟩
  | .local _ .vmem, ⟨1, _⟩ => ⟨S1024x4608, .bf16⟩
  | .local _ .vmem, ⟨2, _⟩ => ⟨S512x4608, .bf16⟩
  | .local _ .vmem, ⟨3, _⟩ => ⟨S512x4608, .bf16⟩
  | .local _ .vmem, ⟨4, _⟩ => ⟨S1024x512, .f32⟩
  | .local _ .vmem, ⟨5, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDxRefIdeal.lean ====
abbrev S4096x2048 : Shape := ⟨2, ![4096, 2048]⟩
abbrev S4x2048x1092 : Shape := ⟨3, ![4, 2048, 1092]⟩
abbrev S4096x4368 : Shape := ⟨2, ![4096, 4368]⟩
abbrev S1x2048x1092 : Shape := ⟨3, ![1, 2048, 1092]⟩
abbrev S2048x1092 : Shape := ⟨2, ![2048, 1092]⟩
abbrev S2048x4368 : Shape := ⟨2, ![2048, 4368]⟩
abbrev S4368x2048 : Shape := ⟨2, ![4368, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x1092, .f32⟩
  | .hbm, ⟨2, _⟩ => ⟨S4096x4368, .f32⟩
  | .hbm, ⟨3, _⟩ => ⟨S1x2048x1092, .f32⟩
  | .hbm, ⟨4, _⟩ => ⟨S2048x1092, .f32⟩
  | .hbm, ⟨5, _⟩ => ⟨S1x2048x1092, .f32⟩
  | .hbm, ⟨6, _⟩ => ⟨S2048x1092, .f32⟩
  | .hbm, ⟨7, _⟩ => ⟨S1x2048x1092, .f32⟩
  | .hbm, ⟨8, _⟩ => ⟨S2048x1092, .f32⟩
  | .hbm, ⟨9, _⟩ => ⟨S1x2048x1092, .f32⟩
  | .hbm, ⟨10, _⟩ => ⟨S2048x1092, .f32⟩
  | .hbm, ⟨11, _⟩ => ⟨S2048x4368, .f32⟩
  | .hbm, ⟨12, _⟩ => ⟨S4096x4368, .f32⟩
  | .hbm, ⟨13, _⟩ => ⟨S4368x2048, .f32⟩
  | .hbm, ⟨14, _⟩ => ⟨S2048x4368, .f32⟩
  | .hbm, ⟨15, _⟩ => ⟨S4096x2048, .f32⟩
  | .hbm, ⟨16, _⟩ => ⟨S2048x1092, .f32⟩
  | .hbm, ⟨17, _⟩ => ⟨S2048x1092, .f32⟩
  | .hbm, ⟨18, _⟩ => ⟨S2048x1092, .f32⟩
  | .hbm, ⟨19, _⟩ => ⟨S2048x1092, .f32⟩
  | .hbm, ⟨20, _⟩ => ⟨S1x2048x1092, .f32⟩
  | .hbm, ⟨21, _⟩ => ⟨S_, .f32⟩
  | .hbm, ⟨22, _⟩ => ⟨S4x2048x1092, .f32⟩
  | .hbm, ⟨23, _⟩ => ⟨S1x2048x1092, .f32⟩
  | .hbm, ⟨24, _⟩ => ⟨S_, .f32⟩
  | .hbm, ⟨25, _⟩ => ⟨S4x2048x1092, .f32⟩
  | .hbm, ⟨26, _⟩ => ⟨S4x2048x1092, .f32⟩
  | .hbm, ⟨27, _⟩ => ⟨S1x2048x1092, .f32⟩
  | .hbm, ⟨28, _⟩ => ⟨S_, .f32⟩
  | .hbm, ⟨29, _⟩ => ⟨S4x2048x1092, .f32⟩
  | .hbm, ⟨30, _⟩ => ⟨S4x2048x1092, .f32⟩
  | .hbm, ⟨31, _⟩ => ⟨S1x2048x1092, .f32⟩
  | .hbm, ⟨32, _⟩ => ⟨S_, .f32⟩
  | .hbm, ⟨33, _⟩ => ⟨S4x2048x1092, .f32⟩
  | .hbm, ⟨34, _⟩ => ⟨S4x2048x1092, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== GateBwd.lean ====
abbrev S2x2048x2048 : Shape := ⟨3, ![2, 2048, 2048]⟩
abbrev S2x2048 : Shape := ⟨2, ![2, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S1x2048 : Shape := ⟨2, ![1, 2048]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048, .f32⟩
  | .hbm, ⟨3, _⟩ => ⟨S2x1x2048, .f32⟩
  | .hbm, ⟨4, _⟩ => ⟨S2x2048x2048, .bf16⟩
  | .hbm, ⟨5, _⟩ => ⟨S2x1x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .bf16⟩
  | .local _ .vmem, ⟨7, _⟩ => ⟨S1x512x2048, .bf16⟩
  | .local _ .vmem, ⟨8, _⟩ => ⟨S1x1x2048, .f32⟩
  | .local _ .vmem, ⟨9, _⟩ => ⟨S1x1x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v15 : BitVec 1 := Scalar.cmpi .eq arg1 c0_i32
  let v16 : BitVec 32 := Scalar.extui v15
  let c0_i32_11 : BitVec 32 := 0#32
  let v17 : BitVec 1 := Scalar.cmpi .ne v16 c0_i32_11
  v17

def k0_cond2 (i : grid0.Coords) : BitVec 1 :=
  let arg1 : BitVec 32 := BitVec.ofNat 32 (i 1).val
  let c0_i32_12 : BitVec 32 := 0#32
  let v18 : BitVec 1 := Scalar.cmpi .sgt arg1 c0_i32_12
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== GateBwdRefIdeal.lean ====
abbrev S2x2048x2048 : Shape := ⟨3, ![2, 2048, 2048]⟩
abbrev S2x2048 : Shape := ⟨2, ![2, 2048]⟩
abbrev S2x1x2048 : Shape := ⟨3, ![2, 1, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048, .f32⟩
  | .hbm, ⟨3, _⟩ => ⟨S2x1x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S_, .f32⟩
  | .hbm, ⟨10, _⟩ => ⟨S2x2048, .f32⟩
  | .hbm, ⟨11, _⟩ => ⟨S2x1x2048, .f32⟩
  | .hbm, ⟨12, _⟩ => ⟨S_, .f32⟩
  | .hbm, ⟨13, _⟩ => ⟨S2x2048, .f32⟩
  | .hbm, ⟨14, _⟩ => ⟨S2x2048x2048, .bf16⟩
  | .hbm, ⟨15, _⟩ => ⟨S2x1x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== ProjIn.lean ====
abbrev S4096x2048 : Shape := ⟨2, ![4096, 2048]⟩
abbrev S4x2048x1092 : Shape := ⟨3, ![4, 2048, 1092]⟩
abbrev S2048x4x1092 : Shape := ⟨3, ![2048, 4, 1092]⟩
abbrev S2048x4368 : Shape := ⟨2, ![2048, 4368]⟩
abbrev S_ : Shape := ⟨0, ![]⟩
abbrev S2048x4608 : Shape := ⟨2, ![2048, 4608]⟩
abbrev S4096x4608 : Shape := ⟨2, ![4096, 4608]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 10
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4x2048x1092, .f32⟩
  | .hbm, ⟨2, _⟩ => ⟨S4096x2048, .bf16⟩
  | .hbm, ⟨3, _⟩ => ⟨S4x2048x1092, .bf16⟩
  | .hbm, ⟨4, _⟩ => ⟨S2048x4x1092, .bf16⟩
  | .hbm, ⟨5, _⟩ => ⟨S2048x4368, .bf16⟩
  | .hbm, ⟨6, _⟩ => ⟨S_, .i32⟩
  | .hbm, ⟨7, _⟩ => ⟨S_, .bf16⟩
  | .hbm, ⟨8, _⟩ => ⟨S2048x4608, .bf16⟩
  | .hbm, ⟨9, _⟩ => ⟨S4096x4608, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S4096x2048 : Shape := ⟨2, ![4096, 2048]⟩
abbrev S4x2048x1092 : Shape := ⟨3, ![4, 2048, 1092]⟩
abbrev S1x2048x1092 : Shape := ⟨3, ![1, 2048, 1092]⟩
abbrev S2048x1092 : Shape := ⟨2, ![2048, 1092]⟩
abbrev S2048x4368 : Shape := ⟨2, ![2048, 4368]⟩
abbrev S4096x4368 : Shape := ⟨2, ![4096, 4368]⟩
abbrev S_ : Shape := ⟨0, ![]⟩
abbrev S4096x4608 : Shape := ⟨2, ![4096, 4608]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x1092, .f32⟩
  | .hbm, ⟨2, _⟩ => ⟨S1x2048x1092, .f32⟩
  | .hbm, ⟨3, _⟩ => ⟨S2048x1092, .f32⟩
  | .hbm, ⟨4, _⟩ => ⟨S1x2048x1092, .f32⟩
  | .hbm, ⟨5, _⟩ => ⟨S2048x1092, .f32⟩
  | .hbm, ⟨6, _⟩ => ⟨S1x2048x1092, .f32⟩
  | .hbm, ⟨7, _⟩ => ⟨S2048x1092, .f32⟩
  | .hbm, ⟨8, _⟩ => ⟨S1x2048x1092, .f32⟩
  | .hbm, ⟨9, _⟩ => ⟨S2048x1092, .f32⟩
  | .hbm, ⟨10, _⟩ => ⟨S2048x4368, .f32⟩
  | .hbm, ⟨11, _⟩ => ⟨S4096x4368, .f32⟩
  | .hbm, ⟨12, _⟩ => ⟨S_, .i32⟩
  | .hbm, ⟨13, _⟩ => ⟨S_, .f32⟩
  | .hbm, ⟨14, _⟩ => ⟨S4096x4608, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ProjOut.lean ====
abbrev S4096x2048 : Shape := ⟨2, ![4096, 2048]⟩
abbrev S2048x2048 : Shape := ⟨2, ![2048, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2x2048x2048, .f32⟩
  | .hbm, ⟨3, _⟩ => ⟨S2x2048, .f32⟩
  | .hbm, ⟨4, _⟩ => ⟨S4096x2048, .bf16⟩
  | .hbm, ⟨5, _⟩ => ⟨S2048x2048, .bf16⟩
  | .hbm, ⟨6, _⟩ => ⟨S2x1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ProjOutRefIdeal.lean ====
abbrev S4096x2048 : Shape := ⟨2, ![4096, 2048]⟩
abbrev S2048x2048 : Shape := ⟨2, ![2048, 2048]⟩
abbrev S2x2048x2048 : Shape := ⟨3, ![2, 2048, 2048]⟩
abbrev S2x2048 : Shape := ⟨2, ![2, 2048]⟩
abbrev S2x1x2048 : Shape := ⟨3, ![2, 1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2x2048x2048, .f32⟩
  | .hbm, ⟨3, _⟩ => ⟨S2x2048, .f32⟩
  | .hbm, ⟨4, _⟩ => ⟨S4096x2048, .f32⟩
  | .hbm, ⟨5, _⟩ => ⟨S2x2048x2048, .f32⟩
  | .hbm, ⟨6, _⟩ => ⟨S2x1x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Mlp1.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S4096x2048, .bf16⟩
  | .hbm, ⟨3, _⟩ => ⟨S4x2048x2048, .bf16⟩
  | .hbm, ⟨4, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1RefIdeal.lean ====
abbrev S4096x2048 : Shape := ⟨2, ![4096, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8192 : Shape := ⟨2, ![4096, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S2048x8192, .f32⟩
  | .hbm, ⟨11, _⟩ => ⟨S4096x8192, .f32⟩
  | .hbm, ⟨12, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Mlp2.lean ====
abbrev S4096x8192 : Shape := ⟨2, ![4096, 8192]⟩
abbrev S8192x2048 : Shape := ⟨2, ![8192, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S4096x2048 : Shape := ⟨2, ![4096, 2048]⟩
abbrev S512x8192 : Shape := ⟨2, ![512, 8192]⟩
abbrev S8192x512 : Shape := ⟨2, ![8192, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 10
  | .vmem => 12
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S2x2048x2048, .f32⟩
  | .hbm, ⟨3, _⟩ => ⟨S2x2048, .f32⟩
  | .hbm, ⟨4, _⟩ => ⟨S4096x8192, .bf16⟩
  | .hbm, ⟨5, _⟩ => ⟨S8192x2048, .bf16⟩
  | .hbm, ⟨6, _⟩ => ⟨S2x1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Mlp2RefIdeal.lean ====
abbrev S4096x8192 : Shape := ⟨2, ![4096, 8192]⟩
abbrev S8192x2048 : Shape := ⟨2, ![8192, 2048]⟩
abbrev S2x2048x2048 : Shape := ⟨3, ![2, 2048, 2048]⟩
abbrev S2x2048 : Shape := ⟨2, ![2, 2048]⟩
abbrev S_ : Shape := ⟨0, ![]⟩
abbrev S4096x2048 : Shape := ⟨2, ![4096, 2048]⟩
abbrev S2x1x2048 : Shape := ⟨3, ![2, 1, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S2x2048x2048, .f32⟩
  | .hbm, ⟨3, _⟩ => ⟨S2x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S2x2048x2048, .f32⟩
  | .hbm, ⟨10, _⟩ => ⟨S2x1x2048, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== LnFwd.lean ====
abbrev S2x2048x2048 : Shape := ⟨3, ![2, 2048, 2048]⟩
abbrev S2048 : Shape := ⟨1, ![2048]⟩
abbrev S2x2048 : Shape := ⟨2, ![2, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x2048x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S1x2048, .f32⟩
  | .hbm, ⟨5, _⟩ => ⟨S2x1x2048, .f32⟩
  | .hbm, ⟨6, _⟩ => ⟨S2x1x2048, .f32⟩
  | .hbm, ⟨7, _⟩ => ⟨S2x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== LnFwdRefIdeal.lean ====
abbrev S2x2048x2048 : Shape := ⟨3, ![2, 2048, 2048]⟩
abbrev S2048 : Shape := ⟨1, ![2048]⟩
abbrev S2x2048 : Shape := ⟨2, ![2, 2048]⟩
abbrev S_ : Shape := ⟨0, ![]⟩
abbrev S2x2048x1 : Shape := ⟨3, ![2, 2048, 1]⟩
abbrev S1x1x2048 : Shape := ⟨3, ![1, 1, 2048]⟩
abbrev S2x1x2048 : Shape := ⟨3, ![2, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2x2048x2048, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x2048, .f32⟩
  | .hbm, ⟨16, _⟩ => ⟨S2x2048x2048, .f32⟩
  | .hbm, ⟨17, _⟩ => ⟨S1x1x2048, .f32⟩
  | .hbm, ⟨18, _⟩ => ⟨S2x2048x2048, .f32⟩
  | .hbm, ⟨19, _⟩ => ⟨S2x2048x2048, .f32⟩
  | .hbm, ⟨20, _⟩ => ⟨S2x1x2048, .f32⟩
  | .hbm, ⟨21, _⟩ => ⟨S_, .f32⟩
  | .hbm, ⟨22, _⟩ => ⟨S2x1x2048, .f32⟩
  | .hbm, ⟨23, _⟩ => ⟨S2x1x2048, .f32⟩
  | .hbm, ⟨24, _⟩ => ⟨S2x2048x2048, .f32⟩
  | .hbm, ⟨25, _⟩ => ⟨S2x2048x2048, .f32⟩
  | .hbm, ⟨26, _⟩ => ⟨S2x1x2048, .f32⟩
  | .hbm, ⟨27, _⟩ => ⟨S2x2048x2048, .f32⟩
  | .hbm, ⟨28, _⟩ => ⟨S2x2048x2048, .f32⟩
  | .hbm, ⟨29, _⟩ => ⟨S2x2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== LnBwd.lean ====
abbrev S2x2048x2048 : Shape := ⟨3, ![2, 2048, 2048]⟩
abbrev S2048 : Shape := ⟨1, ![2048]⟩
abbrev S2x2048 : Shape := ⟨2, ![2, 2048]⟩
abbrev S1x2048 : Shape := ⟨2, ![1, 2048]⟩
abbrev S2x1x2048 : Shape := ⟨3, ![2, 1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048, .f32⟩
  | .hbm, ⟨4, _⟩ => ⟨S2x2048, .f32⟩
  | .hbm, ⟨5, _⟩ => ⟨S1x2048, .f32⟩
  | .hbm, ⟨6, _⟩ => ⟨S2x1x2048, .f32⟩
  | .hbm, ⟨7, _⟩ => ⟨S2x2048x2048, .f32⟩
  | .hbm, ⟨8, _⟩ => ⟨S2x1x2048, .f32⟩
  | .hbm, ⟨9, _⟩ => ⟨S2x1x2048, .f32⟩
  | .hbm, ⟨10, _⟩ => ⟨S1x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v50 : BitVec 1 := Scalar.cmpi .eq arg1 c0_i32
  let v51 : BitVec 32 := Scalar.extui v50
  let c0_i32_24 : BitVec 32 := 0#32
  let v52 : BitVec 1 := Scalar.cmpi .ne v51 c0_i32_24
  v52

def k0_cond2 (i : grid0.Coords) : BitVec 1 :=
  let arg1 : BitVec 32 := BitVec.ofNat 32 (i 1).val
  let c0_i32_25 : BitVec 32 := 0#32
  let v53 : BitVec 1 := Scalar.cmpi .sgt arg1 c0_i32_25
  let v54 : BitVec 32 := Scalar.extui v53
  let c0_i32_26 : BitVec 32 := 0#32
  let v55 : BitVec 1 := Scalar.cmpi .ne v54 c0_i32_26
  v55

def k0_cond3 (i : grid0.Coords) : BitVec 1 :=
  let arg1 : BitVec 32 := BitVec.ofNat 32 (i 1).val
  let c0_i32_27 : BitVec 32 := 0#32
  let v56 : BitVec 1 := Scalar.cmpi .eq arg1 c0_i32_27
  let arg0 : BitVec 32 := BitVec.ofNat 32 (i 0).val
  let c0_i32_28 : BitVec 32 := 0#32
  let v57 : BitVec 1 := Scalar.cmpi .eq arg0 c0_i32_28
  let v58 : BitVec 1 := Scalar.andi v56 v57
  let v59 : BitVec 32 := Scalar.extui v58
  let c0_i32_29 : BitVec 32 := 0#32
  let v60 : BitVec 1 := Scalar.cmpi .ne v59 c0_i32_29
  v60

def k0_cond4 (i : grid0.Coords) : BitVec 1 :=
  let arg1 : BitVec 32 := BitVec.ofNat 32 (i 1).val
  let c0_i32_30 : BitVec 32 := 0#32
  let v61 : BitVec 1 := Scalar.cmpi .sgt arg1 c0_i32_30
  let arg0 : BitVec 32 := BitVec.ofNat 32 (i 0).val
  let c0_i32_31 : BitVec 32 := 0#32
  let v62 : BitVec 1 := Scalar.cmpi .sgt arg0 c0_i32_31
  let v63 : BitVec 1 := Scalar.ori v61 v62
  let v64 : BitVec 32 := Scalar.extui v63
  let c0_i32_32 : BitVec 32 := 0#32
  let v65 : BitVec 1 := Scalar.cmpi .ne v64 c0_i32_32
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LnBwdRefIdeal.lean ====
abbrev S2x2048x2048 : Shape := ⟨3, ![2, 2048, 2048]⟩
abbrev S2048 : Shape := ⟨1, ![2048]⟩
abbrev S2x2048 : Shape := ⟨2, ![2, 2048]⟩
abbrev S_ : Shape := ⟨0, ![]⟩
abbrev S2x2048x1 : Shape := ⟨3, ![2, 2048, 1]⟩
abbrev S1x1x2048 : Shape := ⟨3, ![1, 1, 2048]⟩
abbrev S2x1x2048 : Shape := ⟨3, ![2, 1, 2048]⟩
abbrev S1x2048 : Shape := ⟨2, ![1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048, .f32⟩
  | .hbm, ⟨4, _⟩ => ⟨S2x2048, .f32⟩
  | .hbm, ⟨5, _⟩ => ⟨S_, .f32⟩
  | .hbm, ⟨6, _⟩ => ⟨S2x2048, .f32⟩
  | .hbm, ⟨7, _⟩ => ⟨S2x2048x2048, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x2048, .f32⟩
  | .hbm, ⟨23, _⟩ => ⟨S2x2048x2048, .f32⟩
  | .hbm, ⟨24, _⟩ => ⟨S1x1x2048, .f32⟩
  | .hbm, ⟨25, _⟩ => ⟨S2x2048x2048, .f32⟩
  | .hbm, ⟨26, _⟩ => ⟨S2x2048x2048, .f32⟩
  | .hbm, ⟨27, _⟩ => ⟨S2x1x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x2048x2048, .f32⟩
  | .hbm, ⟨32, _⟩ => ⟨S2x2048x2048, .f32⟩
  | .hbm, ⟨33, _⟩ => ⟨S2x1x2048, .f32⟩
  | .hbm, ⟨34, _⟩ => ⟨S2x2048x2048, .f32⟩
  | .hbm, ⟨35, _⟩ => ⟨S2x2048x2048, .f32⟩
  | .hbm, ⟨36, _⟩ => ⟨S2x2048x2048, .f32⟩
  | .hbm, ⟨37, _⟩ => ⟨S_, .f32⟩
  | .hbm, ⟨38, _⟩ => ⟨S2x2048, .f32⟩
  | .hbm, ⟨39, _⟩ => ⟨S2x1x2048, .f32⟩
  | .hbm, ⟨40, _⟩ => ⟨S_, .f32⟩
  | .hbm, ⟨41, _⟩ => ⟨S2x2048, .f32⟩
  | .hbm, ⟨42, _⟩ => ⟨S2x2048x2048, .f32⟩
  | .hbm, ⟨43, _⟩ => ⟨S_, .f32⟩
  | .hbm, ⟨44, _⟩ => ⟨S2x2048, .f32⟩
  | .hbm, ⟨45, _⟩ => ⟨S2x1x2048, .f32⟩
  | .hbm, ⟨46, _⟩ => ⟨S2x2048x2048, .f32⟩
  | .hbm, ⟨47, _⟩ => ⟨S2x2048x2048, .f32⟩
  | .hbm, ⟨48, _⟩ => ⟨S_, .f32⟩
  | .hbm, ⟨49, _⟩ => ⟨S2x2048, .f32⟩
  | .hbm, ⟨50, _⟩ => ⟨S2x2048x2048, .f32⟩
  | .hbm, ⟨51, _⟩ => ⟨S_, .f32⟩
  | .hbm, ⟨52, _⟩ => ⟨S2048, .f32⟩
  | .hbm, ⟨53, _⟩ => ⟨S1x1x2048, .f32⟩
  | .hbm, ⟨54, _⟩ => ⟨S2x2048x2048, .f32⟩
  | .hbm, ⟨55, _⟩ => ⟨S2x2048x2048, .f32⟩
  | .hbm, ⟨56, _⟩ => ⟨S_, .f32⟩
  | .hbm, ⟨57, _⟩ => ⟨S2048, .f32⟩
  | .hbm, ⟨58, _⟩ => ⟨S2x2048x2048, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x2048, .f32⟩
  | .hbm, ⟨63, _⟩ => ⟨S2x2048x2048, .f32⟩
  | .hbm, ⟨64, _⟩ => ⟨S2x2048x2048, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048, .f32⟩
  | .hbm, ⟨71, _⟩ => ⟨S2x2048x2048, .f32⟩
  | .hbm, ⟨72, _⟩ => ⟨S2x2048x2048, .f32⟩
  | .hbm, ⟨73, _⟩ => ⟨S2x2048x2048, .f32⟩
  | .hbm, ⟨74, _⟩ => ⟨S2x2048x2048, .f32⟩
  | .hbm, ⟨75, _⟩ => ⟨S2x2048x2048, .f32⟩
  | .hbm, ⟨76, _⟩ => ⟨S2x1x2048, .f32⟩
  | .hbm, ⟨77, _⟩ => ⟨S2x1x2048, .f32⟩
  | .hbm, ⟨78, _⟩ => ⟨S1x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_cst_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== ConvBwd.lean ====
abbrev S2x2048x4608 : Shape := ⟨3, ![2, 2048, 4608]⟩
abbrev S2x2048x1536 : Shape := ⟨3, ![2, 2048, 1536]⟩
abbrev S4x1536 : Shape := ⟨2, ![4, 1536]⟩
abbrev S1536 : Shape := ⟨1, ![1536]⟩
abbrev S1x1536 : Shape := ⟨2, ![1, 1536]⟩
abbrev S1x2048x256 : Shape := ⟨3, ![1, 2048, 256]⟩
abbrev S4x256 : Shape := ⟨2, ![4, 256]⟩
abbrev S1x256 : Shape := ⟨2, ![1, 256]⟩
abbrev S2048x256 : Shape := ⟨2, ![2048, 256]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S2x2048x4608, .f32⟩
  | .hbm, ⟨1, _⟩ => ⟨S2x2048x1536, .f32⟩
  | .hbm, ⟨2, _⟩ => ⟨S4x1536, .f32⟩
  | .hbm, ⟨3, _⟩ => ⟨S1536, .f32⟩
  | .hbm, ⟨4, _⟩ => ⟨S1x1536, .f32⟩
  | .hbm, ⟨5, _⟩ => ⟨S2x2048x1536, .bf16⟩
  | .hbm, ⟨6, _⟩ => ⟨S4x1536, .f32⟩
  | .hbm, ⟨7, _⟩ => ⟨S1x1536, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S1x2048x256, .bf16⟩
  | .local _ .vmem, ⟨9, _⟩ => ⟨S1x2048x256, .bf16⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | _, _ => ⟨S2x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 2], ![false, false]⟩

def k0_cond1 (i : grid0.Coords) : BitVec 1 :=
  let arg1 : BitVec 32 := BitVec.ofNat 32 (i 1).val
  let c0_i32 : BitVec 32 := 0#32
  let v112 : BitVec 1 := Scalar.cmpi .eq arg1 c0_i32
  let v113 : BitVec 32 := Scalar.extui v112
  let c0_i32_35 : BitVec 32 := 0#32
  let v114 : BitVec 1 := Scalar.cmpi .ne v113 c0_i32_35
  v114

def k0_cond2 (i : grid0.Coords) : BitVec 1 :=
  let arg1 : BitVec 32 := BitVec.ofNat 32 (i 1).val
  let c0_i32 : BitVec 32 := 0#32
  let v112 : BitVec 1 := Scalar.cmpi .eq arg1 c0_i32
  let v_true : BitVec 1 := 1#1
  let v115 : BitVec 1 := Scalar.xori v112 v_true
  let v116 : BitVec 32 := Scalar.extui v115
  let c0_i32_36 : BitVec 32 := 0#32
  let v117 : BitVec 1 := Scalar.cmpi .ne v116 c0_i32_36
  v117

def cc0_transform_0 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvBwdRefIdeal.lean ====
abbrev S2x2048x4608 : Shape := ⟨3, ![2, 2048, 4608]⟩
abbrev S2x2048x1536 : Shape := ⟨3, ![2, 2048, 1536]⟩
abbrev S4x1536 : Shape := ⟨2, ![4, 1536]⟩
abbrev S1536 : Shape := ⟨1, ![1536]⟩
abbrev S_ : Shape := ⟨0, ![]⟩
abbrev S2x3x1536 : Shape := ⟨3, ![2, 3, 1536]⟩
abbrev S2x2051x1536 : Shape := ⟨3, ![2, 2051, 1536]⟩
abbrev S1x2x2048x1536 : Shape := ⟨4, ![1, 2, 2048, 1536]⟩
abbrev S4x2x2048x1536 : Shape := ⟨4, ![4, 2, 2048, 1536]⟩
abbrev S4x1x1x1536 : Shape := ⟨4, ![4, 1, 1, 1536]⟩
abbrev S1x1x1536 : Shape := ⟨3, ![1, 1, 1536]⟩
abbrev S1x1536 : Shape := ⟨2, ![1, 1536]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x4608, .f32⟩
  | .hbm, ⟨1, _⟩ => ⟨S2x2048x1536, .f32⟩
  | .hbm, ⟨2, _⟩ => ⟨S4x1536, .f32⟩
  | .hbm, ⟨3, _⟩ => ⟨S1536, .f32⟩
  | .hbm, ⟨4, _⟩ => ⟨S2x2048x1536, .f32⟩
  | .hbm, ⟨5, _⟩ => ⟨S_, .f32⟩
  | .hbm, ⟨6, _⟩ => ⟨S2x3x1536, .f32⟩
  | .hbm, ⟨7, _⟩ => ⟨S2x2051x1536, .f32⟩
  | .hbm, ⟨8, _⟩ => ⟨S_, .f32⟩
  | .hbm, ⟨9, _⟩ => ⟨S2x3x1536, .f32⟩
  | .hbm, ⟨10, _⟩ => ⟨S2x2048x1536, .f32⟩
  | .hbm, ⟨11, _⟩ => ⟨S2x2048x1536, .f32⟩
  | .hbm, ⟨12, _⟩ => ⟨S2x2048x1536, .f32⟩
  | .hbm, ⟨13, _⟩ => ⟨S2x2048x1536, .f32⟩
  | .hbm, ⟨14, _⟩ => ⟨S1x2x2048x1536, .f32⟩
  | .hbm, ⟨15, _⟩ => ⟨S1x2x2048x1536, .f32⟩
  | .hbm, ⟨16, _⟩ => ⟨S1x2x2048x1536, .f32⟩
  | .hbm, ⟨17, _⟩ => ⟨S1x2x2048x1536, .f32⟩
  | .hbm, ⟨18, _⟩ => ⟨S4x2x2048x1536, .f32⟩
  | .hbm, ⟨19, _⟩ => ⟨S4x1x1x1536, .f32⟩
  | .hbm, ⟨20, _⟩ => ⟨S4x2x2048x1536, .f32⟩
  | .hbm, ⟨21, _⟩ => ⟨S4x2x2048x1536, .f32⟩
  | .hbm, ⟨22, _⟩ => ⟨S_, .f32⟩
  | .hbm, ⟨23, _⟩ => ⟨S2x2048x1536, .f32⟩
  | .hbm, ⟨24, _⟩ => ⟨S1x1x1536, .f32⟩
  | .hbm, ⟨25, _⟩ => ⟨S2x2048x1536, .f32⟩
  | .hbm, ⟨26, _⟩ => ⟨S2x2048x1536, .f32⟩
  | .hbm, ⟨27, _⟩ => ⟨S2x2048x1536, .f32⟩
  | .hbm, ⟨28, _⟩ => ⟨S2x2048x1536, .f32⟩
  | .hbm, ⟨29, _⟩ => ⟨S_, .f32⟩
  | .hbm, ⟨30, _⟩ => ⟨S2x2048x1536, .f32⟩
  | .hbm, ⟨31, _⟩ => ⟨S2x2048x1536, .f32⟩
  | .hbm, ⟨32, _⟩ => ⟨S_, .f32⟩
  | .hbm, ⟨33, _⟩ => ⟨S2x2048x1536, .f32⟩
  | .hbm, ⟨34, _⟩ => ⟨S2x2048x1536, .f32⟩
  | .hbm, ⟨35, _⟩ => ⟨S_, .f32⟩
  | .hbm, ⟨36, _⟩ => ⟨S2x2048x1536, .f32⟩
  | .hbm, ⟨37, _⟩ => ⟨S2x2048x1536, .f32⟩
  | .hbm, ⟨38, _⟩ => ⟨S2x2048x1536, .f32⟩
  | .hbm, ⟨39, _⟩ => ⟨S2x2048x1536, .f32⟩
  | .hbm, ⟨40, _⟩ => ⟨S2x2048x1536, .f32⟩
  | .hbm, ⟨41, _⟩ => ⟨S2x2048x1536, .f32⟩
  | .hbm, ⟨42, _⟩ => ⟨S2x2048x1536, .f32⟩
  | .hbm, ⟨43, _⟩ => ⟨S2x2048x1536, .f32⟩
  | .hbm, ⟨44, _⟩ => ⟨S_, .f32⟩
  | .hbm, ⟨45, _⟩ => ⟨S1536, .f32⟩
  | .hbm, ⟨46, _⟩ => ⟨S1x1x1536, .f32⟩
  | .hbm, ⟨47, _⟩ => ⟨S_, .f32⟩
  | .hbm, ⟨48, _⟩ => ⟨S1536, .f32⟩
  | .hbm, ⟨49, _⟩ => ⟨S4x2x2048x1536, .f32⟩
  | .hbm, ⟨50, _⟩ => ⟨S4x2x2048x1536, .f32⟩
  | .hbm, ⟨51, _⟩ => ⟨S4x2x2048x1536, .f32⟩
  | .hbm, ⟨52, _⟩ => ⟨S4x2x2048x1536, .f32⟩
  | .hbm, ⟨53, _⟩ => ⟨S_, .f32⟩
  | .hbm, ⟨54, _⟩ => ⟨S4x1536, .f32⟩
  | .hbm, ⟨55, _⟩ => ⟨S4x1x1x1536, .f32⟩
  | .hbm, ⟨56, _⟩ => ⟨S_, .f32⟩
  | .hbm, ⟨57, _⟩ => ⟨S4x1536, .f32⟩
  | .hbm, ⟨58, _⟩ => ⟨S1x2x2048x1536, .f32⟩
  | .hbm, ⟨59, _⟩ => ⟨S2x2048x1536, .f32⟩
  | .hbm, ⟨60, _⟩ => ⟨S1x2x2048x1536, .f32⟩
  | .hbm, ⟨61, _⟩ => ⟨S2x2048x1536, .f32⟩
  | .hbm, ⟨62, _⟩ => ⟨S1x2x2048x1536, .f32⟩
  | .hbm, ⟨63, _⟩ => ⟨S2x2048x1536, .f32⟩
  | .hbm, ⟨64, _⟩ => ⟨S1x2x2048x1536, .f32⟩
  | .hbm, ⟨65, _⟩ => ⟨S2x2048x1536, .f32⟩
  | .hbm, ⟨66, _⟩ => ⟨S_, .f32⟩
  | .hbm, ⟨67, _⟩ => ⟨S2x2051x1536, .f32⟩
  | .hbm, ⟨68, _⟩ => ⟨S_, .f32⟩
  | .hbm, ⟨69, _⟩ => ⟨S2x2051x1536, .f32⟩
  | .hbm, ⟨70, _⟩ => ⟨S2x2051x1536, .f32⟩
  | .hbm, ⟨71, _⟩ => ⟨S_, .f32⟩
  | .hbm, ⟨72, _⟩ => ⟨S2x2051x1536, .f32⟩
  | .hbm, ⟨73, _⟩ => ⟨S2x2051x1536, .f32⟩
  | .hbm, ⟨74, _⟩ => ⟨S_, .f32⟩
  | .hbm, ⟨75, _⟩ => ⟨S2x2051x1536, .f32⟩
  | .hbm, ⟨76, _⟩ => ⟨S2x2051x1536, .f32⟩
  | .hbm, ⟨77, _⟩ => ⟨S2x3x1536, .f32⟩
  | .hbm, ⟨78, _⟩ => ⟨S2x2048x1536, .f32⟩
  | .hbm, ⟨79, _⟩ => ⟨S2x2048x1536, .bf16⟩
  | .hbm, ⟨80, _⟩ => ⟨S1x1536, .f32⟩
  | _, _ => ⟨S2x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v20_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v20_1 : Ref sig .tc := ⟨.hbm, 38, rfl⟩
abbrev main_v20_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== GmlpFwd.lean ====
abbrev S2x2048x4608 : Shape := ⟨3, ![2, 2048, 4608]⟩
abbrev S4x128 : Shape := ⟨2, ![4, 128]⟩
abbrev S4x128x128 : Shape := ⟨3, ![4, 128, 128]⟩
abbrev S512 : Shape := ⟨1, ![512]⟩
abbrev S1x512 : Shape := ⟨2, ![1, 512]⟩
abbrev S128x4 : Shape := ⟨2, ![128, 4]⟩
abbrev S2x2048x512 : Shape := ⟨3, ![2, 2048, 512]⟩
abbrev S1x128x512 : Shape := ⟨3, ![1, 128, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 11
  | .vmem => 11
  | .smem => 0
  | _ => 0

abbrev bufTy : (tb : Table) → Fin (tcTables nBuf tb) → BufTy
  | .hbm, ⟨0, _⟩ => ⟨S2x2048x4608, .f32⟩
  | .hbm, ⟨1, _⟩ => ⟨S4x128, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S512, .f32⟩
  | .hbm, ⟨6, _⟩ => ⟨S1x512, .f32⟩
  | .hbm, ⟨7, _⟩ => ⟨S1x512, .f32⟩
  | .hbm, ⟨8, _⟩ => ⟨S128x4, .f32⟩
  | .hbm, ⟨9, _⟩ => ⟨S1x512, .f32⟩
  | .hbm, ⟨10, _⟩ => ⟨S2x2048x512, .bf16⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S1x512, .f32⟩
  | .local _ .vmem, ⟨9, _⟩ => ⟨S1x128x512, .bf16⟩
  | .local _ .vmem, ⟨10, _⟩ => ⟨S1x128x512, .bf16⟩
  | _, _ => ⟨S2x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GmlpFwdRefIdeal.lean ====
abbrev S2x2048x4608 : Shape := ⟨3, ![2, 2048, 4608]⟩
abbrev S4x128 : Shape := ⟨2, ![4, 128]⟩
abbrev S4x128x128 : Shape := ⟨3, ![4, 128, 128]⟩
abbrev S512 : Shape := ⟨1, ![512]⟩
abbrev S2x2048x512 : Shape := ⟨3, ![2, 2048, 512]⟩
abbrev S_ : Shape := ⟨0, ![]⟩
abbrev S2x16x128x4x128 : Shape := ⟨5, ![2, 16, 128, 4, 128]⟩
abbrev S2x2048x4x128 : Shape := ⟨4, ![2, 2048, 4, 128]⟩
abbrev S2x2048x4 : Shape := ⟨3, ![2, 2048, 4]⟩
abbrev S2x2048x4x1 : Shape := ⟨4, ![2, 2048, 4, 1]⟩
abbrev S1x1x4x128 : Shape := ⟨4, ![1, 1, 4, 128]⟩
abbrev S128x128 : Shape := ⟨2, ![128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S2x2048 : Shape := ⟨2, ![2, 2048]⟩
abbrev S2x2048x1 : Shape := ⟨3, ![2, 2048, 1]⟩
abbrev S1x1x512 : Shape := ⟨3, ![1, 1, 512]⟩

abbrev nBuf : Space → Nat
  | .hbm => 107
  | .vmem => 0
  | .smem => 0
  | _ => 0

abbrev bufTy : (tb : Table) → Fin (tcTables nBuf tb) → BufTy
  | .hbm, ⟨0, _⟩ => ⟨S2x2048x4608, .f32⟩
  | .hbm, ⟨1, _⟩ => ⟨S4x128, .f32⟩
  | .hbm, ⟨2, _⟩ => ⟨S4x128, .f32⟩
  | .hbm, ⟨3, _⟩ => ⟨S4x128x128, .f32⟩
  | .hbm, ⟨4, _⟩ => ⟨S4x128, .f32⟩
  | .hbm, ⟨5, _⟩ => ⟨S512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S2x2048x512, .f32⟩
  | .hbm, ⟨10, _⟩ => ⟨S_, .f32⟩
  | .hbm, ⟨11, _⟩ => ⟨S2x2048x512, .f32⟩
  | .hbm, ⟨12, _⟩ => ⟨S2x2048x512, .f32⟩
  | .hbm, ⟨13, _⟩ => ⟨S2x2048x512, .f32⟩
  | .hbm, ⟨14, _⟩ => ⟨S_, .f32⟩
  | .hbm, ⟨15, _⟩ => ⟨S2x2048x512, .f32⟩
  | .hbm, ⟨16, _⟩ => ⟨S2x2048x512, .f32⟩
  | .hbm, ⟨17, _⟩ => ⟨S2x2048x512, .f32⟩
  | .hbm, ⟨18, _⟩ => ⟨S_, .f32⟩
  | .hbm, ⟨19, _⟩ => ⟨S2x2048x512, .f32⟩
  | .hbm, ⟨20, _⟩ => ⟨S2x2048x512, .f32⟩
  | .hbm, ⟨21, _⟩ => ⟨S_, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S2x16x128x4x128, .f32⟩
  | .hbm, ⟨26, _⟩ => ⟨S2x2048x512, .f32⟩
  | .hbm, ⟨27, _⟩ => ⟨S2x2048x512, .f32⟩
  | .hbm, ⟨28, _⟩ => ⟨S_, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S_, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S_, .f32⟩
  | .hbm, ⟨37, _⟩ => ⟨S2x2048x512, .f32⟩
  | .hbm, ⟨38, _⟩ => ⟨S2x2048x512, .f32⟩
  | .hbm, ⟨39, _⟩ => ⟨S_, .f32⟩
  | .hbm, ⟨40, _⟩ => ⟨S2x2048x512, .f32⟩
  | .hbm, ⟨41, _⟩ => ⟨S2x2048x512, .f32⟩
  | .hbm, ⟨42, _⟩ => ⟨S2x2048x512, .f32⟩
  | .hbm, ⟨43, _⟩ => ⟨S2x2048x4x128, .f32⟩
  | .hbm, ⟨44, _⟩ => ⟨S_, .f32⟩
  | .hbm, ⟨45, _⟩ => ⟨S2x2048x4, .f32⟩
  | .hbm, ⟨46, _⟩ => ⟨S2x2048x4x1, .f32⟩
  | .hbm, ⟨47, _⟩ => ⟨S_, .f32⟩
  | .hbm, ⟨48, _⟩ => ⟨S2x2048x4x1, .f32⟩
  | .hbm, ⟨49, _⟩ => ⟨S2x2048x4x1, .f32⟩
  | .hbm, ⟨50, _⟩ => ⟨S2x2048x4x128, .f32⟩
  | .hbm, ⟨51, _⟩ => ⟨S2x2048x4x128, .f32⟩
  | .hbm, ⟨52, _⟩ => ⟨S2x2048x4x128, .f32⟩
  | .hbm, ⟨53, _⟩ => ⟨S_, .f32⟩
  | .hbm, ⟨54, _⟩ => ⟨S2x2048x4, .f32⟩
  | .hbm, ⟨55, _⟩ => ⟨S2x2048x4x1, .f32⟩
  | .hbm, ⟨56, _⟩ => ⟨S_, .f32⟩
  | .hbm, ⟨57, _⟩ => ⟨S2x2048x4x1, .f32⟩
  | .hbm, ⟨58, _⟩ => ⟨S2x2048x4x1, .f32⟩
  | .hbm, ⟨59, _⟩ => ⟨S_, .f32⟩
  | .hbm, ⟨60, _⟩ => ⟨S2x2048x4x1, .f32⟩
  | .hbm, ⟨61, _⟩ => ⟨S2x2048x4x1, .f32⟩
  | .hbm, ⟨62, _⟩ => ⟨S2x2048x4x1, .f32⟩
  | .hbm, ⟨63, _⟩ => ⟨S2x2048x4x128, .f32⟩
  | .hbm, ⟨64, _⟩ => ⟨S2x2048x4x128, .f32⟩
  | .hbm, ⟨65, _⟩ => ⟨S1x1x4x128, .f32⟩
  | .hbm, ⟨66, _⟩ => ⟨S2x2048x4x128, .f32⟩
  | .hbm, ⟨67, _⟩ => ⟨S2x2048x4x128, .f32⟩
  | .hbm, ⟨68, _⟩ => ⟨S1x1x4x128, .f32⟩
  | .hbm, ⟨69, _⟩ => ⟨S2x2048x4x128, .f32⟩
  | .hbm, ⟨70, _⟩ => ⟨S2x2048x4x128, .f32⟩
  | .hbm, ⟨71, _⟩ => ⟨S2x16x128x4x128, .f32⟩
  | .hbm, ⟨72, _⟩ => ⟨S128x128, .i32⟩
  | .hbm, ⟨73, _⟩ => ⟨S_, .i32⟩
  | .hbm, ⟨74, _⟩ => ⟨S128x128, .i32⟩
  | .hbm, ⟨75, _⟩ => ⟨S128x128, .i32⟩
  | .hbm, ⟨76, _⟩ => ⟨S128x128, .i32⟩
  | .hbm, ⟨77, _⟩ => ⟨S128x128, .i1⟩
  | .hbm, ⟨78, _⟩ => ⟨S4x128x128, .i1⟩
  | .hbm, ⟨79, _⟩ => ⟨S_, .f32⟩
  | .hbm, ⟨80, _⟩ => ⟨S4x128x128, .f32⟩
  | .hbm, ⟨81, _⟩ => ⟨S4x128x128, .f32⟩
  | .hbm, ⟨82, _⟩ => ⟨S4x2x16x128x128, .f32⟩
  | .hbm, ⟨83, _⟩ => ⟨S2x16x128x4x128, .f32⟩
  | .hbm, ⟨84, _⟩ => ⟨S128x4, .f32⟩
  | .hbm, ⟨85, _⟩ => ⟨S1x1x128x4x1, .f32⟩
  | .hbm, ⟨86, _⟩ => ⟨S2x16x128x4x128, .f32⟩
  | .hbm, ⟨87, _⟩ => ⟨S2x16x128x4x128, .f32⟩
  | .hbm, ⟨88, _⟩ => ⟨S2x16x128x4x128, .f32⟩
  | .hbm, ⟨89, _⟩ => ⟨S2x2048x512, .f32⟩
  | .hbm, ⟨90, _⟩ => ⟨S2x2048x512, .f32⟩
  | .hbm, ⟨91, _⟩ => ⟨S_, .f32⟩
  | .hbm, ⟨92, _⟩ => ⟨S2x2048, .f32⟩
  | .hbm, ⟨93, _⟩ => ⟨S2x2048x1, .f32⟩
  | .hbm, ⟨94, _⟩ => ⟨S_, .f32⟩
  | .hbm, ⟨95, _⟩ => ⟨S2x2048x1, .f32⟩
  | .hbm, ⟨96, _⟩ => ⟨S2x2048x1, .f32⟩
  | .hbm, ⟨97, _⟩ => ⟨S_, .f32⟩
  | .hbm, ⟨98, _⟩ => ⟨S2x2048x1, .f32⟩
  | .hbm, ⟨99, _⟩ => ⟨S2x2048x1, .f32⟩
  | .hbm, ⟨100, _⟩ => ⟨S2x2048x1, .f32⟩
  | .hbm, ⟨101, _⟩ => ⟨S2x2048x512, .f32⟩
  | .hbm, ⟨102, _⟩ => ⟨S2x2048x512, .f32⟩
  | .hbm, ⟨103, _⟩ => ⟨S1x1x512, .f32⟩
  | .hbm, ⟨104, _⟩ => ⟨S2x2048x512, .f32⟩
  | .hbm, ⟨105, _⟩ => ⟨S2x2048x512, .f32⟩
  | .hbm, ⟨106, _⟩ => ⟨S2x2048x512, .bf16⟩
  | _, _ => ⟨S2x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call0_v0 : Ref sig .tc := ⟨.hbm, 72, rfl⟩
abbrev main_call0_c : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_cst : Ref sig .tc := ⟨.hbm, 79, rfl⟩
abbrev main_call0_v6 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]
-- ==== ConvFwd.lean ====
abbrev S2x2048x4608 : Shape := ⟨3, ![2, 2048, 4608]⟩
abbrev S4x1536 : Shape := ⟨2, ![4, 1536]⟩
abbrev S1536 : Shape := ⟨1, ![1536]⟩
abbrev S1x1536 : Shape := ⟨2, ![1, 1536]⟩
abbrev S2x2048x1536 : Shape := ⟨3, ![2, 2048, 1536]⟩
abbrev S1x2048x256 : Shape := ⟨3, ![1, 2048, 256]⟩
abbrev S4x256 : Shape := ⟨2, ![4, 256]⟩
abbrev S1x256 : Shape := ⟨2, ![1, 256]⟩
abbrev S2048x256 : Shape := ⟨2, ![2048, 256]⟩

abbrev nBuf : Space → Nat
  | .hbm => 5
  | .vmem => 8
  | .smem => 0
  | _ => 0

abbrev bufTy : (tb : Table) → Fin (tcTables nBuf tb) → BufTy
  | .hbm, ⟨0, _⟩ => ⟨S2x2048x4608, .f32⟩
  | .hbm, ⟨1, _⟩ => ⟨S4x1536, .f32⟩
  | .hbm, ⟨2, _⟩ => ⟨S1536, .f32⟩
  | .hbm, ⟨3, _⟩ => ⟨S1x1536, .f32⟩
  | .hbm, ⟨4, _⟩ => ⟨S2x2048x1536, .f32⟩
  | .local _ .vmem, ⟨0, _⟩ => ⟨S1x2048x256, .f32⟩
  | .local _ .vmem, ⟨1, _⟩ => ⟨S1x2048x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x2048x256, .f32⟩
  | .local _ .vmem, ⟨7, _⟩ => ⟨S1x2048x256, .f32⟩
  | _, _ => ⟨S2x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFwdRefIdeal.lean ====
abbrev S2x2048x4608 : Shape := ⟨3, ![2, 2048, 4608]⟩
abbrev S4x1536 : Shape := ⟨2, ![4, 1536]⟩
abbrev S1536 : Shape := ⟨1, ![1536]⟩
abbrev S2x2048x1536 : Shape := ⟨3, ![2, 2048, 1536]⟩
abbrev S_ : Shape := ⟨0, ![]⟩
abbrev S2x3x1536 : Shape := ⟨3, ![2, 3, 1536]⟩
abbrev S2x2051x1536 : Shape := ⟨3, ![2, 2051, 1536]⟩
abbrev S1x2x2048x1536 : Shape := ⟨4, ![1, 2, 2048, 1536]⟩
abbrev S4x2x2048x1536 : Shape := ⟨4, ![4, 2, 2048, 1536]⟩
abbrev S4x1x1x1536 : Shape := ⟨4, ![4, 1, 1, 1536]⟩
abbrev S1x1x1536 : Shape := ⟨3, ![1, 1, 1536]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x4608, .f32⟩
  | .hbm, ⟨1, _⟩ => ⟨S4x1536, .f32⟩
  | .hbm, ⟨2, _⟩ => ⟨S1536, .f32⟩
  | .hbm, ⟨3, _⟩ => ⟨S2x2048x1536, .f32⟩
  | .hbm, ⟨4, _⟩ => ⟨S_, .f32⟩
  | .hbm, ⟨5, _⟩ => ⟨S2x3x1536, .f32⟩
  | .hbm, ⟨6, _⟩ => ⟨S2x2051x1536, .f32⟩
  | .hbm, ⟨7, _⟩ => ⟨S2x2048x1536, .f32⟩
  | .hbm, ⟨8, _⟩ => ⟨S2x2048x1536, .f32⟩
  | .hbm, ⟨9, _⟩ => ⟨S2x2048x1536, .f32⟩
  | .hbm, ⟨10, _⟩ => ⟨S2x2048x1536, .f32⟩
  | .hbm, ⟨11, _⟩ => ⟨S1x2x2048x1536, .f32⟩
  | .hbm, ⟨12, _⟩ => ⟨S1x2x2048x1536, .f32⟩
  | .hbm, ⟨13, _⟩ => ⟨S1x2x2048x1536, .f32⟩
  | .hbm, ⟨14, _⟩ => ⟨S1x2x2048x1536, .f32⟩
  | .hbm, ⟨15, _⟩ => ⟨S4x2x2048x1536, .f32⟩
  | .hbm, ⟨16, _⟩ => ⟨S4x1x1x1536, .f32⟩
  | .hbm, ⟨17, _⟩ => ⟨S4x2x2048x1536, .f32⟩
  | .hbm, ⟨18, _⟩ => ⟨S4x2x2048x1536, .f32⟩
  | .hbm, ⟨19, _⟩ => ⟨S_, .f32⟩
  | .hbm, ⟨20, _⟩ => ⟨S2x2048x1536, .f32⟩
  | .hbm, ⟨21, _⟩ => ⟨S1x1x1536, .f32⟩
  | .hbm, ⟨22, _⟩ => ⟨S2x2048x1536, .f32⟩
  | .hbm, ⟨23, _⟩ => ⟨S2x2048x1536, .f32⟩
  | .hbm, ⟨24, _⟩ => ⟨S2x2048x1536, .f32⟩
  | .hbm, ⟨25, _⟩ => ⟨S2x2048x1536, .f32⟩
  | .hbm, ⟨26, _⟩ => ⟨S_, .f32⟩
  | .hbm, ⟨27, _⟩ => ⟨S2x2048x1536, .f32⟩
  | .hbm, ⟨28, _⟩ => ⟨S2x2048x1536, .f32⟩
  | .hbm, ⟨29, _⟩ => ⟨S_, .f32⟩
  | .hbm, ⟨30, _⟩ => ⟨S2x2048x1536, .f32⟩
  | .hbm, ⟨31, _⟩ => ⟨S2x2048x1536, .f32⟩
  | .hbm, ⟨32, _⟩ => ⟨S2x2048x1536, .f32⟩
  | _, _ => ⟨S2x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== AttnFwd.lean ====
abbrev S2x2048x4608 : Shape := ⟨3, ![2, 2048, 4608]⟩
abbrev S8 : Shape := ⟨1, ![8]⟩
abbrev S512 : Shape := ⟨1, ![512]⟩
abbrev S1x8 : Shape := ⟨2, ![1, 8]⟩
abbrev S1x512 : Shape := ⟨2, ![1, 512]⟩
abbrev S2x2048x512 : Shape := ⟨3, ![2, 2048, 512]⟩
abbrev S1x1024x512 : Shape := ⟨3, ![1, 1024, 512]⟩
abbrev S1x128x128 : Shape := ⟨3, ![1, 128, 128]⟩
abbrev S1x1024x128 : Shape := ⟨3, ![1, 1024, 128]⟩
abbrev S128x128 : Shape := ⟨2, ![128, 128]⟩
abbrev S1x128x512 : Shape := ⟨3, ![1, 128, 512]⟩
abbrev S128x512 : Shape := ⟨2, ![128, 512]⟩
abbrev S256x128 : Shape := ⟨2, ![256, 128]⟩
abbrev S128x256 : Shape := ⟨2, ![128, 256]⟩
abbrev S512x256 : Shape := ⟨2, ![512, 256]⟩
abbrev S256x64 : Shape := ⟨2, ![256, 64]⟩
abbrev S128x64 : Shape := ⟨2, ![128, 64]⟩
abbrev S512x64 : Shape := ⟨2, ![512, 64]⟩
abbrev S1x1 : Shape := ⟨2, ![1, 1]⟩
abbrev S128x1 : Shape := ⟨2, ![128, 1]⟩
abbrev S512x1 : Shape := ⟨2, ![512, 1]⟩
abbrev S128 : Shape := ⟨1, ![128]⟩

abbrev nBuf : Space → Nat
  | .hbm => 6
  | .vmem => 14
  | .smem => 0
  | _ => 0

abbrev bufTy : (tb : Table) → Fin (tcTables nBuf tb) → BufTy
  | .hbm, ⟨0, _⟩ => ⟨S2x2048x4608, .f32⟩
  | .hbm, ⟨1, _⟩ => ⟨S8, .f32⟩
  | .hbm, ⟨2, _⟩ => ⟨S512, .f32⟩
  | .hbm, ⟨3, _⟩ => ⟨S1x8, .f32⟩
  | .hbm, ⟨4, _⟩ => ⟨S1x512, .f32⟩
  | .hbm, ⟨5, _⟩ => ⟨S2x2048x512, .bf16⟩
  | .local _ .vmem, ⟨0, _⟩ => ⟨S1x1024x512, .f32⟩
  | .local _ .vmem, ⟨1, _⟩ => ⟨S1x1024x512, .f32⟩
  | .local _ .vmem, ⟨2, _⟩ => ⟨S1x128x128, .f32⟩
  | .local _ .vmem, ⟨3, _⟩ => ⟨S1x128x128, .f32⟩
  | .local _ .vmem, ⟨4, _⟩ => ⟨S1x1024x128, .f32⟩
  | .local _ .vmem, ⟨5, _⟩ => ⟨S1x1024x128, .f32⟩
  | .local _ .vmem, ⟨6, _⟩ => ⟨S1x128x128, .f32⟩
  | .local _ .vmem, ⟨7, _⟩ => ⟨S1x128x128, .f32⟩
  | .local _ .vmem, ⟨8, _⟩ => ⟨S1x1024x128, .f32⟩
  | .local _ .vmem, ⟨9, _⟩ => ⟨S1x1024x128, .f32⟩
  | .local _ .vmem, ⟨10, _⟩ => ⟨S1x8, .f32⟩
  | .local _ .vmem, ⟨11, _⟩ => ⟨S1x512, .f32⟩
  | .local _ .vmem, ⟨12, _⟩ => ⟨S1x1024x512, .bf16⟩
  | .local _ .vmem, ⟨13, _⟩ => ⟨S1x1024x512, .bf16⟩
  | _, _ => ⟨S2x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![arg0.toNat, v2.toNat, c12_i32.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![arg0.toNat, v2.toNat, c13_i32.toNat]

def cc0_transform_4 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnFwdIdeal.lean ====
variable {F : FTy → Type} [FloatOps F] [Named F]
def κ : String → Option EReal := fun
  | "mask" => some ⊥
  | _ => none
-- ==== AttnFwdRefIdeal.lean ====
abbrev S2x2048x4608 : Shape := ⟨3, ![2, 2048, 4608]⟩
abbrev S8 : Shape := ⟨1, ![8]⟩
abbrev S512 : Shape := ⟨1, ![512]⟩
abbrev S2x2048x512 : Shape := ⟨3, ![2, 2048, 512]⟩
abbrev S2x2048x128 : Shape := ⟨3, ![2, 2048, 128]⟩
abbrev S2x16x128x2x4x64 : Shape := ⟨6, ![2, 16, 128, 2, 4, 64]⟩
abbrev S_ : Shape := ⟨0, ![]⟩
abbrev S2x128x128 : Shape := ⟨3, ![2, 128, 128]⟩
abbrev S2x2176x128 : Shape := ⟨3, ![2, 2176, 128]⟩
abbrev S2x17x128x2x64 : Shape := ⟨5, ![2, 17, 128, 2, 64]⟩
abbrev S2x16x128x2x64 : Shape := ⟨5, ![2, 16, 128, 2, 64]⟩
abbrev S2x16x256x2x64 : Shape := ⟨5, ![2, 16, 256, 2, 64]⟩
abbrev S2x16x2x256x128x4 : Shape := ⟨6, ![2, 16, 2, 256, 128, 4]⟩
abbrev S2x16x2x4x128x256 : Shape := ⟨6, ![2, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x4 : Shape := ⟨2, ![2, 4]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x2048 : Shape := ⟨2, ![2, 2048]⟩
abbrev S2x2048x1 : Shape := ⟨3, ![2, 2048, 1]⟩
abbrev S1x1x512 : Shape := ⟨3, ![1, 1, 512]⟩

abbrev nBuf : Space → Nat
  | .hbm => 105
  | .vmem => 0
  | .smem => 0
  | _ => 0

abbrev bufTy : (tb : Table) → Fin (tcTables nBuf tb) → BufTy
  | .hbm, ⟨0, _⟩ => ⟨S2x2048x4608, .f32⟩
  | .hbm, ⟨1, _⟩ => ⟨S8, .f32⟩
  | .hbm, ⟨2, _⟩ => ⟨S512, .f32⟩
  | .hbm, ⟨3, _⟩ => ⟨S2x2048x512, .f32⟩
  | .hbm, ⟨4, _⟩ => ⟨S2x2048x128, .f32⟩
  | .hbm, ⟨5, _⟩ => ⟨S2x2048x128, .f32⟩
  | .hbm, ⟨6, _⟩ => ⟨S2x16x128x2x4x64, .f32⟩
  | .hbm, ⟨7, _⟩ => ⟨S_, .f32⟩
  | .hbm, ⟨8, _⟩ => ⟨S2x128x128, .f32⟩
  | .hbm, ⟨9, _⟩ => ⟨S2x2176x128, .f32⟩
  | .hbm, ⟨10, _⟩ => ⟨S2x17x128x2x64, .f32⟩
  | .hbm, ⟨11, _⟩ => ⟨S2x2176x128, .f32⟩
  | .hbm, ⟨12, _⟩ => ⟨S2x17x128x2x64, .f32⟩
  | .hbm, ⟨13, _⟩ => ⟨S2x16x128x2x64, .f32⟩
  | .hbm, ⟨14, _⟩ => ⟨S2x16x128x2x64, .f32⟩
  | .hbm, ⟨15, _⟩ => ⟨S2x16x256x2x64, .f32⟩
  | .hbm, ⟨16, _⟩ => ⟨S2x16x128x2x64, .f32⟩
  | .hbm, ⟨17, _⟩ => ⟨S2x16x128x2x64, .f32⟩
  | .hbm, ⟨18, _⟩ => ⟨S2x16x256x2x64, .f32⟩
  | .hbm, ⟨19, _⟩ => ⟨S2x16x2x256x128x4, .f32⟩
  | .hbm, ⟨20, _⟩ => ⟨S2x16x2x4x128x256, .f32⟩
  | .hbm, ⟨21, _⟩ => ⟨S_, .f32⟩
  | .hbm, ⟨22, _⟩ => ⟨S2x16x2x4x128x256, .f32⟩
  | .hbm, ⟨23, _⟩ => ⟨S2x16x2x4x128x256, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S16, .i32⟩
  | .hbm, ⟨42, _⟩ => ⟨S16x1x1, .i32⟩
  | .hbm, ⟨43, _⟩ => ⟨S1x128x256, .i1⟩
  | .hbm, ⟨44, _⟩ => ⟨S_, .i32⟩
  | .hbm, ⟨45, _⟩ => ⟨S16x1x1, .i32⟩
  | .hbm, ⟨46, _⟩ => ⟨S16x1x1, .i32⟩
  | .hbm, ⟨47, _⟩ => ⟨S1x1x256, .i32⟩
  | .hbm, ⟨48, _⟩ => ⟨S16x1x256, .i32⟩
  | .hbm, ⟨49, _⟩ => ⟨S16x1x256, .i32⟩
  | .hbm, ⟨50, _⟩ => ⟨S16x1x256, .i32⟩
  | .hbm, ⟨51, _⟩ => ⟨S_, .i32⟩
  | .hbm, ⟨52, _⟩ => ⟨S16x1x256, .i32⟩
  | .hbm, ⟨53, _⟩ => ⟨S16x1x256, .i32⟩
  | .hbm, ⟨54, _⟩ => ⟨S_, .i32⟩
  | .hbm, ⟨55, _⟩ => ⟨S16x1x256, .i32⟩
  | .hbm, ⟨56, _⟩ => ⟨S16x1x256, .i1⟩
  | .hbm, ⟨57, _⟩ => ⟨S16x128x256, .i1⟩
  | .hbm, ⟨58, _⟩ => ⟨S16x128x256, .i1⟩
  | .hbm, ⟨59, _⟩ => ⟨S16x128x256, .i1⟩
  | .hbm, ⟨60, _⟩ => ⟨S1x16x1x1x128x256, .i1⟩
  | .hbm, ⟨61, _⟩ => ⟨S_, .f32⟩
  | .hbm, ⟨62, _⟩ => ⟨S_, .f32⟩
  | .hbm, ⟨63, _⟩ => ⟨S2x16x2x4x128x256, .i1⟩
  | .hbm, ⟨64, _⟩ => ⟨S2x16x2x4x128x256, .f32⟩
  | .hbm, ⟨65, _⟩ => ⟨S2x16x2x4x128x256, .f32⟩
  | .hbm, ⟨66, _⟩ => ⟨S2x4, .f32⟩
  | .hbm, ⟨67, _⟩ => ⟨S1x1x2x4x1x1, .f32⟩
  | .hbm, ⟨68, _⟩ => ⟨S_, .f32⟩
  | .hbm, ⟨69, _⟩ => ⟨S2x16x2x4x128, .f32⟩
  | .hbm, ⟨70, _⟩ => ⟨S2x16x2x4x128x1, .f32⟩
  | .hbm, ⟨71, _⟩ => ⟨S2x16x2x4x128x1, .f32⟩
  | .hbm, ⟨72, _⟩ => ⟨S2x16x2x4x128x1, .f32⟩
  | .hbm, ⟨73, _⟩ => ⟨S2x16x2x4x128x256, .f32⟩
  | .hbm, ⟨74, _⟩ => ⟨S2x16x2x4x128x256, .f32⟩
  | .hbm, ⟨75, _⟩ => ⟨S2x16x2x4x128x256, .f32⟩
  | .hbm, ⟨76, _⟩ => ⟨S_, .f32⟩
  | .hbm, ⟨77, _⟩ => ⟨S2x16x2x4x128, .f32⟩
  | .hbm, ⟨78, _⟩ => ⟨S2x16x2x4x128x1, .f32⟩
  | .hbm, ⟨79, _⟩ => ⟨S2x16x2x4x128x1, .f32⟩
  | .hbm, ⟨80, _⟩ => ⟨S2x16x2x4x128x1, .f32⟩
  | .hbm, ⟨81, _⟩ => ⟨S2x16x2x4x128x1, .f32⟩
  | .hbm, ⟨82, _⟩ => ⟨S2x16x2x4x128x1, .f32⟩
  | .hbm, ⟨83, _⟩ => ⟨S2x16x2x4x128x256, .f32⟩
  | .hbm, ⟨84, _⟩ => ⟨S2x16x2x4x128x256, .f32⟩
  | .hbm, ⟨85, _⟩ => ⟨S2x16x2x64x4x128, .f32⟩
  | .hbm, ⟨86, _⟩ => ⟨S2x16x128x2x4x64, .f32⟩
  | .hbm, ⟨87, _⟩ => ⟨S2x2048x512, .f32⟩
  | .hbm, ⟨88, _⟩ => ⟨S2x2048x512, .f32⟩
  | .hbm, ⟨89, _⟩ => ⟨S_, .f32⟩
  | .hbm, ⟨90, _⟩ => ⟨S2x2048, .f32⟩
  | .hbm, ⟨91, _⟩ => ⟨S2x2048x1, .f32⟩
  | .hbm, ⟨92, _⟩ => ⟨S_, .f32⟩
  | .hbm, ⟨93, _⟩ => ⟨S2x2048x1, .f32⟩
  | .hbm, ⟨94, _⟩ => ⟨S2x2048x1, .f32⟩
  | .hbm, ⟨95, _⟩ => ⟨S_, .f32⟩
  | .hbm, ⟨96, _⟩ => ⟨S2x2048x1, .f32⟩
  | .hbm, ⟨97, _⟩ => ⟨S2x2048x1, .f32⟩
  | .hbm, ⟨98, _⟩ => ⟨S2x2048x1, .f32⟩
  | .hbm, ⟨99, _⟩ => ⟨S2x2048x512, .f32⟩
  | .hbm, ⟨100, _⟩ => ⟨S2x2048x512, .f32⟩
  | .hbm, ⟨101, _⟩ => ⟨S1x1x512, .f32⟩
  | .hbm, ⟨102, _⟩ => ⟨S2x2048x512, .f32⟩
  | .hbm, ⟨103, _⟩ => ⟨S2x2048x512, .f32⟩
  | .hbm, ⟨104, _⟩ => ⟨S2x2048x512, .bf16⟩
  | _, _ => ⟨S2x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_1 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_9 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]
-- ==== AdaMod.lean ====
abbrev S16x2048 : Shape := ⟨2, ![16, 2048]⟩
abbrev S2x2048x3072 : Shape := ⟨3, ![2, 2048, 3072]⟩
abbrev S3072 : Shape := ⟨1, ![3072]⟩
abbrev S1x3072 : Shape := ⟨2, ![1, 3072]⟩
abbrev S16x3072 : Shape := ⟨2, ![16, 3072]⟩
abbrev S1x2048x512 : Shape := ⟨3, ![1, 2048, 512]⟩
abbrev S1x512 : Shape := ⟨2, ![1, 512]⟩
abbrev S16x512 : Shape := ⟨2, ![16, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S3072, .f32⟩
  | .hbm, ⟨3, _⟩ => ⟨S1x3072, .f32⟩
  | .hbm, ⟨4, _⟩ => ⟨S16x3072, .f32⟩
  | .local _ .vmem, ⟨0, _⟩ => ⟨S16x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AdaModRefIdeal.lean ====
abbrev S16x2048 : Shape := ⟨2, ![16, 2048]⟩
abbrev S2x2048x3072 : Shape := ⟨3, ![2, 2048, 3072]⟩
abbrev S3072 : Shape := ⟨1, ![3072]⟩
abbrev S1x2048x3072 : Shape := ⟨3, ![1, 2048, 3072]⟩
abbrev S2048x3072 : Shape := ⟨2, ![2048, 3072]⟩
abbrev S_ : Shape := ⟨0, ![]⟩
abbrev S16x3072 : Shape := ⟨2, ![16, 3072]⟩
abbrev S1x3072 : Shape := ⟨2, ![1, 3072]⟩

abbrev nBuf : Space → Nat
  | .hbm => 18
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S3072, .f32⟩
  | .hbm, ⟨3, _⟩ => ⟨S1x2048x3072, .f32⟩
  | .hbm, ⟨4, _⟩ => ⟨S2048x3072, .f32⟩
  | .hbm, ⟨5, _⟩ => ⟨S16x2048, .f32⟩
  | .hbm, ⟨6, _⟩ => ⟨S16x2048, .f32⟩
  | .hbm, ⟨7, _⟩ => ⟨S_, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S16x3072, .f32⟩
  | .hbm, ⟨15, _⟩ => ⟨S1x3072, .f32⟩
  | .hbm, ⟨16, _⟩ => ⟨S16x3072, .f32⟩
  | .hbm, ⟨17, _⟩ => ⟨S16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== AdaDw.lean ====
abbrev S16x2048 : Shape := ⟨2, ![16, 2048]⟩
abbrev S2x2048x3072 : Shape := ⟨3, ![2, 2048, 3072]⟩
abbrev S16x2x3072 : Shape := ⟨3, ![16, 2, 3072]⟩
abbrev S16x6144 : Shape := ⟨2, ![16, 6144]⟩
abbrev S16x512 : Shape := ⟨2, ![16, 512]⟩
abbrev S1x512x512 : Shape := ⟨3, ![1, 512, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S16x2x3072, .f32⟩
  | .hbm, ⟨3, _⟩ => ⟨S16x6144, .f32⟩
  | .hbm, ⟨4, _⟩ => ⟨S2x2048x3072, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S1x512x512, .f32⟩
  | .local _ .vmem, ⟨5, _⟩ => ⟨S1x512x512, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwRefIdeal.lean ====
abbrev S16x2048 : Shape := ⟨2, ![16, 2048]⟩
abbrev S2x2048x3072 : Shape := ⟨3, ![2, 2048, 3072]⟩
abbrev S16x2x3072 : Shape := ⟨3, ![16, 2, 3072]⟩
abbrev S_ : Shape := ⟨0, ![]⟩
abbrev S3072 : Shape := ⟨1, ![3072]⟩
abbrev S1x2048x3072 : Shape := ⟨3, ![1, 2048, 3072]⟩
abbrev S2048x3072 : Shape := ⟨2, ![2048, 3072]⟩
abbrev S16x3072 : Shape := ⟨2, ![16, 3072]⟩
abbrev S1x3072 : Shape := ⟨2, ![1, 3072]⟩
abbrev S16x1x3072 : Shape := ⟨3, ![16, 1, 3072]⟩
abbrev S3072x2048 : Shape := ⟨2, ![3072, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S16x2x3072, .f32⟩
  | .hbm, ⟨3, _⟩ => ⟨S_, .f32⟩
  | .hbm, ⟨4, _⟩ => ⟨S3072, .f32⟩
  | .hbm, ⟨5, _⟩ => ⟨S1x2048x3072, .f32⟩
  | .hbm, ⟨6, _⟩ => ⟨S2048x3072, .f32⟩
  | .hbm, ⟨7, _⟩ => ⟨S16x2048, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S16x2048, .f32⟩
  | .hbm, ⟨15, _⟩ => ⟨S16x2048, .f32⟩
  | .hbm, ⟨16, _⟩ => ⟨S16x3072, .f32⟩
  | .hbm, ⟨17, _⟩ => ⟨S1x3072, .f32⟩
  | .hbm, ⟨18, _⟩ => ⟨S16x3072, .f32⟩
  | .hbm, ⟨19, _⟩ => ⟨S16x3072, .f32⟩
  | .hbm, ⟨20, _⟩ => ⟨S16x1x3072, .f32⟩
  | .hbm, ⟨21, _⟩ => ⟨S16x3072, .f32⟩
  | .hbm, ⟨22, _⟩ => ⟨S3072x2048, .f32⟩
  | .hbm, ⟨23, _⟩ => ⟨S2048x3072, .f32⟩
  | .hbm, ⟨24, _⟩ => ⟨S1x2048x3072, .f32⟩
  | .hbm, ⟨25, _⟩ => ⟨S2048x3072, .f32⟩
  | .hbm, ⟨26, _⟩ => ⟨S16x2048, .f32⟩
  | .hbm, ⟨27, _⟩ => ⟨S16x2048, .f32⟩
  | .hbm, ⟨28, _⟩ => ⟨S_, .f32⟩
  | .hbm, ⟨29, _⟩ => ⟨S16x2048, .f32⟩
  | .hbm, ⟨30, _⟩ => ⟨S16x2048, .f32⟩
  | .hbm, ⟨31, _⟩ => ⟨S_, .f32⟩
  | .hbm, ⟨32, _⟩ => ⟨S16x2048, .f32⟩
  | .hbm, ⟨33, _⟩ => ⟨S16x2048, .f32⟩
  | .hbm, ⟨34, _⟩ => ⟨S16x2048, .f32⟩
  | .hbm, ⟨35, _⟩ => ⟨S16x3072, .f32⟩
  | .hbm, ⟨36, _⟩ => ⟨S1x3072, .f32⟩
  | .hbm, ⟨37, _⟩ => ⟨S16x3072, .f32⟩
  | .hbm, ⟨38, _⟩ => ⟨S16x3072, .f32⟩
  | .hbm, ⟨39, _⟩ => ⟨S16x1x3072, .f32⟩
  | .hbm, ⟨40, _⟩ => ⟨S16x3072, .f32⟩
  | .hbm, ⟨41, _⟩ => ⟨S3072x2048, .f32⟩
  | .hbm, ⟨42, _⟩ => ⟨S2048x3072, .f32⟩
  | .hbm, ⟨43, _⟩ => ⟨S1x2048x3072, .f32⟩
  | .hbm, ⟨44, _⟩ => ⟨S1x2048x3072, .f32⟩
  | .hbm, ⟨45, _⟩ => ⟨S2x2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩

abbrev nD : Nat := 1
abbrev τ : Topo := Topo.v7x

variable {F : FTy → Type} [FloatOps F]
-- ==== AdaDb.lean ====
abbrev S16x24576 : Shape := ⟨2, ![16, 24576]⟩
abbrev S16x192x128 : Shape := ⟨3, ![16, 192, 128]⟩
abbrev S192x128 : Shape := ⟨2, ![192, 128]⟩
abbrev S1x192x128 : Shape := ⟨3, ![1, 192, 128]⟩

abbrev nBuf : Space → Nat
  | .hbm => 3
  | .vmem => 2
  | .smem => 0
  | _ => 0

abbrev bufTy : (tb : Table) → Fin (tcTables nBuf tb) → BufTy
  | .hbm, ⟨0, _⟩ => ⟨S16x24576, .f32⟩
  | .hbm, ⟨1, _⟩ => ⟨S16x192x128, .f32⟩
  | .hbm, ⟨2, _⟩ => ⟨S192x128, .f32⟩
  | .local _ .vmem, ⟨0, _⟩ => ⟨S16x192x128, .f32⟩
  | .local _ .vmem, ⟨1, _⟩ => ⟨S192x128, .f32⟩
  | _, _ => ⟨S16x24576, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== AdaDbRefIdeal.lean ====
abbrev S16x24576 : Shape := ⟨2, ![16, 24576]⟩
abbrev S_ : Shape := ⟨0, ![]⟩
abbrev S24576 : Shape := ⟨1, ![24576]⟩
abbrev S192x128 : Shape := ⟨2, ![192, 128]⟩

abbrev nBuf : Space → Nat
  | .hbm => 4
  | .vmem => 0
  | .smem => 0
  | _ => 0

abbrev bufTy : (tb : Table) → Fin (tcTables nBuf tb) → BufTy
  | .hbm, ⟨0, _⟩ => ⟨S16x24576, .f32⟩
  | .hbm, ⟨1, _⟩ => ⟨S_, .f32⟩
  | .hbm, ⟨2, _⟩ => ⟨S24576, .f32⟩
  | .hbm, ⟨3, _⟩ => ⟨S192x128, .f32⟩
  | _, _ => ⟨S16x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamAda.lean ====
abbrev S2x2048x3072 : Shape := ⟨3, ![2, 2048, 3072]⟩
abbrev S4096x3072 : Shape := ⟨2, ![4096, 3072]⟩
abbrev S128x3072 : Shape := ⟨2, ![128, 3072]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2x2048x3072 : Shape := ⟨3, ![2, 2048, 3072]⟩
abbrev S_ : Shape := ⟨0, ![]⟩
abbrev S4096x3072 : Shape := ⟨2, ![4096, 3072]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S_, .f32⟩
  | .hbm, ⟨5, _⟩ => ⟨S2x2048x3072, .f32⟩
  | .hbm, ⟨6, _⟩ => ⟨S2x2048x3072, .f32⟩
  | .hbm, ⟨7, _⟩ => ⟨S_, .f32⟩
  | .hbm, ⟨8, _⟩ => ⟨S2x2048x3072, .f32⟩
  | .hbm, ⟨9, _⟩ => ⟨S2x2048x3072, .f32⟩
  | .hbm, ⟨10, _⟩ => ⟨S2x2048x3072, .f32⟩
  | .hbm, ⟨11, _⟩ => ⟨S_, .f32⟩
  | .hbm, ⟨12, _⟩ => ⟨S2x2048x3072, .f32⟩
  | .hbm, ⟨13, _⟩ => ⟨S2x2048x3072, .f32⟩
  | .hbm, ⟨14, _⟩ => ⟨S2x2048x3072, .f32⟩
  | .hbm, ⟨15, _⟩ => ⟨S_, .f32⟩
  | .hbm, ⟨16, _⟩ => ⟨S2x2048x3072, .f32⟩
  | .hbm, ⟨17, _⟩ => ⟨S2x2048x3072, .f32⟩
  | .hbm, ⟨18, _⟩ => ⟨S2x2048x3072, .f32⟩
  | .hbm, ⟨19, _⟩ => ⟨S_, .f32⟩
  | .hbm, ⟨20, _⟩ => ⟨S2x2048x3072, .f32⟩
  | .hbm, ⟨21, _⟩ => ⟨S2x2048x3072, .f32⟩
  | .hbm, ⟨22, _⟩ => ⟨S_, .f32⟩
  | .hbm, ⟨23, _⟩ => ⟨S2x2048x3072, .f32⟩
  | .hbm, ⟨24, _⟩ => ⟨S2x2048x3072, .f32⟩
  | .hbm, ⟨25, _⟩ => ⟨S2x2048x3072, .f32⟩
  | .hbm, ⟨26, _⟩ => ⟨S_, .f32⟩
  | .hbm, ⟨27, _⟩ => ⟨S2x2048x3072, .f32⟩
  | .hbm, ⟨28, _⟩ => ⟨S2x2048x3072, .f32⟩
  | .hbm, ⟨29, _⟩ => ⟨S2x2048x3072, .f32⟩
  | .hbm, ⟨30, _⟩ => ⟨S_, .f32⟩
  | .hbm, ⟨31, _⟩ => ⟨S2x2048x3072, .f32⟩
  | .hbm, ⟨32, _⟩ => ⟨S2x2048x3072, .f32⟩
  | .hbm, ⟨33, _⟩ => ⟨S2x2048x3072, .f32⟩
  | .hbm, ⟨34, _⟩ => ⟨S_, .f32⟩
  | .hbm, ⟨35, _⟩ => ⟨S2x2048x3072, .f32⟩
  | .hbm, ⟨36, _⟩ => ⟨S2x2048x3072, .f32⟩
  | .hbm, ⟨37, _⟩ => ⟨S4096x3072, .f32⟩
  | .hbm, ⟨38, _⟩ => ⟨S4096x3072, .f32⟩
  | .hbm, ⟨39, _⟩ => ⟨S4096x3072, .f32⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S2x2048x1092 : Shape := ⟨3, ![2, 2048, 1092]⟩
abbrev S1x2048x1092 : Shape := ⟨3, ![1, 2048, 1092]⟩
abbrev S2048x1092 : Shape := ⟨2, ![2048, 1092]⟩
abbrev S1092x2048 : Shape := ⟨2, ![1092, 2048]⟩
abbrev S1092x1x2048 : Shape := ⟨3, ![1092, 1, 2048]⟩
abbrev S1092x2x2048 : Shape := ⟨3, ![1092, 2, 2048]⟩
abbrev S91x2x2048 : Shape := ⟨3, ![91, 2, 2048]⟩

abbrev nBuf : Space → Nat
  | .hbm => 19
  | .vmem => 14
  | .smem => 0
  | _ => 0

abbrev bufTy : (tb : Table) → Fin (tcTables nBuf tb) → BufTy
  | .hbm, ⟨0, _⟩ => ⟨S2x2048x1092, .f32⟩
  | .hbm, ⟨1, _⟩ => ⟨S2x2048x1092, .f32⟩
  | .hbm, ⟨2, _⟩ => ⟨S2x2048x1092, .f32⟩
  | .hbm, ⟨3, _⟩ => ⟨S2x2048x1092, .f32⟩
  | .hbm, ⟨4, _⟩ => ⟨S1x2048x1092, .f32⟩
  | .hbm, ⟨5, _⟩ => ⟨S2048x1092, .f32⟩
  | .hbm, ⟨6, _⟩ => ⟨S1092x2048, .f32⟩
  | .hbm, ⟨7, _⟩ => ⟨S1x2048x1092, .f32⟩
  | .hbm, ⟨8, _⟩ => ⟨S2048x1092, .f32⟩
  | .hbm, ⟨9, _⟩ => ⟨S1092x2048, .f32⟩
  | .hbm, ⟨10, _⟩ => ⟨S1092x1x2048, .f32⟩
  | .hbm, ⟨11, _⟩ => ⟨S1092x1x2048, .f32⟩
  | .hbm, ⟨12, _⟩ => ⟨S1092x2x2048, .f32⟩
  | .hbm, ⟨13, _⟩ => ⟨S1092x2x2048, .f32⟩
  | .hbm, ⟨14, _⟩ => ⟨S1092x2x2048, .f32⟩
  | .hbm, ⟨15, _⟩ => ⟨S1092x2x2048, .f32⟩
  | .hbm, ⟨16, _⟩ => ⟨S1092x2x2048, .f32⟩
  | .hbm, ⟨17, _⟩ => ⟨S1092x2x2048, .f32⟩
  | .hbm, ⟨18, _⟩ => ⟨S1092x2x2048, .f32⟩
  | .local _ .vmem, ⟨0, _⟩ => ⟨S91x2x2048, .f32⟩
  | .local _ .vmem, ⟨1, _⟩ => ⟨S91x2x2048, .f32⟩
  | .local _ .vmem, ⟨2, _⟩ => ⟨S91x2x2048, .f32⟩
  | .local _ .vmem, ⟨3, _⟩ => ⟨S91x2x2048, .f32⟩
  | .local _ .vmem, ⟨4, _⟩ => ⟨S91x2x2048, .f32⟩
  | .local _ .vmem, ⟨5, _⟩ => ⟨S91x2x2048, .f32⟩
  | .local _ .vmem, ⟨6, _⟩ => ⟨S91x2x2048, .f32⟩
  | .local _ .vmem, ⟨7, _⟩ => ⟨S91x2x2048, .f32⟩
  | .local _ .vmem, ⟨8, _⟩ => ⟨S91x2x2048, .f32⟩
  | .local _ .vmem, ⟨9, _⟩ => ⟨S91x2x2048, .f32⟩
  | .local _ .vmem, ⟨10, _⟩ => ⟨S91x2x2048, .f32⟩
  | .local _ .vmem, ⟨11, _⟩ => ⟨S91x2x2048, .f32⟩
  | .local _ .vmem, ⟨12, _⟩ => ⟨S91x2x2048, .f32⟩
  | .local _ .vmem, ⟨13, _⟩ => ⟨S91x2x2048, .f32⟩
  | _, _ => ⟨S2x2048x1092, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S91x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S91x2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S91x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S91x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S91x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S91x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S91x2x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2x2048x1092 : Shape := ⟨3, ![2, 2048, 1092]⟩
abbrev S_ : Shape := ⟨0, ![]⟩
abbrev S1092x2x2048 : Shape := ⟨3, ![1092, 2, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1092, .f32⟩
  | .hbm, ⟨1, _⟩ => ⟨S2x2048x1092, .f32⟩
  | .hbm, ⟨2, _⟩ => ⟨S2x2048x1092, .f32⟩
  | .hbm, ⟨3, _⟩ => ⟨S2x2048x1092, .f32⟩
  | .hbm, ⟨4, _⟩ => ⟨S_, .f32⟩
  | .hbm, ⟨5, _⟩ => ⟨S2x2048x1092, .f32⟩
  | .hbm, ⟨6, _⟩ => ⟨S2x2048x1092, .f32⟩
  | .hbm, ⟨7, _⟩ => ⟨S_, .f32⟩
  | .hbm, ⟨8, _⟩ => ⟨S2x2048x1092, .f32⟩
  | .hbm, ⟨9, _⟩ => ⟨S2x2048x1092, .f32⟩
  | .hbm, ⟨10, _⟩ => ⟨S2x2048x1092, .f32⟩
  | .hbm, ⟨11, _⟩ => ⟨S_, .f32⟩
  | .hbm, ⟨12, _⟩ => ⟨S2x2048x1092, .f32⟩
  | .hbm, ⟨13, _⟩ => ⟨S2x2048x1092, .f32⟩
  | .hbm, ⟨14, _⟩ => ⟨S2x2048x1092, .f32⟩
  | .hbm, ⟨15, _⟩ => ⟨S_, .f32⟩
  | .hbm, ⟨16, _⟩ => ⟨S2x2048x1092, .f32⟩
  | .hbm, ⟨17, _⟩ => ⟨S2x2048x1092, .f32⟩
  | .hbm, ⟨18, _⟩ => ⟨S2x2048x1092, .f32⟩
  | .hbm, ⟨19, _⟩ => ⟨S_, .f32⟩
  | .hbm, ⟨20, _⟩ => ⟨S2x2048x1092, .f32⟩
  | .hbm, ⟨21, _⟩ => ⟨S2x2048x1092, .f32⟩
  | .hbm, ⟨22, _⟩ => ⟨S_, .f32⟩
  | .hbm, ⟨23, _⟩ => ⟨S2x2048x1092, .f32⟩
  | .hbm, ⟨24, _⟩ => ⟨S2x2048x1092, .f32⟩
  | .hbm, ⟨25, _⟩ => ⟨S2x2048x1092, .f32⟩
  | .hbm, ⟨26, _⟩ => ⟨S_, .f32⟩
  | .hbm, ⟨27, _⟩ => ⟨S2x2048x1092, .f32⟩
  | .hbm, ⟨28, _⟩ => ⟨S2x2048x1092, .f32⟩
  | .hbm, ⟨29, _⟩ => ⟨S2x2048x1092, .f32⟩
  | .hbm, ⟨30, _⟩ => ⟨S_, .f32⟩
  | .hbm, ⟨31, _⟩ => ⟨S2x2048x1092, .f32⟩
  | .hbm, ⟨32, _⟩ => ⟨S2x2048x1092, .f32⟩
  | .hbm, ⟨33, _⟩ => ⟨S2x2048x1092, .f32⟩
  | .hbm, ⟨34, _⟩ => ⟨S_, .f32⟩
  | .hbm, ⟨35, _⟩ => ⟨S2x2048x1092, .f32⟩
  | .hbm, ⟨36, _⟩ => ⟨S2x2048x1092, .f32⟩
  | .hbm, ⟨37, _⟩ => ⟨S1092x2x2048, .f32⟩
  | .hbm, ⟨38, _⟩ => ⟨S1092x2x2048, .f32⟩
  | .hbm, ⟨39, _⟩ => ⟨S1092x2x2048, .f32⟩
  | _, _ => ⟨S2x2048x1092, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== LossHead.lean ====
abbrev S2x2048x2048 : Shape := ⟨3, ![2, 2048, 2048]⟩
abbrev S2048 : Shape := ⟨1, ![2048]⟩
abbrev S1x2048 : Shape := ⟨2, ![1, 2048]⟩
abbrev S1x128 : Shape := ⟨2, ![1, 128]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2x2048x2048, .f32⟩
  | .hbm, ⟨1, _⟩ => ⟨S2048, .f32⟩
  | .hbm, ⟨2, _⟩ => ⟨S2x2048x2048, .f32⟩
  | .hbm, ⟨3, _⟩ => ⟨S1x2048, .f32⟩
  | .hbm, ⟨4, _⟩ => ⟨S2x2048x2048, .f32⟩
  | .hbm, ⟨5, _⟩ => ⟨S1x2048, .f32⟩
  | .hbm, ⟨6, _⟩ => ⟨S1x128, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1x128, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v48 : BitVec 1 := Scalar.cmpi .eq arg1 c0_i32
  let arg0 : BitVec 32 := BitVec.ofNat 32 (i 0).val
  let c0_i32_19 : BitVec 32 := 0#32
  let v49 : BitVec 1 := Scalar.cmpi .eq arg0 c0_i32_19
  let v50 : BitVec 1 := Scalar.andi v48 v49
  let v51 : BitVec 32 := Scalar.extui v50
  let c0_i32_20 : BitVec 32 := 0#32
  let v52 : BitVec 1 := Scalar.cmpi .ne v51 c0_i32_20
  v52

def k0_cond2 (i : grid0.Coords) : BitVec 1 :=
  let arg1 : BitVec 32 := BitVec.ofNat 32 (i 1).val
  let c0_i32 : BitVec 32 := 0#32
  let v48 : BitVec 1 := Scalar.cmpi .eq arg1 c0_i32
  let arg0 : BitVec 32 := BitVec.ofNat 32 (i 0).val
  let c0_i32_19 : BitVec 32 := 0#32
  let v49 : BitVec 1 := Scalar.cmpi .eq arg0 c0_i32_19
  let v50 : BitVec 1 := Scalar.andi v48 v49
  let v_true : BitVec 1 := 1#1
  let v53 : BitVec 1 := Scalar.xori v50 v_true
  let v54 : BitVec 32 := Scalar.extui v53
  let c0_i32_21 : BitVec 32 := 0#32
  let v55 : BitVec 1 := Scalar.cmpi .ne v54 c0_i32_21
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== LossHeadRefIdeal.lean ====
abbrev S2x2048x2048 : Shape := ⟨3, ![2, 2048, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S1x2048 : Shape := ⟨2, ![1, 2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048, .f32⟩
  | .hbm, ⟨2, _⟩ => ⟨S2x2048x2048, .f32⟩
  | .hbm, ⟨3, _⟩ => ⟨S2x2048x2048, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x2048, .f32⟩
  | .hbm, ⟨19, _⟩ => ⟨S2x2048x2048, .f32⟩
  | .hbm, ⟨20, _⟩ => ⟨S1x1x2048, .f32⟩
  | .hbm, ⟨21, _⟩ => ⟨S2x2048x2048, .f32⟩
  | .hbm, ⟨22, _⟩ => ⟨S2x2048x2048, .f32⟩
  | .hbm, ⟨23, _⟩ => ⟨S2x2048x2048, .f32⟩
  | .hbm, ⟨24, _⟩ => ⟨S2x2048x2048, .f32⟩
  | .hbm, ⟨25, _⟩ => ⟨S_, .f32⟩
  | .hbm, ⟨26, _⟩ => ⟨S2x2048x2048, .f32⟩
  | .hbm, ⟨27, _⟩ => ⟨S2x2048x2048, .f32⟩
  | .hbm, ⟨28, _⟩ => ⟨S_, .f32⟩
  | .hbm, ⟨29, _⟩ => ⟨S2x2048, .f32⟩
  | .hbm, ⟨30, _⟩ => ⟨S_, .f32⟩
  | .hbm, ⟨31, _⟩ => ⟨S2x2048, .f32⟩
  | .hbm, ⟨32, _⟩ => ⟨S2x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2x2048, .f32⟩
  | .hbm, ⟨41, _⟩ => ⟨S_, .f32⟩
  | .hbm, ⟨42, _⟩ => ⟨S2x2048, .f32⟩
  | .hbm, ⟨43, _⟩ => ⟨S2x2048, .f32⟩
  | .hbm, ⟨44, _⟩ => ⟨S2x2048x2048, .f32⟩
  | .hbm, ⟨45, _⟩ => ⟨S2x2048x2048, .f32⟩
  | .hbm, ⟨46, _⟩ => ⟨S2x2048x2048, .f32⟩
  | .hbm, ⟨47, _⟩ => ⟨S_, .f32⟩
  | .hbm, ⟨48, _⟩ => ⟨S2048, .f32⟩
  | .hbm, ⟨49, _⟩ => ⟨S1x1x2048, .f32⟩
  | .hbm, ⟨50, _⟩ => ⟨S2x2048x2048, .f32⟩
  | .hbm, ⟨51, _⟩ => ⟨S2x2048x2048, .f32⟩
  | .hbm, ⟨52, _⟩ => ⟨S_, .f32⟩
  | .hbm, ⟨53, _⟩ => ⟨S2048, .f32⟩
  | .hbm, ⟨54, _⟩ => ⟨S2x2048x2048, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S2x2048x2048, .f32⟩
  | .hbm, ⟨59, _⟩ => ⟨S2x2048x2048, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048, .f32⟩
  | .hbm, ⟨66, _⟩ => ⟨S2x2048x2048, .f32⟩
  | .hbm, ⟨67, _⟩ => ⟨S2x2048x2048, .f32⟩
  | .hbm, ⟨68, _⟩ => ⟨S2x2048x2048, .f32⟩
  | .hbm, ⟨69, _⟩ => ⟨S2x2048x2048, .f32⟩
  | .hbm, ⟨70, _⟩ => ⟨S2x2048x2048, .f32⟩
  | .hbm, ⟨71, _⟩ => ⟨S1x2048, .f32⟩
  | .hbm, ⟨72, _⟩ => ⟨S1x128, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamMlp.lean ====
abbrev S2x2048x2048 : Shape := ⟨3, ![2, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpRefIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S1x2048x2048, .f32⟩
  | .hbm, ⟨48, _⟩ => ⟨S2048x2048, .f32⟩
  | .hbm, ⟨49, _⟩ => ⟨S1x2048x2048, .f32⟩
  | .hbm, ⟨50, _⟩ => ⟨S1x2048x2048, .f32⟩
  | .hbm, ⟨51, _⟩ => ⟨S2x2048x2048, .f32⟩
  | .hbm, ⟨52, _⟩ => ⟨S1x2048x2048, .f32⟩
  | .hbm, ⟨53, _⟩ => ⟨S2048x2048, .f32⟩
  | .hbm, ⟨54, _⟩ => ⟨S1x2048x2048, .f32⟩
  | .hbm, ⟨55, _⟩ => ⟨S1x2048x2048, .f32⟩
  | .hbm, ⟨56, _⟩ => ⟨S2x2048x2048, .f32⟩
  | .hbm, ⟨57, _⟩ => ⟨S1x2048x2048, .f32⟩
  | .hbm, ⟨58, _⟩ => ⟨S2048x2048, .f32⟩
  | .hbm, ⟨59, _⟩ => ⟨S1x2048x2048, .f32⟩
  | .hbm, ⟨60, _⟩ => ⟨S1x2048x2048, .f32⟩
  | .hbm, ⟨61, _⟩ => ⟨S2x2048x2048, .f32⟩
  | .hbm, ⟨62, _⟩ => ⟨S1x2048x2048, .f32⟩
  | .hbm, ⟨63, _⟩ => ⟨S2048x2048, .f32⟩
  | .hbm, ⟨64, _⟩ => ⟨S1x2048x2048, .f32⟩
  | .hbm, ⟨65, _⟩ => ⟨S1x2048x2048, .f32⟩
  | .hbm, ⟨66, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamOut.lean ====
abbrev S2x512x2048 : Shape := ⟨3, ![2, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S2x512x2048 : Shape := ⟨3, ![2, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S1x512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S1x512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S512x2048, .f32⟩
  | .hbm, ⟨44, _⟩ => ⟨S_, .f32⟩
  | .hbm, ⟨45, _⟩ => ⟨S512x2048, .f32⟩
  | .hbm, ⟨46, _⟩ => ⟨S512x2048, .f32⟩
  | .hbm, ⟨47, _⟩ => ⟨S1x512x2048, .f32⟩
  | .hbm, ⟨48, _⟩ => ⟨S512x2048, .f32⟩
  | .hbm, ⟨49, _⟩ => ⟨S1x512x2048, .f32⟩
  | .hbm, ⟨50, _⟩ => ⟨S1x512x2048, .f32⟩
  | .hbm, ⟨51, _⟩ => ⟨S2x512x2048, .f32⟩
  | .hbm, ⟨52, _⟩ => ⟨S1x512x2048, .f32⟩
  | .hbm, ⟨53, _⟩ => ⟨S512x2048, .f32⟩
  | .hbm, ⟨54, _⟩ => ⟨S1x512x2048, .f32⟩
  | .hbm, ⟨55, _⟩ => ⟨S1x512x2048, .f32⟩
  | .hbm, ⟨56, _⟩ => ⟨S2x512x2048, .f32⟩
  | .hbm, ⟨57, _⟩ => ⟨S1x512x2048, .f32⟩
  | .hbm, ⟨58, _⟩ => ⟨S512x2048, .f32⟩
  | .hbm, ⟨59, _⟩ => ⟨S1x512x2048, .f32⟩
  | .hbm, ⟨60, _⟩ => ⟨S1x512x2048, .f32⟩
  | .hbm, ⟨61, _⟩ => ⟨S2x512x2048, .f32⟩
  | .hbm, ⟨62, _⟩ => ⟨S1x512x2048, .f32⟩
  | .hbm, ⟨63, _⟩ => ⟨S512x2048, .f32⟩
  | .hbm, ⟨64, _⟩ => ⟨S1x512x2048, .f32⟩
  | .hbm, ⟨65, _⟩ => ⟨S1x512x2048, .f32⟩
  | .hbm, ⟨66, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamSmall.lean ====
abbrev S1408x128 : Shape := ⟨2, ![1408, 128]⟩

abbrev nBuf : Space → Nat
  | .hbm => 7
  | .vmem => 7
  | .smem => 0
  | _ => 0

abbrev bufTy : (tb : Table) → Fin (tcTables nBuf tb) → BufTy
  | .hbm, ⟨0, _⟩ => ⟨S1408x128, .f32⟩
  | .hbm, ⟨1, _⟩ => ⟨S1408x128, .f32⟩
  | .hbm, ⟨2, _⟩ => ⟨S1408x128, .f32⟩
  | .hbm, ⟨3, _⟩ => ⟨S1408x128, .f32⟩
  | .hbm, ⟨4, _⟩ => ⟨S1408x128, .f32⟩
  | .hbm, ⟨5, _⟩ => ⟨S1408x128, .f32⟩
  | .hbm, ⟨6, _⟩ => ⟨S1408x128, .f32⟩
  | .local _ .vmem, ⟨0, _⟩ => ⟨S1408x128, .f32⟩
  | .local _ .vmem, ⟨1, _⟩ => ⟨S1408x128, .f32⟩
  | .local _ .vmem, ⟨2, _⟩ => ⟨S1408x128, .f32⟩
  | .local _ .vmem, ⟨3, _⟩ => ⟨S1408x128, .f32⟩
  | .local _ .vmem, ⟨4, _⟩ => ⟨S1408x128, .f32⟩
  | .local _ .vmem, ⟨5, _⟩ => ⟨S1408x128, .f32⟩
  | .local _ .vmem, ⟨6, _⟩ => ⟨S1408x128, .f32⟩
  | _, _ => ⟨S1408x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1408x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1408x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1408x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1408x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1408x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1408x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1408x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1408x128 : Shape := ⟨2, ![1408, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x128, .f32⟩
  | .hbm, ⟨1, _⟩ => ⟨S1408x128, .f32⟩
  | .hbm, ⟨2, _⟩ => ⟨S1408x128, .f32⟩
  | .hbm, ⟨3, _⟩ => ⟨S1408x128, .f32⟩
  | .hbm, ⟨4, _⟩ => ⟨S_, .f32⟩
  | .hbm, ⟨5, _⟩ => ⟨S1408x128, .f32⟩
  | .hbm, ⟨6, _⟩ => ⟨S1408x128, .f32⟩
  | .hbm, ⟨7, _⟩ => ⟨S_, .f32⟩
  | .hbm, ⟨8, _⟩ => ⟨S1408x128, .f32⟩
  | .hbm, ⟨9, _⟩ => ⟨S1408x128, .f32⟩
  | .hbm, ⟨10, _⟩ => ⟨S1408x128, .f32⟩
  | .hbm, ⟨11, _⟩ => ⟨S_, .f32⟩
  | .hbm, ⟨12, _⟩ => ⟨S1408x128, .f32⟩
  | .hbm, ⟨13, _⟩ => ⟨S1408x128, .f32⟩
  | .hbm, ⟨14, _⟩ => ⟨S1408x128, .f32⟩
  | .hbm, ⟨15, _⟩ => ⟨S_, .f32⟩
  | .hbm, ⟨16, _⟩ => ⟨S1408x128, .f32⟩
  | .hbm, ⟨17, _⟩ => ⟨S1408x128, .f32⟩
  | .hbm, ⟨18, _⟩ => ⟨S1408x128, .f32⟩
  | .hbm, ⟨19, _⟩ => ⟨S_, .f32⟩
  | .hbm, ⟨20, _⟩ => ⟨S1408x128, .f32⟩
  | .hbm, ⟨21, _⟩ => ⟨S1408x128, .f32⟩
  | .hbm, ⟨22, _⟩ => ⟨S_, .f32⟩
  | .hbm, ⟨23, _⟩ => ⟨S1408x128, .f32⟩
  | .hbm, ⟨24, _⟩ => ⟨S1408x128, .f32⟩
  | .hbm, ⟨25, _⟩ => ⟨S1408x128, .f32⟩
  | .hbm, ⟨26, _⟩ => ⟨S_, .f32⟩
  | .hbm, ⟨27, _⟩ => ⟨S1408x128, .f32⟩
  | .hbm, ⟨28, _⟩ => ⟨S1408x128, .f32⟩
  | .hbm, ⟨29, _⟩ => ⟨S1408x128, .f32⟩
  | .hbm, ⟨30, _⟩ => ⟨S_, .f32⟩
  | .hbm, ⟨31, _⟩ => ⟨S1408x128, .f32⟩
  | .hbm, ⟨32, _⟩ => ⟨S1408x128, .f32⟩
  | .hbm, ⟨33, _⟩ => ⟨S1408x128, .f32⟩
  | .hbm, ⟨34, _⟩ => ⟨S_, .f32⟩
  | .hbm, ⟨35, _⟩ => ⟨S1408x128, .f32⟩
  | .hbm, ⟨36, _⟩ => ⟨S1408x128, .f32⟩
  | _, _ => ⟨S1408x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x1288x128 : Shape := ⟨3, ![8, 1288, 128]⟩
abbrev S1288x128 : Shape := ⟨2, ![1288, 128]⟩
abbrev S1x1288x128 : Shape := ⟨3, ![1, 1288, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1288x128, .f32⟩
  | .hbm, ⟨1, _⟩ => ⟨S1288x128, .f32⟩
  | .local _ .vmem, ⟨0, _⟩ => ⟨S8x1288x128, .f32⟩
  | .local _ .vmem, ⟨1, _⟩ => ⟨S1288x128, .f32⟩
  | _, _ => ⟨S8x1288x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSmallRefIdeal.lean ====
abbrev S8x1288x128 : Shape := ⟨3, ![8, 1288, 128]⟩
abbrev S_ : Shape := ⟨0, ![]⟩
abbrev S1288x128 : Shape := ⟨2, ![1288, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1288x128, .f32⟩
  | .hbm, ⟨1, _⟩ => ⟨S_, .f32⟩
  | .hbm, ⟨2, _⟩ => ⟨S1288x128, .f32⟩
  | _, _ => ⟨S8x1288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamMlpTop.lean ====
abbrev S2x2048x2048 : Shape := ⟨3, ![2, 2048, 2048]⟩
abbrev S2048x2048 : Shape := ⟨2, ![2048, 2048]⟩
abbrev S1x256x2048 : Shape := ⟨3, ![1, 256, 2048]⟩
abbrev S256x2048 : Shape := ⟨2, ![256, 2048]⟩
abbrev S1x2048x2048 : Shape := ⟨3, ![1, 2048, 2048]⟩

abbrev nBuf : Space → Nat
  | .hbm => 16
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamMlpTopRefIdeal.lean ====
abbrev S2x2048x2048 : Shape := ⟨3, ![2, 2048, 2048]⟩
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdamOutTop.lean ====
abbrev S2x512x2048 : Shape := ⟨3, ![2, 512, 2048]⟩
abbrev S512x2048 : Shape := ⟨2, ![512, 2048]⟩
abbrev S1x256x2048 : Shape := ⟨3, ![1, 256, 2048]⟩
abbrev S256x2048 : Shape := ⟨2, ![256, 2048]⟩
abbrev S1x512x2048 : Shape := ⟨3, ![1, 512, 2048]⟩

abbrev nBuf : Space → Nat
  | .hbm => 16
  | .vmem => 16
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S2x512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S1x512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S1x512x2048, .f32⟩
  | .hbm, ⟨13, _⟩ => ⟨S512x2048, .f32⟩
  | .hbm, ⟨14, _⟩ => ⟨S1x512x2048, .f32⟩
  | .hbm, ⟨15, _⟩ => ⟨S512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutTopRefIdeal.lean ====
abbrev S2x512x2048 : Shape := ⟨3, ![2, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S1x512x2048, .f32⟩
  | .hbm, ⟨5, _⟩ => ⟨S512x2048, .f32⟩
  | .hbm, ⟨6, _⟩ => ⟨S1x512x2048, .f32⟩
  | .hbm, ⟨7, _⟩ => ⟨S512x2048, .f32⟩
  | .hbm, ⟨8, _⟩ => ⟨S1x512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Proof.Spec.lean ====
module

public import Idealize.ShloMosaic.Lib.Pipeline.ValueKit
public import Idealize.ShloMosaic.Lib.Pointwise

/-! The mathematics of the mixer's backward pass on one chunk of 128 tokens, as plain functions of
extended reals: both programs are shown to compute these functions. A chunk has 128 tokens, four heads
and 128 lanes per head; lane `e` of head `h` is column `h * 128 + e` of the 512 columns. -/

@[expose] public section
set_option maxRecDepth 16384
noncomputable section
open Idealize.ShloMosaic

namespace Cert.Gmlp

/-- A constant of the programs, by its single-precision bits. -/
abbrev cst (b : BitVec 32) : EReal := Ideal.ofBits FTy.f32 b

/-- A function of two indices as a matrix of the program. -/
def mat {n k : Nat} (f : Fin n → Fin k → EReal) : (⟨2, ![n, k]⟩ : Shape).Idx → EReal := fun j => f (j 0) (j 1)
/-- A function of three indices as an array of the program. -/
def cube {n k r : Nat} (f : Fin n → Fin k → Fin r → EReal) : (⟨3, ![n, k, r]⟩ : Shape).Idx → EReal :=
  fun j => f (j 0) (j 1) (j 2)
theorem mat_ix2 {n k : Nat} (f : Fin n → Fin k → EReal) (i : Fin n) (j : Fin k) : mat f (ix2 i j) = f i j := rfl
theorem cube_ix3 {n k r : Nat} (f : Fin n → Fin k → Fin r → EReal) (a : Fin n) (b : Fin k) (c : Fin r) :
    cube f (ix3 a b c) = f a b c := rfl

/-! ### Columns, heads and lanes -/

/-- Column of lane `e` of head `h`. -/
def lane (h : Fin 4) (e : Fin 128) : Fin 512 := ⟨h.val * 128 + e.val, by omega⟩
/-- Head of a column. -/
def hd (l : Fin 512) : Fin 4 := ⟨l.val / 128, by omega⟩
/-- Lane of a column within its head. -/
def ln (l : Fin 512) : Fin 128 := ⟨l.val % 128, by omega⟩

theorem lane_hd_ln (l : Fin 512) : lane (hd l) (ln l) = l := by
  apply Fin.ext; simp only [lane, hd, ln]; omega
theorem hd_lane (h : Fin 4) (e : Fin 128) : hd (lane h e) = h := by
  apply Fin.ext; simp only [lane, hd]; omega
theorem ln_lane (h : Fin 4) (e : Fin 128) : ln (lane h e) = e := by
  apply Fin.ext; simp only [lane, ln]; omega
/-- Column of a lane of the first head, as a slice at offset 0 names it. -/
theorem lane_zero (e : Fin 128) (h : e.val < 512) : (⟨e.val, h⟩ : Fin 512) = lane 0 e := by
  apply Fin.ext; simp only [lane]; omega
/-- Four heads side by side, read at a column. -/
theorem cat4 (f : Fin 4 → Fin 128 → EReal) (l : Fin 512) :
    (if h : l.val < 128 then f 0 ⟨l.val, h⟩
      else if h : l.val - 128 < 128 then f 1 ⟨l.val - 128, h⟩
      else if h : l.val - 128 - 128 < 128 then f 2 ⟨l.val - 128 - 128, h⟩
      else f 3 ⟨l.val - 128 - 128 - 128, by omega⟩) = f (hd l) (ln l) := by
  split_ifs <;> congr 1 <;> (apply Fin.ext; simp [hd, ln]; omega)

/-- The last head's columns after 384 zeros. -/
theorem pad3 (f : Fin 128 → EReal) (l : Fin 512) :
    (if h : l.val < 384 then 0 else f ⟨l.val - 384, by omega⟩) = if hd l = 3 then f (ln l) else 0 := by
  simp only [Fin.ext_iff, hd, ln]; split_ifs <;> first | rfl | omega | (congr 1; apply Fin.ext; simp; omega)
/-- The third head's columns between 256 and 128 zeros. -/
theorem pad2 (f : Fin 128 → EReal) (l : Fin 512) :
    (if h : l.val < 384 then if h' : l.val < 256 then 0 else f ⟨l.val - 256, by omega⟩ else 0) = if hd l = 2 then f (ln l) else 0 := by
  simp only [Fin.ext_iff, hd, ln]; split_ifs <;> first | rfl | omega | (congr 1; apply Fin.ext; simp; omega)
/-- The second head's columns between 128 and 256 zeros. -/
theorem pad1 (f : Fin 128 → EReal) (l : Fin 512) :
    (if h : l.val < 256 then if h' : l.val < 128 then 0 else f ⟨l.val - 128, by omega⟩ else 0) = if hd l = 1 then f (ln l) else 0 := by
  simp only [Fin.ext_iff, hd, ln]; split_ifs <;> first | rfl | omega | (congr 1; apply Fin.ext; simp; omega)
/-- The first head's columns before 384 zeros. -/
theorem pad0 (f : Fin 128 → EReal) (l : Fin 512) :
    (if h : l.val < 128 then f ⟨l.val, h⟩ else 0) = if hd l = 0 then f (ln l) else 0 := by
  simp only [Fin.ext_iff, hd, ln]; split_ifs <;> first | rfl | omega | (congr 1; apply Fin.ext; simp; omega)
/-- The heads' entries between zeros, in the four places. -/
theorem padOne (x : EReal) (k : Fin 4) :
    ((if _h : k.val < 3 then 0 else x) = if k = 3 then x else 0)
    ∧ ((if _h : k.val < 3 then if _h' : k.val < 2 then 0 else x else 0) = if k = 2 then x else 0)
    ∧ ((if _h : k.val < 2 then if _h' : k.val < 1 then 0 else x else 0) = if k = 1 then x else 0)
    ∧ ((if _h : k.val < 1 then x else 0) = if k = 0 then x else 0) := by
  simp only [Fin.ext_iff]; refine ⟨?_, ?_, ?_, ?_⟩ <;> split_ifs <;> first | rfl | omega

/-- One head's columns among zeros. -/
def padL {n : Nat} (h : Fin 4) (f : Fin n → Fin 128 → EReal) (t : Fin n) (l : Fin 512) : EReal :=
  if hd l = h then f t (ln l) else 0
/-- The heads' padded columns add up to the heads side by side. -/
theorem padL_sum {n : Nat} (f : Fin 4 → Fin n → Fin 128 → EReal) (t : Fin n) (l : Fin 512) :
    padL 3 (f 3) t l + padL 2 (f 2) t l + padL 1 (f 1) t l + padL 0 (f 0) t l = f (hd l) t (ln l) := by
  simp only [padL]; rcases hd l with ⟨h, hh⟩
  interval_cases h <;> simp
/-- One head's entry among zeros. -/
def padH (h : Fin 4) (x : EReal) (k : Fin 4) : EReal := if k = h then x else 0
/-- The heads' padded entries add up to the heads' entries. -/
theorem padH_sum (x : Fin 4 → EReal) (k : Fin 4) :
    padH 3 (x 3) k + padH 2 (x 2) k + padH 1 (x 1) k + padH 0 (x 0) k = x k := by
  simp only [padH]; fin_cases k <;> simp

/-! ### The gelu gate and its derivative -/

/-- The hyperbolic tangent inside gelu. -/
def gTanh (x : EReal) : EReal := Ideal.tanh (cst 0x3F4C422A#32 * (x + cst 0x3D372713#32 * (x * x * x)))
/-- Gelu in its tanh form. -/
def gelu (x : EReal) : EReal := x * (cst 0x3F000000#32 * (1 + gTanh x))
/-- Gelu with the factors in the other order. -/
theorem gelu_eq (x : EReal) : cst 0x3F000000#32 * x * (1 + gTanh x) = gelu x := by
  simp only [gelu, mul_comm, mul_left_comm]
/-- Gelu of every entry. -/
def gel {n m : Nat} (X : Fin n → Fin m → EReal) (t : Fin n) (l : Fin m) : EReal := gelu (X t l)
/-- The part of gelu's derivative that goes through the tanh, times `d`. -/
def gInner (x d : EReal) : EReal :=
  cst 0x3F4C422A#32 * (cst 0x3F000000#32 * (x * d) * ((1 + gTanh x) * (1 - gTanh x)))
/-- The derivative of gelu at `x` times `d`. -/
def geluBwd (x d : EReal) : EReal :=
  d * (cst 0x3F000000#32 * (1 + gTanh x)) + gInner x d + cst 0x3D372713#32 * gInner x d * (cst 0x40400000#32 * (x * x))
/-- The constant 3 of the derivative of the cube. -/
theorem cst_three : cst 0x40400000#32 = ((3 : ℝ) : EReal) := by
  simp [cst, Ideal.ofBits, Ideal.ieee]; rw [← EReal.coe_mul]; norm_num
/-- Three times a value is the value added three times, at the infinities too. -/
theorem three_mul_add (y : EReal) : ((3 : ℝ) : EReal) * y = y + y + y := by
  induction y with
  | bot => rw [EReal.coe_mul_bot_of_pos (by norm_num)]; rfl
  | top => rw [EReal.coe_mul_top_of_pos (by norm_num)]; rfl
  | coe y => norm_cast; ring
/-- The derivative of gelu with the cube's derivative written as three terms. -/
theorem geluBwd_eq (x d s : EReal) (h : s = gInner x d) :
    s + x * x * (cst 0x3D372713#32 * s) + x * (cst 0x3D372713#32 * s * x) + cst 0x3D372713#32 * s * x * x
      + cst 0x3F000000#32 * (d * (1 + gTanh x)) = geluBwd x d := by
  subst h
  have e : cst 0x3D372713#32 * gInner x d * (cst 0x40400000#32 * (x * x))
      = ((3 : ℝ) : EReal) * (cst 0x3D372713#32 * gInner x d * x * x) := by
    rw [cst_three]; ac_rfl
  rw [geluBwd, e, three_mul_add]
  ac_rfl

/-! ### Normalisation of one row, and its derivative -/

section Row
variable {n : Nat} (k eps : EReal)

/-- Mean of squares plus epsilon; `k` is the row's length as the programs write it. -/
def nVar (x : Fin n → EReal) : EReal := Ideal.div (∑ e, x e * x e) k + eps
/-- Its inverse square root. -/
def nRs (x : Fin n → EReal) : EReal := Ideal.rsqrt (nVar k eps x)
/-- The derivative of the inverse square root. -/
def nK (x : Fin n → EReal) : EReal := cst 0xBF000000#32 * Ideal.div (nRs k eps x) (nVar k eps x)
/-- The coefficient through which the row's norm enters the derivative. -/
def nS (x g : Fin n → EReal) : EReal := Ideal.div ((∑ e, x e * g e) * nK k eps x) k
/-- The derivative of `x ↦ x * nRs x` at `x` applied to `g`. -/
def nBwd (x g : Fin n → EReal) (e : Fin n) : EReal :=
  g e * nRs k eps x + x e * nS k eps x g + nS k eps x g * x e
end Row

/-- A row minus its mean. -/
def center (x : Fin 128 → EReal) (e : Fin 128) : EReal := x e - Ideal.div (∑ e, x e) (cst 0x43000000#32)
/-- The normalised row of the layer norm, before scale and shift. -/
def lnXn (x : Fin 128 → EReal) (e : Fin 128) : EReal :=
  center x e * nRs (cst 0x43000000#32) (cst 0x3727C5AC#32) (center x)
/-- The derivative of the layer norm's normalised row, at the centred row. -/
def lnQ (x g : Fin 128 → EReal) (e : Fin 128) : EReal := nBwd (cst 0x43000000#32) (cst 0x3727C5AC#32) (center x) g e
/-- The same at the row itself. -/
def lnBwd (x g : Fin 128 → EReal) (e : Fin 128) : EReal := lnQ x g e + Ideal.div (∑ e, -lnQ x g e) (cst 0x43000000#32)
/-- Inverse root mean square of a row of 512. -/
def rmsRs (y : Fin 512 → EReal) : EReal := nRs (cst 0x44000000#32) (cst 0x358637BD#32) y
/-- Its derivative. -/
def rmsK (y : Fin 512 → EReal) : EReal := nK (cst 0x44000000#32) (cst 0x358637BD#32) y
/-- Mean of squares of a centred row, plus epsilon. -/
def lnVar (x : Fin 128 → EReal) : EReal := nVar (cst 0x43000000#32) (cst 0x3727C5AC#32) (center x)
/-- Inverse square root of it. -/
def lnRs (x : Fin 128 → EReal) : EReal := nRs (cst 0x43000000#32) (cst 0x3727C5AC#32) (center x)
/-- Its derivative. -/
def lnK (x : Fin 128 → EReal) : EReal := nK (cst 0x43000000#32) (cst 0x3727C5AC#32) (center x)
/-- The derivative of the root-mean-square normalisation. -/
def rmsBwd (y g : Fin 512 → EReal) (l : Fin 512) : EReal := nBwd (cst 0x44000000#32) (cst 0x358637BD#32) y g l

/-! ### The mixer on one chunk -/

/-- The transposed matrix `W` applied to the columns of `A`. -/
def mixT (W A : Fin 128 → Fin 128 → EReal) (s e : Fin 128) : EReal := ∑ t, A t e * W t s

/-- The causal mask: token `s` is not after token `t`. -/
def tril (t s : Fin 128) : BitVec 1 := IntOp.cmpi .sge (BitVec.ofNat 32 t.val) (BitVec.ofNat 32 s.val)

/-- The parameters of the mixer: scale and shift of the layer norm, mixing matrices, their biases, and
the scale of the output normalisation. -/
structure Params where
  lg : Fin 512 → EReal
  lb : Fin 512 → EReal
  w : Fin 4 → Fin 128 → Fin 128 → EReal
  b : Fin 4 → Fin 128 → EReal
  og : Fin 512 → EReal

section Chunk
variable (p : Params) (U V D : Fin 128 → Fin 512 → EReal)

/-- Row of head `h` at token `s`, after gelu. -/
def vrow (h : Fin 4) (s e : Fin 128) : EReal := gelu (V s (lane h e))
/-- The layer norm's output. -/
def vn (h : Fin 4) (s e : Fin 128) : EReal := lnXn (vrow V h s) e * p.lg (lane h e) + p.lb (lane h e)
/-- The mixing matrix, causally masked. -/
def wm (h : Fin 4) (t s : Fin 128) : EReal := Scalar.select (tril t s) (p.w h t s) 0
/-- The spatial gate. -/
def gate (h : Fin 4) (t e : Fin 128) : EReal := ∑ s, vn p V h s e * wm p h t s + p.b h t
/-- The gated tokens, before the output normalisation. -/
def yv (t : Fin 128) (l : Fin 512) : EReal := gelu (U t l) * gate p V (hd l) t (ln l)
/-- The derivative at the gated tokens. -/
def dy (t : Fin 128) (l : Fin 512) : EReal := rmsBwd (yv p U V t) (fun l => D t l * p.og l) l
/-- The derivative at the gate. -/
def dgate (h : Fin 4) (t e : Fin 128) : EReal := gelu (U t (lane h e)) * dy p U V D t (lane h e)
/-- The derivative at the layer norm's output. -/
def dvn (h : Fin 4) (s e : Fin 128) : EReal := mixT (wm p h) (dgate p U V D h) s e
/-- The derivative at the layer norm's input. -/
def dx (h : Fin 4) (s : Fin 128) : Fin 128 → EReal :=
  lnBwd (vrow V h s) (fun e => dvn p U V D h s e * p.lg (lane h e))
/-- The derivative with respect to `u`. -/
def dU (t : Fin 128) (l : Fin 512) : EReal := geluBwd (U t l) (dy p U V D t l * gate p V (hd l) t (ln l))
/-- The derivative with respect to `v`. -/
def dV (t : Fin 128) (l : Fin 512) : EReal := geluBwd (V t l) (dx p U V D (hd l) t (ln l))
/-- The chunk's part of the derivative of the layer norm's scale. -/
def cLg (h : Fin 4) (e : Fin 128) : EReal := ∑ s, lnXn (vrow V h s) e * dvn p U V D h s e
/-- The chunk's part of the derivative of the layer norm's shift. -/
def cLb (h : Fin 4) (e : Fin 128) : EReal := ∑ s, dvn p U V D h s e
/-- The chunk's part of the derivative of the mixing matrix. -/
def cW (h : Fin 4) (t s : Fin 128) : EReal := Scalar.select (tril t s) (∑ e, dgate p U V D h t e * vn p V h s e) 0
/-- The chunk's part of the derivative of the bias. -/
def cB (h : Fin 4) (t : Fin 128) : EReal := ∑ e, dgate p U V D h t e
/-- The chunk's part of the derivative of the output scale. -/
def cOg (l : Fin 512) : EReal := ∑ t, yv p U V t l * rmsRs (yv p U V t) * D t l
end Chunk

end Cert.Gmlp
-- ==== Proof.KernelForward.lean ====
module

public import proofs.«01_k».proof.Proof.Gen.KernelIdeal.Value
public import proofs.«01_k».proof.Proof.Spec
public import Idealize.ShloMosaic.Lib.Pipeline.ValueKit
public import Idealize.ShloMosaic.Lib.Tactic.CleanTypes

/-! The forward half of the kernel's body on one chunk: every value it recomputes before the backward
pass is a matrix of the functions in `Spec`. The four heads are unrolled in the body; each statement
below says the same of each head. -/

@[expose] public section
set_option maxRecDepth 16384
noncomputable section
open Idealize.ShloMosaic Idealize.ShloMosaic.TcCoe Idealize.SL.Sem

namespace Cert.KernelIdeal.Value
open Cert.KernelIdeal Cert.KernelIdeal.Gen Cert.Gmlp

section
variable (p : Params) (U V D : Fin 128 → Fin 512 → EReal)

/-! ### Inputs -/

theorem pay7_eq : k0_pay7 (F := Ideal) (cube fun _ => U) = mat U := by
  funext j; idx_vars j; pointwise [k0_pay7, mat_ix2, cube_ix3]
theorem pay8_eq : k0_pay8 (F := Ideal) (cube fun _ => V) = mat V := by
  funext j; idx_vars j; pointwise [k0_pay8, mat_ix2, cube_ix3]
theorem pay9_eq (x : FVec Ideal S1x512 .f32) : k0_pay9 (F := Ideal) x = x := by
  funext j; idx_vars j; pointwise [k0_pay9]
theorem pay10_eq (x : FVec Ideal S1x512 .f32) : k0_pay10 (F := Ideal) x = x := by
  funext j; idx_vars j; pointwise [k0_pay10]
theorem pay11_eq (x : FVec Ideal S128x4 .f32) : k0_pay11 (F := Ideal) x = x := by
  funext j; idx_vars j; pointwise [k0_pay11]
theorem pay12_eq (x : FVec Ideal S1x512 .f32) : k0_pay12 (F := Ideal) x = x := by
  funext j; idx_vars j; pointwise [k0_pay12]
theorem pay74_eq : k0_pay74 (F := Ideal) (cube fun _ => D) = mat D := by
  funext j; idx_vars j; pointwise [k0_pay74, mat_ix2, cube_ix3]
theorem pay76_eq (g : Fin 512 → EReal) : k0_pay76 (F := Ideal) (mat fun _ => g) = mat fun _ => g := by
  funext j; idx_vars j; pointwise [k0_pay76, mat_ix2]

/-! ### Gelu and the factors of its derivative -/

theorem pay13_eq : k0_pay13 (F := Ideal) (cube fun _ => U) = mat fun t l => cst 0x3F000000#32 * U t l := by
  funext j; idx_vars j; pointwise [k0_pay13, pay7_eq, mat_ix2]
theorem pay14_eq : k0_pay14 (F := Ideal) (cube fun _ => U) = mat fun t l => U t l * U t l := by
  funext j; idx_vars j; pointwise [k0_pay14, pay7_eq, mat_ix2]
theorem pay15_eq : k0_pay15 (F := Ideal) (cube fun _ => U) = mat fun t l => gTanh (U t l) := by
  funext j; idx_vars j; pointwise [k0_pay15, pay14_eq, pay7_eq, mat_ix2, gTanh]
theorem pay16_eq : k0_pay16 (F := Ideal) (cube fun _ => U) = mat fun t l => (1 + gTanh (U t l)) * (1 - gTanh (U t l)) := by
  funext j; idx_vars j; pointwise [k0_pay16, pay15_eq, mat_ix2]
theorem pay17_eq : k0_pay17 (F := Ideal) (cube fun _ => U) = mat fun t l => 1 + gTanh (U t l) := by
  funext j; idx_vars j; pointwise [k0_pay17, pay15_eq, mat_ix2]
theorem pay18_eq : k0_pay18 (F := Ideal) (mat fun t l => cst 0x3F000000#32 * U t l) (mat fun t l => 1 + gTanh (U t l)) = mat (gel U) := by
  funext j; idx_vars j; pointwise [k0_pay18, mat_ix2, gel]; exact gelu_eq _
theorem pay19_eq : k0_pay19 (F := Ideal) (mat V) = mat fun t l => cst 0x3F000000#32 * V t l := by
  funext j; idx_vars j; pointwise [k0_pay19, mat_ix2]
theorem pay20_eq : k0_pay20 (F := Ideal) (mat V) = mat fun t l => V t l * V t l := by
  funext j; idx_vars j; pointwise [k0_pay20, mat_ix2]
theorem pay21_eq : k0_pay21 (F := Ideal) (mat V) = mat fun t l => gTanh (V t l) := by
  funext j; idx_vars j; pointwise [k0_pay21, pay20_eq, mat_ix2, gTanh]
theorem pay22_eq : k0_pay22 (F := Ideal) (mat V) = mat fun t l => (1 + gTanh (V t l)) * (1 - gTanh (V t l)) := by
  funext j; idx_vars j; pointwise [k0_pay22, pay21_eq, mat_ix2]
theorem pay23_eq : k0_pay23 (F := Ideal) (mat V) = mat fun t l => 1 + gTanh (V t l) := by
  funext j; idx_vars j; pointwise [k0_pay23, pay21_eq, mat_ix2]
theorem pay24_eq : k0_pay24 (F := Ideal) (mat V) = mat (gel V) := by
  funext j; idx_vars j; pointwise [k0_pay24, pay19_eq, pay23_eq, mat_ix2, gel]; exact gelu_eq _

/-! ### The layer norm, head by head -/

theorem center_eq : k0_pay26 (F := Ideal) (mat V) = (mat fun t => center (vrow V 0 t))
    ∧ k0_pay37 (F := Ideal) (mat (gel V)) = (mat fun t => center (vrow V 1 t))
    ∧ k0_pay48 (F := Ideal) (mat (gel V)) = (mat fun t => center (vrow V 2 t))
    ∧ k0_pay59 (F := Ideal) (mat (gel V)) = (mat fun t => center (vrow V 3 t)) := by
  refine ⟨?_, ?_, ?_, ?_⟩ <;> (funext j; idx_vars j)
  · pointwise [k0_pay26, pay24_eq, mat_ix2, center]; simp only [lane_zero]; rfl
  · pointwise [k0_pay37, mat_ix2, center]; rfl
  · pointwise [k0_pay48, mat_ix2, center]; rfl
  · pointwise [k0_pay59, mat_ix2, center]; rfl
theorem squares_eq : k0_pay60 (F := Ideal) (mat (gel V))
    = mat fun t _ => ∑ e, center (vrow V 3 t) e * center (vrow V 3 t) e := by
  funext j; idx_vars j; pointwise [k0_pay60, center_eq, mat_ix2]
theorem lnVar_eq : k0_pay27 (F := Ideal) (mat V) = (mat fun t _ => lnVar (vrow V 0 t))
    ∧ k0_pay38 (F := Ideal) (mat (gel V)) = (mat fun t _ => lnVar (vrow V 1 t))
    ∧ k0_pay49 (F := Ideal) (mat (gel V)) = (mat fun t _ => lnVar (vrow V 2 t)) := by
  refine ⟨?_, ?_, ?_⟩ <;> (funext j; idx_vars j)
  · pointwise [k0_pay27, center_eq, mat_ix2, lnVar, nVar]
  · pointwise [k0_pay38, center_eq, mat_ix2, lnVar, nVar]
  · pointwise [k0_pay49, center_eq, mat_ix2, lnVar, nVar]
theorem lnRs_eq : k0_pay28 (F := Ideal) (mat V) = (mat fun t _ => lnRs (vrow V 0 t))
    ∧ k0_pay39 (F := Ideal) (mat (gel V)) = (mat fun t _ => lnRs (vrow V 1 t))
    ∧ k0_pay50 (F := Ideal) (mat (gel V)) = (mat fun t _ => lnRs (vrow V 2 t)) := by
  refine ⟨?_, ?_, ?_⟩ <;> (funext j; idx_vars j)
  · pointwise [k0_pay28, lnVar_eq, mat_ix2]; rfl
  · pointwise [k0_pay39, lnVar_eq, mat_ix2]; rfl
  · pointwise [k0_pay50, lnVar_eq, mat_ix2]; rfl
theorem lnK_eq : k0_pay29 (F := Ideal) (mat V) = (mat fun t _ => lnK (vrow V 0 t))
    ∧ k0_pay40 (F := Ideal) (mat (gel V)) = (mat fun t _ => lnK (vrow V 1 t))
    ∧ k0_pay51 (F := Ideal) (mat (gel V)) = (mat fun t _ => lnK (vrow V 2 t)) := by
  refine ⟨?_, ?_, ?_⟩ <;> (funext j; idx_vars j)
  · pointwise [k0_pay29, lnRs_eq, lnVar_eq, mat_ix2]; rfl
  · pointwise [k0_pay40, lnRs_eq, lnVar_eq, mat_ix2]; rfl
  · pointwise [k0_pay51, lnRs_eq, lnVar_eq, mat_ix2]; rfl
theorem lnXn_eq : k0_pay30 (F := Ideal) (mat V) = (mat fun t => lnXn (vrow V 0 t))
    ∧ k0_pay41 (F := Ideal) (mat (gel V)) = (mat fun t => lnXn (vrow V 1 t))
    ∧ k0_pay52 (F := Ideal) (mat (gel V)) = (mat fun t => lnXn (vrow V 2 t)) := by
  refine ⟨?_, ?_, ?_⟩ <;> (funext j; idx_vars j)
  · pointwise [k0_pay30, center_eq, lnRs_eq, mat_ix2]; rfl
  · pointwise [k0_pay41, center_eq, lnRs_eq, mat_ix2]; rfl
  · pointwise [k0_pay52, center_eq, lnRs_eq, mat_ix2]; rfl

/-- The last head's layer norm takes the sum of squares and the row length as arguments. -/
theorem lastLn_eq (X : Fin 128 → Fin 128 → EReal) :
    k0_pay61 (F := Ideal) (mat fun t _ => ∑ e, center (X t) e * center (X t) e) (cst 0x43000000#32)
      = (mat fun t _ => lnVar (X t))
    ∧ k0_pay62 (F := Ideal) (mat fun t _ => ∑ e, center (X t) e * center (X t) e) (cst 0x43000000#32)
      = (mat fun t _ => lnRs (X t))
    ∧ k0_pay63 (F := Ideal) (mat fun t _ => ∑ e, center (X t) e * center (X t) e) (cst 0x43000000#32)
      = (mat fun t _ => lnK (X t))
    ∧ k0_pay64 (F := Ideal) (mat fun t => center (X t)) (mat fun t _ => ∑ e, center (X t) e * center (X t) e)
        (cst 0x43000000#32)
      = (mat fun t => lnXn (X t)) := by
  have h1 : k0_pay61 (F := Ideal) (mat fun t _ => ∑ e, center (X t) e * center (X t) e) (cst 0x43000000#32)
      = (mat fun t _ => lnVar (X t)) := by
    funext j; idx_vars j; pointwise [k0_pay61, mat_ix2, lnVar, nVar]
  have h2 : k0_pay62 (F := Ideal) (mat fun t _ => ∑ e, center (X t) e * center (X t) e) (cst 0x43000000#32)
      = (mat fun t _ => lnRs (X t)) := by
    funext j; idx_vars j; unfold k0_pay62; rw [h1]; pointwise [mat_ix2]; rfl
  refine ⟨h1, h2, ?_, ?_⟩ <;> (funext j; idx_vars j)
  · unfold k0_pay63; rw [h1, h2]; pointwise [mat_ix2]; rfl
  · unfold k0_pay64; rw [h2]; pointwise [mat_ix2]; rfl

/-- The scale's slices. -/
theorem lg_eq (g : Fin 512 → EReal) : k0_pay31 (F := Ideal) (mat fun _ => g) = (mat fun _ e => g (lane 0 e))
    ∧ k0_pay42 (F := Ideal) (mat fun _ => g) = (mat fun _ e => g (lane 1 e))
    ∧ k0_pay53 (F := Ideal) (mat fun _ => g) = (mat fun _ e => g (lane 2 e))
    ∧ k0_pay65 (F := Ideal) (mat fun _ => g) = (mat fun _ e => g (lane 3 e)) := by
  refine ⟨?_, ?_, ?_, ?_⟩ <;> (funext j; idx_vars j)
  · pointwise [k0_pay31, mat_ix2]; simp only [lane_zero]
  · pointwise [k0_pay42, mat_ix2]; rfl
  · pointwise [k0_pay53, mat_ix2]; rfl
  · pointwise [k0_pay65, mat_ix2]; rfl

theorem vn_eq : k0_pay32 (F := Ideal) (mat V) (mat fun _ => p.lg) (mat fun _ => p.lb) = mat (vn p V 0)
    ∧ k0_pay43 (F := Ideal) (mat fun _ => p.lg) (mat fun _ => p.lb) (mat (gel V)) = mat (vn p V 1)
    ∧ k0_pay54 (F := Ideal) (mat fun _ => p.lg) (mat fun _ => p.lb) (mat (gel V)) = mat (vn p V 2)
    ∧ k0_pay66 (F := Ideal) (mat fun _ => p.lg) (mat fun _ => p.lb) (mat fun t => center (vrow V 3 t))
        (mat fun t _ => ∑ e, center (vrow V 3 t) e * center (vrow V 3 t) e) (cst 0x43000000#32)
      = mat (vn p V 3) := by
  refine ⟨?_, ?_, ?_, ?_⟩ <;> (funext j; idx_vars j)
  · pointwise [k0_pay32, lnXn_eq, lg_eq, mat_ix2]; simp only [lane_zero]; rfl
  · pointwise [k0_pay43, lnXn_eq, lg_eq, mat_ix2]; rfl
  · pointwise [k0_pay54, lnXn_eq, lg_eq, mat_ix2]; rfl
  · pointwise [k0_pay66, lastLn_eq, lg_eq, mat_ix2]; rfl

/-! ### The mixing matrices, the gate and the gated tokens -/

theorem wm_eq : k0_pay33 (F := Ideal) (cube p.w) k0_pay25 = mat (wm p 0)
    ∧ k0_pay44 (F := Ideal) (cube p.w) k0_pay25 = mat (wm p 1)
    ∧ k0_pay55 (F := Ideal) (cube p.w) k0_pay25 = mat (wm p 2)
    ∧ k0_pay67 (F := Ideal) (cube p.w) k0_pay25 = mat (wm p 3) := by
  refine ⟨?_, ?_, ?_, ?_⟩ <;> (funext j; idx_vars j)
  · pointwise [k0_pay33, k0_pay25, mat_ix2, cube_ix3]; rfl
  · pointwise [k0_pay44, k0_pay25, mat_ix2, cube_ix3]; rfl
  · pointwise [k0_pay55, k0_pay25, mat_ix2, cube_ix3]; rfl
  · pointwise [k0_pay67, k0_pay25, mat_ix2, cube_ix3]; rfl

theorem gate_eq : k0_pay34 (F := Ideal) (cube p.w) (mat fun t h => p.b h t) k0_pay25 (mat (vn p V 0)) = mat (gate p V 0)
    ∧ k0_pay45 (F := Ideal) (mat fun _ => p.lg) (mat fun _ => p.lb) (cube p.w) (mat fun t h => p.b h t) (mat (gel V)) k0_pay25
      = mat (gate p V 1)
    ∧ k0_pay56 (F := Ideal) (mat fun _ => p.lg) (mat fun _ => p.lb) (cube p.w) (mat fun t h => p.b h t) (mat (gel V)) k0_pay25
      = mat (gate p V 2)
    ∧ k0_pay68 (F := Ideal) (mat fun _ => p.lg) (mat fun _ => p.lb) (cube p.w) (mat fun t h => p.b h t) k0_pay25
        (mat fun t => center (vrow V 3 t)) (mat fun t _ => ∑ e, center (vrow V 3 t) e * center (vrow V 3 t) e)
        (cst 0x43000000#32)
      = mat (gate p V 3) := by
  refine ⟨?_, ?_, ?_, ?_⟩ <;> (funext j; idx_vars j)
  · pointwise [k0_pay34, wm_eq, mat_ix2, gate]; simp only [mul_comm]
  · pointwise [k0_pay45, wm_eq, vn_eq, mat_ix2, gate]; simp only [mul_comm]
  · pointwise [k0_pay56, wm_eq, vn_eq, mat_ix2, gate]; simp only [mul_comm]
  · pointwise [k0_pay68, wm_eq, vn_eq, mat_ix2, gate]; simp only [mul_comm]

/-- The slices of gelu of `u`. -/
theorem ug_eq : k0_pay35 (F := Ideal) (mat (gel U)) = (mat fun t e => gelu (U t (lane 0 e)))
    ∧ k0_pay46 (F := Ideal) (mat (gel U)) = (mat fun t e => gelu (U t (lane 1 e)))
    ∧ k0_pay57 (F := Ideal) (mat (gel U)) = (mat fun t e => gelu (U t (lane 2 e)))
    ∧ k0_pay69 (F := Ideal) (mat (gel U)) = (mat fun t e => gelu (U t (lane 3 e))) := by
  refine ⟨?_, ?_, ?_, ?_⟩ <;> (funext j; idx_vars j)
  · pointwise [k0_pay35, mat_ix2]; simp only [lane_zero]; rfl
  · pointwise [k0_pay46, mat_ix2]; rfl
  · pointwise [k0_pay57, mat_ix2]; rfl
  · pointwise [k0_pay69, mat_ix2]; rfl

/-- The gated tokens of the first three heads. -/
theorem yh_eq : k0_pay36 (F := Ideal) (cube p.w) (mat fun t h => p.b h t) (mat (gel U)) k0_pay25 (mat (vn p V 0))
      = (mat fun t e => gelu (U t (lane 0 e)) * gate p V 0 t e)
    ∧ k0_pay47 (F := Ideal) (mat fun _ => p.lg) (mat fun _ => p.lb) (cube p.w) (mat fun t h => p.b h t) (mat (gel U)) (mat (gel V))
        k0_pay25
      = (mat fun t e => gelu (U t (lane 1 e)) * gate p V 1 t e)
    ∧ k0_pay58 (F := Ideal) (mat fun _ => p.lg) (mat fun _ => p.lb) (cube p.w) (mat fun t h => p.b h t) (mat (gel U)) (mat (gel V))
        k0_pay25
      = (mat fun t e => gelu (U t (lane 2 e)) * gate p V 2 t e) := by
  refine ⟨?_, ?_, ?_⟩ <;> (funext j; idx_vars j)
  · pointwise [k0_pay36, ug_eq, gate_eq, mat_ix2]
  · pointwise [k0_pay47, ug_eq, gate_eq, mat_ix2]
  · pointwise [k0_pay58, ug_eq, gate_eq, mat_ix2]

/-! ### All heads side by side, and the output normalisation -/

/-- The four heads' gated tokens side by side. -/
theorem yv_eq : k0_pay70 (F := Ideal) (mat fun _ => p.lg) (mat fun _ => p.lb) (cube p.w) (mat fun t h => p.b h t) (mat (gel U)) k0_pay25
      (mat fun t e => gelu (U t (lane 0 e)) * gate p V 0 t e) (mat fun t e => gelu (U t (lane 1 e)) * gate p V 1 t e)
      (mat fun t e => gelu (U t (lane 2 e)) * gate p V 2 t e) (mat fun t => center (vrow V 3 t))
      (mat fun t _ => ∑ e, center (vrow V 3 t) e * center (vrow V 3 t) e) (cst 0x43000000#32)
    = mat (yv p U V) := by
  funext j; idx_vars j
  pointwise [k0_pay70, ug_eq, gate_eq, mat_ix2]
  refine (cat4 (fun h e => gelu (U j0 (lane h e)) * gate p V h j0 e) j1).trans ?_
  simp only [lane_hd_ln, yv]

section
variable (v8 v10 : FVec Ideal S1x512 .f32) (v11 : FVec Ideal S4x128x128 .f32) (v13 : FVec Ideal S128x4 .f32)
  (v33 : FVec Ideal S128x512 .f32) (v54 : IVec S128x128 1) (v92 v130 v168 v175 : FVec Ideal S128x128 .f32)
  (v178 : FVec Ideal S128x1 .f32) (c : EReal) (Y : Fin 128 → Fin 512 → EReal)

/-- The output normalisation's row factors, from the gated tokens. -/
theorem rms_eq (h : k0_pay70 (F := Ideal) v8 v10 v11 v13 v33 v54 v92 v130 v168 v175 v178 c = mat Y) :
    k0_pay72 (F := Ideal) v8 v10 v11 v13 v33 v54 v92 v130 v168 v175 v178 c = (mat fun t _ => rmsRs (Y t))
    ∧ k0_pay73 (F := Ideal) v8 v10 v11 v13 v33 v54 v92 v130 v168 v175 v178 c = (mat fun t _ => rmsK (Y t))
    ∧ k0_pay75 (F := Ideal) v8 v10 v11 v13 v33 v54 v92 v130 v168 v175 v178 c (cube fun _ => D)
      = (mat fun _ l => ∑ t, Y t l * rmsRs (Y t) * D t l) := by
  have h1 : k0_pay71 (F := Ideal) v8 v10 v11 v13 v33 v54 v92 v130 v168 v175 v178 c
      = (mat fun t _ => nVar (cst 0x44000000#32) (cst 0x358637BD#32) (Y t)) := by
    funext j; idx_vars j; unfold k0_pay71; rw [h]; pointwise [mat_ix2, nVar]
  have h2 : k0_pay72 (F := Ideal) v8 v10 v11 v13 v33 v54 v92 v130 v168 v175 v178 c = (mat fun t _ => rmsRs (Y t)) := by
    funext j; idx_vars j; unfold k0_pay72; rw [h1]; pointwise [mat_ix2]; rfl
  refine ⟨h2, ?_, ?_⟩ <;> (funext j; idx_vars j)
  · unfold k0_pay73; rw [h1, h2]; pointwise [mat_ix2]; rfl
  · unfold k0_pay75; rw [h, h2]; pointwise [mat_ix2, pay74_eq]
end

end
end Cert.KernelIdeal.Value
-- ==== Proof.KernelBackward.lean ====
module

public import proofs.«01_k».proof.Proof.KernelForward

/-! The backward half of the kernel's body on one chunk. The body adds each head's part, padded with
zeros, to the parts of the heads after it, so every statement about a part carries the sum so far. -/

@[expose] public section
set_option maxRecDepth 16384
noncomputable section
open Idealize.ShloMosaic Idealize.ShloMosaic.TcCoe Idealize.SL.Sem

namespace Cert.KernelIdeal.Value
open Cert.KernelIdeal Cert.KernelIdeal.Gen Cert.Gmlp

section
variable (p : Params) (U V D : Fin 128 → Fin 512 → EReal)

/-! ### Through the output normalisation -/

theorem dy_eq : k0_pay77 (F := Ideal) (mat (yv p U V)) (mat fun t _ => rmsRs (yv p U V t)) (mat fun t _ => rmsK (yv p U V t)) (mat D)
    (mat fun _ => p.og) = mat (dy p U V D) := by
  funext j; idx_vars j; pointwise [k0_pay77, mat_ix2]; simp only [Fin.sum_univ_one]; rfl

section
variable (v207 v222 v226 : FVec Ideal S128x512 .f32) (v215 v218 : FVec Ideal S128x1 .f32) (E : Fin 128 → Fin 512 → EReal)
  (A B W X : Fin 128 → Fin 128 → EReal) (h : k0_pay77 (F := Ideal) v207 v215 v218 v222 v226 = mat E)
include h

/-! ### The slices of the derivative at the gated tokens, and the last head's parts -/

theorem pay78_eq : k0_pay78 (F := Ideal) v207 v215 v218 v222 v226 = (mat fun t e => E t (lane 0 e)) := by
  funext j; idx_vars j; unfold k0_pay78; rw [h]; pointwise [mat_ix2]; simp only [lane_zero]
theorem pay79_eq : k0_pay79 (F := Ideal) v207 v215 v218 v222 v226 = (mat fun t e => E t (lane 1 e)) := by
  funext j; idx_vars j; unfold k0_pay79; rw [h]; pointwise [mat_ix2]; rfl
theorem pay80_eq : k0_pay80 (F := Ideal) v207 v215 v218 v222 v226 = (mat fun t e => E t (lane 2 e)) := by
  funext j; idx_vars j; unfold k0_pay80; rw [h]; pointwise [mat_ix2]; rfl
theorem pay81_eq : k0_pay81 (F := Ideal) v207 v215 v218 v222 v226 = (mat fun t e => E t (lane 3 e)) := by
  funext j; idx_vars j; unfold k0_pay81; rw [h]; pointwise [mat_ix2]; rfl
theorem pay82_eq : k0_pay82 (F := Ideal) (mat A) v207 v215 v218 v222 v226 = (mat fun t e => A t e * E t (lane 3 e)) := by
  funext j; idx_vars j; unfold k0_pay82; rw [pay81_eq (h := h)]; pointwise [mat_ix2]
theorem pay83_eq : k0_pay83 (F := Ideal) (mat A) v207 v215 v218 v222 v226 = mat (padL 3 fun t e => E t (lane 3 e) * A t e) := by
  funext j; idx_vars j; unfold k0_pay83; rw [pay81_eq (h := h)]; pointwise [mat_ix2, padL]
  exact pad3 (fun e => E j0 (lane 3 e) * A j0 e) j1
theorem pay84_eq : k0_pay84 (F := Ideal) (mat A) v207 v215 v218 v222 v226 = (mat fun t => padH 3 (∑ e, A t e * E t (lane 3 e))) := by
  funext j; idx_vars j; unfold k0_pay84; rw [pay82_eq (h := h)]; pointwise [mat_ix2, padH]; exact (padOne _ _).1
theorem pay85_eq : k0_pay85 (F := Ideal) (mat W) (mat A) v207 v215 v218 v222 v226 = mat (mixT W fun t e => A t e * E t (lane 3 e)) := by
  funext j; idx_vars j; unfold k0_pay85; rw [pay82_eq (h := h)]; pointwise [mat_ix2, mixT]; simp only [mul_comm]
theorem pay86_eq : k0_pay86 (F := Ideal) k0_pay25 (mat B) (mat A) v207 v215 v218 v222 v226
    = (cube fun k t s => padH 3 (Scalar.select (tril t s) (∑ e, A t e * E t (lane 3 e) * B s e) 0) k) := by
  funext j; idx_vars j; unfold k0_pay86; rw [pay82_eq (h := h)]; pointwise [mat_ix2, cube_ix3, k0_pay25, padH]
  exact (padOne _ _).1
theorem pay87_eq : k0_pay87 (F := Ideal) (mat W) (mat A) v207 v215 v218 v222 v226
    = mat (padL 3 fun _ e => ∑ s, mixT W (fun t e => A t e * E t (lane 3 e)) s e) := by
  funext j; idx_vars j; unfold k0_pay87; rw [pay85_eq (h := h)]; pointwise [mat_ix2, padL]
  exact pad3 (fun e => ∑ s, mixT W (fun t e => A t e * E t (lane 3 e)) s e) j1
theorem pay88_eq : k0_pay88 (F := Ideal) (mat X) (mat W) (mat A) v207 v215 v218 v222 v226
    = (mat fun _ e => ∑ s, X s e * mixT W (fun t e => A t e * E t (lane 3 e)) s e) := by
  funext j; idx_vars j; unfold k0_pay88; rw [pay85_eq (h := h)]; pointwise [mat_ix2]
end

section
variable (A B P W X Q G : Fin 128 → Fin 128 → EReal) (g : Fin 128 → EReal) (S : Fin 128 → Fin 512 → EReal)
  (T : Fin 1 → Fin 512 → EReal) (R : Fin 128 → Fin 4 → EReal) (C : Fin 4 → Fin 128 → Fin 128 → EReal) (r : Fin 128 → EReal)

theorem pay89_eq : k0_pay89 (F := Ideal) (mat fun _ => g) = (mat fun _ => g) := by
  funext j; idx_vars j; pointwise [k0_pay89, mat_ix2]
theorem pay90_eq : k0_pay90 (F := Ideal) (mat fun _ => g) = mat (padL 3 fun _ => g) := by
  funext j; idx_vars j; pointwise [k0_pay90, mat_ix2, padL]; exact pad3 g j1
theorem pay91_eq : k0_pay91 (F := Ideal) (mat fun t => center (X t)) (mat fun t _ => lnRs (X t)) (mat fun t _ => lnK (X t)) (mat G)
    (mat fun _ => g) = mat (padL 3 fun t => lnBwd (X t) fun e => G t e * g e) := by
  funext j; idx_vars j; pointwise [k0_pay91, mat_ix2, padL]; simp only [Fin.sum_univ_one, zero_sub]
  exact pad3 (lnBwd (X j0) fun e => G j0 e * g e) j1

/-! ### The third head -/

theorem pay92_eq : k0_pay92 (F := Ideal) (mat A) (mat B) = (mat fun t e => A t e * B t e) := by
  funext j; idx_vars j; pointwise [k0_pay92, mat_ix2]
theorem pay93_eq : k0_pay93 (F := Ideal) (mat A) (mat B) (mat S) = (mat fun t l => S t l + padL 2 (fun t e => B t e * A t e) t l) := by
  funext j; idx_vars j; pointwise [k0_pay93, mat_ix2, padL]; exact congrArg (S j0 j1 + ·) (pad2 (fun e => B j0 e * A j0 e) j1)
theorem pay94_eq : k0_pay94 (F := Ideal) (mat A) (mat B) (mat R) = (mat fun t k => R t k + padH 2 (∑ e, A t e * B t e) k) := by
  funext j; idx_vars j; pointwise [k0_pay94, pay92_eq, mat_ix2, padH]; exact congrArg (R j0 j1 + ·) (padOne _ _).2.1
theorem pay95_eq : k0_pay95 (F := Ideal) (mat P) (mat A) (mat B) = (mat fun t s => ∑ e, A t e * B t e * P s e) := by
  funext j; idx_vars j; pointwise [k0_pay95, pay92_eq, mat_ix2]
theorem pay96_eq : k0_pay96 (F := Ideal) (mat W) (mat A) = mat (mixT W A) := by
  funext j; idx_vars j; pointwise [k0_pay96, mat_ix2, mixT]; simp only [mul_comm]
theorem pay97_eq : k0_pay97 (F := Ideal) k0_pay25 (cube C) (mat A)
    = (cube fun k t s => C k t s + padH 2 (Scalar.select (tril t s) (A t s) 0) k) := by
  funext j; idx_vars j; pointwise [k0_pay97, mat_ix2, cube_ix3, k0_pay25, padH]
  exact congrArg (C j0 j1 j2 + ·) (padOne _ _).2.1
theorem pay98_eq : k0_pay98 (F := Ideal) (mat W) (mat T) (mat A) = (mat fun i l => T i l + padL 2 (fun _ e => ∑ s, mixT W A s e) i l) := by
  funext j; idx_vars j; pointwise [k0_pay98, pay96_eq, mat_ix2, padL]
  exact congrArg (T j0 j1 + ·) (pad2 (fun e => ∑ s, mixT W A s e) j1)
theorem pay99_eq : k0_pay99 (F := Ideal) (mat X) (mat W) (mat T) (mat A)
    = (mat fun i l => T i l + padL 2 (fun _ e => ∑ s, X s e * mixT W A s e) i l) := by
  funext j; idx_vars j; pointwise [k0_pay99, pay96_eq, mat_ix2, padL]
  exact congrArg (T j0 j1 + ·) (pad2 (fun e => ∑ s, X s e * mixT W A s e) j1)
theorem pay100_eq : k0_pay100 (F := Ideal) (mat fun t => center (X t)) (mat fun t _ => lnRs (X t)) (mat fun t _ => lnK (X t))
    (mat fun _ => g) (mat W) (mat A) = (mat fun t => lnQ (X t) fun e => mixT W A t e * g e) := by
  funext j; idx_vars j; pointwise [k0_pay100, pay96_eq, mat_ix2]; simp only [Fin.sum_univ_one]; rfl
theorem pay101_eq : k0_pay101 (F := Ideal) (mat fun t => center (X t)) (mat fun t _ => lnRs (X t)) (mat fun t _ => lnK (X t))
    (mat fun _ => g) (mat W) (mat A) = (mat fun t _ => ∑ e, -lnQ (X t) (fun e => mixT W A t e * g e) e) := by
  funext j; idx_vars j; pointwise [k0_pay101, pay100_eq, mat_ix2]; simp only [zero_sub]
theorem pay102_eq : k0_pay102 (F := Ideal) (mat S) (mat Q) (mat fun t _ => r t) (cst 0x43000000#32)
    = (mat fun t l => S t l + padL 2 (fun t e => Q t e + Ideal.div (r t) (cst 0x43000000#32)) t l) := by
  funext j; idx_vars j; pointwise [k0_pay102, mat_ix2, padL]; simp only [Fin.sum_univ_one]
  exact congrArg (S j0 j1 + ·) (pad2 (fun e => Q j0 e + Ideal.div (r j0) (cst 0x43000000#32)) j1)

/-! ### The second head -/

theorem pay103_eq : k0_pay103 (F := Ideal) (mat A) (mat B) = (mat fun t e => A t e * B t e) := by
  funext j; idx_vars j; pointwise [k0_pay103, mat_ix2]
theorem pay104_eq : k0_pay104 (F := Ideal) (mat A) (mat B) (mat S) = (mat fun t l => S t l + padL 1 (fun t e => B t e * A t e) t l) := by
  funext j; idx_vars j; pointwise [k0_pay104, mat_ix2, padL]; exact congrArg (S j0 j1 + ·) (pad1 (fun e => B j0 e * A j0 e) j1)
theorem pay105_eq : k0_pay105 (F := Ideal) (mat A) (mat B) (mat R) = (mat fun t k => R t k + padH 1 (∑ e, A t e * B t e) k) := by
  funext j; idx_vars j; pointwise [k0_pay105, pay103_eq, mat_ix2, padH]; exact congrArg (R j0 j1 + ·) (padOne _ _).2.2.1
theorem pay106_eq : k0_pay106 (F := Ideal) (mat W) (mat A) (mat B) = mat (mixT W fun t e => A t e * B t e) := by
  funext j; idx_vars j; pointwise [k0_pay106, pay103_eq, mat_ix2, mixT]; simp only [mul_comm]
theorem pay107_eq : k0_pay107 (F := Ideal) k0_pay25 (mat P) (mat A) (mat B) (cube C)
    = (cube fun k t s => C k t s + padH 1 (Scalar.select (tril t s) (∑ e, A t e * B t e * P s e) 0) k) := by
  funext j; idx_vars j; pointwise [k0_pay107, pay103_eq, mat_ix2, cube_ix3, k0_pay25, padH]
  exact congrArg (C j0 j1 j2 + ·) (padOne _ _).2.2.1
theorem pay108_eq : k0_pay108 (F := Ideal) (mat W) (mat A) (mat B) (mat T)
    = (mat fun i l => T i l + padL 1 (fun _ e => ∑ s, mixT W (fun t e => A t e * B t e) s e) i l) := by
  funext j; idx_vars j; pointwise [k0_pay108, pay106_eq, mat_ix2, padL]
  exact congrArg (T j0 j1 + ·) (pad1 (fun e => ∑ s, mixT W (fun t e => A t e * B t e) s e) j1)
theorem pay110_eq : k0_pay110 (F := Ideal) (mat T) (k0_pay109 (F := Ideal) (mat X) (mat W) (mat A) (mat B))
    = (mat fun i l => T i l + padL 1 (fun _ e => ∑ s, X s e * mixT W (fun t e => A t e * B t e) s e) i l) := by
  funext j; idx_vars j; pointwise [k0_pay110, k0_pay109, pay106_eq, mat_ix2, padL]
  exact congrArg (T j0 j1 + ·) (pad1 (fun e => ∑ s, X s e * mixT W (fun t e => A t e * B t e) s e) j1)
theorem pay111_eq : k0_pay111 (F := Ideal) (mat fun t => center (X t)) (mat fun t _ => lnRs (X t)) (mat fun t _ => lnK (X t))
    (mat fun _ => g) (mat S) (mat G) = (mat fun t l => S t l + padL 1 (fun t => lnBwd (X t) fun e => G t e * g e) t l) := by
  funext j; idx_vars j; pointwise [k0_pay111, mat_ix2, padL]; simp only [Fin.sum_univ_one, zero_sub]
  exact congrArg (S j0 j1 + ·) (pad1 (lnBwd (X j0) fun e => G j0 e * g e) j1)

/-! ### The first head -/

theorem pay112_eq : k0_pay112 (F := Ideal) (mat A) (mat B) = (mat fun t e => A t e * B t e) := by
  funext j; idx_vars j; pointwise [k0_pay112, mat_ix2]
theorem pay113_eq : k0_pay113 (F := Ideal) (mat A) (mat B) (mat S) = (mat fun t l => S t l + padL 0 (fun t e => B t e * A t e) t l) := by
  funext j; idx_vars j; pointwise [k0_pay113, mat_ix2, padL]; exact congrArg (S j0 j1 + ·) (pad0 (fun e => B j0 e * A j0 e) j1)
theorem pay114_eq : k0_pay114 (F := Ideal) (mat A) (mat B) (mat R) = (mat fun t k => R t k + padH 0 (∑ e, A t e * B t e) k) := by
  funext j; idx_vars j; pointwise [k0_pay114, pay112_eq, mat_ix2, padH]; exact congrArg (R j0 j1 + ·) (padOne _ _).2.2.2
theorem pay115_eq : k0_pay115 (F := Ideal) (mat W) (mat A) = mat (mixT W A) := by
  funext j; idx_vars j; pointwise [k0_pay115, mat_ix2, mixT]; simp only [mul_comm]
theorem pay116_eq : k0_pay116 (F := Ideal) k0_pay25 (mat P) (cube C) (mat A)
    = (cube fun k t s => C k t s + padH 0 (Scalar.select (tril t s) (∑ e, A t e * P s e) 0) k) := by
  funext j; idx_vars j; pointwise [k0_pay116, mat_ix2, cube_ix3, k0_pay25, padH]
  exact congrArg (C j0 j1 j2 + ·) (padOne _ _).2.2.2
theorem pay117_eq : k0_pay117 (F := Ideal) (mat W) (mat T) (mat A) = (mat fun i l => T i l + padL 0 (fun _ e => ∑ s, mixT W A s e) i l) := by
  funext j; idx_vars j; pointwise [k0_pay117, pay115_eq, mat_ix2, padL]
  exact congrArg (T j0 j1 + ·) (pad0 (fun e => ∑ s, mixT W A s e) j1)
theorem pay118_eq : k0_pay118 (F := Ideal) (mat X) (mat W) (mat T) (mat A)
    = (mat fun i l => T i l + padL 0 (fun _ e => ∑ s, X s e * mixT W A s e) i l) := by
  funext j; idx_vars j; pointwise [k0_pay118, pay115_eq, mat_ix2, padL]
  exact congrArg (T j0 j1 + ·) (pad0 (fun e => ∑ s, X s e * mixT W A s e) j1)
theorem pay119_eq : k0_pay119 (F := Ideal) (mat fun t => center (X t)) (mat fun t _ => lnRs (X t)) (mat fun t _ => lnK (X t))
    (mat fun _ => g) (mat W) (mat A) = (mat fun t => lnQ (X t) fun e => mixT W A t e * g e) := by
  funext j; idx_vars j; pointwise [k0_pay119, pay115_eq, mat_ix2]; simp only [Fin.sum_univ_one]; rfl
theorem pay120_eq : k0_pay120 (F := Ideal) (mat fun t => center (X t)) (mat fun t _ => lnRs (X t)) (mat fun t _ => lnK (X t))
    (mat fun _ => g) (mat W) (mat A)
    = (mat fun t _ => Ideal.div (∑ e, -lnQ (X t) (fun e => mixT W A t e * g e) e) (cst 0x43000000#32)) := by
  funext j; idx_vars j; pointwise [k0_pay120, pay119_eq, mat_ix2]; simp only [zero_sub]

/-! ### Through gelu -/

theorem du_eq : k0_pay121 (F := Ideal) (mat U) (mat fun t l => cst 0x3F000000#32 * U t l) (mat fun t l => U t l * U t l)
      (mat fun t l => (1 + gTanh (U t l)) * (1 - gTanh (U t l))) (mat fun t l => 1 + gTanh (U t l)) (mat S)
    = (cube fun _ t l => geluBwd (U t l) (S t l)) := by
  funext j; idx_vars j; pointwise [k0_pay121, mat_ix2, cube_ix3]
  refine geluBwd_eq _ _ _ ?_
  simp only [gInner, cst]; ac_rfl
theorem dv_eq : k0_pay1 (F := Ideal) (k0_pay122 (F := Ideal) (mat V) (mat fun t l => cst 0x3F000000#32 * V t l)
      (mat fun t l => V t l * V t l)
      (mat fun t l => (1 + gTanh (V t l)) * (1 - gTanh (V t l))) (mat fun t l => 1 + gTanh (V t l)) (mat S) (mat Q) (mat fun t _ => r t))
    = (cube fun _ t l => geluBwd (V t l) (S t l + padL 0 (fun t e => Q t e + r t) t l)) := by
  have h (t : Fin 128) (l : Fin 512) := pad0 (fun e => Q t e + r t) l
  funext j; idx_vars j; pointwise [k0_pay1, k0_pay122, mat_ix2, cube_ix3]; simp only [Fin.sum_univ_one, h, padL]
  refine geluBwd_eq _ _ _ ?_
  simp only [gInner, cst]; ac_rfl
end

end
end Cert.KernelIdeal.Value
-- ==== Proof.KernelPoint.lean ====
module

public import proofs.«01_k».proof.Proof.KernelBackward

/-! What one grid point of the kernel leaves in its output blocks. -/

@[expose] public section
set_option maxRecDepth 16384
noncomputable section
open Idealize.ShloMosaic Idealize.ShloMosaic.TcCoe Idealize.SL.Sem

namespace Cert.KernelIdeal.Value
open Cert.KernelIdeal Cert.KernelIdeal.Gen Cert.Gmlp

variable (m : (ℓ : Loc nD τ sig) → Buf (Elt Ideal) ℓ) (c : Dev nD) (t : Fin cfg0.N)
variable (p : Params) (U V D : Fin 128 → Fin 512 → EReal)

/-- The blocks the point reads hold the chunk `U`, `V`, `D` and the parameters `p`. -/
structure Reads : Prop where
  u : iblk m c 0 t = cube fun _ => U
  v : iblk m c 1 t = cube fun _ => V
  d : iblk m c 2 t = cube fun _ => D
  lg : iblk m c 3 t = mat fun _ => p.lg
  lb : iblk m c 4 t = mat fun _ => p.lb
  w : iblk m c 5 t = cube p.w
  b : iblk m c 6 t = mat fun t h => p.b h t
  og : iblk m c 7 t = mat fun _ => p.og

/-- The row length the last head's layer norm is given. -/
theorem len_eq : (FloatOps.ofBits (F := Ideal) FTy.f32 1124073472#32) = cst 0x43000000#32 := rfl

/-! ### Adding the chunk's part to what the block held -/

theorem pay2_eq (x v : FVec Ideal S1x512 .f32) : k0_pay2 (F := Ideal) x v = fun j => v j + x j := by
  funext j; idx_vars j; pointwise [k0_pay2]
theorem pay3_eq (x v : FVec Ideal S1x512 .f32) : k0_pay3 (F := Ideal) x v = fun j => v j + x j := by
  funext j; idx_vars j; pointwise [k0_pay3]
theorem pay4_eq (x v : FVec Ideal S4x128x128 .f32) : k0_pay4 (F := Ideal) x v = fun j => v j + x j := by
  funext j; idx_vars j; pointwise [k0_pay4]
theorem pay5_eq (x v : FVec Ideal S128x4 .f32) : k0_pay5 (F := Ideal) x v = fun j => v j + x j := by
  funext j; idx_vars j; pointwise [k0_pay5]
theorem pay6_eq (x v : FVec Ideal S1x512 .f32) : k0_pay6 (F := Ideal) x v = fun j => v j + x j := by
  funext j; idx_vars j; pointwise [k0_pay6]

/-- What a block holds after a point: the point's part at the first point, the old entry plus the part after it. -/
def next {s : Shape} (z : Prop) [Decidable z] (old part : s.Idx → EReal) : s.Idx → EReal :=
  if z then part else fun j => old j + part j

/-- The seven output blocks after a point. -/
theorem point (h : Reads m c t p U V D) :
    (outsAt0 m c t.val t.isLt).1 = (cube fun _ => dU p U V D)
    ∧ (outsAt0 m c t.val t.isLt).2.1 = (cube fun _ => dV p U V D)
    ∧ (outsAt0 m c t.val t.isLt).2.2.1
      = next (t.val % 32 = 0) (outsAt0 m c (t.val - 1) (by omega)).2.2.1 (mat fun _ l => cLg p U V D (hd l) (ln l))
    ∧ (outsAt0 m c t.val t.isLt).2.2.2.1
      = next (t.val % 32 = 0) (outsAt0 m c (t.val - 1) (by omega)).2.2.2.1 (mat fun _ l => cLb p U V D (hd l) (ln l))
    ∧ (outsAt0 m c t.val t.isLt).2.2.2.2.1
      = next (t.val % 32 = 0) (outsAt0 m c (t.val - 1) (by omega)).2.2.2.2.1 (cube fun h t s => cW p U V D h t s)
    ∧ (outsAt0 m c t.val t.isLt).2.2.2.2.2.1
      = next (t.val % 32 = 0) (outsAt0 m c (t.val - 1) (by omega)).2.2.2.2.2.1 (mat fun t h => cB p U V D h t)
    ∧ (outsAt0 m c t.val t.isLt).2.2.2.2.2.2
      = next (t.val % 32 = 0) (outsAt0 m c (t.val - 1) (by omega)).2.2.2.2.2.2 (mat fun _ => cOg p U V D) := by
  obtain ⟨r1, r2, r3, r4, r5, r6, r7, r8⟩ := h
  have hr := rms_eq D _ _ _ _ _ _ _ _ _ _ _ _ _ (yv_eq p U V)
  have hN : t.val < 32 := lt_of_lt_of_eq t.isLt (show cfg0.N = 32 from N_0)
  have dyAt := dy_eq p U V D
  have hU : ∀ k l, padL 3 (fun t e => dy p U V D t (lane 3 e) * gate p V 3 t e) k l
      + padL 2 (fun t e => dy p U V D t (lane 2 e) * gate p V 2 t e) k l
      + padL 1 (fun t e => dy p U V D t (lane 1 e) * gate p V 1 t e) k l
      + padL 0 (fun t e => dy p U V D t (lane 0 e) * gate p V 0 t e) k l = dy p U V D k l * gate p V (hd l) k (ln l) :=
    fun k l => (padL_sum (fun h t e => dy p U V D t (lane h e) * gate p V h t e) k l).trans (by rw [lane_hd_ln])
  have sLg := congrArg (mat (n := 1)) (funext fun k => funext fun l => padL_sum (fun h _ e => cLg p U V D h e) k l)
  have sLb := congrArg (mat (n := 1)) (funext fun k => funext fun l => padL_sum (fun h _ e => cLb p U V D h e) k l)
  have sW := congrArg cube (funext fun k => funext fun t => funext fun s => padH_sum (fun h => cW p U V D h t s) k)
  have sB := congrArg mat (funext fun t => funext fun k => padH_sum (fun h => cB p U V D h t) k)
  by_cases h0 : t.val % 32 = 0
  on_goal 1 => rw [outsAt0_A m c t h0 (by omega)]; simp only [next, if_pos h0]
  on_goal 2 => rw [outsAt0_B m c t h0 (by omega)]; simp only [next, if_neg h0]
  all_goals
    refine ⟨?_, ?_, ?_, ?_, ?_, ?_, ?_⟩
    all_goals
      frame_out
      simp only [r1, r2, r3, r4, r5, r6, r7, r8]
      simp only [len_eq, pay7_eq, pay8_eq, pay9_eq, pay10_eq, pay11_eq, pay12_eq, pay13_eq, pay14_eq, pay16_eq, pay17_eq, pay18_eq,
        pay19_eq, pay20_eq, pay22_eq, pay23_eq, pay24_eq, pay74_eq, pay76_eq, center_eq, squares_eq, lnRs_eq, lnK_eq, lnXn_eq,
        lastLn_eq, lg_eq, vn_eq, wm_eq, gate_eq, ug_eq, yh_eq, yv_eq, hr, pay78_eq (h := dyAt), pay79_eq (h := dyAt),
        pay80_eq (h := dyAt), pay83_eq (h := dyAt), pay84_eq (h := dyAt), pay85_eq (h := dyAt), pay86_eq (h := dyAt),
        pay87_eq (h := dyAt), pay88_eq (h := dyAt), pay89_eq, pay90_eq, pay91_eq, pay92_eq,
        pay93_eq, pay94_eq, pay95_eq, pay96_eq, pay97_eq, pay98_eq, pay99_eq, pay100_eq, pay101_eq, pay102_eq, pay103_eq, pay104_eq,
        pay105_eq, pay106_eq, pay107_eq, pay108_eq, pay110_eq, pay111_eq, pay112_eq, pay113_eq, pay114_eq, pay115_eq, pay116_eq,
        pay2_eq, pay3_eq, pay4_eq, pay5_eq, pay6_eq, pay117_eq, pay118_eq, pay119_eq, pay120_eq, du_eq, dv_eq]
    · simp only [hU]; rfl
    · exact congrArg cube (funext fun _ => funext fun k => funext fun l =>
        congrArg (geluBwd (V k l)) (padL_sum (fun h t => dx p U V D h t) k l))
    · first | exact sLg | exact funext fun j => congrArg (_ + ·) (congrFun sLg j)
    · first | exact sLb | exact funext fun j => congrArg (_ + ·) (congrFun sLb j)
    · first | exact sW | exact funext fun j => congrArg (_ + ·) (congrFun sW j)
    · first | exact sB | exact funext fun j => congrArg (_ + ·) (congrFun sB j)
    · rfl
end Cert.KernelIdeal.Value
-- ==== Proof.Data.lean ====
module

public import proofs.«01_k».proof.Proof.Spec

/-! The chunks of the arguments, and the seven results as functions of the arguments. -/

@[expose] public section
set_option maxRecDepth 16384
noncomputable section
open Idealize.ShloMosaic Idealize.ShloMosaic.TcCoe Idealize.SL.Sem

namespace Cert.Gmlp

/-- Row `t` of chunk `k` in the sequence. -/
def row (k : Fin 16) (t : Fin 128) : Fin 2048 := ⟨k.val * 128 + t.val, by omega⟩

/-- The chunk and the place in it of a row of the sequence. -/
theorem row_div_mod (r : Fin 2048) : row ⟨r.val / 128, by omega⟩ ⟨r.val % 128, by omega⟩ = r :=
  Fin.ext (Nat.div_add_mod' _ _)
theorem row_div (k : Fin 16) (t : Fin 128) (h) : (⟨(row k t).val / 128, h⟩ : Fin 16) = k := Fin.ext (by simp only [row]; omega)
theorem row_mod (k : Fin 16) (t : Fin 128) (h) : (⟨(row k t).val % 128, h⟩ : Fin 128) = t := Fin.ext (by simp only [row]; omega)

section
variable (a0 : (⟨3, ![2, 2048, 4608]⟩ : Shape).Idx → EReal) (a1 : (⟨3, ![2, 2048, 2048]⟩ : Shape).Idx → EReal)
  (a2 a3 : (⟨2, ![4, 128]⟩ : Shape).Idx → EReal) (a4 : (⟨3, ![4, 128, 128]⟩ : Shape).Idx → EReal)
  (a5 : (⟨2, ![4, 128]⟩ : Shape).Idx → EReal) (a6 : (⟨1, ![512]⟩ : Shape).Idx → EReal)

/-- The parameters, as the arguments hold them. -/
def prm : Params where
  lg l := a2 (ix2 (hd l) (ln l))
  lb l := a3 (ix2 (hd l) (ln l))
  w h t s := a4 (ix3 h t s)
  b h t := a5 (ix2 h t)
  og l := a6 (ix1 l)

/-- Chunk `k` of sequence `b`: the first 512 columns of the projection. -/
def chU (b : Fin 2) (k : Fin 16) (t : Fin 128) (l : Fin 512) : EReal := a0 (ix3 b (row k t) ⟨l.val, by omega⟩)
/-- The next 512 columns of the projection. -/
def chV (b : Fin 2) (k : Fin 16) (t : Fin 128) (l : Fin 512) : EReal := a0 (ix3 b (row k t) ⟨512 + l.val, by omega⟩)
/-- The first 512 columns of the cotangent. -/
def chD (b : Fin 2) (k : Fin 16) (t : Fin 128) (l : Fin 512) : EReal := a1 (ix3 b (row k t) ⟨l.val, by omega⟩)

/-- The derivative with respect to `u` at an entry. -/
def outU (b : Fin 2) (r : Fin 2048) (l : Fin 512) : EReal :=
  dU (prm a2 a3 a4 a5 a6) (chU a0 b ⟨r.val / 128, by omega⟩) (chV a0 b ⟨r.val / 128, by omega⟩) (chD a1 b ⟨r.val / 128, by omega⟩)
    ⟨r.val % 128, by omega⟩ l
/-- The derivative with respect to `v` at an entry. -/
def outV (b : Fin 2) (r : Fin 2048) (l : Fin 512) : EReal :=
  dV (prm a2 a3 a4 a5 a6) (chU a0 b ⟨r.val / 128, by omega⟩) (chV a0 b ⟨r.val / 128, by omega⟩) (chD a1 b ⟨r.val / 128, by omega⟩)
    ⟨r.val % 128, by omega⟩ l
theorem outU_row (b : Fin 2) (k : Fin 16) (t : Fin 128) (l : Fin 512) : outU a0 a1 a2 a3 a4 a5 a6 b (row k t) l
    = dU (prm a2 a3 a4 a5 a6) (chU a0 b k) (chV a0 b k) (chD a1 b k) t l := by
  simp only [outU, row_div, row_mod]
theorem outV_row (b : Fin 2) (k : Fin 16) (t : Fin 128) (l : Fin 512) : outV a0 a1 a2 a3 a4 a5 a6 b (row k t) l
    = dV (prm a2 a3 a4 a5 a6) (chU a0 b k) (chV a0 b k) (chD a1 b k) t l := by
  simp only [outV, row_div, row_mod]
/-- The derivative of the layer norm's scale: the sum over all chunks. -/
def outLg (l : Fin 512) : EReal :=
  ∑ b, ∑ k, cLg (prm a2 a3 a4 a5 a6) (chU a0 b k) (chV a0 b k) (chD a1 b k) (hd l) (ln l)
/-- The derivative of the layer norm's shift. -/
def outLb (l : Fin 512) : EReal :=
  ∑ b, ∑ k, cLb (prm a2 a3 a4 a5 a6) (chU a0 b k) (chV a0 b k) (chD a1 b k) (hd l) (ln l)
/-- The derivative of the mixing matrices. -/
def outW (h : Fin 4) (t s : Fin 128) : EReal :=
  ∑ b, ∑ k, cW (prm a2 a3 a4 a5 a6) (chU a0 b k) (chV a0 b k) (chD a1 b k) h t s
/-- The derivative of the biases. -/
def outB (h : Fin 4) (t : Fin 128) : EReal :=
  ∑ b, ∑ k, cB (prm a2 a3 a4 a5 a6) (chU a0 b k) (chV a0 b k) (chD a1 b k) h t
/-- The derivative of the output scale. -/
def outOg (l : Fin 512) : EReal :=
  ∑ b, ∑ k, cOg (prm a2 a3 a4 a5 a6) (chU a0 b k) (chV a0 b k) (chD a1 b k) l
end

end Cert.Gmlp
-- ==== Proof.KernelArrays.lean ====
module

public import proofs.«01_k».proof.Proof.KernelPoint
public import proofs.«01_k».proof.Proof.Data
public import Idealize.ShloMosaic.Lib.Pipeline.ValueKit
public import Idealize.ShloMosaic.Lib.Claim

/-! The seven result arrays after the kernel's run. -/

@[expose] public section
set_option maxRecDepth 16384
noncomputable section
open Idealize.ShloMosaic Idealize.ShloMosaic.TcCoe Idealize.SL.Sem

namespace Cert.KernelIdeal.Value
open Cert.KernelIdeal Cert.KernelIdeal.Gen Cert.Gmlp

variable (m : (ℓ : Loc nD τ sig) → Buf (Elt Ideal) ℓ) (c : Dev nD)

/-- The parameters a device's arguments hold. -/
abbrev par : Params := prm (m ((c : Thread nD τ).loc main_arg2)) (m ((c : Thread nD τ).loc main_arg3)) (m ((c : Thread nD τ).loc main_arg4))
  (m ((c : Thread nD τ).loc main_arg5)) (m ((c : Thread nD τ).loc main_arg6))
abbrev inU := chU (m ((c : Thread nD τ).loc main_arg0))
abbrev inV := chV (m ((c : Thread nD τ).loc main_arg0))
abbrev inD := chD (m ((c : Thread nD τ).loc main_arg1))

/-- A grid point's sequence and chunk. -/
def sq (t : Fin cfg0.N) : Fin 2 := ⟨t.val / 16, by have : t.val < 32 := lt_of_lt_of_eq t.isLt N_0; omega⟩
def ck (t : Fin cfg0.N) : Fin 16 := ⟨t.val % 16, by omega⟩

theorem idxIn : ∀ t : Fin cfg0.N, win0_0.index t = ![t.val / 16, t.val % 16, 0] ∧ win0_1.index t = ![t.val / 16, t.val % 16, 1]
    ∧ win0_2.index t = ![t.val / 16, t.val % 16, 0] ∧ win0_3.index t = ![0, 0] ∧ win0_4.index t = ![0, 0]
    ∧ win0_5.index t = ![0, 0, 0] ∧ win0_6.index t = ![0, 0] ∧ win0_7.index t = ![0, 0] :=
  (by decide +kernel : ∀ t : Fin grid0.N, _)
theorem idxOut : ∀ t : Fin cfg0.N, win0_8.index t = ![t.val / 16, t.val % 16, 0] ∧ win0_9.index t = ![t.val / 16, t.val % 16, 0]
    ∧ win0_10.index t = ![0, 0] ∧ win0_11.index t = ![0, 0] ∧ win0_12.index t = ![0, 0, 0] ∧ win0_13.index t = ![0, 0]
    ∧ win0_14.index t = ![0, 0] :=
  (by decide +kernel : ∀ t : Fin grid0.N, _)

/-- What each point reads: its chunk and the parameters. -/
theorem reads (t : Fin cfg0.N) : Reads m c t (par m c) (inU m c (sq t) (ck t)) (inV m c (sq t) (ck t)) (inD m c (sq t) (ck t)) := by
  refine ⟨?_, ?_, ?_, ?_, ?_, ?_, ?_, ?_⟩
  all_goals funext y; idx_vars y
  · blk_point [iblk, V, idxIn t, cube_ix3, chU, sq, ck, row]
  · blk_point [iblk, V, idxIn t, cube_ix3, chV, sq, ck, row]
  · blk_point [iblk, V, idxIn t, cube_ix3, chD, sq, ck, row]
  · rw [mat_ix2]; blk_simp [iblk, idxIn t]; entry_read; pointwise; blk_point [idxIn t, prm, hd, ln]
  · rw [mat_ix2]; blk_simp [iblk, idxIn t]; entry_read; pointwise; blk_point [idxIn t, prm, hd, ln]
  · blk_point [iblk, V, idxIn t, cube_ix3, prm]
  · rw [mat_ix2]; blk_simp [iblk, idxIn t]; entry_read; pointwise; blk_point [idxIn t, prm]
  · rw [mat_ix2]; blk_simp [iblk, idxIn t]; entry_read; pointwise; blk_point [idxIn t, prm]

/-- The sum over the points of the run is the sum over the chunks of the sequences. -/
theorem point_sum (n : Nat) (hn : n < 32) (g : Fin 2 → Fin 16 → EReal) (hs : ∀ s : Fin 32, 32 * (n / 32) + s.val < cfg0.N) :
    ∑ s : Fin 32, g (sq ⟨32 * (n / 32) + s.val, hs s⟩) (ck ⟨32 * (n / 32) + s.val, hs s⟩) = ∑ b, ∑ k, g b k := by
  refine Fin.sum_divmod_congr (A := 2) (S := 16) fun s _ _ => ?_
  have h0 : n / 32 = 0 := by omega
  simp only [sq, ck, h0, Nat.mul_zero, Nat.zero_add]

/-! ### The blocks written at every point -/

theorem final8 : (dats m 0 c).arrAt 8 cfg0.N = (cube fun b r l => outU (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) b r l) := by
  refine (dats m 0 c).arrAt_eq_of_covers 8 _ (by decide +kernel) fun t hf y => ?_
  blk_simp
  rw [after0_8, (point m c t _ _ _ _ (reads m c t)).1]
  idx_vars y
  have e0 : ((View.whole main_v4_0).slice (win0_8.rect t)).emb (ix3 y0 y1 y2) 0 = sq t := Fin.ext (by blk_simp [idxOut t]; simp [sq])
  have e1 : ((View.whole main_v4_0).slice (win0_8.rect t)).emb (ix3 y0 y1 y2) 1 = row (ck t) y1 := Fin.ext (by blk_simp [idxOut t]; rfl)
  have e2 : ((View.whole main_v4_0).slice (win0_8.rect t)).emb (ix3 y0 y1 y2) 2 = y2 := Fin.ext (by blk_simp [idxOut t])
  simp only [cube, e0, e1, e2]
  exact (outU_row _ _ _ _ _ _ _ _ _ _ _).symm

theorem final9 : (dats m 0 c).arrAt 9 cfg0.N = (cube fun b r l => outV (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) b r l) := by
  refine (dats m 0 c).arrAt_eq_of_covers 9 _ (by decide +kernel) fun t hf y => ?_
  blk_simp
  rw [after0_9, (point m c t _ _ _ _ (reads m c t)).2.1]
  idx_vars y
  have e0 : ((View.whole main_v4_1).slice (win0_9.rect t)).emb (ix3 y0 y1 y2) 0 = sq t := Fin.ext (by blk_simp [idxOut t]; simp [sq])
  have e1 : ((View.whole main_v4_1).slice (win0_9.rect t)).emb (ix3 y0 y1 y2) 1 = row (ck t) y1 := Fin.ext (by blk_simp [idxOut t]; rfl)
  have e2 : ((View.whole main_v4_1).slice (win0_9.rect t)).emb (ix3 y0 y1 y2) 2 = y2 := Fin.ext (by blk_simp [idxOut t])
  simp only [cube, e0, e1, e2]
  exact (outV_row _ _ _ _ _ _ _ _ _ _ _).symm

theorem final10 : (dats m 0 c).arrAt 10 cfg0.N
    = (mat fun _ l => outLg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l) := by
  refine (dats m 0 c).arrAt_eq_of_covers 10 _ (by decide +kernel) fun t hf y => ?_
  blk_simp
  rw [after0_10, Pipeline.eq_sum_fin_of_reset_step_apply_of_flush (fun n h => (outsAt0 m c n h).2.2.1) 32 (fun _ => 0)
    (fun q => mat fun _ l => cLg (par m c) (inU m c (sq q) (ck q)) (inV m c (sq q) (ck q)) (inD m c (sq q) (ck q)) (hd l) (ln l))
    (fun t h j => by rw [(point m c t _ _ _ _ (reads m c t)).2.2.1, next, if_pos h, zero_add])
    (fun t h j => by rw [(point m c t _ _ _ _ (reads m c t)).2.2.1, next, if_neg h])
    t ((flush0_10 t).mp hf) _, zero_add]
  have e1 : (win0_10.blk t).view.emb y 1 = y 1 := Fin.ext (by blk_simp [idxOut t])
  have hN : t.val < 32 := lt_of_lt_of_eq t.isLt (show cfg0.N = 32 from N_0)
  refine (point_sum t.val hN (fun b k => cLg (par m c) (inU m c b k) (inV m c b k) (inD m c b k) (hd (y 1)) (ln (y 1))) _).trans ?_
  simp only [mat, e1]; rfl

theorem final11 : (dats m 0 c).arrAt 11 cfg0.N
    = (mat fun _ l => outLb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 32 (fun _ => 0)
    (fun q => mat fun _ l => cLb (par m c) (inU m c (sq q) (ck q)) (inV m c (sq q) (ck q)) (inD m c (sq q) (ck q)) (hd l) (ln l))
    (fun t h j => by rw [(point m c t _ _ _ _ (reads m c t)).2.2.2.1, next, if_pos h, zero_add])
    (fun t h j => by rw [(point m c t _ _ _ _ (reads m c t)).2.2.2.1, next, if_neg h])
    t ((flush0_11 t).mp hf) _, zero_add]
  have e1 : (win0_11.blk t).view.emb y 1 = y 1 := Fin.ext (by blk_simp [idxOut t])
  have hN : t.val < 32 := lt_of_lt_of_eq t.isLt (show cfg0.N = 32 from N_0)
  refine (point_sum t.val hN (fun b k => cLb (par m c) (inU m c b k) (inV m c b k) (inD m c b k) (hd (y 1)) (ln (y 1))) _).trans ?_
  simp only [mat, e1]; rfl

theorem final12 : (dats m 0 c).arrAt 12 cfg0.N
    = (cube fun h t s => outW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) h t s) := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 32 (fun _ => 0)
    (fun q => cube fun h t s => cW (par m c) (inU m c (sq q) (ck q)) (inV m c (sq q) (ck q)) (inD m c (sq q) (ck q)) h t s)
    (fun t h j => by rw [(point m c t _ _ _ _ (reads m c t)).2.2.2.2.1, next, if_pos h, zero_add])
    (fun t h j => by rw [(point m c t _ _ _ _ (reads m c t)).2.2.2.2.1, next, if_neg h])
    t ((flush0_12 t).mp hf) _, zero_add]
  have e0 : (win0_12.blk t).view.emb y 0 = y 0 := Fin.ext (by blk_simp [idxOut t])
  have e1 : (win0_12.blk t).view.emb y 1 = y 1 := Fin.ext (by blk_simp [idxOut t])
  have e2 : (win0_12.blk t).view.emb y 2 = y 2 := Fin.ext (by blk_simp [idxOut t])
  have hN : t.val < 32 := lt_of_lt_of_eq t.isLt (show cfg0.N = 32 from N_0)
  refine (point_sum t.val hN (fun b k => cW (par m c) (inU m c b k) (inV m c b k) (inD m c b k) (y 0) (y 1) (y 2)) _).trans ?_
  simp only [cube, e0, e1, e2]; rfl

theorem final13 : (dats m 0 c).arrAt 13 cfg0.N
    = (mat fun t h => outB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) h t) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 32 (fun _ => 0)
    (fun q => mat fun t h => cB (par m c) (inU m c (sq q) (ck q)) (inV m c (sq q) (ck q)) (inD m c (sq q) (ck q)) h t)
    (fun t h j => by rw [(point m c t _ _ _ _ (reads m c t)).2.2.2.2.2.1, next, if_pos h, zero_add])
    (fun t h j => by rw [(point m c t _ _ _ _ (reads m c t)).2.2.2.2.2.1, next, if_neg h])
    t ((flush0_13 t).mp hf) _, zero_add]
  have e0 : (win0_13.blk t).view.emb y 0 = y 0 := Fin.ext (by blk_simp [idxOut t])
  have e1 : (win0_13.blk t).view.emb y 1 = y 1 := Fin.ext (by blk_simp [idxOut t])
  have hN : t.val < 32 := lt_of_lt_of_eq t.isLt (show cfg0.N = 32 from N_0)
  refine (point_sum t.val hN (fun b k => cB (par m c) (inU m c b k) (inV m c b k) (inD m c b k) (y 1) (y 0)) _).trans ?_
  simp only [mat, e0, e1]; rfl

theorem final14 : (dats m 0 c).arrAt 14 cfg0.N
    = (mat fun _ l => outOg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2) 32 (fun _ => 0)
    (fun q => mat fun _ l => cOg (par m c) (inU m c (sq q) (ck q)) (inV m c (sq q) (ck q)) (inD m c (sq q) (ck q)) l)
    (fun t h j => by rw [(point m c t _ _ _ _ (reads m c t)).2.2.2.2.2.2, next, if_pos h, zero_add])
    (fun t h j => by rw [(point m c t _ _ _ _ (reads m c t)).2.2.2.2.2.2, next, if_neg h])
    t ((flush0_14 t).mp hf) _, zero_add]
  have e1 : (win0_14.blk t).view.emb y 1 = y 1 := Fin.ext (by blk_simp [idxOut t])
  have hN : t.val < 32 := lt_of_lt_of_eq t.isLt (show cfg0.N = 32 from N_0)
  refine (point_sum t.val hN (fun b k => cOg (par m c) (inU m c b k) (inV m c b k) (inD m c b k) (y 1)) _).trans ?_
  simp only [mat, e1]; rfl

/-- The seven results of the kernel. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4_0) = (cube fun b r l => outU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b r l)
      ∧ r.2.mem ((c : Thread nD τ).loc main_v4_1) = (cube fun b r l => outV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b r l)
      ∧ r.2.mem ((c : Thread nD τ).loc main_v4_2) = (mat fun _ l => outLg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l)
      ∧ r.2.mem ((c : Thread nD τ).loc main_v4_3) = (mat fun _ l => outLb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l)
      ∧ r.2.mem ((c : Thread nD τ).loc main_v4_4) = (cube fun h t s => outW (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) h t s)
      ∧ r.2.mem ((c : Thread nD τ).loc main_v4_5) = (mat fun t h => outB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) h t)
      ∧ r.2.mem ((c : Thread nD τ).loc main_v4_6) = (mat fun _ l => outOg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) l)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c),
      (h c).2.1.trans (final9 m c),
      (h c).2.2.1.trans (final10 m c),
      (h c).2.2.2.1.trans (final11 m c),
      (h c).2.2.2.2.1.trans (final12 m c),
      (h c).2.2.2.2.2.1.trans (final13 m c),
      (h c).2.2.2.2.2.2.1.trans (final14 m c),
      (h c).2.2.2.2.2.2.2⟩)
    (run_blocks (F := Ideal) m ρ)

end Cert.KernelIdeal.Value
-- ==== Proof.RefForward.lean ====
module

public import proofs.«01_k».proof.Proof.Gen.ReferenceIdeal.Run
public import proofs.«01_k».proof.Proof.Data
public import Idealize.ShloMosaic.Lib.Pipeline.ValueKit
public import Idealize.ShloMosaic.Lib.Tactic.CleanTypes

/-! The forward stages of the reference, each at a sequence, a chunk, a token and a column. -/

@[expose] public section
set_option maxRecDepth 16384
noncomputable section
open Idealize.ShloMosaic Idealize.ShloMosaic.TcCoe Idealize.SL.Sem

namespace Cert.Gmlp

/-- Chunk of a row of the sequence, and the row's place in the chunk. -/
def kc (r : Fin 2048) : Fin 16 := ⟨r.val / 128, by omega⟩
def kt (r : Fin 2048) : Fin 128 := ⟨r.val % 128, by omega⟩
theorem row_kc_kt (r : Fin 2048) : row (kc r) (kt r) = r := row_div_mod r
theorem kc_row (k : Fin 16) (t : Fin 128) : kc (row k t) = k := row_div k t _
theorem kt_row (k : Fin 16) (t : Fin 128) : kt (row k t) = t := row_mod k t _

theorem kc_mk (k : Fin 16) (t : Fin 128) (h) : kc ⟨k.val * 128 + t.val, h⟩ = k := kc_row k t
theorem kt_mk (k : Fin 16) (t : Fin 128) (h) : kt ⟨k.val * 128 + t.val, h⟩ = t := kt_row k t
theorem lane_mk (h : Fin 4) (e : Fin 128) (p) : (⟨h.val * 128 + e.val, p⟩ : Fin 512) = lane h e := rfl

/-- Arrays over sequences, rows and columns; with the columns by heads; with the rows by chunks as well; and with one column. -/
def at3 (F : Fin 2 → Fin 16 → Fin 128 → Fin 512 → EReal) : (⟨3, ![2, 2048, 512]⟩ : Shape).Idx → EReal :=
  fun j => F (j 0) (kc (j 1)) (kt (j 1)) (j 2)
def at4 (F : Fin 2 → Fin 16 → Fin 128 → Fin 4 → Fin 128 → EReal) : (⟨4, ![2, 2048, 4, 128]⟩ : Shape).Idx → EReal :=
  fun j => F (j 0) (kc (j 1)) (kt (j 1)) (j 2) (j 3)
def at5 (F : Fin 2 → Fin 16 → Fin 128 → Fin 4 → Fin 128 → EReal) : (⟨5, ![2, 16, 128, 4, 128]⟩ : Shape).Idx → EReal :=
  fun j => F (j 0) (j 1) (j 2) (j 3) (j 4)
def at3one (F : Fin 2 → Fin 16 → Fin 128 → EReal) : (⟨3, ![2, 2048, 1]⟩ : Shape).Idx → EReal :=
  fun j => F (j 0) (kc (j 1)) (kt (j 1))
def at4one (F : Fin 2 → Fin 16 → Fin 128 → Fin 4 → EReal) : (⟨4, ![2, 2048, 4, 1]⟩ : Shape).Idx → EReal :=
  fun j => F (j 0) (kc (j 1)) (kt (j 1)) (j 2)
theorem at3_ix (F b r l) : at3 F (ix3 b r l) = F b (kc r) (kt r) l := rfl
theorem at4_ix (F b r h e) : at4 F (ix4 b r h e) = F b (kc r) (kt r) h e := rfl
theorem at5_ix (F b k t h e) : at5 F (ix5 b k t h e) = F b k t h e := rfl
theorem at3one_ix (F b r z) : at3one F (ix3 b r z) = F b (kc r) (kt r) := rfl
theorem at4one_ix (F b r h z) : at4one F (ix4 b r h z) = F b (kc r) (kt r) h := rfl
end Cert.Gmlp

namespace Cert.ReferenceIdeal.Value
open Cert.ReferenceIdeal Cert.ReferenceIdeal.Gen Cert.Gmlp

variable (V0 : Valuation τ sig (Elt Ideal))

abbrev rp : Params := prm (V0 (Proc.devRef .tc main_arg2)) (V0 (Proc.devRef .tc main_arg3)) (V0 (Proc.devRef .tc main_arg4))
  (V0 (Proc.devRef .tc main_arg5)) (V0 (Proc.devRef .tc main_arg6))
abbrev rU := chU (V0 (Proc.devRef .tc main_arg0))
abbrev rV := chV (V0 (Proc.devRef .tc main_arg0))
abbrev rD := chD (V0 (Proc.devRef .tc main_arg1))

theorem v0_eq : res_main_v0 V0 = at3 (rU V0) := by
  funext j; idx_vars j; unfold res_main_v0; clean_types; pointwise [at3_ix, chU, row_kc_kt]
theorem v1_eq : res_main_v1 V0 = at3 (rV V0) := by
  funext j; idx_vars j; unfold res_main_v1; clean_types; pointwise [at3_ix, chV, row_kc_kt]
theorem v12_eq : res_main_v12 V0 = at3 fun b k t l => gTanh (rU V0 b k t l) := by
  funext j; idx_vars j; unfold res_main_v12; clean_types; pointwise [v0_eq, at3_ix, gTanh]
theorem v34_eq : res_main_v34 V0 = at3 fun b k t l => gTanh (rV V0 b k t l) := by
  funext j; idx_vars j; unfold res_main_v34; clean_types; pointwise [v1_eq, at3_ix, gTanh]
theorem v21_eq : res_main_v21 V0 = at3 fun b k t l => cst 0x3F000000#32 * (1 + gTanh (rU V0 b k t l)) := by
  funext j; idx_vars j; unfold res_main_v21; clean_types; pointwise [v12_eq, at3_ix]
theorem v43_eq : res_main_v43 V0 = at3 fun b k t l => cst 0x3F000000#32 * (1 + gTanh (rV V0 b k t l)) := by
  funext j; idx_vars j; unfold res_main_v43; clean_types; pointwise [v34_eq, at3_ix]
theorem v23_eq : res_main_v23 V0 = at5 fun b k t h e => gelu (rU V0 b k t (lane h e)) := by
  funext j; idx_vars j; unfold res_main_v23; clean_types; pointwise [v0_eq, v21_eq, at3_ix, at5_ix, gelu]
  simp only [kc_mk, kt_mk, lane_mk]
theorem v45_eq : res_main_v45 V0 = at4 fun b k t h e => vrow (rV V0 b k) h t e := by
  funext j; idx_vars j; unfold res_main_v45; clean_types; pointwise [v1_eq, v43_eq, at3_ix, at4_ix, vrow, gelu]
  simp only [lane_mk]
theorem v51_eq : res_main_v51 V0 = at4 fun b k t h e => center (vrow (rV V0 b k) h t) e := by
  funext j; idx_vars j; unfold res_main_v51; clean_types; pointwise [v45_eq, at4_ix, center]
theorem v58_eq : res_main_v58 V0 = at4one fun b k t h => lnVar (vrow (rV V0 b k) h t) := by
  funext j; idx_vars j; unfold res_main_v58; clean_types; pointwise [v51_eq, at4_ix, at4one_ix, lnVar, nVar]
theorem v59_eq : res_main_v59 V0 = at4one fun b k t h => lnRs (vrow (rV V0 b k) h t) := by
  funext j; idx_vars j; unfold res_main_v59; clean_types; pointwise [v58_eq, at4one_ix, lnRs, lnVar, nRs]
theorem v64_eq : res_main_v64 V0 = at4 fun b k t h e => lnXn (vrow (rV V0 b k) h t) e := by
  funext j; idx_vars j; unfold res_main_v64; clean_types; pointwise [v51_eq, v59_eq, at4_ix, at4one_ix, lnXn, lnRs]
theorem v71_eq : res_main_v71 V0 = at5 fun b k t h e => vn (rp V0) (rV V0 b k) h t e := by
  funext j; idx_vars j; unfold res_main_v71; clean_types; pointwise [v64_eq, res_main_v65, at4_ix, at5_ix, vn, prm]
  simp only [kc_mk, kt_mk, hd_lane, ln_lane]
theorem v72_eq (h : Fin 4) (t s : Fin 128) : res_main_v72_0 V0 (ix3 h t s) = wm (rp V0) h t s := by
  unfold res_main_v72_0; clean_types; pointwise [res_main_v72_1, wm, prm, tril]
  simp only [IntOp.addi, BitVec.add_zero]
theorem v78_eq : res_main_v78 V0 = at5 fun b k t h e => gate (rp V0) (rV V0 b k) h t e := by
  funext j; idx_vars j; unfold res_main_v78; clean_types; pointwise [v71_eq, v72_eq, at5_ix, gate, prm]
theorem v80_eq : res_main_v80 V0 = at3 fun b k t l => yv (rp V0) (rU V0 b k) (rV V0 b k) t l := by
  funext j; idx_vars j; unfold res_main_v80; clean_types; pointwise [v23_eq, v78_eq, at5_ix, at3_ix, yv]
  exact congrArg (fun x => gelu (rU V0 j0 (kc j1) (kt j1) x) * _) (lane_hd_ln j2)
theorem v87_eq : res_main_v87 V0 = at3one fun b k t => nVar (cst 0x44000000#32) (cst 0x358637BD#32) (yv (rp V0) (rU V0 b k) (rV V0 b k) t) := by
  funext j; idx_vars j; unfold res_main_v87; clean_types; pointwise [v80_eq, at3_ix, at3one_ix, nVar]
theorem v88_eq : res_main_v88 V0 = at3one fun b k t => rmsRs (yv (rp V0) (rU V0 b k) (rV V0 b k) t) := by
  funext j; idx_vars j; unfold res_main_v88; clean_types; pointwise [v87_eq, at3one_ix, rmsRs, nRs]
theorem v93_eq : res_main_v93 V0 = at3 fun b k t l => yv (rp V0) (rU V0 b k) (rV V0 b k) t l * rmsRs (yv (rp V0) (rU V0 b k) (rV V0 b k) t) := by
  funext j; idx_vars j; unfold res_main_v93; clean_types; pointwise [v80_eq, v88_eq, at3one_ix, at3_ix]

end Cert.ReferenceIdeal.Value
-- ==== Proof.RefBackward.lean ====
module

public import proofs.«01_k».proof.Proof.RefForward

/-! The backward stages of the reference. -/

@[expose] public section
set_option maxRecDepth 16384
noncomputable section
open Idealize.ShloMosaic Idealize.ShloMosaic.TcCoe Idealize.SL.Sem

namespace Cert.ReferenceIdeal.Value
open Cert.ReferenceIdeal Cert.ReferenceIdeal.Gen Cert.Gmlp

variable (V0 : Valuation τ sig (Elt Ideal))

theorem v97_eq : res_main_v97 V0 = at3 (rD V0) := by
  funext j; idx_vars j; unfold res_main_v97; clean_types; pointwise [at3_ix, chD, row_kc_kt]
theorem v102_eq : res_main_v102 V0 = at3 fun b k t l => rD V0 b k t l * (rp V0).og l := by
  funext j; idx_vars j; unfold res_main_v102; clean_types; pointwise [v97_eq, res_main_v94, at3_ix, prm]
theorem v113_eq : res_main_v113 V0 = at3 fun b k t _ => nS (cst 0x44000000#32) (cst 0x358637BD#32)
    (yv (rp V0) (rU V0 b k) (rV V0 b k) t) (fun l => rD V0 b k t l * (rp V0).og l) := by
  funext j; idx_vars j; unfold res_main_v113; clean_types
  pointwise [v80_eq, v102_eq, v88_eq, v87_eq, at3_ix, at3one_ix, nS, nK, rmsRs]
  simp only [Fin.sum_univ_one, cst]
theorem v118_eq : res_main_v118 V0 = at5 fun b k t h e => dy (rp V0) (rU V0 b k) (rV V0 b k) (rD V0 b k) t (lane h e) := by
  funext j; idx_vars j; unfold res_main_v118; clean_types
  pointwise [v80_eq, v102_eq, v88_eq, v113_eq, at3_ix, at3one_ix, at5_ix, dy, rmsBwd, nBwd, rmsRs]
  simp only [kc_mk, kt_mk, lane_mk]
theorem v119_eq : res_main_v119 V0 = at5 fun b k t h e => dgate (rp V0) (rU V0 b k) (rV V0 b k) (rD V0 b k) h t e := by
  funext j; idx_vars j; unfold res_main_v119; clean_types; pointwise [v23_eq, v118_eq, at5_ix, dgate]
theorem v130_eq : res_main_v130 V0 = at4 fun b k t h e => dvn (rp V0) (rU V0 b k) (rV V0 b k) (rD V0 b k) h t e := by
  funext j; idx_vars j; unfold res_main_v130; clean_types
  pointwise [res_main_v125, v119_eq, v72_eq, at5_ix, at4_ix, dvn, mixT]
  rfl
theorem v138_eq : res_main_v138 V0 = at4 fun b k t h e =>
    dvn (rp V0) (rU V0 b k) (rV V0 b k) (rD V0 b k) h t e * (rp V0).lg (lane h e) := by
  funext j; idx_vars j; unfold res_main_v138; clean_types; pointwise [v130_eq, res_main_v65, at4_ix, prm]
  simp only [hd_lane, ln_lane]
theorem v149_eq : res_main_v149 V0 = at4 fun b k t h _ => nS (cst 0x43000000#32) (cst 0x3727C5AC#32)
    (center (vrow (rV V0 b k) h t)) (fun e => dvn (rp V0) (rU V0 b k) (rV V0 b k) (rD V0 b k) h t e * (rp V0).lg (lane h e)) := by
  funext j; idx_vars j; unfold res_main_v149; clean_types
  pointwise [v51_eq, v138_eq, v59_eq, v58_eq, at4_ix, at4one_ix, nS, nK, lnRs, lnVar]
  simp only [Fin.sum_univ_one, cst]
theorem v153_eq : res_main_v153 V0 = at4 fun b k t h => lnQ (vrow (rV V0 b k) h t)
    (fun e => dvn (rp V0) (rU V0 b k) (rV V0 b k) (rD V0 b k) h t e * (rp V0).lg (lane h e)) := by
  funext j; idx_vars j; unfold res_main_v153; clean_types
  pointwise [v138_eq, v59_eq, v51_eq, v149_eq, at4_ix, at4one_ix, lnQ, nBwd, lnRs]
theorem v162_eq : res_main_v162 V0 = at3 fun b k t l => dx (rp V0) (rU V0 b k) (rV V0 b k) (rD V0 b k) (hd l) t (ln l) := by
  funext j; idx_vars j; unfold res_main_v162; clean_types; pointwise [v153_eq, at4_ix, at3_ix, dx, lnBwd]
  simp only [Fin.sum_univ_one]; rfl
theorem v169_eq : res_main_v169 V0 = at3 fun b k t l =>
    gInner (rV V0 b k t l) (dx (rp V0) (rU V0 b k) (rV V0 b k) (rD V0 b k) (hd l) t (ln l)) := by
  funext j; idx_vars j; unfold res_main_v169; clean_types; pointwise [v1_eq, v162_eq, v34_eq, at3_ix, gInner]
theorem v175_eq : res_main_v175 V0 = at3 fun b k t l =>
    dy (rp V0) (rU V0 b k) (rV V0 b k) (rD V0 b k) t l * gate (rp V0) (rV V0 b k) (hd l) t (ln l) := by
  funext j; idx_vars j; unfold res_main_v175; clean_types; pointwise [v118_eq, v78_eq, at5_ix, at3_ix]
  exact congrArg (fun x => dy (rp V0) (rU V0 j0 (kc j1)) (rV V0 j0 (kc j1)) (rD V0 j0 (kc j1)) (kt j1) x * _) (lane_hd_ln j2)
theorem v182_eq : res_main_v182 V0 = at3 fun b k t l => gInner (rU V0 b k t l)
    (dy (rp V0) (rU V0 b k) (rV V0 b k) (rD V0 b k) t l * gate (rp V0) (rV V0 b k) (hd l) t (ln l)) := by
  funext j; idx_vars j; unfold res_main_v182; clean_types; pointwise [v0_eq, v175_eq, v12_eq, at3_ix, gInner]

end Cert.ReferenceIdeal.Value
-- ==== Proof.Sums.lean ====
module

public import Idealize.ShloMosaic.Lib.Pipeline.ValueKit

/-! Sums over several axes at once: the host's reductions over the leading axes, and a contraction over three axes. -/

@[expose] public section
set_option maxRecDepth 16384
noncomputable section
open Idealize.ShloMosaic Idealize.ShloMosaic.TcCoe Idealize.SL.Sem

namespace Cert.Gmlp

/-- Summing a rank-4 array over its first two axes. -/
theorem reduce4_01 {n0 n1 n2 n3 : Nat} (h : (⟨4, ![n0, n1, n2, n3]⟩ : Shape).ReducesTo [0, 1] ⟨2, ![n2, n3]⟩)
    (v : (⟨4, ![n0, n1, n2, n3]⟩ : Shape).Idx → EReal) (init : EReal) (a : Fin n2) (b : Fin n3) :
    Ideal.hostReduceAdd h v init (ix2 a b) = init + ∑ x : Fin n0, ∑ y : Fin n1, v (ix4 x y a b) := by
  refine congrArg (init + ·) ((Finset.sum_filter_eq_sum_of_fiber _ (fun k : Fin n0 × Fin n1 => ix4 k.1 k.2 a b)
    (fun _ _ e => Prod.ext (congrFun e 0) (congrFun e 1)) (fun i => ⟨fun e => ⟨(i 0, i 1), ?_⟩, ?_⟩) v).trans
    (Fintype.sum_prod_type _))
  · funext q; apply Fin.ext
    match q with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext q; apply Fin.ext
    match q with
    | ⟨0, _⟩ => rfl
    | ⟨1, _⟩ => rfl

/-- Summing a rank-3 array over its first two axes. -/
theorem reduce3_01 {n0 n1 n2 : Nat} (h : (⟨3, ![n0, n1, n2]⟩ : Shape).ReducesTo [0, 1] ⟨1, ![n2]⟩)
    (v : (⟨3, ![n0, n1, n2]⟩ : Shape).Idx → EReal) (init : EReal) (a : Fin n2) :
    Ideal.hostReduceAdd h v init (ix1 a) = init + ∑ x : Fin n0, ∑ y : Fin n1, v (ix3 x y a) := by
  refine congrArg (init + ·) ((Finset.sum_filter_eq_sum_of_fiber _ (fun k : Fin n0 × Fin n1 => ix3 k.1 k.2 a)
    (fun _ _ e => Prod.ext (congrFun e 0) (congrFun e 1)) (fun i => ⟨fun e => ⟨(i 0, i 1), ?_⟩, ?_⟩) v).trans
    (Fintype.sum_prod_type _))
  · funext q; apply Fin.ext
    match q with
    | ⟨0, _⟩ => rfl
    | ⟨1, _⟩ => rfl
    | ⟨2, _⟩ => exact (congrArg Fin.val (congrFun e 0)).symm
  · rintro ⟨k, rfl⟩
    funext q; apply Fin.ext
    match q with
    | ⟨0, _⟩ => rfl

/-- Summing a rank-5 array over its first two axes and its last. -/
theorem reduce5_014 {n0 n1 n2 n3 n4 : Nat} (h : (⟨5, ![n0, n1, n2, n3, n4]⟩ : Shape).ReducesTo [0, 1, 4] ⟨2, ![n2, n3]⟩)
    (v : (⟨5, ![n0, n1, n2, n3, n4]⟩ : Shape).Idx → EReal) (init : EReal) (a : Fin n2) (b : Fin n3) :
    Ideal.hostReduceAdd h v init (ix2 a b) = init + ∑ x : Fin n0, ∑ y : Fin n1, ∑ z : Fin n4, v (ix5 x y a b z) := by
  refine congrArg (init + ·) ((Finset.sum_filter_eq_sum_of_fiber _ (fun k : Fin n0 × Fin n1 × Fin n4 => ix5 k.1 k.2.1 a b k.2.2)
    (fun _ _ e => Prod.ext (congrFun e 0) (Prod.ext (congrFun e 1) (congrFun e 4)))
    (fun i => ⟨fun e => ⟨(i 0, i 1, i 4), ?_⟩, ?_⟩) v).trans ((Fintype.sum_prod_type _).trans
      (Finset.sum_congr rfl fun _ _ => Fintype.sum_prod_type _)))
  · funext q; apply Fin.ext
    match q with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext q; apply Fin.ext
    match q with
    | ⟨0, _⟩ => rfl
    | ⟨1, _⟩ => rfl

end Cert.Gmlp
-- ==== Proof.RefResults.lean ====
module

public import proofs.«01_k».proof.Proof.RefBackward
public import proofs.«01_k».proof.Proof.Sums

/-! The seven results of the reference. -/

@[expose] public section
set_option maxRecDepth 16384
noncomputable section
open Idealize.ShloMosaic Idealize.ShloMosaic.TcCoe Idealize.SL.Sem

namespace Cert.ReferenceIdeal.Value
open Cert.ReferenceIdeal Cert.ReferenceIdeal.Gen Cert.Gmlp

variable (V0 : Valuation τ sig (Elt Ideal))

/-- The sum over the rows of the sequence is the sum over the chunks and their tokens. -/
theorem sum_rows (f : Fin 16 → Fin 128 → EReal) : ∑ r : Fin 2048, f (kc r) (kt r) = ∑ k, ∑ t, f k t :=
  Fin.sum_divmod_congr (A := 16) (S := 128) fun _ _ _ => rfl

theorem du_eq : truncf (F := Ideal) .bf16 (addf (addf (mulf (res_main_v175 V0) (res_main_v21 V0)) (res_main_v182 V0)) (mulf (mulf (broadcastInDim S2x2048x512 ![] bcast_S_S2x2048x512 (constant S_ .f32 0x3D372713#32)) (res_main_v182 V0)) (mulf (broadcastInDim S2x2048x512 ![] bcast_S_S2x2048x512 (constant S_ .f32 0x40400000#32)) (mulf (res_main_v0 V0) (res_main_v0 V0))))) bitsLt_bf16_f32
    = at3 fun b k t l => dU (rp V0) (rU V0 b k) (rV V0 b k) (rD V0 b k) t l := by
  funext j; idx_vars j; pointwise [v175_eq, v21_eq, v182_eq, v0_eq, at3_ix, dU, geluBwd]
theorem dv_eq : truncf (F := Ideal) .bf16 (addf (addf (mulf (res_main_v162 V0) (res_main_v43 V0)) (res_main_v169 V0)) (mulf (mulf (broadcastInDim S2x2048x512 ![] bcast_S_S2x2048x512 (constant S_ .f32 0x3D372713#32)) (res_main_v169 V0)) (mulf (broadcastInDim S2x2048x512 ![] bcast_S_S2x2048x512 (constant S_ .f32 0x40400000#32)) (mulf (res_main_v1 V0) (res_main_v1 V0))))) bitsLt_bf16_f32
    = at3 fun b k t l => dV (rp V0) (rU V0 b k) (rV V0 b k) (rD V0 b k) t l := by
  funext j; idx_vars j; pointwise [v162_eq, v43_eq, v169_eq, v1_eq, at3_ix, dV, geluBwd]
theorem dlg_eq (l : Fin 512) (z : Fin 1) : shapeCast S1x512 (Host.reduceAdd (F := Ideal) (shapeCast _ (Host.reduceAdd (mulf (res_main_v64 V0) (res_main_v130 V0)) (constant S_ .f32 0x00000000#32) reducesTo_S2x2048x4x128_S4x128_d0_1 h_S_) shapeCasts_S4x128_S1x1x4x128) (constant S_ .f32 0x00000000#32) reducesTo_S1x1x4x128_S4x128_d0_1 h_S_) shapeCasts_S4x128_S1x512 (ix2 z l)
    = ∑ b, ∑ k, cLg (rp V0) (rU V0 b k) (rV V0 b k) (rD V0 b k) (hd l) (ln l) := by
  pointwise [reduce4_01, v64_eq, v130_eq, at4_ix]
  simp only [Fin.sum_univ_one]
  exact Finset.sum_congr rfl fun b _ => sum_rows fun k t =>
    lnXn (vrow (rV V0 b k) (hd l) t) (ln l) * dvn (rp V0) (rU V0 b k) (rV V0 b k) (rD V0 b k) (hd l) t (ln l)
theorem dlb_eq (l : Fin 512) (z : Fin 1) : shapeCast S1x512 (Host.reduceAdd (F := Ideal) (shapeCast _ (Host.reduceAdd (res_main_v130 V0) (constant S_ .f32 0x00000000#32) reducesTo_S2x2048x4x128_S4x128_d0_1 h_S_) shapeCasts_S4x128_S1x1x4x128) (constant S_ .f32 0x00000000#32) reducesTo_S1x1x4x128_S4x128_d0_1 h_S_) shapeCasts_S4x128_S1x512 (ix2 z l)
    = ∑ b, ∑ k, cLb (rp V0) (rU V0 b k) (rV V0 b k) (rD V0 b k) (hd l) (ln l) := by
  pointwise [reduce4_01, v130_eq, at4_ix]
  simp only [Fin.sum_univ_one]
  exact Finset.sum_congr rfl fun b _ => sum_rows fun k t =>
    dvn (rp V0) (rU V0 b k) (rV V0 b k) (rD V0 b k) (hd l) t (ln l)
theorem dog_eq (l : Fin 512) (z : Fin 1) : shapeCast S1x512 (Host.reduceAdd (F := Ideal) (shapeCast _ (Host.reduceAdd (mulf (res_main_v93 V0) (res_main_v97 V0)) (constant S_ .f32 0x00000000#32) reducesTo_S2x2048x512_S512_d0_1 h_S_) shapeCasts_S512_S1x1x512) (constant S_ .f32 0x00000000#32) reducesTo_S1x1x512_S512_d0_1 h_S_) shapeCasts_S512_S1x512 (ix2 z l)
    = ∑ b, ∑ k, cOg (rp V0) (rU V0 b k) (rV V0 b k) (rD V0 b k) l := by
  pointwise [reduce3_01, v93_eq, v97_eq, at3_ix]
  simp only [Fin.sum_univ_one]
  exact Finset.sum_congr rfl fun b _ => sum_rows fun k t =>
    yv (rp V0) (rU V0 b k) (rV V0 b k) t l * rmsRs (yv (rp V0) (rU V0 b k) (rV V0 b k) t) * rD V0 b k t l
theorem dbt_eq (t : Fin 128) (h : Fin 4) : transpose S128x4 [1, 0] (transpose S4x128 [1, 0] (Host.reduceAdd (F := Ideal) (shapeCast _ (Host.reduceAdd (res_main_v119 V0) (constant S_ .f32 0x00000000#32) reducesTo_S2x16x128x4x128_S128x4_d0_1_4 h_S_) shapeCasts_S128x4_S1x1x128x4x1) (constant S_ .f32 0x00000000#32) reducesTo_S1x1x128x4x1_S128x4_d0_1_4 h_S_) transposes_S128x4_S4x128_1_0) transposes_S4x128_S128x4_1_0 (ix2 t h)
    = ∑ b, ∑ k, cB (rp V0) (rU V0 b k) (rV V0 b k) (rD V0 b k) h t := by
  pointwise [reduce5_014, v119_eq, at5_ix, cB]
  simp only [Fin.sum_univ_one]

/-- The contraction's dimension numbers: batch, chunk and lane are summed. -/
abbrev dwDims := dot_S4x2x16x128x128_S2x16x128x4x128_S4x128x128_123_014_4_2_0_3

/-- A point of the contraction from its batch, its chunk and its lane. -/
def dwIdx (b : Fin 2) (k : Fin 16) (e : Fin 128) : dwDims.contr.Idx :=
  fun (q : Fin 3) => match q with
  | ⟨0, _⟩ => b
  | ⟨1, _⟩ => k
  | ⟨2, _⟩ => e

/-- The points of the contraction are the triples. -/
def dwTriples : Fin 2 × Fin 16 × Fin 128 ≃ dwDims.contr.Idx where
  toFun p := dwIdx p.1 p.2.1 p.2.2
  invFun q := (q (0 : Fin 3), q (1 : Fin 3), q (2 : Fin 3))
  left_inv _ := rfl
  right_inv q := funext fun (r : Fin 3) => match r with
    | ⟨0, _⟩ => rfl
    | ⟨1, _⟩ => rfl
    | ⟨2, _⟩ => rfl

/-- The contraction over the batch, the chunk and the lane, as a triple sum. -/
theorem sum_contr (f : dwDims.contr.Idx → EReal) : ∑ q, f q = ∑ b, ∑ k, ∑ e, f (dwIdx b k e) :=
  (Fintype.sum_equiv dwTriples (fun p => f (dwIdx p.1 p.2.1 p.2.2)) f fun _ => rfl).symm.trans
    ((Fintype.sum_prod_type _).trans (Finset.sum_congr rfl fun _ _ => Fintype.sum_prod_type _))

/-- One entry of the gradient of the mixing weights before the mask. -/
theorem dw_dot (h : Fin 4) (t s : Fin 128) : Host.dotGeneral (F := Ideal) (φ₁ := .f32) (φ₂ := .f32) dot_S4x2x16x128x128_S2x16x128x4x128_S4x128x128_123_014_4_2_0_3 none (res_main_v125 V0) (res_main_v71 V0) (ix3 h t s)
    = ∑ b, ∑ k, ∑ e, dgate (rp V0) (rU V0 b k) (rV V0 b k) (rD V0 b k) h t e * vn (rp V0) (rV V0 b k) h s e := by
  pointwise [res_main_v125, v119_eq, v71_eq, at5_ix]
  refine (zero_add _).trans ((sum_contr _).trans ?_)
  rfl

/-- A mask that does not depend on the summation indices can be applied before or after the sums. -/
theorem select_sums (p : BitVec 1) (f : Fin 2 → Fin 16 → EReal) :
    Scalar.select p (∑ b, ∑ k, f b k) 0 = ∑ b, ∑ k, Scalar.select p (f b k) 0 := by
  unfold Scalar.select
  split
  · rfl
  · simp only [Finset.sum_const_zero]

theorem dw_eq (h : Fin 4) (t s : Fin 128) : select (res_main_v72_1 V0) (Host.dotGeneral (F := Ideal) (φ₁ := .f32) (φ₂ := .f32) dot_S4x2x16x128x128_S2x16x128x4x128_S4x128x128_123_014_4_2_0_3 none (res_main_v125 V0) (res_main_v71 V0)) (broadcastInDim S4x128x128 ![] bcast_S_S4x128x128 (constant S_ .f32 0x00000000#32)) (ix3 h t s)
    = ∑ b, ∑ k, cW (rp V0) (rU V0 b k) (rV V0 b k) (rD V0 b k) h t s := by
  refine (congrArg (fun x => Scalar.select _ x _) (dw_dot V0 h t s)).trans ?_
  pointwise [res_main_v72_1, cW, tril]
  simp only [IntOp.addi, BitVec.add_zero]
  exact select_sums _ _

/-- The seven results of the reference, each as the function of the arguments that the kernel's arrays are stated with. -/
theorem run_outs (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v188) = (cube fun b r l => outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r l)
      ∧ r.2.mem ((c.tc : Thread nD τ).loc main_v189) = (cube fun b r l => outV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b r l)
      ∧ r.2.mem ((c.tc : Thread nD τ).loc main_v190) = (mat fun _ l => outLg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) l)
      ∧ r.2.mem ((c.tc : Thread nD τ).loc main_v191) = (mat fun _ l => outLb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) l)
      ∧ r.2.mem ((c.tc : Thread nD τ).loc main_v129) = (cube fun h t s => outW (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) h t s)
      ∧ r.2.mem ((c.tc : Thread nD τ).loc main_v192) = (mat fun t h => outB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) h t)
      ∧ r.2.mem ((c.tc : Thread nD τ).loc main_v193) = (mat fun _ l => outOg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) l)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (du_eq _),
      (h c).2.1.trans (dv_eq _),
      (h c).2.2.1.trans (by funext j; idx_vars j; exact dlg_eq _ j1 j0),
      (h c).2.2.2.1.trans (by funext j; idx_vars j; exact dlb_eq _ j1 j0),
      (h c).2.2.2.2.1.trans (by funext j; idx_vars j; exact dw_eq _ j0 j1 j2),
      (h c).2.2.2.2.2.1.trans (by funext j; idx_vars j; exact dbt_eq _ j0 j1),
      (h c).2.2.2.2.2.2.1.trans (by funext j; idx_vars j; exact dog_eq _ j1 j0),
      (h c).2.2.2.2.2.2.2⟩)
    (run (F := Ideal) m ρ)

end Cert.ReferenceIdeal.Value
-- ==== Proof.Mlp.lean ====
module

public import proofs.«01_k».proof.Proof.Spec

/-! The MLP's backward products as functions of the arguments. -/

@[expose] public section
set_option maxRecDepth 16384
noncomputable section
open Idealize.ShloMosaic Idealize.ShloMosaic.TcCoe Idealize.SL.Sem

namespace Cert.Mlp
open Cert.Gmlp

/-- A matrix read at an index whose coordinates are known. -/
theorem mat_at {n k : Nat} (f : Fin n → Fin k → EReal) (y : (⟨2, ![n, k]⟩ : Shape).Idx) {i : Fin n} {j : Fin k}
    (h0 : (y 0).val = i.val) (h1 : (y 1).val = j.val) : mat f y = f i j :=
  congrArg₂ f (Fin.ext h0) (Fin.ext h1)

/-- A sum over 4096 rows is the sum over the first 2048 and the sum over the last. -/
theorem sum_halves (f : Fin 4096 → EReal) :
    ∑ k, f k = ∑ k : Fin 2048, f ⟨k.val, by omega⟩ + ∑ k : Fin 2048, f ⟨2048 + k.val, by omega⟩ :=
  Fin.sum_univ_add (a := 2048) (b := 2048) f

/-- An array of three axes read at an index whose coordinates are known. -/
theorem cube_at {n k r : Nat} (f : Fin n → Fin k → Fin r → EReal) (y : (⟨3, ![n, k, r]⟩ : Shape).Idx) {a : Fin n} {b : Fin k}
    {d : Fin r} (h0 : (y 0).val = a.val) (h1 : (y 1).val = b.val) (h2 : (y 2).val = d.val) : cube f y = f a b d := by
  rw [cube, Fin.ext h0, Fin.ext h1, Fin.ext h2]

variable (h : (⟨2, ![4096, 2048]⟩ : Shape).Idx → EReal) (w : (⟨3, ![4, 2048, 2048]⟩ : Shape).Idx → EReal)
  (v : (⟨2, ![8192, 2048]⟩ : Shape).Idx → EReal) (g : (⟨2, ![4096, 2048]⟩ : Shape).Idx → EReal)

/-- An entry of the first weight, its four blocks side by side. -/
def wide (k : Fin 2048) (j : Fin 8192) : EReal := w (ix3 ⟨j.val / 2048, by omega⟩ k ⟨j.val % 2048, by omega⟩)

/-- The four blocks put side by side hold those entries. -/
theorem wide_eq (h0 h1 h2 h3 hq hc) : concatenate ⟨2, ![2048, 8192]⟩ 1
    [⟨⟨2, ![2048, 2048]⟩, shapeCast _ (extractStridedSlice ⟨3, ![1, 2048, 2048]⟩ ![0, 0, 0] w h0) hq⟩,
     ⟨⟨2, ![2048, 2048]⟩, shapeCast _ (extractStridedSlice ⟨3, ![1, 2048, 2048]⟩ ![1, 0, 0] w h1) hq⟩,
     ⟨⟨2, ![2048, 2048]⟩, shapeCast _ (extractStridedSlice ⟨3, ![1, 2048, 2048]⟩ ![2, 0, 0] w h2) hq⟩,
     ⟨⟨2, ![2048, 2048]⟩, shapeCast _ (extractStridedSlice ⟨3, ![1, 2048, 2048]⟩ ![3, 0, 0] w h3) hq⟩] hc = mat (wide w) := by
  funext j; idx_vars j
  pointwise [mat_ix2, wide]
  split_ifs <;> refine congrArg₂ (fun a b => w (ix3 a j0 b)) (Fin.ext ?_) (Fin.ext ?_) <;> simp <;> omega

/-- The blocks read through their columns in the whole. -/
theorem wide_blocks (d k : Fin 2048) : wide w d ⟨k.val, by omega⟩ = w (ix3 0 d k) ∧ wide w d ⟨2048 + k.val, by omega⟩ = w (ix3 1 d k)
    ∧ wide w d ⟨4096 + k.val, by omega⟩ = w (ix3 2 d k) ∧ wide w d ⟨6144 + k.val, by omega⟩ = w (ix3 3 d k) := by
  refine ⟨?_, ?_, ?_, ?_⟩ <;> refine congrArg₂ (fun a b => w (ix3 a d b)) (Fin.ext ?_) (Fin.ext ?_) <;> simp <;> omega

/-- The hidden layer before its activation. -/
def hid (r : Fin 4096) (j : Fin 8192) : EReal := ∑ k, h (ix2 r k) * wide w k j
/-- The cotangent of the hidden layer: the activation is the square of the positive part. -/
def dHid (r : Fin 4096) (j : Fin 8192) : EReal := (∑ k, g (ix2 r k) * v (ix2 j k)) * (cst 0x40000000#32 * max (hid h w r j) 0)

/-- The reference asks for the sign first. -/
theorem relu_bwd (x a s : EReal) : (if 0 < x then a * (s * max x 0) else 0) = a * (s * max x 0) := by
  split_ifs with hx
  · rfl
  · rw [max_eq_right (not_lt.mp hx), mul_zero, mul_zero]

/-- What row `k` adds to the derivative of the second weight at `(j, d)`. -/
def dW2Row (k : Fin 4096) (j : Fin 8192) (d : Fin 2048) : EReal := max (hid h w k j) 0 * max (hid h w k j) 0 * g (ix2 k d)
/-- An entry of the derivative of the second weight, row `r` of its block `b`. -/
def dW2 (b : Fin 4) (r d : Fin 2048) : EReal := ∑ k, dW2Row h w g k ⟨b.val * 2048 + r.val, by omega⟩ d

variable (q : (⟨2, ![4096, 8192]⟩ : Shape).Idx → EReal)

/-- What row `k` adds to the derivative of the first weight at `(r, j)`. -/
def dW1Row (k : Fin 4096) (r : Fin 2048) (j : Fin 8192) : EReal := h (ix2 k r) * q (ix2 k j)
/-- An entry of the derivative of the first weight, column `e` of its block `b`. -/
def dW1 (b : Fin 4) (r e : Fin 2048) : EReal := ∑ k, dW1Row h q k r ⟨b.val * 2048 + e.val, by omega⟩
/-- The cotangent of the MLP's input. -/
def dIn (r : Fin 4096) (d : Fin 2048) : EReal := ∑ j, q (ix2 r j) * wide w d j

/-- A sum over the 8192 columns, block by block. -/
theorem sum_quarters (f : Fin 8192 → EReal) : ∑ k, f k = ∑ k : Fin 2048, f ⟨k.val, by omega⟩ + ∑ k : Fin 2048, f ⟨2048 + k.val, by omega⟩
    + ∑ k : Fin 2048, f ⟨4096 + k.val, by omega⟩ + ∑ k : Fin 2048, f ⟨6144 + k.val, by omega⟩ := by
  have e := Fin.sum_univ_add (a := 6144) (b := 2048) f
  have e' := Fin.sum_univ_add (a := 4096) (b := 2048) fun k => f (Fin.castAdd 2048 k)
  have e'' := Fin.sum_univ_add (a := 2048) (b := 2048) fun k => f (Fin.castAdd 2048 (Fin.castAdd 2048 k))
  exact e.trans (congrArg (· + _) (e'.trans (congrArg (· + _) e'')))

end Cert.Mlp
-- ==== Proof.Mlp2DxArrays.lean ====
module

public import proofs.«01_k».proof.Proof.Mlp
public import proofs.«01_k».proof.Proof.Gen.Mlp2DxIdeal.Value
public import proofs.«01_k».proof.Proof.Gen.Mlp2DxRefIdeal.Run
public import Idealize.ShloMosaic.Lib.Pipeline.ValueKit
public import Idealize.ShloMosaic.Lib.Claim

/-! The cotangent of the MLP's hidden layer: the kernel's result array and the reference's. -/

@[expose] public section
set_option maxRecDepth 16384
noncomputable section
open Idealize.ShloMosaic Idealize.ShloMosaic.TcCoe Idealize.SL.Sem

namespace Cert.Mlp2DxIdeal.Value
open Cert.Mlp2DxIdeal Cert.Mlp2DxIdeal.Gen Cert.Gmlp Cert.Mlp

variable (m : (ℓ : Loc nD τ sig) → Buf (Elt Ideal) ℓ) (c : Dev nD)

theorem idx : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- One entry of the block a point writes. -/
theorem pay_eq (x0 : Vec Ideal S1024x2048 .bf16) (x1 : Vec Ideal S2048x2048 .bf16) (x2 : Vec Ideal S1024x2048 .bf16) :
    k0_pay1 (F := Ideal) x0 x1 x2 = mat fun r j => (∑ k, x0 (ix2 r k) * x1 (ix2 j k)) * (cst 0x40000000#32 * max (x2 (ix2 r j)) 0) := by
  funext y; idx_vars y; pointwise [k0_pay1, mat_ix2]

/-- The hidden layer the call is given. -/
theorem entry10 : V m c main_v10 = mat (hid (m ((c : Thread nD τ).loc main_arg0)) (m ((c : Thread nD τ).loc main_arg1))) := by
  have e : V m c main_v10 = truncf (F := Ideal) (φ := .f32) .bf16 (Host.dotGeneral (φ₁ := .f32) (φ₂ := .f32) dot_S4096x2048_S2048x8192_S4096x8192_1_0_0_1_n_n none
      (m ((c : Thread nD τ).loc main_arg0))
      (concatenate S2048x8192 1 [⟨S2048x2048, shapeCast _ (extractStridedSlice S1x2048x2048 ![0, 0, 0] (m ((c : Thread nD τ).loc main_arg1)) slices_S4x2048x2048_S1x2048x2048_0_0_0) shapeCasts_S1x2048x2048_S2048x2048⟩,
        ⟨S2048x2048, shapeCast _ (extractStridedSlice S1x2048x2048 ![1, 0, 0] (m ((c : Thread nD τ).loc main_arg1)) slices_S4x2048x2048_S1x2048x2048_1_0_0) shapeCasts_S1x2048x2048_S2048x2048⟩,
        ⟨S2048x2048, shapeCast _ (extractStridedSlice S1x2048x2048 ![2, 0, 0] (m ((c : Thread nD τ).loc main_arg1)) slices_S4x2048x2048_S1x2048x2048_2_0_0) shapeCasts_S1x2048x2048_S2048x2048⟩,
        ⟨S2048x2048, shapeCast _ (extractStridedSlice S1x2048x2048 ![3, 0, 0] (m ((c : Thread nD τ).loc main_arg1)) slices_S4x2048x2048_S1x2048x2048_3_0_0) shapeCasts_S1x2048x2048_S2048x2048⟩]
        concatenates_S2048x2048_S2048x2048_S2048x2048_S2048x2048_S2048x8192_d1)) bitsLt_bf16_f32 := by
    show StableHlo.after hostOps0 _ _ = _
    after_results_simp <;> (try dsimp only [Matrix.cons_val]) <;> (try after_results_simp) <;> rfl
  rw [e]
  simp only [wide_eq]
  funext y; idx_vars y; pointwise [mat_ix2, hid]

/-- The kernel's result array. -/
theorem final3 : (dats m 0 c).arrAt 3 cfg0.N = mat (dHid (m ((c : Thread nD τ).loc main_arg0)) (m ((c : Thread nD τ).loc main_arg1))
    (m ((c : Thread nD τ).loc main_arg2)) (m ((c : Thread nD τ).loc main_arg3))) := by
  refine (dats m 0 c).arrAt_eq_of_covers 3 _ (by decide +kernel) fun t hf y => ?_
  have hN : t.val < 16 := lt_of_lt_of_eq t.isLt N_0
  blk_simp
  rw [after0_3]
  idx_vars y
  frame_out
  rw [pay_eq, mat_ix2]
  have e0 : ∀ k, iblk m c 0 t (ix2 y0 k) = m ((c : Thread nD τ).loc main_arg3) (ix2 ⟨t.val / 4 * 1024 + y0.val, by omega⟩ k) := fun k => by
    blk_simp [iblk, idx t]; entry_read; pointwise; blk_point [idx t]
  have e1 : ∀ k, iblk m c 1 t (ix2 y1 k) = m ((c : Thread nD τ).loc main_arg2) (ix2 ⟨t.val % 4 * 2048 + y1.val, by omega⟩ k) := fun k => by
    blk_simp [iblk, idx t]; entry_read; pointwise; blk_point [idx t]
  have e2 : iblk m c 2 t (ix2 y0 y1) = hid (m ((c : Thread nD τ).loc main_arg0)) (m ((c : Thread nD τ).loc main_arg1))
     ⟨t.val / 4 * 1024 + y0.val, by omega⟩ ⟨t.val % 4 * 2048 + y1.val, by omega⟩ := by
    blk_simp [iblk, idx t]; rw [entry10]; exact mat_at _ _ (by blk_simp [idx t]) (by blk_simp [idx t])
  simp only [e0, e1, e2]
  symm
  exact mat_at _ _ (by blk_simp [idx t]) (by blk_simp [idx t])

/-- The run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v13) = mat (dHid (m ((c : Thread nD τ).loc main_arg0)) (m ((c : Thread nD τ).loc main_arg1))
      (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final3 m c), (h c).2⟩) (run_blocks m ρ)

end Cert.Mlp2DxIdeal.Value

namespace Cert.Mlp2DxRefIdeal.Value
open Cert.Mlp2DxRefIdeal Cert.Gmlp Cert.Mlp

variable (m : (ℓ : Loc nD τ sig) → Buf (Elt Ideal) ℓ)

/-- The reference's run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v24) = mat (dHid (m ((c : Thread nD τ).loc main_arg0)) (m ((c : Thread nD τ).loc main_arg1))
      (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (by
    simp only [wide_eq]
    funext y; idx_vars y; pointwise [mat_ix2, dHid, hid]
    exact relu_bwd _ _ _), (h c).2⟩) (run m ρ)

end Cert.Mlp2DxRefIdeal.Value
-- ==== Proof.Mlp2DwArrays.lean ====
module

public import proofs.«01_k».proof.Proof.Mlp
public import proofs.«01_k».proof.Proof.Gen.Mlp2DwIdeal.Value
public import proofs.«01_k».proof.Proof.Gen.Mlp2DwRefIdeal.Run
public import Idealize.ShloMosaic.Lib.Pipeline.ValueKit
public import Idealize.ShloMosaic.Lib.Pipeline.ReadBack
public import Idealize.ShloMosaic.Lib.Claim

/-! The derivative of the MLP's second weight: the kernel's result array and the reference's. -/

@[expose] public section
set_option maxRecDepth 16384
noncomputable section
open Idealize.ShloMosaic Idealize.ShloMosaic.TcCoe Idealize.SL.Sem

namespace Cert.Mlp2DwIdeal.Value
open Cert.Mlp2DwIdeal Cert.Mlp2DwIdeal.Gen Cert.Gmlp Cert.Mlp

variable (m : (ℓ : Loc nD τ sig) → Buf (Elt Ideal) ℓ) (c : Dev nD)

theorem idx : ∀ t : Fin cfg0.N, win0_0.index t = ![t.val % 2, t.val / 2] ∧ win0_1.index t = ![t.val % 2, 0]
    ∧ win0_2.index t = ![t.val / 2 / 4, t.val / 2 % 4, 0] :=
  (by decide +kernel : ∀ t : Fin grid0.N, _)

/-- The part of an entry that one point adds. -/
def part (x0 : Vec Ideal S2048x512 .bf16) (x1 : Vec Ideal S2048x2048 .bf16) (r : Fin 512) (d : Fin 2048) : EReal :=
  ∑ k, max (x0 (ix2 k r)) 0 * max (x0 (ix2 k r)) 0 * x1 (ix2 k d)

theorem pay2_eq (x0 : Vec Ideal S2048x512 .bf16) (x1 : Vec Ideal S2048x2048 .bf16) :
    k0_pay2 (F := Ideal) x0 x1 = mat (part x0 x1) := by
  funext y; idx_vars y; pointwise [k0_pay2, k0_pay1, mat_ix2, part]
theorem pay3_eq (x0 : Vec Ideal S2048x512 .bf16) (x1 : Vec Ideal S2048x2048 .bf16) (acc : Vec Ideal S512x2048 .f32) :
    k0_pay3 (F := Ideal) x0 x1 acc = mat fun r d => acc (ix2 r d) + part x0 x1 r d := by
  funext y; idx_vars y; pointwise [k0_pay3, k0_pay1, mat_ix2, part]
theorem pay4_eq (acc : Vec Ideal S512x2048 .f32) : k0_pay4 (F := Ideal) acc = cube fun _ r d => acc (ix2 r d) := by
  funext y; idx_vars y; pointwise [k0_pay4, cube_ix3]

/-- The hidden layer the call is given. -/
theorem entry10 : V m c main_v10 = mat (hid (m ((c : Thread nD τ).loc main_arg0)) (m ((c : Thread nD τ).loc main_arg1))) := by
  have e : V m c main_v10 = truncf (F := Ideal) (φ := .f32) .bf16 (Host.dotGeneral (φ₁ := .f32) (φ₂ := .f32) dot_S4096x2048_S2048x8192_S4096x8192_1_0_0_1_n_n none
      (m ((c : Thread nD τ).loc main_arg0))
      (concatenate S2048x8192 1 [⟨S2048x2048, shapeCast _ (extractStridedSlice S1x2048x2048 ![0, 0, 0] (m ((c : Thread nD τ).loc main_arg1)) slices_S4x2048x2048_S1x2048x2048_0_0_0) shapeCasts_S1x2048x2048_S2048x2048⟩,
        ⟨S2048x2048, shapeCast _ (extractStridedSlice S1x2048x2048 ![1, 0, 0] (m ((c : Thread nD τ).loc main_arg1)) slices_S4x2048x2048_S1x2048x2048_1_0_0) shapeCasts_S1x2048x2048_S2048x2048⟩,
        ⟨S2048x2048, shapeCast _ (extractStridedSlice S1x2048x2048 ![2, 0, 0] (m ((c : Thread nD τ).loc main_arg1)) slices_S4x2048x2048_S1x2048x2048_2_0_0) shapeCasts_S1x2048x2048_S2048x2048⟩,
        ⟨S2048x2048, shapeCast _ (extractStridedSlice S1x2048x2048 ![3, 0, 0] (m ((c : Thread nD τ).loc main_arg1)) slices_S4x2048x2048_S1x2048x2048_3_0_0) shapeCasts_S1x2048x2048_S2048x2048⟩]
        concatenates_S2048x2048_S2048x2048_S2048x2048_S2048x2048_S2048x8192_d1)) bitsLt_bf16_f32 := by
    show StableHlo.after hostOps0 _ _ = _
    after_results_simp <;> (try dsimp only [Matrix.cons_val]) <;> (try after_results_simp) <;> rfl
  rw [e]
  simp only [wide_eq]
  funext y; idx_vars y; pointwise [mat_ix2, hid]

/-- What a point reads: half of the rows, 512 columns of the hidden layer. -/
theorem part_eq (t : Fin cfg0.N) (r : Fin 512) (d : Fin 2048) : part (iblk m c 0 t) (iblk m c 1 t) r d
    = ∑ k : Fin 2048, dW2Row (m ((c : Thread nD τ).loc main_arg0)) (m ((c : Thread nD τ).loc main_arg1)) (m ((c : Thread nD τ).loc main_arg3))
        ⟨t.val % 2 * 2048 + k.val, by omega⟩ ⟨t.val / 2 * 512 + r.val, by have : t.val < 32 := lt_of_lt_of_eq t.isLt N_0; omega⟩ d := by
  have hN : t.val < 32 := lt_of_lt_of_eq t.isLt N_0
  have e0 : ∀ k, iblk m c 0 t (ix2 k r) = hid (m ((c : Thread nD τ).loc main_arg0)) (m ((c : Thread nD τ).loc main_arg1))
      ⟨t.val % 2 * 2048 + k.val, by omega⟩ ⟨t.val / 2 * 512 + r.val, by omega⟩ := fun k => by
    blk_simp [iblk, idx t]; rw [entry10]; exact mat_at _ _ (by blk_simp [idx t]) (by blk_simp [idx t])
  have e1 : ∀ k, iblk m c 1 t (ix2 k d) = m ((c : Thread nD τ).loc main_arg3) (ix2 ⟨t.val % 2 * 2048 + k.val, by omega⟩ d) := fun k => by
    blk_simp [iblk, idx t]; entry_read; pointwise; blk_point [idx t]
  simp only [part, dW2Row, e0, e1]

/-- The kernel's result array. -/
theorem final : (dats m 0 c).arrAt 2 cfg0.N = cube (dW2 (m ((c : Thread nD τ).loc main_arg0)) (m ((c : Thread nD τ).loc main_arg1))
    (m ((c : Thread nD τ).loc main_arg3))) := by
  refine (dats m 0 c).arrAt_eq_of_covers 2 _ (by decide +kernel) fun t hf y => ?_
  have hN : t.val < 32 := lt_of_lt_of_eq t.isLt N_0
  have hm : t.val % 2 = 1 := (flush0_2 t).mp hf
  blk_simp
  have hp : t.val - 1 < cfg0.N := lt_of_lt_of_eq (by omega : t.val - 1 < 32) N_0.symm
  rw [after0_2, outsAt0_B m c t (by omega) hm hm, outsAt0_A m c ⟨t.val - 1, hp⟩ (by show (t.val - 1) % 2 = 0; omega)
    (by show ¬(t.val - 1) % 2 = 1; omega) (by show ¬(t.val - 1) % 2 = 1; omega)]
  idx_vars y
  frame_out
  rw [pay4_eq, pay3_eq, pay2_eq]
  simp only [cube_ix3, mat_ix2, part_eq]
  rw [read_unread_whole, mat_ix2, part_eq]
  rw [cube_at (a := ⟨t.val / 2 / 4, by omega⟩) (b := ⟨t.val / 2 % 4 * 512 + y1.val, by omega⟩) (d := y2) _ _
    (by blk_simp [idx t]) (by blk_simp [idx t]) (by blk_simp [idx t]), dW2, sum_halves]
  refine congrArg₂ (· + ·) (Finset.sum_congr rfl fun k _ => ?_) (Finset.sum_congr rfl fun k _ => ?_) <;>
    refine congrArg₂ (fun a b => dW2Row _ _ _ a b y2) (Fin.ext ?_) (Fin.ext ?_) <;> simp only <;> omega

/-- The run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v12) = cube (dW2 (m ((c : Thread nD τ).loc main_arg0)) (m ((c : Thread nD τ).loc main_arg1))
      (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.Mlp2DwIdeal.Value

namespace Cert.Mlp2DwRefIdeal.Value
open Cert.Mlp2DwRefIdeal Cert.Gmlp Cert.Mlp

variable (m : (ℓ : Loc nD τ sig) → Buf (Elt Ideal) ℓ)

/-- The reference's run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v24) = cube (dW2 (m ((c : Thread nD τ).loc main_arg0)) (m ((c : Thread nD τ).loc main_arg1))
      (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (by
    simp only [wide_eq]
    funext y; idx_vars y; pointwise [cube_ix3, dW2, dW2Row, hid]
    simp only [mat_ix2]
    exact Finset.sum_congr rfl fun _ _ => mul_comm _ _), (h c).2⟩) (run m ρ)

end Cert.Mlp2DwRefIdeal.Value
-- ==== Proof.Mlp1DwArrays.lean ====
module

public import proofs.«01_k».proof.Proof.Mlp
public import proofs.«01_k».proof.Proof.Gen.Mlp1DwIdeal.Value
public import proofs.«01_k».proof.Proof.Gen.Mlp1DwRefIdeal.Run
public import Idealize.ShloMosaic.Lib.Pipeline.ValueKit
public import Idealize.ShloMosaic.Lib.Pipeline.ReadBack
public import Idealize.ShloMosaic.Lib.Claim

/-! The derivative of the MLP's first weight: the kernel's result array and the reference's. -/

@[expose] public section
set_option maxRecDepth 16384
noncomputable section
open Idealize.ShloMosaic Idealize.ShloMosaic.TcCoe Idealize.SL.Sem

namespace Cert.Mlp1DwIdeal.Value
open Cert.Mlp1DwIdeal Cert.Mlp1DwIdeal.Gen Cert.Gmlp Cert.Mlp

variable (m : (ℓ : Loc nD τ sig) → Buf (Elt Ideal) ℓ) (c : Dev nD)

theorem idx : ∀ t : Fin cfg0.N, win0_0.index t = ![t.val % 2, t.val / 8] ∧ win0_1.index t = ![t.val % 2, t.val / 2 % 4]
    ∧ win0_2.index t = ![t.val / 2 % 4, t.val / 8, 0] :=
  (by decide +kernel : ∀ t : Fin grid0.N, _)

/-- The part of an entry that one point adds. -/
def part (x0 : Vec Ideal S2048x512 .bf16) (x1 : Vec Ideal S2048x2048 .bf16) (r : Fin 512) (d : Fin 2048) : EReal :=
  ∑ k, x0 (ix2 k r) * x1 (ix2 k d)

theorem pay2_eq (x0 : Vec Ideal S2048x512 .bf16) (x1 : Vec Ideal S2048x2048 .bf16) :
    k0_pay2 (F := Ideal) x0 x1 = mat (part x0 x1) := by
  funext y; idx_vars y; pointwise [k0_pay2, k0_pay1, mat_ix2, part]
theorem pay3_eq (x0 : Vec Ideal S2048x512 .bf16) (x1 : Vec Ideal S2048x2048 .bf16) (acc : Vec Ideal S512x2048 .f32) :
    k0_pay3 (F := Ideal) x0 x1 acc = mat fun r d => acc (ix2 r d) + part x0 x1 r d := by
  funext y; idx_vars y; pointwise [k0_pay3, k0_pay1, mat_ix2, part]
theorem pay4_eq (acc : Vec Ideal S512x2048 .f32) : k0_pay4 (F := Ideal) acc = cube fun _ r d => acc (ix2 r d) := by
  funext y; idx_vars y; pointwise [k0_pay4, cube_ix3]

/-- What a point reads: half of the rows, 512 columns of the input and 2048 of the cotangent. -/
theorem part_eq (t : Fin cfg0.N) (r : Fin 512) (d : Fin 2048) : part (iblk m c 0 t) (iblk m c 1 t) r d
    = ∑ k : Fin 2048, dW1Row (m ((c : Thread nD τ).loc main_arg0)) (m ((c : Thread nD τ).loc main_arg2)) ⟨t.val % 2 * 2048 + k.val, by omega⟩
        ⟨t.val / 8 * 512 + r.val, by have : t.val < 32 := lt_of_lt_of_eq t.isLt N_0; omega⟩ ⟨t.val / 2 % 4 * 2048 + d.val, by omega⟩ := by
  have hN : t.val < 32 := lt_of_lt_of_eq t.isLt N_0
  have e0 : ∀ k, iblk m c 0 t (ix2 k r) = m ((c : Thread nD τ).loc main_arg0) (ix2 ⟨t.val % 2 * 2048 + k.val, by omega⟩
      ⟨t.val / 8 * 512 + r.val, by omega⟩) := fun k => by
    blk_simp [iblk, idx t]; entry_read; pointwise; blk_point [idx t]
  have e1 : ∀ k, iblk m c 1 t (ix2 k d) = m ((c : Thread nD τ).loc main_arg2) (ix2 ⟨t.val % 2 * 2048 + k.val, by omega⟩
      ⟨t.val / 2 % 4 * 2048 + d.val, by omega⟩) := fun k => by
    blk_simp [iblk, idx t]; entry_read; pointwise; blk_point [idx t]
  simp only [part, dW1Row, e0, e1]

/-- The kernel's result array. -/
theorem final : (dats m 0 c).arrAt 2 cfg0.N = cube (dW1 (m ((c : Thread nD τ).loc main_arg0)) (m ((c : Thread nD τ).loc main_arg2))) := by
  refine (dats m 0 c).arrAt_eq_of_covers 2 _ (by decide +kernel) fun t hf y => ?_
  have hN : t.val < 32 := lt_of_lt_of_eq t.isLt N_0
  have hm : t.val % 2 = 1 := (flush0_2 t).mp hf
  blk_simp
  have hp : t.val - 1 < cfg0.N := lt_of_lt_of_eq (by omega : t.val - 1 < 32) N_0.symm
  rw [after0_2, outsAt0_B m c t (by omega) hm hm, outsAt0_A m c ⟨t.val - 1, hp⟩ (by show (t.val - 1) % 2 = 0; omega)
    (by show ¬(t.val - 1) % 2 = 1; omega) (by show ¬(t.val - 1) % 2 = 1; omega)]
  idx_vars y
  frame_out
  rw [pay4_eq, pay3_eq, pay2_eq]
  simp only [cube_ix3, mat_ix2, part_eq]
  rw [read_unread_whole, mat_ix2, part_eq]
  rw [cube_at (a := ⟨t.val / 2 % 4, by omega⟩) (b := ⟨t.val / 8 * 512 + y1.val, by omega⟩) (d := y2) _ _
    (by blk_simp [idx t]) (by blk_simp [idx t]) (by blk_simp [idx t]), dW1, sum_halves]
  refine congrArg₂ (· + ·) (Finset.sum_congr rfl fun k _ => ?_) (Finset.sum_congr rfl fun k _ => ?_) <;>
    refine congr (congrArg₂ (dW1Row _ _) (Fin.ext ?_) (Fin.ext ?_)) (Fin.ext ?_) <;> simp only <;> omega

/-- The run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = cube (dW1 (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Mlp1DwIdeal.Value

namespace Cert.Mlp1DwRefIdeal.Value
open Cert.Mlp1DwRefIdeal Cert.Gmlp Cert.Mlp

variable (m : (ℓ : Loc nD τ sig) → Buf (Elt Ideal) ℓ)

/-- The reference's run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v27) = cube (dW1 (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
    funext y; idx_vars y; pointwise [cube_ix3, dW1]
    split_ifs <;> first
      | (exfalso; omega)
      | (simp only [zero_add, add_zero]
         refine Finset.sum_congr rfl fun x _ => (mul_comm _ _).trans
           (congrArg (dW1Row (m ((c : Thread nD τ).loc main_arg0)) (m ((c : Thread nD τ).loc main_arg2)) x y1) (Fin.ext ?_))
         simp only; omega)), (h c).2⟩) (run m ρ)

end Cert.Mlp1DwRefIdeal.Value
-- ==== Proof.Mlp1DxArrays.lean ====
module

public import proofs.«01_k».proof.Proof.Mlp
public import proofs.«01_k».proof.Proof.Gen.Mlp1DxIdeal.Value
public import proofs.«01_k».proof.Proof.Gen.Mlp1DxRefIdeal.Run
public import Idealize.ShloMosaic.Lib.Pipeline.ValueKit
public import Idealize.ShloMosaic.Lib.Claim

/-! The cotangent of the MLP's input: the kernel's result array and the reference's. -/

@[expose] public section
set_option maxRecDepth 16384
noncomputable section
open Idealize.ShloMosaic Idealize.ShloMosaic.TcCoe Idealize.SL.Sem

namespace Cert.Mlp1DxIdeal.Value
open Cert.Mlp1DxIdeal Cert.Mlp1DxIdeal.Gen Cert.Gmlp Cert.Mlp

variable (m : (ℓ : Loc nD τ sig) → Buf (Elt Ideal) ℓ) (c : Dev nD)

theorem idx : ∀ t : Fin cfg0.N, win0_0.index t = ![t.val / 4, 0] ∧ win0_1.index t = ![0, t.val % 4, 0]
    ∧ win0_2.index t = ![1, t.val % 4, 0] ∧ win0_3.index t = ![2, t.val % 4, 0] ∧ win0_4.index t = ![3, t.val % 4, 0]
    ∧ win0_5.index t = ![t.val / 4, t.val % 4] :=
  (by decide +kernel : ∀ t : Fin grid0.N, _)

/-- One entry of the block a point writes: the four products added. -/
theorem pay_eq (a b c d : Vec Ideal S512x2048 .bf16) (a' b' c' d' : Vec Ideal S1x512x2048 .bf16) :
    k0_pay1 (F := Ideal) a a' b b' c c' d d' = mat fun r j => (∑ k, a (ix2 r k) * a' (ix3 0 j k)) + (∑ k, b (ix2 r k) * b' (ix3 0 j k))
      + (∑ k, c (ix2 r k) * c' (ix3 0 j k)) + (∑ k, d (ix2 r k) * d' (ix3 0 j k)) := by
  funext y; idx_vars y; pointwise [k0_pay1, mat_ix2]

/-- The kernel's result array. -/
theorem final : (dats m 0 c).arrAt 5 cfg0.N = mat (dIn (m ((c : Thread nD τ).loc main_arg1)) (m ((c : Thread nD τ).loc main_arg2))) := by
  refine (dats m 0 c).arrAt_eq_of_covers 5 _ (by decide +kernel) fun t hf y => ?_
  have hN : t.val < 32 := lt_of_lt_of_eq t.isLt N_0
  blk_simp
  rw [after0_5]
  idx_vars y
  frame_out
  rw [pay_eq, mat_ix2]
  have a0 : ∀ k, View.ld (iblk m c 0 t) r0_0 (ix2 y0 k) = m ((c : Thread nD τ).loc main_arg2) (ix2 ⟨t.val / 4 * 512 + y0.val, by omega⟩ ⟨k.val, by omega⟩) := fun k => by
    blk_simp [iblk, idx t, r0_0]; entry_read; pointwise; blk_point [idx t]
  have b0 : ∀ k, iblk m c 1 t (ix3 0 y1 k) = m ((c : Thread nD τ).loc main_arg1) (ix3 0 ⟨t.val % 4 * 512 + y1.val, by omega⟩ k) := fun k => by
    blk_simp [iblk, idx t]; entry_read; pointwise; blk_point [idx t]
  have a1 : ∀ k, View.ld (iblk m c 0 t) r0_2 (ix2 y0 k) = m ((c : Thread nD τ).loc main_arg2) (ix2 ⟨t.val / 4 * 512 + y0.val, by omega⟩ ⟨2048 + k.val, by omega⟩) := fun k => by
    blk_simp [iblk, idx t, r0_2]; entry_read; pointwise; blk_point [idx t]
  have b1 : ∀ k, iblk m c 2 t (ix3 0 y1 k) = m ((c : Thread nD τ).loc main_arg1) (ix3 1 ⟨t.val % 4 * 512 + y1.val, by omega⟩ k) := fun k => by
    blk_simp [iblk, idx t]; entry_read; pointwise; blk_point [idx t]
  have a2 : ∀ k, View.ld (iblk m c 0 t) r0_3 (ix2 y0 k) = m ((c : Thread nD τ).loc main_arg2) (ix2 ⟨t.val / 4 * 512 + y0.val, by omega⟩ ⟨4096 + k.val, by omega⟩) := fun k => by
    blk_simp [iblk, idx t, r0_3]; entry_read; pointwise; blk_point [idx t]
  have b2 : ∀ k, iblk m c 3 t (ix3 0 y1 k) = m ((c : Thread nD τ).loc main_arg1) (ix3 2 ⟨t.val % 4 * 512 + y1.val, by omega⟩ k) := fun k => by
    blk_simp [iblk, idx t]; entry_read; pointwise; blk_point [idx t]
  have a3 : ∀ k, View.ld (iblk m c 0 t) r0_4 (ix2 y0 k) = m ((c : Thread nD τ).loc main_arg2) (ix2 ⟨t.val / 4 * 512 + y0.val, by omega⟩ ⟨6144 + k.val, by omega⟩) := fun k => by
    blk_simp [iblk, idx t, r0_4]; entry_read; pointwise; blk_point [idx t]
  have b3 : ∀ k, iblk m c 4 t (ix3 0 y1 k) = m ((c : Thread nD τ).loc main_arg1) (ix3 3 ⟨t.val % 4 * 512 + y1.val, by omega⟩ k) := fun k => by
    blk_simp [iblk, idx t]; entry_read; pointwise; blk_point [idx t]
  rw [mat_at (i := ⟨t.val / 4 * 512 + y0.val, by omega⟩) (j := ⟨t.val % 4 * 512 + y1.val, by omega⟩) _ _
    (by blk_simp [idx t]) (by blk_simp [idx t]), dIn, sum_quarters]
  simp only [a0, a1, a2, a3, b0, b1, b2, b3, wide_blocks]

/-- The run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = mat (dIn (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Mlp1DxIdeal.Value

namespace Cert.Mlp1DxRefIdeal.Value
open Cert.Mlp1DxRefIdeal Cert.Gmlp Cert.Mlp

variable (m : (ℓ : Loc nD τ sig) → Buf (Elt Ideal) ℓ)

/-- The reference's run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v12) = mat (dIn (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
    simp only [wide_eq]
    funext y; idx_vars y; pointwise [mat_ix2, dIn]), (h c).2⟩) (run m ρ)

end Cert.Mlp1DxRefIdeal.Value
-- ==== Proof.Proj.lean ====
module

public import proofs.«01_k».proof.Proof.Mlp

/-! The projections' backward products as functions of the arguments. -/

@[expose] public section
set_option maxRecDepth 16384
noncomputable section
open Idealize.ShloMosaic Idealize.ShloMosaic.TcCoe Idealize.SL.Sem

namespace Cert.Proj
open Cert.Gmlp Cert.Mlp

variable (x : (⟨2, ![4096, 2048]⟩ : Shape).Idx → EReal) (w : (⟨2, ![2048, 2048]⟩ : Shape).Idx → EReal)
  (g : (⟨2, ![4096, 2048]⟩ : Shape).Idx → EReal)

/-- The cotangent of the mixers. -/
def dMix (r : Fin 4096) (d : Fin 2048) : EReal := ∑ k, g (ix2 r k) * w (ix2 d k)
/-- What row `k` adds to the derivative of the output projection at `(r, d)`. -/
def dOutRow (k : Fin 4096) (r d : Fin 2048) : EReal := x (ix2 k r) * g (ix2 k d)
/-- An entry of the derivative of the output projection, row `r` of its block `b`. -/
def dOut (b : Fin 4) (r : Fin 512) (d : Fin 2048) : EReal := ∑ k, dOutRow x g k ⟨b.val * 512 + r.val, by omega⟩ d

variable (u : (⟨3, ![4, 2048, 1092]⟩ : Shape).Idx → EReal) (p : (⟨2, ![4096, 4368]⟩ : Shape).Idx → EReal)

/-- An entry of the input projection, its four blocks side by side. -/
def side (d : Fin 2048) (j : Fin 4368) : EReal := u (ix3 ⟨j.val / 1092, by omega⟩ d ⟨j.val % 1092, by omega⟩)

/-- The four blocks put side by side hold those entries. -/
theorem side_eq (h0 h1 h2 h3 hq hc) : concatenate ⟨2, ![2048, 4368]⟩ 1
    [⟨⟨2, ![2048, 1092]⟩, shapeCast _ (extractStridedSlice ⟨3, ![1, 2048, 1092]⟩ ![0, 0, 0] u h0) hq⟩,
     ⟨⟨2, ![2048, 1092]⟩, shapeCast _ (extractStridedSlice ⟨3, ![1, 2048, 1092]⟩ ![1, 0, 0] u h1) hq⟩,
     ⟨⟨2, ![2048, 1092]⟩, shapeCast _ (extractStridedSlice ⟨3, ![1, 2048, 1092]⟩ ![2, 0, 0] u h2) hq⟩,
     ⟨⟨2, ![2048, 1092]⟩, shapeCast _ (extractStridedSlice ⟨3, ![1, 2048, 1092]⟩ ![3, 0, 0] u h3) hq⟩] hc = mat (side u) := by
  funext j; idx_vars j
  pointwise [mat_ix2, side]
  split_ifs <;> refine congrArg₂ (fun a b => u (ix3 a j0 b)) (Fin.ext ?_) (Fin.ext ?_) <;> simp <;> omega

/-- The integer zero, converted, is zero. -/
theorem int_zero (φ : FTy) : FloatOps.sitofp (F := Ideal) φ 0#32 = 0 := by
  show ((((0#32 : BitVec 32).toInt : ℝ)) : EReal) = 0
  simp

/-- Columns past the last one hold zero. -/
def padded (f : Fin 4368 → EReal) (j : Fin 4608) : EReal := if h : j.val < 4368 then f ⟨j.val, h⟩ else 0

/-- An array of 4096 rows and 4368 columns, padded with the converted integer zero. -/
theorem pad_eq (φ : FTy) (x : (⟨2, ![4096, 4368]⟩ : Shape).Idx → EReal) {z : Shape} (h hu) :
    pad (s := ⟨2, ![4096, 4368]⟩) ⟨2, ![4096, 4608]⟩ ![0, 0] ![0, 240] ![0, 0] x (sitofp (F := Ideal) φ (constantI z 32 0#32)) h hu
      = mat fun k j => padded (fun i => x (ix2 k i)) j := by
  funext y; idx_vars y
  pointwise [mat_ix2, padded]
  split_ifs
  · rfl
  · exact int_zero _

/-- An array of 2048 rows and 4368 columns, padded with the converted integer zero. -/
theorem pad_eq' (φ : FTy) (x : (⟨2, ![2048, 4368]⟩ : Shape).Idx → EReal) {z : Shape} (h hu) :
    pad (s := ⟨2, ![2048, 4368]⟩) ⟨2, ![2048, 4608]⟩ ![0, 0] ![0, 240] ![0, 0] x (sitofp (F := Ideal) φ (constantI z 32 0#32)) h hu
      = mat fun k j => padded (fun i => x (ix2 k i)) j := by
  funext y; idx_vars y
  pointwise [mat_ix2, padded]
  split_ifs
  · rfl
  · exact int_zero _

/-- A sum of products over the padded columns is the sum over the columns themselves. -/
theorem sum_padded (f f' : Fin 4368 → EReal) : ∑ j, padded f j * padded f' j = ∑ j, f j * f' j := by
  have e := Fin.sum_univ_add (a := 4368) (b := 240) fun j => padded f j * padded f' j
  refine e.trans ?_
  rw [Finset.sum_eq_zero (s := (Finset.univ : Finset (Fin 240))), add_zero]
  · exact Finset.sum_congr rfl fun j _ => by simp [padded]
  · exact fun j _ => by simp [padded]

/-- What row `k` adds to the derivative of the input projection at `(r, j)`. -/
def dInpRow (k : Fin 4096) (r : Fin 2048) (j : Fin 4608) : EReal := x (ix2 k r) * padded (fun i => p (ix2 k i)) j
/-- An entry of the derivative of the input projection, with the padded columns. -/
def dInp (r : Fin 2048) (j : Fin 4608) : EReal := ∑ k, dInpRow x p k r j
/-- The cotangent of the layer's normalised input. -/
def dNorm (r : Fin 4096) (d : Fin 2048) : EReal := ∑ j, p (ix2 r j) * side u d j

end Cert.Proj
-- ==== Proof.ProjOutDxArrays.lean ====
module

public import proofs.«01_k».proof.Proof.Proj
public import proofs.«01_k».proof.Proof.Gen.ProjOutDxIdeal.Value
public import proofs.«01_k».proof.Proof.Gen.ProjOutDxRefIdeal.Run
public import Idealize.ShloMosaic.Lib.Pipeline.ValueKit
public import Idealize.ShloMosaic.Lib.Pipeline.ReadBack
public import Idealize.ShloMosaic.Lib.Claim

/-! The cotangent of the mixers: the kernel's result array and the reference's. -/

@[expose] public section
set_option maxRecDepth 16384
noncomputable section
open Idealize.ShloMosaic Idealize.ShloMosaic.TcCoe Idealize.SL.Sem

namespace Cert.ProjOutDxIdeal.Value
open Cert.ProjOutDxIdeal Cert.ProjOutDxIdeal.Gen Cert.Gmlp Cert.Mlp Cert.Proj

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The block a point writes. -/
theorem pay_eq (a : Vec Ideal S1024x2048 .bf16) (b : Vec Ideal S2048x2048 .bf16) :
    k0_pay1 (F := Ideal) a b = mat fun r d => ∑ k, a (ix2 r k) * b (ix2 d k) := by
  funext y; idx_vars y; pointwise [k0_pay1, mat_ix2]

/-- The kernel's result array. -/
theorem final : (dats m 0 c).arrAt 2 cfg0.N = mat (dMix (m ((c : Thread nD τ).loc main_arg1)) (m ((c : Thread nD τ).loc main_arg2))) := by
  refine (dats m 0 c).arrAt_eq_of_covers 2 _ (by decide +kernel) fun t hf y => ?_
  have hN : t.val < 4 := lt_of_lt_of_eq t.isLt N_0
  blk_simp
  rw [after0_2]
  idx_vars y
  frame_out
  rw [pay_eq, mat_ix2]
  have e0 : ∀ k, iblk m c 0 t (ix2 y0 k) = m ((c : Thread nD τ).loc main_arg2) (ix2 ⟨t.val * 1024 + y0.val, by omega⟩ k) := fun k => by
    blk_simp [iblk, idx t]; entry_read; pointwise; blk_point [idx t]
  have e1 : ∀ k, iblk m c 1 t (ix2 y1 k) = m ((c : Thread nD τ).loc main_arg1) (ix2 y1 k) := fun k => by
    blk_simp [iblk, idx t]; entry_read; pointwise; blk_point [idx t]
  simp only [e0, e1]
  symm
  exact mat_at _ _ (by blk_simp [idx t]) (by blk_simp [idx t])

/-- The run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = mat (dMix (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.ProjOutDxIdeal.Value

namespace Cert.ProjOutDxRefIdeal.Value
open Cert.ProjOutDxRefIdeal Cert.Gmlp Cert.Mlp Cert.Proj

variable (m : (ℓ : Loc nD τ sig) → Buf (Elt Ideal) ℓ)

/-- The reference's run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v3) = mat (dMix (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
    funext y; idx_vars y; pointwise [mat_ix2, dMix]), (h c).2⟩) (run m ρ)

end Cert.ProjOutDxRefIdeal.Value
-- ==== Proof.ProjOutDwArrays.lean ====
module

public import proofs.«01_k».proof.Proof.Proj
public import proofs.«01_k».proof.Proof.Gen.ProjOutDwIdeal.Value
public import proofs.«01_k».proof.Proof.Gen.ProjOutDwRefIdeal.Run
public import Idealize.ShloMosaic.Lib.Pipeline.ValueKit
public import Idealize.ShloMosaic.Lib.Pipeline.ReadBack
public import Idealize.ShloMosaic.Lib.Claim

/-! The derivative of the output projection: the kernel's result array and the reference's. -/

@[expose] public section
set_option maxRecDepth 16384
noncomputable section
open Idealize.ShloMosaic Idealize.ShloMosaic.TcCoe Idealize.SL.Sem

namespace Cert.ProjOutDwIdeal.Value
open Cert.ProjOutDwIdeal Cert.ProjOutDwIdeal.Gen Cert.Gmlp Cert.Mlp Cert.Proj

variable (m : (ℓ : Loc nD τ sig) → Buf (Elt Ideal) ℓ) (c : Dev nD)

theorem idx : ∀ t : Fin cfg0.N, win0_0.index t = ![t.val % 2, t.val / 2] ∧ win0_1.index t = ![t.val % 2, 0]
    ∧ win0_2.index t = ![t.val / 2, 0, 0] :=
  (by decide +kernel : ∀ t : Fin grid0.N, _)

/-- The part of an entry that one point adds. -/
def part (x0 : Vec Ideal S2048x512 .bf16) (x1 : Vec Ideal S2048x2048 .bf16) (r : Fin 512) (d : Fin 2048) : EReal :=
  ∑ k, x0 (ix2 k r) * x1 (ix2 k d)

theorem pay2_eq (x0 : Vec Ideal S2048x512 .bf16) (x1 : Vec Ideal S2048x2048 .bf16) :
    k0_pay2 (F := Ideal) x0 x1 = mat (part x0 x1) := by
  funext y; idx_vars y; pointwise [k0_pay2, k0_pay1, mat_ix2, part]
theorem pay3_eq (x0 : Vec Ideal S2048x512 .bf16) (x1 : Vec Ideal S2048x2048 .bf16) (acc : Vec Ideal S512x2048 .f32) :
    k0_pay3 (F := Ideal) x0 x1 acc = mat fun r d => acc (ix2 r d) + part x0 x1 r d := by
  funext y; idx_vars y; pointwise [k0_pay3, k0_pay1, mat_ix2, part]
theorem pay4_eq (acc : Vec Ideal S512x2048 .f32) : k0_pay4 (F := Ideal) acc = cube fun _ r d => acc (ix2 r d) := by
  funext y; idx_vars y; pointwise [k0_pay4, cube_ix3]

/-- What a point reads: half of the rows, 512 columns of the mixers. -/
theorem part_eq (t : Fin cfg0.N) (r : Fin 512) (d : Fin 2048) : part (iblk m c 0 t) (iblk m c 1 t) r d
    = ∑ k : Fin 2048, dOutRow (m ((c : Thread nD τ).loc main_arg0)) (m ((c : Thread nD τ).loc main_arg2)) ⟨t.val % 2 * 2048 + k.val, by omega⟩
        ⟨t.val / 2 * 512 + r.val, by have : t.val < 8 := lt_of_lt_of_eq t.isLt N_0; omega⟩ d := by
  have hN : t.val < 8 := lt_of_lt_of_eq t.isLt N_0
  have e0 : ∀ k, iblk m c 0 t (ix2 k r) = m ((c : Thread nD τ).loc main_arg0) (ix2 ⟨t.val % 2 * 2048 + k.val, by omega⟩
      ⟨t.val / 2 * 512 + r.val, by omega⟩) := fun k => by
    blk_simp [iblk, idx t]; entry_read; pointwise; blk_point [idx t]
  have e1 : ∀ k, iblk m c 1 t (ix2 k d) = m ((c : Thread nD τ).loc main_arg2) (ix2 ⟨t.val % 2 * 2048 + k.val, by omega⟩ d) := fun k => by
    blk_simp [iblk, idx t]; entry_read; pointwise; blk_point [idx t]
  simp only [part, dOutRow, e0, e1]

/-- The kernel's result array. -/
theorem final : (dats m 0 c).arrAt 2 cfg0.N = cube (dOut (m ((c : Thread nD τ).loc main_arg0)) (m ((c : Thread nD τ).loc main_arg2))) := by
  refine (dats m 0 c).arrAt_eq_of_covers 2 _ (by decide +kernel) fun t hf y => ?_
  have hN : t.val < 8 := lt_of_lt_of_eq t.isLt N_0
  have hm : t.val % 2 = 1 := (flush0_2 t).mp hf
  blk_simp
  have hp : t.val - 1 < cfg0.N := lt_of_lt_of_eq (by omega : t.val - 1 < 8) N_0.symm
  rw [after0_2, outsAt0_B m c t (by omega) hm hm, outsAt0_A m c ⟨t.val - 1, hp⟩ (by show (t.val - 1) % 2 = 0; omega)
    (by show ¬(t.val - 1) % 2 = 1; omega) (by show ¬(t.val - 1) % 2 = 1; omega)]
  idx_vars y
  frame_out
  rw [pay4_eq, pay3_eq, pay2_eq]
  simp only [cube_ix3, mat_ix2, part_eq]
  rw [read_unread_whole, mat_ix2, part_eq]
  rw [cube_at (a := ⟨t.val / 2, by omega⟩) (b := y1) (d := y2) _ _
    (by blk_simp [idx t]) (by blk_simp [idx t]) (by blk_simp [idx t]), dOut, sum_halves]
  refine congrArg₂ (· + ·) (Finset.sum_congr rfl fun k _ => ?_) (Finset.sum_congr rfl fun k _ => ?_) <;>
    refine congrArg₂ (fun a b => dOutRow _ _ a b y2) (Fin.ext ?_) (Fin.ext ?_) <;> simp only <;> omega

/-- The run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = cube (dOut (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.ProjOutDwIdeal.Value

namespace Cert.ProjOutDwRefIdeal.Value
open Cert.ProjOutDwRefIdeal Cert.Gmlp Cert.Mlp Cert.Proj

variable (m : (ℓ : Loc nD τ sig) → Buf (Elt Ideal) ℓ)

/-- The reference's run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v4) = cube (dOut (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
    funext y; idx_vars y; pointwise [cube_ix3, dOut, dOutRow]
    exact Finset.sum_congr rfl fun _ _ => mul_comm _ _), (h c).2⟩) (run m ρ)

end Cert.ProjOutDwRefIdeal.Value
-- ==== Proof.ProjInDwArrays.lean ====
module

public import proofs.«01_k».proof.Proof.Proj
public import proofs.«01_k».proof.Proof.Gen.ProjInDwIdeal.Value
public import proofs.«01_k».proof.Proof.Gen.ProjInDwRefIdeal.Run
public import Idealize.ShloMosaic.Lib.Pipeline.ValueKit
public import Idealize.ShloMosaic.Lib.Pipeline.ReadBack
public import Idealize.ShloMosaic.Lib.Claim

/-! The derivative of the input projection: the kernel's result array and the reference's. -/

@[expose] public section
set_option maxRecDepth 16384
noncomputable section
open Idealize.ShloMosaic Idealize.ShloMosaic.TcCoe Idealize.SL.Sem

namespace Cert.ProjInDwIdeal.Value
open Cert.ProjInDwIdeal Cert.ProjInDwIdeal.Gen Cert.Gmlp Cert.Mlp Cert.Proj

variable (m : (ℓ : Loc nD τ sig) → Buf (Elt Ideal) ℓ) (c : Dev nD)

theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The part of an entry that one point adds. -/
def part (x0 : Vec Ideal S2048x512 .bf16) (x1 : Vec Ideal S2048x2304 .bf16) (r : Fin 512) (d : Fin 2304) : EReal :=
  ∑ k, x0 (ix2 k r) * x1 (ix2 k d)

theorem pay2_eq (x0 : Vec Ideal S2048x512 .bf16) (x1 : Vec Ideal S2048x2304 .bf16) :
    k0_pay2 (F := Ideal) x0 x1 = mat (part x0 x1) := by
  funext y; idx_vars y; pointwise [k0_pay2, k0_pay1, mat_ix2, part]
theorem pay3_eq (x0 : Vec Ideal S2048x512 .bf16) (x1 : Vec Ideal S2048x2304 .bf16) (acc : Vec Ideal S512x2304 .f32) :
    k0_pay3 (F := Ideal) x0 x1 acc = mat fun r d => acc (ix2 r d) + part x0 x1 r d := by
  funext y; idx_vars y; pointwise [k0_pay3, k0_pay1, mat_ix2, part]

/-- The padded cotangent as the region finds it. -/
theorem entry_p : V m c main_v2 = mat fun k j => padded (fun i => m ((c : Thread nD τ).loc main_arg2) (ix2 k i)) j := by
  have e : V m c main_v2 = truncf (F := Ideal) (φ := .f32) .bf16 (pad S4096x4608 ![0, 0] ![0, 240] ![0, 0] (m ((c : Thread nD τ).loc main_arg2))
      (sitofp (F := Ideal) .f32 (constantI S_ 32 0#32)) pads_S4096x4368_S4096x4608_000_02400 h_S_) bitsLt_bf16_f32 := by
    show StableHlo.after (List.flatten [hostOps0, hostOps0_1, hostOps0_2]) _ _ = _
    simp only [hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results <;> rfl
  exact e.trans (pad_eq .f32 (m ((c : Thread nD τ).loc main_arg2)) pads_S4096x4368_S4096x4608_000_02400 h_S_)

/-- What a point reads: half of the rows, 512 columns of the input and 2304 of the padded cotangent. -/
theorem part_eq (t : Fin cfg0.N) (r : Fin 512) (d : Fin 2304) : part (iblk m c 0 t) (iblk m c 1 t) r d
    = ∑ k : Fin 2048, dInpRow (m ((c : Thread nD τ).loc main_arg0)) (m ((c : Thread nD τ).loc main_arg2)) ⟨t.val % 2 * 2048 + k.val, by omega⟩
        ⟨t.val / 4 * 512 + r.val, by have : t.val < 16 := lt_of_lt_of_eq t.isLt N_0; omega⟩ ⟨t.val / 2 % 2 * 2304 + d.val, by omega⟩ := by
  have hN : t.val < 16 := lt_of_lt_of_eq t.isLt N_0
  have e0 : ∀ k, iblk m c 0 t (ix2 k r) = m ((c : Thread nD τ).loc main_arg0) (ix2 ⟨t.val % 2 * 2048 + k.val, by omega⟩
      ⟨t.val / 4 * 512 + r.val, by omega⟩) := fun k => by
    blk_simp [iblk, idx t]; entry_read; pointwise; blk_point [idx t]
  have e1 : ∀ k, iblk m c 1 t (ix2 k d) = padded (fun i => m ((c : Thread nD τ).loc main_arg2) (ix2 ⟨t.val % 2 * 2048 + k.val, by omega⟩ i))
      ⟨t.val / 2 % 2 * 2304 + d.val, by omega⟩ := fun k => by
    blk_simp [iblk, idx t]; rw [entry_p]; exact mat_at _ _ (by blk_simp [idx t]) (by blk_simp [idx t])
  simp only [part, dInpRow, e0, e1]

/-- The kernel's result array. -/
theorem final : (dats m 0 c).arrAt 2 cfg0.N = mat (dInp (m ((c : Thread nD τ).loc main_arg0)) (m ((c : Thread nD τ).loc main_arg2))) := by
  refine (dats m 0 c).arrAt_eq_of_covers 2 _ (by decide +kernel) fun t hf y => ?_
  have hN : t.val < 16 := lt_of_lt_of_eq t.isLt N_0
  have hm : t.val % 2 = 1 := (flush0_2 t).mp hf
  blk_simp
  have hp : t.val - 1 < cfg0.N := lt_of_lt_of_eq (by omega : t.val - 1 < 16) N_0.symm
  rw [after0_2, outsAt0_B m c t (by omega) hm hm, outsAt0_A m c ⟨t.val - 1, hp⟩ (by show (t.val - 1) % 2 = 0; omega)
    (by show ¬(t.val - 1) % 2 = 1; omega) (by show ¬(t.val - 1) % 2 = 1; omega)]
  idx_vars y
  frame_out
  rw [pay3_eq, pay2_eq]
  simp only [mat_ix2, part_eq]
  rw [read_unread_whole, mat_ix2, part_eq]
  rw [mat_at (i := ⟨t.val / 4 * 512 + y0.val, by omega⟩) (j := ⟨t.val / 2 % 2 * 2304 + y1.val, by omega⟩) _ _
    (by blk_simp [idx t]) (by blk_simp [idx t]), dInp, sum_halves]
  refine congrArg₂ (· + ·) (Finset.sum_congr rfl fun k _ => ?_) (Finset.sum_congr rfl fun k _ => ?_) <;>
    refine congr (congrArg₂ (dInpRow _ _) (Fin.ext ?_) (Fin.ext ?_)) (Fin.ext ?_) <;> simp only <;> omega

/-- The run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v3) = mat (dInp (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.ProjInDwIdeal.Value

namespace Cert.ProjInDwRefIdeal.Value
open Cert.ProjInDwRefIdeal Cert.Gmlp Cert.Mlp Cert.Proj

variable (m : (ℓ : Loc nD τ sig) → Buf (Elt Ideal) ℓ)

/-- The reference's run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v13) = mat (dInp (m ((c : Thread nD τ).loc main_arg0)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
    refine (pad_eq' .f32 _ _ _).trans ?_
    funext y; idx_vars y; pointwise [mat_ix2, dInp, dInpRow, padded]
    split_ifs
    · exact Finset.sum_congr rfl fun _ _ => mul_comm _ _
    · simp only [mul_zero, Finset.sum_const_zero]), (h c).2⟩) (run m ρ)

end Cert.ProjInDwRefIdeal.Value
-- ==== Proof.ProjInDxArrays.lean ====
module

public import proofs.«01_k».proof.Proof.Proj
public import proofs.«01_k».proof.Proof.Gen.ProjInDxIdeal.Value
public import proofs.«01_k».proof.Proof.Gen.ProjInDxRefIdeal.Run
public import Idealize.ShloMosaic.Lib.Pipeline.ValueKit
public import Idealize.ShloMosaic.Lib.Pipeline.ReadBack
public import Idealize.ShloMosaic.Lib.Claim

/-! The cotangent of the layer's normalised input: the kernel's result array and the reference's. -/

@[expose] public section
set_option maxRecDepth 16384
noncomputable section
open Idealize.ShloMosaic Idealize.ShloMosaic.TcCoe Idealize.SL.Sem

namespace Cert.ProjInDxIdeal.Value
open Cert.ProjInDxIdeal Cert.ProjInDxIdeal.Gen Cert.Gmlp Cert.Mlp Cert.Proj

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The block a point writes. -/
theorem pay_eq (a : Vec Ideal S1024x4608 .bf16) (b : Vec Ideal S512x4608 .bf16) :
    k0_pay1 (F := Ideal) a b = mat fun r d => ∑ k, a (ix2 r k) * b (ix2 d k) := by
  funext y; idx_vars y; pointwise [k0_pay1, mat_ix2]

/-- The padded cotangent as the region finds it. -/
theorem entry_p : V m c main_v1 = mat fun k j => padded (fun i => m ((c : Thread nD τ).loc main_arg2) (ix2 k i)) j := by
  have e : V m c main_v1 = truncf (F := Ideal) (φ := .f32) .bf16 (pad S4096x4608 ![0, 0] ![0, 240] ![0, 0] (m ((c : Thread nD τ).loc main_arg2))
      (sitofp (F := Ideal) .f32 (constantI S_ 32 0#32)) pads_S4096x4368_S4096x4608_000_02400 h_S_) bitsLt_bf16_f32 := by
    show StableHlo.after (List.flatten [hostOps0, hostOps0_1, hostOps0_2, hostOps0_3]) _ _ = _
    simp only [hostOps0, hostOps0_1, hostOps0_2, hostOps0_3, List.flatten_cons, List.flatten_nil, List.append_nil, List.cons_append, List.nil_append,
      StableHlo.TRef.binary, StableHlo.TRef.unary, StableHlo.TRef.toBuf, StableHlo.TRef.ofBuf, cast_eq]
    after_results <;> rfl
  exact e.trans (pad_eq .f32 (m ((c : Thread nD τ).loc main_arg2)) pads_S4096x4368_S4096x4608_000_02400 h_S_)

/-- The padded blocks of the input projection as the region finds them. -/
theorem entry_w : V m c main_v5 = mat fun d j => padded (side (m ((c : Thread nD τ).loc main_arg1)) d) j := by
  have e : V m c main_v5 = pad S2048x4608 ![0, 0] ![0, 240] ![0, 0] (shapeCast S2048x4368 (transpose S2048x4x1092 [1, 0, 2]
      (truncf (F := Ideal) (φ := .f32) .bf16 (m ((c : Thread nD τ).loc main_arg1)) bitsLt_bf16_f32) transposes_S4x2048x1092_S2048x4x1092_1_0_2)
      shapeCasts_S2048x4x1092_S2048x4368) (sitofp (F := Ideal) .bf16 (constantI S_ 32 0#32)) pads_S2048x4368_S2048x4608_000_02400 h_S_ := by
    show StableHlo.after (List.flatten [hostOps0, hostOps0_1, hostOps0_2, hostOps0_3]) _ _ = _
    simp only [hostOps0, hostOps0_1, hostOps0_2, hostOps0_3, List.flatten_cons, List.flatten_nil, List.append_nil, List.cons_append, List.nil_append,
      StableHlo.TRef.binary, StableHlo.TRef.unary, StableHlo.TRef.toBuf, StableHlo.TRef.ofBuf, cast_eq]
    after_results <;> rfl
  refine e.trans ((pad_eq' .bf16 _ _ _).trans ?_)
  funext y; idx_vars y; pointwise [mat_ix2, padded, side]

/-- The kernel's result array. -/
theorem final : (dats m 0 c).arrAt 2 cfg0.N = mat (dNorm (m ((c : Thread nD τ).loc main_arg1)) (m ((c : Thread nD τ).loc main_arg2))) := by
  refine (dats m 0 c).arrAt_eq_of_covers 2 _ (by decide +kernel) fun t hf y => ?_
  have hN : t.val < 16 := lt_of_lt_of_eq t.isLt N_0
  blk_simp
  rw [after0_2]
  idx_vars y
  frame_out
  rw [pay_eq, mat_ix2]
  have e0 : ∀ k, iblk m c 0 t (ix2 y0 k) = padded (fun i => m ((c : Thread nD τ).loc main_arg2) (ix2 ⟨t.val / 4 * 1024 + y0.val, by omega⟩ i)) k := fun k => by
    blk_simp [iblk, idx t]; rw [entry_p]; exact mat_at _ _ (by blk_simp [idx t]) (by blk_simp [idx t])
  have e1 : ∀ k, iblk m c 1 t (ix2 y1 k) = padded (side (m ((c : Thread nD τ).loc main_arg1)) ⟨t.val % 4 * 512 + y1.val, by omega⟩) k := fun k => by
    blk_simp [iblk, idx t]; rw [entry_w]; exact mat_at _ _ (by blk_simp [idx t]) (by blk_simp [idx t])
  simp only [e0, e1, sum_padded]
  symm
  exact mat_at _ _ (by blk_simp [idx t]) (by blk_simp [idx t])

/-- The run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v6) = mat (dNorm (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.ProjInDxIdeal.Value

namespace Cert.ProjInDxRefIdeal.Value
open Cert.ProjInDxRefIdeal Cert.Gmlp Cert.Mlp Cert.Proj

variable (m : (ℓ : Loc nD τ sig) → Buf (Elt Ideal) ℓ)

/-- The reference's run, its result array named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v12) = mat (dNorm (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
    simp only [side_eq]
    funext y; idx_vars y; pointwise [mat_ix2, dNorm]), (h c).2⟩) (run m ρ)

end Cert.ProjInDxRefIdeal.Value
-- ==== Proof.Fwd.lean ====
module

public import proofs.«01_k».proof.Proof.Proj

/-! The forward products, the gate and the adaLN norm as functions of the arguments. -/

@[expose] public section
set_option maxRecDepth 16384
noncomputable section
open Idealize.ShloMosaic Idealize.ShloMosaic.TcCoe Idealize.SL.Sem

namespace Cert.Fwd
open Cert.Gmlp Cert.Mlp Cert.Proj

variable (x : (⟨2, ![4096, 2048]⟩ : Shape).Idx → EReal) (u : (⟨3, ![4, 2048, 1092]⟩ : Shape).Idx → EReal)
  (w : (⟨2, ![2048, 2048]⟩ : Shape).Idx → EReal) (q : (⟨2, ![4096, 8192]⟩ : Shape).Idx → EReal)
  (v : (⟨2, ![8192, 2048]⟩ : Shape).Idx → EReal) (s : (⟨3, ![2, 2048, 2048]⟩ : Shape).Idx → EReal)
  (g : (⟨2, ![2, 2048]⟩ : Shape).Idx → EReal)

/-- An entry of the combined projection, with the padded columns. -/
def inp (r : Fin 4096) (j : Fin 4608) : EReal := padded (fun i => ∑ k, x (ix2 r k) * side u k i) j
/-- An entry of the output projection. -/
def outp (r : Fin 4096) (d : Fin 2048) : EReal := ∑ k, x (ix2 r k) * w (ix2 k d)
/-- An entry of the MLP's second product, over the squares of the positive parts. -/
def mlpOut (r : Fin 4096) (d : Fin 2048) : EReal := ∑ k, max (q (ix2 r k)) 0 * max (q (ix2 r k)) 0 * v (ix2 k d)
/-- The residual stream after a gated sub-layer, the tokens of both sequences one after the other. -/
def resid (y : Fin 4096 → Fin 2048 → EReal) (r : Fin 4096) (d : Fin 2048) : EReal :=
  s (ix3 ⟨r.val / 2048, by omega⟩ ⟨r.val % 2048, by omega⟩ d) + g (ix2 ⟨r.val / 2048, by omega⟩ d) * y r d

/-- The product with a padded column is the padded product. -/
theorem inp_eq (r : Fin 4096) (j : Fin 4608) : ∑ k, x (ix2 r k) * padded (side u k) j = inp x u r j := by
  unfold inp padded
  split_ifs
  · rfl
  · simp only [mul_zero, Finset.sum_const_zero]

variable (dx y : (⟨3, ![2, 2048, 2048]⟩ : Shape).Idx → EReal)

/-- The cotangent of the sub-layer's output. -/
def dSub (b : Fin 2) (r d : Fin 2048) : EReal := dx (ix3 b r d) * g (ix2 b d)
/-- The cotangent of the gate. -/
def dGate (b : Fin 2) (_ : Fin 1) (d : Fin 2048) : EReal := ∑ r, dx (ix3 b r d) * y (ix3 b r d)

/-- A sum over 2048 rows, tile by tile. -/
theorem sum_tiles (f : Fin 2048 → EReal) : ∑ k, f k = ∑ k : Fin 512, f ⟨k.val, by omega⟩ + ∑ k : Fin 512, f ⟨512 + k.val, by omega⟩
    + ∑ k : Fin 512, f ⟨1024 + k.val, by omega⟩ + ∑ k : Fin 512, f ⟨1536 + k.val, by omega⟩ := by
  have e := Fin.sum_univ_add (a := 1536) (b := 512) f
  have e' := Fin.sum_univ_add (a := 1024) (b := 512) fun k => f (Fin.castAdd 512 k)
  have e'' := Fin.sum_univ_add (a := 512) (b := 512) fun k => f (Fin.castAdd 512 (Fin.castAdd 512 k))
  exact e.trans (congrArg (· + _) (e'.trans (congrArg (· + _) e'')))

/-- An entry of the adaLN norm of a row. -/
def lnRow (a : Fin 2048 → EReal) (n sc sh : EReal) (d : Fin 2048) : EReal :=
  a d * Ideal.rsqrt (Ideal.div (∑ k, a k * a k) (Ideal.ofBits .f32 0x45000000#32) + Ideal.ofBits .f32 0x358637BD#32) * n
    * (1 + sc) + sh

variable (n : (⟨1, ![2048]⟩ : Shape).Idx → EReal) (sc sh : (⟨2, ![2, 2048]⟩ : Shape).Idx → EReal)
/-- An entry of the adaLN norm. -/
def adaNorm (b : Fin 2) (r d : Fin 2048) : EReal := lnRow (fun k => y (ix3 b r k)) (n (ix1 d)) (sc (ix2 b d)) (sh (ix2 b d)) d

end Cert.Fwd
-- ==== Proof.GateBwdArrays.lean ====
module

public import proofs.«01_k».proof.Proof.Fwd
public import proofs.«01_k».proof.Proof.Gen.GateBwdIdeal.Value
public import proofs.«01_k».proof.Proof.Gen.GateBwdRefIdeal.Run
public import Idealize.ShloMosaic.Lib.Pipeline.ValueKit
public import Idealize.ShloMosaic.Lib.Pipeline.ReadBack
public import Idealize.ShloMosaic.Lib.Claim

/-! The gate's backward pass: the kernel's result arrays and the reference's. -/

@[expose] public section
set_option maxRecDepth 16384
noncomputable section
open Idealize.ShloMosaic Idealize.ShloMosaic.TcCoe Idealize.SL.Sem

namespace Cert.GateBwdIdeal.Value
open Cert.GateBwdIdeal Cert.GateBwdIdeal.Gen Cert.Gmlp Cert.Mlp Cert.Proj Cert.Fwd

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, 0, 0] ∧ win0_3.index t = ![t.val / 4, t.val % 4, 0] ∧ win0_4.index t = ![t.val / 4, 0, 0] :=
  (by decide +kernel : ∀ t : Fin grid0.N, _)

/-- The sub-layer's cotangent, per block. -/
theorem pay2_eq (a : Vec Ideal S1x512x2048 .f32) (g : Vec Ideal S1x1x2048 .f32) :
    k0_pay2 (F := Ideal) a g = cube fun _ r d => a (ix3 0 r d) * g (ix3 0 0 d) := by
  funext y; idx_vars y; pointwise [k0_pay2, k0_pay1, cube_ix3]
/-- The first tile's sum. -/
theorem pay4_eq (a b : Vec Ideal S1x512x2048 .f32) :
    k0_pay4 (F := Ideal) a b = cube fun _ _ d => ∑ k : Fin 512, a (ix3 0 k d) * b (ix3 0 k d) := by
  funext y; idx_vars y; pointwise [k0_pay4, k0_pay3, k0_pay1, cube_ix3]
/-- A later tile's sum, added. -/
theorem pay5_eq (a b : Vec Ideal S1x512x2048 .f32) (p : Vec Ideal S1x1x2048 .f32) :
    k0_pay5 (F := Ideal) a b p = cube fun _ _ d => p (ix3 0 0 d) + ∑ k : Fin 512, a (ix3 0 k d) * b (ix3 0 k d) := by
  funext y; idx_vars y; pointwise [k0_pay5, k0_pay3, k0_pay1, cube_ix3]

variable (t : Fin cfg0.N) (hN : t.val < 8)
include hN
theorem e0 (r : Fin 512) (d : Fin 2048) : iblk m c 0 t (ix3 0 r d) = (m ((c : Thread nD τ).loc main_arg0)) (ix3 ⟨t.val / 4, by omega⟩ ⟨t.val % 4 * 512 + r.val, by omega⟩ d) := by
    blk_simp [iblk, idx t]; entry_read; pointwise; blk_point [idx t]
theorem e1 (r : Fin 512) (d : Fin 2048) : iblk m c 1 t (ix3 0 r d) = (m ((c : Thread nD τ).loc main_arg1)) (ix3 ⟨t.val / 4, by omega⟩ ⟨t.val % 4 * 512 + r.val, by omega⟩ d) := by
    blk_simp [iblk, idx t]; entry_read; pointwise; blk_point [idx t]
theorem e2 (d : Fin 2048) : iblk m c 2 t (ix3 0 0 d) = (m ((c : Thread nD τ).loc main_arg2)) (ix2 ⟨t.val / 4, by omega⟩ d) := by
    blk_simp [iblk, idx t]; entry_read; pointwise; blk_point [idx t]
omit hN

/-- What the first tile leaves. -/
theorem out_A (h : t.val % 4 = 0) : (outsAt0 m c t.val t.isLt).2 =
    k0_pay4 (F := Ideal) (iblk m c 0 t) (iblk m c 1 t) := by
  rw [outsAt0_A m c t h (by omega)]
  frame_out
/-- What a later tile leaves. -/
theorem out_B (h : 1 ≤ t.val % 4) : (outsAt0 m c t.val t.isLt).2 =
    k0_pay5 (F := Ideal) (iblk m c 0 t) (iblk m c 1 t) (outsAt0 m c (t.val - 1) (Nat.lt_of_le_of_lt (Nat.sub_le _ _) t.isLt)).2 := by
  rw [outsAt0_B m c t (by omega) h]
  frame_out

/-- The sub-layer's cotangent. -/
theorem final3 : (dats m 0 c).arrAt 3 cfg0.N = cube (dSub (m ((c : Thread nD τ).loc main_arg2)) (m ((c : Thread nD τ).loc main_arg0))) := by
  refine (dats m 0 c).arrAt_eq_of_covers 3 _ (by decide +kernel) fun t hf y => ?_
  have hN : t.val < 8 := lt_of_lt_of_eq t.isLt N_0
  blk_simp
  rw [after0_3]
  have key : (outsAt0 m c t.val t.isLt).1 = k0_pay2 (F := Ideal) (iblk m c 0 t) (iblk m c 2 t) := by
    by_cases h : t.val % 4 = 0
    · rw [outsAt0_A m c t h (by omega)]
      frame_out
    · rw [outsAt0_B m c t h (by omega)]
      frame_out
  rw [key, pay2_eq]
  idx_vars y
  rw [cube_ix3]
  simp only [e0 m c t hN, e2 m c t hN]
  exact (cube_at (dSub _ _) _ (a := ⟨t.val / 4, by omega⟩) (b := ⟨t.val % 4 * 512 + y1.val, by omega⟩) (d := y2) (by blk_simp [idx t]) (by blk_simp [idx t]) (by blk_simp [idx t])).symm

/-- The gate's cotangent. -/
theorem final4 : (dats m 0 c).arrAt 4 cfg0.N = cube (dGate (m ((c : Thread nD τ).loc main_arg0)) (m ((c : Thread nD τ).loc main_arg1))) := by
  refine (dats m 0 c).arrAt_eq_of_covers 4 _ (by decide +kernel) fun t hf y => ?_
  have hN : t.val < 8 := lt_of_lt_of_eq t.isLt N_0
  blk_simp
  have hm : t.val % 4 = 3 := (flush0_4 t).mp hf
  rw [after0_4]
  have h2 : t.val - 1 < cfg0.N := lt_of_le_of_lt (Nat.sub_le _ _) t.isLt
  have h1 : t.val - 1 - 1 < cfg0.N := lt_of_le_of_lt (Nat.sub_le _ _) h2
  have h0 : t.val - 1 - 1 - 1 < cfg0.N := lt_of_le_of_lt (Nat.sub_le _ _) h1
  rw [out_B m c t (by omega), out_B m c ⟨t.val - 1, h2⟩ (by dsimp only; omega), out_B m c ⟨t.val - 1 - 1, h1⟩ (by dsimp only; omega),
    out_A m c ⟨t.val - 1 - 1 - 1, h0⟩ (by dsimp only; omega)]
  idx_vars y
  simp only [pay4_eq, pay5_eq, cube_ix3]
  simp only [e0 m c t hN, e1 m c t hN, e0 m c ⟨t.val - 1, h2⟩ (by dsimp only; omega), e1 m c ⟨t.val - 1, h2⟩ (by dsimp only; omega),
    e0 m c ⟨t.val - 1 - 1, h1⟩ (by dsimp only; omega), e1 m c ⟨t.val - 1 - 1, h1⟩ (by dsimp only; omega),
    e0 m c ⟨t.val - 1 - 1 - 1, h0⟩ (by dsimp only; omega), e1 m c ⟨t.val - 1 - 1 - 1, h0⟩ (by dsimp only; omega)]
  have d1 : (t.val - 1) / 4 = t.val / 4 := by omega
  have d2 : (t.val - 1 - 1) / 4 = t.val / 4 := by omega
  have d3 : (t.val - 1 - 1 - 1) / 4 = t.val / 4 := by omega
  have r1 : (t.val - 1) % 4 = 2 := by omega
  have r2 : (t.val - 1 - 1) % 4 = 1 := by omega
  have r3 : (t.val - 1 - 1 - 1) % 4 = 0 := by omega
  simp only [d1, d2, d3, hm, r1, r2, r3]
  refine Eq.trans ?_ (cube_at (dGate _ _) _ (a := ⟨t.val / 4, by omega⟩) (b := y1) (d := y2) (by blk_simp [idx t]) (by blk_simp [idx t]) (by blk_simp [idx t])).symm
  unfold dGate
  rw [sum_tiles]
  simp

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v1_0) = cube (dSub (m ((c : Thread nD τ).loc main_arg2)) (m ((c : Thread nD τ).loc main_arg0)))
      ∧ r.2.mem ((c : Thread nD τ).loc main_v1_1) = cube (dGate (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2⟩) (run_blocks m ρ)

end Cert.GateBwdIdeal.Value

namespace Cert.GateBwdRefIdeal.Value
open Cert.GateBwdRefIdeal Cert.Gmlp Cert.Mlp Cert.Proj Cert.Fwd

variable (m : (ℓ : Loc nD τ sig) → Buf (Elt Ideal) ℓ)

/-- The reference's run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v9) = cube (dSub (m ((c : Thread nD τ).loc main_arg2)) (m ((c : Thread nD τ).loc main_arg0)))
      ∧ r.2.mem ((c : Thread nD τ).loc main_v10) = cube (dGate (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
    funext y; idx_vars y; pointwise [cube_ix3, dSub]; exact mul_comm _ _),
    (h c).2.1.trans (by
    funext y; idx_vars y; pointwise [cube_ix3, dGate]; simp), (h c).2.2⟩) (run m ρ)

end Cert.GateBwdRefIdeal.Value
-- ==== Proof.ProjInArrays.lean ====
module

public import proofs.«01_k».proof.Proof.Fwd
public import proofs.«01_k».proof.Proof.Gen.ProjInIdeal.Value
public import proofs.«01_k».proof.Proof.Gen.ProjInRefIdeal.Run
public import Idealize.ShloMosaic.Lib.Pipeline.ValueKit
public import Idealize.ShloMosaic.Lib.Pipeline.ReadBack
public import Idealize.ShloMosaic.Lib.Claim

/-! The combined projection: the kernel's result array and the reference's. -/

@[expose] public section
set_option maxRecDepth 16384
noncomputable section
open Idealize.ShloMosaic Idealize.ShloMosaic.TcCoe Idealize.SL.Sem

namespace Cert.ProjInIdeal.Value
open Cert.ProjInIdeal Cert.ProjInIdeal.Gen Cert.Gmlp Cert.Mlp Cert.Proj Cert.Fwd

variable (m : (ℓ : Loc nD τ sig) → Buf (Elt Ideal) ℓ) (c : Dev nD)

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The block a point writes. -/
theorem pay_eq (a : Vec Ideal S1024x2048 .bf16) (b : Vec Ideal S2048x1536 .bf16) :
    k0_pay1 (F := Ideal) a b = mat fun r d => ∑ k, a (ix2 r k) * b (ix2 k d) := by
  funext y; idx_vars y; pointwise [k0_pay1, mat_ix2]

/-- The padded blocks of the input projection as the region finds them. -/
theorem entry_w : V m c main_v4 = mat fun d j => padded (side (m ((c : Thread nD τ).loc main_arg1)) d) j := by
  have e : V m c main_v4 = pad S2048x4608 ![0, 0] ![0, 240] ![0, 0] (shapeCast S2048x4368 (transpose S2048x4x1092 [1, 0, 2]
      (truncf (F := Ideal) (φ := .f32) .bf16 (m ((c : Thread nD τ).loc main_arg1)) bitsLt_bf16_f32) transposes_S4x2048x1092_S2048x4x1092_1_0_2)
      shapeCasts_S2048x4x1092_S2048x4368) (sitofp (F := Ideal) .bf16 (constantI S_ 32 0#32)) pads_S2048x4368_S2048x4608_000_02400 h_S_ := by
    show StableHlo.after (List.flatten [hostOps0, hostOps0_1]) _ _ = _
    simp only [hostOps0, hostOps0_1, List.flatten_cons, List.flatten_nil, List.append_nil, List.cons_append, List.nil_append,
      StableHlo.TRef.binary, StableHlo.TRef.unary, StableHlo.TRef.toBuf, StableHlo.TRef.ofBuf, cast_eq]
    after_results <;> rfl
  refine e.trans ((pad_eq' .bf16 _ _ _).trans ?_)
  funext y; idx_vars y; pointwise [mat_ix2, padded, side]

/-- The kernel's result array. -/
theorem final : (dats m 0 c).arrAt 2 cfg0.N = mat (inp (m ((c : Thread nD τ).loc main_arg0)) (m ((c : Thread nD τ).loc main_arg1))) := by
  refine (dats m 0 c).arrAt_eq_of_covers 2 _ (by decide +kernel) fun t hf y => ?_
  have hN : t.val < 12 := lt_of_lt_of_eq t.isLt N_0
  blk_simp
  rw [after0_2]
  idx_vars y
  frame_out
  rw [pay_eq, mat_ix2]
  have e0 : ∀ k, iblk m c 0 t (ix2 y0 k) = (m ((c : Thread nD τ).loc main_arg0)) (ix2 ⟨t.val / 3 * 1024 + y0.val, by omega⟩ k) := fun k => by
    blk_simp [iblk, idx t]; entry_read; pointwise; blk_point [idx t]
  have e1 : ∀ k, iblk m c 1 t (ix2 k y1) = padded (side (m ((c : Thread nD τ).loc main_arg1)) k) ⟨t.val % 3 * 1536 + y1.val, by omega⟩ := fun k => by
    blk_simp [iblk, idx t]; rw [entry_w]; exact mat_at _ _ (by blk_simp [idx t]) (by blk_simp [idx t])
  simp only [e0, e1, inp_eq]
  symm
  exact mat_at _ _ (by blk_simp [idx t]) (by blk_simp [idx t])

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v5) = mat (inp (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.ProjInIdeal.Value

namespace Cert.ProjInRefIdeal.Value
open Cert.ProjInRefIdeal Cert.Gmlp Cert.Mlp Cert.Proj Cert.Fwd

variable (m : (ℓ : Loc nD τ sig) → Buf (Elt Ideal) ℓ)

/-- The reference's run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v10) = mat (inp (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (by
    refine (pad_eq .f32 _ _ _).trans ?_
    simp only [side_eq]
    funext y; idx_vars y; pointwise [mat_ix2, inp]), (h c).2⟩) (run m ρ)

end Cert.ProjInRefIdeal.Value
-- ==== Proof.ProjOutArrays.lean ====
module

public import proofs.«01_k».proof.Proof.Fwd
public import proofs.«01_k».proof.Proof.Gen.ProjOutIdeal.Value
public import proofs.«01_k».proof.Proof.Gen.ProjOutRefIdeal.Run
public import Idealize.ShloMosaic.Lib.Pipeline.ValueKit
public import Idealize.ShloMosaic.Lib.Pipeline.ReadBack
public import Idealize.ShloMosaic.Lib.Claim

/-! The output projection and the residual stream after it: the kernel's result arrays and the reference's. -/

@[expose] public section
set_option maxRecDepth 16384
noncomputable section
open Idealize.ShloMosaic Idealize.ShloMosaic.TcCoe Idealize.SL.Sem

namespace Cert.ProjOutIdeal.Value
open Cert.ProjOutIdeal Cert.ProjOutIdeal.Gen Cert.Gmlp Cert.Mlp Cert.Proj Cert.Fwd

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] ∧ win0_3.index t = ![t.val / 4, 0, t.val % 2] ∧ win0_4.index t = ![t.val / 2, t.val % 2] ∧ win0_5.index t = ![t.val / 2, t.val % 2] :=
  (by decide +kernel : ∀ t : Fin grid0.N, _)

/-- The block of products a point writes. -/
theorem pay1_eq (a : Vec Ideal S1024x2048 .bf16) (b : Vec Ideal S2048x1024 .bf16) :
    k0_pay1 (F := Ideal) a b = mat fun r d => ∑ k, a (ix2 r k) * b (ix2 k d) := by
  funext y; idx_vars y; pointwise [k0_pay1, mat_ix2]
/-- The block of the residual stream a point writes. -/
theorem pay2_eq (a : Vec Ideal S1024x2048 .bf16) (b : Vec Ideal S2048x1024 .bf16) (s : Vec Ideal S1024x1024 .f32) (g : Vec Ideal S1x1x1024 .f32) :
    k0_pay2 (F := Ideal) a b s g = mat fun r d => s (ix2 r d) + g (ix3 0 0 d) * ∑ k, a (ix2 r k) * b (ix2 k d) := by
  funext y; idx_vars y; pointwise [k0_pay2, pay1_eq, mat_ix2]

variable (t : Fin cfg0.N) (hN : t.val < 8)
include hN
theorem e0 (r : Fin 1024) (k) : iblk m c 0 t (ix2 r k) = (m ((c : Thread nD τ).loc main_arg0)) (ix2 ⟨t.val / 2 * 1024 + r.val, by omega⟩ k) := by
    blk_simp [iblk, idx t]; entry_read; pointwise; blk_point [idx t]
theorem e1 (k) (d : Fin 1024) : iblk m c 1 t (ix2 k d) = (m ((c : Thread nD τ).loc main_arg1)) (ix2 k ⟨t.val % 2 * 1024 + d.val, by omega⟩) := by
    blk_simp [iblk, idx t]; entry_read; pointwise; blk_point [idx t]
theorem e2 (r : Fin 1024) (d : Fin 1024) : iblk m c 2 t (ix2 r d) = (m ((c : Thread nD τ).loc main_arg2)) (ix3 ⟨(t.val / 2 * 1024 + r.val) / 2048, by omega⟩
    ⟨(t.val / 2 * 1024 + r.val) % 2048, by omega⟩ ⟨t.val % 2 * 1024 + d.val, by omega⟩) := by
    blk_simp [iblk, idx t]; entry_read; pointwise; blk_point [idx t]
theorem e3 (r : Fin 1024) (d : Fin 1024) : iblk m c 3 t (ix3 0 0 d) = (m ((c : Thread nD τ).loc main_arg3)) (ix2 ⟨(t.val / 2 * 1024 + r.val) / 2048, by omega⟩
    ⟨t.val % 2 * 1024 + d.val, by omega⟩) := by
    blk_simp [iblk, idx t]; entry_read; pointwise; blk_point [idx t]
omit hN

/-- The products. -/
theorem final4 : (dats m 0 c).arrAt 4 cfg0.N = mat (outp (m ((c : Thread nD τ).loc main_arg0)) (m ((c : Thread nD τ).loc main_arg1))) := by
  refine (dats m 0 c).arrAt_eq_of_covers 4 _ (by decide +kernel) fun t hf y => ?_
  have hN : t.val < 8 := lt_of_lt_of_eq t.isLt N_0
  blk_simp
  rw [after0_4]
  idx_vars y
  frame_out
  rw [pay1_eq, mat_ix2]
  simp only [e0 m c t hN, e1 m c t hN]
  symm
  exact mat_at _ _ (by blk_simp [idx t]) (by blk_simp [idx t])

/-- The residual stream. -/
theorem final5 : (dats m 0 c).arrAt 5 cfg0.N = mat (resid (m ((c : Thread nD τ).loc main_arg2)) (m ((c : Thread nD τ).loc main_arg3)) (outp (m ((c : Thread nD τ).loc main_arg0)) (m ((c : Thread nD τ).loc main_arg1)))) := by
  refine (dats m 0 c).arrAt_eq_of_covers 5 _ (by decide +kernel) fun t hf y => ?_
  have hN : t.val < 8 := lt_of_lt_of_eq t.isLt N_0
  blk_simp
  rw [after0_5]
  idx_vars y
  frame_out
  rw [pay2_eq, mat_ix2]
  simp only [e0 m c t hN, e1 m c t hN, e2 m c t hN, e3 m c t hN y0]
  symm
  show _ = resid _ _ (outp _ _) (⟨t.val / 2 * 1024 + y0.val, by omega⟩ : Fin 4096) (⟨t.val % 2 * 1024 + y1.val, by omega⟩ : Fin 2048)
  exact mat_at _ _ (by blk_simp [idx t]) (by blk_simp [idx t])

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v4_0) = mat (outp (m ((c : Thread nD τ).loc main_arg0)) (m ((c : Thread nD τ).loc main_arg1)))
      ∧ r.2.mem ((c : Thread nD τ).loc main_v4_1) = mat (resid (m ((c : Thread nD τ).loc main_arg2)) (m ((c : Thread nD τ).loc main_arg3)) (outp (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

end Cert.ProjOutIdeal.Value

namespace Cert.ProjOutRefIdeal.Value
open Cert.ProjOutRefIdeal Cert.Gmlp Cert.Mlp Cert.Proj Cert.Fwd

variable (m : (ℓ : Loc nD τ sig) → Buf (Elt Ideal) ℓ)

/-- The residual sum, flattened. -/
theorem res_eq (s : Vec Ideal S2x2048x2048 .f32) (g : Vec Ideal S2x2048 .f32) (f : Fin 4096 → Fin 2048 → EReal) (h1 h2 h3 h4) :
    (shapeCast (s := S2x2048x2048) S4096x2048 (addf (F := Ideal) (φ := .f32) s (mulf (F := Ideal) (φ := .f32)
      (broadcastInDim S2x2048x2048 ![0, 1, 2] h1 (broadcastInDim S2x1x2048 ![0, 2] h2 g))
      (shapeCast S2x2048x2048 (mat f : Vec Ideal S4096x2048 .f32) h3))) h4 : Vec Ideal S4096x2048 .f32) = mat (resid s g f) := by
  funext y; idx_vars y; pointwise [mat_ix2, resid]

/-- The product. -/
theorem prod_eq (a : Vec Ideal S4096x2048 .f32) (b : Vec Ideal S2048x2048 .f32) :
    (Host.dotGeneral (F := Ideal) (φ₁ := .f32) (φ₂ := .f32) dot_S4096x2048_S2048x2048_S4096x2048_1_0_0_1_n_n none a b : Vec Ideal S4096x2048 .f32) = mat (outp a b) := by
  funext y; idx_vars y; pointwise [mat_ix2, outp]
/-- The reference's run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v0) = mat (outp (m ((c : Thread nD τ).loc main_arg0)) (m ((c : Thread nD τ).loc main_arg1)))
      ∧ r.2.mem ((c : Thread nD τ).loc main_v6) = mat (resid (m ((c : Thread nD τ).loc main_arg2)) (m ((c : Thread nD τ).loc main_arg3)) (outp (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (by
    funext y; idx_vars y; pointwise [mat_ix2, outp]),
    (h c).2.1.trans (by
    rw [prod_eq]; exact res_eq _ _ _ _ _ _ _), (h c).2.2⟩) (run m ρ)

end Cert.ProjOutRefIdeal.Value
-- ==== Proof.Mlp1Arrays.lean ====
module

public import proofs.«01_k».proof.Proof.Fwd
public import proofs.«01_k».proof.Proof.Gen.Mlp1Ideal.Value
public import proofs.«01_k».proof.Proof.Gen.Mlp1RefIdeal.Run
public import Idealize.ShloMosaic.Lib.Pipeline.ValueKit
public import Idealize.ShloMosaic.Lib.Pipeline.ReadBack
public import Idealize.ShloMosaic.Lib.Claim

/-! The MLP's hidden layer: the kernel's result array and the reference's. -/

@[expose] public section
set_option maxRecDepth 16384
noncomputable section
open Idealize.ShloMosaic Idealize.ShloMosaic.TcCoe Idealize.SL.Sem

namespace Cert.Mlp1Ideal.Value
open Cert.Mlp1Ideal Cert.Mlp1Ideal.Gen Cert.Gmlp Cert.Mlp Cert.Proj Cert.Fwd

variable (m : (ℓ : Loc nD τ sig) → Buf (Elt Ideal) ℓ) (c : Dev nD)

theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The block a point writes. -/
theorem pay_eq (a : Vec Ideal S1024x2048 .bf16) (b : Vec Ideal S1x2048x2048 .bf16) :
    k0_pay1 (F := Ideal) a b = mat fun r d => ∑ k, a (ix2 r k) * b (ix3 0 k d) := by
  funext y; idx_vars y; pointwise [k0_pay1, mat_ix2]

/-- The kernel's result array. -/
theorem final : (dats m 0 c).arrAt 2 cfg0.N = mat (hid (m ((c : Thread nD τ).loc main_arg0)) (m ((c : Thread nD τ).loc main_arg1))) := by
  refine (dats m 0 c).arrAt_eq_of_covers 2 _ (by decide +kernel) fun t hf y => ?_
  have hN : t.val < 16 := lt_of_lt_of_eq t.isLt N_0
  blk_simp
  rw [after0_2]
  idx_vars y
  frame_out
  rw [pay_eq, mat_ix2]
  have e0 : ∀ k, iblk m c 0 t (ix2 y0 k) = (m ((c : Thread nD τ).loc main_arg0)) (ix2 ⟨t.val / 4 * 1024 + y0.val, by omega⟩ k) := fun k => by
    blk_simp [iblk, idx t]; entry_read; pointwise; blk_point [idx t]
  have e1 : ∀ k, iblk m c 1 t (ix3 0 k y1) = wide (m ((c : Thread nD τ).loc main_arg1)) k ⟨t.val % 4 * 2048 + y1.val, by omega⟩ := fun k => by
    blk_simp [iblk, idx t]; entry_read; pointwise [wide]; blk_point [idx t]
  simp only [e0, e1]
  symm
  exact mat_at _ _ (by blk_simp [idx t]) (by blk_simp [idx t])

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = mat (hid (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Mlp1Ideal.Value

namespace Cert.Mlp1RefIdeal.Value
open Cert.Mlp1RefIdeal Cert.Gmlp Cert.Mlp Cert.Proj Cert.Fwd

variable (m : (ℓ : Loc nD τ sig) → Buf (Elt Ideal) ℓ)

/-- The reference's run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v10) = mat (hid (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (by
    simp only [wide_eq]
    funext y; idx_vars y; pointwise [mat_ix2, hid]), (h c).2⟩) (run m ρ)

end Cert.Mlp1RefIdeal.Value
-- ==== Proof.Mlp2Arrays.lean ====
module

public import proofs.«01_k».proof.Proof.Fwd
public import proofs.«01_k».proof.Proof.Gen.Mlp2Ideal.Value
public import proofs.«01_k».proof.Proof.Gen.Mlp2RefIdeal.Run
public import Idealize.ShloMosaic.Lib.Pipeline.ValueKit
public import Idealize.ShloMosaic.Lib.Pipeline.ReadBack
public import Idealize.ShloMosaic.Lib.Claim

/-! The MLP's second product and the residual stream after it: the kernel's result arrays and the reference's. -/

@[expose] public section
set_option maxRecDepth 16384
noncomputable section
open Idealize.ShloMosaic Idealize.ShloMosaic.TcCoe Idealize.SL.Sem

namespace Cert.Mlp2Ideal.Value
open Cert.Mlp2Ideal Cert.Mlp2Ideal.Gen Cert.Gmlp Cert.Mlp Cert.Proj Cert.Fwd

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] ∧ win0_3.index t = ![t.val / 16, 0, t.val % 4] ∧ win0_4.index t = ![t.val / 4, t.val % 4] ∧ win0_5.index t = ![t.val / 4, t.val % 4] :=
  (by decide +kernel : ∀ t : Fin grid0.N, _)

/-- The block of products a point writes. -/
theorem pay1_eq (a : Vec Ideal S512x8192 .bf16) (b : Vec Ideal S8192x512 .bf16) :
    k0_pay1 (F := Ideal) a b = mat fun r d => ∑ k, (max (a (ix2 r k)) 0 * max (a (ix2 r k)) 0) * b (ix2 k d) := by
  funext y; idx_vars y; pointwise [k0_pay1, mat_ix2]
/-- The block of the residual stream a point writes. -/
theorem pay2_eq (a : Vec Ideal S512x8192 .bf16) (b : Vec Ideal S8192x512 .bf16) (s : Vec Ideal S512x512 .f32) (g : Vec Ideal S1x1x512 .f32) :
    k0_pay2 (F := Ideal) a b s g = mat fun r d => s (ix2 r d) + g (ix3 0 0 d) * ∑ k, (max (a (ix2 r k)) 0 * max (a (ix2 r k)) 0) * b (ix2 k d) := by
  funext y; idx_vars y; pointwise [k0_pay2, pay1_eq, mat_ix2]

variable (t : Fin cfg0.N) (hN : t.val < 32)
include hN
theorem e0 (r : Fin 512) (k) : iblk m c 0 t (ix2 r k) = (m ((c : Thread nD τ).loc main_arg0)) (ix2 ⟨t.val / 4 * 512 + r.val, by omega⟩ k) := by
    blk_simp [iblk, idx t]; entry_read; pointwise; blk_point [idx t]
theorem e1 (k) (d : Fin 512) : iblk m c 1 t (ix2 k d) = (m ((c : Thread nD τ).loc main_arg1)) (ix2 k ⟨t.val % 4 * 512 + d.val, by omega⟩) := by
    blk_simp [iblk, idx t]; entry_read; pointwise; blk_point [idx t]
theorem e2 (r : Fin 512) (d : Fin 512) : iblk m c 2 t (ix2 r d) = (m ((c : Thread nD τ).loc main_arg2)) (ix3 ⟨(t.val / 4 * 512 + r.val) / 2048, by omega⟩
    ⟨(t.val / 4 * 512 + r.val) % 2048, by omega⟩ ⟨t.val % 4 * 512 + d.val, by omega⟩) := by
    blk_simp [iblk, idx t]; entry_read; pointwise; blk_point [idx t]
theorem e3 (r : Fin 512) (d : Fin 512) : iblk m c 3 t (ix3 0 0 d) = (m ((c : Thread nD τ).loc main_arg3)) (ix2 ⟨(t.val / 4 * 512 + r.val) / 2048, by omega⟩
    ⟨t.val % 4 * 512 + d.val, by omega⟩) := by
    blk_simp [iblk, idx t]; entry_read; pointwise; blk_point [idx t]
omit hN

/-- The products. -/
theorem final4 : (dats m 0 c).arrAt 4 cfg0.N = mat (mlpOut (m ((c : Thread nD τ).loc main_arg0)) (m ((c : Thread nD τ).loc main_arg1))) := by
  refine (dats m 0 c).arrAt_eq_of_covers 4 _ (by decide +kernel) fun t hf y => ?_
  have hN : t.val < 32 := lt_of_lt_of_eq t.isLt N_0
  blk_simp
  rw [after0_4]
  idx_vars y
  frame_out
  rw [pay1_eq, mat_ix2]
  simp only [e0 m c t hN, e1 m c t hN]
  symm
  exact mat_at _ _ (by blk_simp [idx t]) (by blk_simp [idx t])

/-- The residual stream. -/
theorem final5 : (dats m 0 c).arrAt 5 cfg0.N = mat (resid (m ((c : Thread nD τ).loc main_arg2)) (m ((c : Thread nD τ).loc main_arg3)) (mlpOut (m ((c : Thread nD τ).loc main_arg0)) (m ((c : Thread nD τ).loc main_arg1)))) := by
  refine (dats m 0 c).arrAt_eq_of_covers 5 _ (by decide +kernel) fun t hf y => ?_
  have hN : t.val < 32 := lt_of_lt_of_eq t.isLt N_0
  blk_simp
  rw [after0_5]
  idx_vars y
  frame_out
  rw [pay2_eq, mat_ix2]
  simp only [e0 m c t hN, e1 m c t hN, e2 m c t hN, e3 m c t hN y0]
  symm
  show _ = resid _ _ (mlpOut _ _) (⟨t.val / 4 * 512 + y0.val, by omega⟩ : Fin 4096) (⟨t.val % 4 * 512 + y1.val, by omega⟩ : Fin 2048)
  exact mat_at _ _ (by blk_simp [idx t]) (by blk_simp [idx t])

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v4_0) = mat (mlpOut (m ((c : Thread nD τ).loc main_arg0)) (m ((c : Thread nD τ).loc main_arg1)))
      ∧ r.2.mem ((c : Thread nD τ).loc main_v4_1) = mat (resid (m ((c : Thread nD τ).loc main_arg2)) (m ((c : Thread nD τ).loc main_arg3)) (mlpOut (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

end Cert.Mlp2Ideal.Value

namespace Cert.Mlp2RefIdeal.Value
open Cert.Mlp2RefIdeal Cert.Gmlp Cert.Mlp Cert.Proj Cert.Fwd

variable (m : (ℓ : Loc nD τ sig) → Buf (Elt Ideal) ℓ)

/-- The residual sum, flattened. -/
theorem res_eq (s : Vec Ideal S2x2048x2048 .f32) (g : Vec Ideal S2x2048 .f32) (f : Fin 4096 → Fin 2048 → EReal) (h1 h2 h3 h4) :
    (shapeCast (s := S2x2048x2048) S4096x2048 (addf (F := Ideal) (φ := .f32) s (mulf (F := Ideal) (φ := .f32)
      (broadcastInDim S2x2048x2048 ![0, 1, 2] h1 (broadcastInDim S2x1x2048 ![0, 2] h2 g))
      (shapeCast S2x2048x2048 (mat f : Vec Ideal S4096x2048 .f32) h3))) h4 : Vec Ideal S4096x2048 .f32) = mat (resid s g f) := by
  funext y; idx_vars y; pointwise [mat_ix2, resid]

/-- The product. -/
theorem prod_eq (a : Vec Ideal S4096x8192 .f32) (b : Vec Ideal S8192x2048 .f32) (h) :
    (Host.dotGeneral (F := Ideal) (φ₁ := .f32) (φ₂ := .f32) dot_S4096x8192_S8192x2048_S4096x2048_1_0_0_1_n_n none
      (mulf (maximumf (F := Ideal) (φ := .f32) a (broadcastInDim S4096x8192 ![] h (constant (F := Ideal) S_ .f32 0x00000000#32)))
        (maximumf (F := Ideal) (φ := .f32) a (broadcastInDim S4096x8192 ![] h (constant (F := Ideal) S_ .f32 0x00000000#32)))) b : Vec Ideal S4096x2048 .f32) = mat (mlpOut a b) := by
  funext y; idx_vars y; pointwise [mat_ix2, mlpOut]

/-- The reference's run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = mat (mlpOut (m ((c : Thread nD τ).loc main_arg0)) (m ((c : Thread nD τ).loc main_arg1)))
      ∧ r.2.mem ((c : Thread nD τ).loc main_v8) = mat (resid (m ((c : Thread nD τ).loc main_arg2)) (m ((c : Thread nD τ).loc main_arg3)) (mlpOut (m ((c : Thread nD τ).loc main_arg0)) (m ((c : Thread nD τ).loc main_arg1))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (by
    funext y; idx_vars y; pointwise [mat_ix2, mlpOut]),
    (h c).2.1.trans (by
    rw [prod_eq]; exact res_eq _ _ _ _ _ _ _), (h c).2.2⟩) (run m ρ)

end Cert.Mlp2RefIdeal.Value
-- ==== Proof.LnFwdArrays.lean ====
module

public import proofs.«01_k».proof.Proof.Fwd
public import proofs.«01_k».proof.Proof.Gen.LnFwdIdeal.Value
public import proofs.«01_k».proof.Proof.Gen.LnFwdRefIdeal.Run
public import Idealize.ShloMosaic.Lib.Pipeline.ValueKit
public import Idealize.ShloMosaic.Lib.Pipeline.ReadBack
public import Idealize.ShloMosaic.Lib.Claim

/-! The adaLN norm: the kernel's result array and the reference's. -/

@[expose] public section
set_option maxRecDepth 16384
noncomputable section
open Idealize.ShloMosaic Idealize.ShloMosaic.TcCoe Idealize.SL.Sem

namespace Cert.LnFwdIdeal.Value
open Cert.LnFwdIdeal Cert.LnFwdIdeal.Gen Cert.Gmlp Cert.Mlp Cert.Proj Cert.Fwd

variable (m : (ℓ : Loc nD τ sig) → Buf (Elt Ideal) ℓ) (c : Dev nD)

theorem idx : ∀ t : Fin cfg0.N, win0_0.index t = ![t.val / 4, t.val % 4, 0] ∧ win0_1.index t = ![0, 0] ∧ win0_2.index t = ![t.val / 4, 0, 0] ∧ win0_3.index t = ![t.val / 4, 0, 0] ∧ win0_4.index t = ![t.val / 4, t.val % 4, 0] :=
  (by decide +kernel : ∀ t : Fin grid0.N, _)

/-- The block a point writes. -/
theorem pay_eq (a : Vec Ideal S1x512x2048 .f32) (g : Vec Ideal S1x2048 .f32) (s h : Vec Ideal S1x1x2048 .f32) :
    k0_pay1 (F := Ideal) a g s h = cube fun b r d => lnRow (fun k => a (ix3 0 r k)) (g (ix2 0 d)) (s (ix3 0 0 d)) (h (ix3 0 0 d)) d := by
  funext y; idx_vars y; pointwise [k0_pay1, cube_ix3, lnRow]

/-- The kernel's result array. -/
theorem final : (dats m 0 c).arrAt 4 cfg0.N = cube (adaNorm (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  have hN : t.val < 8 := lt_of_lt_of_eq t.isLt N_0
  blk_simp
  rw [after0_4]
  idx_vars y
  frame_out
  rw [pay_eq, cube_ix3]
  have e0 : ∀ k, iblk m c 0 t (ix3 0 y1 k) = (m ((c : Thread nD τ).loc main_arg0)) (ix3 ⟨t.val / 4, by omega⟩ ⟨t.val % 4 * 512 + y1.val, by omega⟩ k) := fun k => by
    blk_simp [iblk, idx t]; entry_read; pointwise; blk_point [idx t]
  have e1 : iblk m c 1 t (ix2 0 y2) = (m ((c : Thread nD τ).loc main_arg1)) (ix1 y2) := by
    blk_simp [iblk, idx t]; entry_read; pointwise; blk_point [idx t]
  have e2 : iblk m c 2 t (ix3 0 0 y2) = (m ((c : Thread nD τ).loc main_arg2)) (ix2 ⟨t.val / 4, by omega⟩ y2) := by
    blk_simp [iblk, idx t]; entry_read; pointwise; blk_point [idx t]
  have e3 : iblk m c 3 t (ix3 0 0 y2) = (m ((c : Thread nD τ).loc main_arg3)) (ix2 ⟨t.val / 4, by omega⟩ y2) := by
    blk_simp [iblk, idx t]; entry_read; pointwise; blk_point [idx t]
  simp only [e0, e1, e2, e3]
  symm
  exact cube_at _ _ (by blk_simp [idx t]) (by blk_simp [idx t]) (by blk_simp [idx t])

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v3) = cube (adaNorm (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.LnFwdIdeal.Value

namespace Cert.LnFwdRefIdeal.Value
open Cert.LnFwdRefIdeal Cert.Gmlp Cert.Mlp Cert.Proj Cert.Fwd

variable (m : (ℓ : Loc nD τ sig) → Buf (Elt Ideal) ℓ)

/-- The reference's run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v21) = cube (adaNorm (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (by
    funext y; idx_vars y; pointwise [cube_ix3, adaNorm, lnRow]), (h c).2⟩) (run m ρ)

end Cert.LnFwdRefIdeal.Value
-- ==== Proof.Norm.lean ====
module

public import proofs.«01_k».proof.Proof.Fwd

/-! The gradient of a normalised row, as the chain rule writes it and as the kernel computes it, and the sums over the rows. -/

@[expose] public section
set_option maxRecDepth 16384
noncomputable section
open Idealize.ShloMosaic Idealize.ShloMosaic.TcCoe Idealize.SL.Sem

namespace Cert.Norm
open Cert.Gmlp Cert.Mlp Cert.Proj Cert.Fwd

/-- A finite sum of real numbers. -/
theorem sum_coe {α : Type} (s : Finset α) (f : α → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem ofBits_n : Ideal.ofBits .f32 0x45000000#32 = ((2048 : ℝ) : EReal) := by
  simp [Ideal.ofBits, Ideal.ieee, -EReal.coe_mul]; norm_num
theorem ofBits_half : Ideal.ofBits .f32 0xBF000000#32 = ((-(1 / 2) : ℝ) : EReal) := by
  simp [Ideal.ofBits, Ideal.ieee, -EReal.coe_mul]; norm_num
/-- The norm's small constant is a positive real number. -/
theorem ofBits_eps : ∃ e : ℝ, 0 < e ∧ Ideal.ofBits .f32 0x358637BD#32 = (e : EReal) := by
  refine ⟨?_, ?_, by simp [Ideal.ofBits, Ideal.ieee, -EReal.coe_mul]; rfl⟩
  positivity

/-- The inverse root of the mean square of a row, plus the small constant. -/
def invRoot (x : Fin 2048 → EReal) : EReal :=
  Ideal.rsqrt (Ideal.div (∑ k, x k * x k) (Ideal.ofBits .f32 0x45000000#32) + Ideal.ofBits .f32 0x358637BD#32)
/-- The gradient of a row of the norm as the chain rule writes it: `p` the residual's part, `u` the cotangent of the normalised row. -/
def dRowRef (p : EReal) (x u : Fin 2048 → EReal) (d : Fin 2048) : EReal :=
  p + u d * invRoot x
    + x d * Ideal.div ((∑ k, x k * u k) * (Ideal.ofBits .f32 0xBF000000#32 * Ideal.div (invRoot x) (Ideal.div (∑ k, x k * x k) (Ideal.ofBits .f32 0x45000000#32) + Ideal.ofBits .f32 0x358637BD#32))) (Ideal.ofBits .f32 0x45000000#32)
    + Ideal.div ((∑ k, x k * u k) * (Ideal.ofBits .f32 0xBF000000#32 * Ideal.div (invRoot x) (Ideal.div (∑ k, x k * x k) (Ideal.ofBits .f32 0x45000000#32) + Ideal.ofBits .f32 0x358637BD#32))) (Ideal.ofBits .f32 0x45000000#32) * x d
/-- The gradient of a row of the norm as the kernel computes it. -/
def dRow (p : EReal) (x u : Fin 2048 → EReal) (d : Fin 2048) : EReal :=
  p + invRoot x * (u d - x d * invRoot x * Ideal.div (∑ k, u k * (x k * invRoot x)) (Ideal.ofBits .f32 0x45000000#32))

/-- Multiplying by a nonnegative real number distributes over a sum of extended reals. -/
theorem sum_mul_real {α : Type} (s : Finset α) (f : α → EReal) (r : ℝ) (hr : 0 ≤ r) : (∑ i ∈ s, f i) * (r : EReal) = ∑ i ∈ s, f i * (r : EReal) := by
  classical
  induction s using Finset.induction_on with
  | empty => simp
  | insert a s ha ih => rw [Finset.sum_insert ha, Finset.sum_insert ha, ← ih,
      EReal.right_distrib_of_nonneg_of_ne_top (by exact_mod_cast hr) (EReal.coe_ne_top r)]
/-- Twice a multiple of an extended real. -/
theorem two_mul_real (x : EReal) (c : ℝ) : x * (c : EReal) + x * (c : EReal) = x * ((2 * c : ℝ) : EReal) := by
  induction x with
  | coe x => rw [← EReal.coe_mul, ← EReal.coe_mul, ← EReal.coe_add]; congr 1; ring
  | top =>
    rcases lt_trichotomy c 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy c 0 with h | rfl | h
    · rw [EReal.bot_mul_coe_of_neg h, EReal.bot_mul_coe_of_neg (by linarith)]; rfl
    · simp
    · rw [EReal.bot_mul_coe_of_pos h, EReal.bot_mul_coe_of_pos (by linarith)]; rfl

/-- The square of an infinite number is infinite. -/
theorem mul_self_top (x : EReal) (h : ¬ ∃ r : ℝ, x = (r : EReal)) : x * x = ⊤ := by
  induction x with
  | bot => rfl
  | top => rfl
  | coe r => exact absurd ⟨r, rfl⟩ h
theorem mul_self_nonneg' (x : EReal) : 0 ≤ x * x := by
  induction x with
  | bot => exact le_top
  | top => exact le_top
  | coe r => exact_mod_cast mul_self_nonneg r

/-- The two agree on every row: one with an infinite entry has inverse root zero, and on a finite one the inverse root is a
    positive real number, which distributes. -/
theorem dRow_eq (p : EReal) (x u : Fin 2048 → EReal) (d : Fin 2048) : dRowRef p x u d = dRow p x u d := by
  obtain ⟨e, he, hε⟩ := ofBits_eps
  by_cases hx : ∀ k, ∃ r : ℝ, x k = (r : EReal)
  · choose x' hx' using hx
    obtain rfl : x = fun k => ((x' k : ℝ) : EReal) := funext hx'
    clear hx'
    have hS : 0 ≤ ∑ k, x' k * x' k := Finset.sum_nonneg fun k _ => mul_self_nonneg _
    have hA : 0 < (∑ k, x' k * x' k) * (1 / 2048) + e := by positivity
    have hr : invRoot (fun i => ((x' i : ℝ) : EReal)) = (((Real.sqrt ((∑ k, x' k * x' k) * (1 / 2048) + e))⁻¹ : ℝ) : EReal) := by
      unfold invRoot
      simp only [← EReal.coe_mul, sum_coe]
      rw [ofBits_n, hε, Ideal.div_coe (by norm_num), ← EReal.coe_mul, ← EReal.coe_add, Ideal.rsqrt_coe, if_neg (not_lt.mpr hA.le), if_neg hA.ne']
    have hq : (Real.sqrt ((∑ k, x' k * x' k) * (1 / 2048) + e))⁻¹ * (Real.sqrt ((∑ k, x' k * x' k) * (1 / 2048) + e))⁻¹ = 1 / ((∑ k, x' k * x' k) * (1 / 2048) + e) := by
      rw [← mul_inv, Real.mul_self_sqrt hA.le]; exact (one_div _).symm
    have hr0 : 0 ≤ (Real.sqrt ((∑ k, x' k * x' k) * (1 / 2048) + e))⁻¹ := by positivity
    unfold dRowRef dRow
    rw [hr]
    simp only [← EReal.coe_mul, sum_coe]
    rw [ofBits_n, hε, ofBits_half, Ideal.div_coe (by norm_num) ((∑ k, x' k * x' k : ℝ) : EReal), ← EReal.coe_mul, ← EReal.coe_add, Ideal.div_coe hA.ne',
      Ideal.div_coe (by norm_num), Ideal.div_coe (by norm_num)]
    generalize (Real.sqrt ((∑ k, x' k * x' k) * (1 / 2048) + e))⁻¹ = r at *
    have hs : ∑ k, u k * ((x' k * r : ℝ) : EReal) = (∑ k, ((x' k : ℝ) : EReal) * u k) * (r : EReal) := by
      rw [sum_mul_real _ _ _ hr0]
      exact Finset.sum_congr rfl fun k _ => by rw [EReal.coe_mul]; ac_rfl
    rw [hs, ← hq, sub_eq_add_neg, mul_comm (r : EReal) (_ + _), EReal.right_distrib_of_nonneg_of_ne_top (by exact_mod_cast hr0) (EReal.coe_ne_top r), ← add_assoc]
    generalize ∑ k, ((x' k : ℝ) : EReal) * u k = S
    rw [add_assoc (p + _)]
    congr 1
    have h1 : ((x' d : ℝ) : EReal) * (S * ((((-(1 / 2) : ℝ)) : EReal) * ((r : EReal) * ((r * r : ℝ) : EReal))) * ((1 / 2048 : ℝ) : EReal)) = ((x' d : ℝ) : EReal) * S * ((-(1 / 2) * (r * (r * r)) * (1 / 2048) : ℝ) : EReal) := by
      simp only [EReal.coe_mul]; ac_rfl
    have h2 : -(((x' d * r : ℝ) : EReal) * (S * (r : EReal) * ((1 / 2048 : ℝ) : EReal))) * (r : EReal) = ((x' d : ℝ) : EReal) * S * ((2 * (-(1 / 2) * (r * (r * r)) * (1 / 2048)) : ℝ) : EReal) := by
      rw [show (2 * (-(1 / 2) * (r * (r * r)) * (1 / 2048)) : ℝ) = -(r * (r * r) * (1 / 2048)) by ring, EReal.coe_neg, mul_neg, neg_mul]
      congr 1
      simp only [EReal.coe_mul]; ac_rfl
    rw [h2, ← two_mul_real, ← h1, mul_comm _ ((x' d : ℝ) : EReal)]
  · push Not at hx
    obtain ⟨k, hk⟩ := hx
    have ht : ∑ k, x k * x k = ⊤ := by
      rw [← Finset.add_sum_erase _ _ (Finset.mem_univ k), mul_self_top (x k) (by push Not; exact hk)]
      exact EReal.top_add_of_ne_bot (ne_of_gt (lt_of_lt_of_le EReal.bot_lt_zero (Finset.sum_nonneg fun _ _ => mul_self_nonneg' _)))
    have hr : invRoot x = 0 := by
      unfold invRoot
      rw [ht, ofBits_n, hε, Ideal.div_coe (by norm_num), EReal.top_mul_coe_of_pos (by norm_num), EReal.top_add_coe, Ideal.rsqrt_top]
    unfold dRowRef dRow
    rw [hr, ht, ofBits_n, hε, Ideal.div_coe (by norm_num), Ideal.div_coe (by norm_num), EReal.top_mul_coe_of_pos (by norm_num), EReal.top_add_coe]
    simp [Ideal.div]

variable (dh x dres : (⟨3, ![2, 2048, 2048]⟩ : Shape).Idx → EReal) (n : (⟨1, ![2048]⟩ : Shape).Idx → EReal) (sc : (⟨2, ![2, 2048]⟩ : Shape).Idx → EReal)
/-- The norm's input gradient. -/
def dNormX (b : Fin 2) (r d : Fin 2048) : EReal :=
  dRow (dres (ix3 b r d)) (fun k => x (ix3 b r k)) (fun k => dh (ix3 b r k) * (1 + sc (ix2 b k)) * n (ix1 k)) d
/-- … as the chain rule writes it. -/
def dNormXRef (b : Fin 2) (r d : Fin 2048) : EReal :=
  dRowRef (dres (ix3 b r d)) (fun k => x (ix3 b r k)) (fun k => dh (ix3 b r k) * (1 + sc (ix2 b k)) * n (ix1 k)) d
/-- The rows' terms of the sums for the scale, the shift and the weight. -/
def scaleRow (d : Fin 2048) (b : Fin 2) (r : Fin 2048) : EReal := dh (ix3 b r d) * (x (ix3 b r d) * invRoot (fun k => x (ix3 b r k)) * n (ix1 d))
def shiftRow (d : Fin 2048) (b : Fin 2) (r : Fin 2048) : EReal := dh (ix3 b r d)
def weightRow (d : Fin 2048) (b : Fin 2) (r : Fin 2048) : EReal := dh (ix3 b r d) * (1 + sc (ix2 b d)) * (x (ix3 b r d) * invRoot (fun k => x (ix3 b r k)))
/-- The scale's gradient. -/
def dScale (b : Fin 2) (_ : Fin 1) (d : Fin 2048) : EReal := ∑ r, scaleRow dh x n d b r
/-- The shift's gradient. -/
def dShift (b : Fin 2) (_ : Fin 1) (d : Fin 2048) : EReal := ∑ r, shiftRow dh d b r
/-- The norm weight's gradient, summed over the batch. -/
def dWeight (_ : Fin 1) (d : Fin 2048) : EReal := ∑ b, ∑ r, weightRow dh x sc d b r

/-- A tile's part of a sum over a sequence's rows, at any point. -/
def tile (f : Fin 2 → Fin 2048 → EReal) (n : ℕ) (hn : n < 8) : EReal := ∑ k : Fin 512, f ⟨n / 4, by omega⟩ ⟨n % 4 * 512 + k.val, by omega⟩

/-- A sequence's running sums: after tile `j` of sequence `b`, the sum of the tiles so far. -/
def upTo (f : Fin 2 → Fin 2048 → EReal) : ℕ → EReal
  | 0 => if hn : 0 < 8 then tile f 0 hn else 0
  | n + 1 => (if (n + 1) % 4 = 0 then 0 else upTo f n) + if hn : n + 1 < 8 then tile f (n + 1) hn else 0
/-- The running sum over all points. -/
def allUpTo (f : Fin 2 → Fin 2048 → EReal) : ℕ → EReal
  | 0 => if hn : 0 < 8 then tile f 0 hn else 0
  | n + 1 => allUpTo f n + if hn : n + 1 < 8 then tile f (n + 1) hn else 0

theorem upTo_first (f : Fin 2 → Fin 2048 → EReal) (n : ℕ) (hn : n < 8) (h : n % 4 = 0) : upTo f n = tile f n hn := by
  cases n with
  | zero => simp [upTo]
  | succ n => simp [upTo, h, hn]
theorem upTo_next (f : Fin 2 → Fin 2048 → EReal) (n : ℕ) (hn : n < 8) (h : 1 ≤ n % 4) : upTo f n = upTo f (n - 1) + tile f n hn := by
  cases n with
  | zero => simp at h
  | succ n => simp [upTo, hn, show ¬ (n + 1) % 4 = 0 by omega]
theorem allUpTo_next (f : Fin 2 → Fin 2048 → EReal) (n : ℕ) (hn : n < 8) (h : 1 ≤ n) : allUpTo f n = allUpTo f (n - 1) + tile f n hn := by
  cases n with
  | zero => simp at h
  | succ n => simp [allUpTo, hn]

/-- After a sequence's last tile: the sum over the sequence. -/
theorem upTo_last (f : Fin 2 → Fin 2048 → EReal) (n : ℕ) (hn : n < 8) (h : n % 4 = 3) : upTo f n = ∑ r, f ⟨n / 4, by omega⟩ r := by
  rw [sum_tiles]
  have : n = 3 ∨ n = 7 := by omega
  rcases this with rfl | rfl <;> simp [upTo, tile]
/-- After the last point: the sum over both sequences. -/
theorem allUpTo_last (f : Fin 2 → Fin 2048 → EReal) : allUpTo f 7 = ∑ b, ∑ r, f b r := by
  rw [Fin.sum_univ_two, sum_tiles (f 0), sum_tiles (f 1)]
  simp [allUpTo, tile, add_assoc]

end Cert.Norm
-- ==== Proof.LnBwdArrays.lean ====
module

public import proofs.«01_k».proof.Proof.Norm
public import proofs.«01_k».proof.Proof.Sums
public import proofs.«01_k».proof.Proof.Gen.LnBwdIdeal.Value
public import proofs.«01_k».proof.Proof.Gen.LnBwdRefIdeal.Run
public import Idealize.ShloMosaic.Lib.Pipeline.ValueKit
public import Idealize.ShloMosaic.Lib.Pipeline.ReadBack
public import Idealize.ShloMosaic.Lib.Claim

/-! The adaLN norm's backward pass: the kernel's result arrays and the reference's. -/

@[expose] public section
set_option maxRecDepth 16384
noncomputable section
open Idealize.ShloMosaic Idealize.ShloMosaic.TcCoe Idealize.SL.Sem

namespace Cert.LnBwdIdeal.Value
open Cert.LnBwdIdeal Cert.LnBwdIdeal.Gen Cert.Gmlp Cert.Mlp Cert.Proj Cert.Fwd Cert.Norm

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![0, 0] ∧ win0_4.index t = ![t.val / 4, 0, 0]
    ∧ win0_5.index t = ![t.val / 4, t.val % 4, 0] ∧ win0_6.index t = ![t.val / 4, 0, 0] ∧ win0_7.index t = ![t.val / 4, 0, 0] ∧ win0_8.index t = ![0, 0] :=
  (by decide +kernel : ∀ t : Fin grid0.N, _)

variable (h x p : Vec Ideal S1x512x2048 .f32) (g : Vec Ideal S1x2048 .f32) (s q : Vec Ideal S1x1x2048 .f32) (w : Vec Ideal S1x2048 .f32)

/-- A row's inverse root. -/
theorem root_eq (r : Fin 512) : k0_pay13 (F := Ideal) x (ix2 r 0) = invRoot fun k => x (ix3 0 r k) := by
  pointwise [k0_pay13, k0_pay10, invRoot]
/-- A normalised row. -/
theorem row_eq (r : Fin 512) (d : Fin 2048) : k0_pay14 (F := Ideal) x (ix2 r d) = x (ix3 0 r d) * invRoot fun k => x (ix3 0 r k) := by
  rw [← root_eq]
  pointwise [k0_pay14, k0_pay10]
/-- The scaled cotangent. -/
theorem cot_eq (r : Fin 512) (d : Fin 2048) : k0_pay15 (F := Ideal) h s (ix2 r d) = h (ix3 0 r d) * (1 + s (ix3 0 0 d)) := by
  pointwise [k0_pay15, k0_pay11]
/-- The norm's input gradient, per block. -/
theorem dx_eq : k0_pay1 (F := Ideal) (k0_pay16 x h g s p) = cube fun _ r d =>
    dRow (p (ix3 0 r d)) (fun k => x (ix3 0 r k)) (fun k => h (ix3 0 r k) * (1 + s (ix3 0 0 k)) * g (ix2 0 k)) d := by
  funext y; idx_vars y; pointwise [k0_pay1, k0_pay16, k0_pay12, cube_ix3, dRow, row_eq, root_eq, cot_eq]
/-- The scale's gradient, a first and a later tile. -/
theorem scale_eq : k0_pay5 (F := Ideal) (k0_pay11 h) (k0_pay12 g) (k0_pay14 x) = cube fun _ _ d =>
    ∑ r : Fin 512, h (ix3 0 r d) * (x (ix3 0 r d) * (invRoot fun k => x (ix3 0 r k)) * g (ix2 0 d)) := by
  funext y; idx_vars y; pointwise [k0_pay5, k0_pay2, k0_pay11, k0_pay12, cube_ix3, row_eq]
theorem scale_add : k0_pay7 (F := Ideal) (k0_pay11 h) (k0_pay12 g) (k0_pay14 x) q = cube fun _ _ d => q (ix3 0 0 d) +
    ∑ r : Fin 512, h (ix3 0 r d) * (x (ix3 0 r d) * (invRoot fun k => x (ix3 0 r k)) * g (ix2 0 d)) := by
  funext y; idx_vars y; pointwise [k0_pay7, k0_pay2, k0_pay11, k0_pay12, cube_ix3, row_eq]
/-- The shift's. -/
theorem shift_eq : k0_pay6 (F := Ideal) (k0_pay11 h) = cube fun _ _ d => ∑ r : Fin 512, h (ix3 0 r d) := by
  funext y; idx_vars y; pointwise [k0_pay6, k0_pay3, k0_pay11, cube_ix3]
theorem shift_add : k0_pay8 (F := Ideal) (k0_pay11 h) q = cube fun _ _ d => q (ix3 0 0 d) + ∑ r : Fin 512, h (ix3 0 r d) := by
  funext y; idx_vars y; pointwise [k0_pay8, k0_pay3, k0_pay11, cube_ix3]
/-- The weight's. -/
theorem weight_eq : k0_pay4 (F := Ideal) (k0_pay14 x) (k0_pay15 h s) = mat fun _ d =>
    ∑ r : Fin 512, h (ix3 0 r d) * (1 + s (ix3 0 0 d)) * (x (ix3 0 r d) * invRoot fun k => x (ix3 0 r k)) := by
  funext y; idx_vars y; pointwise [k0_pay4, mat_ix2, row_eq, cot_eq]
theorem weight_add : k0_pay9 (F := Ideal) (k0_pay14 x) (k0_pay15 h s) w = mat fun _ d => w (ix2 0 d) +
    ∑ r : Fin 512, h (ix3 0 r d) * (1 + s (ix3 0 0 d)) * (x (ix3 0 r d) * invRoot fun k => x (ix3 0 r k)) := by
  funext y; idx_vars y; obtain rfl : y0 = 0 := Subsingleton.elim _ _
  pointwise [k0_pay9, k0_pay4, mat_ix2, row_eq, cot_eq]

variable (t : Fin cfg0.N) (hN : t.val < 8)
include hN
theorem e0 (r : Fin 512) (d : Fin 2048) : iblk m c 0 t (ix3 0 r d) = (m ((c : Thread nD τ).loc main_arg0)) (ix3 ⟨t.val / 4, by omega⟩ ⟨t.val % 4 * 512 + r.val, by omega⟩ d) := by
    blk_simp [iblk, idx t]; entry_read; pointwise; blk_point [idx t]
theorem e1 (r : Fin 512) (d : Fin 2048) : iblk m c 1 t (ix3 0 r d) = (m ((c : Thread nD τ).loc main_arg1)) (ix3 ⟨t.val / 4, by omega⟩ ⟨t.val % 4 * 512 + r.val, by omega⟩ d) := by
    blk_simp [iblk, idx t]; entry_read; pointwise; blk_point [idx t]
theorem e2 (r : Fin 512) (d : Fin 2048) : iblk m c 2 t (ix3 0 r d) = (m ((c : Thread nD τ).loc main_arg2)) (ix3 ⟨t.val / 4, by omega⟩ ⟨t.val % 4 * 512 + r.val, by omega⟩ d) := by
    blk_simp [iblk, idx t]; entry_read; pointwise; blk_point [idx t]
theorem e3 (d : Fin 2048) : iblk m c 3 t (ix2 0 d) = (m ((c : Thread nD τ).loc main_arg3)) (ix1 d) := by
    blk_simp [iblk, idx t]; entry_read; pointwise; blk_point [idx t]
theorem e4 (d : Fin 2048) : iblk m c 4 t (ix3 0 0 d) = (m ((c : Thread nD τ).loc main_arg4)) (ix2 ⟨t.val / 4, by omega⟩ d) := by
    blk_simp [iblk, idx t]; entry_read; pointwise; blk_point [idx t]

/-- What a point leaves in the input gradient's block. -/
theorem out_x : (outsAt0 m c t.val t.isLt).1 = k0_pay1 (F := Ideal) (k0_pay16 (iblk m c 1 t) (iblk m c 0 t) (iblk m c 3 t) (iblk m c 4 t) (iblk m c 2 t)) := by
  by_cases h : t.val % 4 = 0
  · by_cases h8 : t.val % 8 = 0
    · rw [outsAt0_A m c t h (by omega) h8 (by omega)]; frame_out
    · rw [outsAt0_C m c t h (by omega) h8 (by omega)]; frame_out
  · rw [outsAt0_B m c t h (by omega) (by omega) (by omega)]; frame_out
/-- What a sequence's first tile leaves in the scale's and the shift's block. -/
theorem out_A (h : t.val % 4 = 0) : (outsAt0 m c t.val t.isLt).2.1 = k0_pay5 (F := Ideal) (k0_pay11 (iblk m c 0 t)) (k0_pay12 (iblk m c 3 t)) (k0_pay14 (iblk m c 1 t))
    ∧ (outsAt0 m c t.val t.isLt).2.2.1 = k0_pay6 (F := Ideal) (k0_pay11 (iblk m c 0 t)) := by
  by_cases h8 : t.val % 8 = 0
  · rw [outsAt0_A m c t h (by omega) h8 (by omega)]; exact ⟨by frame_out, by frame_out⟩
  · rw [outsAt0_C m c t h (by omega) h8 (by omega)]; exact ⟨by frame_out, by frame_out⟩
/-- What a later tile leaves in them. -/
theorem out_B (h : 1 ≤ t.val % 4) : (outsAt0 m c t.val t.isLt).2.1 = k0_pay7 (F := Ideal) (k0_pay11 (iblk m c 0 t)) (k0_pay12 (iblk m c 3 t)) (k0_pay14 (iblk m c 1 t))
      (outsAt0 m c (t.val - 1) (Nat.lt_of_le_of_lt (Nat.sub_le _ _) t.isLt)).2.1
    ∧ (outsAt0 m c t.val t.isLt).2.2.1 = k0_pay8 (F := Ideal) (k0_pay11 (iblk m c 0 t)) (outsAt0 m c (t.val - 1) (Nat.lt_of_le_of_lt (Nat.sub_le _ _) t.isLt)).2.2.1 := by
  rw [outsAt0_B m c t (by omega) h (by omega) (by omega)]; exact ⟨by frame_out, by frame_out⟩
/-- What the first point leaves in the weight's block. -/
theorem out_w0 (h : t.val = 0) : (outsAt0 m c t.val t.isLt).2.2.2 = k0_pay4 (F := Ideal) (k0_pay14 (iblk m c 1 t)) (k0_pay15 (iblk m c 0 t) (iblk m c 4 t)) := by
  rw [outsAt0_A m c t (by omega) (by omega) (by omega) (by omega)]; frame_out
/-- What a later point leaves in it. -/
theorem out_w1 (h : 1 ≤ t.val) : (outsAt0 m c t.val t.isLt).2.2.2 = k0_pay9 (F := Ideal) (k0_pay14 (iblk m c 1 t)) (k0_pay15 (iblk m c 0 t) (iblk m c 4 t))
      (outsAt0 m c (t.val - 1) (Nat.lt_of_le_of_lt (Nat.sub_le _ _) t.isLt)).2.2.2 := by
  by_cases h4 : t.val % 4 = 0
  · rw [outsAt0_C m c t h4 (by omega) (by omega) h]; frame_out
  · rw [outsAt0_B m c t h4 (by omega) (by omega) h]; frame_out
omit hN

/-- The input gradient. -/
theorem final5 : (dats m 0 c).arrAt 5 cfg0.N = cube (dNormX (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 5 _ (by decide +kernel) fun t hf y => ?_
  have hN : t.val < 8 := lt_of_lt_of_eq t.isLt N_0
  blk_simp
  rw [after0_5, out_x m c t hN, dx_eq]
  idx_vars y
  rw [cube_ix3]
  simp only [e0 m c t hN, e1 m c t hN, e2 m c t hN, e3 m c t hN, e4 m c t hN]
  exact (cube_at (dNormX _ _ _ _ _) _ (a := ⟨t.val / 4, by omega⟩) (b := ⟨t.val % 4 * 512 + y1.val, by omega⟩) (d := y2) (by blk_simp [idx t]) (by blk_simp [idx t]) (by blk_simp [idx t])).symm

/-- The scale's and the shift's blocks hold the running sums. -/
theorem sums (n : ℕ) (hn : n < cfg0.N) (d : Fin 2048) : (outsAt0 m c n hn).2.1 (ix3 0 0 d) = upTo (scaleRow (m ((c : Thread nD τ).loc main_arg0)) (m ((c : Thread nD τ).loc main_arg1)) (m ((c : Thread nD τ).loc main_arg3)) d) n
    ∧ (outsAt0 m c n hn).2.2.1 (ix3 0 0 d) = upTo (shiftRow (m ((c : Thread nD τ).loc main_arg0)) d) n := by
  induction n with
  | zero =>
    have h8 : (0 : ℕ) < 8 := by omega
    have o := out_A m c ⟨0, hn⟩ h8 rfl
    rw [o.1, o.2, scale_eq, shift_eq, cube_ix3, cube_ix3, upTo_first _ 0 h8 rfl, upTo_first _ 0 h8 rfl]
    simp only [e0 m c ⟨0, hn⟩ h8, e1 m c ⟨0, hn⟩ h8, e3 m c ⟨0, hn⟩ h8]
    exact ⟨rfl, rfl⟩
  | succ n ih =>
    have h8 : n + 1 < 8 := lt_of_lt_of_eq hn N_0
    by_cases h : (n + 1) % 4 = 0
    · have o := out_A m c ⟨n + 1, hn⟩ h8 h
      rw [o.1, o.2, scale_eq, shift_eq, cube_ix3, cube_ix3, upTo_first _ (n + 1) h8 h, upTo_first _ (n + 1) h8 h]
      simp only [e0 m c ⟨n + 1, hn⟩ h8, e1 m c ⟨n + 1, hn⟩ h8, e3 m c ⟨n + 1, hn⟩ h8]
      exact ⟨rfl, rfl⟩
    · have o := out_B m c ⟨n + 1, hn⟩ h8 (by dsimp only; omega)
      have i := ih (Nat.lt_of_succ_lt hn)
      rw [o.1, o.2, scale_add, shift_add, cube_ix3, cube_ix3, upTo_next _ (n + 1) h8 (by omega), upTo_next _ (n + 1) h8 (by omega)]
      simp only [e0 m c ⟨n + 1, hn⟩ h8, e1 m c ⟨n + 1, hn⟩ h8, e3 m c ⟨n + 1, hn⟩ h8]
      exact ⟨congrArg (· + _) i.1, congrArg (· + _) i.2⟩

/-- The weight's block holds the running sum over all points. -/
theorem weight (n : ℕ) (hn : n < cfg0.N) (d : Fin 2048) : (outsAt0 m c n hn).2.2.2 (ix2 0 d) = allUpTo (weightRow (m ((c : Thread nD τ).loc main_arg0)) (m ((c : Thread nD τ).loc main_arg1)) (m ((c : Thread nD τ).loc main_arg4)) d) n := by
  induction n with
  | zero =>
    have h8 : (0 : ℕ) < 8 := by omega
    rw [out_w0 m c ⟨0, hn⟩ h8 rfl, weight_eq, mat_ix2]
    simp only [e0 m c ⟨0, hn⟩ h8, e1 m c ⟨0, hn⟩ h8, e4 m c ⟨0, hn⟩ h8]
    rfl
  | succ n ih =>
    have h8 : n + 1 < 8 := lt_of_lt_of_eq hn N_0
    have i := ih (Nat.lt_of_succ_lt hn)
    rw [out_w1 m c ⟨n + 1, hn⟩ h8 (by dsimp only; omega), weight_add, mat_ix2, allUpTo_next _ (n + 1) h8 (by omega)]
    simp only [e0 m c ⟨n + 1, hn⟩ h8, e1 m c ⟨n + 1, hn⟩ h8, e4 m c ⟨n + 1, hn⟩ h8]
    exact congrArg (· + _) i

/-- The scale's gradient. -/
theorem final6 : (dats m 0 c).arrAt 6 cfg0.N = cube (dScale (m ((c : Thread nD τ).loc main_arg0)) (m ((c : Thread nD τ).loc main_arg1)) (m ((c : Thread nD τ).loc main_arg3))) := by
  refine (dats m 0 c).arrAt_eq_of_covers 6 _ (by decide +kernel) fun t hf y => ?_
  have hN : t.val < 8 := lt_of_lt_of_eq t.isLt N_0
  have hm : t.val % 4 = 3 := (flush0_6 t).mp hf
  blk_simp
  rw [after0_6]
  idx_vars y
  obtain rfl : y0 = 0 := Subsingleton.elim _ _
  obtain rfl : y1 = 0 := Subsingleton.elim _ _
  rw [(sums m c t.val t.isLt y2).1, upTo_last _ _ hN hm]
  exact (cube_at (dScale _ _ _) _ (a := ⟨t.val / 4, by omega⟩) (b := 0) (d := y2) (by blk_simp [idx t]; rfl) (by blk_simp [idx t]) (by blk_simp [idx t])).symm
/-- The shift's gradient. -/
theorem final7 : (dats m 0 c).arrAt 7 cfg0.N = cube (dShift (m ((c : Thread nD τ).loc main_arg0))) := by
  refine (dats m 0 c).arrAt_eq_of_covers 7 _ (by decide +kernel) fun t hf y => ?_
  have hN : t.val < 8 := lt_of_lt_of_eq t.isLt N_0
  have hm : t.val % 4 = 3 := (flush0_7 t).mp hf
  blk_simp
  rw [after0_7]
  idx_vars y
  obtain rfl : y0 = 0 := Subsingleton.elim _ _
  obtain rfl : y1 = 0 := Subsingleton.elim _ _
  rw [(sums m c t.val t.isLt y2).2, upTo_last _ _ hN hm]
  exact (cube_at (dShift _) _ (a := ⟨t.val / 4, by omega⟩) (b := 0) (d := y2) (by blk_simp [idx t]; rfl) (by blk_simp [idx t]) (by blk_simp [idx t])).symm
/-- The weight's gradient. -/
theorem final8 : (dats m 0 c).arrAt 8 cfg0.N = mat (dWeight (m ((c : Thread nD τ).loc main_arg0)) (m ((c : Thread nD τ).loc main_arg1)) (m ((c : Thread nD τ).loc main_arg4))) := by
  refine (dats m 0 c).arrAt_eq_of_covers 8 _ (by decide +kernel) fun t hf y => ?_
  have hN : t.val < 8 := lt_of_lt_of_eq t.isLt N_0
  have hm : t.val % 8 = 7 := (flush0_8 t).mp hf
  have h7 : t.val = 7 := by omega
  blk_simp
  rw [after0_8]
  idx_vars y
  obtain rfl : y0 = 0 := Subsingleton.elim _ _
  rw [weight m c t.val t.isLt y1, h7, allUpTo_last]
  exact (mat_at (dWeight _ _ _) _ (i := 0) (j := y1) (by blk_simp [idx t]) (by blk_simp [idx t])).symm

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2_0) = cube (dNormX (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_v2_1) = cube (dScale (m ((c : Thread nD τ).loc main_arg0)) (m ((c : Thread nD τ).loc main_arg1)) (m ((c : Thread nD τ).loc main_arg3)))
      ∧ r.2.mem ((c : Thread nD τ).loc main_v2_2) = cube (dShift (m ((c : Thread nD τ).loc main_arg0)))
      ∧ r.2.mem ((c : Thread nD τ).loc main_v2_3) = mat (dWeight (m ((c : Thread nD τ).loc main_arg0)) (m ((c : Thread nD τ).loc main_arg1)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2.1.trans (final6 m c), (h c).2.2.1.trans (final7 m c), (h c).2.2.2.1.trans (final8 m c), (h c).2.2.2.2⟩) (run_blocks m ρ)

end Cert.LnBwdIdeal.Value

namespace Cert.LnBwdRefIdeal.Value
open Cert.LnBwdRefIdeal Cert.Gmlp Cert.Mlp Cert.Proj Cert.Fwd Cert.Norm

variable (m : (ℓ : Loc nD τ sig) → Buf (Elt Ideal) ℓ)

/-- The reference's input gradient. -/
theorem res_eq (c : Dev nD) : res_main_v55 (F := Ideal) m c = cube (dNormXRef (m ((c : Thread nD τ).loc main_arg0)) (m ((c : Thread nD τ).loc main_arg1)) (m ((c : Thread nD τ).loc main_arg2)) (m ((c : Thread nD τ).loc main_arg3)) (m ((c : Thread nD τ).loc main_arg4))) := by
  funext y; idx_vars y; pointwise [res_main_v55, cube_ix3, dNormXRef, dRowRef, invRoot]
  simp only [Finset.univ_unique, Finset.sum_singleton]

/-- The chain rule's form of the input gradient is the kernel's. -/
theorem form_eq (h x p : (⟨3, ![2, 2048, 2048]⟩ : Shape).Idx → EReal) (n : (⟨1, ![2048]⟩ : Shape).Idx → EReal) (s : (⟨2, ![2, 2048]⟩ : Shape).Idx → EReal) :
    dNormXRef h x p n s = dNormX h x p n s := by
  funext b r d
  exact dRow_eq _ _ _ d

set_option maxHeartbeats 1000000 in
/-- The reference's run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v55) = cube (dNormX (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_v56) = cube (dScale (m ((c : Thread nD τ).loc main_arg0)) (m ((c : Thread nD τ).loc main_arg1)) (m ((c : Thread nD τ).loc main_arg3)))
      ∧ r.2.mem ((c : Thread nD τ).loc main_v57) = cube (dShift (m ((c : Thread nD τ).loc main_arg0)))
      ∧ r.2.mem ((c : Thread nD τ).loc main_v58) = mat (dWeight (m ((c : Thread nD τ).loc main_arg0)) (m ((c : Thread nD τ).loc main_arg1)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  by
  refine (θ_run defs _ _).mono (fun _ h c => ?_) (run m ρ)
  obtain ⟨h5, h6, h7, h8, hk⟩ := h c
  refine ⟨h5.trans ((res_eq m c).trans (congrArg _ (form_eq _ _ _ _ _))), h6.trans ?_, h7.trans ?_, h8.trans ?_, hk⟩
  · funext y; idx_vars y; pointwise [cube_ix3, dScale, scaleRow, invRoot]; simp only [Finset.univ_unique, Finset.sum_singleton]
    exact Finset.sum_congr rfl fun _ _ => mul_comm _ _
  · funext y; idx_vars y; pointwise [cube_ix3, dShift, shiftRow]; simp
  · funext y; idx_vars y; pointwise [mat_ix2, dWeight, weightRow, invRoot, reduce3_01]; simp only [Finset.univ_unique, Finset.sum_singleton]
    exact Finset.sum_congr rfl fun _ _ => Finset.sum_congr rfl fun _ _ => mul_comm _ _

end Cert.LnBwdRefIdeal.Value
-- ==== Proof.Conv.lean ====
module

public import proofs.«01_k».proof.Proof.Proj
public import proofs.«01_k».proof.Pre_finite_conv
public import proofs.«01_k».proof.Proof.Sums

/-! The causal convolution of four taps with its SiLU, and its backward pass, column by column. -/

@[expose] public section
set_option maxRecDepth 16384
noncomputable section
open Idealize.ShloMosaic Idealize.ShloMosaic.TcCoe Idealize.SL.Sem

namespace Cert.Conv

/-- A column moved `s` tokens down, zeros above. -/
def down (s : ℕ) (f : Fin 2048 → EReal) (r : Fin 2048) : EReal := if s ≤ r.val then f ⟨r.val - s, by omega⟩ else 0
/-- A column moved `s` tokens up, zeros below. -/
def up (s : ℕ) (f : Fin 2048 → EReal) (r : Fin 2048) : EReal := if h : r.val + s < 2048 then f ⟨r.val + s, h⟩ else 0

theorem down_zero (f : Fin 2048 → EReal) (r : Fin 2048) : down 0 f r = f r := if_pos (Nat.zero_le _)

variable (x : Fin 2048 → EReal) (w : Fin 4 → EReal) (b : EReal) (d g : Fin 2048 → EReal) (z e : EReal)

/-- The convolution of a column, before its activation. -/
def pre (r : Fin 2048) : EReal := w 0 * down 3 x r + w 1 * down 2 x r + w 2 * down 1 x r + w 3 * x r + b
/-- The logistic function, as it is written out. -/
def sigm : EReal := Ideal.div 1 (1 + Ideal.exp (-z))
/-- The activation. -/
def silu : EReal := z * sigm z
/-- The cotangent before the activation, as the kernel takes it. -/
def dAct : EReal := e * (sigm z * (1 + z * (1 - sigm z)))
/-- The same by the chain rule for a product. -/
def dActRef : EReal := e * sigm z + z * e * (sigm z * (1 - sigm z))
/-- The convolution's transpose. -/
def back (r : Fin 2048) : EReal := w 0 * up 3 g r + w 1 * up 2 g r + w 2 * up 1 g r + w 3 * g r

/-- Both are the same for a finite cotangent, whatever the pre-activation. -/
theorem dAct_eq (he : ∃ r : ℝ, e = r) : dActRef z e = dAct z e := by
  obtain ⟨e, rfl⟩ := he
  induction z with
  | bot =>
    have h : sigm ⊥ = 0 := by
      simp [sigm, Ideal.div, EReal.add_top_of_ne_bot (show (1 : EReal) ≠ ⊥ from EReal.coe_ne_bot 1)]
    simp [dActRef, dAct, h]
  | top =>
    have h : sigm ⊤ = 1 := by
      have h1 : (1 : EReal)⁻¹ = 1 := by rw [← EReal.coe_one, ← EReal.coe_inv, inv_one]
      simp [sigm, Ideal.div, h1]
    have h0 : (1 : EReal) - 1 = 0 := by rw [← EReal.coe_one, ← EReal.coe_sub, sub_self, EReal.coe_zero]
    simp [dActRef, dAct, h, h0]
  | coe z =>
    have h : sigm (z : EReal) = ((1 / (1 + Real.exp (-z)) : ℝ) : EReal) := by
      have hp : (1 + Real.exp (-z) : ℝ) ≠ 0 := by positivity
      rw [sigm, ← EReal.coe_neg, Ideal.exp_coe, ← EReal.coe_one, ← EReal.coe_add, Ideal.div_coe hp, ← EReal.coe_mul, one_mul]
    generalize 1 / (1 + Real.exp (-z)) = s at h
    rw [dActRef, dAct, h, ← EReal.coe_one]
    norm_cast
    ring

theorem toInt_small (r : ℕ) (hr : r < 4096) : (BitVec.ofNat 32 r).toInt = r := by
  rw [BitVec.toInt_eq_toNat_of_lt (by rw [BitVec.toNat_ofNat]; omega), BitVec.toNat_ofNat]; omega

/-- The kernel's move down: a rotation with the wrapped tokens masked. -/
theorem rot_down (s : ℕ) (hs : s < 4) (f : Fin 2048 → EReal) (r : Fin 2048) (n : ℕ) (hn : n = (r.val + 2048 - s) % 2048) (h : n < 2048) :
    Scalar.select (IntOp.cmpi .sge (BitVec.ofNat 32 r.val) (BitVec.ofNat 32 s)) (f ⟨n, h⟩) 0 = down s f r := by
  have e : IntOp.cmpi .sge (BitVec.ofNat 32 r.val) (BitVec.ofNat 32 s) = BitVec.ofBool (decide (s ≤ r.val)) := by
    simp only [IntOp.cmpi, BitVec.sle, toInt_small r.val (by omega), toInt_small s (by omega), Nat.cast_le]
  rw [e, Scalar.select_ofBool, down]
  simp only [decide_eq_true_eq]
  split_ifs
  · exact congrArg f (Fin.ext (by dsimp only; omega))
  · rfl
/-- The kernel's move up. -/
theorem rot_up (s : ℕ) (hs : s < 4) (f : Fin 2048 → EReal) (r : Fin 2048) (n : ℕ) (hn : n = (r.val + 2048 - (2048 - s)) % 2048) (h : n < 2048) :
    Scalar.select (IntOp.cmpi .slt (BitVec.ofNat 32 r.val) (BitVec.ofNat 32 (2048 - s))) (f ⟨n, h⟩) 0 = up s f r := by
  have e : IntOp.cmpi .slt (BitVec.ofNat 32 r.val) (BitVec.ofNat 32 (2048 - s)) = BitVec.ofBool (decide (r.val < 2048 - s)) := by
    simp only [IntOp.cmpi, BitVec.slt, toInt_small r.val (by omega), toInt_small (2048 - s) (by omega), Nat.cast_lt]
  rw [e, Scalar.select_ofBool, up]
  simp only [decide_eq_true_eq]
  split_ifs
  · exact congrArg f (Fin.ext (by dsimp only; omega))
  · omega
  · omega
  · rfl

section
variable (p : (⟨3, ![2, 2048, 4608]⟩ : Shape).Idx → EReal) (t : (⟨3, ![2, 2048, 1536]⟩ : Shape).Idx → EReal)
  (u : (⟨2, ![4, 1536]⟩ : Shape).Idx → EReal) (s : (⟨1, ![1536]⟩ : Shape).Idx → EReal)
/-- A column of the convolution's input. -/
def col (a : Fin 2) (k : Fin 1536) (r : Fin 2048) : EReal := p (ix3 a r ⟨2816 + k.val, by omega⟩)
/-- A column before the activation. -/
def preCol (a : Fin 2) (k : Fin 1536) : Fin 2048 → EReal := pre (col p a k) (fun i => u (ix2 i k)) (s (ix1 k))
/-- The convolution. -/
def conv (a : Fin 2) (r : Fin 2048) (k : Fin 1536) : EReal := silu (preCol p u s a k r)
/-- The cotangent before the activation. -/
def cot (a : Fin 2) (k : Fin 1536) (r : Fin 2048) : EReal := dAct (preCol p u s a k r) (t (ix3 a r k))
/-- The input's gradient. -/
def dIn (a : Fin 2) (r : Fin 2048) (k : Fin 1536) : EReal := back (fun i => u (ix2 i k)) (cot p t u s a k) r
/-- The taps'. -/
def dTap (i : Fin 4) (k : Fin 1536) : EReal := ∑ a, ∑ r, cot p t u s a k r * down (3 - i.val) (col p a k) r
/-- The bias's. -/
def dBias (_ : Fin 1) (k : Fin 1536) : EReal := ∑ a, ∑ r, cot p t u s a k r
end

/-- A padded product is the product with the moved column. -/
theorem dite_up (w : EReal) (f : Fin 2048 → EReal) (s n : ℕ) (r : Fin 2048) (P : Prop) [Decidable P] (hn : P → n < 2048) (hP : P ↔ r.val + s < 2048) (he : n = r.val + s) :
    (if h : P then w * f ⟨n, hn h⟩ else 0) = w * up s f r := by
  subst he
  unfold up
  by_cases h : r.val + s < 2048
  · rw [dif_pos (hP.2 h), dif_pos h]
  · rw [dif_neg (fun q => h (hP.1 q)), dif_neg h, mul_zero]

/-- Reading behind three zeros is the moved column. -/
theorem dite_down (f : Fin 2048 → EReal) (s n : ℕ) (r : Fin 2048) (P : Prop) [Decidable P] (hn : ¬P → n < 2048) (hP : P ↔ r.val < s) (he : n = r.val - s) :
    (if h : P then 0 else f ⟨n, hn h⟩) = down s f r := by
  subst he
  unfold down
  by_cases h : r.val < s
  · rw [dif_pos (hP.2 h), if_neg (by omega)]
  · rw [dif_neg (fun q => h (hP.1 q)), if_pos (by omega)]

/-- Summing a rank-4 array over its middle axes. -/
theorem reduce4_12 {n0 n1 n2 n3 : Nat} (h : (⟨4, ![n0, n1, n2, n3]⟩ : Shape).ReducesTo [1, 2] ⟨2, ![n0, n3]⟩)
    (v : (⟨4, ![n0, n1, n2, n3]⟩ : Shape).Idx → EReal) (init : EReal) (a : Fin n0) (b : Fin n3) :
    Ideal.hostReduceAdd h v init (ix2 a b) = init + ∑ x : Fin n1, ∑ y : Fin n2, v (ix4 a x y b) := by
  refine congrArg (init + ·) ((Finset.sum_filter_eq_sum_of_fiber _ (fun k : Fin n1 × Fin n2 => ix4 a k.1 k.2 b)
    (fun _ _ e => Prod.ext (congrFun e 1) (congrFun e 2)) (fun i => ⟨fun e => ⟨(i 1, i 2), ?_⟩, ?_⟩) v).trans
    (Fintype.sum_prod_type _))
  · funext q; apply Fin.ext
    match q with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨k, rfl⟩
    funext q; apply Fin.ext
    match q with
    | ⟨0, _⟩ => rfl
    | ⟨1, _⟩ => rfl

/-- Finite everywhere. -/
def Real' {α : Type} (v : α → EReal) : Prop := ∀ i, ∃ r : ℝ, v i = r

theorem real_of_abs_lt (v : EReal) (h : max v (-v) < ⊤) : ∃ r : ℝ, v = r := by
  induction v with
  | bot => simp at h
  | top => simp at h
  | coe r => exact ⟨r, rfl⟩

theorem ofBits_top : Ideal.ofBits .f32 0x7F800000#32 = ⊤ := by
  simp [Ideal.ofBits, Ideal.ieee]

/-- An array whose absolute values are all below infinity. -/
theorem real_of_mask {sh z : Shape} (d : Fin z.rank → Fin sh.rank) (hb : z.BroadcastsInDim sh d) (a : FVec Ideal sh .f32)
    (h : cmpf .olt (Host.absf a) (broadcastInDim sh d hb (constant (F := Ideal) z .f32 0x7F800000#32)) = fun _ => 1#1) : Real' a := by
  intro i
  have e := congrFun h i
  pointwise at e
  rw [ofBits_top] at e
  refine real_of_abs_lt _ ?_
  by_contra hc
  have hd : decide (max (a i) (-(a i)) < ⊤) = false := decide_eq_false hc
  exact absurd ((congrArg BitVec.ofBool hd).symm.trans e) (by decide)

end Cert.Conv

namespace Cert.Pre_finite_conv
open Cert.Conv

/-- The precondition's shape condition. -/
instance facts : Facts where
  bcast_S_S2x2048x1536 := by decide

/-- The precondition, read: the cotangent is a family of real numbers. -/
theorem read (p : FVec Ideal S2x2048x4608 .f32) (d : FVec Ideal S2x2048x1536 .f32) (w : FVec Ideal S4x1536 .f32) (b : FVec Ideal S1536 .f32)
    (H : fn (F := Ideal) p d w b = fun _ => 1#1) : Real' d :=
  real_of_mask _ _ d H

end Cert.Pre_finite_conv
-- ==== Proof.ConvBwdRef.lean ====
module

public import proofs.«01_k».proof.Proof.Conv
public import proofs.«01_k».proof.Proof.Sums
public import proofs.«01_k».proof.Proof.Gen.ConvBwdRefIdeal.Run
public import Idealize.ShloMosaic.Lib.Pipeline.ValueKit
public import Idealize.ShloMosaic.Lib.Claim

/-! The convolution's backward pass: the reference's results, step by step. -/

@[expose] public section
set_option maxRecDepth 16384
noncomputable section
open Idealize.ShloMosaic Idealize.ShloMosaic.TcCoe Idealize.SL.Sem

namespace Cert.ConvBwdRefIdeal.Value
open Cert.ConvBwdRefIdeal Cert.ConvBwdRefIdeal.Gen Cert.Gmlp Cert.Mlp Cert.Proj Cert.Conv

variable (p : FVec Ideal S2x2048x4608 .f32) (t : FVec Ideal S2x2048x1536 .f32) (u : FVec Ideal S4x1536 .f32) (s : FVec Ideal S1536 .f32) (g : FVec Ideal S2x2048x1536 .f32)

/-- The columns with three zeros in front. -/
def paddedIn : FVec Ideal S2x2051x1536 .f32 := concatenate S2x2051x1536 1 [⟨S2x3x1536, (broadcastInDim S2x3x1536 ![] bcast_S_S2x3x1536 (constant S_ .f32 0x00000000#32))⟩, ⟨S2x2048x1536, (extractStridedSlice S2x2048x1536 ![0, 0, 2816] p slices_S2x2048x4608_S2x2048x1536_0_0_2816)⟩] concatenates_S2x3x1536_S2x2048x1536_S2x2051x1536_d1
/-- The four moved copies, stacked. -/
def copies : FVec Ideal S4x2x2048x1536 .f32 := ((concatenate S4x2x2048x1536 0 [⟨S1x2x2048x1536, (broadcastInDim S1x2x2048x1536 ![1, 2, 3] bcast_S2x2048x1536_S1x2x2048x1536_1_2_3 (extractStridedSlice S2x2048x1536 ![0, 0, 0] (paddedIn p) slices_S2x2051x1536_S2x2048x1536_0_0_0))⟩, ⟨S1x2x2048x1536, (broadcastInDim S1x2x2048x1536 ![1, 2, 3] bcast_S2x2048x1536_S1x2x2048x1536_1_2_3 (extractStridedSlice S2x2048x1536 ![0, 1, 0] (paddedIn p) slices_S2x2051x1536_S2x2048x1536_0_1_0))⟩, ⟨S1x2x2048x1536, (broadcastInDim S1x2x2048x1536 ![1, 2, 3] bcast_S2x2048x1536_S1x2x2048x1536_1_2_3 (extractStridedSlice S2x2048x1536 ![0, 2, 0] (paddedIn p) slices_S2x2051x1536_S2x2048x1536_0_2_0))⟩, ⟨S1x2x2048x1536, (broadcastInDim S1x2x2048x1536 ![1, 2, 3] bcast_S2x2048x1536_S1x2x2048x1536_1_2_3 (extractStridedSlice S2x2048x1536 ![0, 3, 0] (paddedIn p) slices_S2x2051x1536_S2x2048x1536_0_3_0))⟩] concatenates_S1x2x2048x1536_S1x2x2048x1536_S1x2x2048x1536_S1x2x2048x1536_S4x2x2048x1536_d0))
/-- The pre-activation. -/
def preArr : FVec Ideal S2x2048x1536 .f32 := addf (Host.reduceAdd (mulf (broadcastInDim S4x2x2048x1536 ![0, 1, 2, 3] bcast_S4x1x1x1536_S4x2x2048x1536_0_1_2_3 (broadcastInDim S4x1x1x1536 ![0, 3] bcast_S4x1536_S4x1x1x1536_0_3 u)) (copies p)) (constant S_ .f32 0x00000000#32) reducesTo_S4x2x2048x1536_S2x2048x1536_d0 h_S_) (broadcastInDim S2x2048x1536 ![0, 1, 2] bcast_S1x1x1536_S2x2048x1536_0_1_2 (broadcastInDim S1x1x1536 ![2] bcast_S1536_S1x1x1536_2 s))
/-- The cotangent before the activation. -/
def cotArr (z : FVec Ideal S2x2048x1536 .f32) : FVec Ideal S2x2048x1536 .f32 := addf (mulf t (Host.divf (broadcastInDim S2x2048x1536 ![] bcast_S_S2x2048x1536 (constant S_ .f32 0x3F800000#32)) (addf (broadcastInDim S2x2048x1536 ![] bcast_S_S2x2048x1536 (constant S_ .f32 0x3F800000#32)) (Host.exp (Host.negf z))))) (mulf (mulf z t) (mulf (Host.divf (broadcastInDim S2x2048x1536 ![] bcast_S_S2x2048x1536 (constant S_ .f32 0x3F800000#32)) (addf (broadcastInDim S2x2048x1536 ![] bcast_S_S2x2048x1536 (constant S_ .f32 0x3F800000#32)) (Host.exp (Host.negf z)))) (subf (broadcastInDim S2x2048x1536 ![] bcast_S_S2x2048x1536 (constant S_ .f32 0x3F800000#32)) (Host.divf (broadcastInDim S2x2048x1536 ![] bcast_S_S2x2048x1536 (constant S_ .f32 0x3F800000#32)) (addf (broadcastInDim S2x2048x1536 ![] bcast_S_S2x2048x1536 (constant S_ .f32 0x3F800000#32)) (Host.exp (Host.negf z)))))))
/-- Each tap against a cotangent. -/
def prods : FVec Ideal S4x2x2048x1536 .f32 := mulf (broadcastInDim S4x2x2048x1536 ![0, 1, 2, 3] bcast_S4x1x1x1536_S4x2x2048x1536_0_1_2_3 (broadcastInDim S4x1x1x1536 ![0, 3] bcast_S4x1536_S4x1x1x1536_0_3 u)) (broadcastInDim S4x2x2048x1536 ![1, 2, 3] bcast_S2x2048x1536_S4x2x2048x1536_1_2_3 g)
/-- The convolution's transpose. -/
def backArr : FVec Ideal S2x2048x1536 .bf16 := truncf .bf16 (extractStridedSlice S2x2048x1536 ![0, 3, 0] (addf (addf (addf (pad S2x2051x1536 ![0, 3, 0] ![0, 0, 0] ![0, 0, 0] (shapeCast _ (extractStridedSlice S1x2x2048x1536 ![3, 0, 0, 0] (prods u g) slices_S4x2x2048x1536_S1x2x2048x1536_3_0_0_0) shapeCasts_S1x2x2048x1536_S2x2048x1536) (constant S_ .f32 0x00000000#32) pads_S2x2048x1536_S2x2051x1536_000_300_000 h_S_) (pad S2x2051x1536 ![0, 2, 0] ![0, 1, 0] ![0, 0, 0] (shapeCast _ (extractStridedSlice S1x2x2048x1536 ![2, 0, 0, 0] (prods u g) slices_S4x2x2048x1536_S1x2x2048x1536_2_0_0_0) shapeCasts_S1x2x2048x1536_S2x2048x1536) (constant S_ .f32 0x00000000#32) pads_S2x2048x1536_S2x2051x1536_000_210_000 h_S_)) (pad S2x2051x1536 ![0, 1, 0] ![0, 2, 0] ![0, 0, 0] (shapeCast _ (extractStridedSlice S1x2x2048x1536 ![1, 0, 0, 0] (prods u g) slices_S4x2x2048x1536_S1x2x2048x1536_1_0_0_0) shapeCasts_S1x2x2048x1536_S2x2048x1536) (constant S_ .f32 0x00000000#32) pads_S2x2048x1536_S2x2051x1536_000_120_000 h_S_)) (pad S2x2051x1536 ![0, 0, 0] ![0, 3, 0] ![0, 0, 0] (shapeCast _ (extractStridedSlice S1x2x2048x1536 ![0, 0, 0, 0] (prods u g) slices_S4x2x2048x1536_S1x2x2048x1536_0_0_0_0) shapeCasts_S1x2x2048x1536_S2x2048x1536) (constant S_ .f32 0x00000000#32) pads_S2x2048x1536_S2x2051x1536_000_030_000 h_S_)) slices_S2x2051x1536_S2x2048x1536_0_3_0) bitsLt_bf16_f32
/-- The taps' gradient. -/
def tapArr : FVec Ideal S4x1536 .f32 := Host.reduceAdd (shapeCast _ (Host.reduceAdd (mulf (broadcastInDim S4x2x2048x1536 ![1, 2, 3] bcast_S2x2048x1536_S4x2x2048x1536_1_2_3 g) (copies p)) (constant S_ .f32 0x00000000#32) reducesTo_S4x2x2048x1536_S4x1536_d1_2 h_S_) shapeCasts_S4x1536_S4x1x1x1536) (constant S_ .f32 0x00000000#32) reducesTo_S4x1x1x1536_S4x1536_d1_2 h_S_
/-- The bias's. -/
def biasArr : FVec Ideal S1x1536 .f32 := shapeCast _ (Host.reduceAdd (shapeCast _ (Host.reduceAdd g (constant S_ .f32 0x00000000#32) reducesTo_S2x2048x1536_S1536_d0_1 h_S_) shapeCasts_S1536_S1x1x1536) (constant S_ .f32 0x00000000#32) reducesTo_S1x1x1536_S1536_d0_1 h_S_) shapeCasts_S1536_S1x1536

theorem copies_at (i : Fin 4) (a : Fin 2) (r : Fin 2048) (k : Fin 1536) : copies p (ix4 i a r k) = down (3 - i.val) (col p a k) r := by
  fin_cases i
  · pointwise [copies, paddedIn]
    exact dite_down (col p a k) 3 _ r _ (fun _ => by omega) (by omega) (by omega)
  · pointwise [copies, paddedIn]
    exact dite_down (col p a k) 2 _ r _ (fun _ => by omega) (by omega) (by omega)
  · pointwise [copies, paddedIn]
    exact dite_down (col p a k) 1 _ r _ (fun _ => by omega) (by omega) (by omega)
  · pointwise [copies, paddedIn, down_zero, col]
theorem pre_at (a : Fin 2) (r : Fin 2048) (k : Fin 1536) : preArr p u s (ix3 a r k) = preCol p u s a k r := by
  pointwise [preArr, preCol, pre, copies_at]
  simp [Fin.sum_univ_four, down_zero]
theorem cot_at (z : FVec Ideal S2x2048x1536 .f32) (a : Fin 2) (r : Fin 2048) (k : Fin 1536) : cotArr t z (ix3 a r k) = dActRef (z (ix3 a r k)) (t (ix3 a r k)) := by
  pointwise [cotArr, dActRef, sigm]
theorem rev4 (a b c d : EReal) : d + c + b + a = a + b + c + d := by ac_rfl
theorem back_at (a : Fin 2) (r : Fin 2048) (k : Fin 1536) : backArr u g (ix3 a r k) = back (fun i => u (ix2 i k)) (fun r => g (ix3 a r k)) r := by
  pointwise [backArr, prods, back]
  refine (congrArg₂ (· + ·) (congrArg₂ (· + ·) (congrArg (_ + ·)
    (dite_up _ (fun r => g (ix3 a r k)) 1 _ r _ (fun h => h.2) (by omega) (by omega)))
    (dite_up _ (fun r => g (ix3 a r k)) 2 _ r _ (fun h => h.2) (by omega) (by omega)))
    (dite_up _ (fun r => g (ix3 a r k)) 3 _ r _ (fun h => h) (by omega) (by omega))).trans ?_
  exact rev4 _ _ _ _
theorem tap_at (i : Fin 4) (k : Fin 1536) : tapArr p g (ix2 i k) = ∑ a, ∑ r, g (ix3 a r k) * down (3 - i.val) (col p a k) r := by
  pointwise [tapArr, copies_at, reduce4_12]
  simp only [Finset.univ_unique, Finset.sum_singleton]
theorem bias_at (i : Fin 1) (k : Fin 1536) : biasArr g (ix2 i k) = ∑ a, ∑ r, g (ix3 a r k) := by
  pointwise [biasArr, reduce3_01]
  simp only [Finset.univ_unique, Finset.sum_singleton]

variable (m : (ℓ : Loc nD τ sig) → Buf (Elt Ideal) ℓ) (c : Dev nD)

/-- The generated terms are these steps. -/
theorem res49 : res_main_v49 (F := Ideal) m c = backArr (m ((c : Thread nD τ).loc main_arg2)) (cotArr (m ((c : Thread nD τ).loc main_arg1)) (preArr (m ((c : Thread nD τ).loc main_arg0)) (m ((c : Thread nD τ).loc main_arg2)) (m ((c : Thread nD τ).loc main_arg3)))) := by
  unfold res_main_v49 backArr prods cotArr preArr copies paddedIn; rfl
theorem res31 : res_main_v31 (F := Ideal) m c = tapArr (m ((c : Thread nD τ).loc main_arg0)) (cotArr (m ((c : Thread nD τ).loc main_arg1)) (preArr (m ((c : Thread nD τ).loc main_arg0)) (m ((c : Thread nD τ).loc main_arg2)) (m ((c : Thread nD τ).loc main_arg3)))) := by
  unfold res_main_v31 tapArr cotArr preArr copies paddedIn; rfl
theorem res50 : res_main_v50 (F := Ideal) m c = biasArr (cotArr (m ((c : Thread nD τ).loc main_arg1)) (preArr (m ((c : Thread nD τ).loc main_arg0)) (m ((c : Thread nD τ).loc main_arg2)) (m ((c : Thread nD τ).loc main_arg3)))) := by
  unfold res_main_v50 biasArr cotArr preArr copies paddedIn; rfl

end Cert.ConvBwdRefIdeal.Value
-- ==== Proof.ConvBwdArrays.lean ====
module

public import proofs.«01_k».proof.Proof.Conv
public import proofs.«01_k».proof.Proof.Gen.ConvBwdIdeal.Value
public import proofs.«01_k».proof.Proof.ConvBwdRef
public import Idealize.ShloMosaic.Lib.Pipeline.ValueKit
public import Idealize.ShloMosaic.Lib.Pipeline.ReadBack
public import Idealize.ShloMosaic.Lib.Claim

/-! The convolution's backward pass: the kernel's result arrays and the reference's. -/

@[expose] public section
set_option maxRecDepth 16384
noncomputable section
open Idealize.ShloMosaic Idealize.ShloMosaic.TcCoe Idealize.SL.Sem

namespace Cert.ConvBwdIdeal.Value
open Cert.ConvBwdIdeal Cert.ConvBwdIdeal.Gen Cert.Gmlp Cert.Mlp Cert.Proj Cert.Conv

variable (m : (ℓ : Loc nD τ sig) → Buf (Elt Ideal) ℓ) (c : Dev nD)

theorem idx : ∀ t : Fin cfg0.N, win0_0.index t = ![t.val % 2, 0, 11 + t.val / 2] ∧ win0_1.index t = ![t.val % 2, 0, t.val / 2] ∧ win0_2.index t = ![0, t.val / 2] ∧ win0_3.index t = ![0, t.val / 2]
    ∧ win0_4.index t = ![t.val % 2, 0, t.val / 2] ∧ win0_5.index t = ![0, t.val / 2] ∧ win0_6.index t = ![0, t.val / 2] :=
  (by decide +kernel : ∀ t : Fin grid0.N, _)

variable (x d : Vec Ideal S1x2048x256 .f32) (w q : Vec Ideal S4x256 .f32) (b u : Vec Ideal S1x256 .f32)

/-- A column of a block, moved down. -/
theorem down3 (r : Fin 2048) (k : Fin 256) : k0_pay7 (F := Ideal) x (ix2 r k) = down 3 (fun r => x (ix3 0 r k)) r := by
  pointwise [k0_pay7, k0_pay6]
  exact rot_down 3 (by decide) (fun r => x (ix3 0 r k)) r _ rfl _
theorem down2 (r : Fin 2048) (k : Fin 256) : k0_pay8 (F := Ideal) x (ix2 r k) = down 2 (fun r => x (ix3 0 r k)) r := by
  pointwise [k0_pay8, k0_pay6]
  exact rot_down 2 (by decide) (fun r => x (ix3 0 r k)) r _ rfl _
theorem down1 (r : Fin 2048) (k : Fin 256) : k0_pay9 (F := Ideal) x (ix2 r k) = down 1 (fun r => x (ix3 0 r k)) r := by
  pointwise [k0_pay9, k0_pay6]
  exact rot_down 1 (by decide) (fun r => x (ix3 0 r k)) r _ rfl _
/-- The pre-activation of a block. -/
theorem pre_eq (r : Fin 2048) (k : Fin 256) : k0_pay11 (F := Ideal) b (ix2 r k) + k0_pay10 (F := Ideal) x w (ix2 r k)
    = pre (fun r => x (ix3 0 r k)) (fun i => w (ix2 i k)) (b (ix2 0 k)) r := by
  rw [add_comm]
  pointwise [k0_pay10, k0_pay11, down3, down2, down1, k0_pay6, pre]
/-- The cotangent before it. -/
theorem act_eq (y z : FVec Ideal S2048x256 .f32) (r : Fin 2048) (k : Fin 256) : k0_pay12 (F := Ideal) y z d (ix2 r k)
    = dAct (z (ix2 r k) + y (ix2 r k)) (d (ix3 0 r k)) := by
  pointwise [k0_pay12, dAct, sigm, zero_sub]

variable (v y z : FVec Ideal S2048x256 .f32)
/-- The transpose's first two taps. -/
theorem back01 (r : Fin 2048) (k : Fin 256) : k0_pay13 (F := Ideal) w y z d (ix2 r k)
    = w (ix2 0 k) * up 3 (fun r => k0_pay12 (F := Ideal) y z d (ix2 r k)) r + w (ix2 1 k) * up 2 (fun r => k0_pay12 (F := Ideal) y z d (ix2 r k)) r := by
  rw [← rot_up 3 (by decide) _ r _ rfl (Nat.mod_lt _ (by decide)), ← rot_up 2 (by decide) _ r _ rfl (Nat.mod_lt _ (by decide))]
  pointwise [k0_pay13]
/-- The input's gradient, per block. -/
theorem dx_eq : k0_pay1 (F := Ideal) w (k0_pay12 y z d) (k0_pay13 w y z d) (k0_pay14 w) k0_pay15 (k0_pay16 y z d)
    = cube fun _ r k => back (fun i => w (ix2 i k)) (fun r => k0_pay12 (F := Ideal) y z d (ix2 r k)) r := by
  funext i; idx_vars i
  rw [cube_ix3, back, ← back01, ← rot_up 1 (by decide) _ i1 _ rfl (Nat.mod_lt _ (by decide))]
  pointwise [k0_pay1, k0_pay14, k0_pay15, k0_pay16]
/-- The taps' gradients, per block: the cotangent against each moved column. -/
theorem dw_eq : k0_pay2 (F := Ideal) (k0_pay6 x) (k0_pay7 x) (k0_pay8 x) (k0_pay9 x) v
    = mat fun i k => ∑ r, v (ix2 r k) * down (3 - i.val) (fun r => x (ix3 0 r k)) r := by
  funext i; idx_vars i
  rw [mat_ix2]
  fin_cases i0 <;> pointwise [k0_pay2, k0_pay6, down3, down2, down1, down_zero]
/-- The bias's. -/
theorem db_eq : k0_pay3 (F := Ideal) v = mat fun _ k => ∑ r, v (ix2 r k) := by
  funext i; idx_vars i; pointwise [k0_pay3, mat_ix2]

/-- A later sequence adds to both. -/
theorem dw_add : k0_pay4 (F := Ideal) (k0_pay6 x) (k0_pay7 x) (k0_pay8 x) (k0_pay9 x) v q = fun i => q i + k0_pay2 (F := Ideal) (k0_pay6 x) (k0_pay7 x) (k0_pay8 x) (k0_pay9 x) v i := by
  funext i; idx_vars i; pointwise [k0_pay4]
theorem db_add : k0_pay5 (F := Ideal) v u = fun i => u i + k0_pay3 (F := Ideal) v i := by
  funext i; idx_vars i; obtain rfl : i0 = 0 := Subsingleton.elim _ _
  pointwise [k0_pay5]

/-- The cotangent before the activation, at a point. -/
abbrev cotBlk (t : Fin cfg0.N) : FVec Ideal S2048x256 .f32 := k0_pay12 (F := Ideal) (k0_pay10 (iblk m c 0 t) (iblk m c 2 t)) (k0_pay11 (iblk m c 3 t)) (iblk m c 1 t)

variable (t : Fin cfg0.N) (hN : t.val < 12)
include hN
theorem e0 (r : Fin 2048) (k : Fin 256) : iblk m c 0 t (ix3 0 r k) = (m ((c : Thread nD τ).loc main_arg0)) (ix3 ⟨t.val % 2, by omega⟩ r ⟨2816 + (t.val / 2 * 256 + k.val), by omega⟩) := by
    blk_simp [iblk, idx t]; entry_read; pointwise; blk_point [idx t]
theorem e1 (r : Fin 2048) (k : Fin 256) : iblk m c 1 t (ix3 0 r k) = (m ((c : Thread nD τ).loc main_arg1)) (ix3 ⟨t.val % 2, by omega⟩ r ⟨t.val / 2 * 256 + k.val, by omega⟩) := by
    blk_simp [iblk, idx t]; entry_read; pointwise; blk_point [idx t]
theorem e2 (i : Fin 4) (k : Fin 256) : iblk m c 2 t (ix2 i k) = (m ((c : Thread nD τ).loc main_arg2)) (ix2 i ⟨t.val / 2 * 256 + k.val, by omega⟩) := by
    blk_simp [iblk, idx t]; entry_read; pointwise; blk_point [idx t]
theorem e3 (k : Fin 256) : iblk m c 3 t (ix2 0 k) = (m ((c : Thread nD τ).loc main_arg3)) (ix1 ⟨t.val / 2 * 256 + k.val, by omega⟩) := by
    blk_simp [iblk, idx t]; entry_read; pointwise; blk_point [idx t]
theorem cot_eq (r : Fin 2048) (k : Fin 256) : cotBlk m c t (ix2 r k)
    = cot (m ((c : Thread nD τ).loc main_arg0)) (m ((c : Thread nD τ).loc main_arg1)) (m ((c : Thread nD τ).loc main_arg2)) (m ((c : Thread nD τ).loc main_arg3)) ⟨t.val % 2, by omega⟩ ⟨t.val / 2 * 256 + k.val, by omega⟩ r := by
  rw [cotBlk, act_eq, pre_eq]
  simp only [e0 m c t hN, e1 m c t hN, e2 m c t hN, e3 m c t hN]
  rfl

/-- What a point leaves in the input gradient's block. -/
theorem out_x : (outsAt0 m c t.val t.isLt).1 = cube fun _ r k => back (fun i => iblk m c 2 t (ix2 i k)) (fun r => cotBlk m c t (ix2 r k)) r := by
  rw [← dx_eq]
  by_cases h : t.val % 2 = 0
  · rw [outsAt0_A m c t h (by omega)]; frame_out
  · rw [outsAt0_B m c t h (by omega)]; frame_out
/-- What the first sequence leaves in the taps' and the bias's. -/
theorem out_A (h : t.val % 2 = 0) : (outsAt0 m c t.val t.isLt).2.1 = k0_pay2 (F := Ideal) (k0_pay6 (iblk m c 0 t)) (k0_pay7 (iblk m c 0 t)) (k0_pay8 (iblk m c 0 t)) (k0_pay9 (iblk m c 0 t)) (cotBlk m c t)
    ∧ (outsAt0 m c t.val t.isLt).2.2 = k0_pay3 (F := Ideal) (cotBlk m c t) := by
  rw [outsAt0_A m c t h (by omega)]; exact ⟨by frame_out, by frame_out⟩
/-- What the second adds. -/
theorem out_B (h : ¬t.val % 2 = 0) : (outsAt0 m c t.val t.isLt).2.1 = k0_pay4 (F := Ideal) (k0_pay6 (iblk m c 0 t)) (k0_pay7 (iblk m c 0 t)) (k0_pay8 (iblk m c 0 t)) (k0_pay9 (iblk m c 0 t)) (cotBlk m c t)
      (outsAt0 m c (t.val - 1) (Nat.lt_of_le_of_lt (Nat.sub_le _ _) t.isLt)).2.1
    ∧ (outsAt0 m c t.val t.isLt).2.2 = k0_pay5 (F := Ideal) (cotBlk m c t) (outsAt0 m c (t.val - 1) (Nat.lt_of_le_of_lt (Nat.sub_le _ _) t.isLt)).2.2 := by
  rw [outsAt0_B m c t h (by omega)]; exact ⟨by frame_out, by frame_out⟩
/-- A point's share of the taps' gradient, and of the bias's. -/
theorem tap_eq : k0_pay2 (F := Ideal) (k0_pay6 (iblk m c 0 t)) (k0_pay7 (iblk m c 0 t)) (k0_pay8 (iblk m c 0 t)) (k0_pay9 (iblk m c 0 t)) (cotBlk m c t)
    = mat fun i k => ∑ r, cot (m ((c : Thread nD τ).loc main_arg0)) (m ((c : Thread nD τ).loc main_arg1)) (m ((c : Thread nD τ).loc main_arg2)) (m ((c : Thread nD τ).loc main_arg3)) ⟨t.val % 2, by omega⟩ ⟨t.val / 2 * 256 + k.val, by omega⟩ r
      * down (3 - i.val) (col (m ((c : Thread nD τ).loc main_arg0)) ⟨t.val % 2, by omega⟩ ⟨t.val / 2 * 256 + k.val, by omega⟩) r := by
  rw [dw_eq]
  simp only [cot_eq m c t hN, e0 m c t hN]
  rfl
theorem bias_eq : k0_pay3 (F := Ideal) (cotBlk m c t)
    = mat fun _ k => ∑ r, cot (m ((c : Thread nD τ).loc main_arg0)) (m ((c : Thread nD τ).loc main_arg1)) (m ((c : Thread nD τ).loc main_arg2)) (m ((c : Thread nD τ).loc main_arg3)) ⟨t.val % 2, by omega⟩ ⟨t.val / 2 * 256 + k.val, by omega⟩ r := by
  rw [db_eq]
  simp only [cot_eq m c t hN]
omit hN

/-- The input's gradient. -/
theorem final4 : (dats m 0 c).arrAt 4 cfg0.N = cube (dIn (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  have hN : t.val < 12 := lt_of_lt_of_eq t.isLt N_0
  blk_simp
  rw [after0_4, out_x m c t hN]
  idx_vars y
  rw [cube_ix3]
  simp only [cot_eq m c t hN, e2 m c t hN]
  exact (cube_at (dIn _ _ _ _) _ (a := ⟨t.val % 2, by omega⟩) (b := y1) (d := ⟨t.val / 2 * 256 + y2.val, by omega⟩) (by blk_simp [idx t]) (by blk_simp [idx t]) (by blk_simp [idx t])).symm

/-- The taps'. -/
theorem final5 : (dats m 0 c).arrAt 5 cfg0.N = mat (dTap (m ((c : Thread nD τ).loc main_arg0)) (m ((c : Thread nD τ).loc main_arg1)) (m ((c : Thread nD τ).loc main_arg2)) (m ((c : Thread nD τ).loc main_arg3))) := by
  refine (dats m 0 c).arrAt_eq_of_covers 5 _ (by decide +kernel) fun t hf y => ?_
  have hN : t.val < 12 := lt_of_lt_of_eq t.isLt N_0
  have h1 : t.val % 2 = 1 := (flush0_5 t).1 hf
  have hP : t.val - 1 < 12 := by omega
  have ht : t.val - 1 < cfg0.N := lt_of_lt_of_eq hP N_0.symm
  blk_simp
  rw [after0_5, (out_B m c t hN (by omega)).1, dw_add, (out_A m c ⟨t.val - 1, ht⟩ hP (by dsimp only; omega)).1, tap_eq m c t hN, tap_eq m c ⟨t.val - 1, ht⟩ hP]
  idx_vars y
  refine Eq.trans ?_ (mat_at (dTap _ _ _ _) _ (i := y0) (j := ⟨t.val / 2 * 256 + y1.val, by omega⟩) (by blk_simp [idx t]) (by blk_simp [idx t])).symm
  have a0 : (⟨(t.val - 1) % 2, by omega⟩ : Fin 2) = 0 := Fin.ext (by show (t.val - 1) % 2 = 0; omega)
  have a1 : (⟨t.val % 2, by omega⟩ : Fin 2) = 1 := Fin.ext h1
  have k0 : (⟨(t.val - 1) / 2 * 256 + y1.val, by omega⟩ : Fin 1536) = ⟨t.val / 2 * 256 + y1.val, by omega⟩ := Fin.ext (by dsimp only; omega)
  simp only [mat_ix2, a0, a1, k0]
  rw [dTap, Fin.sum_univ_two]

/-- The bias's. -/
theorem final6 : (dats m 0 c).arrAt 6 cfg0.N = mat (dBias (m ((c : Thread nD τ).loc main_arg0)) (m ((c : Thread nD τ).loc main_arg1)) (m ((c : Thread nD τ).loc main_arg2)) (m ((c : Thread nD τ).loc main_arg3))) := by
  refine (dats m 0 c).arrAt_eq_of_covers 6 _ (by decide +kernel) fun t hf y => ?_
  have hN : t.val < 12 := lt_of_lt_of_eq t.isLt N_0
  have h1 : t.val % 2 = 1 := (flush0_6 t).1 hf
  have hP : t.val - 1 < 12 := by omega
  have ht : t.val - 1 < cfg0.N := lt_of_lt_of_eq hP N_0.symm
  blk_simp
  rw [after0_6, (out_B m c t hN (by omega)).2, db_add, (out_A m c ⟨t.val - 1, ht⟩ hP (by dsimp only; omega)).2, bias_eq m c t hN, bias_eq m c ⟨t.val - 1, ht⟩ hP]
  idx_vars y
  obtain rfl : y0 = 0 := Subsingleton.elim _ _
  refine Eq.trans ?_ (mat_at (dBias _ _ _ _) _ (i := 0) (j := ⟨t.val / 2 * 256 + y1.val, by omega⟩) (by blk_simp [idx t]) (by blk_simp [idx t])).symm
  have a0 : (⟨(t.val - 1) % 2, by omega⟩ : Fin 2) = 0 := Fin.ext (by show (t.val - 1) % 2 = 0; omega)
  have a1 : (⟨t.val % 2, by omega⟩ : Fin 2) = 1 := Fin.ext h1
  have k0 : (⟨(t.val - 1) / 2 * 256 + y1.val, by omega⟩ : Fin 1536) = ⟨t.val / 2 * 256 + y1.val, by omega⟩ := Fin.ext (by dsimp only; omega)
  simp only [mat_ix2, a0, a1, k0]
  rw [dBias, Fin.sum_univ_two]

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v1_0) = cube (dIn (m ((c : Thread nD τ).loc main_arg0)) (m ((c : Thread nD τ).loc main_arg1)) (m ((c : Thread nD τ).loc main_arg2)) (m ((c : Thread nD τ).loc main_arg3)))
      ∧ r.2.mem ((c : Thread nD τ).loc main_v1_1) = mat (dTap (m ((c : Thread nD τ).loc main_arg0)) (m ((c : Thread nD τ).loc main_arg1)) (m ((c : Thread nD τ).loc main_arg2)) (m ((c : Thread nD τ).loc main_arg3)))
      ∧ r.2.mem ((c : Thread nD τ).loc main_v1_2) = mat (dBias (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩) (run_blocks m ρ)

end Cert.ConvBwdIdeal.Value

namespace Cert.ConvBwdRefIdeal.Value
open Cert.ConvBwdRefIdeal Cert.ConvBwdRefIdeal.Gen Cert.Gmlp Cert.Mlp Cert.Proj Cert.Conv

variable (m : (ℓ : Loc nD τ sig) → Buf (Elt Ideal) ℓ)

/-- For a finite cotangent the chain rule's form is the kernel's. -/
theorem cot_eq (p : FVec Ideal S2x2048x4608 .f32) (t : FVec Ideal S2x2048x1536 .f32) (u : FVec Ideal S4x1536 .f32) (s : FVec Ideal S1536 .f32) (H : Real' t)
    (a : Fin 2) (r : Fin 2048) (k : Fin 1536) : cotArr t (preArr p u s) (ix3 a r k) = cot p t u s a k r := by
  rw [cot_at, pre_at, dAct_eq _ _ (H _)]
  rfl

/-- The reference's run, its results named and its arguments kept. -/
theorem run_out (H : ∀ c : Dev nD, Real' (m ((c : Thread nD τ).loc main_arg1))) (ρ : Dev nD → PrngReg) : θ_run defs (onTc (τ := τ) (main (F := Ideal))) ⟨m, fun _ => 0, ρ⟩ fun r => ∀ c : Dev nD,
    r.2.mem ((c : Thread nD τ).loc main_v49) = cube (dIn (m ((c : Thread nD τ).loc main_arg0)) (m ((c : Thread nD τ).loc main_arg1)) (m ((c : Thread nD τ).loc main_arg2)) (m ((c : Thread nD τ).loc main_arg3)))
      ∧ r.2.mem ((c : Thread nD τ).loc main_v31) = mat (dTap (m ((c : Thread nD τ).loc main_arg0)) (m ((c : Thread nD τ).loc main_arg1)) (m ((c : Thread nD τ).loc main_arg2)) (m ((c : Thread nD τ).loc main_arg3)))
      ∧ r.2.mem ((c : Thread nD τ).loc main_v50) = mat (dBias (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun _ h c => ?_) (run m ρ)
  obtain ⟨h0, h1, h2, hk⟩ := h c
  refine ⟨(h0.trans (res49 m c)).trans ?_, (h1.trans (res31 m c)).trans ?_, (h2.trans (res50 m c)).trans ?_, hk⟩
  · funext y; idx_vars y
    rw [back_at, cube_ix3]
    simp only [cot_eq _ _ _ _ (H c)]
    rfl
  · funext y; idx_vars y
    rw [tap_at, mat_ix2]
    simp only [cot_eq _ _ _ _ (H c)]
    rfl
  · funext y; idx_vars y
    rw [bias_at, mat_ix2]
    simp only [cot_eq _ _ _ _ (H c)]
    rfl

end Cert.ConvBwdRefIdeal.Value
-- ==== Proof.GmlpFwdArrays.lean ====
module

public import proofs.«01_k».proof.Proof.RefForward
public import proofs.«01_k».proof.Proof.Proj
public import proofs.«01_k».proof.Proof.Gen.GmlpFwdIdeal.Value
public import proofs.«01_k».proof.Proof.Gen.GmlpFwdRefIdeal.Run

/-! The spatial-gating mixer's forward pass: the kernel's result array and the reference's are the gated
tokens the backward pass takes again, normalised and scaled. -/

@[expose] public section
set_option maxRecDepth 16384
noncomputable section
open Idealize.ShloMosaic Idealize.ShloMosaic.TcCoe Idealize.SL.Sem

namespace Cert.Gmlp
/-- The mixer's result on one chunk. -/
def mixed (p : Params) (U V : Fin 128 → Fin 512 → EReal) (t : Fin 128) (l : Fin 512) : EReal :=
  yv p U V t l * rmsRs (yv p U V t) * p.og l

/-- The mixer's result at an entry. -/
def outY (a0 : (⟨3, ![2, 2048, 4608]⟩ : Shape).Idx → EReal) (a1 a2 : (⟨2, ![4, 128]⟩ : Shape).Idx → EReal)
    (a3 : (⟨3, ![4, 128, 128]⟩ : Shape).Idx → EReal) (a4 : (⟨2, ![4, 128]⟩ : Shape).Idx → EReal)
    (a5 : (⟨1, ![512]⟩ : Shape).Idx → EReal) (b : Fin 2) (r : Fin 2048) (l : Fin 512) : EReal :=
  mixed (prm a1 a2 a3 a4 a5) (chU a0 b (kc r)) (chV a0 b (kc r)) (kt r) l
end Cert.Gmlp

namespace Cert.GmlpFwdIdeal.Value
open Cert.GmlpFwdIdeal Cert.GmlpFwdIdeal.Gen Cert.Gmlp Cert.Proj

section
variable (p : Params) (U V : Fin 128 → Fin 512 → EReal)

/-! ### Gelu, and the parameters as the body reads them -/

theorem pay2_eq : k0_pay2 (F := Ideal) (cube fun _ => V) = mat V := by
  funext j; idx_vars j; pointwise [k0_pay2, mat_ix2, cube_ix3]
theorem pay3_eq (x : FVec Ideal S1x512 .f32) : k0_pay3 (F := Ideal) x = x := by funext j; idx_vars j; pointwise [k0_pay3]
theorem pay4_eq (x : FVec Ideal S1x512 .f32) : k0_pay4 (F := Ideal) x = x := by funext j; idx_vars j; pointwise [k0_pay4]
theorem pay5_eq (x : FVec Ideal S128x4 .f32) : k0_pay5 (F := Ideal) x = x := by funext j; idx_vars j; pointwise [k0_pay5]
theorem pay6_eq (x : FVec Ideal S1x512 .f32) : k0_pay6 (F := Ideal) x = x := by funext j; idx_vars j; pointwise [k0_pay6]
theorem pay7_eq : k0_pay7 (F := Ideal) (cube fun _ => U) = mat (gel U) := by
  funext j; idx_vars j; pointwise [k0_pay7, mat_ix2, cube_ix3, gel]; exact gelu_eq _
theorem pay11_eq : k0_pay11 (F := Ideal) (k0_pay8 (cube fun _ => V)) (k0_pay9 (cube fun _ => V)) k0_pay10 = mat (gel V) := by
  funext j; idx_vars j; pointwise [k0_pay8, k0_pay9, k0_pay10, k0_pay11, pay2_eq, mat_ix2, gel]; exact gelu_eq _

/-! ### One head's gated tokens, the four heads in turn -/

/-- A head's gated tokens from its gate's terms. -/
theorem head (h : Fin 4) (t e : Fin 128) (f : Fin 128 → EReal) (hf : ∀ s, f s = Scalar.select (tril t s) (p.w h t s * vn p V h s e) 0) :
    gelu (U t (lane h e)) * (∑ s, f s + p.b h t) = gelu (U t (lane h e)) * gate p V h t e := by
  have e1 : ∀ s, Scalar.select (tril t s) (p.w h t s * vn p V h s e) 0 = vn p V h s e * wm p h t s := fun s => by
    unfold wm Scalar.select; split
    · exact mul_comm _ _
    · exact (mul_zero _).symm
  simp only [hf, e1, gate]

theorem pay13_eq : k0_pay13 (F := Ideal) (mat fun _ => p.lg) (mat fun _ => p.lb) (cube p.w) (mat fun t h => p.b h t) (mat (gel U))
      (k0_pay8 (cube fun _ => V)) (k0_pay9 (cube fun _ => V)) k0_pay10
    = mat fun t e => gelu (U t (lane 0 e)) * gate p V 0 t e := by
  funext j; idx_vars j; pointwise [k0_pay13, pay11_eq, k0_pay12, mat_ix2, cube_ix3]
  simp only [lane_zero]
  exact head p U V 0 j0 j1 _ fun s => rfl
theorem pay14_eq : k0_pay14 (F := Ideal) (k0_pay8 (cube fun _ => V)) (k0_pay9 (cube fun _ => V)) k0_pay10
    = mat fun t => center (vrow V 1 t) := by
  funext j; idx_vars j; pointwise [k0_pay14, pay11_eq, mat_ix2, center]; rfl
theorem pay15_eq : k0_pay15 (F := Ideal) (mat fun _ => p.lg) (mat fun _ => p.lb) (cube p.w) (mat fun t h => p.b h t) (mat (gel U)) k0_pay12
      (mat fun t => center (vrow V 1 t))
    = mat fun t e => gelu (U t (lane 1 e)) * gate p V 1 t e := by
  funext j; idx_vars j; pointwise [k0_pay15, k0_pay12, mat_ix2, cube_ix3]
  exact head p U V 1 j0 j1 _ fun s => rfl
theorem pay16_eq : k0_pay16 (F := Ideal) (mat fun _ => p.lg) (mat (gel V)) = mat fun t e => lnXn (vrow V 2 t) e * p.lg (lane 2 e) := by
  funext j; idx_vars j; pointwise [k0_pay16, mat_ix2]; rfl
theorem pay17_eq : k0_pay17 (F := Ideal) (mat fun _ => p.lb) = mat fun _ e => p.lb (lane 2 e) := by
  funext j; idx_vars j; pointwise [k0_pay17, mat_ix2]; rfl

/-- The four heads' gated tokens side by side. -/
theorem pay18_eq : k0_pay18 (F := Ideal) (mat fun _ => p.lg) (mat fun _ => p.lb) (cube p.w) (mat fun t h => p.b h t) (mat (gel U)) (mat (gel V))
      k0_pay12 (mat fun t e => gelu (U t (lane 0 e)) * gate p V 0 t e) (mat fun t e => gelu (U t (lane 1 e)) * gate p V 1 t e)
      (mat fun t e => lnXn (vrow V 2 t) e * p.lg (lane 2 e)) (mat fun _ e => p.lb (lane 2 e))
    = mat (yv p U V) := by
  have h2 : ∀ e t, _ := fun e t => head p U V 2 t e (fun s => Scalar.select (tril t s) (p.w 2 t s * vn p V 2 s e) 0) fun s => rfl
  have h3 : ∀ e t, _ := fun e t => head p U V 3 t e (fun s => Scalar.select (tril t s) (p.w 3 t s * vn p V 3 s e) 0) fun s => rfl
  funext j; idx_vars j; pointwise [k0_pay18, k0_pay12, mat_ix2, cube_ix3]
  refine Eq.trans ?_ ((cat4 (fun h e => gelu (U j0 (lane h e)) * gate p V h j0 e) j1).trans ?_)
  · simp only [← h2, ← h3]; rfl
  · simp only [lane_hd_ln, yv]

/-- The block's entry from the gated tokens. -/
theorem pay1_eq (y : Fin 128 → Fin 512 → EReal) (g : Fin 512 → EReal) (z : FVec Ideal S128x512 .f32) (hz : ∀ t l, z (ix2 t l) = y t l * y t l) :
    k0_pay1 (F := Ideal) (mat fun _ => g) (mat y) z = cube fun _ t l => y t l * rmsRs (y t) * g l := by
  funext j; idx_vars j; pointwise [k0_pay1, mat_ix2, cube_ix3, hz]; rfl
end

variable (m : (ℓ : Loc nD τ sig) → Buf (Elt Ideal) ℓ) (c : Dev nD)

theorem idx : ∀ t : Fin cfg0.N, win0_0.index t = ![t.val / 16, t.val % 16, 0] ∧ win0_1.index t = ![t.val / 16, t.val % 16, 1]
    ∧ win0_2.index t = ![0, 0] ∧ win0_3.index t = ![0, 0] ∧ win0_4.index t = ![0, 0, 0] ∧ win0_5.index t = ![0, 0] ∧ win0_6.index t = ![0, 0]
    ∧ win0_7.index t = ![t.val / 16, t.val % 16, 0] :=
  (by decide +kernel : ∀ t : Fin grid0.N, _)

/-- The parameters a device's arguments hold. -/
abbrev par : Params := prm (m ((c : Thread nD τ).loc main_arg1)) (m ((c : Thread nD τ).loc main_arg2)) (m ((c : Thread nD τ).loc main_arg3))
  (m ((c : Thread nD τ).loc main_arg4)) (m ((c : Thread nD τ).loc main_arg5))
/-- A grid point's sequence and chunk. -/
def sq (t : Fin cfg0.N) : Fin 2 := ⟨t.val / 16, by have : t.val < 32 := lt_of_lt_of_eq t.isLt N_0; omega⟩
def ck (t : Fin cfg0.N) : Fin 16 := ⟨t.val % 16, by omega⟩

/-- What each point reads: its chunk and the parameters. -/
theorem reads (t : Fin cfg0.N) : iblk m c 0 t = (cube fun _ => chU (m ((c : Thread nD τ).loc main_arg0)) (sq t) (ck t))
    ∧ iblk m c 1 t = (cube fun _ => chV (m ((c : Thread nD τ).loc main_arg0)) (sq t) (ck t))
    ∧ iblk m c 2 t = (mat fun _ => (par m c).lg) ∧ iblk m c 3 t = (mat fun _ => (par m c).lb) ∧ iblk m c 4 t = cube (par m c).w
    ∧ iblk m c 5 t = (mat fun t h => (par m c).b h t) ∧ iblk m c 6 t = (mat fun _ => (par m c).og) := by
  refine ⟨?_, ?_, ?_, ?_, ?_, ?_, ?_⟩
  all_goals funext y; idx_vars y
  · blk_point [iblk, V, idx t, cube_ix3, chU, sq, ck, row]
  · blk_point [iblk, V, idx t, cube_ix3, chV, sq, ck, row]
  · rw [mat_ix2]; blk_simp [iblk, idx t]; entry_read; pointwise; blk_point [idx t, prm, hd, ln]
  · rw [mat_ix2]; blk_simp [iblk, idx t]; entry_read; pointwise; blk_point [idx t, prm, hd, ln]
  · blk_point [iblk, V, idx t, cube_ix3, prm]
  · rw [mat_ix2]; blk_simp [iblk, idx t]; entry_read; pointwise; blk_point [idx t, prm]
  · rw [mat_ix2]; blk_simp [iblk, idx t]; entry_read; pointwise; blk_point [idx t, prm]

/-- The block a point writes. -/
theorem point (p : Params) (U V : Fin 128 → Fin 512 → EReal) (i : S1x128x512.Idx) : out0_7 (F := Ideal) (cube fun _ => U) (cube fun _ => V) (mat fun _ => p.lg) (mat fun _ => p.lb) (cube p.w)
    (mat fun t h => p.b h t) (mat fun _ => p.og) i = cube (fun _ => mixed p U V) i := by
  idx_vars i
  unfold_out out0_7
  frame_out
  simp only [pay3_eq, pay4_eq, pay5_eq, pay6_eq, pay7_eq, pay11_eq, pay13_eq, pay14_eq, pay15_eq, pay16_eq, pay17_eq, pay18_eq]
  rw [pay1_eq (yv p U V)]
  · rfl
  · intro t l; pointwise [k0_pay19, pay18_eq, mat_ix2]

/-- The result array. -/
theorem final : (dats m 0 c).arrAt 7 cfg0.N = cube (outY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 7 _ (by decide +kernel) fun t hf y => ?_
  obtain ⟨r0, r1, r2, r3, r4, r5, r6⟩ := reads m c t
  blk_simp
  rw [after0_7, r0, r1, r2, r3, r4, r5, r6, point]
  idx_vars y
  have e0 : ((View.whole main_v4).slice (win0_7.rect t)).emb (ix3 y0 y1 y2) 0 = sq t := Fin.ext (by blk_simp [idx t]; simp [sq])
  have e1 : ((View.whole main_v4).slice (win0_7.rect t)).emb (ix3 y0 y1 y2) 1 = row (ck t) y1 := Fin.ext (by blk_simp [idx t]; rfl)
  have e2 : ((View.whole main_v4).slice (win0_7.rect t)).emb (ix3 y0 y1 y2) 2 = y2 := Fin.ext (by blk_simp [idx t])
  simp only [cube, e0, e1, e2, outY, kc_row, kt_row]
  rfl

/-- The run, its result named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v4) = cube (outY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (run_blocks m ρ)

end Cert.GmlpFwdIdeal.Value

namespace Cert.GmlpFwdRefIdeal.Value
open Cert.GmlpFwdRefIdeal Cert.GmlpFwdRefIdeal.Gen Cert.Gmlp Cert.Proj

/-- Some contents of the backward reference's buffers hold given arguments. -/
theorem holds (a0 : FVec Ideal S2x2048x4608 .f32) (a1 a2 : FVec Ideal S4x128 .f32) (a3 : FVec Ideal S4x128x128 .f32) (a4 : FVec Ideal S4x128 .f32) (a5 : FVec Ideal S512 .f32) :
    ∃ V0 : Valuation ReferenceIdeal.τ ReferenceIdeal.sig (Elt Ideal), V0 (Proc.devRef .tc ReferenceIdeal.main_arg0) = a0
      ∧ V0 (Proc.devRef .tc ReferenceIdeal.main_arg2) = a1 ∧ V0 (Proc.devRef .tc ReferenceIdeal.main_arg3) = a2
      ∧ V0 (Proc.devRef .tc ReferenceIdeal.main_arg4) = a3 ∧ V0 (Proc.devRef .tc ReferenceIdeal.main_arg5) = a4
      ∧ V0 (Proc.devRef .tc ReferenceIdeal.main_arg6) = a5 := by
  classical
  let W : Valuation ReferenceIdeal.τ ReferenceIdeal.sig (Elt Ideal) := fun _ => default
  refine ⟨Function.update (Function.update (Function.update (Function.update (Function.update (Function.update W
    (Proc.devRef .tc ReferenceIdeal.main_arg0) a0) (Proc.devRef .tc ReferenceIdeal.main_arg2) a1) (Proc.devRef .tc ReferenceIdeal.main_arg3) a2)
    (Proc.devRef .tc ReferenceIdeal.main_arg4) a3) (Proc.devRef .tc ReferenceIdeal.main_arg5) a4) (Proc.devRef .tc ReferenceIdeal.main_arg6) a5, ?_, ?_, ?_, ?_, ?_, ?_⟩
  all_goals first | exact Function.update_self .. | skip
  all_goals repeat (first | exact Function.update_self .. | refine (Function.update_of_ne (by decide) _ _).trans ?_)

variable (m : (ℓ : Loc nD τ sig) → Buf (Elt Ideal) ℓ)

theorem res_eq (c : Dev nD) (V0 : Valuation ReferenceIdeal.τ ReferenceIdeal.sig (Elt Ideal))
    (h0 : V0 (Proc.devRef .tc ReferenceIdeal.main_arg0) = m ((c : Thread nD τ).loc main_arg0))
    (h1 : V0 (Proc.devRef .tc ReferenceIdeal.main_arg2) = m ((c : Thread nD τ).loc main_arg1))
    (h2 : V0 (Proc.devRef .tc ReferenceIdeal.main_arg3) = m ((c : Thread nD τ).loc main_arg2))
    (h3 : V0 (Proc.devRef .tc ReferenceIdeal.main_arg4) = m ((c : Thread nD τ).loc main_arg3))
    (h4 : V0 (Proc.devRef .tc ReferenceIdeal.main_arg5) = m ((c : Thread nD τ).loc main_arg4)) :
    res_main_v75 (F := Ideal) m c = truncf (F := Ideal) .bf16 (mulf (ReferenceIdeal.Value.res_main_v93 V0)
      (broadcastInDim S2x2048x512 ![0, 1, 2] bcast_S1x1x512_S2x2048x512_0_1_2 (broadcastInDim S1x1x512 ![2] bcast_S512_S1x1x512_2 (m ((c : Thread nD τ).loc main_arg5))))) bitsLt_bf16_f32 := by
  unfold res_main_v75
  rw [← h0, ← h1, ← h2, ← h3, ← h4]
  rfl

/-- The reference's run, its result named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v75) = cube (outY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun _ h c => ?_) (run m ρ)
  obtain ⟨h0, hk⟩ := h c
  obtain ⟨V0, e0, e1, e2, e3, e4, e5⟩ := holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
  refine ⟨(h0.trans (res_eq m c V0 e0 e1 e2 e3 e4)).trans ?_, hk⟩
  rw [ReferenceIdeal.Value.v93_eq, ReferenceIdeal.Value.rp, ReferenceIdeal.Value.rU, ReferenceIdeal.Value.rV, e0, e1, e2, e3, e4, e5]
  funext y; idx_vars y
  pointwise [at3_ix, cube_ix3, outY, mixed]
  rfl

end Cert.GmlpFwdRefIdeal.Value
-- ==== Proof.ConvFwdArrays.lean ====
module

public import proofs.«01_k».proof.Proof.ConvBwdArrays
public import proofs.«01_k».proof.Proof.Gen.ConvFwdIdeal.Value
public import proofs.«01_k».proof.Proof.Gen.ConvFwdRefIdeal.Run

/-! The convolution's forward pass: its pre-activation is the one the backward pass takes again. -/

@[expose] public section
set_option maxRecDepth 16384
noncomputable section
open Idealize.ShloMosaic Idealize.ShloMosaic.TcCoe Idealize.SL.Sem

namespace Cert.ConvFwdIdeal.Value
open Cert.ConvFwdIdeal Cert.ConvFwdIdeal.Gen Cert.Gmlp Cert.Mlp Cert.Proj Cert.Conv

variable (m : (ℓ : Loc nD τ sig) → Buf (Elt Ideal) ℓ) (c : Dev nD)

theorem idx : ∀ t : Fin cfg0.N, win0_0.index t = ![t.val / 6, 0, 11 + t.val % 6] ∧ win0_1.index t = ![0, t.val % 6] ∧ win0_2.index t = ![0, t.val % 6]
    ∧ win0_3.index t = ![t.val / 6, 0, t.val % 6] :=
  (by decide +kernel : ∀ t : Fin grid0.N, _)

/-- The two halves of the pre-activation are the backward call's. -/
theorem sum_eq (x : Vec Ideal S1x2048x256 .f32) (w : Vec Ideal S4x256 .f32) : k0_pay2 (F := Ideal) x w = ConvBwdIdeal.Gen.k0_pay10 (F := Ideal) x w := rfl
theorem shift_eq (b : Vec Ideal S1x256 .f32) : k0_pay3 (F := Ideal) b = ConvBwdIdeal.Gen.k0_pay11 (F := Ideal) b := rfl
/-- The block a point writes. -/
theorem pay_eq (y z : FVec Ideal S2048x256 .f32) : k0_pay1 (F := Ideal) y z = cube fun _ r k => silu (z (ix2 r k) + y (ix2 r k)) := by
  funext i; idx_vars i; pointwise [k0_pay1, cube_ix3, silu, sigm, zero_sub]

/-- The result array. -/
theorem final : (dats m 0 c).arrAt 3 cfg0.N = cube (conv (m ((c : Thread nD τ).loc main_arg0)) (m ((c : Thread nD τ).loc main_arg1)) (m ((c : Thread nD τ).loc main_arg2))) := by
  refine (dats m 0 c).arrAt_eq_of_covers 3 _ (by decide +kernel) fun t hf y => ?_
  have hN : t.val < 12 := lt_of_lt_of_eq t.isLt N_0
  blk_simp
  rw [after0_3]
  idx_vars y
  frame_out
  rw [pay_eq, cube_ix3, sum_eq, shift_eq, ConvBwdIdeal.Value.pre_eq]
  have e0 : ∀ r, iblk m c 0 t (ix3 0 r y2) = (m ((c : Thread nD τ).loc main_arg0)) (ix3 ⟨t.val / 6, by omega⟩ r ⟨2816 + (t.val % 6 * 256 + y2.val), by omega⟩) := fun r => by
    blk_simp [iblk, idx t]; entry_read; pointwise; blk_point [idx t]
  have e1 : ∀ i, iblk m c 1 t (ix2 i y2) = (m ((c : Thread nD τ).loc main_arg1)) (ix2 i ⟨t.val % 6 * 256 + y2.val, by omega⟩) := fun i => by
    blk_simp [iblk, idx t]; entry_read; pointwise; blk_point [idx t]
  have e2 : iblk m c 2 t (ix2 0 y2) = (m ((c : Thread nD τ).loc main_arg2)) (ix1 ⟨t.val % 6 * 256 + y2.val, by omega⟩) := by
    blk_simp [iblk, idx t]; entry_read; pointwise; blk_point [idx t]
  simp only [e0, e1, e2]
  exact (cube_at (conv _ _ _) _ (a := ⟨t.val / 6, by omega⟩) (b := y1) (d := ⟨t.val % 6 * 256 + y2.val, by omega⟩) (by blk_simp [idx t]) (by blk_simp [idx t]) (by blk_simp [idx t])).symm

/-- The run, its result named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v1) = cube (conv (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.ConvFwdIdeal.Value

namespace Cert.ConvFwdRefIdeal.Value
open Cert.ConvFwdRefIdeal Cert.ConvFwdRefIdeal.Gen Cert.Gmlp Cert.Mlp Cert.Proj Cert.Conv

variable (m : (ℓ : Loc nD τ sig) → Buf (Elt Ideal) ℓ)

/-- The reference's activation. -/
def siluArr (z : FVec Ideal S2x2048x1536 .f32) : FVec Ideal S2x2048x1536 .f32 :=
  mulf z (Host.divf (broadcastInDim S2x2048x1536 ![] bcast_S_S2x2048x1536 (constant S_ .f32 0x3F800000#32)) (addf (broadcastInDim S2x2048x1536 ![] bcast_S_S2x2048x1536 (constant S_ .f32 0x3F800000#32)) (Host.exp (Host.negf z))))

theorem silu_at (z : FVec Ideal S2x2048x1536 .f32) (a : Fin 2) (r : Fin 2048) (k : Fin 1536) : siluArr z (ix3 a r k) = silu (z (ix3 a r k)) := by
  pointwise [siluArr, silu, sigm]

theorem res_eq (c : Dev nD) : res_main_v19 (F := Ideal) m c = siluArr (ConvBwdRefIdeal.Value.preArr (m ((c : Thread nD τ).loc main_arg0)) (m ((c : Thread nD τ).loc main_arg1)) (m ((c : Thread nD τ).loc main_arg2))) := by
  unfold res_main_v19 siluArr ConvBwdRefIdeal.Value.preArr ConvBwdRefIdeal.Value.copies ConvBwdRefIdeal.Value.paddedIn; rfl

/-- The reference's run, its result named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v19) = cube (conv (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (run m ρ)
  obtain ⟨h0, hk⟩ := h c
  refine ⟨(h0.trans (res_eq m c)).trans ?_, hk⟩
  funext y; idx_vars y
  rw [silu_at, cube_ix3, ConvBwdRefIdeal.Value.pre_at]
  rfl

end Cert.ConvFwdRefIdeal.Value
-- ==== Proof.AttnSpec.lean ====
module

public import proofs.«01_k».proof.Proof.Proj
public import proofs.«01_k».proof.Proof.RefForward

/-! The sliding-window attention, row by row: a row's masked scores against its window's 256 keys, the largest of
them and the sink, the exponentials over their sum, and the weighted values. -/

@[expose] public section
set_option maxRecDepth 16384
noncomputable section
open Idealize.ShloMosaic Idealize.ShloMosaic.TcCoe Idealize.SL.Sem

namespace Cert.Attn
open Cert.Gmlp Cert.Proj

/-- A row's masked scores. -/
def sc (ok : Fin 256 → BitVec 1) (q : Fin 64 → EReal) (k : Fin 256 → Fin 64 → EReal) (j : Fin 256) : EReal :=
  Scalar.select (ok j) ((∑ d, q d * k j d) * Ideal.ofBits .f32 0x3E000000#32) ⊥
/-- The largest of a row's scores and the sink. -/
def top (x : Fin 256 → EReal) (s : EReal) : EReal := max (Finset.univ.fold max (Ideal.ofBits .f32 0xFF800000#32) x) s
/-- The row's exponentials, and their sum with the sink's. -/
def ex (x : Fin 256 → EReal) (s : EReal) (j : Fin 256) : EReal := Ideal.exp (x j - top x s)
def den (x : Fin 256 → EReal) (s : EReal) : EReal := ∑ j, ex x s j + Ideal.exp (s - top x s)
/-- The row's weighted values. -/
def att (x : Fin 256 → EReal) (s : EReal) (v : Fin 256 → EReal) : EReal := ∑ j, Ideal.div (ex x s j) (den x s) * v j

/-- The head and the place in it of a column, and the column of a head's key group. -/
def hd8 (c : Fin 512) : Fin 8 := ⟨c.val / 64, by omega⟩
def qcol (h : Fin 8) (d : Fin 64) : Fin 512 := ⟨h.val * 64 + d.val, by omega⟩
def kcol (h : Fin 8) (d : Fin 64) : Fin 128 := ⟨h.val / 4 * 64 + d.val, by omega⟩
def ln64 (c : Fin 512) : Fin 64 := ⟨c.val % 64, by omega⟩

/-- One window's rows before the norm: `ok` its mask, `q` its queries, `K` and `V` its 256 keys and values, `s` the sinks. -/
def win (ok : Fin 128 → Fin 256 → BitVec 1) (q : Fin 128 → Fin 512 → EReal) (K V : Fin 256 → Fin 128 → EReal) (s : Fin 8 → EReal)
    (i : Fin 128) (c : Fin 512) : EReal :=
  att (sc (ok i) (fun d => q i (qcol (hd8 c) d)) fun j d => K j (kcol (hd8 c) d)) (s (hd8 c)) fun j => V j (kcol (hd8 c) (ln64 c))
/-- The window's normalised rows. -/
def wout (ok : Fin 128 → Fin 256 → BitVec 1) (q : Fin 128 → Fin 512 → EReal) (K V : Fin 256 → Fin 128 → EReal) (s : Fin 8 → EReal) (g : Fin 512 → EReal)
    (i : Fin 128) (c : Fin 512) : EReal :=
  win ok q K V s i c * rmsRs (win ok q K V s i) * g c

/-- Whether a row sees a key of its window: less than 128 places back, and the key's half there (`b` says whether the previous window is). -/
def okAt (b : BitVec 1) (i j : ℕ) : BitVec 1 :=
  IntOp.andi (IntOp.andi (IntOp.cmpi CmpIPredicate.sge (IntOp.subi (IntOp.addi (BitVec.ofNat 32 i) 128#32) (BitVec.ofNat 32 j)) 0#32)
    (IntOp.cmpi CmpIPredicate.slt (IntOp.subi (IntOp.addi (BitVec.ofNat 32 i) 128#32) (BitVec.ofNat 32 j)) 128#32))
    (IntOp.ori (IntOp.cmpi CmpIPredicate.sge (BitVec.ofNat 32 j) 128#32) b)

/-- The row of a window's key, where the first window reads itself twice. -/
def keyRow (n : Fin 16) (j : Fin 256) : Fin 2048 :=
  if j.val < 128 then ⟨(n.val - 1) * 128 + j.val % 128, by omega⟩ else ⟨n.val * 128 + j.val % 128, by omega⟩
/-- A window's queries, and its keys and values, 128 columns from column `o` on. -/
def qW (a0 : (⟨3, ![2, 2048, 4608]⟩ : Shape).Idx → EReal) (b : Fin 2) (n : Fin 16) (i : Fin 128) (c : Fin 512) : EReal :=
  a0 (ix3 b ⟨n.val * 128 + i.val, by omega⟩ ⟨1024 + c.val, by omega⟩)
def kW (a0 : (⟨3, ![2, 2048, 4608]⟩ : Shape).Idx → EReal) (b : Fin 2) (n : Fin 16) (j : Fin 256) (c : Fin 128) : EReal :=
  a0 (ix3 b (keyRow n j) ⟨1536 + c.val, by omega⟩)
def vW (a0 : (⟨3, ![2, 2048, 4608]⟩ : Shape).Idx → EReal) (b : Fin 2) (n : Fin 16) (j : Fin 256) (c : Fin 128) : EReal :=
  a0 (ix3 b (keyRow n j) ⟨1664 + c.val, by omega⟩)
/-- A window's mask: the first one has none before it. -/
def okN (n : Fin 16) (i : Fin 128) (j : Fin 256) : BitVec 1 := okAt (if n.val = 0 then 0#1 else 1#1) i j
/-- The attention's result at an entry. -/
def outA (a0 : (⟨3, ![2, 2048, 4608]⟩ : Shape).Idx → EReal) (a1 : (⟨1, ![8]⟩ : Shape).Idx → EReal) (a2 : (⟨1, ![512]⟩ : Shape).Idx → EReal)
    (b : Fin 2) (r : Fin 2048) (c : Fin 512) : EReal :=
  wout (okN (kc r)) (qW a0 b (kc r)) (kW a0 b (kc r)) (vW a0 b (kc r)) (fun h => a1 (ix1 h)) (fun c => a2 (ix1 c)) (kt r) c

end Cert.Attn
-- ==== Proof.AttnFwdBlock.lean ====
module

public import proofs.«01_k».proof.Proof.AttnSpec
public import proofs.«01_k».proof.Proof.Gen.AttnFwdIdeal.Value

/-! One window of the sliding-window attention, as the kernel's body computes it. -/

@[expose] public section
set_option maxRecDepth 16384
noncomputable section
open Idealize.ShloMosaic Idealize.ShloMosaic.TcCoe Idealize.SL.Sem

namespace Cert.AttnFwdIdeal.Value
open Cert.AttnFwdIdeal Cert.AttnFwdIdeal.Gen Cert.Gmlp Cert.Attn

/-- The masked scores of a group's 512 query rows. -/
def scores (ok : IVec S512x256 1) (q : FVec Ideal S512x64 .f32) (k : FVec Ideal S256x64 .f32) : FVec Ideal S512x256 .f32 :=
  select ok (mulf (matmul dot_S512x64_S256x64_S512x256_1_1_0_0_n_n none (truncf .bf16 q bitsLt_bf16_f32) (truncf .bf16 k bitsLt_bf16_f32) (constant S512x256 .f32 0x00000000#32))
    (broadcast S512x256 (Scalar.ofBits .f32 0x3E000000#32))) (broadcast S512x256 (Named.named κ "mask" 0xF149F2CA#32))
/-- The rows' largest entries, the sinks among them. -/
def tops (sc : FVec Ideal S512x256 .f32) (s : FVec Ideal S512x1 .f32) : FVec Ideal S512x1 .f32 :=
  maximumf (shapeCast S512x1 (multiReduction .maximumf [1] S512 sc 0xFF800000#32 reduces_S512x256_S512 (.inl rfl) rfl) shapeCasts_S512_S512x1) s
/-- The rows' exponentials. -/
def exps (sc : FVec Ideal S512x256 .f32) (s : FVec Ideal S512x1 .f32) : FVec Ideal S512x256 .f32 :=
  exp (subf sc (broadcastTo S512x256 (tops sc s) broadcasts_S512x1_S512x256))
/-- The rows' denominators. -/
def denoms (sc : FVec Ideal S512x256 .f32) (s : FVec Ideal S512x1 .f32) : FVec Ideal S512x1 .f32 :=
  addf (shapeCast S512x1 (multiReduction .add [1] S512 (exps sc s) 0x00000000#32 reduces_S512x256_S512 (.inl rfl) rfl) shapeCasts_S512_S512x1) (exp (subf s (tops sc s)))
/-- A group's weighted values. -/
def weighted (sc : FVec Ideal S512x256 .f32) (s : FVec Ideal S512x1 .f32) (v : FVec Ideal S256x64 .f32) : FVec Ideal S512x64 .f32 :=
  matmul dot_S512x256_S256x64_S512x64_1_0_0_1_n_n none
    (truncf .bf16 (divf (exps sc s) (broadcastTo S512x256 (denoms sc s) broadcasts_S512x1_S512x256)) bitsLt_bf16_f32) (truncf .bf16 v bitsLt_bf16_f32) (constant S512x64 .f32 0x00000000#32)

/-- The queries of heads 0 to 3, one head's rows after another's. -/
def queries0 (q : FVec Ideal S128x512 .f32) : FVec Ideal S512x64 .f32 :=
  concatenate S512x64 0 [⟨S128x64, extractStridedSlice S128x64 ![0, 0] q slices_S128x512_o0_0_S128x64⟩, ⟨S128x64, extractStridedSlice S128x64 ![0, 64] q slices_S128x512_o0_64_S128x64⟩,
    ⟨S128x64, extractStridedSlice S128x64 ![0, 128] q slices_S128x512_o0_128_S128x64⟩, ⟨S128x64, extractStridedSlice S128x64 ![0, 192] q slices_S128x512_o0_192_S128x64⟩] concatenates_S128x64_S128x64_S128x64_S128x64_S512x64_d0
/-- The queries of heads 4 to 7. -/
def queries1 (q : FVec Ideal S128x512 .f32) : FVec Ideal S512x64 .f32 :=
  concatenate S512x64 0 [⟨S128x64, extractStridedSlice S128x64 ![0, 256] q slices_S128x512_o0_256_S128x64⟩, ⟨S128x64, extractStridedSlice S128x64 ![0, 320] q slices_S128x512_o0_320_S128x64⟩,
    ⟨S128x64, extractStridedSlice S128x64 ![0, 384] q slices_S128x512_o0_384_S128x64⟩, ⟨S128x64, extractStridedSlice S128x64 ![0, 448] q slices_S128x512_o0_448_S128x64⟩] concatenates_S128x64_S128x64_S128x64_S128x64_S512x64_d0
/-- One sink, down a window's rows. -/
def sinkRow (s : FVec Ideal S1x1 .f32) : FVec Ideal S128x1 .f32 := broadcastTo S128x1 (shapeCast S1x1 s shapeCasts_S1x1_S1x1) broadcasts_S1x1_S128x1
/-- The sinks of heads 0 to 3. -/
def sinks0 (s : FVec Ideal S1x8 .f32) : FVec Ideal S512x1 .f32 :=
  concatenate S512x1 0 [⟨S128x1, sinkRow (extractStridedSlice S1x1 ![0, 0] s slices_S1x8_o0_0_S1x1)⟩, ⟨S128x1, sinkRow (extractStridedSlice S1x1 ![0, 1] s slices_S1x8_o0_1_S1x1)⟩,
    ⟨S128x1, sinkRow (extractStridedSlice S1x1 ![0, 2] s slices_S1x8_o0_2_S1x1)⟩, ⟨S128x1, sinkRow (extractStridedSlice S1x1 ![0, 3] s slices_S1x8_o0_3_S1x1)⟩] concatenates_S128x1_S128x1_S128x1_S128x1_S512x1_d0
/-- The sinks of heads 4 to 7. -/
def sinks1 (s : FVec Ideal S1x8 .f32) : FVec Ideal S512x1 .f32 :=
  concatenate S512x1 0 [⟨S128x1, sinkRow (extractStridedSlice S1x1 ![0, 4] s slices_S1x8_o0_4_S1x1)⟩, ⟨S128x1, sinkRow (extractStridedSlice S1x1 ![0, 5] s slices_S1x8_o0_5_S1x1)⟩,
    ⟨S128x1, sinkRow (extractStridedSlice S1x1 ![0, 6] s slices_S1x8_o0_6_S1x1)⟩, ⟨S128x1, sinkRow (extractStridedSlice S1x1 ![0, 7] s slices_S1x8_o0_7_S1x1)⟩] concatenates_S128x1_S128x1_S128x1_S128x1_S512x1_d0
/-- The previous window's rows above the window's own. -/
def pair (x y : FVec Ideal S1x128x128 .f32) : FVec Ideal S256x128 .f32 :=
  concatenate S256x128 0 [⟨S128x128, shapeCast S128x128 x shapeCasts_S1x128x128_S128x128⟩, ⟨S128x128, shapeCast S128x128 y shapeCasts_S1x128x128_S128x128⟩] concatenates_S128x128_S128x128_S256x128_d0
/-- The columns of the first key group, and of the second. -/
def grp0 (k : FVec Ideal S256x128 .f32) : FVec Ideal S256x64 .f32 := extractStridedSlice S256x64 ![0, 0] k slices_S256x128_o0_0_S256x64
def grp1 (k : FVec Ideal S256x128 .f32) : FVec Ideal S256x64 .f32 := extractStridedSlice S256x64 ![0, 64] k slices_S256x128_o0_64_S256x64
/-- The eight heads side by side. -/
def heads (a b : FVec Ideal S512x64 .f32) : FVec Ideal S128x512 .f32 :=
  concatenate S128x512 1 [⟨S128x64, extractStridedSlice S128x64 ![0, 0] a slices_S512x64_o0_0_S128x64⟩, ⟨S128x64, extractStridedSlice S128x64 ![128, 0] a slices_S512x64_o128_0_S128x64⟩,
    ⟨S128x64, extractStridedSlice S128x64 ![256, 0] a slices_S512x64_o256_0_S128x64⟩, ⟨S128x64, extractStridedSlice S128x64 ![384, 0] a slices_S512x64_o384_0_S128x64⟩,
    ⟨S128x64, extractStridedSlice S128x64 ![0, 0] b slices_S512x64_o0_0_S128x64⟩, ⟨S128x64, extractStridedSlice S128x64 ![128, 0] b slices_S512x64_o128_0_S128x64⟩,
    ⟨S128x64, extractStridedSlice S128x64 ![256, 0] b slices_S512x64_o256_0_S128x64⟩, ⟨S128x64, extractStridedSlice S128x64 ![384, 0] b slices_S512x64_o384_0_S128x64⟩] concatenates_S128x64_S128x64_S128x64_S128x64_S128x64_S128x64_S128x64_S128x64_S128x512_d1
/-- The rows normalised by their mean square, and scaled. -/
def normed (o : FVec Ideal S128x512 .f32) (g : FVec Ideal S1x512 .f32) : FVec Ideal S1x128x512 .bf16 :=
  shapeCast S1x128x512 (truncf .bf16 (mulf (mulf o (broadcastTo S128x512 (rsqrt (addf (divf (shapeCast S128x1 (multiReduction .add [1] S128 (mulf o o) 0x00000000#32 reduces_S128x512_S128 (.inl rfl) rfl) shapeCasts_S128_S128x1)
    (broadcast S128x1 (Scalar.ofBits .f32 0x44000000#32))) (broadcast S128x1 (Scalar.ofBits .f32 0x358637BD#32)))) broadcasts_S128x1_S128x512)) (broadcastTo S128x512 g broadcasts_S1x512_S128x512)) bitsLt_bf16_f32) shapeCasts_S128x512_S1x128x512
/-- A window's block of the result. -/
def block (ok : IVec S512x256 1) (q : FVec Ideal S1x128x512 .f32) (kp k vp v : FVec Ideal S1x128x128 .f32) (s : FVec Ideal S1x8 .f32) (g : FVec Ideal S1x512 .f32) : FVec Ideal S1x128x512 .bf16 :=
  normed (heads
    (weighted (scores ok (queries0 (shapeCast S128x512 q shapeCasts_S1x128x512_S128x512)) (grp0 (pair kp k))) (sinks0 (shapeCast S1x8 s shapeCasts_S1x8_S1x8)) (grp0 (pair vp v)))
    (weighted (scores ok (queries1 (shapeCast S128x512 q shapeCasts_S1x128x512_S128x512)) (grp1 (pair kp k))) (sinks1 (shapeCast S1x8 s shapeCasts_S1x8_S1x8)) (grp1 (pair vp v))))
    (shapeCast S1x512 g shapeCasts_S1x512_S1x512)
/-- The mask of a grid step's first window, and of the others. -/
def first (i : grid0.Coords) : IVec S512x256 1 := k0_pay7 i
def later : IVec S512x256 1 := k0_pay28 k0_pay26 k0_pay27

theorem out_eq (i : grid0.Coords) (x0 : Vec Ideal S1x1024x512 .f32) (x1 : Vec Ideal S1x128x128 .f32) (x2 : Vec Ideal S1x1024x128 .f32) (x3 : Vec Ideal S1x128x128 .f32) (x4 : Vec Ideal S1x1024x128 .f32) (x5 : Vec Ideal S1x8 .f32) (x6 : Vec Ideal S1x512 .f32) :
    out0_7 (F := Ideal) i x0 x1 x2 x3 x4 x5 x6 = View.canon
      [⟨r0_17, block later (View.ld x0 r0_17) (View.ld x2 r0_16) (View.ld x2 r0_18) (View.ld x4 r0_16) (View.ld x4 r0_18) (View.ld x5 r0_3) (View.ld x6 r0_4)⟩,
       ⟨r0_15, block later (View.ld x0 r0_15) (View.ld x2 r0_14) (View.ld x2 r0_16) (View.ld x4 r0_14) (View.ld x4 r0_16) (View.ld x5 r0_3) (View.ld x6 r0_4)⟩,
       ⟨r0_13, block later (View.ld x0 r0_13) (View.ld x2 r0_12) (View.ld x2 r0_14) (View.ld x4 r0_12) (View.ld x4 r0_14) (View.ld x5 r0_3) (View.ld x6 r0_4)⟩,
       ⟨r0_11, block later (View.ld x0 r0_11) (View.ld x2 r0_10) (View.ld x2 r0_12) (View.ld x4 r0_10) (View.ld x4 r0_12) (View.ld x5 r0_3) (View.ld x6 r0_4)⟩,
       ⟨r0_9, block later (View.ld x0 r0_9) (View.ld x2 r0_8) (View.ld x2 r0_10) (View.ld x4 r0_8) (View.ld x4 r0_10) (View.ld x5 r0_3) (View.ld x6 r0_4)⟩,
       ⟨r0_7, block later (View.ld x0 r0_7) (View.ld x2 r0_6) (View.ld x2 r0_8) (View.ld x4 r0_6) (View.ld x4 r0_8) (View.ld x5 r0_3) (View.ld x6 r0_4)⟩,
       ⟨r0_5, block later (View.ld x0 r0_5) (View.ld x2 r0_2) (View.ld x2 r0_6) (View.ld x4 r0_2) (View.ld x4 r0_6) (View.ld x5 r0_3) (View.ld x6 r0_4)⟩,
       ⟨r0_1, block (first i) (View.ld x0 r0_1) (View.ld x1 r0_0) (View.ld x2 r0_2) (View.ld x3 r0_0) (View.ld x4 r0_2) (View.ld x5 r0_3) (View.ld x6 r0_4)⟩] := by
  unfold_out out0_7
  rfl

/-! ### The pieces at an entry -/

theorem scores_at (ok : IVec S512x256 1) (q : FVec Ideal S512x64 .f32) (k : FVec Ideal S256x64 .f32) (r : Fin 512) (j : Fin 256) :
    scores ok q k (ix2 r j) = sc (fun j => ok (ix2 r j)) (fun d => q (ix2 r d)) (fun j d => k (ix2 j d)) j := by
  pointwise [scores]; rfl
theorem tops_at (x : FVec Ideal S512x256 .f32) (s : FVec Ideal S512x1 .f32) (r : Fin 512) :
    tops x s (ix2 r 0) = top (fun j => x (ix2 r j)) (s (ix2 r 0)) := by
  pointwise [tops]; rfl
theorem weighted_at (x : FVec Ideal S512x256 .f32) (s : FVec Ideal S512x1 .f32) (v : FVec Ideal S256x64 .f32) (r : Fin 512) (d : Fin 64) :
    weighted x s v (ix2 r d) = att (fun j => x (ix2 r j)) (s (ix2 r 0)) fun j => v (ix2 j d) := by
  pointwise [weighted, exps, denoms]; simp only [tops_at]; rfl
theorem queries0_at (q : FVec Ideal S128x512 .f32) (r : Fin 512) (d : Fin 64) (h : Fin 8) (i : Fin 128) (e : r.val = h.val * 128 + i.val) :
    queries0 q (ix2 r d) = q (ix2 i (qcol h d)) := by
  pointwise [queries0]
  split_ifs <;> exact congrArg q (congrArg₂ ix2 (Fin.ext (by dsimp; omega)) (Fin.ext (by simp only [qcol]; omega)))
theorem queries1_at (q : FVec Ideal S128x512 .f32) (r : Fin 512) (d : Fin 64) (h : Fin 8) (i : Fin 128) (e : r.val + 512 = h.val * 128 + i.val) :
    queries1 q (ix2 r d) = q (ix2 i (qcol h d)) := by
  pointwise [queries1]
  split_ifs <;> exact congrArg q (congrArg₂ ix2 (Fin.ext (by dsimp; omega)) (Fin.ext (by simp only [qcol]; omega)))
theorem sinks0_at (s : FVec Ideal S1x8 .f32) (r : Fin 512) (h : Fin 8) (i : Fin 128) (e : r.val = h.val * 128 + i.val) :
    sinks0 s (ix2 r 0) = s (ix2 0 h) := by
  pointwise [sinks0, sinkRow]
  split_ifs <;> (refine congrArg (fun n => s (ix2 0 n)) (Fin.ext ?_); simp only [Fin.isValue, Fin.val_zero, Fin.val_one, Fin.reduceFinMk, Fin.val_ofNat]; omega)
theorem sinks1_at (s : FVec Ideal S1x8 .f32) (r : Fin 512) (h : Fin 8) (i : Fin 128) (e : r.val + 512 = h.val * 128 + i.val) :
    sinks1 s (ix2 r 0) = s (ix2 0 h) := by
  pointwise [sinks1, sinkRow]
  split_ifs <;> (refine congrArg (fun n => s (ix2 0 n)) (Fin.ext ?_); simp only [Fin.isValue, Fin.val_zero, Fin.val_one, Fin.reduceFinMk, Fin.val_ofNat]; omega)
/-- The 256 rows a window reads, from the previous window's and its own. -/
def two (x y : FVec Ideal S1x128x128 .f32) (j : Fin 256) (c : Fin 128) : EReal :=
  if h : j.val < 128 then x (ix3 0 ⟨j.val, h⟩ c) else y (ix3 0 ⟨j.val - 128, by omega⟩ c)
theorem grp0_at (x y : FVec Ideal S1x128x128 .f32) (j : Fin 256) (d : Fin 64) (h : Fin 8) (e : h.val < 4) :
    grp0 (pair x y) (ix2 j d) = two x y j (kcol h d) := by
  have : kcol h d = ⟨d.val, by omega⟩ := Fin.ext (by simp only [kcol]; omega)
  pointwise [grp0, pair, two, this]
theorem grp1_at (x y : FVec Ideal S1x128x128 .f32) (j : Fin 256) (d : Fin 64) (h : Fin 8) (e : 4 ≤ h.val) :
    grp1 (pair x y) (ix2 j d) = two x y j (kcol h d) := by
  have : kcol h d = ⟨64 + d.val, by omega⟩ := Fin.ext (by simp only [kcol]; omega)
  pointwise [grp1, pair, two, this]
theorem heads_lo (a b : FVec Ideal S512x64 .f32) (i : Fin 128) (c : Fin 512) (r : Fin 512) (e : r.val = (hd8 c).val * 128 + i.val) (hc : (hd8 c).val < 4) :
    heads a b (ix2 i c) = a (ix2 r (ln64 c)) := by
  simp only [hd8] at e hc
  pointwise [heads]
  split_ifs <;> first | omega | exact congrArg a (congrArg₂ ix2 (Fin.ext (by dsimp; omega)) (Fin.ext (by simp only [ln64]; omega)))
theorem heads_hi (a b : FVec Ideal S512x64 .f32) (i : Fin 128) (c : Fin 512) (r : Fin 512) (e : r.val + 512 = (hd8 c).val * 128 + i.val) (hc : 4 ≤ (hd8 c).val) :
    heads a b (ix2 i c) = b (ix2 r (ln64 c)) := by
  simp only [hd8] at e hc
  pointwise [heads]
  split_ifs <;> first | omega | exact congrArg b (congrArg₂ ix2 (Fin.ext (by dsimp; omega)) (Fin.ext (by simp only [ln64]; omega)))
theorem normed_at (o : FVec Ideal S128x512 .f32) (g : FVec Ideal S1x512 .f32) (i : Fin 128) (c : Fin 512) :
    normed o g (ix3 0 i c) = o (ix2 i c) * rmsRs (fun c => o (ix2 i c)) * g (ix2 0 c) := by
  pointwise [normed]; rfl
theorem later_at (r : Fin 512) (j : Fin 256) (h : ℕ) (i : Fin 128) (e : r.val = h * 128 + i.val) : later (ix2 r j) = okAt 1#1 i j := by
  pointwise [later, k0_pay26, k0_pay27, k0_pay28]
  split_ifs <;> (show okAt 1#1 _ _ = _; congr 1; omega)
theorem first_at (t : grid0.Coords) (r : Fin 512) (j : Fin 256) (h : ℕ) (i : Fin 128) (e : r.val = h * 128 + i.val) :
    first t (ix2 r j) = okAt (Scalar.cmpi CmpIPredicate.sgt (BitVec.ofNat 32 (t 1).val) 0#32) i j := by
  pointwise [first, k0_pay7]
  split_ifs <;> (show okAt (Scalar.cmpi CmpIPredicate.sgt (BitVec.ofNat 32 (t 1).val) 0#32) _ _ = _; congr 1; omega)

/-- A window's block at an entry. -/
theorem block_at (ok : IVec S512x256 1) (ok' : Fin 128 → Fin 256 → BitVec 1) (hok : ∀ r j h (i : Fin 128), r.val = h * 128 + i.val → ok (ix2 r j) = ok' i j)
    (q : FVec Ideal S1x128x512 .f32) (kp k vp v : FVec Ideal S1x128x128 .f32) (s : FVec Ideal S1x8 .f32) (g : FVec Ideal S1x512 .f32) (i : Fin 128) (c : Fin 512) :
    block ok q kp k vp v s g (ix3 0 i c)
      = wout ok' (fun i c => q (ix3 0 i c)) (two kp k) (two vp v) (fun h => s (ix2 0 h)) (fun c => g (ix2 0 c)) i c := by
  have hs : shapeCast S1x8 s shapeCasts_S1x8_S1x8 = s := by funext y; idx_vars y; pointwise
  have hg : shapeCast S1x512 g shapeCasts_S1x512_S1x512 = g := by funext y; idx_vars y; pointwise
  have hq : ∀ i c, shapeCast S128x512 q shapeCasts_S1x128x512_S128x512 (ix2 i c) = q (ix3 0 i c) := fun i c => by pointwise
  unfold block
  rw [normed_at, hs, hg]
  have hw : ∀ c, heads
      (weighted (scores ok (queries0 (shapeCast S128x512 q shapeCasts_S1x128x512_S128x512)) (grp0 (pair kp k))) (sinks0 s) (grp0 (pair vp v)))
      (weighted (scores ok (queries1 (shapeCast S128x512 q shapeCasts_S1x128x512_S128x512)) (grp1 (pair kp k))) (sinks1 s) (grp1 (pair vp v))) (ix2 i c)
      = win ok' (fun i c => q (ix3 0 i c)) (two kp k) (two vp v) (fun h => s (ix2 0 h)) i c := fun c => by
    by_cases hc : (hd8 c).val < 4
    · have e : (⟨(hd8 c).val * 128 + i.val, by omega⟩ : Fin 512).val = (hd8 c).val * 128 + i.val := rfl
      rw [heads_lo _ _ i c _ e hc, weighted_at]
      simp only [scores_at, queries0_at _ _ _ _ _ e, sinks0_at _ _ _ _ e, grp0_at _ _ _ _ _ hc, hok _ _ _ _ e, hq]
      rfl
    · have e : (⟨(hd8 c).val * 128 + i.val - 512, by omega⟩ : Fin 512).val + 512 = (hd8 c).val * 128 + i.val := by dsimp; omega
      have e' : (⟨(hd8 c).val * 128 + i.val - 512, by omega⟩ : Fin 512).val = ((hd8 c).val - 4) * 128 + i.val := by dsimp; omega
      rw [heads_hi _ _ i c _ e (by omega), weighted_at]
      simp only [scores_at, queries1_at _ _ _ _ _ e, sinks1_at _ _ _ _ e, grp1_at _ _ _ _ _ (not_lt.mp hc), hok _ _ _ _ e', hq]
      rfl
  simp only [hw]
  rfl

end Cert.AttnFwdIdeal.Value
-- ==== Proof.AttnFwdKernel.lean ====
module

public import proofs.«01_k».proof.Proof.AttnFwdBlock

/-! The sliding-window attention's forward call: the array the kernel leaves. -/

@[expose] public section
set_option maxRecDepth 16384
noncomputable section
open Idealize.ShloMosaic Idealize.ShloMosaic.TcCoe Idealize.SL.Sem

namespace Cert.AttnFwdIdeal.Value
open Cert.AttnFwdIdeal Cert.AttnFwdIdeal.Gen Cert.Gmlp Cert.Proj Cert.Attn

/-- The 256 rows that window `w` of a block reads: the window before it (the block's own rows, or the rows `x` before the block) and its own. -/
def near (x : Vec Ideal S1x128x128 .f32) (y : Vec Ideal S1x1024x128 .f32) (w : Fin 8) (j : Fin 256) (c : Fin 128) : EReal :=
  if j.val < 128 then (if w.val = 0 then x (ix3 0 ⟨j.val % 128, by omega⟩ c) else y (ix3 0 ⟨w.val * 128 + j.val % 128 - 128, by omega⟩ c))
  else y (ix3 0 ⟨w.val * 128 + j.val % 128, by omega⟩ c)
/-- A later window's two parts, loaded. -/
theorem two_later (x : Vec Ideal S1x128x128 .f32) (y : Vec Ideal S1x1024x128 .f32) (w : Fin 8) (hw : w.val ≠ 0) (off off' : Fin 3 → ℕ) (inb inb')
    (h : off = ![0, w.val * 128 - 128, 0]) (h' : off' = ![0, w.val * 128, 0]) :
    two (View.ld (Val := Elt Ideal) (S := S1x1024x128) (e' := .f32) y (Rect.unit off S1x128x128.size inb)) (View.ld (Val := Elt Ideal) (S := S1x1024x128) (e' := .f32) y (Rect.unit off' S1x128x128.size inb')) = near x y w := by
  subst h h'
  funext j c
  unfold two near
  split_ifs with e
  · refine View.ld_unit_apply_of _ _ _ _ _ _ fun a => ?_
    fin_cases a <;> simp [ix3]; omega
  · refine View.ld_unit_apply_of _ _ _ _ _ _ fun a => ?_
    fin_cases a <;> simp [ix3]; omega
/-- The first window's two parts, loaded. -/
theorem two_first (x : Vec Ideal S1x128x128 .f32) (y : Vec Ideal S1x1024x128 .f32) :
    two (View.ld (Val := Elt Ideal) (S := S1x128x128) (e' := .f32) x r0_0) (View.ld (Val := Elt Ideal) (S := S1x1024x128) (e' := .f32) y r0_2) = near x y 0 := by
  funext j c
  unfold two near
  split_ifs with e e'
  · refine View.ld_unit_apply_of _ _ _ _ _ _ fun a => ?_
    fin_cases a <;> simp [ix3]; omega
  · exact absurd rfl e'
  · refine View.ld_unit_apply_of _ _ _ _ _ _ fun a => ?_
    fin_cases a <;> simp [ix3]; omega

/-- The mask of a block's windows: the first one's says whether a window comes before it. -/
def okW (i : grid0.Coords) (w : Fin 8) (t : Fin 128) (j : Fin 256) : BitVec 1 :=
  okAt (if w.val = 0 then Scalar.cmpi CmpIPredicate.sgt (BitVec.ofNat 32 (i 1).val) 0#32 else 1#1) t j
/-- The block's entry. -/
def outW (i : grid0.Coords) (x0 : Vec Ideal S1x1024x512 .f32) (x1 : Vec Ideal S1x128x128 .f32) (x2 : Vec Ideal S1x1024x128 .f32) (x3 : Vec Ideal S1x128x128 .f32) (x4 : Vec Ideal S1x1024x128 .f32) (x5 : Vec Ideal S1x8 .f32) (x6 : Vec Ideal S1x512 .f32)
    (w : Fin 8) (t : Fin 128) (c : Fin 512) : EReal :=
  wout (okW i w) (fun t c => x0 (ix3 0 ⟨w.val * 128 + t.val, by omega⟩ c)) (near x1 x2 w) (near x3 x4 w) (fun h => x5 (ix2 0 h)) (fun c => x6 (ix2 0 c)) t c

/-- One piece of the block, where it holds the entry. -/
theorem piece (i : grid0.Coords) (x0 : Vec Ideal S1x1024x512 .f32) (x1 : Vec Ideal S1x128x128 .f32) (x2 : Vec Ideal S1x1024x128 .f32) (x3 : Vec Ideal S1x128x128 .f32) (x4 : Vec Ideal S1x1024x128 .f32) (x5 : Vec Ideal S1x8 .f32) (x6 : Vec Ideal S1x512 .f32)
    (w : Fin 8) (ok : IVec S512x256 1) (hok : ∀ r j h (t : Fin 128), r.val = h * 128 + t.val → ok (ix2 r j) = okW i w t j) (off : Fin 3 → ℕ) (ho : off = ![0, w.val * 128, 0]) (inb)
    (kp k vp v : FVec Ideal S1x128x128 .f32) (hk : two kp k = near x1 x2 w) (hv : two vp v = near x3 x4 w) (r : Fin 1024) (c : Fin 512) :
    View.TileAt (Val := Elt Ideal) (S := S1x1024x512) (e := .bf16) (ix3 0 r c) off S1x128x512.size
      (block ok (View.ld (Val := Elt Ideal) (S := S1x1024x512) (e' := .f32) x0 (Rect.unit off S1x128x512.size inb)) kp k vp v (View.ld (Val := Elt Ideal) (S := S1x8) (e' := .f32) x5 r0_3) (View.ld (Val := Elt Ideal) (S := S1x512) (e' := .f32) x6 r0_4))
      (outW i x0 x1 x2 x3 x4 x5 x6 ⟨r.val / 128, by omega⟩ ⟨r.val % 128, by omega⟩ c) := by
  subst ho
  intro x hx
  obtain ⟨t0, t, d, rfl⟩ : ∃ t0 t d, x = ix3 t0 t d := ⟨_, _, _, eq_ix3 x⟩
  obtain rfl : t0 = 0 := Subsingleton.elim _ _
  have h1 := hx 1
  have h2 := hx 2
  simp [ix3] at h1 h2
  obtain rfl : c = d := Fin.ext h2
  have e1 : (⟨r.val / 128, by omega⟩ : Fin 8) = w := Fin.ext (by dsimp; omega)
  have e2 : (⟨r.val % 128, by omega⟩ : Fin 128) = t := Fin.ext (by dsimp; omega)
  rw [e1, e2, outW, block_at ok (okW i w) hok, hk, hv]
  congr 1
  · funext t c
    refine View.ld_unit_apply_of _ _ _ _ _ _ fun a => ?_
    fin_cases a <;> simp [ix3]
  · funext h
    refine View.ld_unit_apply_of _ _ _ _ _ _ fun a => ?_
    fin_cases a <;> simp [ix2]
  · funext h
    refine View.ld_unit_apply_of _ _ _ _ _ _ fun a => ?_
    fin_cases a <;> simp [ix2]

/-- The block a point writes, at an entry. -/
theorem point (i : grid0.Coords) (x0 : Vec Ideal S1x1024x512 .f32) (x1 : Vec Ideal S1x128x128 .f32) (x2 : Vec Ideal S1x1024x128 .f32) (x3 : Vec Ideal S1x128x128 .f32) (x4 : Vec Ideal S1x1024x128 .f32) (x5 : Vec Ideal S1x8 .f32) (x6 : Vec Ideal S1x512 .f32) (r : Fin 1024) (c : Fin 512) :
    out0_7 (F := Ideal) i x0 x1 x2 x3 x4 x5 x6 (ix3 0 r c) = outW i x0 x1 x2 x3 x4 x5 x6 ⟨r.val / 128, by omega⟩ ⟨r.val % 128, by omega⟩ c := by
  rw [out_eq]
  have L := fun (w : Fin 8) (hw : w.val ≠ 0) => piece i x0 x1 x2 x3 x4 x5 x6 w later (fun r j h t e => by rw [later_at r j h t e, okW, if_neg hw])
  refine View.canon_eq_of_allAt _ _ _ (cover0_7 _ _ _ _ _ _ _ _ _) ?_
  refine View.allAt_cons_unit _ _ _ _ _ (L 7 (by decide) _ rfl _ _ _ _ _ (two_later _ _ 7 (by decide) _ _ _ _ rfl rfl) (two_later _ _ 7 (by decide) _ _ _ _ rfl rfl) r c) ?_
  refine View.allAt_cons_unit _ _ _ _ _ (L 6 (by decide) _ rfl _ _ _ _ _ (two_later _ _ 6 (by decide) _ _ _ _ rfl rfl) (two_later _ _ 6 (by decide) _ _ _ _ rfl rfl) r c) ?_
  refine View.allAt_cons_unit _ _ _ _ _ (L 5 (by decide) _ rfl _ _ _ _ _ (two_later _ _ 5 (by decide) _ _ _ _ rfl rfl) (two_later _ _ 5 (by decide) _ _ _ _ rfl rfl) r c) ?_
  refine View.allAt_cons_unit _ _ _ _ _ (L 4 (by decide) _ rfl _ _ _ _ _ (two_later _ _ 4 (by decide) _ _ _ _ rfl rfl) (two_later _ _ 4 (by decide) _ _ _ _ rfl rfl) r c) ?_
  refine View.allAt_cons_unit _ _ _ _ _ (L 3 (by decide) _ rfl _ _ _ _ _ (two_later _ _ 3 (by decide) _ _ _ _ rfl rfl) (two_later _ _ 3 (by decide) _ _ _ _ rfl rfl) r c) ?_
  refine View.allAt_cons_unit _ _ _ _ _ (L 2 (by decide) _ rfl _ _ _ _ _ (two_later _ _ 2 (by decide) _ _ _ _ rfl rfl) (two_later _ _ 2 (by decide) _ _ _ _ rfl rfl) r c) ?_
  refine View.allAt_cons_unit _ _ _ _ _ (L 1 (by decide) _ rfl _ _ _ _ _ (two_later _ _ 1 (by decide) _ _ _ _ rfl rfl) (two_later _ _ 1 (by decide) _ _ _ _ rfl rfl) r c) ?_
  exact View.allAt_cons_unit _ _ _ _ _ (piece i x0 x1 x2 x3 x4 x5 x6 0 (first i) (fun r j h t e => by rw [first_at i r j h t e]; rfl) _ rfl _ _ _ _ _ (two_first _ _) (two_first _ _) r c) (View.allAt_nil _ _)

variable (m : (ℓ : Loc nD τ sig) → Buf (Elt Ideal) ℓ) (c : Dev nD)

theorem idx : ∀ t : Fin cfg0.N, win0_0.index t = ![t.val / 2, t.val % 2, 2] ∧ win0_1.index t = ![t.val / 2, t.val % 2 * 8 - 1, 12]
    ∧ win0_2.index t = ![t.val / 2, t.val % 2, 12] ∧ win0_3.index t = ![t.val / 2, t.val % 2 * 8 - 1, 13] ∧ win0_4.index t = ![t.val / 2, t.val % 2, 13]
    ∧ win0_5.index t = ![0, 0] ∧ win0_6.index t = ![0, 0] ∧ win0_7.index t = ![t.val / 2, t.val % 2, 0] ∧ (grid0.coords t 1).val = t.val % 2 :=
  (by decide +kernel : ∀ t : Fin grid0.N, _)

theorem wout_congr (ok : Fin 128 → Fin 256 → BitVec 1) {q q' : Fin 128 → Fin 512 → EReal} {K K' V V' : Fin 256 → Fin 128 → EReal} {s s' : Fin 8 → EReal} {g g' : Fin 512 → EReal}
    (hq : q = q') (hK : K = K') (hV : V = V') (hs : s = s') (hg : g = g') (i : Fin 128) (c : Fin 512) : wout ok q K V s g i c = wout ok q' K' V' s' g' i c := by
  rw [hq, hK, hV, hs, hg]

/-- A grid point's sequence and half, and a row of the half. -/
def sq (t : Fin cfg0.N) : Fin 2 := ⟨t.val / 2, by have : t.val < 4 := lt_of_lt_of_eq t.isLt N_0; omega⟩
def own (t : Fin cfg0.N) (r : Fin 1024) : Fin 2048 := ⟨t.val % 2 * 1024 + r.val, by omega⟩
def bef (t : Fin cfg0.N) (r : Fin 128) : Fin 2048 := ⟨(t.val % 2 * 8 - 1) * 128 + r.val, by omega⟩
abbrev A0 := m ((c : Thread nD τ).loc main_arg0)

/-- What each point reads. -/
theorem reads (t : Fin cfg0.N) : (∀ r l, iblk m c 0 t (ix3 0 r l) = A0 m c (ix3 (sq t) (own t r) ⟨1024 + l.val, by omega⟩))
    ∧ (∀ r l, iblk m c 1 t (ix3 0 r l) = A0 m c (ix3 (sq t) (bef t r) ⟨1536 + l.val, by omega⟩))
    ∧ (∀ r l, iblk m c 2 t (ix3 0 r l) = A0 m c (ix3 (sq t) (own t r) ⟨1536 + l.val, by omega⟩))
    ∧ (∀ r l, iblk m c 3 t (ix3 0 r l) = A0 m c (ix3 (sq t) (bef t r) ⟨1664 + l.val, by omega⟩))
    ∧ (∀ r l, iblk m c 4 t (ix3 0 r l) = A0 m c (ix3 (sq t) (own t r) ⟨1664 + l.val, by omega⟩))
    ∧ (∀ l, iblk m c 5 t (ix2 0 l) = m ((c : Thread nD τ).loc main_arg1) (ix1 l))
    ∧ (∀ l, iblk m c 6 t (ix2 0 l) = m ((c : Thread nD τ).loc main_arg2) (ix1 l)) := by
  refine ⟨?_, ?_, ?_, ?_, ?_, ?_, ?_⟩
  · intro r l; blk_point [iblk, V, idx t, sq, own]
  · intro r l; blk_point [iblk, V, idx t, sq, bef]
  · intro r l; blk_point [iblk, V, idx t, sq, own]
  · intro r l; blk_point [iblk, V, idx t, sq, bef]
  · intro r l; blk_point [iblk, V, idx t, sq, own]
  · intro l; blk_simp [iblk, idx t]; entry_read; pointwise; blk_point [idx t]
  · intro l; blk_simp [iblk, idx t]; entry_read; pointwise; blk_point [idx t]

/-- A window's keys or values, of a block's windows. -/
theorem near_eq (t : Fin cfg0.N) (o : ℕ) (ho : o + 128 ≤ 4608) (x : Vec Ideal S1x128x128 .f32) (y : Vec Ideal S1x1024x128 .f32)
    (hx : ∀ r (l : Fin 128), x (ix3 0 r l) = A0 m c (ix3 (sq t) (bef t r) ⟨o + l.val, by omega⟩))
    (hy : ∀ r (l : Fin 128), y (ix3 0 r l) = A0 m c (ix3 (sq t) (own t r) ⟨o + l.val, by omega⟩)) (w : Fin 8) (j : Fin 256) (l : Fin 128) :
    near x y w j l = A0 m c (ix3 (sq t) (keyRow ⟨t.val % 2 * 8 + w.val, by omega⟩ j) ⟨o + l.val, by omega⟩) := by
  unfold near keyRow
  rw [hx, hy, hy]
  split_ifs with e e'
  · congr 2; exact Fin.ext (by simp only [bef]; omega)
  · congr 2; exact Fin.ext (by simp only [own]; omega)
  · congr 2; exact Fin.ext (by simp only [own]; omega)

/-- The mask of a block's windows. -/
theorem okW_eq (t : Fin cfg0.N) (w : Fin 8) : okW (grid0.coords t) w = okN ⟨t.val % 2 * 8 + w.val, by omega⟩ := by
  funext i j
  have h : (grid0.coords t 1).val = t.val % 2 := (idx t).2.2.2.2.2.2.2.2
  unfold okW okN
  rw [h]
  congr 1
  have : ∀ (o : Fin 2) (w : Fin 8), (if w.val = 0 then Scalar.cmpi CmpIPredicate.sgt (BitVec.ofNat 32 o.val) 0#32 else 1#1) = if o.val * 8 + w.val = 0 then 0#1 else 1#1 := by decide
  exact this ⟨t.val % 2, by omega⟩ w

/-- The result array. -/
theorem final : (dats m 0 c).arrAt 7 cfg0.N = cube (outA (A0 m c) (m ((c : Thread nD τ).loc main_arg1)) (m ((c : Thread nD τ).loc main_arg2))) := by
  refine (dats m 0 c).arrAt_eq_of_covers 7 _ (by decide +kernel) fun t hf y => ?_
  obtain ⟨r0, r1, r2, r3, r4, r5, r6⟩ := reads m c t
  blk_simp
  rw [after0_7]
  idx_vars y
  obtain rfl : y0 = 0 := Subsingleton.elim _ _
  have e0 : ((View.whole main_v2).slice (win0_7.rect t)).emb (ix3 0 y1 y2) 0 = sq t := Fin.ext (by blk_simp [idx t]; simp [sq])
  have e1 : ((View.whole main_v2).slice (win0_7.rect t)).emb (ix3 0 y1 y2) 1 = own t y1 := Fin.ext (by blk_simp [idx t]; rfl)
  have e2 : ((View.whole main_v2).slice (win0_7.rect t)).emb (ix3 0 y1 y2) 2 = y2 := Fin.ext (by blk_simp [idx t])
  have k1 : kc (own t y1) = ⟨t.val % 2 * 8 + y1.val / 128, by omega⟩ := Fin.ext (by simp only [kc, own]; omega)
  have k2 : kt (own t y1) = ⟨y1.val % 128, by omega⟩ := Fin.ext (by simp only [kt, own]; omega)
  simp only [cube, e0, e1, e2, outA, k1, k2]
  rw [point, outW, okW_eq]
  show wout _ _ _ _ _ _ _ _ = wout _ _ _ _ _ _ _ _
  refine wout_congr _ ?_ ?_ ?_ ?_ ?_ _ _
  · funext i l
    exact (r0 _ l).trans (congrArg (fun r => A0 m c (ix3 (sq t) r ⟨1024 + l.val, by omega⟩)) (Fin.ext (by simp only [own]; omega)))
  · funext j l
    exact near_eq m c t 1536 (by decide) _ _ r1 r2 _ j l
  · funext j l
    exact near_eq m c t 1664 (by decide) _ _ r3 r4 _ j l
  · exact funext r5
  · exact funext r6

end Cert.AttnFwdIdeal.Value
-- ==== Proof.AttnFwdRef.lean ====
module

public import proofs.«01_k».proof.Proof.AttnSpec
public import proofs.«01_k».proof.Proof.Gen.AttnFwdRefIdeal.Run
public import Idealize.ShloMosaic.Lib.Pipeline.ValueKit
public import Idealize.ShloMosaic.Lib.Claim

/-! The sliding-window attention's forward pass: the reference's result, step by step. -/

@[expose] public section
set_option maxRecDepth 16384
noncomputable section
open Idealize.ShloMosaic Idealize.ShloMosaic.TcCoe Idealize.SL.Sem

namespace Cert.AttnFwdRefIdeal.Value
open Cert.AttnFwdRefIdeal Cert.AttnFwdRefIdeal.Gen Cert.Gmlp Cert.Proj Cert.Attn

/-- The key columns, and the value columns. -/
def keyCols (p : FVec Ideal S2x2048x4608 .f32) : FVec Ideal S2x2048x128 .f32 :=
  extractStridedSlice S2x2048x128 ![0, 0, 1536] p slices_S2x2048x4608_S2x2048x128_0_0_1536
def valCols (p : FVec Ideal S2x2048x4608 .f32) : FVec Ideal S2x2048x128 .f32 :=
  extractStridedSlice S2x2048x128 ![0, 0, 1664] p slices_S2x2048x4608_S2x2048x128_0_0_1664
/-- Columns below a window of zeros. -/
def zerosThen (x : FVec Ideal S2x2048x128 .f32) : FVec Ideal S2x2176x128 .f32 :=
  concatenate S2x2176x128 1 [⟨S2x128x128, (broadcastInDim S2x128x128 ![] bcast_S_S2x128x128 (constant S_ .f32 0x00000000#32))⟩, ⟨S2x2048x128, x⟩] concatenates_S2x128x128_S2x2048x128_S2x2176x128_d1
/-- Each window's 256 rows of some columns, by group. -/
def windows (x : FVec Ideal S2x2048x128 .f32) : FVec Ideal S2x16x256x2x64 .f32 :=
  concatenate S2x16x256x2x64 2 [⟨S2x16x128x2x64, (extractStridedSlice S2x16x128x2x64 ![0, 0, 0, 0, 0] (shapeCast _ (zerosThen x) shapeCasts_S2x2176x128_S2x17x128x2x64) slices_S2x17x128x2x64_S2x16x128x2x64_0_0_0_0_0)⟩, ⟨S2x16x128x2x64, (extractStridedSlice S2x16x128x2x64 ![0, 1, 0, 0, 0] (shapeCast _ (zerosThen x) shapeCasts_S2x2176x128_S2x17x128x2x64) slices_S2x17x128x2x64_S2x16x128x2x64_0_1_0_0_0)⟩] concatenates_S2x16x128x2x64_S2x16x128x2x64_S2x16x256x2x64_d2
/-- The queries, by window, group and head. -/
def queryArr (p : FVec Ideal S2x2048x4608 .f32) : FVec Ideal S2x16x128x2x4x64 .f32 :=
  shapeCast _ (extractStridedSlice S2x2048x512 ![0, 0, 1024] p slices_S2x2048x4608_S2x2048x512_0_0_1024) shapeCasts_S2x2048x512_S2x16x128x2x4x64
/-- The mask. -/
def maskArr : IVec S2x16x2x4x128x256 1 :=
  broadcastInDim S2x16x2x4x128x256 ![0, 1, 2, 3, 4, 5] bcast_S1x16x1x1x128x256_S2x16x2x4x128x256_0_1_2_3_4_5 (broadcastInDim S1x16x1x1x128x256 ![1, 4, 5] bcast_S16x128x256_S1x16x1x1x128x256_1_4_5 (andi (broadcastInDim S16x128x256 ![0, 1, 2] bcast_S1x128x256_S16x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S16x128x256 ![0, 1, 2] bcast_S16x1x256_S16x128x256_0_1_2 (cmpi .sge (subi (addi (broadcastInDim S16x1x256 ![0, 1, 2] bcast_S16x1x1_S16x1x256_0_1_2 (muli (broadcastInDim S16x1x1 ![0] bcast_S16_S16x1x1_0 (iotaInDim S16 32 0)) (broadcastInDim S16x1x1 ![] bcast_S_S16x1x1 (constantI S_ 32 128#32)))) (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0))))) (broadcastInDim S16x1x256 ![] bcast_S_S16x1x256 (constantI S_ 32 128#32))) (broadcastInDim S16x1x256 ![] bcast_S_S16x1x256 (constantI S_ 32 0#32))))))
/-- The masked scores. -/
def scoreArr (p : FVec Ideal S2x2048x4608 .f32) : FVec Ideal S2x16x2x4x128x256 .f32 :=
  select maskArr (mulf (transpose S2x16x2x4x128x256 [0, 1, 2, 5, 4, 3] (Host.dotGeneral dot_S2x16x256x2x64_S2x16x128x2x4x64_S2x16x2x256x128x4_4_5_2_24_013_013 none (windows (keyCols p)) (queryArr p)) transposes_S2x16x2x256x128x4_S2x16x2x4x128x256_0_1_2_5_4_3) (broadcastInDim S2x16x2x4x128x256 ![] bcast_S_S2x16x2x4x128x256 (constant S_ .f32 0x3E000000#32))) (broadcastInDim S2x16x2x4x128x256 ![] bcast_S_S2x16x2x4x128x256 (id (constant S_ .f32 0xFF800000#32)))
/-- The sinks, by group and head. -/
def sinkArr (s : FVec Ideal S8 .f32) : FVec Ideal S1x1x2x4x1x1 .f32 :=
  broadcastInDim S1x1x2x4x1x1 ![2, 3] bcast_S2x4_S1x1x2x4x1x1_2_3 (shapeCast _ s shapeCasts_S8_S2x4)
/-- The rows' largest entries. -/
def rowMax (x : FVec Ideal S2x16x2x4x128x256 .f32) : FVec Ideal S2x16x2x4x128 .f32 :=
  Host.reduce FloatOps.maximumf x (constant S_ .f32 0xFF800000#32) reducesTo_S2x16x2x4x128x256_S2x16x2x4x128_d5 h_S_
/-- The larger of two arrays, spread to a common shape. -/
def larger (y : FVec Ideal S2x16x2x4x128 .f32) (z : FVec Ideal S1x1x2x4x1x1 .f32) : FVec Ideal S2x16x2x4x128x1 .f32 :=
  maximumf (broadcastInDim S2x16x2x4x128x1 ![0, 1, 2, 3, 4] bcast_S2x16x2x4x128_S2x16x2x4x128x1_0_1_2_3_4 y) (broadcastInDim S2x16x2x4x128x1 ![0, 1, 2, 3, 4, 5] bcast_S1x1x2x4x1x1_S2x16x2x4x128x1_0_1_2_3_4_5 z)
/-- The rows' largest entries, the sinks among them. -/
def topArr (x : FVec Ideal S2x16x2x4x128x256 .f32) (s : FVec Ideal S8 .f32) : FVec Ideal S2x16x2x4x128x1 .f32 :=
  larger (rowMax x) (sinkArr s)
/-- The rows' exponentials. -/
def expArr (x : FVec Ideal S2x16x2x4x128x256 .f32) (s : FVec Ideal S8 .f32) : FVec Ideal S2x16x2x4x128x256 .f32 :=
  Host.exp (subf x (broadcastInDim S2x16x2x4x128x256 ![0, 1, 2, 3, 4, 5] bcast_S2x16x2x4x128x1_S2x16x2x4x128x256_0_1_2_3_4_5 (topArr x s)))
/-- The rows' denominators. -/
def denArr (x : FVec Ideal S2x16x2x4x128x256 .f32) (s : FVec Ideal S8 .f32) : FVec Ideal S2x16x2x4x128x1 .f32 :=
  addf (broadcastInDim S2x16x2x4x128x1 ![0, 1, 2, 3, 4] bcast_S2x16x2x4x128_S2x16x2x4x128x1_0_1_2_3_4 (Host.reduceAdd (expArr x s) (constant S_ .f32 0x00000000#32) reducesTo_S2x16x2x4x128x256_S2x16x2x4x128_d5 h_S_)) (Host.exp (subf (broadcastInDim S2x16x2x4x128x1 ![0, 1, 2, 3, 4, 5] bcast_S1x1x2x4x1x1_S2x16x2x4x128x1_0_1_2_3_4_5 (sinkArr s)) (topArr x s)))
/-- The rows' weighted values. -/
def attArr (x : FVec Ideal S2x16x2x4x128x256 .f32) (s : FVec Ideal S8 .f32) (v : FVec Ideal S2x16x256x2x64 .f32) : FVec Ideal S2x2048x512 .f32 :=
  shapeCast _ (transpose S2x16x128x2x4x64 [0, 1, 5, 2, 4, 3] (Host.dotGeneral dot_S2x16x256x2x64_S2x16x2x4x128x256_S2x16x2x64x4x128_2_5_4_34_013_012 none v (Host.divf (expArr x s) (broadcastInDim S2x16x2x4x128x256 ![0, 1, 2, 3, 4, 5] bcast_S2x16x2x4x128x1_S2x16x2x4x128x256_0_1_2_3_4_5 (denArr x s)))) transposes_S2x16x2x64x4x128_S2x16x128x2x4x64_0_1_5_2_4_3) shapeCasts_S2x16x128x2x4x64_S2x2048x512
/-- The normalised rows. -/
def normArr (y : FVec Ideal S2x2048x512 .f32) (g : FVec Ideal S512 .f32) : FVec Ideal S2x2048x512 .bf16 :=
  truncf .bf16 (mulf (mulf y (broadcastInDim S2x2048x512 ![0, 1, 2] bcast_S2x2048x1_S2x2048x512_0_1_2 (Host.rsqrt (addf (Host.divf (broadcastInDim S2x2048x1 ![0, 1] bcast_S2x2048_S2x2048x1_0_1 (Host.reduceAdd (mulf y y) (constant S_ .f32 0x00000000#32) reducesTo_S2x2048x512_S2x2048_d2 h_S_)) (broadcastInDim S2x2048x1 ![] bcast_S_S2x2048x1 (constant S_ .f32 0x44000000#32))) (broadcastInDim S2x2048x1 ![] bcast_S_S2x2048x1 (constant S_ .f32 0x358637BD#32)))))) (broadcastInDim S2x2048x512 ![0, 1, 2] bcast_S1x1x512_S2x2048x512_0_1_2 (broadcastInDim S1x1x512 ![2] bcast_S512_S1x1x512_2 g))) bitsLt_bf16_f32

/-- The generated term is these steps. -/
theorem res84 (m : (ℓ : Loc nD τ sig) → Buf (Elt Ideal) ℓ) (c : Dev nD) : res_main_v84 (F := Ideal) m c
    = normArr (attArr (scoreArr (m ((c : Thread nD τ).loc main_arg0))) (m ((c : Thread nD τ).loc main_arg1)) (windows (valCols (m ((c : Thread nD τ).loc main_arg0))))) (m ((c : Thread nD τ).loc main_arg2)) := by
  unfold res_main_v84 normArr attArr denArr expArr topArr larger rowMax sinkArr scoreArr maskArr queryArr windows zerosThen valCols keyCols; rfl

end Cert.AttnFwdRefIdeal.Value
-- ==== Proof.AttnFwdRows.lean ====
module

public import proofs.«01_k».proof.Proof.AttnFwdRef

/-! The sliding-window attention's forward pass: the reference's steps at an entry. -/

@[expose] public section
set_option maxRecDepth 16384
noncomputable section
open Idealize.ShloMosaic Idealize.ShloMosaic.TcCoe Idealize.SL.Sem

namespace Cert.AttnFwdRefIdeal.Value
open Cert.AttnFwdRefIdeal Cert.AttnFwdRefIdeal.Gen Cert.Gmlp Cert.Proj Cert.Attn

/-- The entries that a reduction of a rank-6 array's last axis takes together. -/
theorem fibre6 {n0 n1 n2 n3 n4 n5 : Nat} (H : (⟨6, ![n0, n1, n2, n3, n4, n5]⟩ : Shape).ReducesTo [5] ⟨5, ![n0, n1, n2, n3, n4]⟩)
    (a : Fin n0) (b : Fin n1) (c : Fin n2) (d : Fin n3) (e : Fin n4) :
    (Finset.univ.filter fun i => H.drop i = ix5 a b c d e) = Finset.univ.map ⟨fun j : Fin n5 => ix6 a b c d e j, fun _ _ h => congrFun h 5⟩ := by
  ext i
  simp only [Finset.mem_filter, Finset.mem_univ, true_and, Finset.mem_map, Function.Embedding.coeFn_mk]
  constructor
  · intro h
    refine ⟨i 5, ?_⟩
    funext q; apply Fin.ext
    match q with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => exact (congrArg Fin.val (congrFun h 3)).symm
    | ⟨4, _⟩ => exact (congrArg Fin.val (congrFun h 4)).symm
    | ⟨5, _⟩ => rfl
  · rintro ⟨k, rfl⟩
    funext q; apply Fin.ext
    match q with
    | ⟨0, _⟩ => rfl
    | ⟨1, _⟩ => rfl
    | ⟨2, _⟩ => rfl
    | ⟨3, _⟩ => rfl
    | ⟨4, _⟩ => rfl
theorem sum6 {n0 n1 n2 n3 n4 n5 : Nat} (H : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal) (a : Fin n0) (b : Fin n1) (c : Fin n2) (d : Fin n3) (e : Fin n4) :
    Ideal.hostReduceAdd H v z (ix5 a b c d e) = z + ∑ j, v (ix6 a b c d e j) := by
  refine congrArg (z + ·) ?_
  refine (congrArg (fun S => Finset.sum S v) (fibre6 H a b c d e)).trans ?_
  rw [Finset.sum_map]; rfl
theorem max6 {n0 n1 n2 n3 n4 n5 : Nat} {u : Shape} (H : (⟨6, ![n0, n1, n2, n3, n4, n5]⟩ : Shape).ReducesTo [5] ⟨5, ![n0, n1, n2, n3, n4]⟩)
    (v : FVec Ideal ⟨6, ![n0, n1, n2, n3, n4, n5]⟩ .f32) (z : u.Idx → Ideal .f32) (hu : 0 < u.numel) (a : Fin n0) (b : Fin n1) (c : Fin n2) (d : Fin n3) (e : Fin n4) :
    Host.reduce FloatOps.maximumf v z H hu (ix5 a b c d e) = Finset.univ.fold max (z (Shape.Idx.first hu)) fun j => v (ix6 a b c d e j) := by
  rw [Host.reduce_eq_fold]
  refine (congrArg (Finset.fold max _ v) (fibre6 H a b c d e)).trans ?_
  rw [Finset.fold_map]; rfl

/-- The head of a group's place in it. -/
def hg (h : Fin 2) (g : Fin 4) : Fin 8 := ⟨h.val * 4 + g.val, by omega⟩
/-- A window's keys and values: zeros above the sequence. -/
def kZ (p : FVec Ideal S2x2048x4608 .f32) (b : Fin 2) (n : Fin 16) (j : Fin 256) (l : Fin 128) : EReal :=
  if n.val = 0 ∧ j.val < 128 then 0 else kW p b n j l
def vZ (p : FVec Ideal S2x2048x4608 .f32) (b : Fin 2) (n : Fin 16) (j : Fin 256) (l : Fin 128) : EReal :=
  if n.val = 0 ∧ j.val < 128 then 0 else vW p b n j l

theorem windows_at (x : FVec Ideal S2x2048x128 .f32) (b : Fin 2) (n : Fin 16) (j : Fin 256) (h : Fin 2) (d : Fin 64) :
    windows x (ix5 b n j h d) = if n.val = 0 ∧ j.val < 128 then 0 else x (ix3 b (keyRow n j) ⟨h.val * 64 + d.val, by omega⟩) := by
  have e : ∀ (u v : Fin 2048), u.val = v.val → x (ix3 b u ⟨h.val * 64 + d.val, by omega⟩) = x (ix3 b v ⟨h.val * 64 + d.val, by omega⟩) := fun u v h => by rw [Fin.ext h]
  pointwise [windows, zerosThen]
  by_cases hn : n.val = 0 ∧ j.val < 128
  · rw [if_pos hn, dif_pos hn.2, dif_pos (by omega)]
  · rw [if_neg hn]
    unfold keyRow
    split_ifs
    all_goals first | omega | (refine e _ _ ?_; dsimp only; omega)
theorem query_at (p : FVec Ideal S2x2048x4608 .f32) (b : Fin 2) (n : Fin 16) (i : Fin 128) (h : Fin 2) (g : Fin 4) (d : Fin 64) :
    queryArr p (ix6 b n i h g d) = qW p b n i (qcol (hg h g) d) := by
  pointwise [queryArr]
  exact congrArg (fun l => p (ix3 b ⟨n.val * 128 + i.val, by omega⟩ l)) (Fin.ext (by simp only [qcol, hg]; omega))
theorem kcol_hg (h : Fin 2) (g : Fin 4) (d : Fin 64) : kcol (hg h g) d = ⟨h.val * 64 + d.val, by omega⟩ := Fin.ext (by simp only [kcol, hg]; omega)
theorem keys_at (p : FVec Ideal S2x2048x4608 .f32) (b : Fin 2) (n : Fin 16) (j : Fin 256) (h : Fin 2) (g : Fin 4) (d : Fin 64) :
    windows (keyCols p) (ix5 b n j h d) = kZ p b n j (kcol (hg h g) d) := by
  rw [windows_at, kcol_hg]; unfold kZ kW; congr 1; pointwise [keyCols]
theorem vals_at (p : FVec Ideal S2x2048x4608 .f32) (b : Fin 2) (n : Fin 16) (j : Fin 256) (h : Fin 2) (g : Fin 4) (d : Fin 64) :
    windows (valCols p) (ix5 b n j h d) = vZ p b n j (kcol (hg h g) d) := by
  rw [windows_at, kcol_hg]; unfold vZ vW; congr 1; pointwise [valCols]
/-- A window's key lies in the sequence, or the window has one before it. -/
theorem before : ∀ (n : Fin 16) (j : Fin 256), IntOp.cmpi CmpIPredicate.sge (IntOp.subi (IntOp.addi (IntOp.muli (BitVec.ofNat 32 n.val) 128#32) (BitVec.ofNat 32 j.val)) 128#32) 0#32
    = IntOp.ori (IntOp.cmpi CmpIPredicate.sge (BitVec.ofNat 32 j.val) 128#32) (if n.val = 0 then 0#1 else 1#1) := by decide +kernel
theorem mask_at (b : Fin 2) (n : Fin 16) (h : Fin 2) (g : Fin 4) (i : Fin 128) (j : Fin 256) :
    maskArr (ix6 b n h g i j) = okN n i j := by
  pointwise [maskArr]
  rw [before]; rfl
theorem ofBits_bot : Ideal.ofBits .f32 0xFF800000#32 = ⊥ := by simp [Ideal.ofBits, Ideal.ieee]
theorem score_at (p : FVec Ideal S2x2048x4608 .f32) (b : Fin 2) (n : Fin 16) (h : Fin 2) (g : Fin 4) (i : Fin 128) (j : Fin 256) :
    scoreArr p (ix6 b n h g i j) = sc (okN n i) (fun d => qW p b n i (qcol (hg h g) d)) (fun j d => kZ p b n j (kcol (hg h g) d)) j := by
  pointwise [scoreArr, mask_at, query_at]
  simp only [keys_at p b n j h g]
  show Scalar.select _ (_ * _) (Ideal.ofBits .f32 0xFF800000#32) = _
  rw [show Ideal.ofBits .f32 0xFF800000#32 = ⊥ from ofBits_bot]
  unfold sc
  simp only [mul_comm]
theorem sink_at (s : FVec Ideal S8 .f32) (h : Fin 2) (g : Fin 4) : sinkArr s (ix6 0 0 h g 0 0) = s (ix1 (hg h g)) := by
  pointwise [sinkArr]; rfl
theorem rowMax_at (x : FVec Ideal S2x16x2x4x128x256 .f32) (b : Fin 2) (n : Fin 16) (h : Fin 2) (g : Fin 4) (i : Fin 128) :
    rowMax x (ix5 b n h g i) = Finset.univ.fold max (Ideal.ofBits .f32 0xFF800000#32) fun j => x (ix6 b n h g i j) :=
  max6 _ x _ _ b n h g i
theorem larger_at (y : FVec Ideal S2x16x2x4x128 .f32) (z : FVec Ideal S1x1x2x4x1x1 .f32) (b : Fin 2) (n : Fin 16) (h : Fin 2) (g : Fin 4) (i : Fin 128) :
    larger y z (ix6 b n h g i 0) = max (y (ix5 b n h g i)) (z (ix6 0 0 h g 0 0)) := by
  pointwise [larger]
theorem top_at (x : FVec Ideal S2x16x2x4x128x256 .f32) (s : FVec Ideal S8 .f32) (b : Fin 2) (n : Fin 16) (h : Fin 2) (g : Fin 4) (i : Fin 128) :
    topArr x s (ix6 b n h g i 0) = top (fun j => x (ix6 b n h g i j)) (s (ix1 (hg h g))) := by
  unfold topArr
  rw [larger_at, rowMax_at, sink_at]; rfl
theorem exp_at (x : FVec Ideal S2x16x2x4x128x256 .f32) (s : FVec Ideal S8 .f32) (b : Fin 2) (n : Fin 16) (h : Fin 2) (g : Fin 4) (i : Fin 128) (j : Fin 256) :
    expArr x s (ix6 b n h g i j) = ex (fun j => x (ix6 b n h g i j)) (s (ix1 (hg h g))) j := by
  pointwise [expArr, top_at]; rfl
theorem den_at (x : FVec Ideal S2x16x2x4x128x256 .f32) (s : FVec Ideal S8 .f32) (b : Fin 2) (n : Fin 16) (h : Fin 2) (g : Fin 4) (i : Fin 128) :
    denArr x s (ix6 b n h g i 0) = den (fun j => x (ix6 b n h g i j)) (s (ix1 (hg h g))) := by
  pointwise [denArr, top_at, sink_at, sum6, exp_at]
  rfl
theorem att_at (x : FVec Ideal S2x16x2x4x128x256 .f32) (s : FVec Ideal S8 .f32) (v : FVec Ideal S2x16x256x2x64 .f32) (b : Fin 2) (r : Fin 2048) (c : Fin 512) :
    attArr x s v (ix3 b r c) = att (fun j => x (ix6 b (kc r) ⟨c.val / 256, by omega⟩ ⟨c.val / 64 % 4, by omega⟩ (kt r) j)) (s (ix1 (hd8 c)))
      fun j => v (ix5 b (kc r) j ⟨c.val / 256, by omega⟩ (ln64 c)) := by
  have hs : hg ⟨c.val / 256, by omega⟩ ⟨c.val / 64 % 4, by omega⟩ = hd8 c := Fin.ext (by simp only [hg, hd8]; omega)
  pointwise [attArr, den_at, exp_at, hs]
  exact Finset.sum_congr rfl fun j _ => mul_comm _ _
theorem norm_at (y : FVec Ideal S2x2048x512 .f32) (g : FVec Ideal S512 .f32) (b : Fin 2) (r : Fin 2048) (c : Fin 512) :
    normArr y g (ix3 b r c) = y (ix3 b r c) * rmsRs (fun c => y (ix3 b r c)) * g (ix1 c) := by
  pointwise [normArr]
  rfl

end Cert.AttnFwdRefIdeal.Value
-- ==== Proof.AttnZeros.lean ====
module

public import proofs.«01_k».proof.Proof.AttnSpec

/-! The sliding-window attention's first window. Its masked keys weigh nothing where the row's denominator is not zero. Where
it is zero, every key weighs minus infinity, and the rows before the window, being its own again, add nothing new. So it does
not matter whether the masked keys are taken as zeros or from the window's own rows. -/

@[expose] public section
set_option maxRecDepth 16384
noncomputable section
open Idealize.ShloMosaic Idealize.ShloMosaic.TcCoe Idealize.SL.Sem

namespace Cert.Attn
open Cert.Gmlp Cert.Proj

theorem exp_nonneg (x : EReal) : 0 ≤ Ideal.exp x := by
  induction x with
  | bot => simp
  | top => simp
  | coe r => rw [Ideal.exp_coe]; exact_mod_cast (Real.exp_pos r).le

/-- Each weight's numerator is zero in a row whose denominator is. -/
theorem ex_zero (x : Fin 256 → EReal) (s : EReal) (hd : den x s = 0) (j : Fin 256) : ex x s j = 0 := by
  refine le_antisymm ?_ (exp_nonneg _)
  have h1 : ex x s j ≤ ∑ j, ex x s j := Finset.single_le_sum (f := ex x s) (fun i _ => exp_nonneg _) (Finset.mem_univ j)
  have h2 : ∑ j, ex x s j ≤ den x s := le_add_of_nonneg_right (exp_nonneg _)
  exact (h1.trans h2).trans hd.le
/-- A masked entry's numerator is zero. -/
theorem ex_masked (x : Fin 256 → EReal) (s : EReal) (j : Fin 256) (h : x j = ⊥) : ex x s j = 0 := by
  unfold ex; rw [h, EReal.bot_sub, Ideal.exp_bot]
/-- Where the denominator is not zero, a masked entry's value is not read. -/
theorem att_masked (x : Fin 256 → EReal) (s : EReal) (v v' : Fin 256 → EReal) (hd : den x s ≠ 0) (h : ∀ j, x j = ⊥ ∨ v j = v' j) : att x s v = att x s v' := by
  refine Finset.sum_congr rfl fun j _ => ?_
  rcases h j with h | h
  · rw [ex_masked x s j h]
    simp only [Ideal.div, if_neg hd, zero_mul]
  · rw [h]

theorem bot_twice (a : EReal) : ⊥ * a + ⊥ * a = ⊥ * a := by
  rcases lt_trichotomy a 0 with h | h | h
  · rw [EReal.bot_mul_of_neg h]; rfl
  · rw [h, mul_zero, add_zero]
  · rw [EReal.bot_mul_of_pos h]; rfl
/-- A sum of infinities over rows taken twice is the sum over the rows. -/
theorem sum_twice (w : Fin 128 → EReal) : ∑ i, ⊥ * w i + ∑ i, ⊥ * w i = ∑ i, ⊥ * w i := by
  rw [← Finset.sum_add_distrib]
  exact Finset.sum_congr rfl fun i _ => bot_twice _
/-- Where the denominator is zero, the first half of the values may repeat the second or be zero. -/
theorem att_twice (x : Fin 256 → EReal) (s : EReal) (v v' : Fin 256 → EReal) (w : Fin 128 → EReal) (hd : den x s = 0)
    (h0 : ∀ i : Fin 128, v (Fin.castAdd 128 i) = 0) (h1 : ∀ i : Fin 128, v (Fin.natAdd 128 i) = w i)
    (h0' : ∀ i : Fin 128, v' (Fin.castAdd 128 i) = w i) (h1' : ∀ i : Fin 128, v' (Fin.natAdd 128 i) = w i) : att x s v = att x s v' := by
  have e : ∀ u, att x s u = ∑ j : Fin (128 + 128), ⊥ * u j := fun u => Finset.sum_congr rfl fun j _ => by
    rw [ex_zero x s hd j, hd]
    simp [Ideal.div]
  rw [e, e, Fin.sum_univ_add, Fin.sum_univ_add]
  simp only [h0, h1, h0', h1', mul_zero, Finset.sum_const_zero, zero_add, sum_twice]

theorem half : ∀ j : Fin 256, j.val < 128 → IntOp.ori (IntOp.cmpi CmpIPredicate.sge (BitVec.ofNat 32 j.val) 128#32) 0#1 = 0#1 := by decide +kernel
/-- The first window's mask hides the keys before it. -/
theorem okN_before (n : Fin 16) (hn : n.val = 0) (i : Fin 128) (j : Fin 256) (hj : j.val < 128) : okN n i j = 0#1 := by
  unfold okN okAt
  rw [if_pos hn, half j hj]
  exact BitVec.and_zero

theorem select_zero (a b : EReal) : Scalar.select 0#1 a b = b := by simp [Scalar.select]

variable (p : (⟨3, ![2, 2048, 4608]⟩ : Shape).Idx → EReal)

/-- A row's scores when the keys before the sequence are taken as zeros, or as the first window's own. -/
theorem sc_zero (b : Fin 2) (n : Fin 16) (i : Fin 128) (q : Fin 64 → EReal) (K : Fin 256 → Fin 128 → EReal) (l : Fin 64 → Fin 128)
    (hK : ∀ j d, K j d = if n.val = 0 ∧ j.val < 128 then 0 else kW p b n j d) :
    sc (okN n i) q (fun j d => K j (l d)) = sc (okN n i) q fun j d => kW p b n j (l d) := by
  funext j
  unfold sc
  by_cases h : n.val = 0 ∧ j.val < 128
  · rw [okN_before n h.1 i j h.2, select_zero, select_zero]
  · simp only [hK, if_neg h]

/-- The window with zeros before the sequence is the window with its own rows there. -/
theorem win_zero (s : (⟨1, ![8]⟩ : Shape).Idx → EReal) (b : Fin 2) (n : Fin 16) (K V : Fin 256 → Fin 128 → EReal)
    (hK : ∀ j d, K j d = if n.val = 0 ∧ j.val < 128 then 0 else kW p b n j d) (hV : ∀ j d, V j d = if n.val = 0 ∧ j.val < 128 then 0 else vW p b n j d) (i : Fin 128) :
    win (okN n) (qW p b n) K V (fun h => s (ix1 h)) i = win (okN n) (qW p b n) (kW p b n) (vW p b n) (fun h => s (ix1 h)) i := by
  funext c
  unfold win
  rw [sc_zero p b n i _ K _ hK]
  by_cases hn : n.val = 0
  · by_cases hd : den (sc (okN n i) (fun d => qW p b n i (qcol (hd8 c) d)) fun j d => kW p b n j (kcol (hd8 c) d)) (s (ix1 (hd8 c))) = 0
    · have row : ∀ j : Fin 256, (keyRow n j).val = j.val % 128 := fun j => by unfold keyRow; split <;> (dsimp only; omega)
      refine att_twice _ _ _ _ (fun i => vW p b n (Fin.natAdd 128 i) (kcol (hd8 c) (ln64 c))) hd (fun i => ?_) (fun i => ?_) (fun i => ?_) fun i => rfl
      · exact (hV _ _).trans (if_pos ⟨hn, i.isLt⟩)
      · exact (hV _ _).trans (if_neg fun h => absurd h.2 (by show ¬ 128 + i.val < 128; omega))
      · unfold vW
        rw [show keyRow n (Fin.castAdd 128 i) = keyRow n (Fin.natAdd 128 i) from
          Fin.ext (by rw [row, row]; show i.val % 128 = (128 + i.val) % 128; omega)]
    · refine att_masked _ _ _ _ hd fun j => ?_
      by_cases hj : j.val < 128
      · refine .inl ?_
        unfold sc; rw [okN_before n hn i j hj, select_zero]
      · exact .inr (by rw [hV, if_neg (fun h => hj h.2)])
  · congr 1
    funext j
    rw [hV, if_neg (fun h => hn h.1)]

end Cert.Attn
-- ==== Proof.AttnFwdArrays.lean ====
module

public import proofs.«01_k».proof.Proof.AttnFwdKernel
public import proofs.«01_k».proof.Proof.AttnFwdRows
public import proofs.«01_k».proof.Proof.AttnZeros

/-! The sliding-window attention's forward runs, their result named. -/

@[expose] public section
set_option maxRecDepth 16384
noncomputable section
open Idealize.ShloMosaic Idealize.ShloMosaic.TcCoe Idealize.SL.Sem

namespace Cert.AttnFwdIdeal.Value
open Cert.AttnFwdIdeal Cert.AttnFwdIdeal.Gen Cert.Gmlp Cert.Attn

variable (m : (ℓ : Loc nD τ sig) → Buf (Elt Ideal) ℓ)

/-- The kernel's run, its result named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = cube (outA (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.AttnFwdIdeal.Value

namespace Cert.AttnFwdRefIdeal.Value
open Cert.AttnFwdRefIdeal Cert.AttnFwdRefIdeal.Gen Cert.Gmlp Cert.Attn

variable (m : (ℓ : Loc nD τ sig) → Buf (Elt Ideal) ℓ)

/-- The reference's attention, before its normalisation, is a window's. -/
theorem win_at (p : FVec Ideal S2x2048x4608 .f32) (s : FVec Ideal S8 .f32) (b : Fin 2) (r : Fin 2048) (c : Fin 512) :
    attArr (scoreArr p) s (windows (valCols p)) (ix3 b r c)
      = win (okN (kc r)) (qW p b (kc r)) (kW p b (kc r)) (vW p b (kc r)) (fun h => s (ix1 h)) (kt r) c := by
  have hs : hg ⟨c.val / 256, by omega⟩ ⟨c.val / 64 % 4, by omega⟩ = hd8 c := Fin.ext (by simp only [hg, hd8]; omega)
  rw [att_at, ← win_zero p s b (kc r) (kZ p b (kc r)) (vZ p b (kc r)) (fun _ _ => rfl) (fun _ _ => rfl)]
  unfold win
  congr 1
  · funext j; rw [score_at, hs]
  · funext j
    rw [← hs]
    exact vals_at p b (kc r) j _ ⟨c.val / 64 % 4, by omega⟩ (ln64 c)

/-- The reference's run, its result named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v84) = cube (outA (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (run m ρ)
  obtain ⟨h0, hk⟩ := h c
  refine ⟨(h0.trans (res84 m c)).trans ?_, hk⟩
  funext y; idx_vars y
  rw [norm_at, cube_ix3]
  simp only [win_at]
  rfl

end Cert.AttnFwdRefIdeal.Value
-- ==== Proof.AdaModArrays.lean ====
module

public import proofs.«01_k».proof.Proof.Fwd
public import proofs.«01_k».proof.Proof.Conv
public import proofs.«01_k».proof.Proof.Gen.AdaModIdeal.Value
public import proofs.«01_k».proof.Proof.Gen.AdaModRefIdeal.Run
public import Idealize.ShloMosaic.Lib.Pipeline.ValueKit
public import Idealize.ShloMosaic.Lib.Pipeline.ReadBack
public import Idealize.ShloMosaic.Lib.Claim

/-! The modulation of one layer: the kernel's result array and the reference's. -/

@[expose] public section
set_option maxRecDepth 16384
noncomputable section
open Idealize.ShloMosaic Idealize.ShloMosaic.TcCoe Idealize.SL.Sem

namespace Cert.AdaModIdeal.Value
open Cert.AdaModIdeal Cert.AdaModIdeal.Gen Cert.Gmlp Cert.Mlp Cert.Conv

variable (m : (ℓ : Loc nD τ sig) → Buf (Elt Ideal) ℓ) (c : Dev nD)

/-- The modulation: the activated vector times the second layer's weight, and the bias. -/
def modul (v : (⟨2, ![16, 2048]⟩ : Shape).Idx → EReal) (w : (⟨3, ![2, 2048, 3072]⟩ : Shape).Idx → EReal) (b : (⟨1, ![3072]⟩ : Shape).Idx → EReal)
    (r : Fin 16) (d : Fin 3072) : EReal := (∑ k : Fin 2048, silu (v (ix2 r k)) * w (ix3 1 k d)) + b (ix1 d)

theorem idx : ∀ t : Fin cfg0.N, win0_0.index t = ![0, 0] ∧ win0_1.index t = ![1, 0, t.val] ∧ win0_2.index t = ![0, t.val] ∧ win0_3.index t = ![0, t.val] :=
  (by decide +kernel : ∀ t : Fin grid0.N, _)

/-- The result, per block. -/
theorem pay_eq (a : Vec Ideal S16x2048 .f32) (w : Vec Ideal S1x2048x512 .f32) (b : Vec Ideal S1x512 .f32) :
    k0_pay1 (F := Ideal) a w b = mat fun r d => (∑ k : Fin 2048, silu (a (ix2 r k)) * w (ix3 0 k d)) + b (ix2 0 d) := by
  funext y; idx_vars y; pointwise [k0_pay1, mat_ix2, silu, sigm, zero_sub]

/-- The kernel's result. -/
theorem final : (dats m 0 c).arrAt 3 cfg0.N = mat (modul (m ((c : Thread nD τ).loc main_arg0)) (m ((c : Thread nD τ).loc main_arg1)) (m ((c : Thread nD τ).loc main_arg2))) := by
  refine (dats m 0 c).arrAt_eq_of_covers 3 _ (by decide +kernel) fun t hf y => ?_
  have hN : t.val < 6 := lt_of_lt_of_eq t.isLt N_0
  blk_simp
  rw [after0_3]
  idx_vars y
  frame_out
  rw [pay_eq, mat_ix2]
  have e0 : ∀ k, iblk m c 0 t (ix2 y0 k) = (m ((c : Thread nD τ).loc main_arg0)) (ix2 y0 k) := fun k => by
    blk_simp [iblk, idx t]; entry_read; pointwise; blk_point [idx t]
  have e1 : ∀ k, iblk m c 1 t (ix3 0 k y1) = (m ((c : Thread nD τ).loc main_arg1)) (ix3 1 k ⟨t.val * 512 + y1.val, by omega⟩) := fun k => by
    blk_simp [iblk, idx t]; entry_read; pointwise; blk_point [idx t]
  have e2 : iblk m c 2 t (ix2 0 y1) = (m ((c : Thread nD τ).loc main_arg2)) (ix1 ⟨t.val * 512 + y1.val, by omega⟩) := by
    blk_simp [iblk, idx t]; entry_read; pointwise; blk_point [idx t]
  simp only [e0, e1, e2]
  symm
  exact mat_at (modul _ _ _) _ (i := y0) (j := ⟨t.val * 512 + y1.val, by omega⟩) (by blk_simp [idx t]) (by blk_simp [idx t])

/-- The run, its result named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v1) = mat (modul (m ((c : Thread nD τ).loc main_arg0)) (m ((c : Thread nD τ).loc main_arg1)) (m ((c : Thread nD τ).loc main_arg2)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final m c), (h c).2⟩) (run_blocks m ρ)

end Cert.AdaModIdeal.Value

namespace Cert.AdaModRefIdeal.Value
open Cert.AdaModRefIdeal Cert.AdaModRefIdeal.Gen Cert.Gmlp Cert.Mlp Cert.Conv Cert.AdaModIdeal.Value

variable (m : (ℓ : Loc nD τ sig) → Buf (Elt Ideal) ℓ)

/-- The reference's run, its result named. -/
theorem run_out (ρ : Dev nD → PrngReg) : θ_run defs (onTc (τ := τ) (main (F := Ideal))) ⟨m, fun _ => 0, ρ⟩ fun r => ∀ c : Dev nD,
    r.2.mem ((c : Thread nD τ).loc main_v6) = mat (modul (m ((c : Thread nD τ).loc main_arg0)) (m ((c : Thread nD τ).loc main_arg1)) (m ((c : Thread nD τ).loc main_arg2)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (by
    funext y; idx_vars y; pointwise [mat_ix2, modul, silu, sigm]), (h c).2⟩) (run m ρ)

end Cert.AdaModRefIdeal.Value
-- ==== Proof.AdaDwArrays.lean ====
module

public import proofs.«01_k».proof.Proof.Fwd
public import proofs.«01_k».proof.Proof.Conv
public import proofs.«01_k».proof.Proof.Gen.AdaDwIdeal.Value
public import proofs.«01_k».proof.Proof.Gen.AdaDwRefIdeal.Run
public import Idealize.ShloMosaic.Lib.Pipeline.ValueKit
public import Idealize.ShloMosaic.Lib.Pipeline.ReadBack
public import Idealize.ShloMosaic.Lib.Claim

/-! The gradient of the modulation's weight: the kernel's result array and the reference's. -/

@[expose] public section
set_option maxRecDepth 16384
noncomputable section
open Idealize.ShloMosaic Idealize.ShloMosaic.TcCoe Idealize.SL.Sem

namespace Cert.AdaDwIdeal.Value
open Cert.AdaDwIdeal Cert.AdaDwIdeal.Gen Cert.Gmlp Cert.Mlp Cert.Conv

variable (m : (ℓ : Loc nD τ sig) → Buf (Elt Ideal) ℓ) (c : Dev nD)

/-- The gradient: the activated vectors, transposed, times the cotangent of each layer's modulation. -/
def dAda (v : (⟨2, ![16, 2048]⟩ : Shape).Idx → EReal) (g : (⟨3, ![16, 2, 3072]⟩ : Shape).Idx → EReal)
    (l : Fin 2) (r : Fin 2048) (d : Fin 3072) : EReal := ∑ k : Fin 16, silu (v (ix2 k r)) * g (ix3 k l d)

theorem idx : ∀ t : Fin cfg0.N, win0_0.index t = ![0, t.val / 12] ∧ win0_1.index t = ![0, t.val % 12] ∧ win0_2.index t = ![t.val % 12 / 6, t.val / 12, t.val % 6] :=
  (by decide +kernel : ∀ t : Fin grid0.N, _)

/-- The result, per block. -/
theorem pay_eq (a b : Vec Ideal S16x512 .f32) :
    k0_pay1 (F := Ideal) a b = cube fun _ r d => ∑ k : Fin 16, silu (a (ix2 k r)) * b (ix2 k d) := by
  funext y; idx_vars y; pointwise [k0_pay1, cube_ix3, silu, sigm, zero_sub]

/-- The kernel's result. -/
theorem final : (dats m 0 c).arrAt 2 cfg0.N = cube (dAda (m ((c : Thread nD τ).loc main_arg0)) (m ((c : Thread nD τ).loc main_arg2))) := by
  refine (dats m 0 c).arrAt_eq_of_covers 2 _ (by decide +kernel) fun t hf y => ?_
  have hN : t.val < 48 := lt_of_lt_of_eq t.isLt N_0
  blk_simp
  rw [after0_2]
  idx_vars y
  frame_out
  rw [pay_eq, cube_ix3]
  have e0 : ∀ k, iblk m c 0 t (ix2 k y1) = (m ((c : Thread nD τ).loc main_arg0)) (ix2 k ⟨t.val / 12 * 512 + y1.val, by omega⟩) := fun k => by
    blk_simp [iblk, idx t]; entry_read; pointwise; blk_point [idx t]
  have e1 : ∀ k, iblk m c 1 t (ix2 k y2) = (m ((c : Thread nD τ).loc main_arg2)) (ix3 k ⟨t.val % 12 / 6, by omega⟩ ⟨t.val % 6 * 512 + y2.val, by omega⟩) := fun k => by
    blk_simp [iblk, idx t]; entry_read; pointwise; blk_point [idx t]
  simp only [e0, e1]
  symm
  exact cube_at (dAda _ _) _ (a := ⟨t.val % 12 / 6, by omega⟩) (b := ⟨t.val / 12 * 512 + y1.val, by omega⟩) (d := ⟨t.val % 6 * 512 + y2.val, by omega⟩)
    (by blk_simp [idx t]) (by blk_simp [idx t]) (by blk_simp [idx t])

/-- The run, its result named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v1) = cube (dAda (m ((c : Thread nD τ).loc main_arg0)) (m ((c : Thread nD τ).loc main_arg2)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final m c), (h c).2⟩) (run_blocks m ρ)

end Cert.AdaDwIdeal.Value

namespace Cert.AdaDwRefIdeal.Value
open Cert.AdaDwRefIdeal Cert.AdaDwRefIdeal.Gen Cert.Gmlp Cert.Mlp Cert.Conv Cert.AdaDwIdeal.Value

variable (m : (ℓ : Loc nD τ sig) → Buf (Elt Ideal) ℓ)

/-- The reference's run, its result named. -/
theorem run_out (ρ : Dev nD → PrngReg) : θ_run defs (onTc (τ := τ) (main (F := Ideal))) ⟨m, fun _ => 0, ρ⟩ fun r => ∀ c : Dev nD,
    r.2.mem ((c : Thread nD τ).loc main_v25) = cube (dAda (m ((c : Thread nD τ).loc main_arg0)) (m ((c : Thread nD τ).loc main_arg2)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (by
    funext y; idx_vars y
    rw [cube_ix3, dAda]
    match y0 with
    | 0 => pointwise [silu, sigm]; exact Finset.sum_congr rfl fun _ _ => mul_comm _ _
    | 1 => pointwise [silu, sigm]; exact Finset.sum_congr rfl fun _ _ => mul_comm _ _), (h c).2⟩) (run m ρ)

end Cert.AdaDwRefIdeal.Value
-- ==== Proof.AdaDbArrays.lean ====
module

public import proofs.«01_k».proof.Proof.Fwd
public import proofs.«01_k».proof.Proof.Gen.AdaDbIdeal.Value
public import proofs.«01_k».proof.Proof.Gen.AdaDbRefIdeal.Run
public import Idealize.ShloMosaic.Lib.Pipeline.ValueKit
public import Idealize.ShloMosaic.Lib.Pipeline.ReadBack
public import Idealize.ShloMosaic.Lib.Claim

/-! The gradient of the modulation's bias: the kernel's result array and the reference's. -/

@[expose] public section
set_option maxRecDepth 16384
noncomputable section
open Idealize.ShloMosaic Idealize.ShloMosaic.TcCoe Idealize.SL.Sem

namespace Cert.AdaDbIdeal.Value
open Cert.AdaDbIdeal Cert.AdaDbIdeal.Gen Cert.Gmlp Cert.Mlp

variable (m : (ℓ : Loc nD τ sig) → Buf (Elt Ideal) ℓ) (c : Dev nD)

/-- The sum over the examples, in rows of 128. -/
def sumEx (g : (⟨2, ![16, 24576]⟩ : Shape).Idx → EReal) (r : Fin 192) (l : Fin 128) : EReal :=
  ∑ k : Fin 16, g (ix2 k ⟨r.val * 128 + l.val, by omega⟩)

theorem idx : ∀ t : Fin cfg0.N, win0_0.index t = ![0, 0, 0] ∧ win0_1.index t = ![0, 0] :=
  (by decide +kernel : ∀ t : Fin grid0.N, _)

/-- The last six examples added. -/
theorem pay1_eq (s : FVec Ideal S192x128 .f32) (a b d e f g : Vec Ideal S1x192x128 .f32) (r : Fin 192) (l : Fin 128) :
    k0_pay1 (F := Ideal) s a b d e f g (ix2 r l)
      = s (ix2 r l) + a (ix3 0 r l) + b (ix3 0 r l) + d (ix3 0 r l) + e (ix3 0 r l) + f (ix3 0 r l) + g (ix3 0 r l) := by
  pointwise [k0_pay1]
/-- The first ten. -/
theorem pay2_eq (a b d e f g h i j k : Vec Ideal S1x192x128 .f32) (r : Fin 192) (l : Fin 128) :
    k0_pay2 (F := Ideal) a b d e f g h i j k (ix2 r l)
      = a (ix3 0 r l) + b (ix3 0 r l) + d (ix3 0 r l) + e (ix3 0 r l) + f (ix3 0 r l) + g (ix3 0 r l) + h (ix3 0 r l) + i (ix3 0 r l)
        + j (ix3 0 r l) + k (ix3 0 r l) := by
  pointwise [k0_pay2]

/-- Slab `n` of the array, read at its entry. -/
theorem slab (n : Nat) (hn : n < 16) (h) (r : Fin 192) (l : Fin 128) :
    (Rect.unit (s := S16x192x128) ![n, 0, 0] S1x192x128.size h).idx (ix3 0 r l) = ix3 ⟨n, hn⟩ r l := by
  funext a
  match a with
  | 0 => exact Fin.ext (show n + 0 * 1 = n by omega)
  | 1 => exact Fin.ext (by simp)
  | 2 => exact Fin.ext (by simp)
/-- A sum of sixteen, in the order the kernel adds them. -/
theorem sum16 (f : Fin 16 → EReal) : ∑ k, f k = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The kernel's result. -/
theorem final : (dats m 0 c).arrAt 1 cfg0.N = mat (sumEx (m ((c : Thread nD τ).loc main_arg0))) := by
  refine (dats m 0 c).arrAt_eq_of_covers 1 _ (by decide +kernel) fun t hf y => ?_
  have hN : t.val < 1 := lt_of_lt_of_eq t.isLt N_0
  blk_simp
  rw [after0_1]
  idx_vars y
  frame_out
  rw [pay1_eq, pay2_eq]
  have e0 : ∀ k, iblk m c 0 t (ix3 k y0 y1) = (m ((c : Thread nD τ).loc main_arg0)) (ix2 k ⟨y0.val * 128 + y1.val, by omega⟩) := fun k => by
    blk_simp [iblk, idx t]; entry_read; pointwise; blk_point [idx t]
  simp only [View.ld]
  have s0 : ∀ (n : Nat) (hn : n < 16) (h), iblk m c 0 t ((Rect.unit (s := S16x192x128) ![n, 0, 0] S1x192x128.size h).idx (ix3 0 y0 y1))
      = (m ((c : Thread nD τ).loc main_arg0)) (ix2 ⟨n, hn⟩ ⟨y0.val * 128 + y1.val, by omega⟩) := fun n hn h =>
    (congrArg (iblk m c 0 t) (slab n hn h y0 y1)).trans (e0 _)
  rw [s0 0 (by omega), s0 1 (by omega), s0 2 (by omega), s0 3 (by omega), s0 4 (by omega), s0 5 (by omega), s0 6 (by omega), s0 7 (by omega),
    s0 8 (by omega), s0 9 (by omega), s0 10 (by omega), s0 11 (by omega), s0 12 (by omega), s0 13 (by omega), s0 14 (by omega), s0 15 (by omega)]
  refine Eq.trans ?_ (mat_at (sumEx _) _ (i := y0) (j := y1) (by blk_simp [idx t]) (by blk_simp [idx t])).symm
  rw [sumEx, sum16]
  rfl

/-- The run, its result named and its argument kept. -/
theorem run_out (ρ : Dev nD → PrngReg) : θ_run defs (onTc (τ := τ) (main (F := Ideal))) ⟨m, fun _ => 0, ρ⟩ fun r => ∀ c : Dev nD,
    r.2.mem ((c : Thread nD τ).loc main_v1) = mat (sumEx (m ((c : Thread nD τ).loc main_arg0)))
    ∧ r.2.mem ((c : Thread nD τ).loc main_arg0) = m ((c : Thread nD τ).loc main_arg0) :=
  (θ_run defs _ _).mono (fun _ h c => ⟨(h c).1.trans (final m c), (h c).2⟩) (run_blocks m ρ)

end Cert.AdaDbIdeal.Value

namespace Cert.AdaDbRefIdeal.Value
open Cert.AdaDbRefIdeal Cert.AdaDbRefIdeal.Gen Cert.Gmlp Cert.Mlp Cert.AdaDbIdeal.Value

variable (m : (ℓ : Loc nD τ sig) → Buf (Elt Ideal) ℓ)

/-- The reference's run, its result named. -/
theorem run_out (ρ : Dev nD → PrngReg) : θ_run defs (onTc (τ := τ) (main (F := Ideal))) ⟨m, fun _ => 0, ρ⟩ fun r => ∀ c : Dev nD,
    r.2.mem ((c : Thread nD τ).loc main_v1) = mat (sumEx (m ((c : Thread nD τ).loc main_arg0)))
    ∧ r.2.mem ((c : Thread nD τ).loc main_arg0) = m ((c : Thread nD τ).loc main_arg0) :=
  (θ_run defs _ _).mono (fun _ h c => ⟨(h c).1.trans (by funext y; idx_vars y; pointwise [mat_ix2, sumEx]), (h c).2⟩) (run m ρ)

end Cert.AdaDbRefIdeal.Value
-- ==== Proof.Adam.lean ====
module

public import proofs.«01_k».proof.Proof.Mlp

/-! The optimiser's step on one entry: the moments and the change of the parameter. -/

@[expose] public section
noncomputable section
open Idealize.ShloMosaic Cert.Gmlp

namespace Cert.Adam

/-- The new first moment of an entry. -/
def newM (m g : EReal) : EReal := cst 0x3F666666#32 * m + cst 0x3DCCCCCD#32 * g
/-- The new second moment of an entry. -/
def newV (v g : EReal) : EReal := cst 0x3F7FBE77#32 * v + cst 0x3A83126F#32 * (g * g)
/-- The change of an entry: the corrected first moment over the root of the corrected second, and the weight decay. -/
def delta (w m v g : EReal) : EReal :=
  cst 0xBA83126F#32 * (Ideal.div (Ideal.div (newM m g) (cst 0x3F26BD02#32))
    (Ideal.sqrt (Ideal.div (newV v g) (cst 0x3C231ACC#32)) + cst 0x322BCC77#32) + cst 0x3C23D70A#32 * w)

end Cert.Adam
-- ==== Proof.AdamAdaArrays.lean ====
module

public import proofs.«01_k».proof.Proof.Adam
public import proofs.«01_k».proof.Proof.Gen.AdamAdaIdeal.Value
public import proofs.«01_k».proof.Proof.Gen.AdamAdaRefIdeal.Run
public import Idealize.ShloMosaic.Lib.Pipeline.ValueKit
public import Idealize.ShloMosaic.Lib.Pipeline.ReadBack
public import Idealize.ShloMosaic.Lib.Claim

/-! The optimiser's step on the modulation's weight: the kernel's result arrays and the reference's. -/

@[expose] public section
set_option maxRecDepth 16384
noncomputable section
open Idealize.ShloMosaic Idealize.ShloMosaic.TcCoe Idealize.SL.Sem

namespace Cert.AdamAdaIdeal.Value
open Cert.AdamAdaIdeal Cert.AdamAdaIdeal.Gen Cert.Gmlp Cert.Mlp Cert.Adam

variable (m : (ℓ : Loc nD τ sig) → Buf (Elt Ideal) ℓ) (c : Dev nD)

/-- Entry `(r, d)` of the parameter's rows, its layers one below the other. -/
def at2 (a : (⟨3, ![2, 2048, 3072]⟩ : Shape).Idx → EReal) (r : Fin 4096) (d : Fin 3072) : EReal :=
  a (ix3 ⟨r.val / 2048, by omega⟩ ⟨r.val % 2048, by omega⟩ d)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (w p q g : Vec Ideal S128x3072 .f32)
/-- The first moment, per block. -/
theorem pay2_eq : k0_pay2 (F := Ideal) g p = mat fun r d => newM (p (ix2 r d)) (g (ix2 r d)) := by
  funext y; idx_vars y; pointwise [k0_pay2, k0_pay1, mat_ix2, newM]
/-- The second moment, per block. -/
theorem pay3_eq : k0_pay3 (F := Ideal) g q = mat fun r d => newV (q (ix2 r d)) (g (ix2 r d)) := by
  funext y; idx_vars y; pointwise [k0_pay3, k0_pay1, mat_ix2, newV]
/-- The change, per block. -/
theorem pay4_eq : k0_pay4 (F := Ideal) g p q w = mat fun r d => delta (w (ix2 r d)) (p (ix2 r d)) (q (ix2 r d)) (g (ix2 r d)) := by
  funext y; idx_vars y; pointwise [k0_pay4, pay2_eq, pay3_eq, mat_ix2, delta]

variable (t : Fin cfg0.N) (hN : t.val < 32) (r : Fin 128) (d : Fin 3072)
include hN
theorem e0 : iblk m c 0 t (ix2 r d) = at2 (m ((c : Thread nD τ).loc main_arg0)) ⟨t.val * 128 + r.val, by omega⟩ d := by
  blk_simp [iblk, idx t, at2]; entry_read; pointwise; blk_point [idx t]
theorem e1 : iblk m c 1 t (ix2 r d) = at2 (m ((c : Thread nD τ).loc main_arg1)) ⟨t.val * 128 + r.val, by omega⟩ d := by
  blk_simp [iblk, idx t, at2]; entry_read; pointwise; blk_point [idx t]
theorem e2 : iblk m c 2 t (ix2 r d) = at2 (m ((c : Thread nD τ).loc main_arg2)) ⟨t.val * 128 + r.val, by omega⟩ d := by
  blk_simp [iblk, idx t, at2]; entry_read; pointwise; blk_point [idx t]
theorem e3 : iblk m c 3 t (ix2 r d) = at2 (m ((c : Thread nD τ).loc main_arg3)) ⟨t.val * 128 + r.val, by omega⟩ d := by
  blk_simp [iblk, idx t, at2]; entry_read; pointwise; blk_point [idx t]
omit hN

/-- The changes of the parameter. -/
def dOf (w p q g : (⟨3, ![2, 2048, 3072]⟩ : Shape).Idx → EReal) (r : Fin 4096) (d : Fin 3072) : EReal := delta (at2 w r d) (at2 p r d) (at2 q r d) (at2 g r d)
/-- Its new first moments. -/
def mOf (p g : (⟨3, ![2, 2048, 3072]⟩ : Shape).Idx → EReal) (r : Fin 4096) (d : Fin 3072) : EReal := newM (at2 p r d) (at2 g r d)
/-- Its new second moments. -/
def vOf (q g : (⟨3, ![2, 2048, 3072]⟩ : Shape).Idx → EReal) (r : Fin 4096) (d : Fin 3072) : EReal := newV (at2 q r d) (at2 g r d)

/-- The changes the kernel writes. -/
theorem final4 : (dats m 0 c).arrAt 4 cfg0.N = mat (dOf (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  have hN : t.val < 32 := lt_of_lt_of_eq t.isLt N_0
  blk_simp
  rw [after0_4]
  idx_vars y
  frame_out
  rw [pay4_eq, mat_ix2, e0 m c t hN, e1 m c t hN, e2 m c t hN, e3 m c t hN]
  exact (mat_at (dOf _ _ _ _) _ (i := ⟨t.val * 128 + y0.val, by omega⟩) (j := y1) (by blk_simp [idx t]) (by blk_simp [idx t])).symm
/-- The first moments the kernel writes. -/
theorem final5 : (dats m 0 c).arrAt 5 cfg0.N = mat (mOf (m ((c : Thread nD τ).loc main_arg1)) (m ((c : Thread nD τ).loc main_arg3))) := by
  refine (dats m 0 c).arrAt_eq_of_covers 5 _ (by decide +kernel) fun t hf y => ?_
  have hN : t.val < 32 := lt_of_lt_of_eq t.isLt N_0
  blk_simp
  rw [after0_5]
  idx_vars y
  frame_out
  rw [pay2_eq, mat_ix2, e1 m c t hN, e3 m c t hN]
  exact (mat_at (mOf _ _) _ (i := ⟨t.val * 128 + y0.val, by omega⟩) (j := y1) (by blk_simp [idx t]) (by blk_simp [idx t])).symm
/-- The second moments the kernel writes. -/
theorem final6 : (dats m 0 c).arrAt 6 cfg0.N = mat (vOf (m ((c : Thread nD τ).loc main_arg2)) (m ((c : Thread nD τ).loc main_arg3))) := by
  refine (dats m 0 c).arrAt_eq_of_covers 6 _ (by decide +kernel) fun t hf y => ?_
  have hN : t.val < 32 := lt_of_lt_of_eq t.isLt N_0
  blk_simp
  rw [after0_6]
  idx_vars y
  frame_out
  rw [pay3_eq, mat_ix2, e2 m c t hN, e3 m c t hN]
  exact (mat_at (vOf _ _) _ (i := ⟨t.val * 128 + y0.val, by omega⟩) (j := y1) (by blk_simp [idx t]) (by blk_simp [idx t])).symm

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v4_0) = mat (dOf (m ((c : Thread nD τ).loc main_arg0)) (m ((c : Thread nD τ).loc main_arg1)) (m ((c : Thread nD τ).loc main_arg2)) (m ((c : Thread nD τ).loc main_arg3)))
    ∧ r.2.mem ((c : Thread nD τ).loc main_v4_1) = mat (mOf (m ((c : Thread nD τ).loc main_arg1)) (m ((c : Thread nD τ).loc main_arg3)))
    ∧ r.2.mem ((c : Thread nD τ).loc main_v4_2) = mat (vOf (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩) (run_blocks m ρ)

end Cert.AdamAdaIdeal.Value

namespace Cert.AdamAdaRefIdeal.Value
open Cert.AdamAdaRefIdeal Cert.AdamAdaRefIdeal.Gen Cert.Gmlp Cert.Mlp Cert.Adam Cert.AdamAdaIdeal.Value

variable (m : (ℓ : Loc nD τ sig) → Buf (Elt Ideal) ℓ)

/-- The reference's run, its results named. -/
theorem run_out (ρ : Dev nD → PrngReg) : θ_run defs (onTc (τ := τ) (main (F := Ideal))) ⟨m, fun _ => 0, ρ⟩ fun r => ∀ c : Dev nD,
    r.2.mem ((c : Thread nD τ).loc main_v24) = mat (dOf (m ((c : Thread nD τ).loc main_arg0)) (m ((c : Thread nD τ).loc main_arg1)) (m ((c : Thread nD τ).loc main_arg2)) (m ((c : Thread nD τ).loc main_arg3)))
    ∧ r.2.mem ((c : Thread nD τ).loc main_v25) = mat (mOf (m ((c : Thread nD τ).loc main_arg1)) (m ((c : Thread nD τ).loc main_arg3)))
    ∧ r.2.mem ((c : Thread nD τ).loc main_v26) = mat (vOf (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨
    (h c).1.trans (by funext y; idx_vars y; pointwise [mat_ix2, dOf, delta, newM, newV, at2]),
    (h c).2.1.trans (by funext y; idx_vars y; pointwise [mat_ix2, mOf, newM, at2]),
    (h c).2.2.1.trans (by funext y; idx_vars y; pointwise [mat_ix2, vOf, newV, at2]), (h c).2.2.2⟩) (run m ρ)

end Cert.AdamAdaRefIdeal.Value
-- ==== Proof.AdamInArrays.lean ====
module

public import proofs.«01_k».proof.Proof.Adam
public import proofs.«01_k».proof.Proof.Gen.AdamInIdeal.Value
public import proofs.«01_k».proof.Proof.Gen.AdamInRefIdeal.Run
public import Idealize.ShloMosaic.Lib.Pipeline.ValueKit
public import Idealize.ShloMosaic.Lib.Pipeline.ReadBack
public import Idealize.ShloMosaic.Lib.Claim

/-! The optimiser's step on the input projection's weight: the kernel's result arrays and the reference's. -/

@[expose] public section
set_option maxRecDepth 16384
noncomputable section
open Idealize.ShloMosaic Idealize.ShloMosaic.TcCoe Idealize.SL.Sem

namespace Cert.AdamInIdeal.Value
open Cert.AdamInIdeal Cert.AdamInIdeal.Gen Cert.Gmlp Cert.Mlp Cert.Adam

variable (m : (ℓ : Loc nD τ sig) → Buf (Elt Ideal) ℓ) (c : Dev nD)

/-- An entry of the parameter, its columns taken first. -/
def at3 (a : (⟨3, ![2, 2048, 1092]⟩ : Shape).Idx → EReal) (r : Fin 1092) (l : Fin 2) (d : Fin 2048) : EReal := a (ix3 l d r)

theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![t.val, 0, 0] ∧ win0_6.index t = ![t.val, 0, 0] :=
  (by decide +kernel : ∀ t : Fin grid0.N, _)

variable (w p q g : Vec Ideal S91x2x2048 .f32)
/-- The first moment, per block. -/
theorem pay2_eq : k0_pay2 (F := Ideal) p g = cube fun r l d => newM (p (ix3 r l d)) (g (ix3 r l d)) := by
  funext y; idx_vars y; pointwise [k0_pay2, k0_pay1, cube_ix3, newM]
/-- The second moment, per block. -/
theorem pay3_eq : k0_pay3 (F := Ideal) q g = cube fun r l d => newV (q (ix3 r l d)) (g (ix3 r l d)) := by
  funext y; idx_vars y; pointwise [k0_pay3, k0_pay1, cube_ix3, newV]
/-- The change, per block. -/
theorem pay4_eq : k0_pay4 (F := Ideal) w p q g = cube fun r l d => delta (w (ix3 r l d)) (p (ix3 r l d)) (q (ix3 r l d)) (g (ix3 r l d)) := by
  funext y; idx_vars y; pointwise [k0_pay4, pay2_eq, pay3_eq, cube_ix3, delta]

variable (t : Fin cfg0.N) (hN : t.val < 12) (r : Fin 91) (l : Fin 2) (d : Fin 2048)
include hN
theorem e0 : iblk m c 0 t (ix3 r l d) = at3 (m ((c : Thread nD τ).loc main_arg0)) ⟨t.val * 91 + r.val, by omega⟩ l d := by
  blk_simp [iblk, idx t, at3]; entry_read; pointwise; blk_point [idx t]
theorem e1 : iblk m c 1 t (ix3 r l d) = at3 (m ((c : Thread nD τ).loc main_arg1)) ⟨t.val * 91 + r.val, by omega⟩ l d := by
  blk_simp [iblk, idx t, at3]; entry_read; pointwise; blk_point [idx t]
theorem e2 : iblk m c 2 t (ix3 r l d) = at3 (m ((c : Thread nD τ).loc main_arg2)) ⟨t.val * 91 + r.val, by omega⟩ l d := by
  blk_simp [iblk, idx t, at3]; entry_read; pointwise; blk_point [idx t]
theorem e3 : iblk m c 3 t (ix3 r l d) = at3 (m ((c : Thread nD τ).loc main_arg3)) ⟨t.val * 91 + r.val, by omega⟩ l d := by
  have e : (((View.whole main_v8).slice (win0_3.rect t)).emb (ix3 r l d) 1).val = l.val := by blk_simp [idx t]
  blk_simp [iblk, idx t, at3]; entry_read; pointwise; blk_point [idx t]
  all_goals omega
omit hN

/-- The changes of the parameter. -/
def dOf (w p q g : (⟨3, ![2, 2048, 1092]⟩ : Shape).Idx → EReal) (r : Fin 1092) (l : Fin 2) (d : Fin 2048) : EReal := delta (at3 w r l d) (at3 p r l d) (at3 q r l d) (at3 g r l d)
/-- Its new first moments. -/
def mOf (p g : (⟨3, ![2, 2048, 1092]⟩ : Shape).Idx → EReal) (r : Fin 1092) (l : Fin 2) (d : Fin 2048) : EReal := newM (at3 p r l d) (at3 g r l d)
/-- Its new second moments. -/
def vOf (q g : (⟨3, ![2, 2048, 1092]⟩ : Shape).Idx → EReal) (r : Fin 1092) (l : Fin 2) (d : Fin 2048) : EReal := newV (at3 q r l d) (at3 g r l d)

/-- The changes the kernel writes. -/
theorem final4 : (dats m 0 c).arrAt 4 cfg0.N = cube (dOf (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  have hN : t.val < 12 := lt_of_lt_of_eq t.isLt N_0
  blk_simp
  rw [after0_4]
  idx_vars y
  frame_out
  rw [pay4_eq, cube_ix3, e0 m c t hN, e1 m c t hN, e2 m c t hN, e3 m c t hN]
  exact (cube_at (dOf _ _ _ _) _ (a := ⟨t.val * 91 + y0.val, by omega⟩) (b := y1) (d := y2) (by blk_simp [idx t]) (by blk_simp [idx t]) (by blk_simp [idx t])).symm
/-- The first moments the kernel writes. -/
theorem final5 : (dats m 0 c).arrAt 5 cfg0.N = cube (mOf (m ((c : Thread nD τ).loc main_arg1)) (m ((c : Thread nD τ).loc main_arg3))) := by
  refine (dats m 0 c).arrAt_eq_of_covers 5 _ (by decide +kernel) fun t hf y => ?_
  have hN : t.val < 12 := lt_of_lt_of_eq t.isLt N_0
  blk_simp
  rw [after0_5]
  idx_vars y
  frame_out
  rw [pay2_eq, cube_ix3, e1 m c t hN, e3 m c t hN]
  exact (cube_at (mOf _ _) _ (a := ⟨t.val * 91 + y0.val, by omega⟩) (b := y1) (d := y2) (by blk_simp [idx t]) (by blk_simp [idx t]) (by blk_simp [idx t])).symm
/-- The second moments the kernel writes. -/
theorem final6 : (dats m 0 c).arrAt 6 cfg0.N = cube (vOf (m ((c : Thread nD τ).loc main_arg2)) (m ((c : Thread nD τ).loc main_arg3))) := by
  refine (dats m 0 c).arrAt_eq_of_covers 6 _ (by decide +kernel) fun t hf y => ?_
  have hN : t.val < 12 := lt_of_lt_of_eq t.isLt N_0
  blk_simp
  rw [after0_6]
  idx_vars y
  frame_out
  rw [pay3_eq, cube_ix3, e2 m c t hN, e3 m c t hN]
  exact (cube_at (vOf _ _) _ (a := ⟨t.val * 91 + y0.val, by omega⟩) (b := y1) (d := y2) (by blk_simp [idx t]) (by blk_simp [idx t]) (by blk_simp [idx t])).symm

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v12_0) = cube (dOf (m ((c : Thread nD τ).loc main_arg0)) (m ((c : Thread nD τ).loc main_arg1)) (m ((c : Thread nD τ).loc main_arg2)) (m ((c : Thread nD τ).loc main_arg3)))
    ∧ r.2.mem ((c : Thread nD τ).loc main_v12_1) = cube (mOf (m ((c : Thread nD τ).loc main_arg1)) (m ((c : Thread nD τ).loc main_arg3)))
    ∧ r.2.mem ((c : Thread nD τ).loc main_v12_2) = cube (vOf (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (final4 m c), (h c).2.1.trans (final5 m c), (h c).2.2.1.trans (final6 m c), (h c).2.2.2⟩) (run_blocks m ρ)

end Cert.AdamInIdeal.Value

namespace Cert.AdamInRefIdeal.Value
open Cert.AdamInRefIdeal Cert.AdamInRefIdeal.Gen Cert.Gmlp Cert.Mlp Cert.Adam Cert.AdamInIdeal.Value

variable (m : (ℓ : Loc nD τ sig) → Buf (Elt Ideal) ℓ)

/-- The reference's run, its results named. -/
theorem run_out (ρ : Dev nD → PrngReg) : θ_run defs (onTc (τ := τ) (main (F := Ideal))) ⟨m, fun _ => 0, ρ⟩ fun r => ∀ c : Dev nD,
    r.2.mem ((c : Thread nD τ).loc main_v24) = cube (dOf (m ((c : Thread nD τ).loc main_arg0)) (m ((c : Thread nD τ).loc main_arg1)) (m ((c : Thread nD τ).loc main_arg2)) (m ((c : Thread nD τ).loc main_arg3)))
    ∧ r.2.mem ((c : Thread nD τ).loc main_v25) = cube (mOf (m ((c : Thread nD τ).loc main_arg1)) (m ((c : Thread nD τ).loc main_arg3)))
    ∧ r.2.mem ((c : Thread nD τ).loc main_v26) = cube (vOf (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨
    (h c).1.trans (by funext y; idx_vars y; pointwise [cube_ix3, dOf, delta, newM, newV, at3]),
    (h c).2.1.trans (by funext y; idx_vars y; pointwise [cube_ix3, mOf, newM, at3]),
    (h c).2.2.1.trans (by funext y; idx_vars y; pointwise [cube_ix3, vOf, newV, at3]), (h c).2.2.2⟩) (run m ρ)

end Cert.AdamInRefIdeal.Value
-- ==== Proof.LossHeadArrays.lean ====
module

public import proofs.«01_k».proof.Proof.Norm
public import proofs.«01_k».proof.Proof.Sums
public import proofs.«01_k».proof.Proof.Gen.LossHeadIdeal.Value
public import proofs.«01_k».proof.Proof.Gen.LossHeadRefIdeal.Run
public import Idealize.ShloMosaic.Lib.Pipeline.ValueKit
public import Idealize.ShloMosaic.Lib.Pipeline.ReadBack
public import Idealize.ShloMosaic.Lib.Claim

/-! The loss head: the last norm, the loss and their gradients; the kernel's result arrays and the reference's. -/

@[expose] public section
set_option maxRecDepth 16384
noncomputable section
open Idealize.ShloMosaic Idealize.ShloMosaic.TcCoe Idealize.SL.Sem

namespace Cert.LossHeadIdeal.Value
open Cert.LossHeadIdeal Cert.LossHeadIdeal.Gen Cert.Gmlp Cert.Mlp Cert.Proj Cert.Fwd Cert.Norm

theorem idx : ∀ t : Fin cfg0.N, win0_0.index t = ![t.val / 4, t.val % 4, 0] ∧ win0_1.index t = ![0, 0] ∧ win0_2.index t = ![t.val / 4, t.val % 4, 0]
    ∧ win0_3.index t = ![t.val / 4, t.val % 4, 0] ∧ win0_4.index t = ![0, 0] ∧ win0_5.index t = ![0, 0] :=
  (by decide +kernel : ∀ t : Fin grid0.N, _)

/-- A normalised row minus its target: `x` the row, `n` the norm's weight, `y` the target. -/
def errRow (x n y : Fin 2048 → EReal) (d : Fin 2048) : EReal := x d * invRoot x * n d - y d
/-- The loss's cotangent of the normalised, scaled row. -/
def cotRow (x n y : Fin 2048 → EReal) (d : Fin 2048) : EReal := errRow x n y d * cst 0x3A000000#32
/-- A row's squared error. -/
def sqRow (x n y : Fin 2048 → EReal) : EReal := ∑ d, errRow x n y d * errRow x n y d

theorem ofBits_c : Ideal.ofBits .f32 0x39800000#32 = ((1 / 4096 : ℝ) : EReal) := by
  simp [Ideal.ofBits, Ideal.ieee, -EReal.coe_mul]; norm_num
theorem ofBits_d : Ideal.ofBits .f32 0x3A000000#32 = ((1 / 2048 : ℝ) : EReal) := by
  simp [Ideal.ofBits, Ideal.ieee, -EReal.coe_mul]; norm_num

section Blocks
variable (x y : Vec Ideal S1x512x2048 .f32) (g w : Vec Ideal S1x2048 .f32) (l : Vec Ideal S1x128 .f32)

/-- A row's inverse root. -/
theorem root_eq (r : Fin 512) : k0_pay6 (F := Ideal) x (ix2 r 0) = invRoot fun k => x (ix3 0 r k) := by
  pointwise [k0_pay6, k0_pay4, invRoot]
/-- A normalised row. -/
theorem row_eq (r : Fin 512) (d : Fin 2048) : k0_pay7 (F := Ideal) x (ix2 r d) = x (ix3 0 r d) * invRoot fun k => x (ix3 0 r k) := by
  rw [← root_eq]
  pointwise [k0_pay7, k0_pay4]
/-- The error. -/
theorem err_eq (r : Fin 512) (d : Fin 2048) : k0_pay8 (F := Ideal) x g y (ix2 r d) = errRow (fun k => x (ix3 0 r k)) (fun k => g (ix2 0 k)) (fun k => y (ix3 0 r k)) d := by
  pointwise [k0_pay8, k0_pay5, row_eq, errRow]
/-- The cotangent. -/
theorem cot_eq (r : Fin 512) (d : Fin 2048) : k0_pay9 (F := Ideal) x g y (ix2 r d) = cotRow (fun k => x (ix3 0 r k)) (fun k => g (ix2 0 k)) (fun k => y (ix3 0 r k)) d := by
  pointwise [k0_pay9, err_eq, cotRow]
/-- The input gradient, per block. -/
theorem dx_eq : k0_pay10 (F := Ideal) x g y = cube fun _ r d =>
    dRow 0 (fun k => x (ix3 0 r k)) (fun k => cotRow (fun k => x (ix3 0 r k)) (fun k => g (ix2 0 k)) (fun k => y (ix3 0 r k)) k * g (ix2 0 k)) d := by
  funext z; idx_vars z; pointwise [k0_pay10, k0_pay5, cube_ix3, dRow, row_eq, root_eq, cot_eq]
/-- The weight's gradient, a tile's part. -/
theorem weight_eq : k0_pay11 (F := Ideal) x g y = mat fun _ d => ∑ r : Fin 512,
    cotRow (fun k => x (ix3 0 r k)) (fun k => g (ix2 0 k)) (fun k => y (ix3 0 r k)) d * (x (ix3 0 r d) * invRoot fun k => x (ix3 0 r k)) := by
  funext z; idx_vars z; pointwise [k0_pay11, mat_ix2, row_eq, cot_eq]
theorem weight_add : k0_pay2 (F := Ideal) (k0_pay11 x g y) w = mat fun _ d => w (ix2 0 d) + ∑ r : Fin 512,
    cotRow (fun k => x (ix3 0 r k)) (fun k => g (ix2 0 k)) (fun k => y (ix3 0 r k)) d * (x (ix3 0 r d) * invRoot fun k => x (ix3 0 r k)) := by
  rw [weight_eq]
  funext z; idx_vars z; obtain rfl : z0 = 0 := Subsingleton.elim _ _
  pointwise [k0_pay2, mat_ix2]
/-- The loss, a tile's part. -/
theorem loss_eq (j : Fin 128) : k0_pay1 (F := Ideal) (k0_pay8 x g y) (ix2 0 j) = ∑ r : Fin 512,
    sqRow (fun k => x (ix3 0 r k)) (fun k => g (ix2 0 k)) (fun k => y (ix3 0 r k)) * cst 0x39800000#32 := by
  rw [show cst 0x39800000#32 = ((1 / 4096 : ℝ) : EReal) from ofBits_c, ← sum_mul_real _ _ _ (by norm_num), ← ofBits_c]
  pointwise [k0_pay1, err_eq, sqRow]
theorem loss_add (j : Fin 128) : k0_pay3 (F := Ideal) (k0_pay8 x g y) l (ix2 0 j) = l (ix2 0 j) + ∑ r : Fin 512,
    sqRow (fun k => x (ix3 0 r k)) (fun k => g (ix2 0 k)) (fun k => y (ix3 0 r k)) * cst 0x39800000#32 := by
  rw [← loss_eq x y g j]
  pointwise [k0_pay3]
end Blocks

section Run
variable (m : (ℓ : Loc nD τ sig) → Buf (Elt Ideal) ℓ) (c : Dev nD)

section Point
variable (t : Fin cfg0.N) (hN : t.val < 8)
include hN
theorem e0 (r : Fin 512) (d : Fin 2048) : iblk m c 0 t (ix3 0 r d) = (m ((c : Thread nD τ).loc main_arg0)) (ix3 ⟨t.val / 4, by omega⟩ ⟨t.val % 4 * 512 + r.val, by omega⟩ d) := by
    blk_simp [iblk, idx t]; entry_read; pointwise; blk_point [idx t]
theorem e1 (d : Fin 2048) : iblk m c 1 t (ix2 0 d) = (m ((c : Thread nD τ).loc main_arg1)) (ix1 d) := by
    blk_simp [iblk, idx t]; entry_read; pointwise; blk_point [idx t]
theorem e2 (r : Fin 512) (d : Fin 2048) : iblk m c 2 t (ix3 0 r d) = (m ((c : Thread nD τ).loc main_arg2)) (ix3 ⟨t.val / 4, by omega⟩ ⟨t.val % 4 * 512 + r.val, by omega⟩ d) := by
    blk_simp [iblk, idx t]; entry_read; pointwise; blk_point [idx t]

/-- What a point leaves in the input gradient's block. -/
theorem out_x : (outsAt0 m c t.val t.isLt).1 = k0_pay10 (F := Ideal) (iblk m c 0 t) (iblk m c 1 t) (iblk m c 2 t) := by
  by_cases h8 : t.val % 8 = 0
  · rw [outsAt0_A m c t h8 (by omega)]; frame_out
  · rw [outsAt0_B m c t h8 (by omega)]; frame_out
/-- What the first point leaves in the weight's and the loss's block. -/
theorem out_first (h : t.val = 0) : (outsAt0 m c t.val t.isLt).2.1 = k0_pay11 (F := Ideal) (iblk m c 0 t) (iblk m c 1 t) (iblk m c 2 t)
    ∧ (outsAt0 m c t.val t.isLt).2.2 = k0_pay1 (F := Ideal) (k0_pay8 (iblk m c 0 t) (iblk m c 1 t) (iblk m c 2 t)) := by
  rw [outsAt0_A m c t (by omega) (by omega)]; exact ⟨by frame_out, by frame_out⟩
/-- What a later point leaves in them. -/
theorem out_later (h : 1 ≤ t.val) : (outsAt0 m c t.val t.isLt).2.1 = k0_pay2 (F := Ideal) (k0_pay11 (iblk m c 0 t) (iblk m c 1 t) (iblk m c 2 t))
      (outsAt0 m c (t.val - 1) (Nat.lt_of_le_of_lt (Nat.sub_le _ _) t.isLt)).2.1
    ∧ (outsAt0 m c t.val t.isLt).2.2 = k0_pay3 (F := Ideal) (k0_pay8 (iblk m c 0 t) (iblk m c 1 t) (iblk m c 2 t))
      (outsAt0 m c (t.val - 1) (Nat.lt_of_le_of_lt (Nat.sub_le _ _) t.isLt)).2.2 := by
  rw [outsAt0_B m c t (by omega) h]; exact ⟨by frame_out, by frame_out⟩
end Point

section Form
variable (x y : (⟨3, ![2, 2048, 2048]⟩ : Shape).Idx → EReal) (n : (⟨1, ![2048]⟩ : Shape).Idx → EReal)
/-- The loss's gradient of the last layer's output. -/
def dLossX (b : Fin 2) (r d : Fin 2048) : EReal :=
  dRow 0 (fun k => x (ix3 b r k)) (fun k => cotRow (fun k => x (ix3 b r k)) (fun k => n (ix1 k)) (fun k => y (ix3 b r k)) k * n (ix1 k)) d
/-- A row's part of the weight's gradient. -/
def normRow (d : Fin 2048) (b : Fin 2) (r : Fin 2048) : EReal :=
  cotRow (fun k => x (ix3 b r k)) (fun k => n (ix1 k)) (fun k => y (ix3 b r k)) d * (x (ix3 b r d) * invRoot fun k => x (ix3 b r k))
/-- The weight's gradient. -/
def dNormG (_ : Fin 1) (d : Fin 2048) : EReal := ∑ b, ∑ r, normRow x y n d b r
/-- A row's part of the loss. -/
def lossRow (b : Fin 2) (r : Fin 2048) : EReal := sqRow (fun k => x (ix3 b r k)) (fun k => n (ix1 k)) (fun k => y (ix3 b r k)) * cst 0x39800000#32
/-- The loss, in every lane. -/
def lossAll (_ : Fin 1) (_ : Fin 128) : EReal := ∑ b, ∑ r, lossRow x y n b r
end Form

/-- The input gradient. -/
theorem final3 : (dats m 0 c).arrAt 3 cfg0.N = cube (dLossX (m ((c : Thread nD τ).loc main_arg0)) (m ((c : Thread nD τ).loc main_arg2)) (m ((c : Thread nD τ).loc main_arg1))) := by
  refine (dats m 0 c).arrAt_eq_of_covers 3 _ (by decide +kernel) fun t hf y => ?_
  have hN : t.val < 8 := lt_of_lt_of_eq t.isLt N_0
  blk_simp
  rw [after0_3, out_x m c t hN, dx_eq]
  idx_vars y
  rw [cube_ix3]
  simp only [e0 m c t hN, e1 m c t hN, e2 m c t hN]
  exact (cube_at (dLossX _ _ _) _ (a := ⟨t.val / 4, by omega⟩) (b := ⟨t.val % 4 * 512 + y1.val, by omega⟩) (d := y2) (by blk_simp [idx t]) (by blk_simp [idx t]) (by blk_simp [idx t])).symm

/-- The weight's and the loss's blocks hold the running sums over all points. -/
theorem sums (n : ℕ) (hn : n < cfg0.N) :
    (∀ d : Fin 2048, (outsAt0 m c n hn).2.1 (ix2 0 d) = allUpTo (normRow (m ((c : Thread nD τ).loc main_arg0)) (m ((c : Thread nD τ).loc main_arg2)) (m ((c : Thread nD τ).loc main_arg1)) d) n)
    ∧ ∀ j : Fin 128, (outsAt0 m c n hn).2.2 (ix2 0 j) = allUpTo (lossRow (m ((c : Thread nD τ).loc main_arg0)) (m ((c : Thread nD τ).loc main_arg2)) (m ((c : Thread nD τ).loc main_arg1))) n := by
  induction n with
  | zero =>
    have h8 : (0 : ℕ) < 8 := by omega
    have o := out_first m c ⟨0, hn⟩ h8 rfl
    refine ⟨fun d => ?_, fun j => ?_⟩
    · rw [o.1, weight_eq, mat_ix2]
      simp only [e0 m c ⟨0, hn⟩ h8, e1 m c ⟨0, hn⟩ h8, e2 m c ⟨0, hn⟩ h8]
      rfl
    · rw [o.2, loss_eq]
      simp only [e0 m c ⟨0, hn⟩ h8, e1 m c ⟨0, hn⟩ h8, e2 m c ⟨0, hn⟩ h8]
      rfl
  | succ n ih =>
    have h8 : n + 1 < 8 := lt_of_lt_of_eq hn N_0
    have i := ih (Nat.lt_of_succ_lt hn)
    have o := out_later m c ⟨n + 1, hn⟩ h8 (by dsimp only; omega)
    refine ⟨fun d => ?_, fun j => ?_⟩
    · rw [o.1, weight_add, mat_ix2, allUpTo_next _ (n + 1) h8 (by omega)]
      simp only [e0 m c ⟨n + 1, hn⟩ h8, e1 m c ⟨n + 1, hn⟩ h8, e2 m c ⟨n + 1, hn⟩ h8]
      exact congrArg (· + _) (i.1 d)
    · rw [o.2, loss_add, allUpTo_next _ (n + 1) h8 (by omega)]
      simp only [e0 m c ⟨n + 1, hn⟩ h8, e1 m c ⟨n + 1, hn⟩ h8, e2 m c ⟨n + 1, hn⟩ h8]
      exact congrArg (· + _) (i.2 j)

/-- The weight's gradient. -/
theorem final4 : (dats m 0 c).arrAt 4 cfg0.N = mat (dNormG (m ((c : Thread nD τ).loc main_arg0)) (m ((c : Thread nD τ).loc main_arg2)) (m ((c : Thread nD τ).loc main_arg1))) := by
  refine (dats m 0 c).arrAt_eq_of_covers 4 _ (by decide +kernel) fun t hf y => ?_
  have hN : t.val < 8 := lt_of_lt_of_eq t.isLt N_0
  have hm : t.val % 8 = 7 := (flush0_4 t).mp hf
  have h7 : t.val = 7 := by omega
  blk_simp
  rw [after0_4]
  idx_vars y
  obtain rfl : y0 = 0 := Subsingleton.elim _ _
  rw [(sums m c t.val t.isLt).1 y1, h7, allUpTo_last]
  exact (mat_at (dNormG _ _ _) _ (i := 0) (j := y1) (by blk_simp [idx t]) (by blk_simp [idx t])).symm
/-- The loss. -/
theorem final5 : (dats m 0 c).arrAt 5 cfg0.N = mat (lossAll (m ((c : Thread nD τ).loc main_arg0)) (m ((c : Thread nD τ).loc main_arg2)) (m ((c : Thread nD τ).loc main_arg1))) := by
  refine (dats m 0 c).arrAt_eq_of_covers 5 _ (by decide +kernel) fun t hf y => ?_
  have hN : t.val < 8 := lt_of_lt_of_eq t.isLt N_0
  have hm : t.val % 8 = 7 := (flush0_5 t).mp hf
  have h7 : t.val = 7 := by omega
  blk_simp
  rw [after0_5]
  idx_vars y
  obtain rfl : y0 = 0 := Subsingleton.elim _ _
  rw [(sums m c t.val t.isLt).2 y1, h7, allUpTo_last]
  exact (mat_at (lossAll _ _ _) _ (i := 0) (j := y1) (by blk_simp [idx t]) (by blk_simp [idx t])).symm

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v1_0) = cube (dLossX (m ((c : Thread nD τ).loc main_arg0)) (m ((c : Thread nD τ).loc main_arg2)) (m ((c : Thread nD τ).loc main_arg1)))
      ∧ r.2.mem ((c : Thread nD τ).loc main_v1_1) = mat (dNormG (m ((c : Thread nD τ).loc main_arg0)) (m ((c : Thread nD τ).loc main_arg2)) (m ((c : Thread nD τ).loc main_arg1)))
      ∧ r.2.mem ((c : Thread nD τ).loc main_v1_2) = mat (lossAll (m ((c : Thread nD τ).loc main_arg0)) (m ((c : Thread nD τ).loc main_arg2)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c), (h c).2.2.2⟩) (run_blocks m ρ)
end Run

end Cert.LossHeadIdeal.Value

namespace Cert.LossHeadRefIdeal.Value
open Cert.LossHeadRefIdeal Cert.Gmlp Cert.Mlp Cert.Proj Cert.Fwd Cert.Norm Cert.LossHeadIdeal.Value

theorem ofBits_two : Ideal.ofBits .f32 0x40000000#32 = ((2 : ℝ) : EReal) := by
  simp [Ideal.ofBits, Ideal.ieee, -EReal.coe_mul]; norm_num
theorem ofBits_h : Ideal.ofBits .f32 0x3F000000#32 = ((1 / 2 : ℝ) : EReal) := by
  simp [Ideal.ofBits, Ideal.ieee, -EReal.coe_mul]; norm_num

/-- The loss's cotangent by the chain rule: the halved mean of the squares, differentiated. -/
theorem cot_ref (e : EReal) : Ideal.div (Ideal.ofBits .f32 0x3F000000#32) (Ideal.ofBits .f32 0x45000000#32) * (Ideal.ofBits .f32 0x40000000#32 * e)
    = e * cst 0x3A000000#32 := by
  rw [show cst 0x3A000000#32 = ((1 / 2048 : ℝ) : EReal) from ofBits_d, ofBits_h, ofBits_n, ofBits_two, Ideal.div_coe (by norm_num), mul_comm e, ← mul_assoc, ← EReal.coe_mul, ← EReal.coe_mul]
  norm_num
/-- Half the sum of the rows' means is the sum of the rows' squares over twice their length. -/
theorem loss_ref (f : Fin 2 → Fin 2048 → EReal) : Ideal.ofBits .f32 0x3F000000#32 * ∑ b, ∑ r, Ideal.div (f b r) (Ideal.ofBits .f32 0x45000000#32)
    = ∑ b, ∑ r, f b r * Ideal.ofBits .f32 0x39800000#32 := by
  rw [ofBits_h, ofBits_n, ofBits_c, mul_comm, sum_mul_real _ _ _ (by norm_num)]
  refine Finset.sum_congr rfl fun b _ => ?_
  rw [sum_mul_real _ _ _ (by norm_num)]
  refine Finset.sum_congr rfl fun r _ => ?_
  rw [Ideal.div_coe (by norm_num), mul_assoc, ← EReal.coe_mul]
  norm_num

variable (m : (ℓ : Loc nD τ sig) → Buf (Elt Ideal) ℓ)

/-- The reference's input gradient. -/
theorem res_eq (c : Dev nD) : res_main_v50 (F := Ideal) m c = cube (dLossX (m ((c : Thread nD τ).loc main_arg0)) (m ((c : Thread nD τ).loc main_arg2)) (m ((c : Thread nD τ).loc main_arg1))) := by
  funext y; idx_vars y
  rw [cube_ix3, dLossX, ← dRow_eq]
  pointwise [res_main_v50, dRowRef, invRoot, cotRow, errRow]
  simp only [Finset.univ_unique, Finset.sum_singleton, cot_ref]

set_option maxHeartbeats 1000000 in
/-- The reference's run, its results named. -/
theorem run_out (ρ : Dev nD → PrngReg) : θ_run defs (onTc (τ := τ) (main (F := Ideal))) ⟨m, fun _ => 0, ρ⟩ fun r => ∀ c : Dev nD,
    r.2.mem ((c : Thread nD τ).loc main_v50) = cube (dLossX (m ((c : Thread nD τ).loc main_arg0)) (m ((c : Thread nD τ).loc main_arg2)) (m ((c : Thread nD τ).loc main_arg1)))
      ∧ r.2.mem ((c : Thread nD τ).loc main_v51) = mat (dNormG (m ((c : Thread nD τ).loc main_arg0)) (m ((c : Thread nD τ).loc main_arg2)) (m ((c : Thread nD τ).loc main_arg1)))
      ∧ r.2.mem ((c : Thread nD τ).loc main_v52) = mat (lossAll (m ((c : Thread nD τ).loc main_arg0)) (m ((c : Thread nD τ).loc main_arg2)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ h c => ?_) (run m ρ)
  obtain ⟨h3, h4, h5, hk⟩ := h c
  refine ⟨h3.trans (res_eq m c), h4.trans ?_, h5.trans ?_, hk⟩
  · funext y; idx_vars y; pointwise [mat_ix2, dNormG, normRow, invRoot, reduce3_01, cotRow, errRow]
    simp only [Finset.univ_unique, Finset.sum_singleton, cot_ref]
    exact Finset.sum_congr rfl fun _ _ => Finset.sum_congr rfl fun _ _ => mul_comm _ _
  · funext y; idx_vars y; pointwise [mat_ix2, lossAll, lossRow, sqRow, errRow, invRoot]
    exact loss_ref _

end Cert.LossHeadRefIdeal.Value
-- ==== Proof.AdamLayer.lean ====
module

public import proofs.«01_k».proof.Proof.Adam

/-! The optimiser's step on the first layer of a parameter of two: the second layer keeps what it had. -/

@[expose] public section
noncomputable section
open Idealize.ShloMosaic Cert.Gmlp

namespace Cert.Adam

variable {n : Nat} (w p q prev : (⟨3, ![2, n, 2048]⟩ : Shape).Idx → EReal) (g : (⟨2, ![n, 2048]⟩ : Shape).Idx → EReal)

/-- The first layer new, the second as it was. -/
def firstOf (f : Fin n → Fin 2048 → EReal) (l : Fin 2) (r : Fin n) (d : Fin 2048) : EReal := if l.val = 0 then f r d else prev (ix3 l r d)
/-- The gradients of the two layers. -/
def gLayer : Fin 2 → Fin n → Fin 2048 → EReal := firstOf prev fun r d => g (ix2 r d)
/-- The changes. -/
def dLayer : Fin 2 → Fin n → Fin 2048 → EReal := firstOf prev fun r d => delta (w (ix3 0 r d)) (p (ix3 0 r d)) (q (ix3 0 r d)) (g (ix2 r d))
/-- The new first moments. -/
def mLayer : Fin 2 → Fin n → Fin 2048 → EReal := firstOf prev fun r d => newM (p (ix3 0 r d)) (g (ix2 r d))
/-- The new second moments. -/
def vLayer : Fin 2 → Fin n → Fin 2048 → EReal := firstOf prev fun r d => newV (q (ix3 0 r d)) (g (ix2 r d))

theorem first_zero (f : Fin n → Fin 2048 → EReal) (r : Fin n) (d : Fin 2048) : firstOf prev f 0 r d = f r d := if_pos rfl
theorem first_one (f : Fin n → Fin 2048 → EReal) (l : Fin 2) (h : ¬ l.val = 0) (r : Fin n) (d : Fin 2048) : firstOf prev f l r d = prev (ix3 l r d) := if_neg h
/-- The two layers stacked, as a choice by the layer. -/
theorem first_cat (f : Fin n → Fin 2048 → EReal) (l : Fin 2) (r : Fin n) (d : Fin 2048) :
    (if _h : l.val < 1 then f r d else prev (ix3 1 r d)) = firstOf prev f l r d := by
  unfold firstOf
  match l with
  | 0 => rfl
  | 1 => rfl

/-- The second layer new, the first as it was. -/
def secondOf (f : Fin n → Fin 2048 → EReal) (l : Fin 2) (r : Fin n) (d : Fin 2048) : EReal := if l.val = 1 then f r d else prev (ix3 l r d)
theorem second_one (f : Fin n → Fin 2048 → EReal) (r : Fin n) (d : Fin 2048) : secondOf prev f 1 r d = f r d := if_pos rfl
theorem second_zero (f : Fin n → Fin 2048 → EReal) (l : Fin 2) (h : ¬ l.val = 1) (r : Fin n) (d : Fin 2048) : secondOf prev f l r d = prev (ix3 l r d) := if_neg h
/-- The second layer's changes. -/
def dTop (r : Fin n) (d : Fin 2048) : EReal := delta (w (ix3 1 r d)) (p (ix3 1 r d)) (q (ix3 1 r d)) (g (ix2 r d))
/-- Its new first moments. -/
def mTop (r : Fin n) (d : Fin 2048) : EReal := newM (p (ix3 1 r d)) (g (ix2 r d))
/-- Its new second moments. -/
def vTop (r : Fin n) (d : Fin 2048) : EReal := newV (q (ix3 1 r d)) (g (ix2 r d))

end Cert.Adam
-- ==== Proof.AdamMlpArrays.lean ====
module

public import proofs.«01_k».proof.Proof.AdamLayer
public import proofs.«01_k».proof.Proof.Gen.AdamMlpIdeal.Value
public import proofs.«01_k».proof.Proof.Gen.AdamMlpRefIdeal.Run
public import Idealize.ShloMosaic.Lib.Pipeline.ValueKit
public import Idealize.ShloMosaic.Lib.Pipeline.ReadBack
public import Idealize.ShloMosaic.Lib.Claim

/-! The optimiser's step on the first layer of an MLP weight: the kernel's result arrays and the reference's. -/

@[expose] public section
set_option maxRecDepth 16384
noncomputable section
open Idealize.ShloMosaic Idealize.ShloMosaic.TcCoe Idealize.SL.Sem

namespace Cert.AdamMlpIdeal.Value
open Cert.AdamMlpIdeal Cert.AdamMlpIdeal.Gen Cert.Gmlp Cert.Mlp Cert.Adam

variable (m : (ℓ : Loc nD τ sig) → Buf (Elt Ideal) ℓ) (c : Dev nD)

theorem idx : ∀ t : Fin cfg0.N, win0_0.index t = ![0, t.val, 0] ∧ win0_1.index t = ![0, t.val, 0] ∧ win0_2.index t = ![0, t.val, 0] ∧ win0_3.index t = ![t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

section Blocks
variable (w p q : Vec Ideal S1x256x2048 .f32) (g : Vec Ideal S256x2048 .f32)
/-- The gradient, per block. -/
theorem g_eq : k0_pay7 (F := Ideal) g = cube fun _ r d => g (ix2 r d) := by
  funext y; idx_vars y; pointwise [k0_pay7, cube_ix3]
/-- The first moment, per block. -/
theorem m_eq : k0_pay4 (F := Ideal) g p = mat fun r d => newM (p (ix3 0 r d)) (g (ix2 r d)) := by
  funext y; idx_vars y; pointwise [k0_pay4, mat_ix2, newM]
theorem m_out : k0_pay2 (F := Ideal) (k0_pay4 g p) = cube fun _ r d => newM (p (ix3 0 r d)) (g (ix2 r d)) := by
  funext y; idx_vars y; pointwise [k0_pay2, m_eq, mat_ix2, cube_ix3]
/-- The second moment, per block. -/
theorem v_eq : k0_pay5 (F := Ideal) g q = mat fun r d => newV (q (ix3 0 r d)) (g (ix2 r d)) := by
  funext y; idx_vars y; pointwise [k0_pay5, mat_ix2, newV]
theorem v_out : k0_pay3 (F := Ideal) (k0_pay5 g q) = cube fun _ r d => newV (q (ix3 0 r d)) (g (ix2 r d)) := by
  funext y; idx_vars y; pointwise [k0_pay3, v_eq, mat_ix2, cube_ix3]
/-- The change, per block. -/
theorem d_out : k0_pay1 (F := Ideal) (k0_pay6 g w p q) = cube fun _ r d => delta (w (ix3 0 r d)) (p (ix3 0 r d)) (q (ix3 0 r d)) (g (ix2 r d)) := by
  funext y; idx_vars y; pointwise [k0_pay1, k0_pay6, m_eq, v_eq, mat_ix2, cube_ix3, delta]
end Blocks

variable (t : Fin cfg0.N) (hN : t.val < 8) (r : Fin 256) (d : Fin 2048)
include hN
theorem e0 : iblk m c 0 t (ix3 0 r d) = (m ((c : Thread nD τ).loc main_arg0)) (ix3 0 ⟨t.val * 256 + r.val, by omega⟩ d) := by
  blk_simp [iblk, idx t]; entry_read; pointwise; blk_point [idx t]
theorem e1 : iblk m c 1 t (ix3 0 r d) = (m ((c : Thread nD τ).loc main_arg1)) (ix3 0 ⟨t.val * 256 + r.val, by omega⟩ d) := by
  blk_simp [iblk, idx t]; entry_read; pointwise; blk_point [idx t]
theorem e2 : iblk m c 2 t (ix3 0 r d) = (m ((c : Thread nD τ).loc main_arg2)) (ix3 0 ⟨t.val * 256 + r.val, by omega⟩ d) := by
  blk_simp [iblk, idx t]; entry_read; pointwise; blk_point [idx t]
theorem e3 : iblk m c 3 t (ix2 r d) = (m ((c : Thread nD τ).loc main_arg3)) (ix2 ⟨t.val * 256 + r.val, by omega⟩ d) := by
  blk_simp [iblk, idx t]; entry_read; pointwise; blk_point [idx t]
omit hN

/-- The gradients the kernel leaves. -/
theorem final4 : (dats m 0 c).arrAt 4 cfg0.N = cube (gLayer (m ((c : Thread nD τ).loc main_arg4)) (m ((c : Thread nD τ).loc main_arg3))) := by
  refine (dats m 0 c).arrAt_eq_of_coversWhere_of_agree 4 _ (fun β => β (0 : Fin 3) = 0) (by decide +kernel) (fun t hf y => ?_) (fun j hj => ?_)
  · have hN : t.val < 8 := lt_of_lt_of_eq t.isLt N_0
    blk_simp
    rw [after0_4, outsAt0]
    idx_vars y
    frame_out
    rw [g_eq, cube_ix3, e3 m c t hN]
    exact ((cube_at (gLayer _ _) _ (a := 0) (b := ⟨t.val * 256 + y1.val, by omega⟩) (d := y2) (by blk_simp [idx t]; rfl) (by blk_simp [idx t]) (by blk_simp [idx t])).trans (first_zero _ _ _ _)).symm
  · rw [A_eq]
    blk_simp [Pipeline.Window.cell_apply] at hj ⊢
    idx_vars j
    entry_read
    rw [cube_ix3, gLayer, first_one _ _ j0 (by simpa using hj)]

/-- The changes the kernel leaves. -/
theorem final5 : (dats m 0 c).arrAt 5 cfg0.N = cube (dLayer (m ((c : Thread nD τ).loc main_arg0)) (m ((c : Thread nD τ).loc main_arg1)) (m ((c : Thread nD τ).loc main_arg2)) (m ((c : Thread nD τ).loc main_arg5)) (m ((c : Thread nD τ).loc main_arg3))) := by
  refine (dats m 0 c).arrAt_eq_of_coversWhere_of_agree 5 _ (fun β => β (0 : Fin 3) = 0) (by decide +kernel) (fun t hf y => ?_) (fun j hj => ?_)
  · have hN : t.val < 8 := lt_of_lt_of_eq t.isLt N_0
    blk_simp
    rw [after0_5, outsAt0]
    idx_vars y
    frame_out
    rw [d_out, cube_ix3, e0 m c t hN, e1 m c t hN, e2 m c t hN, e3 m c t hN]
    exact ((cube_at (dLayer _ _ _ _ _) _ (a := 0) (b := ⟨t.val * 256 + y1.val, by omega⟩) (d := y2) (by blk_simp [idx t]; rfl) (by blk_simp [idx t]) (by blk_simp [idx t])).trans (first_zero _ _ _ _)).symm
  · rw [A_eq]
    blk_simp [Pipeline.Window.cell_apply] at hj ⊢
    idx_vars j
    entry_read
    rw [cube_ix3, dLayer, first_one _ _ j0 (by simpa using hj)]

/-- The first moments the kernel leaves. -/
theorem final6 : (dats m 0 c).arrAt 6 cfg0.N = cube (mLayer (m ((c : Thread nD τ).loc main_arg1)) (m ((c : Thread nD τ).loc main_arg6)) (m ((c : Thread nD τ).loc main_arg3))) := by
  refine (dats m 0 c).arrAt_eq_of_coversWhere_of_agree 6 _ (fun β => β (0 : Fin 3) = 0) (by decide +kernel) (fun t hf y => ?_) (fun j hj => ?_)
  · have hN : t.val < 8 := lt_of_lt_of_eq t.isLt N_0
    blk_simp
    rw [after0_6, outsAt0]
    idx_vars y
    frame_out
    rw [m_out, cube_ix3, e1 m c t hN, e3 m c t hN]
    exact ((cube_at (mLayer _ _ _) _ (a := 0) (b := ⟨t.val * 256 + y1.val, by omega⟩) (d := y2) (by blk_simp [idx t]; rfl) (by blk_simp [idx t]) (by blk_simp [idx t])).trans (first_zero _ _ _ _)).symm
  · rw [A_eq]
    blk_simp [Pipeline.Window.cell_apply] at hj ⊢
    idx_vars j
    entry_read
    rw [cube_ix3, mLayer, first_one _ _ j0 (by simpa using hj)]

/-- The second moments the kernel leaves. -/
theorem final7 : (dats m 0 c).arrAt 7 cfg0.N = cube (vLayer (m ((c : Thread nD τ).loc main_arg2)) (m ((c : Thread nD τ).loc main_arg7)) (m ((c : Thread nD τ).loc main_arg3))) := by
  refine (dats m 0 c).arrAt_eq_of_coversWhere_of_agree 7 _ (fun β => β (0 : Fin 3) = 0) (by decide +kernel) (fun t hf y => ?_) (fun j hj => ?_)
  · have hN : t.val < 8 := lt_of_lt_of_eq t.isLt N_0
    blk_simp
    rw [after0_7, outsAt0]
    idx_vars y
    frame_out
    rw [v_out, cube_ix3, e2 m c t hN, e3 m c t hN]
    exact ((cube_at (vLayer _ _ _) _ (a := 0) (b := ⟨t.val * 256 + y1.val, by omega⟩) (d := y2) (by blk_simp [idx t]; rfl) (by blk_simp [idx t]) (by blk_simp [idx t])).trans (first_zero _ _ _ _)).symm
  · rw [A_eq]
    blk_simp [Pipeline.Window.cell_apply] at hj ⊢
    idx_vars j
    entry_read
    rw [cube_ix3, vLayer, first_one _ _ j0 (by simpa using hj)]

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v0_0) = cube (gLayer (m ((c : Thread nD τ).loc main_arg4)) (m ((c : Thread nD τ).loc main_arg3)))
    ∧ r.2.mem ((c : Thread nD τ).loc main_v0_1) = cube (dLayer (m ((c : Thread nD τ).loc main_arg0)) (m ((c : Thread nD τ).loc main_arg1)) (m ((c : Thread nD τ).loc main_arg2)) (m ((c : Thread nD τ).loc main_arg5)) (m ((c : Thread nD τ).loc main_arg3)))
    ∧ r.2.mem ((c : Thread nD τ).loc main_v0_2) = cube (mLayer (m ((c : Thread nD τ).loc main_arg1)) (m ((c : Thread nD τ).loc main_arg6)) (m ((c : Thread nD τ).loc main_arg3)))
    ∧ r.2.mem ((c : Thread nD τ).loc main_v0_3) = cube (vLayer (m ((c : Thread nD τ).loc main_arg2)) (m ((c : Thread nD τ).loc main_arg7)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun _ h c => ⟨(h c).1.trans (final4 m c), (h c).2.1.trans (final5 m c), (h c).2.2.1.trans (final6 m c), (h c).2.2.2.1.trans (final7 m c), (h c).2.2.2.2⟩) (run_blocks m ρ)

end Cert.AdamMlpIdeal.Value

namespace Cert.AdamMlpRefIdeal.Value
open Cert.AdamMlpRefIdeal Cert.AdamMlpRefIdeal.Gen Cert.Gmlp Cert.Mlp Cert.Adam

variable (m : (ℓ : Loc nD τ sig) → Buf (Elt Ideal) ℓ)

/-- The reference's run, its results named. -/
theorem run_out (ρ : Dev nD → PrngReg) : θ_run defs (onTc (τ := τ) (main (F := Ideal))) ⟨m, fun _ => 0, ρ⟩ fun r => ∀ c : Dev nD,
    r.2.mem ((c : Thread nD τ).loc main_v34) = cube (gLayer (m ((c : Thread nD τ).loc main_arg4)) (m ((c : Thread nD τ).loc main_arg3)))
    ∧ r.2.mem ((c : Thread nD τ).loc main_v39) = cube (dLayer (m ((c : Thread nD τ).loc main_arg0)) (m ((c : Thread nD τ).loc main_arg1)) (m ((c : Thread nD τ).loc main_arg2)) (m ((c : Thread nD τ).loc main_arg5)) (m ((c : Thread nD τ).loc main_arg3)))
    ∧ r.2.mem ((c : Thread nD τ).loc main_v44) = cube (mLayer (m ((c : Thread nD τ).loc main_arg1)) (m ((c : Thread nD τ).loc main_arg6)) (m ((c : Thread nD τ).loc main_arg3)))
    ∧ r.2.mem ((c : Thread nD τ).loc main_v49) = cube (vLayer (m ((c : Thread nD τ).loc main_arg2)) (m ((c : Thread nD τ).loc main_arg7)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  refine (θ_run defs _ _).mono (fun _ h c => ?_) (run m ρ)
  obtain ⟨h4, h5, h6, h7, hk⟩ := h c
  refine ⟨h4.trans ?_, h5.trans ?_, h6.trans ?_, h7.trans ?_, hk⟩
  · funext y; idx_vars y; rw [cube_ix3]; obtain rfl | rfl : y0 = 0 ∨ y0 = 1 := by omega
    · pointwise [gLayer, dLayer, mLayer, vLayer, first_zero, delta, newM, newV]
    · pointwise [gLayer, dLayer, mLayer, vLayer, firstOf]
  · funext y; idx_vars y; rw [cube_ix3]; obtain rfl | rfl : y0 = 0 ∨ y0 = 1 := by omega
    · pointwise [gLayer, dLayer, mLayer, vLayer, first_zero, delta, newM, newV]
    · pointwise [gLayer, dLayer, mLayer, vLayer, firstOf]
  · funext y; idx_vars y; rw [cube_ix3]; obtain rfl | rfl : y0 = 0 ∨ y0 = 1 := by omega
    · pointwise [gLayer, dLayer, mLayer, vLayer, first_zero, delta, newM, newV]
    · pointwise [gLayer, dLayer, mLayer, vLayer, firstOf]
  · funext y; idx_vars y; rw [cube_ix3]; obtain rfl | rfl : y0 = 0 ∨ y0 = 1 := by omega
    · pointwise [gLayer, dLayer, mLayer, vLayer, first_zero, delta, newM, newV]
    · pointwise [gLayer, dLayer, mLayer, vLayer, firstOf]

end Cert.AdamMlpRefIdeal.Value
-- ==== Proof.AdamOutArrays.lean ====
module

public import proofs.«01_k».proof.Proof.AdamLayer
public import proofs.«01_k».proof.Proof.Gen.AdamOutIdeal.Value
public import proofs.«01_k».proof.Proof.Gen.AdamOutRefIdeal.Run
public import Idealize.ShloMosaic.Lib.Pipeline.ValueKit
public import Idealize.ShloMosaic.Lib.Pipeline.ReadBack
public import Idealize.ShloMosaic.Lib.Claim

/-! The optimiser's step on the first layer of the output projection's weight: the kernel's result arrays and the reference's. -/

@[expose] public section
set_option maxRecDepth 16384
noncomputable section
open Idealize.ShloMosaic Idealize.ShloMosaic.TcCoe Idealize.SL.Sem

namespace Cert.AdamOutIdeal.Value
open Cert.AdamOutIdeal Cert.AdamOutIdeal.Gen Cert.Gmlp Cert.Mlp Cert.Adam

variable (m : (ℓ : Loc nD τ sig) → Buf (Elt Ideal) ℓ) (c : Dev nD)

theorem idx : ∀ t : Fin cfg0.N, win0_0.index t = ![0, t.val, 0] ∧ win0_1.index t = ![0, t.val, 0] ∧ win0_2.index t = ![0, t.val, 0] ∧ win0_3.index t = ![t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

section Blocks
variable (w p q : Vec Ideal S1x256x2048 .f32) (g : Vec Ideal S256x2048 .f32)
/-- The gradient, per block. -/
theorem g_eq : k0_pay7 (F := Ideal) g = cube fun _ r d => g (ix2 r d) := by
  funext y; idx_vars y; pointwise [k0_pay7, cube_ix3]
/-- The first moment, per block. -/
theorem m_eq : k0_pay4 (F := Ideal) g p = mat fun r d => newM (p (ix3 0 r d)) (g (ix2 r d)) := by
  funext y; idx_vars y; pointwise [k0_pay4, mat_ix2, newM]
theorem m_out : k0_pay2 (F := Ideal) (k0_pay4 g p) = cube fun _ r d => newM (p (ix3 0 r d)) (g (ix2 r d)) := by
  funext y; idx_vars y; pointwise [k0_pay2, m_eq, mat_ix2, cube_ix3]
/-- The second moment, per block. -/
theorem v_eq : k0_pay5 (F := Ideal) g q = mat fun r d => newV (q (ix3 0 r d)) (g (ix2 r d)) := by
  funext y; idx_vars y; pointwise [k0_pay5, mat_ix2, newV]
theorem v_out : k0_pay3 (F := Ideal) (k0_pay5 g q) = cube fun _ r d => newV (q (ix3 0 r d)) (g (ix2 r d)) := by
  funext y; idx_vars y; pointwise [k0_pay3, v_eq, mat_ix2, cube_ix3]
/-- The change, per block. -/
theorem d_out : k0_pay1 (F := Ideal) (k0_pay6 g w p q) = cube fun _ r d => delta (w (ix3 0 r d)) (p (ix3 0 r d)) (q (ix3 0 r d)) (g (ix2 r d)) := by
  funext y; idx_vars y; pointwise [k0_pay1, k0_pay6, m_eq, v_eq, mat_ix2, cube_ix3, delta]
end Blocks

variable (t : Fin cfg0.N) (hN : t.val < 2) (r : Fin 256) (d : Fin 2048)
include hN
theorem e0 : iblk m c 0 t (ix3 0 r d) = (m ((c : Thread nD τ).loc main_arg0)) (ix3 0 ⟨t.val * 256 + r.val, by omega⟩ d) := by
  blk_simp [iblk, idx t]; entry_read; pointwise; blk_point [idx t]
theorem e1 : iblk m c 1 t (ix3 0 r d) = (m ((c : Thread nD τ).loc main_arg1)) (ix3 0 ⟨t.val * 256 + r.val, by omega⟩ d) := by
  blk_simp [iblk, idx t]; entry_read; pointwise; blk_point [idx t]
theorem e2 : iblk m c 2 t (ix3 0 r d) = (m ((c : Thread nD τ).loc main_arg2)) (ix3 0 ⟨t.val * 256 + r.val, by omega⟩ d) := by
  blk_simp [iblk, idx t]; entry_read; pointwise; blk_point [idx t]
theorem e3 : iblk m c 3 t (ix2 r d) = (m ((c : Thread nD τ).loc main_arg3)) (ix2 ⟨t.val * 256 + r.val, by omega⟩ d) := by
  blk_simp [iblk, idx t]; entry_read; pointwise; blk_point [idx t]
omit hN

/-- The gradients the kernel leaves. -/
theorem final4 : (dats m 0 c).arrAt 4 cfg0.N = cube (gLayer (m ((c : Thread nD τ).loc main_arg4)) (m ((c : Thread nD τ).loc main_arg3))) := by
  refine (dats m 0 c).arrAt_eq_of_coversWhere_of_agree 4 _ (fun β => β (0 : Fin 3) = 0) (by decide +kernel) (fun t hf y => ?_) (fun j hj => ?_)
  · have hN : t.val < 2 := lt_of_lt_of_eq t.isLt N_0
    blk_simp
    rw [after0_4, outsAt0]
    idx_vars y
    frame_out
    rw [g_eq, cube_ix3, e3 m c t hN]
    exact ((cube_at (gLayer _ _) _ (a := 0) (b := ⟨t.val * 256 + y1.val, by omega⟩) (d := y2) (by blk_simp [idx t]; rfl) (by blk_simp [idx t]) (by blk_simp [idx t])).trans (first_zero _ _ _ _)).symm
  · rw [A_eq]
    blk_simp [Pipeline.Window.cell_apply] at hj ⊢
    idx_vars j
    entry_read
    rw [cube_ix3, gLayer, first_one _ _ j0 (by simpa using hj)]

/-- The changes the kernel leaves. -/
theorem final5 : (dats m 0 c).arrAt 5 cfg0.N = cube (dLayer (m ((c : Thread nD τ).loc main_arg0)) (m ((c : Thread nD τ).loc main_arg1)) (m ((c : Thread nD τ).loc main_arg2)) (m ((c : Thread nD τ).loc main_arg5)) (m ((c : Thread nD τ).loc main_arg3))) := by
  refine (dats m 0 c).arrAt_eq_of_coversWhere_of_agree 5 _ (fun β => β (0 : Fin 3) = 0) (by decide +kernel) (fun t hf y => ?_) (fun j hj => ?_)
  · have hN : t.val < 2 := lt_of_lt_of_eq t.isLt N_0
    blk_simp
    rw [after0_5, outsAt0]
    idx_vars y
    frame_out
    rw [d_out, cube_ix3, e0 m c t hN, e1 m c t hN, e2 m c t hN, e3 m c t hN]
    exact ((cube_at (dLayer _ _ _ _ _) _ (a := 0) (b := ⟨t.val * 256 + y1.val, by omega⟩) (d := y2) (by blk_simp [idx t]; rfl) (by blk_simp [idx t]) (by blk_simp [idx t])).trans (first_zero _ _ _ _)).symm
  · rw [A_eq]
    blk_simp [Pipeline.Window.cell_apply] at hj ⊢
    idx_vars j
    entry_read
    rw [cube_ix3, dLayer, first_one _ _ j0 (by simpa using hj)]

/-- The first moments the kernel leaves. -/
theorem final6 : (dats m 0 c).arrAt 6 cfg0.N = cube (mLayer (m ((c : Thread nD τ).loc main_arg1)) (m ((c : Thread nD τ).loc main_arg6)) (m ((c : Thread nD τ).loc main_arg3))) := by
  refine (dats m 0 c).arrAt_eq_of_coversWhere_of_agree 6 _ (fun β => β (0 : Fin 3) = 0) (by decide +kernel) (fun t hf y => ?_) (fun j hj => ?_)
  · have hN : t.val < 2 := lt_of_lt_of_eq t.isLt N_0
    blk_simp
    rw [after0_6, outsAt0]
    idx_vars y
    frame_out
    rw [m_out, cube_ix3, e1 m c t hN, e3 m c t hN]
    exact ((cube_at (mLayer _ _ _) _ (a := 0) (b := ⟨t.val * 256 + y1.val, by omega⟩) (d := y2) (by blk_simp [idx t]; rfl) (by blk_simp [idx t]) (by blk_simp [idx t])).trans (first_zero _ _ _ _)).symm
  · rw [A_eq]
    blk_simp [Pipeline.Window.cell_apply] at hj ⊢
    idx_vars j
    entry_read
    rw [cube_ix3, mLayer, first_one _ _ j0 (by simpa using hj)]

/-- The second moments the kernel leaves. -/
theorem final7 : (dats m 0 c).arrAt 7 cfg0.N = cube (vLayer (m ((c : Thread nD τ).loc main_arg2)) (m ((c : Thread nD τ).loc main_arg7)) (m ((c : Thread nD τ).loc main_arg3))) := by
  refine (dats m 0 c).arrAt_eq_of_coversWhere_of_agree 7 _ (fun β => β (0 : Fin 3) = 0) (by decide +kernel) (fun t hf y => ?_) (fun j hj => ?_)
  · have hN : t.val < 2 := lt_of_lt_of_eq t.isLt N_0
    blk_simp
    rw [after0_7, outsAt0]
    idx_vars y
    frame_out
    rw [v_out, cube_ix3, e2 m c t hN, e3 m c t hN]
    exact ((cube_at (vLayer _ _ _) _ (a := 0) (b := ⟨t.val * 256 + y1.val, by omega⟩) (d := y2) (by blk_simp [idx t]; rfl) (by blk_simp [idx t]) (by blk_simp [idx t])).trans (first_zero _ _ _ _)).symm
  · rw [A_eq]
    blk_simp [Pipeline.Window.cell_apply] at hj ⊢
    idx_vars j
    entry_read
    rw [cube_ix3, vLayer, first_one _ _ j0 (by simpa using hj)]

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v0_0) = cube (gLayer (m ((c : Thread nD τ).loc main_arg4)) (m ((c : Thread nD τ).loc main_arg3)))
    ∧ r.2.mem ((c : Thread nD τ).loc main_v0_1) = cube (dLayer (m ((c : Thread nD τ).loc main_arg0)) (m ((c : Thread nD τ).loc main_arg1)) (m ((c : Thread nD τ).loc main_arg2)) (m ((c : Thread nD τ).loc main_arg5)) (m ((c : Thread nD τ).loc main_arg3)))
    ∧ r.2.mem ((c : Thread nD τ).loc main_v0_2) = cube (mLayer (m ((c : Thread nD τ).loc main_arg1)) (m ((c : Thread nD τ).loc main_arg6)) (m ((c : Thread nD τ).loc main_arg3)))
    ∧ r.2.mem ((c : Thread nD τ).loc main_v0_3) = cube (vLayer (m ((c : Thread nD τ).loc main_arg2)) (m ((c : Thread nD τ).loc main_arg7)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun _ h c => ⟨(h c).1.trans (final4 m c), (h c).2.1.trans (final5 m c), (h c).2.2.1.trans (final6 m c), (h c).2.2.2.1.trans (final7 m c), (h c).2.2.2.2⟩) (run_blocks m ρ)

end Cert.AdamOutIdeal.Value

namespace Cert.AdamOutRefIdeal.Value
open Cert.AdamOutRefIdeal Cert.AdamOutRefIdeal.Gen Cert.Gmlp Cert.Mlp Cert.Adam

variable (m : (ℓ : Loc nD τ sig) → Buf (Elt Ideal) ℓ)

/-- The reference's run, its results named. -/
theorem run_out (ρ : Dev nD → PrngReg) : θ_run defs (onTc (τ := τ) (main (F := Ideal))) ⟨m, fun _ => 0, ρ⟩ fun r => ∀ c : Dev nD,
    r.2.mem ((c : Thread nD τ).loc main_v34) = cube (gLayer (m ((c : Thread nD τ).loc main_arg4)) (m ((c : Thread nD τ).loc main_arg3)))
    ∧ r.2.mem ((c : Thread nD τ).loc main_v39) = cube (dLayer (m ((c : Thread nD τ).loc main_arg0)) (m ((c : Thread nD τ).loc main_arg1)) (m ((c : Thread nD τ).loc main_arg2)) (m ((c : Thread nD τ).loc main_arg5)) (m ((c : Thread nD τ).loc main_arg3)))
    ∧ r.2.mem ((c : Thread nD τ).loc main_v44) = cube (mLayer (m ((c : Thread nD τ).loc main_arg1)) (m ((c : Thread nD τ).loc main_arg6)) (m ((c : Thread nD τ).loc main_arg3)))
    ∧ r.2.mem ((c : Thread nD τ).loc main_v49) = cube (vLayer (m ((c : Thread nD τ).loc main_arg2)) (m ((c : Thread nD τ).loc main_arg7)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  refine (θ_run defs _ _).mono (fun _ h c => ?_) (run m ρ)
  obtain ⟨h4, h5, h6, h7, hk⟩ := h c
  refine ⟨h4.trans ?_, h5.trans ?_, h6.trans ?_, h7.trans ?_, hk⟩
  · funext y; idx_vars y; rw [cube_ix3]; obtain rfl | rfl : y0 = 0 ∨ y0 = 1 := by omega
    · pointwise [gLayer, dLayer, mLayer, vLayer, first_zero, delta, newM, newV]
    · pointwise [gLayer, dLayer, mLayer, vLayer, firstOf]
  · funext y; idx_vars y; rw [cube_ix3]; obtain rfl | rfl : y0 = 0 ∨ y0 = 1 := by omega
    · pointwise [gLayer, dLayer, mLayer, vLayer, first_zero, delta, newM, newV]
    · pointwise [gLayer, dLayer, mLayer, vLayer, firstOf]
  · funext y; idx_vars y; rw [cube_ix3]; obtain rfl | rfl : y0 = 0 ∨ y0 = 1 := by omega
    · pointwise [gLayer, dLayer, mLayer, vLayer, first_zero, delta, newM, newV]
    · pointwise [gLayer, dLayer, mLayer, vLayer, firstOf]
  · funext y; idx_vars y; rw [cube_ix3]; obtain rfl | rfl : y0 = 0 ∨ y0 = 1 := by omega
    · pointwise [gLayer, dLayer, mLayer, vLayer, first_zero, delta, newM, newV]
    · pointwise [gLayer, dLayer, mLayer, vLayer, firstOf]

end Cert.AdamOutRefIdeal.Value
-- ==== Proof.AdamSmallArrays.lean ====
module

public import proofs.«01_k».proof.Proof.Adam
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pipeline.ReadBack
public import Idealize.ShloMosaic.Lib.Claim

/-! The optimiser's step on the small parameters, packed into rows of 128: the kernel's result arrays and the reference's. -/

@[expose] public section
set_option maxRecDepth 16384
noncomputable section
open Idealize.ShloMosaic Idealize.ShloMosaic.TcCoe Idealize.SL.Sem

namespace Cert.AdamSmallIdeal.Value
open Cert.AdamSmallIdeal Cert.AdamSmallIdeal.Gen Cert.Gmlp Cert.Mlp Cert.Adam

variable (m : (ℓ : Loc nD τ sig) → Buf (Elt Ideal) ℓ) (c : Dev nD)

/-- Entry `(r, d)` of the packed parameters. -/
def at2 (a : (⟨2, ![1408, 128]⟩ : Shape).Idx → EReal) (r : Fin 1408) (d : Fin 128) : EReal := a (ix2 r d)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, _)

variable (w p q g : Vec Ideal S1408x128 .f32)
/-- The first moment, per block. -/
theorem m_eq : k0_pay1 (F := Ideal) g p = mat fun r d => newM (p (ix2 r d)) (g (ix2 r d)) := by
  funext y; idx_vars y; pointwise [k0_pay1, mat_ix2, newM]
/-- The second moment, per block. -/
theorem v_eq : k0_pay2 (F := Ideal) g q = mat fun r d => newV (q (ix2 r d)) (g (ix2 r d)) := by
  funext y; idx_vars y; pointwise [k0_pay2, mat_ix2, newV]
/-- The change, per block. -/
theorem d_eq : k0_pay3 (F := Ideal) g p q w = mat fun r d => delta (w (ix2 r d)) (p (ix2 r d)) (q (ix2 r d)) (g (ix2 r d)) := by
  funext y; idx_vars y; pointwise [k0_pay3, m_eq, v_eq, mat_ix2, delta]

variable (t : Fin cfg0.N) (hN : t.val < 1) (r : Fin 1408) (d : Fin 128)
include hN
theorem e0 : iblk m c 0 t (ix2 r d) = at2 (m ((c : Thread nD τ).loc main_arg0)) ⟨t.val * 1408 + r.val, by omega⟩ d := by
  blk_simp [iblk, idx t, at2]; entry_read; pointwise; blk_point [idx t]
theorem e1 : iblk m c 1 t (ix2 r d) = at2 (m ((c : Thread nD τ).loc main_arg1)) ⟨t.val * 1408 + r.val, by omega⟩ d := by
  blk_simp [iblk, idx t, at2]; entry_read; pointwise; blk_point [idx t]
theorem e2 : iblk m c 2 t (ix2 r d) = at2 (m ((c : Thread nD τ).loc main_arg2)) ⟨t.val * 1408 + r.val, by omega⟩ d := by
  blk_simp [iblk, idx t, at2]; entry_read; pointwise; blk_point [idx t]
theorem e3 : iblk m c 3 t (ix2 r d) = at2 (m ((c : Thread nD τ).loc main_arg3)) ⟨t.val * 1408 + r.val, by omega⟩ d := by
  blk_simp [iblk, idx t, at2]; entry_read; pointwise; blk_point [idx t]
omit hN

/-- The changes of the parameter. -/
def dOf (w p q g : (⟨2, ![1408, 128]⟩ : Shape).Idx → EReal) (r : Fin 1408) (d : Fin 128) : EReal := delta (at2 w r d) (at2 p r d) (at2 q r d) (at2 g r d)
/-- Its new first moments. -/
def mOf (p g : (⟨2, ![1408, 128]⟩ : Shape).Idx → EReal) (r : Fin 1408) (d : Fin 128) : EReal := newM (at2 p r d) (at2 g r d)
/-- Its new second moments. -/
def vOf (q g : (⟨2, ![1408, 128]⟩ : Shape).Idx → EReal) (r : Fin 1408) (d : Fin 128) : EReal := newV (at2 q r d) (at2 g r d)

/-- The changes the kernel writes. -/
theorem arr4 : (dats m 0 c).arrAt 4 cfg0.N = mat (dOf (m ((c : Thread nD τ).loc main_arg0)) (m ((c : Thread nD τ).loc main_arg1)) (m ((c : Thread nD τ).loc main_arg2)) (m ((c : Thread nD τ).loc main_arg3))) := by
  refine (dats m 0 c).arrAt_eq_of_covers 4 _ (by decide +kernel) fun t hf y => ?_
  have hN : t.val < 1 := lt_of_lt_of_eq t.isLt N_0
  blk_simp
  rw [after0_4]
  idx_vars y
  frame_out
  rw [d_eq, mat_ix2, e0 m c t hN, e1 m c t hN, e2 m c t hN, e3 m c t hN]
  exact (mat_at (dOf _ _ _ _) _ (i := ⟨t.val * 1408 + y0.val, by omega⟩) (j := y1) (by blk_simp [idx t]) (by blk_simp [idx t])).symm
/-- The first moments the kernel writes. -/
theorem arr5 : (dats m 0 c).arrAt 5 cfg0.N = mat (mOf (m ((c : Thread nD τ).loc main_arg1)) (m ((c : Thread nD τ).loc main_arg3))) := by
  refine (dats m 0 c).arrAt_eq_of_covers 5 _ (by decide +kernel) fun t hf y => ?_
  have hN : t.val < 1 := lt_of_lt_of_eq t.isLt N_0
  blk_simp
  rw [after0_5]
  idx_vars y
  frame_out
  rw [m_eq, mat_ix2, e1 m c t hN, e3 m c t hN]
  exact (mat_at (mOf _ _) _ (i := ⟨t.val * 1408 + y0.val, by omega⟩) (j := y1) (by blk_simp [idx t]) (by blk_simp [idx t])).symm
/-- The second moments the kernel writes. -/
theorem arr6 : (dats m 0 c).arrAt 6 cfg0.N = mat (vOf (m ((c : Thread nD τ).loc main_arg2)) (m ((c : Thread nD τ).loc main_arg3))) := by
  refine (dats m 0 c).arrAt_eq_of_covers 6 _ (by decide +kernel) fun t hf y => ?_
  have hN : t.val < 1 := lt_of_lt_of_eq t.isLt N_0
  blk_simp
  rw [after0_6]
  idx_vars y
  frame_out
  rw [v_eq, mat_ix2, e2 m c t hN, e3 m c t hN]
  exact (mat_at (vOf _ _) _ (i := ⟨t.val * 1408 + y0.val, by omega⟩) (j := y1) (by blk_simp [idx t]) (by blk_simp [idx t])).symm

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v0_0) = mat (dOf (m ((c : Thread nD τ).loc main_arg0)) (m ((c : Thread nD τ).loc main_arg1)) (m ((c : Thread nD τ).loc main_arg2)) (m ((c : Thread nD τ).loc main_arg3)))
    ∧ r.2.mem ((c : Thread nD τ).loc main_v0_1) = mat (mOf (m ((c : Thread nD τ).loc main_arg1)) (m ((c : Thread nD τ).loc main_arg3)))
    ∧ r.2.mem ((c : Thread nD τ).loc main_v0_2) = mat (vOf (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨(h c).1.trans (arr4 m c), (h c).2.1.trans (arr5 m c), (h c).2.2.1.trans (arr6 m c), (h c).2.2.2⟩) (run_blocks m ρ)

end Cert.AdamSmallIdeal.Value

namespace Cert.AdamSmallRefIdeal.Value
open Cert.AdamSmallRefIdeal Cert.AdamSmallRefIdeal.Gen Cert.Gmlp Cert.Mlp Cert.Adam Cert.AdamSmallIdeal.Value

variable (m : (ℓ : Loc nD τ sig) → Buf (Elt Ideal) ℓ)

/-- The reference's run, its results named. -/
theorem run_out (ρ : Dev nD → PrngReg) : θ_run defs (onTc (τ := τ) (main (F := Ideal))) ⟨m, fun _ => 0, ρ⟩ fun r => ∀ c : Dev nD,
    r.2.mem ((c : Thread nD τ).loc main_v23) = mat (dOf (m ((c : Thread nD τ).loc main_arg0)) (m ((c : Thread nD τ).loc main_arg1)) (m ((c : Thread nD τ).loc main_arg2)) (m ((c : Thread nD τ).loc main_arg3)))
    ∧ r.2.mem ((c : Thread nD τ).loc main_v4) = mat (mOf (m ((c : Thread nD τ).loc main_arg1)) (m ((c : Thread nD τ).loc main_arg3)))
    ∧ r.2.mem ((c : Thread nD τ).loc main_v10) = mat (vOf (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun _ h c => ⟨
    (h c).1.trans (by funext y; idx_vars y; pointwise [mat_ix2, dOf, delta, newM, newV, at2]),
    (h c).2.1.trans (by funext y; idx_vars y; pointwise [mat_ix2, mOf, newM, at2]),
    (h c).2.2.1.trans (by funext y; idx_vars y; pointwise [mat_ix2, vOf, newV, at2]), (h c).2.2.2⟩) (run m ρ)

end Cert.AdamSmallRefIdeal.Value
-- ==== Proof.SumSmallArrays.lean ====
module

public import proofs.«01_k».proof.Proof.Fwd
public import proofs.«01_k».proof.Proof.Gen.SumSmallIdeal.Value
public import proofs.«01_k».proof.Proof.Gen.SumSmallRefIdeal.Run
public import Idealize.ShloMosaic.Lib.Pipeline.ValueKit
public import Idealize.ShloMosaic.Lib.Pipeline.ReadBack
public import Idealize.ShloMosaic.Lib.Claim

/-! The sum of the small gradients over the devices: the kernel's result array and the reference's. -/

@[expose] public section
set_option maxRecDepth 16384
noncomputable section
open Idealize.ShloMosaic Idealize.ShloMosaic.TcCoe Idealize.SL.Sem

namespace Cert.SumSmallIdeal.Value
open Cert.SumSmallIdeal Cert.SumSmallIdeal.Gen Cert.Gmlp Cert.Mlp

variable (m : (ℓ : Loc nD τ sig) → Buf (Elt Ideal) ℓ) (c : Dev nD)

/-- The sum over the devices. -/
def sumEx (g : (⟨3, ![8, 1288, 128]⟩ : Shape).Idx → EReal) (r : Fin 1288) (l : Fin 128) : EReal := ∑ k : Fin 8, g (ix3 k r l)

theorem idx : ∀ t : Fin cfg0.N, win0_0.index t = ![0, 0, 0] ∧ win0_1.index t = ![0, 0] :=
  (by decide +kernel : ∀ t : Fin grid0.N, _)

/-- The eight parts added. -/
theorem sum_eq (a b d e f g h i : Vec Ideal S1x1288x128 .f32) (r : Fin 1288) (l : Fin 128) :
    k0_pay1 (F := Ideal) a b d e f g h i (ix2 r l)
      = a (ix3 0 r l) + b (ix3 0 r l) + d (ix3 0 r l) + e (ix3 0 r l) + f (ix3 0 r l) + g (ix3 0 r l) + h (ix3 0 r l) + i (ix3 0 r l) := by
  pointwise [k0_pay1]

/-- Slab `n` of the array, read at its entry. -/
theorem slab (n : Nat) (hn : n < 8) (h) (r : Fin 1288) (l : Fin 128) :
    (Rect.unit (s := S8x1288x128) ![n, 0, 0] S1x1288x128.size h).idx (ix3 0 r l) = ix3 ⟨n, hn⟩ r l := by
  funext a
  match a with
  | 0 => exact Fin.ext (show n + 0 * 1 = n by omega)
  | 1 => exact Fin.ext (by simp)
  | 2 => exact Fin.ext (by simp)
/-- A sum of eight, in the order the kernel adds them. -/
theorem sum8 (f : Fin 8 → EReal) : ∑ k, f k = f 0 + f 1 + f 2 + f 3 + f 4 + f 5 + f 6 + f 7 := by
  simp only [Fin.sum_univ_castSucc, Fin.sum_univ_zero, zero_add]
  rfl

/-- The kernel's result. -/
theorem final : (dats m 0 c).arrAt 1 cfg0.N = mat (sumEx (m ((c : Thread nD τ).loc main_arg0))) := by
  refine (dats m 0 c).arrAt_eq_of_covers 1 _ (by decide +kernel) fun t hf y => ?_
  have hN : t.val < 1 := lt_of_lt_of_eq t.isLt N_0
  blk_simp
  rw [after0_1]
  idx_vars y
  frame_out
  rw [sum_eq]
  have e0 : ∀ k, iblk m c 0 t (ix3 k y0 y1) = (m ((c : Thread nD τ).loc main_arg0)) (ix3 k y0 y1) := fun k => by
    blk_simp [iblk, idx t]; entry_read; pointwise; blk_point [idx t]
  simp only [View.ld]
  have s0 : ∀ (n : Nat) (hn : n < 8) (h), iblk m c 0 t ((Rect.unit (s := S8x1288x128) ![n, 0, 0] S1x1288x128.size h).idx (ix3 0 y0 y1))
      = (m ((c : Thread nD τ).loc main_arg0)) (ix3 ⟨n, hn⟩ y0 y1) := fun n hn h =>
    (congrArg (iblk m c 0 t) (slab n hn h y0 y1)).trans (e0 _)
  rw [s0 0 (by omega), s0 1 (by omega), s0 2 (by omega), s0 3 (by omega), s0 4 (by omega), s0 5 (by omega), s0 6 (by omega), s0 7 (by omega)]
  refine Eq.trans ?_ (mat_at (sumEx _) _ (i := y0) (j := y1) (by blk_simp [idx t]) (by blk_simp [idx t])).symm
  rw [sumEx, sum8]
  rfl

/-- The run, its result named and its argument kept. -/
theorem run_out (ρ : Dev nD → PrngReg) : θ_run defs (onTc (τ := τ) (main (F := Ideal))) ⟨m, fun _ => 0, ρ⟩ fun r => ∀ c : Dev nD,
    r.2.mem ((c : Thread nD τ).loc main_v0) = mat (sumEx (m ((c : Thread nD τ).loc main_arg0)))
    ∧ r.2.mem ((c : Thread nD τ).loc main_arg0) = m ((c : Thread nD τ).loc main_arg0) :=
  (θ_run defs _ _).mono (fun _ h c => ⟨(h c).1.trans (final m c), (h c).2⟩) (run_blocks m ρ)

end Cert.SumSmallIdeal.Value

namespace Cert.SumSmallRefIdeal.Value
open Cert.SumSmallRefIdeal Cert.SumSmallRefIdeal.Gen Cert.Gmlp Cert.Mlp Cert.SumSmallIdeal.Value

variable (m : (ℓ : Loc nD τ sig) → Buf (Elt Ideal) ℓ)

/-- The reference's run, its result named. -/
theorem run_out (ρ : Dev nD → PrngReg) : θ_run defs (onTc (τ := τ) (main (F := Ideal))) ⟨m, fun _ => 0, ρ⟩ fun r => ∀ c : Dev nD,
    r.2.mem ((c : Thread nD τ).loc main_v0) = mat (sumEx (m ((c : Thread nD τ).loc main_arg0)))
    ∧ r.2.mem ((c : Thread nD τ).loc main_arg0) = m ((c : Thread nD τ).loc main_arg0) :=
  (θ_run defs _ _).mono (fun _ h c => ⟨(h c).1.trans (by funext y; idx_vars y; pointwise [mat_ix2, sumEx]), (h c).2⟩) (run m ρ)

end Cert.SumSmallRefIdeal.Value
-- ==== Proof.AdamMlpTopArrays.lean ====
module

public import proofs.«01_k».proof.Proof.AdamLayer
public import proofs.«01_k».proof.Proof.Gen.AdamMlpTopIdeal.Frame
public import proofs.«01_k».proof.Proof.Gen.AdamMlpTopRefIdeal.Run
public import Idealize.ShloMosaic.Lib.Pipeline.ValueKit
public import Idealize.ShloMosaic.Lib.Pipeline.ReadBack
public import Idealize.ShloMosaic.Lib.Claim

/-! The optimiser's step on the second layer of an MLP weight: the kernel's result arrays and the reference's. -/

@[expose] public section
set_option maxRecDepth 16384
noncomputable section
open Idealize.ShloMosaic Idealize.ShloMosaic.TcCoe Idealize.SL.Sem

namespace Cert.AdamMlpTopIdeal.Value
open Cert.AdamMlpTopIdeal Cert.AdamMlpTopIdeal.Gen Cert.Gmlp Cert.Mlp Cert.Adam

variable (m : (ℓ : Loc nD τ sig) → Buf (Elt Ideal) ℓ) (c : Dev nD)

theorem idx : ∀ t : Fin cfg0.N, win0_0.index t = ![1, t.val, 0] ∧ win0_1.index t = ![1, t.val, 0] ∧ win0_2.index t = ![1, t.val, 0] ∧ win0_3.index t = ![t.val, 0]
    ∧ win0_4.index t = ![1, t.val, 0] ∧ win0_5.index t = ![1, t.val, 0] ∧ win0_6.index t = ![1, t.val, 0] ∧ win0_7.index t = ![1, t.val, 0] :=
  (by decide +kernel : ∀ t : Fin grid0.N, _)

section Blocks
variable (w p q : Vec Ideal S1x256x2048 .f32) (g : Vec Ideal S256x2048 .f32)
/-- The gradient, per block. -/
theorem g_eq : k0_pay7 (F := Ideal) g = cube fun _ r d => g (ix2 r d) := by
  funext y; idx_vars y; pointwise [k0_pay7, cube_ix3]
/-- The first moment, per block. -/
theorem m_eq : k0_pay4 (F := Ideal) g p = mat fun r d => newM (p (ix3 0 r d)) (g (ix2 r d)) := by
  funext y; idx_vars y; pointwise [k0_pay4, mat_ix2, newM]
theorem m_out : k0_pay2 (F := Ideal) (k0_pay4 g p) = cube fun _ r d => newM (p (ix3 0 r d)) (g (ix2 r d)) := by
  funext y; idx_vars y; pointwise [k0_pay2, m_eq, mat_ix2, cube_ix3]
/-- The second moment, per block. -/
theorem v_eq : k0_pay5 (F := Ideal) g q = mat fun r d => newV (q (ix3 0 r d)) (g (ix2 r d)) := by
  funext y; idx_vars y; pointwise [k0_pay5, mat_ix2, newV]
theorem v_out : k0_pay3 (F := Ideal) (k0_pay5 g q) = cube fun _ r d => newV (q (ix3 0 r d)) (g (ix2 r d)) := by
  funext y; idx_vars y; pointwise [k0_pay3, v_eq, mat_ix2, cube_ix3]
/-- The change, per block. -/
theorem d_out : k0_pay1 (F := Ideal) (k0_pay6 g w p q) = cube fun _ r d => delta (w (ix3 0 r d)) (p (ix3 0 r d)) (q (ix3 0 r d)) (g (ix2 r d)) := by
  funext y; idx_vars y; pointwise [k0_pay1, k0_pay6, m_eq, v_eq, mat_ix2, cube_ix3, delta]
end Blocks

variable (t : Fin cfg0.N) (hN : t.val < 8) (r : Fin 256) (d : Fin 2048)
include hN
theorem e0 : iblk m c 0 t (ix3 0 r d) = (m ((c : Thread nD τ).loc main_arg0)) (ix3 1 ⟨t.val * 256 + r.val, by omega⟩ d) := by
  blk_simp [iblk, idx t]; entry_read; pointwise; blk_point [idx t]
theorem e1 : iblk m c 1 t (ix3 0 r d) = (m ((c : Thread nD τ).loc main_arg1)) (ix3 1 ⟨t.val * 256 + r.val, by omega⟩ d) := by
  blk_simp [iblk, idx t]; entry_read; pointwise; blk_point [idx t]
theorem e2 : iblk m c 2 t (ix3 0 r d) = (m ((c : Thread nD τ).loc main_arg2)) (ix3 1 ⟨t.val * 256 + r.val, by omega⟩ d) := by
  blk_simp [iblk, idx t]; entry_read; pointwise; blk_point [idx t]
theorem e3 : iblk m c 3 t (ix2 r d) = (m ((c : Thread nD τ).loc main_arg3)) (ix2 ⟨t.val * 256 + r.val, by omega⟩ d) := by
  blk_simp [iblk, idx t]; entry_read; pointwise; blk_point [idx t]
omit hN

/-- The gradients the kernel leaves. -/
theorem final4 : (dats m 0 c).arrAt 4 cfg0.N = cube (secondOf ((dats m 0 c).A 4) (fun r d => (m ((c : Thread nD τ).loc main_arg3)) (ix2 r d))) := by
  refine (dats m 0 c).arrAt_eq_of_coversWhere_of_agree 4 _ (fun β => β (0 : Fin 3) = 1) (by decide +kernel) (fun t hf y => ?_) (fun j hj => ?_)
  · have hN : t.val < 8 := lt_of_lt_of_eq t.isLt N_0
    blk_simp
    rw [after0_4]
    idx_vars y
    frame_out
    rw [g_eq, cube_ix3, e3 m c t hN]
    exact ((cube_at (secondOf ((dats m 0 c).A 4) (fun r d => (m ((c : Thread nD τ).loc main_arg3)) (ix2 r d))) _ (a := 1) (b := ⟨t.val * 256 + y1.val, by omega⟩) (d := y2) (by blk_simp [idx t]; rfl) (by blk_simp [idx t]) (by blk_simp [idx t])).trans (second_one _ _ _ _)).symm
  · blk_simp [Pipeline.Window.cell_apply] at hj ⊢
    idx_vars j
    rw [cube_ix3, second_zero _ _ j0 (by omega)]

/-- The changes the kernel leaves. -/
theorem final5 : (dats m 0 c).arrAt 5 cfg0.N = cube (secondOf ((dats m 0 c).A 5) (dTop (m ((c : Thread nD τ).loc main_arg0)) (m ((c : Thread nD τ).loc main_arg1)) (m ((c : Thread nD τ).loc main_arg2)) (m ((c : Thread nD τ).loc main_arg3)))) := by
  refine (dats m 0 c).arrAt_eq_of_coversWhere_of_agree 5 _ (fun β => β (0 : Fin 3) = 1) (by decide +kernel) (fun t hf y => ?_) (fun j hj => ?_)
  · have hN : t.val < 8 := lt_of_lt_of_eq t.isLt N_0
    blk_simp
    rw [after0_5]
    idx_vars y
    frame_out
    rw [d_out, cube_ix3, e0 m c t hN, e1 m c t hN, e2 m c t hN, e3 m c t hN]
    exact ((cube_at (secondOf ((dats m 0 c).A 5) (dTop (m ((c : Thread nD τ).loc main_arg0)) (m ((c : Thread nD τ).loc main_arg1)) (m ((c : Thread nD τ).loc main_arg2)) (m ((c : Thread nD τ).loc main_arg3)))) _ (a := 1) (b := ⟨t.val * 256 + y1.val, by omega⟩) (d := y2) (by blk_simp [idx t]; rfl) (by blk_simp [idx t]) (by blk_simp [idx t])).trans (second_one _ _ _ _)).symm
  · blk_simp [Pipeline.Window.cell_apply] at hj ⊢
    idx_vars j
    rw [cube_ix3, second_zero _ _ j0 (by omega)]

/-- The first moments the kernel leaves. -/
theorem final6 : (dats m 0 c).arrAt 6 cfg0.N = cube (secondOf ((dats m 0 c).A 6) (mTop (m ((c : Thread nD τ).loc main_arg1)) (m ((c : Thread nD τ).loc main_arg3)))) := by
  refine (dats m 0 c).arrAt_eq_of_coversWhere_of_agree 6 _ (fun β => β (0 : Fin 3) = 1) (by decide +kernel) (fun t hf y => ?_) (fun j hj => ?_)
  · have hN : t.val < 8 := lt_of_lt_of_eq t.isLt N_0
    blk_simp
    rw [after0_6]
    idx_vars y
    frame_out
    rw [m_out, cube_ix3, e1 m c t hN, e3 m c t hN]
    exact ((cube_at (secondOf ((dats m 0 c).A 6) (mTop (m ((c : Thread nD τ).loc main_arg1)) (m ((c : Thread nD τ).loc main_arg3)))) _ (a := 1) (b := ⟨t.val * 256 + y1.val, by omega⟩) (d := y2) (by blk_simp [idx t]; rfl) (by blk_simp [idx t]) (by blk_simp [idx t])).trans (second_one _ _ _ _)).symm
  · blk_simp [Pipeline.Window.cell_apply] at hj ⊢
    idx_vars j
    rw [cube_ix3, second_zero _ _ j0 (by omega)]

/-- The second moments the kernel leaves. -/
theorem final7 : (dats m 0 c).arrAt 7 cfg0.N = cube (secondOf ((dats m 0 c).A 7) (vTop (m ((c : Thread nD τ).loc main_arg2)) (m ((c : Thread nD τ).loc main_arg3)))) := by
  refine (dats m 0 c).arrAt_eq_of_coversWhere_of_agree 7 _ (fun β => β (0 : Fin 3) = 1) (by decide +kernel) (fun t hf y => ?_) (fun j hj => ?_)
  · have hN : t.val < 8 := lt_of_lt_of_eq t.isLt N_0
    blk_simp
    rw [after0_7]
    idx_vars y
    frame_out
    rw [v_out, cube_ix3, e2 m c t hN, e3 m c t hN]
    exact ((cube_at (secondOf ((dats m 0 c).A 7) (vTop (m ((c : Thread nD τ).loc main_arg2)) (m ((c : Thread nD τ).loc main_arg3)))) _ (a := 1) (b := ⟨t.val * 256 + y1.val, by omega⟩) (d := y2) (by blk_simp [idx t]; rfl) (by blk_simp [idx t]) (by blk_simp [idx t])).trans (second_one _ _ _ _)).symm
  · blk_simp [Pipeline.Window.cell_apply] at hj ⊢
    idx_vars j
    rw [cube_ix3, second_zero _ _ j0 (by omega)]

/-- The slices read the kernel's arrays. -/
theorem left (w : Fin cfg0.W) : Pipeline.withArrays (cfgs 0).spec c (V0 m c) (fun w => (dats m 0 c).arrAt w (cfgs 0).N) (Proc.devRef .tc (Pipeline.arrRef spec0 w)) = (dats m 0 c).arrAt w cfg0.N :=
  Pipeline.withArrays_arr (cfgs 0).spec launch0.win.arr_inj c (V0 m c) (fun w => (dats m 0 c).arrAt w (cfgs 0).N) w

section Tail
variable (s : PUnit × MemSt nD τ sig (Elt Ideal)) (h : Pipeline.FramePost cfgs (dats m) 0 (Pipeline.afterTail₀ cfgs (dats m) 0 (V0 m) [hostOps1]) s)
include h
/-- The gradients after the slice. -/
theorem tail4 : s.2.mem ((c : Thread nD τ).loc main_v2) = mat (fun r d => (m ((c : Thread nD τ).loc main_arg3)) (ix2 r d)) := by
  refine ((h c).2 main_v2 (Pipeline.mem_restRefs_of main_v2 (by decide) (by decide))).trans ?_
  unfold Pipeline.afterTail₀
  rw [show ([hostOps1] : List (List (HloOp τ sig (Elt Ideal)))).flatten = hostOps1 from List.append_nil _]
  after_results_simp
  funext y; idx_vars y
  pointwise [mat_ix2]
  exact (congrFun ((left m c 4).trans (final4 m c)) (ix3 1 y0 y1)).trans (second_one _ _ _ _)
/-- The changes after the slice. -/
theorem tail5 : s.2.mem ((c : Thread nD τ).loc main_v4) = mat (dTop (m ((c : Thread nD τ).loc main_arg0)) (m ((c : Thread nD τ).loc main_arg1)) (m ((c : Thread nD τ).loc main_arg2)) (m ((c : Thread nD τ).loc main_arg3))) := by
  refine ((h c).2 main_v4 (Pipeline.mem_restRefs_of main_v4 (by decide) (by decide))).trans ?_
  unfold Pipeline.afterTail₀
  rw [show ([hostOps1] : List (List (HloOp τ sig (Elt Ideal)))).flatten = hostOps1 from List.append_nil _]
  after_results_simp
  funext y; idx_vars y
  pointwise [mat_ix2]
  exact (congrFun ((left m c 5).trans (final5 m c)) (ix3 1 y0 y1)).trans (second_one _ _ _ _)
/-- The first moments after the slice. -/
theorem tail6 : s.2.mem ((c : Thread nD τ).loc main_v6) = mat (mTop (m ((c : Thread nD τ).loc main_arg1)) (m ((c : Thread nD τ).loc main_arg3))) := by
  refine ((h c).2 main_v6 (Pipeline.mem_restRefs_of main_v6 (by decide) (by decide))).trans ?_
  unfold Pipeline.afterTail₀
  rw [show ([hostOps1] : List (List (HloOp τ sig (Elt Ideal)))).flatten = hostOps1 from List.append_nil _]
  after_results_simp
  funext y; idx_vars y
  pointwise [mat_ix2]
  exact (congrFun ((left m c 6).trans (final6 m c)) (ix3 1 y0 y1)).trans (second_one _ _ _ _)
/-- The second moments after the slice. -/
theorem tail7 : s.2.mem ((c : Thread nD τ).loc main_v8) = mat (vTop (m ((c : Thread nD τ).loc main_arg2)) (m ((c : Thread nD τ).loc main_arg3))) := by
  refine ((h c).2 main_v8 (Pipeline.mem_restRefs_of main_v8 (by decide) (by decide))).trans ?_
  unfold Pipeline.afterTail₀
  rw [show ([hostOps1] : List (List (HloOp τ sig (Elt Ideal)))).flatten = hostOps1 from List.append_nil _]
  after_results_simp
  funext y; idx_vars y
  pointwise [mat_ix2]
  exact (congrFun ((left m c 7).trans (final7 m c)) (ix3 1 y0 y1)).trans (second_one _ _ _ _)
end Tail

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = mat (fun r d => (m ((c : Thread nD τ).loc main_arg3)) (ix2 r d))
    ∧ r.2.mem ((c : Thread nD τ).loc main_v4) = mat (dTop (m ((c : Thread nD τ).loc main_arg0)) (m ((c : Thread nD τ).loc main_arg1)) (m ((c : Thread nD τ).loc main_arg2)) (m ((c : Thread nD τ).loc main_arg3)))
    ∧ r.2.mem ((c : Thread nD τ).loc main_v6) = mat (mTop (m ((c : Thread nD τ).loc main_arg1)) (m ((c : Thread nD τ).loc main_arg3)))
    ∧ r.2.mem ((c : Thread nD τ).loc main_v8) = mat (vTop (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨tail4 m c r h.1, tail5 m c r h.1, tail6 m c r h.1, tail7 m c r h.1, h.2 c⟩) (θ_run_and (run_main m ρ) (unchanged m ρ))

end Cert.AdamMlpTopIdeal.Value

namespace Cert.AdamMlpTopRefIdeal.Value
open Cert.AdamMlpTopRefIdeal Cert.AdamMlpTopRefIdeal.Gen Cert.Gmlp Cert.Mlp Cert.Adam

variable (m : (ℓ : Loc nD τ sig) → Buf (Elt Ideal) ℓ)

/-- The reference's run, its results named. -/
theorem run_out (ρ : Dev nD → PrngReg) : θ_run defs (onTc (τ := τ) (main (F := Ideal))) ⟨m, fun _ => 0, ρ⟩ fun r => ∀ c : Dev nD,
    r.2.mem ((c : Thread nD τ).loc main_arg3) = mat (fun r d => (m ((c : Thread nD τ).loc main_arg3)) (ix2 r d))
    ∧ r.2.mem ((c : Thread nD τ).loc main_v29) = mat (dTop (m ((c : Thread nD τ).loc main_arg0)) (m ((c : Thread nD τ).loc main_arg1)) (m ((c : Thread nD τ).loc main_arg2)) (m ((c : Thread nD τ).loc main_arg3)))
    ∧ r.2.mem ((c : Thread nD τ).loc main_v10) = mat (mTop (m ((c : Thread nD τ).loc main_arg1)) (m ((c : Thread nD τ).loc main_arg3)))
    ∧ r.2.mem ((c : Thread nD τ).loc main_v16) = mat (vTop (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun _ h c => ?_) (run m ρ)
  obtain ⟨h4, h5, h6, h7, hk⟩ := h c
  refine ⟨h4.trans ?_, h5.trans ?_, h6.trans ?_, h7.trans ?_, hk⟩
  · funext y; idx_vars y; rfl
  · funext y; idx_vars y; pointwise [mat_ix2, dTop, delta, newM, newV]
  · funext y; idx_vars y; pointwise [mat_ix2, mTop, newM]
  · funext y; idx_vars y; pointwise [mat_ix2, vTop, newV]

end Cert.AdamMlpTopRefIdeal.Value
-- ==== Proof.AdamOutTopArrays.lean ====
module

public import proofs.«01_k».proof.Proof.AdamLayer
public import proofs.«01_k».proof.Proof.Gen.AdamOutTopIdeal.Frame
public import proofs.«01_k».proof.Proof.Gen.AdamOutTopRefIdeal.Run
public import Idealize.ShloMosaic.Lib.Pipeline.ValueKit
public import Idealize.ShloMosaic.Lib.Pipeline.ReadBack
public import Idealize.ShloMosaic.Lib.Claim

/-! The optimiser's step on the second layer of the output projection's weight: the kernel's result arrays and the reference's. -/

@[expose] public section
set_option maxRecDepth 16384
noncomputable section
open Idealize.ShloMosaic Idealize.ShloMosaic.TcCoe Idealize.SL.Sem

namespace Cert.AdamOutTopIdeal.Value
open Cert.AdamOutTopIdeal Cert.AdamOutTopIdeal.Gen Cert.Gmlp Cert.Mlp Cert.Adam

variable (m : (ℓ : Loc nD τ sig) → Buf (Elt Ideal) ℓ) (c : Dev nD)

theorem idx : ∀ t : Fin cfg0.N, win0_0.index t = ![1, t.val, 0] ∧ win0_1.index t = ![1, t.val, 0] ∧ win0_2.index t = ![1, t.val, 0] ∧ win0_3.index t = ![t.val, 0]
    ∧ win0_4.index t = ![1, t.val, 0] ∧ win0_5.index t = ![1, t.val, 0] ∧ win0_6.index t = ![1, t.val, 0] ∧ win0_7.index t = ![1, t.val, 0] :=
  (by decide +kernel : ∀ t : Fin grid0.N, _)

section Blocks
variable (w p q : Vec Ideal S1x256x2048 .f32) (g : Vec Ideal S256x2048 .f32)
/-- The gradient, per block. -/
theorem g_eq : k0_pay7 (F := Ideal) g = cube fun _ r d => g (ix2 r d) := by
  funext y; idx_vars y; pointwise [k0_pay7, cube_ix3]
/-- The first moment, per block. -/
theorem m_eq : k0_pay4 (F := Ideal) g p = mat fun r d => newM (p (ix3 0 r d)) (g (ix2 r d)) := by
  funext y; idx_vars y; pointwise [k0_pay4, mat_ix2, newM]
theorem m_out : k0_pay2 (F := Ideal) (k0_pay4 g p) = cube fun _ r d => newM (p (ix3 0 r d)) (g (ix2 r d)) := by
  funext y; idx_vars y; pointwise [k0_pay2, m_eq, mat_ix2, cube_ix3]
/-- The second moment, per block. -/
theorem v_eq : k0_pay5 (F := Ideal) g q = mat fun r d => newV (q (ix3 0 r d)) (g (ix2 r d)) := by
  funext y; idx_vars y; pointwise [k0_pay5, mat_ix2, newV]
theorem v_out : k0_pay3 (F := Ideal) (k0_pay5 g q) = cube fun _ r d => newV (q (ix3 0 r d)) (g (ix2 r d)) := by
  funext y; idx_vars y; pointwise [k0_pay3, v_eq, mat_ix2, cube_ix3]
/-- The change, per block. -/
theorem d_out : k0_pay1 (F := Ideal) (k0_pay6 g w p q) = cube fun _ r d => delta (w (ix3 0 r d)) (p (ix3 0 r d)) (q (ix3 0 r d)) (g (ix2 r d)) := by
  funext y; idx_vars y; pointwise [k0_pay1, k0_pay6, m_eq, v_eq, mat_ix2, cube_ix3, delta]
end Blocks

variable (t : Fin cfg0.N) (hN : t.val < 2) (r : Fin 256) (d : Fin 2048)
include hN
theorem e0 : iblk m c 0 t (ix3 0 r d) = (m ((c : Thread nD τ).loc main_arg0)) (ix3 1 ⟨t.val * 256 + r.val, by omega⟩ d) := by
  blk_simp [iblk, idx t]; entry_read; pointwise; blk_point [idx t]
theorem e1 : iblk m c 1 t (ix3 0 r d) = (m ((c : Thread nD τ).loc main_arg1)) (ix3 1 ⟨t.val * 256 + r.val, by omega⟩ d) := by
  blk_simp [iblk, idx t]; entry_read; pointwise; blk_point [idx t]
theorem e2 : iblk m c 2 t (ix3 0 r d) = (m ((c : Thread nD τ).loc main_arg2)) (ix3 1 ⟨t.val * 256 + r.val, by omega⟩ d) := by
  blk_simp [iblk, idx t]; entry_read; pointwise; blk_point [idx t]
theorem e3 : iblk m c 3 t (ix2 r d) = (m ((c : Thread nD τ).loc main_arg3)) (ix2 ⟨t.val * 256 + r.val, by omega⟩ d) := by
  blk_simp [iblk, idx t]; entry_read; pointwise; blk_point [idx t]
omit hN

/-- The gradients the kernel leaves. -/
theorem final4 : (dats m 0 c).arrAt 4 cfg0.N = cube (secondOf ((dats m 0 c).A 4) (fun r d => (m ((c : Thread nD τ).loc main_arg3)) (ix2 r d))) := by
  refine (dats m 0 c).arrAt_eq_of_coversWhere_of_agree 4 _ (fun β => β (0 : Fin 3) = 1) (by decide +kernel) (fun t hf y => ?_) (fun j hj => ?_)
  · have hN : t.val < 2 := lt_of_lt_of_eq t.isLt N_0
    blk_simp
    rw [after0_4]
    idx_vars y
    frame_out
    rw [g_eq, cube_ix3, e3 m c t hN]
    exact ((cube_at (secondOf ((dats m 0 c).A 4) (fun r d => (m ((c : Thread nD τ).loc main_arg3)) (ix2 r d))) _ (a := 1) (b := ⟨t.val * 256 + y1.val, by omega⟩) (d := y2) (by blk_simp [idx t]; rfl) (by blk_simp [idx t]) (by blk_simp [idx t])).trans (second_one _ _ _ _)).symm
  · blk_simp [Pipeline.Window.cell_apply] at hj ⊢
    idx_vars j
    rw [cube_ix3, second_zero _ _ j0 (by omega)]

/-- The changes the kernel leaves. -/
theorem final5 : (dats m 0 c).arrAt 5 cfg0.N = cube (secondOf ((dats m 0 c).A 5) (dTop (m ((c : Thread nD τ).loc main_arg0)) (m ((c : Thread nD τ).loc main_arg1)) (m ((c : Thread nD τ).loc main_arg2)) (m ((c : Thread nD τ).loc main_arg3)))) := by
  refine (dats m 0 c).arrAt_eq_of_coversWhere_of_agree 5 _ (fun β => β (0 : Fin 3) = 1) (by decide +kernel) (fun t hf y => ?_) (fun j hj => ?_)
  · have hN : t.val < 2 := lt_of_lt_of_eq t.isLt N_0
    blk_simp
    rw [after0_5]
    idx_vars y
    frame_out
    rw [d_out, cube_ix3, e0 m c t hN, e1 m c t hN, e2 m c t hN, e3 m c t hN]
    exact ((cube_at (secondOf ((dats m 0 c).A 5) (dTop (m ((c : Thread nD τ).loc main_arg0)) (m ((c : Thread nD τ).loc main_arg1)) (m ((c : Thread nD τ).loc main_arg2)) (m ((c : Thread nD τ).loc main_arg3)))) _ (a := 1) (b := ⟨t.val * 256 + y1.val, by omega⟩) (d := y2) (by blk_simp [idx t]; rfl) (by blk_simp [idx t]) (by blk_simp [idx t])).trans (second_one _ _ _ _)).symm
  · blk_simp [Pipeline.Window.cell_apply] at hj ⊢
    idx_vars j
    rw [cube_ix3, second_zero _ _ j0 (by omega)]

/-- The first moments the kernel leaves. -/
theorem final6 : (dats m 0 c).arrAt 6 cfg0.N = cube (secondOf ((dats m 0 c).A 6) (mTop (m ((c : Thread nD τ).loc main_arg1)) (m ((c : Thread nD τ).loc main_arg3)))) := by
  refine (dats m 0 c).arrAt_eq_of_coversWhere_of_agree 6 _ (fun β => β (0 : Fin 3) = 1) (by decide +kernel) (fun t hf y => ?_) (fun j hj => ?_)
  · have hN : t.val < 2 := lt_of_lt_of_eq t.isLt N_0
    blk_simp
    rw [after0_6]
    idx_vars y
    frame_out
    rw [m_out, cube_ix3, e1 m c t hN, e3 m c t hN]
    exact ((cube_at (secondOf ((dats m 0 c).A 6) (mTop (m ((c : Thread nD τ).loc main_arg1)) (m ((c : Thread nD τ).loc main_arg3)))) _ (a := 1) (b := ⟨t.val * 256 + y1.val, by omega⟩) (d := y2) (by blk_simp [idx t]; rfl) (by blk_simp [idx t]) (by blk_simp [idx t])).trans (second_one _ _ _ _)).symm
  · blk_simp [Pipeline.Window.cell_apply] at hj ⊢
    idx_vars j
    rw [cube_ix3, second_zero _ _ j0 (by omega)]

/-- The second moments the kernel leaves. -/
theorem final7 : (dats m 0 c).arrAt 7 cfg0.N = cube (secondOf ((dats m 0 c).A 7) (vTop (m ((c : Thread nD τ).loc main_arg2)) (m ((c : Thread nD τ).loc main_arg3)))) := by
  refine (dats m 0 c).arrAt_eq_of_coversWhere_of_agree 7 _ (fun β => β (0 : Fin 3) = 1) (by decide +kernel) (fun t hf y => ?_) (fun j hj => ?_)
  · have hN : t.val < 2 := lt_of_lt_of_eq t.isLt N_0
    blk_simp
    rw [after0_7]
    idx_vars y
    frame_out
    rw [v_out, cube_ix3, e2 m c t hN, e3 m c t hN]
    exact ((cube_at (secondOf ((dats m 0 c).A 7) (vTop (m ((c : Thread nD τ).loc main_arg2)) (m ((c : Thread nD τ).loc main_arg3)))) _ (a := 1) (b := ⟨t.val * 256 + y1.val, by omega⟩) (d := y2) (by blk_simp [idx t]; rfl) (by blk_simp [idx t]) (by blk_simp [idx t])).trans (second_one _ _ _ _)).symm
  · blk_simp [Pipeline.Window.cell_apply] at hj ⊢
    idx_vars j
    rw [cube_ix3, second_zero _ _ j0 (by omega)]

/-- The slices read the kernel's arrays. -/
theorem left (w : Fin cfg0.W) : Pipeline.withArrays (cfgs 0).spec c (V0 m c) (fun w => (dats m 0 c).arrAt w (cfgs 0).N) (Proc.devRef .tc (Pipeline.arrRef spec0 w)) = (dats m 0 c).arrAt w cfg0.N :=
  Pipeline.withArrays_arr (cfgs 0).spec launch0.win.arr_inj c (V0 m c) (fun w => (dats m 0 c).arrAt w (cfgs 0).N) w

section Tail
variable (s : PUnit × MemSt nD τ sig (Elt Ideal)) (h : Pipeline.FramePost cfgs (dats m) 0 (Pipeline.afterTail₀ cfgs (dats m) 0 (V0 m) [hostOps1]) s)
include h
/-- The gradients after the slice. -/
theorem tail4 : s.2.mem ((c : Thread nD τ).loc main_v2) = mat (fun r d => (m ((c : Thread nD τ).loc main_arg3)) (ix2 r d)) := by
  refine ((h c).2 main_v2 (Pipeline.mem_restRefs_of main_v2 (by decide) (by decide))).trans ?_
  unfold Pipeline.afterTail₀
  rw [show ([hostOps1] : List (List (HloOp τ sig (Elt Ideal)))).flatten = hostOps1 from List.append_nil _]
  after_results_simp
  funext y; idx_vars y
  pointwise [mat_ix2]
  exact (congrFun ((left m c 4).trans (final4 m c)) (ix3 1 y0 y1)).trans (second_one _ _ _ _)
/-- The changes after the slice. -/
theorem tail5 : s.2.mem ((c : Thread nD τ).loc main_v4) = mat (dTop (m ((c : Thread nD τ).loc main_arg0)) (m ((c : Thread nD τ).loc main_arg1)) (m ((c : Thread nD τ).loc main_arg2)) (m ((c : Thread nD τ).loc main_arg3))) := by
  refine ((h c).2 main_v4 (Pipeline.mem_restRefs_of main_v4 (by decide) (by decide))).trans ?_
  unfold Pipeline.afterTail₀
  rw [show ([hostOps1] : List (List (HloOp τ sig (Elt Ideal)))).flatten = hostOps1 from List.append_nil _]
  after_results_simp
  funext y; idx_vars y
  pointwise [mat_ix2]
  exact (congrFun ((left m c 5).trans (final5 m c)) (ix3 1 y0 y1)).trans (second_one _ _ _ _)
/-- The first moments after the slice. -/
theorem tail6 : s.2.mem ((c : Thread nD τ).loc main_v6) = mat (mTop (m ((c : Thread nD τ).loc main_arg1)) (m ((c : Thread nD τ).loc main_arg3))) := by
  refine ((h c).2 main_v6 (Pipeline.mem_restRefs_of main_v6 (by decide) (by decide))).trans ?_
  unfold Pipeline.afterTail₀
  rw [show ([hostOps1] : List (List (HloOp τ sig (Elt Ideal)))).flatten = hostOps1 from List.append_nil _]
  after_results_simp
  funext y; idx_vars y
  pointwise [mat_ix2]
  exact (congrFun ((left m c 6).trans (final6 m c)) (ix3 1 y0 y1)).trans (second_one _ _ _ _)
/-- The second moments after the slice. -/
theorem tail7 : s.2.mem ((c : Thread nD τ).loc main_v8) = mat (vTop (m ((c : Thread nD τ).loc main_arg2)) (m ((c : Thread nD τ).loc main_arg3))) := by
  refine ((h c).2 main_v8 (Pipeline.mem_restRefs_of main_v8 (by decide) (by decide))).trans ?_
  unfold Pipeline.afterTail₀
  rw [show ([hostOps1] : List (List (HloOp τ sig (Elt Ideal)))).flatten = hostOps1 from List.append_nil _]
  after_results_simp
  funext y; idx_vars y
  pointwise [mat_ix2]
  exact (congrFun ((left m c 7).trans (final7 m c)) (ix3 1 y0 y1)).trans (second_one _ _ _ _)
end Tail

/-- The run, its results named and its arguments kept. -/
theorem run_out (ρ : Dev nD → PrngReg) : θ_run defs (onTc (τ := τ) (main (F := Ideal))) ⟨m, fun _ => 0, ρ⟩ fun r => ∀ c : Dev nD,
    r.2.mem ((c : Thread nD τ).loc main_v2) = mat (fun r d => (m ((c : Thread nD τ).loc main_arg3)) (ix2 r d))
    ∧ r.2.mem ((c : Thread nD τ).loc main_v4) = mat (dTop (m ((c : Thread nD τ).loc main_arg0)) (m ((c : Thread nD τ).loc main_arg1)) (m ((c : Thread nD τ).loc main_arg2)) (m ((c : Thread nD τ).loc main_arg3)))
    ∧ r.2.mem ((c : Thread nD τ).loc main_v6) = mat (mTop (m ((c : Thread nD τ).loc main_arg1)) (m ((c : Thread nD τ).loc main_arg3)))
    ∧ r.2.mem ((c : Thread nD τ).loc main_v8) = mat (vTop (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨tail4 m c r h.1, tail5 m c r h.1, tail6 m c r h.1, tail7 m c r h.1, h.2 c⟩) (θ_run_and (run_main m ρ) (unchanged m ρ))

end Cert.AdamOutTopIdeal.Value

namespace Cert.AdamOutTopRefIdeal.Value
open Cert.AdamOutTopRefIdeal Cert.AdamOutTopRefIdeal.Gen Cert.Gmlp Cert.Mlp Cert.Adam

variable (m : (ℓ : Loc nD τ sig) → Buf (Elt Ideal) ℓ)

/-- The reference's run, its results named. -/
theorem run_out (ρ : Dev nD → PrngReg) : θ_run defs (onTc (τ := τ) (main (F := Ideal))) ⟨m, fun _ => 0, ρ⟩ fun r => ∀ c : Dev nD,
    r.2.mem ((c : Thread nD τ).loc main_arg3) = mat (fun r d => (m ((c : Thread nD τ).loc main_arg3)) (ix2 r d))
    ∧ r.2.mem ((c : Thread nD τ).loc main_v29) = mat (dTop (m ((c : Thread nD τ).loc main_arg0)) (m ((c : Thread nD τ).loc main_arg1)) (m ((c : Thread nD τ).loc main_arg2)) (m ((c : Thread nD τ).loc main_arg3)))
    ∧ r.2.mem ((c : Thread nD τ).loc main_v10) = mat (mTop (m ((c : Thread nD τ).loc main_arg1)) (m ((c : Thread nD τ).loc main_arg3)))
    ∧ r.2.mem ((c : Thread nD τ).loc main_v16) = mat (vTop (m ((c : Thread nD τ).loc main_arg2)) (m ((c : Thread nD τ).loc main_arg3)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun _ h c => ?_) (run m ρ)
  obtain ⟨h4, h5, h6, h7, hk⟩ := h c
  refine ⟨h4.trans ?_, h5.trans ?_, h6.trans ?_, h7.trans ?_, hk⟩
  · funext y; idx_vars y; rfl
  · funext y; idx_vars y; pointwise [mat_ix2, dTop, delta, newM, newV]
  · funext y; idx_vars y; pointwise [mat_ix2, mTop, newM]
  · funext y; idx_vars y; pointwise [mat_ix2, vTop, newV]

end Cert.AdamOutTopRefIdeal.Value
-- ==== Proof.lean ====
module

public import proofs.«01_k».proof.Proof.Gen.KernelIdeal.Value
public import proofs.«01_k».proof.Proof.Gen.ReferenceIdeal.Run
public import proofs.«01_k».proof.Proof.KernelArrays
public import proofs.«01_k».proof.Proof.RefResults
public import proofs.«01_k».proof.Proof.Mlp2DxArrays
public import proofs.«01_k».proof.Proof.Mlp2DwArrays
public import proofs.«01_k».proof.Proof.Mlp1DwArrays
public import proofs.«01_k».proof.Proof.Mlp1DxArrays
public import proofs.«01_k».proof.Proof.ProjOutDxArrays
public import proofs.«01_k».proof.Proof.ProjOutDwArrays
public import proofs.«01_k».proof.Proof.ProjInDwArrays
public import proofs.«01_k».proof.Proof.ProjInDxArrays
public import proofs.«01_k».proof.Proof.GateBwdArrays
public import proofs.«01_k».proof.Proof.ProjInArrays
public import proofs.«01_k».proof.Proof.ProjOutArrays
public import proofs.«01_k».proof.Proof.Mlp1Arrays
public import proofs.«01_k».proof.Proof.Mlp2Arrays
public import proofs.«01_k».proof.Proof.LnFwdArrays
public import proofs.«01_k».proof.Proof.LnBwdArrays
public import proofs.«01_k».proof.Proof.ConvBwdArrays
public import proofs.«01_k».proof.Proof.GmlpFwdArrays
public import proofs.«01_k».proof.Proof.ConvFwdArrays
public import proofs.«01_k».proof.Proof.AttnFwdArrays
public import proofs.«01_k».proof.Proof.AdaModArrays
public import proofs.«01_k».proof.Proof.AdaDwArrays
public import proofs.«01_k».proof.Proof.AdaDbArrays
public import proofs.«01_k».proof.Proof.AdamAdaArrays
public import proofs.«01_k».proof.Proof.AdamInArrays
public import proofs.«01_k».proof.Proof.LossHeadArrays
public import proofs.«01_k».proof.Proof.AdamMlpArrays
public import proofs.«01_k».proof.Proof.AdamOutArrays
public import proofs.«01_k».proof.Proof.AdamSmallArrays
public import proofs.«01_k».proof.Proof.SumSmallArrays
public import proofs.«01_k».proof.Proof.AdamMlpTopArrays
public import proofs.«01_k».proof.Proof.AdamOutTopArrays
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mlp2Dx.Frame
public import proofs.«01_k».proof.Proof.Gen.Mlp2DxIdeal.Value
public import proofs.«01_k».proof.Proof.Gen.Mlp2DxRefIdeal.Run
public import proofs.«01_k».proof.Proof.Gen.Mlp2Dw.Frame
public import proofs.«01_k».proof.Proof.Gen.Mlp2DwIdeal.Value
public import proofs.«01_k».proof.Proof.Gen.Mlp2DwRefIdeal.Run
public import proofs.«01_k».proof.Proof.Gen.Mlp1Dw.Frame
public import proofs.«01_k».proof.Proof.Gen.Mlp1DwIdeal.Value
public import proofs.«01_k».proof.Proof.Gen.Mlp1DwRefIdeal.Run
public import proofs.«01_k».proof.Proof.Gen.Mlp1Dx.Frame
public import proofs.«01_k».proof.Proof.Gen.Mlp1DxIdeal.Value
public import proofs.«01_k».proof.Proof.Gen.Mlp1DxRefIdeal.Run
public import proofs.«01_k».proof.Proof.Gen.ProjOutDx.Frame
public import proofs.«01_k».proof.Proof.Gen.ProjOutDxIdeal.Value
public import proofs.«01_k».proof.Proof.Gen.ProjOutDxRefIdeal.Run
public import proofs.«01_k».proof.Proof.Gen.ProjOutDw.Frame
public import proofs.«01_k».proof.Proof.Gen.ProjOutDwIdeal.Value
public import proofs.«01_k».proof.Proof.Gen.ProjOutDwRefIdeal.Run
public import proofs.«01_k».proof.Proof.Gen.ProjInDw.Frame
public import proofs.«01_k».proof.Proof.Gen.ProjInDwIdeal.Value
public import proofs.«01_k».proof.Proof.Gen.ProjInDwRefIdeal.Run
public import proofs.«01_k».proof.Proof.Gen.ProjInDx.Frame
public import proofs.«01_k».proof.Proof.Gen.ProjInDxIdeal.Value
public import proofs.«01_k».proof.Proof.Gen.ProjInDxRefIdeal.Run
public import proofs.«01_k».proof.Proof.Gen.ConvBwd.Frame
public import proofs.«01_k».proof.Proof.Gen.ConvBwdIdeal.Value
public import proofs.«01_k».proof.Proof.Gen.ConvBwdRefIdeal.Run
public import proofs.«01_k».proof.Proof.Gen.GmlpFwd.Frame
public import proofs.«01_k».proof.Proof.Gen.GmlpFwdIdeal.Value
public import proofs.«01_k».proof.Proof.Gen.GmlpFwdRefIdeal.Run
public import proofs.«01_k».proof.Proof.Gen.ConvFwd.Frame
public import proofs.«01_k».proof.Proof.Gen.ConvFwdIdeal.Value
public import proofs.«01_k».proof.Proof.Gen.ConvFwdRefIdeal.Run
public import proofs.«01_k».proof.Proof.Gen.LnBwd.Frame
public import proofs.«01_k».proof.Proof.Gen.LnBwdIdeal.Value
public import proofs.«01_k».proof.Proof.Gen.LnBwdRefIdeal.Run
public import proofs.«01_k».proof.Proof.Gen.GateBwd.Frame
public import proofs.«01_k».proof.Proof.Gen.GateBwdIdeal.Value
public import proofs.«01_k».proof.Proof.Gen.GateBwdRefIdeal.Run
public import proofs.«01_k».proof.Proof.Gen.ProjIn.Frame
public import proofs.«01_k».proof.Proof.Gen.ProjInIdeal.Value
public import proofs.«01_k».proof.Proof.Gen.ProjInRefIdeal.Run
public import proofs.«01_k».proof.Proof.Gen.ProjOut.Frame
public import proofs.«01_k».proof.Proof.Gen.ProjOutIdeal.Value
public import proofs.«01_k».proof.Proof.Gen.ProjOutRefIdeal.Run
public import proofs.«01_k».proof.Proof.Gen.Mlp1.Frame
public import proofs.«01_k».proof.Proof.Gen.Mlp1Ideal.Value
public import proofs.«01_k».proof.Proof.Gen.Mlp1RefIdeal.Run
public import proofs.«01_k».proof.Proof.Gen.Mlp2.Frame
public import proofs.«01_k».proof.Proof.Gen.Mlp2Ideal.Value
public import proofs.«01_k».proof.Proof.Gen.Mlp2RefIdeal.Run
public import proofs.«01_k».proof.Proof.Gen.LnFwd.Frame
public import proofs.«01_k».proof.Proof.Gen.LnFwdIdeal.Value
public import proofs.«01_k».proof.Proof.Gen.LnFwdRefIdeal.Run
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.Gen.AdaMod.Frame
public import proofs.«01_k».proof.Proof.Gen.AdaModIdeal.Value
public import proofs.«01_k».proof.Proof.Gen.AdaModRefIdeal.Run
public import proofs.«01_k».proof.Proof.Gen.AdaDw.Frame
public import proofs.«01_k».proof.Proof.Gen.AdaDwIdeal.Value
public import proofs.«01_k».proof.Proof.Gen.AdaDwRefIdeal.Run
public import proofs.«01_k».proof.Proof.Gen.AdaDb.Frame
public import proofs.«01_k».proof.Proof.Gen.AdaDbIdeal.Value
public import proofs.«01_k».proof.Proof.Gen.AdaDbRefIdeal.Run
public import proofs.«01_k».proof.Proof.Gen.AdamAda.Frame
public import proofs.«01_k».proof.Proof.Gen.AdamAdaIdeal.Value
public import proofs.«01_k».proof.Proof.Gen.AdamAdaRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.LossHead.Frame
public import proofs.«01_k».proof.Proof.Gen.LossHeadIdeal.Value
public import proofs.«01_k».proof.Proof.Gen.LossHeadRefIdeal.Run
public import proofs.«01_k».proof.Proof.Gen.AdamMlp.Frame
public import proofs.«01_k».proof.Proof.Gen.AdamMlpIdeal.Value
public import proofs.«01_k».proof.Proof.Gen.AdamMlpRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.SumSmall.Frame
public import proofs.«01_k».proof.Proof.Gen.SumSmallIdeal.Value
public import proofs.«01_k».proof.Proof.Gen.SumSmallRefIdeal.Run
public import proofs.«01_k».proof.Proof.Gen.AdamMlpTop.Frame
public import proofs.«01_k».proof.Proof.Gen.AdamMlpTopIdeal.Frame
public import proofs.«01_k».proof.Proof.Gen.AdamMlpTopRefIdeal.Run
public import proofs.«01_k».proof.Proof.Gen.AdamOutTop.Frame
public import proofs.«01_k».proof.Proof.Gen.AdamOutTopIdeal.Frame
public import proofs.«01_k».proof.Proof.Gen.AdamOutTopRefIdeal.Run
public import Idealize.ShloMosaic.Adequacy
public import Idealize.ShloMosaic.Init

@[expose] public section

noncomputable section

namespace Cert.Proof

open Idealize.ShloMosaic Idealize.SL.Sem Cert.Kernel

/-- The reference keeps its arguments; it declares no semaphore. -/
theorem frame_reference : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

/-- Kernel and reference end with the same seven arrays, from arguments that agree. -/
theorem agree : Cert.algebraic_KernelIdeal_ReferenceIdeal := fun m ρ m' ρ' _ hag =>
  ⟨_, _, _, _, _, _, _, Cert.KernelIdeal.Value.run_outs m ρ,
    (θ_run Cert.ReferenceIdeal.defs _ _).mono (fun r h c => by
      have e := h c
      obtain ⟨h0, h1, h2, h3, h4, h5, h6⟩ := hag c
      rw [h0, h1, h2, h3, h4, h5, h6] at e
      rw [h0, h1, h2, h3, h4, h5, h6]
      exact e) (Cert.ReferenceIdeal.Value.run_outs m' ρ')⟩

theorem frame_Mlp2Dx : Cert.quiescent_Mlp2DxRefIdeal := fun m ρ _ =>
  (θ_run Cert.Mlp2DxRefIdeal.defs _ _).mono (fun r h => ⟨fun c => (h c).2, sem_eq_zero_of_no_sems (by decide) r.2⟩)
    (Cert.Mlp2DxRefIdeal.Value.run (F := Ideal) m ρ)
theorem agree_Mlp2Dx : Cert.algebraic_Mlp2DxIdeal_Mlp2DxRefIdeal := fun m ρ m' ρ' _ hag =>
  ⟨_, Cert.Mlp2DxIdeal.Value.run_out m ρ, (θ_run Cert.Mlp2DxRefIdeal.defs _ _).mono (fun r h c => by
    obtain ⟨h0, h1, h2, h3⟩ := hag c
    have e := h c
    rw [h0, h1, h2, h3] at e ⊢
    exact e) (Cert.Mlp2DxRefIdeal.Value.run_out m' ρ')⟩

theorem frame_Mlp2Dw : Cert.quiescent_Mlp2DwRefIdeal := fun m ρ _ =>
  (θ_run Cert.Mlp2DwRefIdeal.defs _ _).mono (fun r h => ⟨fun c => (h c).2, sem_eq_zero_of_no_sems (by decide) r.2⟩)
    (Cert.Mlp2DwRefIdeal.Value.run (F := Ideal) m ρ)
theorem agree_Mlp2Dw : Cert.algebraic_Mlp2DwIdeal_Mlp2DwRefIdeal := fun m ρ m' ρ' _ hag =>
  ⟨_, Cert.Mlp2DwIdeal.Value.run_out m ρ, (θ_run Cert.Mlp2DwRefIdeal.defs _ _).mono (fun r h c => by
    obtain ⟨h0, h1, h2, h3⟩ := hag c
    have e := h c
    rw [h0, h1, h2, h3] at e ⊢
    exact e) (Cert.Mlp2DwRefIdeal.Value.run_out m' ρ')⟩

theorem frame_Mlp1Dw : Cert.quiescent_Mlp1DwRefIdeal := fun m ρ _ =>
  (θ_run Cert.Mlp1DwRefIdeal.defs _ _).mono (fun r h => ⟨fun c => (h c).2, sem_eq_zero_of_no_sems (by decide) r.2⟩)
    (Cert.Mlp1DwRefIdeal.Value.run (F := Ideal) m ρ)
theorem agree_Mlp1Dw : Cert.algebraic_Mlp1DwIdeal_Mlp1DwRefIdeal := fun m ρ m' ρ' _ hag =>
  ⟨_, Cert.Mlp1DwIdeal.Value.run_out m ρ, (θ_run Cert.Mlp1DwRefIdeal.defs _ _).mono (fun r h c => by
    obtain ⟨h0, h1, h2⟩ := hag c
    have e := h c
    rw [h0, h1, h2] at e ⊢
    exact e) (Cert.Mlp1DwRefIdeal.Value.run_out m' ρ')⟩

theorem frame_Mlp1Dx : Cert.quiescent_Mlp1DxRefIdeal := fun m ρ _ =>
  (θ_run Cert.Mlp1DxRefIdeal.defs _ _).mono (fun r h => ⟨fun c => (h c).2, sem_eq_zero_of_no_sems (by decide) r.2⟩)
    (Cert.Mlp1DxRefIdeal.Value.run (F := Ideal) m ρ)
theorem agree_Mlp1Dx : Cert.algebraic_Mlp1DxIdeal_Mlp1DxRefIdeal := fun m ρ m' ρ' _ hag =>
  ⟨_, Cert.Mlp1DxIdeal.Value.run_out m ρ, (θ_run Cert.Mlp1DxRefIdeal.defs _ _).mono (fun r h c => by
    obtain ⟨h0, h1, h2⟩ := hag c
    have e := h c
    rw [h0, h1, h2] at e ⊢
    exact e) (Cert.Mlp1DxRefIdeal.Value.run_out m' ρ')⟩

theorem frame_ProjOutDx : Cert.quiescent_ProjOutDxRefIdeal := fun m ρ _ =>
  (θ_run Cert.ProjOutDxRefIdeal.defs _ _).mono (fun r h => ⟨fun c => (h c).2, sem_eq_zero_of_no_sems (by decide) r.2⟩)
    (Cert.ProjOutDxRefIdeal.Value.run (F := Ideal) m ρ)
theorem agree_ProjOutDx : Cert.algebraic_ProjOutDxIdeal_ProjOutDxRefIdeal := fun m ρ m' ρ' _ hag =>
  ⟨_, Cert.ProjOutDxIdeal.Value.run_out m ρ, (θ_run Cert.ProjOutDxRefIdeal.defs _ _).mono (fun r h c => by
    obtain ⟨h0, h1, h2⟩ := hag c
    have e := h c
    rw [h0, h1, h2] at e ⊢
    exact e) (Cert.ProjOutDxRefIdeal.Value.run_out m' ρ')⟩

theorem frame_ProjOutDw : Cert.quiescent_ProjOutDwRefIdeal := fun m ρ _ =>
  (θ_run Cert.ProjOutDwRefIdeal.defs _ _).mono (fun r h => ⟨fun c => (h c).2, sem_eq_zero_of_no_sems (by decide) r.2⟩)
    (Cert.ProjOutDwRefIdeal.Value.run (F := Ideal) m ρ)
theorem agree_ProjOutDw : Cert.algebraic_ProjOutDwIdeal_ProjOutDwRefIdeal := fun m ρ m' ρ' _ hag =>
  ⟨_, Cert.ProjOutDwIdeal.Value.run_out m ρ, (θ_run Cert.ProjOutDwRefIdeal.defs _ _).mono (fun r h c => by
    obtain ⟨h0, h1, h2⟩ := hag c
    have e := h c
    rw [h0, h1, h2] at e ⊢
    exact e) (Cert.ProjOutDwRefIdeal.Value.run_out m' ρ')⟩

theorem frame_ProjInDw : Cert.quiescent_ProjInDwRefIdeal := fun m ρ _ =>
  (θ_run Cert.ProjInDwRefIdeal.defs _ _).mono (fun r h => ⟨fun c => (h c).2, sem_eq_zero_of_no_sems (by decide) r.2⟩)
    (Cert.ProjInDwRefIdeal.Value.run (F := Ideal) m ρ)
theorem agree_ProjInDw : Cert.algebraic_ProjInDwIdeal_ProjInDwRefIdeal := fun m ρ m' ρ' _ hag =>
  ⟨_, Cert.ProjInDwIdeal.Value.run_out m ρ, (θ_run Cert.ProjInDwRefIdeal.defs _ _).mono (fun r h c => by
    obtain ⟨h0, h1, h2⟩ := hag c
    have e := h c
    rw [h0, h1, h2] at e ⊢
    exact e) (Cert.ProjInDwRefIdeal.Value.run_out m' ρ')⟩

theorem frame_ProjInDx : Cert.quiescent_ProjInDxRefIdeal := fun m ρ _ =>
  (θ_run Cert.ProjInDxRefIdeal.defs _ _).mono (fun r h => ⟨fun c => (h c).2, sem_eq_zero_of_no_sems (by decide) r.2⟩)
    (Cert.ProjInDxRefIdeal.Value.run (F := Ideal) m ρ)
theorem agree_ProjInDx : Cert.algebraic_ProjInDxIdeal_ProjInDxRefIdeal := fun m ρ m' ρ' _ hag =>
  ⟨_, Cert.ProjInDxIdeal.Value.run_out m ρ, (θ_run Cert.ProjInDxRefIdeal.defs _ _).mono (fun r h c => by
    obtain ⟨h0, h1, h2⟩ := hag c
    have e := h c
    rw [h0, h1, h2] at e ⊢
    exact e) (Cert.ProjInDxRefIdeal.Value.run_out m' ρ')⟩

theorem frame_GateBwd : Cert.quiescent_GateBwdRefIdeal := fun m ρ _ =>
  (θ_run Cert.GateBwdRefIdeal.defs _ _).mono (fun r h => ⟨fun c => (h c).2.2, sem_eq_zero_of_no_sems (by decide) r.2⟩)
    (Cert.GateBwdRefIdeal.Value.run (F := Ideal) m ρ)
theorem agree_GateBwd : Cert.algebraic_GateBwdIdeal_GateBwdRefIdeal := fun m ρ m' ρ' _ hag =>
  ⟨_, _, Cert.GateBwdIdeal.Value.run_out m ρ, (θ_run Cert.GateBwdRefIdeal.defs _ _).mono (fun r h c => by
    obtain ⟨h0, h1, h2⟩ := hag c
    have e := h c
    rw [h0, h1, h2] at e ⊢
    exact e) (Cert.GateBwdRefIdeal.Value.run_out m' ρ')⟩

theorem frame_ProjIn : Cert.quiescent_ProjInRefIdeal := fun m ρ _ =>
  (θ_run Cert.ProjInRefIdeal.defs _ _).mono (fun r h => ⟨fun c => (h c).2, sem_eq_zero_of_no_sems (by decide) r.2⟩)
    (Cert.ProjInRefIdeal.Value.run (F := Ideal) m ρ)
theorem agree_ProjIn : Cert.algebraic_ProjInIdeal_ProjInRefIdeal := fun m ρ m' ρ' _ hag =>
  ⟨_, Cert.ProjInIdeal.Value.run_out m ρ, (θ_run Cert.ProjInRefIdeal.defs _ _).mono (fun r h c => by
    obtain ⟨h0, h1⟩ := hag c
    have e := h c
    rw [h0, h1] at e ⊢
    exact e) (Cert.ProjInRefIdeal.Value.run_out m' ρ')⟩

theorem frame_ProjOut : Cert.quiescent_ProjOutRefIdeal := fun m ρ _ =>
  (θ_run Cert.ProjOutRefIdeal.defs _ _).mono (fun r h => ⟨fun c => (h c).2.2, sem_eq_zero_of_no_sems (by decide) r.2⟩)
    (Cert.ProjOutRefIdeal.Value.run (F := Ideal) m ρ)
theorem agree_ProjOut : Cert.algebraic_ProjOutIdeal_ProjOutRefIdeal := fun m ρ m' ρ' _ hag =>
  ⟨_, _, Cert.ProjOutIdeal.Value.run_out m ρ, (θ_run Cert.ProjOutRefIdeal.defs _ _).mono (fun r h c => by
    obtain ⟨h0, h1, h2, h3⟩ := hag c
    have e := h c
    rw [h0, h1, h2, h3] at e ⊢
    exact e) (Cert.ProjOutRefIdeal.Value.run_out m' ρ')⟩

theorem frame_Mlp1 : Cert.quiescent_Mlp1RefIdeal := fun m ρ _ =>
  (θ_run Cert.Mlp1RefIdeal.defs _ _).mono (fun r h => ⟨fun c => (h c).2, sem_eq_zero_of_no_sems (by decide) r.2⟩)
    (Cert.Mlp1RefIdeal.Value.run (F := Ideal) m ρ)
theorem agree_Mlp1 : Cert.algebraic_Mlp1Ideal_Mlp1RefIdeal := fun m ρ m' ρ' _ hag =>
  ⟨_, Cert.Mlp1Ideal.Value.run_out m ρ, (θ_run Cert.Mlp1RefIdeal.defs _ _).mono (fun r h c => by
    obtain ⟨h0, h1⟩ := hag c
    have e := h c
    rw [h0, h1] at e ⊢
    exact e) (Cert.Mlp1RefIdeal.Value.run_out m' ρ')⟩

theorem frame_Mlp2 : Cert.quiescent_Mlp2RefIdeal := fun m ρ _ =>
  (θ_run Cert.Mlp2RefIdeal.defs _ _).mono (fun r h => ⟨fun c => (h c).2.2, sem_eq_zero_of_no_sems (by decide) r.2⟩)
    (Cert.Mlp2RefIdeal.Value.run (F := Ideal) m ρ)
theorem agree_Mlp2 : Cert.algebraic_Mlp2Ideal_Mlp2RefIdeal := fun m ρ m' ρ' _ hag =>
  ⟨_, _, Cert.Mlp2Ideal.Value.run_out m ρ, (θ_run Cert.Mlp2RefIdeal.defs _ _).mono (fun r h c => by
    obtain ⟨h0, h1, h2, h3⟩ := hag c
    have e := h c
    rw [h0, h1, h2, h3] at e ⊢
    exact e) (Cert.Mlp2RefIdeal.Value.run_out m' ρ')⟩

theorem frame_LnFwd : Cert.quiescent_LnFwdRefIdeal := fun m ρ _ =>
  (θ_run Cert.LnFwdRefIdeal.defs _ _).mono (fun r h => ⟨fun c => (h c).2, sem_eq_zero_of_no_sems (by decide) r.2⟩)
    (Cert.LnFwdRefIdeal.Value.run (F := Ideal) m ρ)
theorem agree_LnFwd : Cert.algebraic_LnFwdIdeal_LnFwdRefIdeal := fun m ρ m' ρ' _ hag =>
  ⟨_, Cert.LnFwdIdeal.Value.run_out m ρ, (θ_run Cert.LnFwdRefIdeal.defs _ _).mono (fun r h c => by
    obtain ⟨h0, h1, h2, h3⟩ := hag c
    have e := h c
    rw [h0, h1, h2, h3] at e ⊢
    exact e) (Cert.LnFwdRefIdeal.Value.run_out m' ρ')⟩

theorem frame_LnBwd : Cert.quiescent_LnBwdRefIdeal := fun m ρ _ =>
  (θ_run Cert.LnBwdRefIdeal.defs _ _).mono (fun r h => ⟨fun c => (h c).2.2.2.2, sem_eq_zero_of_no_sems (by decide) r.2⟩)
    (Cert.LnBwdRefIdeal.Value.run (F := Ideal) m ρ)
theorem agree_LnBwd : Cert.algebraic_LnBwdIdeal_LnBwdRefIdeal := fun m ρ m' ρ' _ hag =>
  ⟨_, _, _, _, Cert.LnBwdIdeal.Value.run_out m ρ, (θ_run Cert.LnBwdRefIdeal.defs _ _).mono (fun r h c => by
    obtain ⟨h0, h1, h2, h3, h4⟩ := hag c
    have e := h c
    rw [h0, h1, h2, h3, h4] at e ⊢
    exact e) (Cert.LnBwdRefIdeal.Value.run_out m' ρ')⟩

theorem frame_ConvBwd : Cert.quiescent_ConvBwdRefIdeal := fun m ρ _ =>
  (θ_run Cert.ConvBwdRefIdeal.defs _ _).mono (fun r h => ⟨fun c => (h c).2.2.2, sem_eq_zero_of_no_sems (by decide) r.2⟩)
    (Cert.ConvBwdRefIdeal.Value.run (F := Ideal) m ρ)
theorem agree_ConvBwd : Cert.algebraic_ConvBwdIdeal_ConvBwdRefIdeal_pre_finite_conv := fun m ρ m' ρ' H hag =>
  ⟨_, _, _, Cert.ConvBwdIdeal.Value.run_out m ρ, (θ_run Cert.ConvBwdRefIdeal.defs _ _).mono (fun r h c => by
    obtain ⟨h0, h1, h2, h3⟩ := hag c
    have e := h c
    rw [h0, h1, h2, h3] at e ⊢
    exact e) (Cert.ConvBwdRefIdeal.Value.run_out m' (fun c => by
    obtain ⟨h0, h1, h2, h3⟩ := hag c
    rw [h1]
    exact Cert.Pre_finite_conv.read _ _ _ _ (H c)) ρ')⟩

theorem frame_GmlpFwd : Cert.quiescent_GmlpFwdRefIdeal := fun m ρ _ =>
  (θ_run Cert.GmlpFwdRefIdeal.defs _ _).mono (fun r h => ⟨fun c => (h c).2, sem_eq_zero_of_no_sems (by decide) r.2⟩)
    (Cert.GmlpFwdRefIdeal.Value.run (F := Ideal) m ρ)
theorem agree_GmlpFwd : Cert.algebraic_GmlpFwdIdeal_GmlpFwdRefIdeal := fun m ρ m' ρ' _ hag =>
  ⟨_, Cert.GmlpFwdIdeal.Value.run_out m ρ, (θ_run Cert.GmlpFwdRefIdeal.defs _ _).mono (fun r h c => by
    obtain ⟨h0, h1, h2, h3, h4, h5⟩ := hag c
    have e := h c
    rw [h0, h1, h2, h3, h4, h5] at e ⊢
    exact e) (Cert.GmlpFwdRefIdeal.Value.run_out m' ρ')⟩

theorem frame_ConvFwd : Cert.quiescent_ConvFwdRefIdeal := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)
theorem agree_ConvFwd : Cert.algebraic_ConvFwdIdeal_ConvFwdRefIdeal := fun m ρ m' ρ' _ hag =>
  ⟨_, Cert.ConvFwdIdeal.Value.run_out m ρ, (θ_run Cert.ConvFwdRefIdeal.defs _ _).mono (fun r h c => by
    obtain ⟨h0, h1, h2⟩ := hag c
    have e := h c
    rw [h0, h1, h2] at e ⊢
    exact e) (Cert.ConvFwdRefIdeal.Value.run_out m' ρ')⟩

theorem frame_AttnFwd : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)
theorem agree_AttnFwd : Cert.algebraic_AttnFwdIdeal_AttnFwdRefIdeal := fun m ρ m' ρ' _ hag =>
  ⟨_, Cert.AttnFwdIdeal.Value.run_out m ρ, (θ_run Cert.AttnFwdRefIdeal.defs _ _).mono (fun r h c => by
    obtain ⟨h0, h1, h2⟩ := hag c
    have e := h c
    rw [h0, h1, h2] at e ⊢
    exact e) (Cert.AttnFwdRefIdeal.Value.run_out m' ρ')⟩

theorem frame_AdaMod : Cert.quiescent_AdaModRefIdeal := fun m ρ _ =>
  (θ_run Cert.AdaModRefIdeal.defs _ _).mono (fun r h => ⟨fun c => (h c).2, sem_eq_zero_of_no_sems (by decide) r.2⟩)
    (Cert.AdaModRefIdeal.Value.run (F := Ideal) m ρ)
theorem agree_AdaMod : Cert.algebraic_AdaModIdeal_AdaModRefIdeal := fun m ρ m' ρ' _ hag =>
  ⟨_, Cert.AdaModIdeal.Value.run_out m ρ, (θ_run Cert.AdaModRefIdeal.defs _ _).mono (fun r h c => by
    obtain ⟨h0, h1, h2⟩ := hag c
    have e := h c
    rw [h0, h1, h2] at e ⊢
    exact e) (Cert.AdaModRefIdeal.Value.run_out m' ρ')⟩

theorem frame_AdaDw : Cert.quiescent_AdaDwRefIdeal := fun m ρ _ =>
  (θ_run Cert.AdaDwRefIdeal.defs _ _).mono (fun r h => ⟨fun c => (h c).2, sem_eq_zero_of_no_sems (by decide) r.2⟩)
    (Cert.AdaDwRefIdeal.Value.run (F := Ideal) m ρ)
theorem agree_AdaDw : Cert.algebraic_AdaDwIdeal_AdaDwRefIdeal := fun m ρ m' ρ' _ hag =>
  ⟨_, Cert.AdaDwIdeal.Value.run_out m ρ, (θ_run Cert.AdaDwRefIdeal.defs _ _).mono (fun r h c => by
    obtain ⟨h0, h1, h2⟩ := hag c
    have e := h c
    rw [h0, h1, h2] at e ⊢
    exact e) (Cert.AdaDwRefIdeal.Value.run_out m' ρ')⟩

theorem frame_AdaDb : Cert.quiescent_AdaDbRefIdeal := fun m ρ _ =>
  (θ_run Cert.AdaDbRefIdeal.defs _ _).mono (fun r h => ⟨fun c => (h c).2, sem_eq_zero_of_no_sems (by decide) r.2⟩)
    (Cert.AdaDbRefIdeal.Value.run (F := Ideal) m ρ)
theorem agree_AdaDb : Cert.algebraic_AdaDbIdeal_AdaDbRefIdeal := fun m ρ m' ρ' _ hag =>
  ⟨_, Cert.AdaDbIdeal.Value.run_out m ρ, (θ_run Cert.AdaDbRefIdeal.defs _ _).mono (fun r h c => by
    have h0 := hag c
    have e := h c
    rw [h0] at e ⊢
    exact e) (Cert.AdaDbRefIdeal.Value.run_out m' ρ')⟩

theorem frame_AdamAda : Cert.quiescent_AdamAdaRefIdeal := fun m ρ _ =>
  (θ_run Cert.AdamAdaRefIdeal.defs _ _).mono (fun r h => ⟨fun c => (h c).2.2.2, sem_eq_zero_of_no_sems (by decide) r.2⟩)
    (Cert.AdamAdaRefIdeal.Value.run (F := Ideal) m ρ)
theorem agree_AdamAda : Cert.algebraic_AdamAdaIdeal_AdamAdaRefIdeal := fun m ρ m' ρ' _ hag =>
  ⟨_, _, _, Cert.AdamAdaIdeal.Value.run_out m ρ, (θ_run Cert.AdamAdaRefIdeal.defs _ _).mono (fun r h c => by
    obtain ⟨h0, h1, h2, h3⟩ := hag c
    have e := h c
    rw [h0, h1, h2, h3] at e ⊢
    exact e) (Cert.AdamAdaRefIdeal.Value.run_out m' ρ')⟩

theorem frame_AdamIn : Cert.quiescent_AdamInRefIdeal := fun m ρ _ =>
  (θ_run Cert.AdamInRefIdeal.defs _ _).mono (fun r h => ⟨fun c => (h c).2.2.2, sem_eq_zero_of_no_sems (by decide) r.2⟩)
    (Cert.AdamInRefIdeal.Value.run (F := Ideal) m ρ)
theorem agree_AdamIn : Cert.algebraic_AdamInIdeal_AdamInRefIdeal := fun m ρ m' ρ' _ hag =>
  ⟨_, _, _, Cert.AdamInIdeal.Value.run_out m ρ, (θ_run Cert.AdamInRefIdeal.defs _ _).mono (fun r h c => by
    obtain ⟨h0, h1, h2, h3⟩ := hag c
    have e := h c
    rw [h0, h1, h2, h3] at e ⊢
    exact e) (Cert.AdamInRefIdeal.Value.run_out m' ρ')⟩

theorem frame_LossHead : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)
theorem agree_LossHead : Cert.algebraic_LossHeadIdeal_LossHeadRefIdeal := fun m ρ m' ρ' _ hag =>
  ⟨_, _, _, Cert.LossHeadIdeal.Value.run_out m ρ, (θ_run Cert.LossHeadRefIdeal.defs _ _).mono (fun r h c => by
    obtain ⟨h0, h1, h2⟩ := hag c
    have e := h c
    rw [h0, h1, h2] at e ⊢
    exact e) (Cert.LossHeadRefIdeal.Value.run_out m' ρ')⟩

theorem frame_AdamMlp : Cert.quiescent_AdamMlpRefIdeal := fun m ρ _ =>
  (θ_run Cert.AdamMlpRefIdeal.defs _ _).mono (fun r h => ⟨fun c => (h c).2.2.2.2, sem_eq_zero_of_no_sems (by decide) r.2⟩)
    (Cert.AdamMlpRefIdeal.Value.run (F := Ideal) m ρ)
theorem agree_AdamMlp : Cert.algebraic_AdamMlpIdeal_AdamMlpRefIdeal := fun m ρ m' ρ' _ hag =>
  ⟨_, _, _, _, Cert.AdamMlpIdeal.Value.run_out m ρ, (θ_run Cert.AdamMlpRefIdeal.defs _ _).mono (fun r h c => by
    obtain ⟨h0, h1, h2, h3, h4, h5, h6, h7⟩ := hag c
    have e := h c
    rw [h0, h1, h2, h3, h4, h5, h6, h7] at e ⊢
    exact e) (Cert.AdamMlpRefIdeal.Value.run_out m' ρ')⟩

theorem frame_AdamOut : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)
theorem agree_AdamOut : Cert.algebraic_AdamOutIdeal_AdamOutRefIdeal := fun m ρ m' ρ' _ hag =>
  ⟨_, _, _, _, Cert.AdamOutIdeal.Value.run_out m ρ, (θ_run Cert.AdamOutRefIdeal.defs _ _).mono (fun r h c => by
    obtain ⟨h0, h1, h2, h3, h4, h5, h6, h7⟩ := hag c
    have e := h c
    rw [h0, h1, h2, h3, h4, h5, h6, h7] at e ⊢
    exact e) (Cert.AdamOutRefIdeal.Value.run_out m' ρ')⟩

theorem frame_AdamSmall : Cert.quiescent_AdamSmallRefIdeal := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)
theorem agree_AdamSmall : Cert.algebraic_AdamSmallIdeal_AdamSmallRefIdeal := fun m ρ m' ρ' _ hag =>
  ⟨_, _, _, Cert.AdamSmallIdeal.Value.run_out m ρ, (θ_run Cert.AdamSmallRefIdeal.defs _ _).mono (fun r h c => by
    obtain ⟨h0, h1, h2, h3⟩ := hag c
    have e := h c
    rw [h0, h1, h2, h3] at e ⊢
    exact e) (Cert.AdamSmallRefIdeal.Value.run_out m' ρ')⟩

theorem frame_SumSmall : Cert.quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)
theorem agree_SumSmall : Cert.algebraic_SumSmallIdeal_SumSmallRefIdeal := fun m ρ m' ρ' _ hag =>
  ⟨_, Cert.SumSmallIdeal.Value.run_out m ρ, (θ_run Cert.SumSmallRefIdeal.defs _ _).mono (fun r h c => by
    have h0 := hag c
    have e := h c
    rw [h0] at e ⊢
    exact e) (Cert.SumSmallRefIdeal.Value.run_out m' ρ')⟩

theorem frame_AdamMlpTop : Cert.quiescent_AdamMlpTopRefIdeal := fun m ρ _ =>
  (θ_run Cert.AdamMlpTopRefIdeal.defs _ _).mono (fun r h => ⟨fun c => (h c).2.2.2.2, sem_eq_zero_of_no_sems (by decide) r.2⟩)
    (Cert.AdamMlpTopRefIdeal.Value.run (F := Ideal) m ρ)
theorem agree_AdamMlpTop : Cert.algebraic_AdamMlpTopIdeal_AdamMlpTopRefIdeal := fun m ρ m' ρ' _ hag =>
  ⟨_, _, _, _, Cert.AdamMlpTopIdeal.Value.run_out m ρ, (θ_run Cert.AdamMlpTopRefIdeal.defs _ _).mono (fun r h c => by
    obtain ⟨h0, h1, h2, h3⟩ := hag c
    have e := h c
    rw [h0, h1, h2, h3] at e ⊢
    exact e) (Cert.AdamMlpTopRefIdeal.Value.run_out m' ρ')⟩

theorem frame_AdamOutTop : Cert.quiescent_AdamOutTopRefIdeal := fun m ρ _ =>
  (θ_run Cert.AdamOutTopRefIdeal.defs _ _).mono (fun r h => ⟨fun c => (h c).2.2.2.2, sem_eq_zero_of_no_sems (by decide) r.2⟩)
    (Cert.AdamOutTopRefIdeal.Value.run (F := Ideal) m ρ)
theorem agree_AdamOutTop : Cert.algebraic_AdamOutTopIdeal_AdamOutTopRefIdeal := fun m ρ m' ρ' _ hag =>
  ⟨_, _, _, _, Cert.AdamOutTopIdeal.Value.run_out m ρ, (θ_run Cert.AdamOutTopRefIdeal.defs _ _).mono (fun r h c => by
    obtain ⟨h0, h1, h2, h3⟩ := hag c
    have e := h c
    rw [h0, h1, h2, h3] at e ⊢
    exact e) (Cert.AdamOutTopRefIdeal.Value.run_out m' ρ')⟩

/-- The mask's name stands for minus infinity. -/
theorem preserves_AttnFwd : Cert.preserves_AttnFwd_AttnFwdIdeal :=
  IdealRules.named_const.statement Cert.AttnFwdIdeal.κ "mask" .f32 0xF149F2CA#32 ⊥ rfl

/-- Everything claimed. -/
theorem claim : Cert.Claim := ⟨Cert.Kernel.Gen.facts, Cert.KernelIdeal.Gen.facts, Cert.ReferenceIdeal.Gen.facts,
  Cert.Mlp2Dx.Gen.facts, Cert.Mlp2DxIdeal.Gen.facts, Cert.Mlp2DxRefIdeal.Gen.facts,
  Cert.Mlp2Dw.Gen.facts, Cert.Mlp2DwIdeal.Gen.facts, Cert.Mlp2DwRefIdeal.Gen.facts,
  Cert.Mlp1Dw.Gen.facts, Cert.Mlp1DwIdeal.Gen.facts, Cert.Mlp1DwRefIdeal.Gen.facts,
  Cert.Mlp1Dx.Gen.facts, Cert.Mlp1DxIdeal.Gen.facts, Cert.Mlp1DxRefIdeal.Gen.facts,
  Cert.ProjOutDx.Gen.facts, Cert.ProjOutDxIdeal.Gen.facts, Cert.ProjOutDxRefIdeal.Gen.facts,
  Cert.ProjOutDw.Gen.facts, Cert.ProjOutDwIdeal.Gen.facts, Cert.ProjOutDwRefIdeal.Gen.facts,
  Cert.ProjInDw.Gen.facts, Cert.ProjInDwIdeal.Gen.facts, Cert.ProjInDwRefIdeal.Gen.facts,
  Cert.ProjInDx.Gen.facts, Cert.ProjInDxIdeal.Gen.facts, Cert.ProjInDxRefIdeal.Gen.facts,
  Cert.GateBwd.Gen.facts, Cert.GateBwdIdeal.Gen.facts, Cert.GateBwdRefIdeal.Gen.facts,
  Cert.ProjIn.Gen.facts, Cert.ProjInIdeal.Gen.facts, Cert.ProjInRefIdeal.Gen.facts,
  Cert.ProjOut.Gen.facts, Cert.ProjOutIdeal.Gen.facts, Cert.ProjOutRefIdeal.Gen.facts,
  Cert.Mlp1.Gen.facts, Cert.Mlp1Ideal.Gen.facts, Cert.Mlp1RefIdeal.Gen.facts,
  Cert.Mlp2.Gen.facts, Cert.Mlp2Ideal.Gen.facts, Cert.Mlp2RefIdeal.Gen.facts,
  Cert.LnFwd.Gen.facts, Cert.LnFwdIdeal.Gen.facts, Cert.LnFwdRefIdeal.Gen.facts,
  Cert.LnBwd.Gen.facts, Cert.LnBwdIdeal.Gen.facts, Cert.LnBwdRefIdeal.Gen.facts,
  Cert.ConvBwd.Gen.facts, Cert.ConvBwdIdeal.Gen.facts, Cert.ConvBwdRefIdeal.Gen.facts,
  Cert.GmlpFwd.Gen.facts, Cert.GmlpFwdIdeal.Gen.facts, Cert.GmlpFwdRefIdeal.Gen.facts,
  Cert.ConvFwd.Gen.facts, Cert.ConvFwdIdeal.Gen.facts, Cert.ConvFwdRefIdeal.Gen.facts,
  Cert.AttnFwd.Gen.facts, Cert.AttnFwdIdeal.Gen.facts, Cert.AttnFwdRefIdeal.Gen.facts,
  Cert.AdaMod.Gen.facts, Cert.AdaModIdeal.Gen.facts, Cert.AdaModRefIdeal.Gen.facts,
  Cert.AdaDw.Gen.facts, Cert.AdaDwIdeal.Gen.facts, Cert.AdaDwRefIdeal.Gen.facts,
  Cert.AdaDb.Gen.facts, Cert.AdaDbIdeal.Gen.facts, Cert.AdaDbRefIdeal.Gen.facts,
  Cert.AdamAda.Gen.facts, Cert.AdamAdaIdeal.Gen.facts, Cert.AdamAdaRefIdeal.Gen.facts,
  Cert.AdamIn.Gen.facts, Cert.AdamInIdeal.Gen.facts, Cert.AdamInRefIdeal.Gen.facts,
  Cert.LossHead.Gen.facts, Cert.LossHeadIdeal.Gen.facts, Cert.LossHeadRefIdeal.Gen.facts,
  Cert.AdamMlp.Gen.facts, Cert.AdamMlpIdeal.Gen.facts, Cert.AdamMlpRefIdeal.Gen.facts,
  Cert.AdamOut.Gen.facts, Cert.AdamOutIdeal.Gen.facts, Cert.AdamOutRefIdeal.Gen.facts,
  Cert.AdamSmall.Gen.facts, Cert.AdamSmallIdeal.Gen.facts, Cert.AdamSmallRefIdeal.Gen.facts,
  Cert.SumSmall.Gen.facts, Cert.SumSmallIdeal.Gen.facts, Cert.SumSmallRefIdeal.Gen.facts,
  Cert.AdamMlpTop.Gen.facts, Cert.AdamMlpTopIdeal.Gen.facts, Cert.AdamMlpTopRefIdeal.Gen.facts,
  Cert.AdamOutTop.Gen.facts, Cert.AdamOutTopIdeal.Gen.facts, Cert.AdamOutTopRefIdeal.Gen.facts, Cert.Pre_finite_conv.facts,
  fun m ρ _ => Cert.Kernel.Gen.frame m ρ, fun m ρ _ => Cert.KernelIdeal.Gen.frame m ρ, frame_reference,
  fun m ρ _ => Cert.Mlp2Dx.Gen.frame m ρ, fun m ρ _ => Cert.Mlp2DxIdeal.Gen.frame m ρ, frame_Mlp2Dx,
  fun m ρ _ => Cert.Mlp2Dw.Gen.frame m ρ, fun m ρ _ => Cert.Mlp2DwIdeal.Gen.frame m ρ, frame_Mlp2Dw,
  fun m ρ _ => Cert.Mlp1Dw.Gen.frame m ρ, fun m ρ _ => Cert.Mlp1DwIdeal.Gen.frame m ρ, frame_Mlp1Dw,
  fun m ρ _ => Cert.Mlp1Dx.Gen.frame m ρ, fun m ρ _ => Cert.Mlp1DxIdeal.Gen.frame m ρ, frame_Mlp1Dx,
  fun m ρ _ => Cert.ProjOutDx.Gen.frame m ρ, fun m ρ _ => Cert.ProjOutDxIdeal.Gen.frame m ρ, frame_ProjOutDx,
  fun m ρ _ => Cert.ProjOutDw.Gen.frame m ρ, fun m ρ _ => Cert.ProjOutDwIdeal.Gen.frame m ρ, frame_ProjOutDw,
  fun m ρ _ => Cert.ProjInDw.Gen.frame m ρ, fun m ρ _ => Cert.ProjInDwIdeal.Gen.frame m ρ, frame_ProjInDw,
  fun m ρ _ => Cert.ProjInDx.Gen.frame m ρ, fun m ρ _ => Cert.ProjInDxIdeal.Gen.frame m ρ, frame_ProjInDx,
  fun m ρ _ => Cert.GateBwd.Gen.frame m ρ, fun m ρ _ => Cert.GateBwdIdeal.Gen.frame m ρ, frame_GateBwd,
  fun m ρ _ => Cert.ProjIn.Gen.frame m ρ, fun m ρ _ => Cert.ProjInIdeal.Gen.frame m ρ, frame_ProjIn,
  fun m ρ _ => Cert.ProjOut.Gen.frame m ρ, fun m ρ _ => Cert.ProjOutIdeal.Gen.frame m ρ, frame_ProjOut,
  fun m ρ _ => Cert.Mlp1.Gen.frame m ρ, fun m ρ _ => Cert.Mlp1Ideal.Gen.frame m ρ, frame_Mlp1,
  fun m ρ _ => Cert.Mlp2.Gen.frame m ρ, fun m ρ _ => Cert.Mlp2Ideal.Gen.frame m ρ, frame_Mlp2,
  fun m ρ _ => Cert.LnFwd.Gen.frame m ρ, fun m ρ _ => Cert.LnFwdIdeal.Gen.frame m ρ, frame_LnFwd,
  fun m ρ _ => Cert.LnBwd.Gen.frame m ρ, fun m ρ _ => Cert.LnBwdIdeal.Gen.frame m ρ, frame_LnBwd,
  fun m ρ _ => Cert.ConvBwd.Gen.frame m ρ, fun m ρ _ => Cert.ConvBwdIdeal.Gen.frame m ρ, fun m ρ _ => Cert.ConvBwdIdeal.Gen.frame m ρ, frame_ConvBwd, fun m ρ _ => frame_ConvBwd m ρ trivial,
  fun m ρ _ => Cert.GmlpFwd.Gen.frame m ρ, fun m ρ _ => Cert.GmlpFwdIdeal.Gen.frame m ρ, frame_GmlpFwd,
  fun m ρ _ => Cert.ConvFwd.Gen.frame m ρ, fun m ρ _ => Cert.ConvFwdIdeal.Gen.frame m ρ, frame_ConvFwd,
  fun m ρ _ => Cert.AttnFwd.Gen.frame m ρ, fun m ρ _ => Cert.AttnFwdIdeal.Gen.frame m ρ, frame_AttnFwd,
  fun m ρ _ => Cert.AdaMod.Gen.frame m ρ, fun m ρ _ => Cert.AdaModIdeal.Gen.frame m ρ, frame_AdaMod,
  fun m ρ _ => Cert.AdaDw.Gen.frame m ρ, fun m ρ _ => Cert.AdaDwIdeal.Gen.frame m ρ, frame_AdaDw,
  fun m ρ _ => Cert.AdaDb.Gen.frame m ρ, fun m ρ _ => Cert.AdaDbIdeal.Gen.frame m ρ, frame_AdaDb,
  fun m ρ _ => Cert.AdamAda.Gen.frame m ρ, fun m ρ _ => Cert.AdamAdaIdeal.Gen.frame m ρ, frame_AdamAda,
  fun m ρ _ => Cert.AdamIn.Gen.frame m ρ, fun m ρ _ => Cert.AdamInIdeal.Gen.frame m ρ, frame_AdamIn,
  fun m ρ _ => Cert.LossHead.Gen.frame m ρ, fun m ρ _ => Cert.LossHeadIdeal.Gen.frame m ρ, frame_LossHead,
  fun m ρ _ => Cert.AdamMlp.Gen.frame m ρ, fun m ρ _ => Cert.AdamMlpIdeal.Gen.frame m ρ, frame_AdamMlp,
  fun m ρ _ => Cert.AdamOut.Gen.frame m ρ, fun m ρ _ => Cert.AdamOutIdeal.Gen.frame m ρ, frame_AdamOut,
  fun m ρ _ => Cert.AdamSmall.Gen.frame m ρ, fun m ρ _ => Cert.AdamSmallIdeal.Gen.frame m ρ, frame_AdamSmall,
  fun m ρ _ => Cert.SumSmall.Gen.frame m ρ, fun m ρ _ => Cert.SumSmallIdeal.Gen.frame m ρ, frame_SumSmall,
  fun m ρ _ => Cert.AdamMlpTop.Gen.frame m ρ, fun m ρ _ => Cert.AdamMlpTopIdeal.Gen.frame m ρ, frame_AdamMlpTop,
  fun m ρ _ => Cert.AdamOutTop.Gen.frame m ρ, fun m ρ _ => Cert.AdamOutTopIdeal.Gen.frame m ρ, frame_AdamOutTop,
  trivial, agree, trivial, agree_Mlp2Dx, trivial, agree_Mlp2Dw, trivial, agree_Mlp1Dw, trivial, agree_Mlp1Dx, trivial, agree_ProjOutDx, trivial, agree_ProjOutDw, trivial, agree_ProjInDw, trivial, agree_ProjInDx, trivial, agree_GateBwd, trivial, agree_ProjIn, trivial, agree_ProjOut, trivial, agree_Mlp1, trivial, agree_Mlp2, trivial, agree_LnFwd, trivial, agree_LnBwd, trivial, agree_ConvBwd, trivial, agree_GmlpFwd, trivial, agree_ConvFwd, preserves_AttnFwd, agree_AttnFwd, trivial, agree_AdaMod, trivial, agree_AdaDw, trivial, agree_AdaDb, trivial, agree_AdamAda, trivial, agree_AdamIn, trivial, agree_LossHead, trivial, agree_AdamMlp, trivial, agree_AdamOut, trivial, agree_AdamSmall, trivial, agree_SumSmall, trivial, agree_AdamMlpTop, trivial, agree_AdamOutTop⟩

end Cert.Proof

end
